-- ==== Defs.lean ====
def Pre_Kernel [hPre_ranges : Cert.Pre_ranges.Facts] (m : (ℓ : Loc Cert.Kernel.nD Cert.Kernel.τ Cert.Kernel.sig) → Buf (Elt Bits) ℓ) : Prop :=
  ∀ c : Dev Cert.Kernel.nD,
    (Cert.Pre_ranges.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_permutation [hPre_permutation : Cert.Pre_permutation.Facts] (m : (ℓ : Loc Cert.Kernel.nD Cert.Kernel.τ Cert.Kernel.sig) → Buf (Elt Bits) ℓ) : Prop :=
  ∀ c : Dev Cert.Kernel.nD,
    (Cert.Pre_permutation.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_ranges : Cert.Pre_ranges.Facts] (m : (ℓ : Loc Cert.KernelIdeal.nD Cert.KernelIdeal.τ Cert.KernelIdeal.sig) → Buf (Elt Ideal) ℓ) : Prop :=
  ∀ c : Dev Cert.KernelIdeal.nD,
    (Cert.Pre_ranges.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_permutation [hPre_permutation : Cert.Pre_permutation.Facts] (m : (ℓ : Loc Cert.KernelIdeal.nD Cert.KernelIdeal.τ Cert.KernelIdeal.sig) → Buf (Elt Ideal) ℓ) : Prop :=
  ∀ c : Dev Cert.KernelIdeal.nD,
    (Cert.Pre_permutation.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_permutation [hPre_permutation : Cert.Pre_permutation.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_permutation.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_permutation : Cert.Pre_permutation.Facts] (m : (ℓ : Loc Cert.Reference.nD Cert.Reference.τ Cert.Reference.sig) → Buf (Elt Bits) ℓ) : Prop :=
  ∀ c : Dev Cert.Reference.nD,
    (Cert.Pre_permutation.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Encode (m : (ℓ : Loc Cert.Encode.nD Cert.Encode.τ Cert.Encode.sig) → Buf (Elt Bits) ℓ) : Prop :=
  True

def Pre_EncodeIdeal (m : (ℓ : Loc Cert.EncodeIdeal.nD Cert.EncodeIdeal.τ Cert.EncodeIdeal.sig) → Buf (Elt Ideal) ℓ) : Prop :=
  True

def Pre_PositionsIdeal (m : (ℓ : Loc Cert.PositionsIdeal.nD Cert.PositionsIdeal.τ Cert.PositionsIdeal.sig) → Buf (Elt Ideal) ℓ) : Prop :=
  True

def quiescent_Kernel [hKernel : Cert.Kernel.Facts] [hPre_ranges : Cert.Pre_ranges.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_permutation [hKernel : Cert.Kernel.Facts] [hPre_permutation : Cert.Pre_permutation.Facts] : Prop :=
  ∀ (m : (ℓ : Loc Cert.Kernel.nD Cert.Kernel.τ Cert.Kernel.sig) → Buf (Elt Bits) ℓ) (g : Dev Cert.Kernel.nD → PrngReg), Pre_Kernel_permutation m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_ranges : Cert.Pre_ranges.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_permutation [hKernelIdeal : Cert.KernelIdeal.Facts] [hPre_permutation : Cert.Pre_permutation.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_permutation m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_permutation [hReferenceIdeal : Cert.ReferenceIdeal.Facts] [hPre_permutation : Cert.Pre_permutation.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_permutation m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_permutation : Cert.Pre_permutation.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Encode [hEncode : Cert.Encode.Facts] : Prop :=
  ∀ (m : (ℓ : Loc Cert.Encode.nD Cert.Encode.τ Cert.Encode.sig) → Buf (Elt Bits) ℓ) (g : Dev Cert.Encode.nD → PrngReg), Pre_Encode m →
    θ_run (Cert.Encode.defs (F := Bits)) (onTc (τ := Cert.Encode.τ) (Cert.Encode.main (F := Bits))) ⟨m, fun _ => 0, g⟩ (fun r => (∀ c : Dev Cert.Encode.nD,
      r.2.mem ((c.tc : Thread Cert.Encode.nD Cert.Encode.τ).loc Cert.Encode.main_arg0) = m ((c.tc : Thread Cert.Encode.nD Cert.Encode.τ).loc Cert.Encode.main_arg0))
      ∧ r.2.sem = fun _ => 0)

def quiescent_EncodeIdeal [hEncodeIdeal : Cert.EncodeIdeal.Facts] : Prop :=
  ∀ (m : (ℓ : Loc Cert.EncodeIdeal.nD Cert.EncodeIdeal.τ Cert.EncodeIdeal.sig) → Buf (Elt Ideal) ℓ) (g : Dev Cert.EncodeIdeal.nD → PrngReg), Pre_EncodeIdeal m →
    θ_run (Cert.EncodeIdeal.defs (F := Ideal)) (onTc (τ := Cert.EncodeIdeal.τ) (Cert.EncodeIdeal.main (F := Ideal))) ⟨m, fun _ => 0, g⟩ (fun r => (∀ c : Dev Cert.EncodeIdeal.nD,
      r.2.mem ((c.tc : Thread Cert.EncodeIdeal.nD Cert.EncodeIdeal.τ).loc Cert.EncodeIdeal.main_arg0) = m ((c.tc : Thread Cert.EncodeIdeal.nD Cert.EncodeIdeal.τ).loc Cert.EncodeIdeal.main_arg0))
      ∧ r.2.sem = fun _ => 0)

def quiescent_PositionsIdeal [hPositionsIdeal : Cert.PositionsIdeal.Facts] : Prop :=
  ∀ (m : (ℓ : Loc Cert.PositionsIdeal.nD Cert.PositionsIdeal.τ Cert.PositionsIdeal.sig) → Buf (Elt Ideal) ℓ) (g : Dev Cert.PositionsIdeal.nD → PrngReg), Pre_PositionsIdeal m →
    θ_run (Cert.PositionsIdeal.defs (F := Ideal)) (onTc (τ := Cert.PositionsIdeal.τ) (Cert.PositionsIdeal.main (F := Ideal))) ⟨m, fun _ => 0, g⟩ (fun r => (∀ c : Dev Cert.PositionsIdeal.nD,
      r.2.mem ((c.tc : Thread Cert.PositionsIdeal.nD Cert.PositionsIdeal.τ).loc Cert.PositionsIdeal.main_arg0) = m ((c.tc : Thread Cert.PositionsIdeal.nD Cert.PositionsIdeal.τ).loc Cert.PositionsIdeal.main_arg0))
      ∧ r.2.sem = fun _ => 0)

def preserves_Kernel_KernelIdeal : Prop :=
  True

def algebraic_KernelIdeal_ReferenceIdeal_pre_permutation [hKernelIdeal : Cert.KernelIdeal.Facts] [hReferenceIdeal : Cert.ReferenceIdeal.Facts] [hPre_permutation : Cert.Pre_permutation.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_permutation m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_v9) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference_pre_permutation [hKernel : Cert.Kernel.Facts] [hReference : Cert.Reference.Facts] [hPre_permutation : Cert.Pre_permutation.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel_permutation m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v2)) (v1 : (c : Dev Cert.Kernel.nD) → Buf (Elt Bits) ((c.tc : Thread Cert.Kernel.nD Cert.Kernel.τ).loc Cert.Kernel.main_v3)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v2) = v0 c
          ∧ r.2.mem ((c.tc : Thread Cert.Kernel.nD Cert.Kernel.τ).loc Cert.Kernel.main_v3) = v1 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v8) = v0 c
          ∧ r.2.mem ((c.tc : Thread Cert.Reference.nD Cert.Reference.τ).loc Cert.Reference.main_v9) = v1 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def preserves_Encode_EncodeIdeal : Prop :=
  True

def algebraic_EncodeIdeal_PositionsIdeal [hEncodeIdeal : Cert.EncodeIdeal.Facts] [hPositionsIdeal : Cert.PositionsIdeal.Facts] : Prop :=
  ∀ (m : (ℓ : Loc Cert.EncodeIdeal.nD Cert.EncodeIdeal.τ Cert.EncodeIdeal.sig) → Buf (Elt Ideal) ℓ) (g : Dev Cert.EncodeIdeal.nD → PrngReg)
    (m' : (ℓ : Loc Cert.PositionsIdeal.nD Cert.PositionsIdeal.τ Cert.PositionsIdeal.sig) → Buf (Elt Ideal) ℓ) (g' : Dev Cert.PositionsIdeal.nD → PrngReg), Pre_EncodeIdeal m →
    (∀ c : Dev Cert.EncodeIdeal.nD,
      m' ((c.tc : Thread Cert.PositionsIdeal.nD Cert.PositionsIdeal.τ).loc Cert.PositionsIdeal.main_arg0) = m ((c.tc : Thread Cert.EncodeIdeal.nD Cert.EncodeIdeal.τ).loc Cert.EncodeIdeal.main_arg0)) →
    ∃ (v0 : (c : Dev Cert.EncodeIdeal.nD) → Buf (Elt Ideal) ((c.tc : Thread Cert.EncodeIdeal.nD Cert.EncodeIdeal.τ).loc Cert.EncodeIdeal.main_v2)),
      θ_run (Cert.EncodeIdeal.defs (F := Ideal)) (onTc (τ := Cert.EncodeIdeal.τ) (Cert.EncodeIdeal.main (F := Ideal))) ⟨m, fun _ => 0, g⟩ (fun r => ∀ c : Dev Cert.EncodeIdeal.nD,
          r.2.mem ((c.tc : Thread Cert.EncodeIdeal.nD Cert.EncodeIdeal.τ).loc Cert.EncodeIdeal.main_v2) = v0 c
          ∧ r.2.mem ((c.tc : Thread Cert.EncodeIdeal.nD Cert.EncodeIdeal.τ).loc Cert.EncodeIdeal.main_arg0) = m ((c.tc : Thread Cert.EncodeIdeal.nD Cert.EncodeIdeal.τ).loc Cert.EncodeIdeal.main_arg0))
      ∧ θ_run (Cert.PositionsIdeal.defs (F := Ideal)) (onTc (τ := Cert.PositionsIdeal.τ) (Cert.PositionsIdeal.main (F := Ideal))) ⟨m', fun _ => 0, g'⟩ (fun r => ∀ c : Dev Cert.PositionsIdeal.nD,
          r.2.mem ((c.tc : Thread Cert.PositionsIdeal.nD Cert.PositionsIdeal.τ).loc Cert.PositionsIdeal.main_v42) = v0 c
          ∧ r.2.mem ((c.tc : Thread Cert.PositionsIdeal.nD Cert.PositionsIdeal.τ).loc Cert.PositionsIdeal.main_arg0) = m' ((c.tc : Thread Cert.PositionsIdeal.nD Cert.PositionsIdeal.τ).loc Cert.PositionsIdeal.main_arg0))

def Claim : Prop :=
  ∃ (hKernel : Cert.Kernel.Facts) (hKernelIdeal : Cert.KernelIdeal.Facts) (hReferenceIdeal : Cert.ReferenceIdeal.Facts) (hReference : Cert.Reference.Facts) (hEncode : Cert.Encode.Facts) (hEncodeIdeal : Cert.EncodeIdeal.Facts) (hPositionsIdeal : Cert.PositionsIdeal.Facts) (hPre_ranges : Cert.Pre_ranges.Facts) (hPre_permutation : Cert.Pre_permutation.Facts),
    quiescent_Kernel (hKernel := hKernel) (hPre_ranges := hPre_ranges)
    ∧ quiescent_Kernel_pre_permutation (hKernel := hKernel) (hPre_permutation := hPre_permutation)
    ∧ quiescent_KernelIdeal (hKernelIdeal := hKernelIdeal) (hPre_ranges := hPre_ranges)
    ∧ quiescent_KernelIdeal_pre_permutation (hKernelIdeal := hKernelIdeal) (hPre_permutation := hPre_permutation)
    ∧ quiescent_ReferenceIdeal (hReferenceIdeal := hReferenceIdeal)
    ∧ quiescent_ReferenceIdeal_pre_permutation (hReferenceIdeal := hReferenceIdeal) (hPre_permutation := hPre_permutation)
    ∧ quiescent_Reference (hReference := hReference) (hPre_permutation := hPre_permutation)
    ∧ quiescent_Encode (hEncode := hEncode)
    ∧ quiescent_EncodeIdeal (hEncodeIdeal := hEncodeIdeal)
    ∧ quiescent_PositionsIdeal (hPositionsIdeal := hPositionsIdeal)
    ∧ preserves_Kernel_KernelIdeal
    ∧ algebraic_KernelIdeal_ReferenceIdeal_pre_permutation (hKernelIdeal := hKernelIdeal) (hReferenceIdeal := hReferenceIdeal) (hPre_permutation := hPre_permutation)
    ∧ bitexact_Kernel_Reference_pre_permutation (hKernel := hKernel) (hReference := hReference) (hPre_permutation := hPre_permutation)
    ∧ preserves_Encode_EncodeIdeal
    ∧ algebraic_EncodeIdeal_PositionsIdeal (hEncodeIdeal := hEncodeIdeal) (hPositionsIdeal := hPositionsIdeal)
-- ==== Pre_permutation.lean ====
abbrev S16x16384 : Shape := ⟨2, ![16, 16384]⟩
abbrev S2097152 : Shape := ⟨1, ![2097152]⟩
abbrev S_ : Shape := ⟨0, ![]⟩

class Facts : Prop where
  bcast_S_S16x16384 : S_.BroadcastsInDim S16x16384 (![] : Fin 0 → Fin S16x16384.rank)
  reducesTo_S16x16384_S_d0_1 : S16x16384.ReducesTo [0, 1] S_
  h_S_ : 0 < S_.numel
  reducesTo_S2097152_S_d0 : S2097152.ReducesTo [0] S_

variable [Facts]

def comparator_i32_d0 : BitVec 32 → BitVec 32 → BitVec 1 :=
  fun l r =>
    let v1 := IntOp.cmpi .slt l r
    v1
def fn_sort {F : FTy → Type} [FloatOps F] (arg0 : IVec S2097152 32) : IVec S2097152 32 :=
  let v0 : IVec S2097152 32 := (fun x => Host.sort S2097152 0 comparator_i32_d0 x) arg0
  v0

def fn {F : FTy → Type} [FloatOps F] (main_arg0 : IVec S16x16384 32) (main_arg1 : IVec S2097152 32) : IVec S_ 1 :=
  let main_c : IVec S_ 32 := constantI S_ 32 0#32
  let main_v0 : IVec S16x16384 32 := broadcastInDim S16x16384 ![] bcast_S_S16x16384 main_c
  let main_v1 : IVec S16x16384 1 := cmpi .sge main_arg0 main_v0
  let main_c_0 : IVec S_ 1 := constantI S_ 1 1#1
  let main_v2 : IVec S_ 1 := (fun x v => Host.reduce IntOp.andi x v reducesTo_S16x16384_S_d0_1 h_S_) main_v1 main_c_0
  let main_c_1 : IVec S_ 32 := constantI S_ 32 2097152#32
  let main_v3 : IVec S16x16384 32 := broadcastInDim S16x16384 ![] bcast_S_S16x16384 main_c_1
  let main_v4 : IVec S16x16384 1 := cmpi .slt main_arg0 main_v3
  let main_c_2 : IVec S_ 1 := constantI S_ 1 1#1
  let main_v5 : IVec S_ 1 := (fun x v => Host.reduce IntOp.andi x v reducesTo_S16x16384_S_d0_1 h_S_) main_v4 main_c_2
  let main_v6 : IVec S_ 1 := andi main_v2 main_v5
  let main_v7 : IVec S2097152 32 := fn_sort (F := F) main_arg1
  let main_v8 : IVec S2097152 32 := iotaInDim S2097152 32 0
  let main_v9 : IVec S2097152 1 := cmpi .eq main_v7 main_v8
  let main_c_3 : IVec S_ 1 := constantI S_ 1 1#1
  let main_v10 : IVec S_ 1 := (fun x v => Host.reduce IntOp.andi x v reducesTo_S2097152_S_d0 h_S_) main_v9 main_c_3
  let main_v11 : IVec S_ 1 := andi main_v6 main_v10
  main_v11
-- ==== Pre_ranges.lean ====
abbrev S16x16384 : Shape := ⟨2, ![16, 16384]⟩
abbrev S2097152 : Shape := ⟨1, ![2097152]⟩
abbrev S_ : Shape := ⟨0, ![]⟩

class Facts : Prop where
  bcast_S_S16x16384 : S_.BroadcastsInDim S16x16384 (![] : Fin 0 → Fin S16x16384.rank)
  reducesTo_S16x16384_S_d0_1 : S16x16384.ReducesTo [0, 1] S_
  h_S_ : 0 < S_.numel

variable [Facts]

def fn {F : FTy → Type} [FloatOps F] (main_arg0 : IVec S16x16384 32) (main_arg1 : IVec S2097152 32) : IVec S_ 1 :=
  let main_c : IVec S_ 32 := constantI S_ 32 0#32
  let main_v0 : IVec S16x16384 32 := broadcastInDim S16x16384 ![] bcast_S_S16x16384 main_c
  let main_v1 : IVec S16x16384 1 := cmpi .sge main_arg0 main_v0
  let main_c_0 : IVec S_ 1 := constantI S_ 1 1#1
  let main_v2 : IVec S_ 1 := (fun x v => Host.reduce IntOp.andi x v reducesTo_S16x16384_S_d0_1 h_S_) main_v1 main_c_0
  let main_c_1 : IVec S_ 32 := constantI S_ 32 2097152#32
  let main_v3 : IVec S16x16384 32 := broadcastInDim S16x16384 ![] bcast_S_S16x16384 main_c_1
  let main_v4 : IVec S16x16384 1 := cmpi .slt main_arg0 main_v3
  let main_c_2 : IVec S_ 1 := constantI S_ 1 1#1
  let main_v5 : IVec S_ 1 := (fun x v => Host.reduce IntOp.andi x v reducesTo_S16x16384_S_d0_1 h_S_) main_v4 main_c_2
  let main_v6 : IVec S_ 1 := andi main_v2 main_v5
  main_v6
-- ==== Kernel.lean ====
abbrev S16x16384 : Shape := ⟨2, ![16, 16384]⟩
abbrev S2097152 : Shape := ⟨1, ![2097152]⟩
abbrev S32x8192 : Shape := ⟨2, ![32, 8192]⟩
abbrev S8192 : Shape := ⟨1, ![8192]⟩
abbrev S8208 : Shape := ⟨1, ![8208]⟩
abbrev S2048 : Shape := ⟨1, ![2048]⟩
abbrev S16x8192 : Shape := ⟨2, ![16, 8192]⟩
abbrev S16x8208 : Shape := ⟨2, ![16, 8208]⟩
abbrev S_ : Shape := ⟨0, ![]⟩
abbrev S16 : Shape := ⟨1, ![16]⟩
abbrev S1x8192 : Shape := ⟨2, ![1, 8192]⟩
abbrev S128 : Shape := ⟨1, ![128]⟩
abbrev S1x8208 : Shape := ⟨2, ![1, 8208]⟩
abbrev S2x8x16384 : Shape := ⟨3, ![2, 8, 16384]⟩

abbrev nBuf : Table → Nat
  | .hbm => 7
  | .shared => 3
  | .local .scVector .vmem => 11
  | _ => 0

abbrev bufTy : (tb : Table) → Fin (nBuf tb) → BufTy
  | .hbm, ⟨0, _⟩ => ⟨S16x16384, .i32⟩
  | .hbm, ⟨1, _⟩ => ⟨S2097152, .i32⟩
  | .hbm, ⟨2, _⟩ => ⟨S32x8192, .i32⟩
  | .hbm, ⟨3, _⟩ => ⟨S32x8192, .i32⟩
  | .hbm, ⟨4, _⟩ => ⟨S32x8192, .i32⟩
  | .hbm, ⟨5, _⟩ => ⟨S2x8x16384, .i32⟩
  | .hbm, ⟨6, _⟩ => ⟨S2x8x16384, .i32⟩
  | .shared, ⟨0, _⟩ => ⟨S16x8192, .i32⟩
  | .shared, ⟨1, _⟩ => ⟨S16x8208, .i32⟩
  | .shared, ⟨2, _⟩ => ⟨S16x8192, .i32⟩
  | .local .scVector .vmem, ⟨0, _⟩ => ⟨S8192, .i32⟩
  | .local .scVector .vmem, ⟨1, _⟩ => ⟨S8192, .i32⟩
  | .local .scVector .vmem, ⟨2, _⟩ => ⟨S8192, .i32⟩
  | .local .scVector .vmem, ⟨3, _⟩ => ⟨S8208, .i32⟩
  | .local .scVector .vmem, ⟨4, _⟩ => ⟨S8192, .i32⟩
  | .local .scVector .vmem, ⟨5, _⟩ => ⟨S8208, .i32⟩
  | .local .scVector .vmem, ⟨6, _⟩ => ⟨S2048, .i32⟩
  | .local .scVector .vmem, ⟨7, _⟩ => ⟨S8208, .i32⟩
  | .local .scVector .vmem, ⟨8, _⟩ => ⟨S8208, .i32⟩
  | .local .scVector .vmem, ⟨9, _⟩ => ⟨S8208, .i32⟩
  | .local .scVector .vmem, ⟨10, _⟩ => ⟨S8192, .i32⟩
  | _, _ => ⟨S16x16384, .i32⟩

abbrev bufScoped : (cs : CoreSpace) → Fin (nBuf (.local .tc cs)) → Bool
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 10 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | _ => false

abbrev sig : RefSig :=
  ofTables nBuf rfl bufTy 5 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_v3 : Ref sig .tc := ⟨.hbm, 6, rfl⟩
abbrev main_v0_scv : Ref sig .scVector := ⟨.hbm, 2, rfl⟩
abbrev main_arg1_scv : Ref sig .scVector := ⟨.hbm, 1, rfl⟩
abbrev main_v1_0_scv : Ref sig .scVector := ⟨.hbm, 3, rfl⟩
abbrev main_v1_1_scv : Ref sig .scVector := ⟨.hbm, 4, rfl⟩
abbrev cc0_scratch11 : Ref sig .scVector := ⟨.shared, 0, rfl⟩
abbrev cc0_scratch12 : Ref sig .scVector := ⟨.shared, 1, rfl⟩
abbrev cc0_scratch13 : Ref sig .scVector := ⟨.shared, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc0_scratch9 : Ref sig .scVector := ⟨.vmem, 9, rfl⟩
abbrev cc0_scratch10 : Ref sig .scVector := ⟨.vmem, 10, rfl⟩
abbrev sc_start : Sem sig := 0
abbrev sc_done : Sem sig := 1
abbrev sc_go : Sem sig := 2
abbrev sc_taskDone : Sem sig := 3
abbrev sc_bar0 : Sem sig := 4

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let c8_i32 : BitVec 32 := 8#32
  let arg0 : BitVec 32 := BitVec.ofNat 32 (i 0).val
  let v2 : BitVec 32 := Scalar.muli c8_i32 arg0
  let arg1 : BitVec 32 := BitVec.ofNat 32 (i 1).val
  let c1_i32_0 : BitVec 32 := 1#32
  let v3 : BitVec 32 := Scalar.shrsi arg1 c1_i32_0
  let v4 : BitVec 32 := Scalar.addi v2 v3
  let c2_i32 : BitVec 32 := 2#32
  let v5 : BitVec 32 := Scalar.muli v4 c2_i32
  let c1_i32 : BitVec 32 := 1#32
  let v0 : BitVec 32 := Scalar.andi arg1 c1_i32
  let v6 : BitVec 32 := Scalar.addi v5 v0
  let c0_i32_162_r0 : BitVec 32 := 0#32
  ![v6.toNat, 0]

def k0_chk1 (v8 : IVec S16 32) : Prop :=
  (∀ a x, ((![v8] : Fin 1 → IVec S16 32) a x).toNat < S8208.size a)
theorem k0_idx1_inb : ∀ (v8 : IVec S16 32) (k0_hw1 : k0_chk1 v8), ∀ a x, ((![v8] : Fin 1 → IVec S16 32) a x).toNat < S8208.size a := fun v8 k0_hw1 => k0_hw1
@[reducible] def k0_t1_loop : Scf.Loop 32 :=
  let c0_i32_2 : BitVec 32 := 0#32
  let c128_i32 : BitVec 32 := 128#32
  let v12 : BitVec 32 := Scalar.addi c0_i32_2 c128_i32
  let c1_i32_3 : BitVec 32 := 1#32
  ⟨c0_i32_2, v12, c1_i32_3⟩
def k0_off2 (k0_t1 : Fin k0_t1_loop.trips) : Fin 1 → Nat :=
  let c0_i32_163 : BitVec 32 := 0#32
  let c0_i32_2 : BitVec 32 := 0#32
  let c1_i32_3 : BitVec 32 := 1#32
  let arg21 : BitVec 32 := Scf.iv c0_i32_2 c1_i32_3 k0_t1
  let c16_i32_162 : BitVec 32 := 16#32
  let v172 : BitVec 32 := Scalar.muli arg21 c16_i32_162
  let v173 : BitVec 32 := Scalar.addi c0_i32_163 v172
  let v175 : Index := Scalar.indexCast v173
  ![v175.toNat]
@[reducible] def k0_t2_loop : Scf.Loop 32 :=
  let c0_i32_5 : BitVec 32 := 0#32
  let c512_i32 : BitVec 32 := 512#32
  let v13 : BitVec 32 := Scalar.addi c0_i32_5 c512_i32
  let c1_i32_6 : BitVec 32 := 1#32
  ⟨c0_i32_5, v13, c1_i32_6⟩
def k0_off3 (k0_t2 : Fin k0_t2_loop.trips) : Fin 1 → Nat :=
  let c0_i32_163 : BitVec 32 := 0#32
  let c0_i32_5 : BitVec 32 := 0#32
  let c1_i32_6 : BitVec 32 := 1#32
  let arg21 : BitVec 32 := Scf.iv c0_i32_5 c1_i32_6 k0_t2
  let c16_i32_162 : BitVec 32 := 16#32
  let v172 : BitVec 32 := Scalar.muli arg21 c16_i32_162
  let v173 : BitVec 32 := Scalar.addi c0_i32_163 v172
  let v174 : Index := Scalar.indexCast v173
  ![v174.toNat]

def k0_chk2 (v180 : IVec S16 32) : Prop :=
  (∀ a x, ((![v180] : Fin 1 → IVec S16 32) a x).toNat < S2048.size a)
theorem k0_idx2_inb : ∀ (v180 : IVec S16 32) (k0_hw2 : k0_chk2 v180), ∀ a x, ((![v180] : Fin 1 → IVec S16 32) a x).toNat < S2048.size a := fun v180 k0_hw2 => k0_hw2
@[reducible] def k0_t3_loop : Scf.Loop 32 :=
  let c0_i32_9 : BitVec 32 := 0#32
  let c128_i32_10 : BitVec 32 := 128#32
  let v14 : BitVec 32 := Scalar.addi c0_i32_9 c128_i32_10
  let c1_i32_11 : BitVec 32 := 1#32
  ⟨c0_i32_9, v14, c1_i32_11⟩
def k0_off4 (k0_t3 : Fin k0_t3_loop.trips) : Fin 1 → Nat :=
  let c0_i32_163 : BitVec 32 := 0#32
  let c0_i32_9 : BitVec 32 := 0#32
  let c1_i32_11 : BitVec 32 := 1#32
  let arg21 : BitVec 32 := Scf.iv c0_i32_9 c1_i32_11 k0_t3
  let c1_i32_162 : BitVec 32 := 1#32
  let v172 : BitVec 32 := Scalar.muli arg21 c1_i32_162
  let v173 : BitVec 32 := Scalar.addi c0_i32_163 v172
  let c16_i32_164 : BitVec 32 := 16#32
  let v174 : BitVec 32 := Scalar.muli v173 c16_i32_164
  let v175 : Index := Scalar.indexCast v174
  ![v175.toNat]
@[reducible] def k0_t4_loop : Scf.Loop 32 :=
  let c0_i32_13 : BitVec 32 := 0#32
  let c512_i32_14 : BitVec 32 := 512#32
  let v16 : BitVec 32 := Scalar.addi c0_i32_13 c512_i32_14
  let c1_i32_15 : BitVec 32 := 1#32
  ⟨c0_i32_13, v16, c1_i32_15⟩
def k0_off5 (k0_t4 : Fin k0_t4_loop.trips) : Fin 1 → Nat :=
  let c0_i32_163 : BitVec 32 := 0#32
  let c0_i32_13 : BitVec 32 := 0#32
  let c1_i32_15 : BitVec 32 := 1#32
  let arg21 : BitVec 32 := Scf.iv c0_i32_13 c1_i32_15 k0_t4
  let c16_i32_162 : BitVec 32 := 16#32
  let v172 : BitVec 32 := Scalar.muli arg21 c16_i32_162
  let v173 : BitVec 32 := Scalar.addi c0_i32_163 v172
  let v174 : Index := Scalar.indexCast v173
  ![v174.toNat]

def k0_chk4 (v189 : IVec S16 32) : Prop :=
  (∀ a x, ((![v189] : Fin 1 → IVec S16 32) a x).toNat < S8192.size a) ∧
  (∀ a x, ((![v189] : Fin 1 → IVec S16 32) a x).toNat < S8192.size a)
theorem k0_idx4_inb : ∀ (v189 : IVec S16 32) (k0_hw4 : k0_chk4 v189), ∀ a x, ((![v189] : Fin 1 → IVec S16 32) a x).toNat < S8192.size a := fun v189 k0_hw4 => k0_hw4.1
theorem k0_idx5_inb : ∀ (v189 : IVec S16 32) (k0_hw4 : k0_chk4 v189), ∀ a x, ((![v189] : Fin 1 → IVec S16 32) a x).toNat < S8192.size a := fun v189 k0_hw4 => k0_hw4.2

def k0_chk5 (v191 : IVec S16 32) : Prop :=
  (∀ a x, ((![v191] : Fin 1 → IVec S16 32) a x).toNat < S8208.size a)
theorem k0_idx6_inb : ∀ (v191 : IVec S16 32) (k0_hw5 : k0_chk5 v191), ∀ a x, ((![v191] : Fin 1 → IVec S16 32) a x).toNat < S8208.size a := fun v191 k0_hw5 => k0_hw5

def k0_chk3 (v184 : IVec S16 32) : Prop :=
  (∀ a x, ((![v184] : Fin 1 → IVec S16 32) a x).toNat < S2048.size a) ∧
  (∀ a x, ((![v184] : Fin 1 → IVec S16 32) a x).toNat < S2048.size a)
theorem k0_idx3_inb : ∀ (v184 : IVec S16 32) (k0_hw3 : k0_chk3 v184), ∀ a x, ((![v184] : Fin 1 → IVec S16 32) a x).toNat < S2048.size a := fun v184 k0_hw3 => k0_hw3.1
theorem k0_idx7_inb : ∀ (v184 : IVec S16 32) (k0_hw3 : k0_chk3 v184), ∀ a x, ((![v184] : Fin 1 → IVec S16 32) a x).toNat < S2048.size a := fun v184 k0_hw3 => k0_hw3.2
@[reducible] def k0_t5_loop : Scf.Loop 32 :=
  let c0_i32_18 : BitVec 32 := 0#32
  let c512_i32_19 : BitVec 32 := 512#32
  let v17 : BitVec 32 := Scalar.addi c0_i32_18 c512_i32_19
  let c1_i32_20 : BitVec 32 := 1#32
  ⟨c0_i32_18, v17, c1_i32_20⟩
def k0_off6 (k0_t5 : Fin k0_t5_loop.trips) : Fin 1 → Nat :=
  let c0_i32_163 : BitVec 32 := 0#32
  let c0_i32_18 : BitVec 32 := 0#32
  let c1_i32_20 : BitVec 32 := 1#32
  let arg21 : BitVec 32 := Scf.iv c0_i32_18 c1_i32_20 k0_t5
  let c16_i32_162 : BitVec 32 := 16#32
  let v172 : BitVec 32 := Scalar.muli arg21 c16_i32_162
  let v173 : BitVec 32 := Scalar.addi c0_i32_163 v172
  let v174 : Index := Scalar.indexCast v173
  ![v174.toNat]
def k0_off7 (k0_t5 : Fin k0_t5_loop.trips) : Fin 1 → Nat :=
  let c0_i32_163 : BitVec 32 := 0#32
  let c0_i32_18 : BitVec 32 := 0#32
  let c1_i32_20 : BitVec 32 := 1#32
  let arg21 : BitVec 32 := Scf.iv c0_i32_18 c1_i32_20 k0_t5
  let c16_i32_162 : BitVec 32 := 16#32
  let v172 : BitVec 32 := Scalar.muli arg21 c16_i32_162
  let v173 : BitVec 32 := Scalar.addi c0_i32_163 v172
  let v176 : Index := Scalar.indexCast v173
  ![v176.toNat]

def k0_chk6 (v185 : IVec S16 32) : Prop :=
  (∀ a x, ((![v185] : Fin 1 → IVec S16 32) a x).toNat < S8192.size a) ∧
  (∀ a x, ((![v185] : Fin 1 → IVec S16 32) a x).toNat < S8208.size a)
theorem k0_idx8_inb : ∀ (v185 : IVec S16 32) (k0_hw6 : k0_chk6 v185), ∀ a x, ((![v185] : Fin 1 → IVec S16 32) a x).toNat < S8192.size a := fun v185 k0_hw6 => k0_hw6.1
theorem k0_idx9_inb : ∀ (v185 : IVec S16 32) (k0_hw6 : k0_chk6 v185), ∀ a x, ((![v185] : Fin 1 → IVec S16 32) a x).toNat < S8208.size a := fun v185 k0_hw6 => k0_hw6.2

def k0_chk7 (v23 : IVec S16 32) : Prop :=
  (∀ a x, ((![v23] : Fin 1 → IVec S16 32) a x).toNat < S8208.size a)
theorem k0_idx10_inb : ∀ (v23 : IVec S16 32) (k0_hw7 : k0_chk7 v23), ∀ a x, ((![v23] : Fin 1 → IVec S16 32) a x).toNat < S8208.size a := fun v23 k0_hw7 => k0_hw7
@[reducible] def k0_t6_loop (v18 : BitVec 32) : Scf.Loop 32 :=
  let c0_i32_43 : BitVec 32 := 0#32
  let c1023_i32 : BitVec 32 := 1023#32
  let v27 : BitVec 32 := Scalar.addi v18 c1023_i32
  let c0_i32_25 : BitVec 32 := 0#32
  let v29 : BitVec 1 := Scalar.cmpi .sgt v27 c0_i32_25
  let v30 : BitVec 32 := Scalar.extui v29
  let c0_i32_26 : BitVec 32 := 0#32
  let v31 : BitVec 1 := Scalar.cmpi .slt v27 c0_i32_26
  let v32 : BitVec 32 := Scalar.extui v31
  let v33 : BitVec 32 := Scalar.subi v30 v32
  let c1024_i32 : BitVec 32 := 1024#32
  let c0_i32_27 : BitVec 32 := 0#32
  let v34 : BitVec 1 := Scalar.cmpi .sgt c1024_i32 c0_i32_27
  let v35 : BitVec 32 := Scalar.extui v34
  let c0_i32_28 : BitVec 32 := 0#32
  let v36 : BitVec 1 := Scalar.cmpi .slt c1024_i32 c0_i32_28
  let v37 : BitVec 32 := Scalar.extui v36
  let v38 : BitVec 32 := Scalar.subi v35 v37
  let v39 : BitVec 1 := Scalar.cmpi .ne v33 v38
  let v40 : BitVec 32 := Scalar.remsi v27 c1024_i32
  let c0_i32_29 : BitVec 32 := 0#32
  let v41 : BitVec 1 := Scalar.cmpi .ne v40 c0_i32_29
  let v42 : BitVec 1 := Scalar.andi v39 v41
  let v28 : BitVec 32 := Scalar.divsi v27 c1024_i32
  let c1_i32_30 : BitVec 32 := 1#32
  let v43 : BitVec 32 := Scalar.subi v28 c1_i32_30
  let v44 : BitVec 32 := Scalar.select v42 v43 v28
  let c1024_i32_38 : BitVec 32 := 1024#32
  let v63 : BitVec 32 := Scalar.muli v44 c1024_i32_38
  let c0_i32_31 : BitVec 32 := 0#32
  let v46 : BitVec 1 := Scalar.cmpi .sgt v18 c0_i32_31
  let v47 : BitVec 32 := Scalar.extui v46
  let c0_i32_32 : BitVec 32 := 0#32
  let v48 : BitVec 1 := Scalar.cmpi .slt v18 c0_i32_32
  let v49 : BitVec 32 := Scalar.extui v48
  let v50 : BitVec 32 := Scalar.subi v47 v49
  let c16_i32 : BitVec 32 := 16#32
  let c0_i32_33 : BitVec 32 := 0#32
  let v51 : BitVec 1 := Scalar.cmpi .sgt c16_i32 c0_i32_33
  let v52 : BitVec 32 := Scalar.extui v51
  let c0_i32_34 : BitVec 32 := 0#32
  let v53 : BitVec 1 := Scalar.cmpi .slt c16_i32 c0_i32_34
  let v54 : BitVec 32 := Scalar.extui v53
  let v55 : BitVec 32 := Scalar.subi v52 v54
  let v56 : BitVec 1 := Scalar.cmpi .ne v50 v55
  let v57 : BitVec 32 := Scalar.remsi v18 c16_i32
  let c0_i32_35 : BitVec 32 := 0#32
  let v58 : BitVec 1 := Scalar.cmpi .ne v57 c0_i32_35
  let v59 : BitVec 1 := Scalar.andi v56 v58
  let v45 : BitVec 32 := Scalar.divsi v18 c16_i32
  let c1_i32_36 : BitVec 32 := 1#32
  let v60 : BitVec 32 := Scalar.subi v45 c1_i32_36
  let v61 : BitVec 32 := Scalar.select v59 v60 v45
  let c16_i32_37 : BitVec 32 := 16#32
  let v62 : BitVec 32 := Scalar.muli v61 c16_i32_37
  let v64 : BitVec 32 := Scalar.subi v63 v62
  let c16_i32_39 : BitVec 32 := 16#32
  let c1_i32_40 : BitVec 32 := 1#32
  let v65 : BitVec 32 := Scalar.subi c16_i32_39 c1_i32_40
  let v66 : BitVec 32 := Scalar.addi v64 v65
  let c16_i32_41 : BitVec 32 := 16#32
  let v67 : BitVec 32 := Scalar.divsi v66 c16_i32_41
  let v68 : BitVec 32 := Scalar.subi v67 c0_i32_43
  let c1_i32_44 : BitVec 32 := 1#32
  let v70 : BitVec 32 := Scalar.divsi v68 c1_i32_44
  let v71 : BitVec 32 := Scalar.muli v70 c1_i32_44
  let v72 : BitVec 32 := Scalar.addi c0_i32_43 v71
  let c1_i32_45 : BitVec 32 := 1#32
  ⟨c0_i32_43, v72, c1_i32_45⟩

def k0_chk9 (v175 : IVec S16 32) : Prop :=
  (∀ a x, ((![v175] : Fin 1 → IVec S16 32) a x).toNat < S8192.size a)
theorem k0_idx11_inb : ∀ (v175 : IVec S16 32) (k0_hw9 : k0_chk9 v175), ∀ a x, ((![v175] : Fin 1 → IVec S16 32) a x).toNat < S8192.size a := fun v175 k0_hw9 => k0_hw9
@[reducible] def k0_t7_loop (v18 : BitVec 32) : Scf.Loop 32 :=
  let c0_i32_43 : BitVec 32 := 0#32
  let c1023_i32 : BitVec 32 := 1023#32
  let v27 : BitVec 32 := Scalar.addi v18 c1023_i32
  let c0_i32_25 : BitVec 32 := 0#32
  let v29 : BitVec 1 := Scalar.cmpi .sgt v27 c0_i32_25
  let v30 : BitVec 32 := Scalar.extui v29
  let c0_i32_26 : BitVec 32 := 0#32
  let v31 : BitVec 1 := Scalar.cmpi .slt v27 c0_i32_26
  let v32 : BitVec 32 := Scalar.extui v31
  let v33 : BitVec 32 := Scalar.subi v30 v32
  let c1024_i32 : BitVec 32 := 1024#32
  let c0_i32_27 : BitVec 32 := 0#32
  let v34 : BitVec 1 := Scalar.cmpi .sgt c1024_i32 c0_i32_27
  let v35 : BitVec 32 := Scalar.extui v34
  let c0_i32_28 : BitVec 32 := 0#32
  let v36 : BitVec 1 := Scalar.cmpi .slt c1024_i32 c0_i32_28
  let v37 : BitVec 32 := Scalar.extui v36
  let v38 : BitVec 32 := Scalar.subi v35 v37
  let v39 : BitVec 1 := Scalar.cmpi .ne v33 v38
  let v40 : BitVec 32 := Scalar.remsi v27 c1024_i32
  let c0_i32_29 : BitVec 32 := 0#32
  let v41 : BitVec 1 := Scalar.cmpi .ne v40 c0_i32_29
  let v42 : BitVec 1 := Scalar.andi v39 v41
  let v28 : BitVec 32 := Scalar.divsi v27 c1024_i32
  let c1_i32_30 : BitVec 32 := 1#32
  let v43 : BitVec 32 := Scalar.subi v28 c1_i32_30
  let v44 : BitVec 32 := Scalar.select v42 v43 v28
  let c1024_i32_38 : BitVec 32 := 1024#32
  let v63 : BitVec 32 := Scalar.muli v44 c1024_i32_38
  let c0_i32_31 : BitVec 32 := 0#32
  let v46 : BitVec 1 := Scalar.cmpi .sgt v18 c0_i32_31
  let v47 : BitVec 32 := Scalar.extui v46
  let c0_i32_32 : BitVec 32 := 0#32
  let v48 : BitVec 1 := Scalar.cmpi .slt v18 c0_i32_32
  let v49 : BitVec 32 := Scalar.extui v48
  let v50 : BitVec 32 := Scalar.subi v47 v49
  let c16_i32 : BitVec 32 := 16#32
  let c0_i32_33 : BitVec 32 := 0#32
  let v51 : BitVec 1 := Scalar.cmpi .sgt c16_i32 c0_i32_33
  let v52 : BitVec 32 := Scalar.extui v51
  let c0_i32_34 : BitVec 32 := 0#32
  let v53 : BitVec 1 := Scalar.cmpi .slt c16_i32 c0_i32_34
  let v54 : BitVec 32 := Scalar.extui v53
  let v55 : BitVec 32 := Scalar.subi v52 v54
  let v56 : BitVec 1 := Scalar.cmpi .ne v50 v55
  let v57 : BitVec 32 := Scalar.remsi v18 c16_i32
  let c0_i32_35 : BitVec 32 := 0#32
  let v58 : BitVec 1 := Scalar.cmpi .ne v57 c0_i32_35
  let v59 : BitVec 1 := Scalar.andi v56 v58
  let v45 : BitVec 32 := Scalar.divsi v18 c16_i32
  let c1_i32_36 : BitVec 32 := 1#32
  let v60 : BitVec 32 := Scalar.subi v45 c1_i32_36
  let v61 : BitVec 32 := Scalar.select v59 v60 v45
  let c16_i32_37 : BitVec 32 := 16#32
  let v62 : BitVec 32 := Scalar.muli v61 c16_i32_37
  let v64 : BitVec 32 := Scalar.subi v63 v62
  let c16_i32_39 : BitVec 32 := 16#32
  let c1_i32_40 : BitVec 32 := 1#32
  let v65 : BitVec 32 := Scalar.subi c16_i32_39 c1_i32_40
  let v66 : BitVec 32 := Scalar.addi v64 v65
  let c16_i32_41 : BitVec 32 := 16#32
  let v67 : BitVec 32 := Scalar.divsi v66 c16_i32_41
  let v68 : BitVec 32 := Scalar.subi v67 c0_i32_43
  let c1_i32_44 : BitVec 32 := 1#32
  let v70 : BitVec 32 := Scalar.divsi v68 c1_i32_44
  let v71 : BitVec 32 := Scalar.muli v70 c1_i32_44
  let v72 : BitVec 32 := Scalar.addi c0_i32_43 v71
  let v69 : BitVec 32 := Scalar.addi c0_i32_43 v68
  let c1_i32_46 : BitVec 32 := 1#32
  ⟨v72, v69, c1_i32_46⟩

def k0_chk10 (v175 : IVec S16 32) : Prop :=
  (∀ a x, ((![v175] : Fin 1 → IVec S16 32) a x).toNat < S8192.size a)
theorem k0_idx12_inb : ∀ (v175 : IVec S16 32) (k0_hw10 : k0_chk10 v175), ∀ a x, ((![v175] : Fin 1 → IVec S16 32) a x).toNat < S8192.size a := fun v175 k0_hw10 => k0_hw10
@[reducible] def k0_t8_loop (v18 : BitVec 32) : Scf.Loop 32 :=
  let c0_i32_53 : BitVec 32 := 0#32
  let c1023_i32 : BitVec 32 := 1023#32
  let v27 : BitVec 32 := Scalar.addi v18 c1023_i32
  let c0_i32_25 : BitVec 32 := 0#32
  let v29 : BitVec 1 := Scalar.cmpi .sgt v27 c0_i32_25
  let v30 : BitVec 32 := Scalar.extui v29
  let c0_i32_26 : BitVec 32 := 0#32
  let v31 : BitVec 1 := Scalar.cmpi .slt v27 c0_i32_26
  let v32 : BitVec 32 := Scalar.extui v31
  let v33 : BitVec 32 := Scalar.subi v30 v32
  let c1024_i32 : BitVec 32 := 1024#32
  let c0_i32_27 : BitVec 32 := 0#32
  let v34 : BitVec 1 := Scalar.cmpi .sgt c1024_i32 c0_i32_27
  let v35 : BitVec 32 := Scalar.extui v34
  let c0_i32_28 : BitVec 32 := 0#32
  let v36 : BitVec 1 := Scalar.cmpi .slt c1024_i32 c0_i32_28
  let v37 : BitVec 32 := Scalar.extui v36
  let v38 : BitVec 32 := Scalar.subi v35 v37
  let v39 : BitVec 1 := Scalar.cmpi .ne v33 v38
  let v40 : BitVec 32 := Scalar.remsi v27 c1024_i32
  let c0_i32_29 : BitVec 32 := 0#32
  let v41 : BitVec 1 := Scalar.cmpi .ne v40 c0_i32_29
  let v42 : BitVec 1 := Scalar.andi v39 v41
  let v28 : BitVec 32 := Scalar.divsi v27 c1024_i32
  let c1_i32_30 : BitVec 32 := 1#32
  let v43 : BitVec 32 := Scalar.subi v28 c1_i32_30
  let v44 : BitVec 32 := Scalar.select v42 v43 v28
  let c0_i32_47 : BitVec 32 := 0#32
  let v73 : BitVec 32 := Scalar.subi v44 c0_i32_47
  let c1_i32_48 : BitVec 32 := 1#32
  let c1_i32_49 : BitVec 32 := 1#32
  let v74 : BitVec 32 := Scalar.subi c1_i32_48 c1_i32_49
  let v75 : BitVec 32 := Scalar.addi v73 v74
  let c1_i32_50 : BitVec 32 := 1#32
  let v76 : BitVec 32 := Scalar.divsi v75 c1_i32_50
  let v77 : BitVec 32 := Scalar.subi v76 c0_i32_53
  let c1_i32_54 : BitVec 32 := 1#32
  let v79 : BitVec 32 := Scalar.divsi v77 c1_i32_54
  let v80 : BitVec 32 := Scalar.muli v79 c1_i32_54
  let v81 : BitVec 32 := Scalar.addi c0_i32_53 v80
  let c1_i32_55 : BitVec 32 := 1#32
  ⟨c0_i32_53, v81, c1_i32_55⟩
def k0_off8 (v18 : BitVec 32) (k0_t8 : Fin (k0_t8_loop v18).trips) (c0_i32_164 : BitVec 32) : Fin 1 → Nat :=
  let c0_i32_52 : BitVec 32 := 0#32
  let c0_i32_53 : BitVec 32 := 0#32
  let c1_i32_55 : BitVec 32 := 1#32
  let arg21 : BitVec 32 := Scf.iv c0_i32_53 c1_i32_55 k0_t8
  let c1_i32_51 : BitVec 32 := 1#32
  let v172 : BitVec 32 := Scalar.muli arg21 c1_i32_51
  let v173 : BitVec 32 := Scalar.addi c0_i32_52 v172
  let c1024_i32_162 : BitVec 32 := 1024#32
  let v174 : BitVec 32 := Scalar.muli v173 c1024_i32_162
  let v176 : BitVec 32 := Scalar.addi v174 c0_i32_164
  ![v176.toNat]
@[reducible] def k0_t9_loop (v18 : BitVec 32) : Scf.Loop 32 :=
  let c0_i32_53 : BitVec 32 := 0#32
  let c1023_i32 : BitVec 32 := 1023#32
  let v27 : BitVec 32 := Scalar.addi v18 c1023_i32
  let c0_i32_25 : BitVec 32 := 0#32
  let v29 : BitVec 1 := Scalar.cmpi .sgt v27 c0_i32_25
  let v30 : BitVec 32 := Scalar.extui v29
  let c0_i32_26 : BitVec 32 := 0#32
  let v31 : BitVec 1 := Scalar.cmpi .slt v27 c0_i32_26
  let v32 : BitVec 32 := Scalar.extui v31
  let v33 : BitVec 32 := Scalar.subi v30 v32
  let c1024_i32 : BitVec 32 := 1024#32
  let c0_i32_27 : BitVec 32 := 0#32
  let v34 : BitVec 1 := Scalar.cmpi .sgt c1024_i32 c0_i32_27
  let v35 : BitVec 32 := Scalar.extui v34
  let c0_i32_28 : BitVec 32 := 0#32
  let v36 : BitVec 1 := Scalar.cmpi .slt c1024_i32 c0_i32_28
  let v37 : BitVec 32 := Scalar.extui v36
  let v38 : BitVec 32 := Scalar.subi v35 v37
  let v39 : BitVec 1 := Scalar.cmpi .ne v33 v38
  let v40 : BitVec 32 := Scalar.remsi v27 c1024_i32
  let c0_i32_29 : BitVec 32 := 0#32
  let v41 : BitVec 1 := Scalar.cmpi .ne v40 c0_i32_29
  let v42 : BitVec 1 := Scalar.andi v39 v41
  let v28 : BitVec 32 := Scalar.divsi v27 c1024_i32
  let c1_i32_30 : BitVec 32 := 1#32
  let v43 : BitVec 32 := Scalar.subi v28 c1_i32_30
  let v44 : BitVec 32 := Scalar.select v42 v43 v28
  let c0_i32_47 : BitVec 32 := 0#32
  let v73 : BitVec 32 := Scalar.subi v44 c0_i32_47
  let c1_i32_48 : BitVec 32 := 1#32
  let c1_i32_49 : BitVec 32 := 1#32
  let v74 : BitVec 32 := Scalar.subi c1_i32_48 c1_i32_49
  let v75 : BitVec 32 := Scalar.addi v73 v74
  let c1_i32_50 : BitVec 32 := 1#32
  let v76 : BitVec 32 := Scalar.divsi v75 c1_i32_50
  let v77 : BitVec 32 := Scalar.subi v76 c0_i32_53
  let c1_i32_54 : BitVec 32 := 1#32
  let v79 : BitVec 32 := Scalar.divsi v77 c1_i32_54
  let v80 : BitVec 32 := Scalar.muli v79 c1_i32_54
  let v81 : BitVec 32 := Scalar.addi c0_i32_53 v80
  let v78 : BitVec 32 := Scalar.addi c0_i32_53 v77
  let c1_i32_56 : BitVec 32 := 1#32
  ⟨v81, v78, c1_i32_56⟩
def k0_off9 (v18 : BitVec 32) (k0_t9 : Fin (k0_t9_loop v18).trips) (c0_i32_164 : BitVec 32) : Fin 1 → Nat :=
  let c0_i32_52 : BitVec 32 := 0#32
  let c0_i32_53 : BitVec 32 := 0#32
  let c1023_i32 : BitVec 32 := 1023#32
  let v27 : BitVec 32 := Scalar.addi v18 c1023_i32
  let c0_i32_25 : BitVec 32 := 0#32
  let v29 : BitVec 1 := Scalar.cmpi .sgt v27 c0_i32_25
  let v30 : BitVec 32 := Scalar.extui v29
  let c0_i32_26 : BitVec 32 := 0#32
  let v31 : BitVec 1 := Scalar.cmpi .slt v27 c0_i32_26
  let v32 : BitVec 32 := Scalar.extui v31
  let v33 : BitVec 32 := Scalar.subi v30 v32
  let c1024_i32 : BitVec 32 := 1024#32
  let c0_i32_27 : BitVec 32 := 0#32
  let v34 : BitVec 1 := Scalar.cmpi .sgt c1024_i32 c0_i32_27
  let v35 : BitVec 32 := Scalar.extui v34
  let c0_i32_28 : BitVec 32 := 0#32
  let v36 : BitVec 1 := Scalar.cmpi .slt c1024_i32 c0_i32_28
  let v37 : BitVec 32 := Scalar.extui v36
  let v38 : BitVec 32 := Scalar.subi v35 v37
  let v39 : BitVec 1 := Scalar.cmpi .ne v33 v38
  let v40 : BitVec 32 := Scalar.remsi v27 c1024_i32
  let c0_i32_29 : BitVec 32 := 0#32
  let v41 : BitVec 1 := Scalar.cmpi .ne v40 c0_i32_29
  let v42 : BitVec 1 := Scalar.andi v39 v41
  let v28 : BitVec 32 := Scalar.divsi v27 c1024_i32
  let c1_i32_30 : BitVec 32 := 1#32
  let v43 : BitVec 32 := Scalar.subi v28 c1_i32_30
  let v44 : BitVec 32 := Scalar.select v42 v43 v28
  let c0_i32_47 : BitVec 32 := 0#32
  let v73 : BitVec 32 := Scalar.subi v44 c0_i32_47
  let c1_i32_48 : BitVec 32 := 1#32
  let c1_i32_49 : BitVec 32 := 1#32
  let v74 : BitVec 32 := Scalar.subi c1_i32_48 c1_i32_49
  let v75 : BitVec 32 := Scalar.addi v73 v74
  let c1_i32_50 : BitVec 32 := 1#32
  let v76 : BitVec 32 := Scalar.divsi v75 c1_i32_50
  let v77 : BitVec 32 := Scalar.subi v76 c0_i32_53
  let c1_i32_54 : BitVec 32 := 1#32
  let v79 : BitVec 32 := Scalar.divsi v77 c1_i32_54
  let v80 : BitVec 32 := Scalar.muli v79 c1_i32_54
  let v81 : BitVec 32 := Scalar.addi c0_i32_53 v80
  let c1_i32_56 : BitVec 32 := 1#32
  let arg21 : BitVec 32 := Scf.iv v81 c1_i32_56 k0_t9
  let c1_i32_51 : BitVec 32 := 1#32
  let v172 : BitVec 32 := Scalar.muli arg21 c1_i32_51
  let v173 : BitVec 32 := Scalar.addi c0_i32_52 v172
  let c1024_i32_162 : BitVec 32 := 1024#32
  let v174 : BitVec 32 := Scalar.muli v173 c1024_i32_162
  let v176 : BitVec 32 := Scalar.addi v174 c0_i32_164
  ![v176.toNat]
@[reducible] def k0_t10_loop : Scf.Loop 32 :=
  let c0_i32_57 : BitVec 32 := 0#32
  let c512_i32_58 : BitVec 32 := 512#32
  let v82 : BitVec 32 := Scalar.addi c0_i32_57 c512_i32_58
  let c1_i32_59 : BitVec 32 := 1#32
  ⟨c0_i32_57, v82, c1_i32_59⟩
def k0_off10 (k0_t10 : Fin k0_t10_loop.trips) : Fin 1 → Nat :=
  let c0_i32_163 : BitVec 32 := 0#32
  let c0_i32_57 : BitVec 32 := 0#32
  let c1_i32_59 : BitVec 32 := 1#32
  let arg21 : BitVec 32 := Scf.iv c0_i32_57 c1_i32_59 k0_t10
  let c16_i32_162 : BitVec 32 := 16#32
  let v172 : BitVec 32 := Scalar.muli arg21 c16_i32_162
  let v173 : BitVec 32 := Scalar.addi c0_i32_163 v172
  let v174 : Index := Scalar.indexCast v173
  ![v174.toNat]
@[reducible] def k0_t11_loop : Scf.Loop 32 :=
  let c0_i32_71 : BitVec 32 := 0#32
  let c128_i32_72 : BitVec 32 := 128#32
  let v103 : BitVec 32 := Scalar.addi c0_i32_71 c128_i32_72
  let c1_i32_73 : BitVec 32 := 1#32
  ⟨c0_i32_71, v103, c1_i32_73⟩
def k0_off11 (k0_t11 : Fin k0_t11_loop.trips) : Fin 1 → Nat :=
  let c0_i32_163 : BitVec 32 := 0#32
  let c0_i32_71 : BitVec 32 := 0#32
  let c1_i32_73 : BitVec 32 := 1#32
  let arg21 : BitVec 32 := Scf.iv c0_i32_71 c1_i32_73 k0_t11
  let c16_i32_162 : BitVec 32 := 16#32
  let v172 : BitVec 32 := Scalar.muli arg21 c16_i32_162
  let v173 : BitVec 32 := Scalar.addi c0_i32_163 v172
  let v175 : Index := Scalar.indexCast v173
  ![v175.toNat]
@[reducible] def k0_t12_loop (v18 : BitVec 32) : Scf.Loop 32 :=
  let c0_i32_81 : BitVec 32 := 0#32
  let c16_i32_61 : BitVec 32 := 16#32
  let v83 : BitVec 32 := Scalar.addi v18 c16_i32_61
  let c1_i32_62 : BitVec 32 := 1#32
  let v84 : BitVec 32 := Scalar.subi v83 c1_i32_62
  let c0_i32_64 : BitVec 32 := 0#32
  let v86 : BitVec 1 := Scalar.cmpi .sgt v84 c0_i32_64
  let v87 : BitVec 32 := Scalar.extui v86
  let c0_i32_65 : BitVec 32 := 0#32
  let v88 : BitVec 1 := Scalar.cmpi .slt v84 c0_i32_65
  let v89 : BitVec 32 := Scalar.extui v88
  let v90 : BitVec 32 := Scalar.subi v87 v89
  let c16_i32_63 : BitVec 32 := 16#32
  let c0_i32_66 : BitVec 32 := 0#32
  let v91 : BitVec 1 := Scalar.cmpi .sgt c16_i32_63 c0_i32_66
  let v92 : BitVec 32 := Scalar.extui v91
  let c0_i32_67 : BitVec 32 := 0#32
  let v93 : BitVec 1 := Scalar.cmpi .slt c16_i32_63 c0_i32_67
  let v94 : BitVec 32 := Scalar.extui v93
  let v95 : BitVec 32 := Scalar.subi v92 v94
  let v96 : BitVec 1 := Scalar.cmpi .ne v90 v95
  let v97 : BitVec 32 := Scalar.remsi v84 c16_i32_63
  let c0_i32_68 : BitVec 32 := 0#32
  let v98 : BitVec 1 := Scalar.cmpi .ne v97 c0_i32_68
  let v99 : BitVec 1 := Scalar.andi v96 v98
  let v85 : BitVec 32 := Scalar.divsi v84 c16_i32_63
  let c1_i32_69 : BitVec 32 := 1#32
  let v100 : BitVec 32 := Scalar.subi v85 c1_i32_69
  let v101 : BitVec 32 := Scalar.select v99 v100 v85
  let c16_i32_70 : BitVec 32 := 16#32
  let v102 : BitVec 32 := Scalar.muli v101 c16_i32_70
  let c0_i32_75 : BitVec 32 := 0#32
  let v104 : BitVec 32 := Scalar.subi v102 c0_i32_75
  let c16_i32_76 : BitVec 32 := 16#32
  let c1_i32_77 : BitVec 32 := 1#32
  let v105 : BitVec 32 := Scalar.subi c16_i32_76 c1_i32_77
  let v106 : BitVec 32 := Scalar.addi v104 v105
  let c16_i32_78 : BitVec 32 := 16#32
  let v107 : BitVec 32 := Scalar.divsi v106 c16_i32_78
  let v108 : BitVec 32 := Scalar.subi v107 c0_i32_81
  let c1_i32_82 : BitVec 32 := 1#32
  let v110 : BitVec 32 := Scalar.divsi v108 c1_i32_82
  let v111 : BitVec 32 := Scalar.muli v110 c1_i32_82
  let v112 : BitVec 32 := Scalar.addi c0_i32_81 v111
  let c1_i32_83 : BitVec 32 := 1#32
  ⟨c0_i32_81, v112, c1_i32_83⟩
def k0_off12 (v18 : BitVec 32) (k0_t12 : Fin (k0_t12_loop v18).trips) : Fin 1 → Nat :=
  let c0_i32_80 : BitVec 32 := 0#32
  let c0_i32_81 : BitVec 32 := 0#32
  let c1_i32_83 : BitVec 32 := 1#32
  let arg21 : BitVec 32 := Scf.iv c0_i32_81 c1_i32_83 k0_t12
  let c16_i32_79 : BitVec 32 := 16#32
  let v172 : BitVec 32 := Scalar.muli arg21 c16_i32_79
  let v173 : BitVec 32 := Scalar.addi c0_i32_80 v172
  let v174 : Index := Scalar.indexCast v173
  ![v174.toNat]

def k0_chk11 (v179 : IVec S16 32) : Prop :=
  (∀ a x, ((![v179] : Fin 1 → IVec S16 32) a x).toNat < S2048.size a)
theorem k0_idx13_inb : ∀ (v179 : IVec S16 32) (k0_hw11 : k0_chk11 v179), ∀ a x, ((![v179] : Fin 1 → IVec S16 32) a x).toNat < S2048.size a := fun v179 k0_hw11 => k0_hw11
@[reducible] def k0_t13_loop (v18 : BitVec 32) : Scf.Loop 32 :=
  let c0_i32_81 : BitVec 32 := 0#32
  let c16_i32_61 : BitVec 32 := 16#32
  let v83 : BitVec 32 := Scalar.addi v18 c16_i32_61
  let c1_i32_62 : BitVec 32 := 1#32
  let v84 : BitVec 32 := Scalar.subi v83 c1_i32_62
  let c0_i32_64 : BitVec 32 := 0#32
  let v86 : BitVec 1 := Scalar.cmpi .sgt v84 c0_i32_64
  let v87 : BitVec 32 := Scalar.extui v86
  let c0_i32_65 : BitVec 32 := 0#32
  let v88 : BitVec 1 := Scalar.cmpi .slt v84 c0_i32_65
  let v89 : BitVec 32 := Scalar.extui v88
  let v90 : BitVec 32 := Scalar.subi v87 v89
  let c16_i32_63 : BitVec 32 := 16#32
  let c0_i32_66 : BitVec 32 := 0#32
  let v91 : BitVec 1 := Scalar.cmpi .sgt c16_i32_63 c0_i32_66
  let v92 : BitVec 32 := Scalar.extui v91
  let c0_i32_67 : BitVec 32 := 0#32
  let v93 : BitVec 1 := Scalar.cmpi .slt c16_i32_63 c0_i32_67
  let v94 : BitVec 32 := Scalar.extui v93
  let v95 : BitVec 32 := Scalar.subi v92 v94
  let v96 : BitVec 1 := Scalar.cmpi .ne v90 v95
  let v97 : BitVec 32 := Scalar.remsi v84 c16_i32_63
  let c0_i32_68 : BitVec 32 := 0#32
  let v98 : BitVec 1 := Scalar.cmpi .ne v97 c0_i32_68
  let v99 : BitVec 1 := Scalar.andi v96 v98
  let v85 : BitVec 32 := Scalar.divsi v84 c16_i32_63
  let c1_i32_69 : BitVec 32 := 1#32
  let v100 : BitVec 32 := Scalar.subi v85 c1_i32_69
  let v101 : BitVec 32 := Scalar.select v99 v100 v85
  let c16_i32_70 : BitVec 32 := 16#32
  let v102 : BitVec 32 := Scalar.muli v101 c16_i32_70
  let c0_i32_75 : BitVec 32 := 0#32
  let v104 : BitVec 32 := Scalar.subi v102 c0_i32_75
  let c16_i32_76 : BitVec 32 := 16#32
  let c1_i32_77 : BitVec 32 := 1#32
  let v105 : BitVec 32 := Scalar.subi c16_i32_76 c1_i32_77
  let v106 : BitVec 32 := Scalar.addi v104 v105
  let c16_i32_78 : BitVec 32 := 16#32
  let v107 : BitVec 32 := Scalar.divsi v106 c16_i32_78
  let v108 : BitVec 32 := Scalar.subi v107 c0_i32_81
  let c1_i32_82 : BitVec 32 := 1#32
  let v110 : BitVec 32 := Scalar.divsi v108 c1_i32_82
  let v111 : BitVec 32 := Scalar.muli v110 c1_i32_82
  let v112 : BitVec 32 := Scalar.addi c0_i32_81 v111
  let v109 : BitVec 32 := Scalar.addi c0_i32_81 v108
  let c1_i32_84 : BitVec 32 := 1#32
  ⟨v112, v109, c1_i32_84⟩
def k0_off13 (v18 : BitVec 32) (k0_t13 : Fin (k0_t13_loop v18).trips) : Fin 1 → Nat :=
  let c0_i32_80 : BitVec 32 := 0#32
  let c0_i32_81 : BitVec 32 := 0#32
  let c16_i32_61 : BitVec 32 := 16#32
  let v83 : BitVec 32 := Scalar.addi v18 c16_i32_61
  let c1_i32_62 : BitVec 32 := 1#32
  let v84 : BitVec 32 := Scalar.subi v83 c1_i32_62
  let c0_i32_64 : BitVec 32 := 0#32
  let v86 : BitVec 1 := Scalar.cmpi .sgt v84 c0_i32_64
  let v87 : BitVec 32 := Scalar.extui v86
  let c0_i32_65 : BitVec 32 := 0#32
  let v88 : BitVec 1 := Scalar.cmpi .slt v84 c0_i32_65
  let v89 : BitVec 32 := Scalar.extui v88
  let v90 : BitVec 32 := Scalar.subi v87 v89
  let c16_i32_63 : BitVec 32 := 16#32
  let c0_i32_66 : BitVec 32 := 0#32
  let v91 : BitVec 1 := Scalar.cmpi .sgt c16_i32_63 c0_i32_66
  let v92 : BitVec 32 := Scalar.extui v91
  let c0_i32_67 : BitVec 32 := 0#32
  let v93 : BitVec 1 := Scalar.cmpi .slt c16_i32_63 c0_i32_67
  let v94 : BitVec 32 := Scalar.extui v93
  let v95 : BitVec 32 := Scalar.subi v92 v94
  let v96 : BitVec 1 := Scalar.cmpi .ne v90 v95
  let v97 : BitVec 32 := Scalar.remsi v84 c16_i32_63
  let c0_i32_68 : BitVec 32 := 0#32
  let v98 : BitVec 1 := Scalar.cmpi .ne v97 c0_i32_68
  let v99 : BitVec 1 := Scalar.andi v96 v98
  let v85 : BitVec 32 := Scalar.divsi v84 c16_i32_63
  let c1_i32_69 : BitVec 32 := 1#32
  let v100 : BitVec 32 := Scalar.subi v85 c1_i32_69
  let v101 : BitVec 32 := Scalar.select v99 v100 v85
  let c16_i32_70 : BitVec 32 := 16#32
  let v102 : BitVec 32 := Scalar.muli v101 c16_i32_70
  let c0_i32_75 : BitVec 32 := 0#32
  let v104 : BitVec 32 := Scalar.subi v102 c0_i32_75
  let c16_i32_76 : BitVec 32 := 16#32
  let c1_i32_77 : BitVec 32 := 1#32
  let v105 : BitVec 32 := Scalar.subi c16_i32_76 c1_i32_77
  let v106 : BitVec 32 := Scalar.addi v104 v105
  let c16_i32_78 : BitVec 32 := 16#32
  let v107 : BitVec 32 := Scalar.divsi v106 c16_i32_78
  let v108 : BitVec 32 := Scalar.subi v107 c0_i32_81
  let c1_i32_82 : BitVec 32 := 1#32
  let v110 : BitVec 32 := Scalar.divsi v108 c1_i32_82
  let v111 : BitVec 32 := Scalar.muli v110 c1_i32_82
  let v112 : BitVec 32 := Scalar.addi c0_i32_81 v111
  let c1_i32_84 : BitVec 32 := 1#32
  let arg21 : BitVec 32 := Scf.iv v112 c1_i32_84 k0_t13
  let c16_i32_79 : BitVec 32 := 16#32
  let v172 : BitVec 32 := Scalar.muli arg21 c16_i32_79
  let v173 : BitVec 32 := Scalar.addi c0_i32_80 v172
  let v174 : Index := Scalar.indexCast v173
  ![v174.toNat]

def k0_chk12 (v179 : IVec S16 32) : Prop :=
  (∀ a x, ((![v179] : Fin 1 → IVec S16 32) a x).toNat < S2048.size a)
theorem k0_idx14_inb : ∀ (v179 : IVec S16 32) (k0_hw12 : k0_chk12 v179), ∀ a x, ((![v179] : Fin 1 → IVec S16 32) a x).toNat < S2048.size a := fun v179 k0_hw12 => k0_hw12
@[reducible] def k0_t14_loop : Scf.Loop 32 :=
  let c0_i32_86 : BitVec 32 := 0#32
  let c128_i32_87 : BitVec 32 := 128#32
  let v113 : BitVec 32 := Scalar.addi c0_i32_86 c128_i32_87
  let c1_i32_88 : BitVec 32 := 1#32
  ⟨c0_i32_86, v113, c1_i32_88⟩
def k0_off14 (k0_t14 : Fin k0_t14_loop.trips) : Fin 1 → Nat :=
  let c0_i32_163 : BitVec 32 := 0#32
  let c0_i32_86 : BitVec 32 := 0#32
  let c1_i32_88 : BitVec 32 := 1#32
  let arg21 : BitVec 32 := Scf.iv c0_i32_86 c1_i32_88 k0_t14
  let c1_i32_162 : BitVec 32 := 1#32
  let v172 : BitVec 32 := Scalar.muli arg21 c1_i32_162
  let v173 : BitVec 32 := Scalar.addi c0_i32_163 v172
  let c16_i32_164 : BitVec 32 := 16#32
  let v174 : BitVec 32 := Scalar.muli v173 c16_i32_164
  let v175 : Index := Scalar.indexCast v174
  ![v175.toNat]
@[reducible] def k0_t15_loop (v18 : BitVec 32) : Scf.Loop 32 :=
  let c0_i32_96 : BitVec 32 := 0#32
  let c16_i32_61 : BitVec 32 := 16#32
  let v83 : BitVec 32 := Scalar.addi v18 c16_i32_61
  let c1_i32_62 : BitVec 32 := 1#32
  let v84 : BitVec 32 := Scalar.subi v83 c1_i32_62
  let c0_i32_64 : BitVec 32 := 0#32
  let v86 : BitVec 1 := Scalar.cmpi .sgt v84 c0_i32_64
  let v87 : BitVec 32 := Scalar.extui v86
  let c0_i32_65 : BitVec 32 := 0#32
  let v88 : BitVec 1 := Scalar.cmpi .slt v84 c0_i32_65
  let v89 : BitVec 32 := Scalar.extui v88
  let v90 : BitVec 32 := Scalar.subi v87 v89
  let c16_i32_63 : BitVec 32 := 16#32
  let c0_i32_66 : BitVec 32 := 0#32
  let v91 : BitVec 1 := Scalar.cmpi .sgt c16_i32_63 c0_i32_66
  let v92 : BitVec 32 := Scalar.extui v91
  let c0_i32_67 : BitVec 32 := 0#32
  let v93 : BitVec 1 := Scalar.cmpi .slt c16_i32_63 c0_i32_67
  let v94 : BitVec 32 := Scalar.extui v93
  let v95 : BitVec 32 := Scalar.subi v92 v94
  let v96 : BitVec 1 := Scalar.cmpi .ne v90 v95
  let v97 : BitVec 32 := Scalar.remsi v84 c16_i32_63
  let c0_i32_68 : BitVec 32 := 0#32
  let v98 : BitVec 1 := Scalar.cmpi .ne v97 c0_i32_68
  let v99 : BitVec 1 := Scalar.andi v96 v98
  let v85 : BitVec 32 := Scalar.divsi v84 c16_i32_63
  let c1_i32_69 : BitVec 32 := 1#32
  let v100 : BitVec 32 := Scalar.subi v85 c1_i32_69
  let v101 : BitVec 32 := Scalar.select v99 v100 v85
  let c16_i32_70 : BitVec 32 := 16#32
  let v102 : BitVec 32 := Scalar.muli v101 c16_i32_70
  let c0_i32_90 : BitVec 32 := 0#32
  let v115 : BitVec 32 := Scalar.subi v102 c0_i32_90
  let c16_i32_91 : BitVec 32 := 16#32
  let c1_i32_92 : BitVec 32 := 1#32
  let v116 : BitVec 32 := Scalar.subi c16_i32_91 c1_i32_92
  let v117 : BitVec 32 := Scalar.addi v115 v116
  let c16_i32_93 : BitVec 32 := 16#32
  let v118 : BitVec 32 := Scalar.divsi v117 c16_i32_93
  let v119 : BitVec 32 := Scalar.subi v118 c0_i32_96
  let c1_i32_97 : BitVec 32 := 1#32
  let v121 : BitVec 32 := Scalar.divsi v119 c1_i32_97
  let v122 : BitVec 32 := Scalar.muli v121 c1_i32_97
  let v123 : BitVec 32 := Scalar.addi c0_i32_96 v122
  let c1_i32_98 : BitVec 32 := 1#32
  ⟨c0_i32_96, v123, c1_i32_98⟩
def k0_off15 (v18 : BitVec 32) (k0_t15 : Fin (k0_t15_loop v18).trips) : Fin 1 → Nat :=
  let c0_i32_95 : BitVec 32 := 0#32
  let c0_i32_96 : BitVec 32 := 0#32
  let c1_i32_98 : BitVec 32 := 1#32
  let arg21 : BitVec 32 := Scf.iv c0_i32_96 c1_i32_98 k0_t15
  let c16_i32_94 : BitVec 32 := 16#32
  let v172 : BitVec 32 := Scalar.muli arg21 c16_i32_94
  let v173 : BitVec 32 := Scalar.addi c0_i32_95 v172
  let v174 : Index := Scalar.indexCast v173
  ![v174.toNat]

def k0_chk14 (v188 : IVec S16 32) : Prop :=
  (∀ a x, ((![v188] : Fin 1 → IVec S16 32) a x).toNat < S8192.size a) ∧
  (∀ a x, ((![v188] : Fin 1 → IVec S16 32) a x).toNat < S8208.size a)
theorem k0_idx16_inb : ∀ (v188 : IVec S16 32) (k0_hw14 : k0_chk14 v188), ∀ a x, ((![v188] : Fin 1 → IVec S16 32) a x).toNat < S8192.size a := fun v188 k0_hw14 => k0_hw14.1
theorem k0_idx17_inb : ∀ (v188 : IVec S16 32) (k0_hw14 : k0_chk14 v188), ∀ a x, ((![v188] : Fin 1 → IVec S16 32) a x).toNat < S8208.size a := fun v188 k0_hw14 => k0_hw14.2

def k0_chk13 (v183 : IVec S16 32) : Prop :=
  (∀ a x, ((![v183] : Fin 1 → IVec S16 32) a x).toNat < S2048.size a) ∧
  (∀ a x, ((![v183] : Fin 1 → IVec S16 32) a x).toNat < S2048.size a)
theorem k0_idx15_inb : ∀ (v183 : IVec S16 32) (k0_hw13 : k0_chk13 v183), ∀ a x, ((![v183] : Fin 1 → IVec S16 32) a x).toNat < S2048.size a := fun v183 k0_hw13 => k0_hw13.1
theorem k0_idx18_inb : ∀ (v183 : IVec S16 32) (k0_hw13 : k0_chk13 v183), ∀ a x, ((![v183] : Fin 1 → IVec S16 32) a x).toNat < S2048.size a := fun v183 k0_hw13 => k0_hw13.2
@[reducible] def k0_t16_loop (v18 : BitVec 32) : Scf.Loop 32 :=
  let c0_i32_96 : BitVec 32 := 0#32
  let c16_i32_61 : BitVec 32 := 16#32
  let v83 : BitVec 32 := Scalar.addi v18 c16_i32_61
  let c1_i32_62 : BitVec 32 := 1#32
  let v84 : BitVec 32 := Scalar.subi v83 c1_i32_62
  let c0_i32_64 : BitVec 32 := 0#32
  let v86 : BitVec 1 := Scalar.cmpi .sgt v84 c0_i32_64
  let v87 : BitVec 32 := Scalar.extui v86
  let c0_i32_65 : BitVec 32 := 0#32
  let v88 : BitVec 1 := Scalar.cmpi .slt v84 c0_i32_65
  let v89 : BitVec 32 := Scalar.extui v88
  let v90 : BitVec 32 := Scalar.subi v87 v89
  let c16_i32_63 : BitVec 32 := 16#32
  let c0_i32_66 : BitVec 32 := 0#32
  let v91 : BitVec 1 := Scalar.cmpi .sgt c16_i32_63 c0_i32_66
  let v92 : BitVec 32 := Scalar.extui v91
  let c0_i32_67 : BitVec 32 := 0#32
  let v93 : BitVec 1 := Scalar.cmpi .slt c16_i32_63 c0_i32_67
  let v94 : BitVec 32 := Scalar.extui v93
  let v95 : BitVec 32 := Scalar.subi v92 v94
  let v96 : BitVec 1 := Scalar.cmpi .ne v90 v95
  let v97 : BitVec 32 := Scalar.remsi v84 c16_i32_63
  let c0_i32_68 : BitVec 32 := 0#32
  let v98 : BitVec 1 := Scalar.cmpi .ne v97 c0_i32_68
  let v99 : BitVec 1 := Scalar.andi v96 v98
  let v85 : BitVec 32 := Scalar.divsi v84 c16_i32_63
  let c1_i32_69 : BitVec 32 := 1#32
  let v100 : BitVec 32 := Scalar.subi v85 c1_i32_69
  let v101 : BitVec 32 := Scalar.select v99 v100 v85
  let c16_i32_70 : BitVec 32 := 16#32
  let v102 : BitVec 32 := Scalar.muli v101 c16_i32_70
  let c0_i32_90 : BitVec 32 := 0#32
  let v115 : BitVec 32 := Scalar.subi v102 c0_i32_90
  let c16_i32_91 : BitVec 32 := 16#32
  let c1_i32_92 : BitVec 32 := 1#32
  let v116 : BitVec 32 := Scalar.subi c16_i32_91 c1_i32_92
  let v117 : BitVec 32 := Scalar.addi v115 v116
  let c16_i32_93 : BitVec 32 := 16#32
  let v118 : BitVec 32 := Scalar.divsi v117 c16_i32_93
  let v119 : BitVec 32 := Scalar.subi v118 c0_i32_96
  let c1_i32_97 : BitVec 32 := 1#32
  let v121 : BitVec 32 := Scalar.divsi v119 c1_i32_97
  let v122 : BitVec 32 := Scalar.muli v121 c1_i32_97
  let v123 : BitVec 32 := Scalar.addi c0_i32_96 v122
  let v120 : BitVec 32 := Scalar.addi c0_i32_96 v119
  let c1_i32_99 : BitVec 32 := 1#32
  ⟨v123, v120, c1_i32_99⟩
def k0_off16 (v18 : BitVec 32) (k0_t16 : Fin (k0_t16_loop v18).trips) : Fin 1 → Nat :=
  let c0_i32_95 : BitVec 32 := 0#32
  let c0_i32_96 : BitVec 32 := 0#32
  let c16_i32_61 : BitVec 32 := 16#32
  let v83 : BitVec 32 := Scalar.addi v18 c16_i32_61
  let c1_i32_62 : BitVec 32 := 1#32
  let v84 : BitVec 32 := Scalar.subi v83 c1_i32_62
  let c0_i32_64 : BitVec 32 := 0#32
  let v86 : BitVec 1 := Scalar.cmpi .sgt v84 c0_i32_64
  let v87 : BitVec 32 := Scalar.extui v86
  let c0_i32_65 : BitVec 32 := 0#32
  let v88 : BitVec 1 := Scalar.cmpi .slt v84 c0_i32_65
  let v89 : BitVec 32 := Scalar.extui v88
  let v90 : BitVec 32 := Scalar.subi v87 v89
  let c16_i32_63 : BitVec 32 := 16#32
  let c0_i32_66 : BitVec 32 := 0#32
  let v91 : BitVec 1 := Scalar.cmpi .sgt c16_i32_63 c0_i32_66
  let v92 : BitVec 32 := Scalar.extui v91
  let c0_i32_67 : BitVec 32 := 0#32
  let v93 : BitVec 1 := Scalar.cmpi .slt c16_i32_63 c0_i32_67
  let v94 : BitVec 32 := Scalar.extui v93
  let v95 : BitVec 32 := Scalar.subi v92 v94
  let v96 : BitVec 1 := Scalar.cmpi .ne v90 v95
  let v97 : BitVec 32 := Scalar.remsi v84 c16_i32_63
  let c0_i32_68 : BitVec 32 := 0#32
  let v98 : BitVec 1 := Scalar.cmpi .ne v97 c0_i32_68
  let v99 : BitVec 1 := Scalar.andi v96 v98
  let v85 : BitVec 32 := Scalar.divsi v84 c16_i32_63
  let c1_i32_69 : BitVec 32 := 1#32
  let v100 : BitVec 32 := Scalar.subi v85 c1_i32_69
  let v101 : BitVec 32 := Scalar.select v99 v100 v85
  let c16_i32_70 : BitVec 32 := 16#32
  let v102 : BitVec 32 := Scalar.muli v101 c16_i32_70
  let c0_i32_90 : BitVec 32 := 0#32
  let v115 : BitVec 32 := Scalar.subi v102 c0_i32_90
  let c16_i32_91 : BitVec 32 := 16#32
  let c1_i32_92 : BitVec 32 := 1#32
  let v116 : BitVec 32 := Scalar.subi c16_i32_91 c1_i32_92
  let v117 : BitVec 32 := Scalar.addi v115 v116
  let c16_i32_93 : BitVec 32 := 16#32
  let v118 : BitVec 32 := Scalar.divsi v117 c16_i32_93
  let v119 : BitVec 32 := Scalar.subi v118 c0_i32_96
  let c1_i32_97 : BitVec 32 := 1#32
  let v121 : BitVec 32 := Scalar.divsi v119 c1_i32_97
  let v122 : BitVec 32 := Scalar.muli v121 c1_i32_97
  let v123 : BitVec 32 := Scalar.addi c0_i32_96 v122
  let c1_i32_99 : BitVec 32 := 1#32
  let arg21 : BitVec 32 := Scf.iv v123 c1_i32_99 k0_t16
  let c16_i32_94 : BitVec 32 := 16#32
  let v172 : BitVec 32 := Scalar.muli arg21 c16_i32_94
  let v173 : BitVec 32 := Scalar.addi c0_i32_95 v172
  let v174 : Index := Scalar.indexCast v173
  ![v174.toNat]

def k0_chk16 (v188 : IVec S16 32) : Prop :=
  (∀ a x, ((![v188] : Fin 1 → IVec S16 32) a x).toNat < S8192.size a) ∧
  (∀ a x, ((![v188] : Fin 1 → IVec S16 32) a x).toNat < S8208.size a)
theorem k0_idx20_inb : ∀ (v188 : IVec S16 32) (k0_hw16 : k0_chk16 v188), ∀ a x, ((![v188] : Fin 1 → IVec S16 32) a x).toNat < S8192.size a := fun v188 k0_hw16 => k0_hw16.1
theorem k0_idx21_inb : ∀ (v188 : IVec S16 32) (k0_hw16 : k0_chk16 v188), ∀ a x, ((![v188] : Fin 1 → IVec S16 32) a x).toNat < S8208.size a := fun v188 k0_hw16 => k0_hw16.2

def k0_chk15 (v183 : IVec S16 32) : Prop :=
  (∀ a x, ((![v183] : Fin 1 → IVec S16 32) a x).toNat < S2048.size a) ∧
  (∀ a x, ((![v183] : Fin 1 → IVec S16 32) a x).toNat < S2048.size a)
theorem k0_idx19_inb : ∀ (v183 : IVec S16 32) (k0_hw15 : k0_chk15 v183), ∀ a x, ((![v183] : Fin 1 → IVec S16 32) a x).toNat < S2048.size a := fun v183 k0_hw15 => k0_hw15.1
theorem k0_idx22_inb : ∀ (v183 : IVec S16 32) (k0_hw15 : k0_chk15 v183), ∀ a x, ((![v183] : Fin 1 → IVec S16 32) a x).toNat < S2048.size a := fun v183 k0_hw15 => k0_hw15.2
@[reducible] def k0_t17_loop : Scf.Loop 32 :=
  let c0_i32_100 : BitVec 32 := 0#32
  let c128_i32_101 : BitVec 32 := 128#32
  let v124 : BitVec 32 := Scalar.addi c0_i32_100 c128_i32_101
  let c1_i32_102 : BitVec 32 := 1#32
  ⟨c0_i32_100, v124, c1_i32_102⟩
def k0_off17 (k0_t17 : Fin k0_t17_loop.trips) : Fin 1 → Nat :=
  let c0_i32_163 : BitVec 32 := 0#32
  let c0_i32_100 : BitVec 32 := 0#32
  let c1_i32_102 : BitVec 32 := 1#32
  let arg21 : BitVec 32 := Scf.iv c0_i32_100 c1_i32_102 k0_t17
  let c16_i32_162 : BitVec 32 := 16#32
  let v172 : BitVec 32 := Scalar.muli arg21 c16_i32_162
  let v173 : BitVec 32 := Scalar.addi c0_i32_163 v172
  let v175 : Index := Scalar.indexCast v173
  ![v175.toNat]
@[reducible] def k0_t18_loop (v18 : BitVec 32) : Scf.Loop 32 :=
  let c0_i32_110 : BitVec 32 := 0#32
  let c16_i32_61 : BitVec 32 := 16#32
  let v83 : BitVec 32 := Scalar.addi v18 c16_i32_61
  let c1_i32_62 : BitVec 32 := 1#32
  let v84 : BitVec 32 := Scalar.subi v83 c1_i32_62
  let c0_i32_64 : BitVec 32 := 0#32
  let v86 : BitVec 1 := Scalar.cmpi .sgt v84 c0_i32_64
  let v87 : BitVec 32 := Scalar.extui v86
  let c0_i32_65 : BitVec 32 := 0#32
  let v88 : BitVec 1 := Scalar.cmpi .slt v84 c0_i32_65
  let v89 : BitVec 32 := Scalar.extui v88
  let v90 : BitVec 32 := Scalar.subi v87 v89
  let c16_i32_63 : BitVec 32 := 16#32
  let c0_i32_66 : BitVec 32 := 0#32
  let v91 : BitVec 1 := Scalar.cmpi .sgt c16_i32_63 c0_i32_66
  let v92 : BitVec 32 := Scalar.extui v91
  let c0_i32_67 : BitVec 32 := 0#32
  let v93 : BitVec 1 := Scalar.cmpi .slt c16_i32_63 c0_i32_67
  let v94 : BitVec 32 := Scalar.extui v93
  let v95 : BitVec 32 := Scalar.subi v92 v94
  let v96 : BitVec 1 := Scalar.cmpi .ne v90 v95
  let v97 : BitVec 32 := Scalar.remsi v84 c16_i32_63
  let c0_i32_68 : BitVec 32 := 0#32
  let v98 : BitVec 1 := Scalar.cmpi .ne v97 c0_i32_68
  let v99 : BitVec 1 := Scalar.andi v96 v98
  let v85 : BitVec 32 := Scalar.divsi v84 c16_i32_63
  let c1_i32_69 : BitVec 32 := 1#32
  let v100 : BitVec 32 := Scalar.subi v85 c1_i32_69
  let v101 : BitVec 32 := Scalar.select v99 v100 v85
  let c16_i32_70 : BitVec 32 := 16#32
  let v102 : BitVec 32 := Scalar.muli v101 c16_i32_70
  let c0_i32_104 : BitVec 32 := 0#32
  let v125 : BitVec 32 := Scalar.subi v102 c0_i32_104
  let c16_i32_105 : BitVec 32 := 16#32
  let c1_i32_106 : BitVec 32 := 1#32
  let v126 : BitVec 32 := Scalar.subi c16_i32_105 c1_i32_106
  let v127 : BitVec 32 := Scalar.addi v125 v126
  let c16_i32_107 : BitVec 32 := 16#32
  let v128 : BitVec 32 := Scalar.divsi v127 c16_i32_107
  let v129 : BitVec 32 := Scalar.subi v128 c0_i32_110
  let c1_i32_111 : BitVec 32 := 1#32
  let v131 : BitVec 32 := Scalar.divsi v129 c1_i32_111
  let v132 : BitVec 32 := Scalar.muli v131 c1_i32_111
  let v133 : BitVec 32 := Scalar.addi c0_i32_110 v132
  let c1_i32_112 : BitVec 32 := 1#32
  ⟨c0_i32_110, v133, c1_i32_112⟩
def k0_off18 (v18 : BitVec 32) (k0_t18 : Fin (k0_t18_loop v18).trips) : Fin 1 → Nat :=
  let c0_i32_109 : BitVec 32 := 0#32
  let c0_i32_110 : BitVec 32 := 0#32
  let c1_i32_112 : BitVec 32 := 1#32
  let arg21 : BitVec 32 := Scf.iv c0_i32_110 c1_i32_112 k0_t18
  let c16_i32_108 : BitVec 32 := 16#32
  let v172 : BitVec 32 := Scalar.muli arg21 c16_i32_108
  let v173 : BitVec 32 := Scalar.addi c0_i32_109 v172
  let v174 : Index := Scalar.indexCast v173
  ![v174.toNat]

def k0_chk17 (v179 : IVec S16 32) : Prop :=
  (∀ a x, ((![v179] : Fin 1 → IVec S16 32) a x).toNat < S2048.size a)
theorem k0_idx23_inb : ∀ (v179 : IVec S16 32) (k0_hw17 : k0_chk17 v179), ∀ a x, ((![v179] : Fin 1 → IVec S16 32) a x).toNat < S2048.size a := fun v179 k0_hw17 => k0_hw17
@[reducible] def k0_t19_loop (v18 : BitVec 32) : Scf.Loop 32 :=
  let c0_i32_110 : BitVec 32 := 0#32
  let c16_i32_61 : BitVec 32 := 16#32
  let v83 : BitVec 32 := Scalar.addi v18 c16_i32_61
  let c1_i32_62 : BitVec 32 := 1#32
  let v84 : BitVec 32 := Scalar.subi v83 c1_i32_62
  let c0_i32_64 : BitVec 32 := 0#32
  let v86 : BitVec 1 := Scalar.cmpi .sgt v84 c0_i32_64
  let v87 : BitVec 32 := Scalar.extui v86
  let c0_i32_65 : BitVec 32 := 0#32
  let v88 : BitVec 1 := Scalar.cmpi .slt v84 c0_i32_65
  let v89 : BitVec 32 := Scalar.extui v88
  let v90 : BitVec 32 := Scalar.subi v87 v89
  let c16_i32_63 : BitVec 32 := 16#32
  let c0_i32_66 : BitVec 32 := 0#32
  let v91 : BitVec 1 := Scalar.cmpi .sgt c16_i32_63 c0_i32_66
  let v92 : BitVec 32 := Scalar.extui v91
  let c0_i32_67 : BitVec 32 := 0#32
  let v93 : BitVec 1 := Scalar.cmpi .slt c16_i32_63 c0_i32_67
  let v94 : BitVec 32 := Scalar.extui v93
  let v95 : BitVec 32 := Scalar.subi v92 v94
  let v96 : BitVec 1 := Scalar.cmpi .ne v90 v95
  let v97 : BitVec 32 := Scalar.remsi v84 c16_i32_63
  let c0_i32_68 : BitVec 32 := 0#32
  let v98 : BitVec 1 := Scalar.cmpi .ne v97 c0_i32_68
  let v99 : BitVec 1 := Scalar.andi v96 v98
  let v85 : BitVec 32 := Scalar.divsi v84 c16_i32_63
  let c1_i32_69 : BitVec 32 := 1#32
  let v100 : BitVec 32 := Scalar.subi v85 c1_i32_69
  let v101 : BitVec 32 := Scalar.select v99 v100 v85
  let c16_i32_70 : BitVec 32 := 16#32
  let v102 : BitVec 32 := Scalar.muli v101 c16_i32_70
  let c0_i32_104 : BitVec 32 := 0#32
  let v125 : BitVec 32 := Scalar.subi v102 c0_i32_104
  let c16_i32_105 : BitVec 32 := 16#32
  let c1_i32_106 : BitVec 32 := 1#32
  let v126 : BitVec 32 := Scalar.subi c16_i32_105 c1_i32_106
  let v127 : BitVec 32 := Scalar.addi v125 v126
  let c16_i32_107 : BitVec 32 := 16#32
  let v128 : BitVec 32 := Scalar.divsi v127 c16_i32_107
  let v129 : BitVec 32 := Scalar.subi v128 c0_i32_110
  let c1_i32_111 : BitVec 32 := 1#32
  let v131 : BitVec 32 := Scalar.divsi v129 c1_i32_111
  let v132 : BitVec 32 := Scalar.muli v131 c1_i32_111
  let v133 : BitVec 32 := Scalar.addi c0_i32_110 v132
  let v130 : BitVec 32 := Scalar.addi c0_i32_110 v129
  let c1_i32_113 : BitVec 32 := 1#32
  ⟨v133, v130, c1_i32_113⟩
def k0_off19 (v18 : BitVec 32) (k0_t19 : Fin (k0_t19_loop v18).trips) : Fin 1 → Nat :=
  let c0_i32_109 : BitVec 32 := 0#32
  let c0_i32_110 : BitVec 32 := 0#32
  let c16_i32_61 : BitVec 32 := 16#32
  let v83 : BitVec 32 := Scalar.addi v18 c16_i32_61
  let c1_i32_62 : BitVec 32 := 1#32
  let v84 : BitVec 32 := Scalar.subi v83 c1_i32_62
  let c0_i32_64 : BitVec 32 := 0#32
  let v86 : BitVec 1 := Scalar.cmpi .sgt v84 c0_i32_64
  let v87 : BitVec 32 := Scalar.extui v86
  let c0_i32_65 : BitVec 32 := 0#32
  let v88 : BitVec 1 := Scalar.cmpi .slt v84 c0_i32_65
  let v89 : BitVec 32 := Scalar.extui v88
  let v90 : BitVec 32 := Scalar.subi v87 v89
  let c16_i32_63 : BitVec 32 := 16#32
  let c0_i32_66 : BitVec 32 := 0#32
  let v91 : BitVec 1 := Scalar.cmpi .sgt c16_i32_63 c0_i32_66
  let v92 : BitVec 32 := Scalar.extui v91
  let c0_i32_67 : BitVec 32 := 0#32
  let v93 : BitVec 1 := Scalar.cmpi .slt c16_i32_63 c0_i32_67
  let v94 : BitVec 32 := Scalar.extui v93
  let v95 : BitVec 32 := Scalar.subi v92 v94
  let v96 : BitVec 1 := Scalar.cmpi .ne v90 v95
  let v97 : BitVec 32 := Scalar.remsi v84 c16_i32_63
  let c0_i32_68 : BitVec 32 := 0#32
  let v98 : BitVec 1 := Scalar.cmpi .ne v97 c0_i32_68
  let v99 : BitVec 1 := Scalar.andi v96 v98
  let v85 : BitVec 32 := Scalar.divsi v84 c16_i32_63
  let c1_i32_69 : BitVec 32 := 1#32
  let v100 : BitVec 32 := Scalar.subi v85 c1_i32_69
  let v101 : BitVec 32 := Scalar.select v99 v100 v85
  let c16_i32_70 : BitVec 32 := 16#32
  let v102 : BitVec 32 := Scalar.muli v101 c16_i32_70
  let c0_i32_104 : BitVec 32 := 0#32
  let v125 : BitVec 32 := Scalar.subi v102 c0_i32_104
  let c16_i32_105 : BitVec 32 := 16#32
  let c1_i32_106 : BitVec 32 := 1#32
  let v126 : BitVec 32 := Scalar.subi c16_i32_105 c1_i32_106
  let v127 : BitVec 32 := Scalar.addi v125 v126
  let c16_i32_107 : BitVec 32 := 16#32
  let v128 : BitVec 32 := Scalar.divsi v127 c16_i32_107
  let v129 : BitVec 32 := Scalar.subi v128 c0_i32_110
  let c1_i32_111 : BitVec 32 := 1#32
  let v131 : BitVec 32 := Scalar.divsi v129 c1_i32_111
  let v132 : BitVec 32 := Scalar.muli v131 c1_i32_111
  let v133 : BitVec 32 := Scalar.addi c0_i32_110 v132
  let c1_i32_113 : BitVec 32 := 1#32
  let arg21 : BitVec 32 := Scf.iv v133 c1_i32_113 k0_t19
  let c16_i32_108 : BitVec 32 := 16#32
  let v172 : BitVec 32 := Scalar.muli arg21 c16_i32_108
  let v173 : BitVec 32 := Scalar.addi c0_i32_109 v172
  let v174 : Index := Scalar.indexCast v173
  ![v174.toNat]

def k0_chk18 (v179 : IVec S16 32) : Prop :=
  (∀ a x, ((![v179] : Fin 1 → IVec S16 32) a x).toNat < S2048.size a)
theorem k0_idx24_inb : ∀ (v179 : IVec S16 32) (k0_hw18 : k0_chk18 v179), ∀ a x, ((![v179] : Fin 1 → IVec S16 32) a x).toNat < S2048.size a := fun v179 k0_hw18 => k0_hw18
@[reducible] def k0_t20_loop : Scf.Loop 32 :=
  let c0_i32_115 : BitVec 32 := 0#32
  let c128_i32_116 : BitVec 32 := 128#32
  let v134 : BitVec 32 := Scalar.addi c0_i32_115 c128_i32_116
  let c1_i32_117 : BitVec 32 := 1#32
  ⟨c0_i32_115, v134, c1_i32_117⟩
def k0_off20 (k0_t20 : Fin k0_t20_loop.trips) : Fin 1 → Nat :=
  let c0_i32_163 : BitVec 32 := 0#32
  let c0_i32_115 : BitVec 32 := 0#32
  let c1_i32_117 : BitVec 32 := 1#32
  let arg21 : BitVec 32 := Scf.iv c0_i32_115 c1_i32_117 k0_t20
  let c1_i32_162 : BitVec 32 := 1#32
  let v172 : BitVec 32 := Scalar.muli arg21 c1_i32_162
  let v173 : BitVec 32 := Scalar.addi c0_i32_163 v172
  let c16_i32_164 : BitVec 32 := 16#32
  let v174 : BitVec 32 := Scalar.muli v173 c16_i32_164
  let v175 : Index := Scalar.indexCast v174
  ![v175.toNat]
@[reducible] def k0_t21_loop (v18 : BitVec 32) : Scf.Loop 32 :=
  let c0_i32_125 : BitVec 32 := 0#32
  let c16_i32_61 : BitVec 32 := 16#32
  let v83 : BitVec 32 := Scalar.addi v18 c16_i32_61
  let c1_i32_62 : BitVec 32 := 1#32
  let v84 : BitVec 32 := Scalar.subi v83 c1_i32_62
  let c0_i32_64 : BitVec 32 := 0#32
  let v86 : BitVec 1 := Scalar.cmpi .sgt v84 c0_i32_64
  let v87 : BitVec 32 := Scalar.extui v86
  let c0_i32_65 : BitVec 32 := 0#32
  let v88 : BitVec 1 := Scalar.cmpi .slt v84 c0_i32_65
  let v89 : BitVec 32 := Scalar.extui v88
  let v90 : BitVec 32 := Scalar.subi v87 v89
  let c16_i32_63 : BitVec 32 := 16#32
  let c0_i32_66 : BitVec 32 := 0#32
  let v91 : BitVec 1 := Scalar.cmpi .sgt c16_i32_63 c0_i32_66
  let v92 : BitVec 32 := Scalar.extui v91
  let c0_i32_67 : BitVec 32 := 0#32
  let v93 : BitVec 1 := Scalar.cmpi .slt c16_i32_63 c0_i32_67
  let v94 : BitVec 32 := Scalar.extui v93
  let v95 : BitVec 32 := Scalar.subi v92 v94
  let v96 : BitVec 1 := Scalar.cmpi .ne v90 v95
  let v97 : BitVec 32 := Scalar.remsi v84 c16_i32_63
  let c0_i32_68 : BitVec 32 := 0#32
  let v98 : BitVec 1 := Scalar.cmpi .ne v97 c0_i32_68
  let v99 : BitVec 1 := Scalar.andi v96 v98
  let v85 : BitVec 32 := Scalar.divsi v84 c16_i32_63
  let c1_i32_69 : BitVec 32 := 1#32
  let v100 : BitVec 32 := Scalar.subi v85 c1_i32_69
  let v101 : BitVec 32 := Scalar.select v99 v100 v85
  let c16_i32_70 : BitVec 32 := 16#32
  let v102 : BitVec 32 := Scalar.muli v101 c16_i32_70
  let c0_i32_119 : BitVec 32 := 0#32
  let v136 : BitVec 32 := Scalar.subi v102 c0_i32_119
  let c16_i32_120 : BitVec 32 := 16#32
  let c1_i32_121 : BitVec 32 := 1#32
  let v137 : BitVec 32 := Scalar.subi c16_i32_120 c1_i32_121
  let v138 : BitVec 32 := Scalar.addi v136 v137
  let c16_i32_122 : BitVec 32 := 16#32
  let v139 : BitVec 32 := Scalar.divsi v138 c16_i32_122
  let v140 : BitVec 32 := Scalar.subi v139 c0_i32_125
  let c1_i32_126 : BitVec 32 := 1#32
  let v142 : BitVec 32 := Scalar.divsi v140 c1_i32_126
  let v143 : BitVec 32 := Scalar.muli v142 c1_i32_126
  let v144 : BitVec 32 := Scalar.addi c0_i32_125 v143
  let c1_i32_127 : BitVec 32 := 1#32
  ⟨c0_i32_125, v144, c1_i32_127⟩
def k0_off21 (v18 : BitVec 32) (k0_t21 : Fin (k0_t21_loop v18).trips) : Fin 1 → Nat :=
  let c0_i32_124 : BitVec 32 := 0#32
  let c0_i32_125 : BitVec 32 := 0#32
  let c1_i32_127 : BitVec 32 := 1#32
  let arg21 : BitVec 32 := Scf.iv c0_i32_125 c1_i32_127 k0_t21
  let c16_i32_123 : BitVec 32 := 16#32
  let v172 : BitVec 32 := Scalar.muli arg21 c16_i32_123
  let v173 : BitVec 32 := Scalar.addi c0_i32_124 v172
  let v174 : Index := Scalar.indexCast v173
  ![v174.toNat]
def k0_off22 (v18 : BitVec 32) (k0_t21 : Fin (k0_t21_loop v18).trips) : Fin 1 → Nat :=
  let c0_i32_124 : BitVec 32 := 0#32
  let c0_i32_125 : BitVec 32 := 0#32
  let c1_i32_127 : BitVec 32 := 1#32
  let arg21 : BitVec 32 := Scf.iv c0_i32_125 c1_i32_127 k0_t21
  let c16_i32_123 : BitVec 32 := 16#32
  let v172 : BitVec 32 := Scalar.muli arg21 c16_i32_123
  let v173 : BitVec 32 := Scalar.addi c0_i32_124 v172
  let v176 : Index := Scalar.indexCast v173
  ![v176.toNat]

def k0_chk20 (v186 : IVec S16 32) : Prop :=
  (∀ a x, ((![v186] : Fin 1 → IVec S16 32) a x).toNat < S8192.size a) ∧
  (∀ a x, ((![v186] : Fin 1 → IVec S16 32) a x).toNat < S8192.size a)
theorem k0_idx26_inb : ∀ (v186 : IVec S16 32) (k0_hw20 : k0_chk20 v186), ∀ a x, ((![v186] : Fin 1 → IVec S16 32) a x).toNat < S8192.size a := fun v186 k0_hw20 => k0_hw20.1
theorem k0_idx27_inb : ∀ (v186 : IVec S16 32) (k0_hw20 : k0_chk20 v186), ∀ a x, ((![v186] : Fin 1 → IVec S16 32) a x).toNat < S8192.size a := fun v186 k0_hw20 => k0_hw20.2

def k0_chk19 (v181 : IVec S16 32) : Prop :=
  (∀ a x, ((![v181] : Fin 1 → IVec S16 32) a x).toNat < S2048.size a) ∧
  (∀ a x, ((![v181] : Fin 1 → IVec S16 32) a x).toNat < S2048.size a)
theorem k0_idx25_inb : ∀ (v181 : IVec S16 32) (k0_hw19 : k0_chk19 v181), ∀ a x, ((![v181] : Fin 1 → IVec S16 32) a x).toNat < S2048.size a := fun v181 k0_hw19 => k0_hw19.1
theorem k0_idx28_inb : ∀ (v181 : IVec S16 32) (k0_hw19 : k0_chk19 v181), ∀ a x, ((![v181] : Fin 1 → IVec S16 32) a x).toNat < S2048.size a := fun v181 k0_hw19 => k0_hw19.2
@[reducible] def k0_t22_loop (v18 : BitVec 32) : Scf.Loop 32 :=
  let c0_i32_125 : BitVec 32 := 0#32
  let c16_i32_61 : BitVec 32 := 16#32
  let v83 : BitVec 32 := Scalar.addi v18 c16_i32_61
  let c1_i32_62 : BitVec 32 := 1#32
  let v84 : BitVec 32 := Scalar.subi v83 c1_i32_62
  let c0_i32_64 : BitVec 32 := 0#32
  let v86 : BitVec 1 := Scalar.cmpi .sgt v84 c0_i32_64
  let v87 : BitVec 32 := Scalar.extui v86
  let c0_i32_65 : BitVec 32 := 0#32
  let v88 : BitVec 1 := Scalar.cmpi .slt v84 c0_i32_65
  let v89 : BitVec 32 := Scalar.extui v88
  let v90 : BitVec 32 := Scalar.subi v87 v89
  let c16_i32_63 : BitVec 32 := 16#32
  let c0_i32_66 : BitVec 32 := 0#32
  let v91 : BitVec 1 := Scalar.cmpi .sgt c16_i32_63 c0_i32_66
  let v92 : BitVec 32 := Scalar.extui v91
  let c0_i32_67 : BitVec 32 := 0#32
  let v93 : BitVec 1 := Scalar.cmpi .slt c16_i32_63 c0_i32_67
  let v94 : BitVec 32 := Scalar.extui v93
  let v95 : BitVec 32 := Scalar.subi v92 v94
  let v96 : BitVec 1 := Scalar.cmpi .ne v90 v95
  let v97 : BitVec 32 := Scalar.remsi v84 c16_i32_63
  let c0_i32_68 : BitVec 32 := 0#32
  let v98 : BitVec 1 := Scalar.cmpi .ne v97 c0_i32_68
  let v99 : BitVec 1 := Scalar.andi v96 v98
  let v85 : BitVec 32 := Scalar.divsi v84 c16_i32_63
  let c1_i32_69 : BitVec 32 := 1#32
  let v100 : BitVec 32 := Scalar.subi v85 c1_i32_69
  let v101 : BitVec 32 := Scalar.select v99 v100 v85
  let c16_i32_70 : BitVec 32 := 16#32
  let v102 : BitVec 32 := Scalar.muli v101 c16_i32_70
  let c0_i32_119 : BitVec 32 := 0#32
  let v136 : BitVec 32 := Scalar.subi v102 c0_i32_119
  let c16_i32_120 : BitVec 32 := 16#32
  let c1_i32_121 : BitVec 32 := 1#32
  let v137 : BitVec 32 := Scalar.subi c16_i32_120 c1_i32_121
  let v138 : BitVec 32 := Scalar.addi v136 v137
  let c16_i32_122 : BitVec 32 := 16#32
  let v139 : BitVec 32 := Scalar.divsi v138 c16_i32_122
  let v140 : BitVec 32 := Scalar.subi v139 c0_i32_125
  let c1_i32_126 : BitVec 32 := 1#32
  let v142 : BitVec 32 := Scalar.divsi v140 c1_i32_126
  let v143 : BitVec 32 := Scalar.muli v142 c1_i32_126
  let v144 : BitVec 32 := Scalar.addi c0_i32_125 v143
  let v141 : BitVec 32 := Scalar.addi c0_i32_125 v140
  let c1_i32_128 : BitVec 32 := 1#32
  ⟨v144, v141, c1_i32_128⟩
def k0_off23 (v18 : BitVec 32) (k0_t22 : Fin (k0_t22_loop v18).trips) : Fin 1 → Nat :=
  let c0_i32_124 : BitVec 32 := 0#32
  let c0_i32_125 : BitVec 32 := 0#32
  let c16_i32_61 : BitVec 32 := 16#32
  let v83 : BitVec 32 := Scalar.addi v18 c16_i32_61
  let c1_i32_62 : BitVec 32 := 1#32
  let v84 : BitVec 32 := Scalar.subi v83 c1_i32_62
  let c0_i32_64 : BitVec 32 := 0#32
  let v86 : BitVec 1 := Scalar.cmpi .sgt v84 c0_i32_64
  let v87 : BitVec 32 := Scalar.extui v86
  let c0_i32_65 : BitVec 32 := 0#32
  let v88 : BitVec 1 := Scalar.cmpi .slt v84 c0_i32_65
  let v89 : BitVec 32 := Scalar.extui v88
  let v90 : BitVec 32 := Scalar.subi v87 v89
  let c16_i32_63 : BitVec 32 := 16#32
  let c0_i32_66 : BitVec 32 := 0#32
  let v91 : BitVec 1 := Scalar.cmpi .sgt c16_i32_63 c0_i32_66
  let v92 : BitVec 32 := Scalar.extui v91
  let c0_i32_67 : BitVec 32 := 0#32
  let v93 : BitVec 1 := Scalar.cmpi .slt c16_i32_63 c0_i32_67
  let v94 : BitVec 32 := Scalar.extui v93
  let v95 : BitVec 32 := Scalar.subi v92 v94
  let v96 : BitVec 1 := Scalar.cmpi .ne v90 v95
  let v97 : BitVec 32 := Scalar.remsi v84 c16_i32_63
  let c0_i32_68 : BitVec 32 := 0#32
  let v98 : BitVec 1 := Scalar.cmpi .ne v97 c0_i32_68
  let v99 : BitVec 1 := Scalar.andi v96 v98
  let v85 : BitVec 32 := Scalar.divsi v84 c16_i32_63
  let c1_i32_69 : BitVec 32 := 1#32
  let v100 : BitVec 32 := Scalar.subi v85 c1_i32_69
  let v101 : BitVec 32 := Scalar.select v99 v100 v85
  let c16_i32_70 : BitVec 32 := 16#32
  let v102 : BitVec 32 := Scalar.muli v101 c16_i32_70
  let c0_i32_119 : BitVec 32 := 0#32
  let v136 : BitVec 32 := Scalar.subi v102 c0_i32_119
  let c16_i32_120 : BitVec 32 := 16#32
  let c1_i32_121 : BitVec 32 := 1#32
  let v137 : BitVec 32 := Scalar.subi c16_i32_120 c1_i32_121
  let v138 : BitVec 32 := Scalar.addi v136 v137
  let c16_i32_122 : BitVec 32 := 16#32
  let v139 : BitVec 32 := Scalar.divsi v138 c16_i32_122
  let v140 : BitVec 32 := Scalar.subi v139 c0_i32_125
  let c1_i32_126 : BitVec 32 := 1#32
  let v142 : BitVec 32 := Scalar.divsi v140 c1_i32_126
  let v143 : BitVec 32 := Scalar.muli v142 c1_i32_126
  let v144 : BitVec 32 := Scalar.addi c0_i32_125 v143
  let c1_i32_128 : BitVec 32 := 1#32
  let arg21 : BitVec 32 := Scf.iv v144 c1_i32_128 k0_t22
  let c16_i32_123 : BitVec 32 := 16#32
  let v172 : BitVec 32 := Scalar.muli arg21 c16_i32_123
  let v173 : BitVec 32 := Scalar.addi c0_i32_124 v172
  let v174 : Index := Scalar.indexCast v173
  ![v174.toNat]
def k0_off24 (v18 : BitVec 32) (k0_t22 : Fin (k0_t22_loop v18).trips) : Fin 1 → Nat :=
  let c0_i32_124 : BitVec 32 := 0#32
  let c0_i32_125 : BitVec 32 := 0#32
  let c16_i32_61 : BitVec 32 := 16#32
  let v83 : BitVec 32 := Scalar.addi v18 c16_i32_61
  let c1_i32_62 : BitVec 32 := 1#32
  let v84 : BitVec 32 := Scalar.subi v83 c1_i32_62
  let c0_i32_64 : BitVec 32 := 0#32
  let v86 : BitVec 1 := Scalar.cmpi .sgt v84 c0_i32_64
  let v87 : BitVec 32 := Scalar.extui v86
  let c0_i32_65 : BitVec 32 := 0#32
  let v88 : BitVec 1 := Scalar.cmpi .slt v84 c0_i32_65
  let v89 : BitVec 32 := Scalar.extui v88
  let v90 : BitVec 32 := Scalar.subi v87 v89
  let c16_i32_63 : BitVec 32 := 16#32
  let c0_i32_66 : BitVec 32 := 0#32
  let v91 : BitVec 1 := Scalar.cmpi .sgt c16_i32_63 c0_i32_66
  let v92 : BitVec 32 := Scalar.extui v91
  let c0_i32_67 : BitVec 32 := 0#32
  let v93 : BitVec 1 := Scalar.cmpi .slt c16_i32_63 c0_i32_67
  let v94 : BitVec 32 := Scalar.extui v93
  let v95 : BitVec 32 := Scalar.subi v92 v94
  let v96 : BitVec 1 := Scalar.cmpi .ne v90 v95
  let v97 : BitVec 32 := Scalar.remsi v84 c16_i32_63
  let c0_i32_68 : BitVec 32 := 0#32
  let v98 : BitVec 1 := Scalar.cmpi .ne v97 c0_i32_68
  let v99 : BitVec 1 := Scalar.andi v96 v98
  let v85 : BitVec 32 := Scalar.divsi v84 c16_i32_63
  let c1_i32_69 : BitVec 32 := 1#32
  let v100 : BitVec 32 := Scalar.subi v85 c1_i32_69
  let v101 : BitVec 32 := Scalar.select v99 v100 v85
  let c16_i32_70 : BitVec 32 := 16#32
  let v102 : BitVec 32 := Scalar.muli v101 c16_i32_70
  let c0_i32_119 : BitVec 32 := 0#32
  let v136 : BitVec 32 := Scalar.subi v102 c0_i32_119
  let c16_i32_120 : BitVec 32 := 16#32
  let c1_i32_121 : BitVec 32 := 1#32
  let v137 : BitVec 32 := Scalar.subi c16_i32_120 c1_i32_121
  let v138 : BitVec 32 := Scalar.addi v136 v137
  let c16_i32_122 : BitVec 32 := 16#32
  let v139 : BitVec 32 := Scalar.divsi v138 c16_i32_122
  let v140 : BitVec 32 := Scalar.subi v139 c0_i32_125
  let c1_i32_126 : BitVec 32 := 1#32
  let v142 : BitVec 32 := Scalar.divsi v140 c1_i32_126
  let v143 : BitVec 32 := Scalar.muli v142 c1_i32_126
  let v144 : BitVec 32 := Scalar.addi c0_i32_125 v143
  let c1_i32_128 : BitVec 32 := 1#32
  let arg21 : BitVec 32 := Scf.iv v144 c1_i32_128 k0_t22
  let c16_i32_123 : BitVec 32 := 16#32
  let v172 : BitVec 32 := Scalar.muli arg21 c16_i32_123
  let v173 : BitVec 32 := Scalar.addi c0_i32_124 v172
  let v176 : Index := Scalar.indexCast v173
  ![v176.toNat]

def k0_chk22 (v186 : IVec S16 32) : Prop :=
  (∀ a x, ((![v186] : Fin 1 → IVec S16 32) a x).toNat < S8192.size a) ∧
  (∀ a x, ((![v186] : Fin 1 → IVec S16 32) a x).toNat < S8192.size a)
theorem k0_idx30_inb : ∀ (v186 : IVec S16 32) (k0_hw22 : k0_chk22 v186), ∀ a x, ((![v186] : Fin 1 → IVec S16 32) a x).toNat < S8192.size a := fun v186 k0_hw22 => k0_hw22.1
theorem k0_idx31_inb : ∀ (v186 : IVec S16 32) (k0_hw22 : k0_chk22 v186), ∀ a x, ((![v186] : Fin 1 → IVec S16 32) a x).toNat < S8192.size a := fun v186 k0_hw22 => k0_hw22.2

def k0_chk21 (v181 : IVec S16 32) : Prop :=
  (∀ a x, ((![v181] : Fin 1 → IVec S16 32) a x).toNat < S2048.size a) ∧
  (∀ a x, ((![v181] : Fin 1 → IVec S16 32) a x).toNat < S2048.size a)
theorem k0_idx29_inb : ∀ (v181 : IVec S16 32) (k0_hw21 : k0_chk21 v181), ∀ a x, ((![v181] : Fin 1 → IVec S16 32) a x).toNat < S2048.size a := fun v181 k0_hw21 => k0_hw21.1
theorem k0_idx32_inb : ∀ (v181 : IVec S16 32) (k0_hw21 : k0_chk21 v181), ∀ a x, ((![v181] : Fin 1 → IVec S16 32) a x).toNat < S2048.size a := fun v181 k0_hw21 => k0_hw21.2
@[reducible] def k0_t23_loop (v18 : BitVec 32) : Scf.Loop 32 :=
  let c0_i32_135 : BitVec 32 := 0#32
  let c16_i32_61 : BitVec 32 := 16#32
  let v83 : BitVec 32 := Scalar.addi v18 c16_i32_61
  let c1_i32_62 : BitVec 32 := 1#32
  let v84 : BitVec 32 := Scalar.subi v83 c1_i32_62
  let c0_i32_64 : BitVec 32 := 0#32
  let v86 : BitVec 1 := Scalar.cmpi .sgt v84 c0_i32_64
  let v87 : BitVec 32 := Scalar.extui v86
  let c0_i32_65 : BitVec 32 := 0#32
  let v88 : BitVec 1 := Scalar.cmpi .slt v84 c0_i32_65
  let v89 : BitVec 32 := Scalar.extui v88
  let v90 : BitVec 32 := Scalar.subi v87 v89
  let c16_i32_63 : BitVec 32 := 16#32
  let c0_i32_66 : BitVec 32 := 0#32
  let v91 : BitVec 1 := Scalar.cmpi .sgt c16_i32_63 c0_i32_66
  let v92 : BitVec 32 := Scalar.extui v91
  let c0_i32_67 : BitVec 32 := 0#32
  let v93 : BitVec 1 := Scalar.cmpi .slt c16_i32_63 c0_i32_67
  let v94 : BitVec 32 := Scalar.extui v93
  let v95 : BitVec 32 := Scalar.subi v92 v94
  let v96 : BitVec 1 := Scalar.cmpi .ne v90 v95
  let v97 : BitVec 32 := Scalar.remsi v84 c16_i32_63
  let c0_i32_68 : BitVec 32 := 0#32
  let v98 : BitVec 1 := Scalar.cmpi .ne v97 c0_i32_68
  let v99 : BitVec 1 := Scalar.andi v96 v98
  let v85 : BitVec 32 := Scalar.divsi v84 c16_i32_63
  let c1_i32_69 : BitVec 32 := 1#32
  let v100 : BitVec 32 := Scalar.subi v85 c1_i32_69
  let v101 : BitVec 32 := Scalar.select v99 v100 v85
  let c16_i32_70 : BitVec 32 := 16#32
  let v102 : BitVec 32 := Scalar.muli v101 c16_i32_70
  let c0_i32_129 : BitVec 32 := 0#32
  let v145 : BitVec 32 := Scalar.subi v102 c0_i32_129
  let c16_i32_130 : BitVec 32 := 16#32
  let c1_i32_131 : BitVec 32 := 1#32
  let v146 : BitVec 32 := Scalar.subi c16_i32_130 c1_i32_131
  let v147 : BitVec 32 := Scalar.addi v145 v146
  let c16_i32_132 : BitVec 32 := 16#32
  let v148 : BitVec 32 := Scalar.divsi v147 c16_i32_132
  let v149 : BitVec 32 := Scalar.subi v148 c0_i32_135
  let c1_i32_137 : BitVec 32 := 1#32
  let v151 : BitVec 32 := Scalar.divsi v149 c1_i32_137
  let v152 : BitVec 32 := Scalar.muli v151 c1_i32_137
  let v153 : BitVec 32 := Scalar.addi c0_i32_135 v152
  let c1_i32_138 : BitVec 32 := 1#32
  ⟨c0_i32_135, v153, c1_i32_138⟩
def k0_off25 (v18 : BitVec 32) (k0_t23 : Fin (k0_t23_loop v18).trips) : Fin 1 → Nat :=
  let c0_i32_134 : BitVec 32 := 0#32
  let c0_i32_135 : BitVec 32 := 0#32
  let c1_i32_138 : BitVec 32 := 1#32
  let arg21 : BitVec 32 := Scf.iv c0_i32_135 c1_i32_138 k0_t23
  let c16_i32_133 : BitVec 32 := 16#32
  let v172 : BitVec 32 := Scalar.muli arg21 c16_i32_133
  let v173 : BitVec 32 := Scalar.addi c0_i32_134 v172
  let v174 : Index := Scalar.indexCast v173
  ![v174.toNat]

def k0_chk23 (v175 : IVec S16 32) : Prop :=
  (∀ a x, ((![v175] : Fin 1 → IVec S16 32) a x).toNat < S8208.size a)
theorem k0_idx33_inb : ∀ (v175 : IVec S16 32) (k0_hw23 : k0_chk23 v175), ∀ a x, ((![v175] : Fin 1 → IVec S16 32) a x).toNat < S8208.size a := fun v175 k0_hw23 => k0_hw23

def k0_chk24 (v182 : IVec S16 32) : Prop :=
  (∀ a x, ((![v182] : Fin 1 → IVec S16 32) a x).toNat < S8208.size a)
theorem k0_idx34_inb : ∀ (v182 : IVec S16 32) (k0_hw24 : k0_chk24 v182), ∀ a x, ((![v182] : Fin 1 → IVec S16 32) a x).toNat < S8208.size a := fun v182 k0_hw24 => k0_hw24
def k0_off26 (v18 : BitVec 32) (k0_t23 : Fin (k0_t23_loop v18).trips) : Fin 1 → Nat :=
  let c0_i32_134 : BitVec 32 := 0#32
  let c0_i32_135 : BitVec 32 := 0#32
  let c1_i32_138 : BitVec 32 := 1#32
  let arg21 : BitVec 32 := Scf.iv c0_i32_135 c1_i32_138 k0_t23
  let c16_i32_133 : BitVec 32 := 16#32
  let v172 : BitVec 32 := Scalar.muli arg21 c16_i32_133
  let v173 : BitVec 32 := Scalar.addi c0_i32_134 v172
  let v192 : Index := Scalar.indexCast v173
  ![v192.toNat]
@[reducible] def k0_t24_loop (v18 : BitVec 32) : Scf.Loop 32 :=
  let c0_i32_135 : BitVec 32 := 0#32
  let c16_i32_61 : BitVec 32 := 16#32
  let v83 : BitVec 32 := Scalar.addi v18 c16_i32_61
  let c1_i32_62 : BitVec 32 := 1#32
  let v84 : BitVec 32 := Scalar.subi v83 c1_i32_62
  let c0_i32_64 : BitVec 32 := 0#32
  let v86 : BitVec 1 := Scalar.cmpi .sgt v84 c0_i32_64
  let v87 : BitVec 32 := Scalar.extui v86
  let c0_i32_65 : BitVec 32 := 0#32
  let v88 : BitVec 1 := Scalar.cmpi .slt v84 c0_i32_65
  let v89 : BitVec 32 := Scalar.extui v88
  let v90 : BitVec 32 := Scalar.subi v87 v89
  let c16_i32_63 : BitVec 32 := 16#32
  let c0_i32_66 : BitVec 32 := 0#32
  let v91 : BitVec 1 := Scalar.cmpi .sgt c16_i32_63 c0_i32_66
  let v92 : BitVec 32 := Scalar.extui v91
  let c0_i32_67 : BitVec 32 := 0#32
  let v93 : BitVec 1 := Scalar.cmpi .slt c16_i32_63 c0_i32_67
  let v94 : BitVec 32 := Scalar.extui v93
  let v95 : BitVec 32 := Scalar.subi v92 v94
  let v96 : BitVec 1 := Scalar.cmpi .ne v90 v95
  let v97 : BitVec 32 := Scalar.remsi v84 c16_i32_63
  let c0_i32_68 : BitVec 32 := 0#32
  let v98 : BitVec 1 := Scalar.cmpi .ne v97 c0_i32_68
  let v99 : BitVec 1 := Scalar.andi v96 v98
  let v85 : BitVec 32 := Scalar.divsi v84 c16_i32_63
  let c1_i32_69 : BitVec 32 := 1#32
  let v100 : BitVec 32 := Scalar.subi v85 c1_i32_69
  let v101 : BitVec 32 := Scalar.select v99 v100 v85
  let c16_i32_70 : BitVec 32 := 16#32
  let v102 : BitVec 32 := Scalar.muli v101 c16_i32_70
  let c0_i32_129 : BitVec 32 := 0#32
  let v145 : BitVec 32 := Scalar.subi v102 c0_i32_129
  let c16_i32_130 : BitVec 32 := 16#32
  let c1_i32_131 : BitVec 32 := 1#32
  let v146 : BitVec 32 := Scalar.subi c16_i32_130 c1_i32_131
  let v147 : BitVec 32 := Scalar.addi v145 v146
  let c16_i32_132 : BitVec 32 := 16#32
  let v148 : BitVec 32 := Scalar.divsi v147 c16_i32_132
  let v149 : BitVec 32 := Scalar.subi v148 c0_i32_135
  let c1_i32_137 : BitVec 32 := 1#32
  let v151 : BitVec 32 := Scalar.divsi v149 c1_i32_137
  let v152 : BitVec 32 := Scalar.muli v151 c1_i32_137
  let v153 : BitVec 32 := Scalar.addi c0_i32_135 v152
  let v150 : BitVec 32 := Scalar.addi c0_i32_135 v149
  let c1_i32_139 : BitVec 32 := 1#32
  ⟨v153, v150, c1_i32_139⟩
def k0_off27 (v18 : BitVec 32) (k0_t24 : Fin (k0_t24_loop v18).trips) : Fin 1 → Nat :=
  let c0_i32_134 : BitVec 32 := 0#32
  let c0_i32_135 : BitVec 32 := 0#32
  let c16_i32_61 : BitVec 32 := 16#32
  let v83 : BitVec 32 := Scalar.addi v18 c16_i32_61
  let c1_i32_62 : BitVec 32 := 1#32
  let v84 : BitVec 32 := Scalar.subi v83 c1_i32_62
  let c0_i32_64 : BitVec 32 := 0#32
  let v86 : BitVec 1 := Scalar.cmpi .sgt v84 c0_i32_64
  let v87 : BitVec 32 := Scalar.extui v86
  let c0_i32_65 : BitVec 32 := 0#32
  let v88 : BitVec 1 := Scalar.cmpi .slt v84 c0_i32_65
  let v89 : BitVec 32 := Scalar.extui v88
  let v90 : BitVec 32 := Scalar.subi v87 v89
  let c16_i32_63 : BitVec 32 := 16#32
  let c0_i32_66 : BitVec 32 := 0#32
  let v91 : BitVec 1 := Scalar.cmpi .sgt c16_i32_63 c0_i32_66
  let v92 : BitVec 32 := Scalar.extui v91
  let c0_i32_67 : BitVec 32 := 0#32
  let v93 : BitVec 1 := Scalar.cmpi .slt c16_i32_63 c0_i32_67
  let v94 : BitVec 32 := Scalar.extui v93
  let v95 : BitVec 32 := Scalar.subi v92 v94
  let v96 : BitVec 1 := Scalar.cmpi .ne v90 v95
  let v97 : BitVec 32 := Scalar.remsi v84 c16_i32_63
  let c0_i32_68 : BitVec 32 := 0#32
  let v98 : BitVec 1 := Scalar.cmpi .ne v97 c0_i32_68
  let v99 : BitVec 1 := Scalar.andi v96 v98
  let v85 : BitVec 32 := Scalar.divsi v84 c16_i32_63
  let c1_i32_69 : BitVec 32 := 1#32
  let v100 : BitVec 32 := Scalar.subi v85 c1_i32_69
  let v101 : BitVec 32 := Scalar.select v99 v100 v85
  let c16_i32_70 : BitVec 32 := 16#32
  let v102 : BitVec 32 := Scalar.muli v101 c16_i32_70
  let c0_i32_129 : BitVec 32 := 0#32
  let v145 : BitVec 32 := Scalar.subi v102 c0_i32_129
  let c16_i32_130 : BitVec 32 := 16#32
  let c1_i32_131 : BitVec 32 := 1#32
  let v146 : BitVec 32 := Scalar.subi c16_i32_130 c1_i32_131
  let v147 : BitVec 32 := Scalar.addi v145 v146
  let c16_i32_132 : BitVec 32 := 16#32
  let v148 : BitVec 32 := Scalar.divsi v147 c16_i32_132
  let v149 : BitVec 32 := Scalar.subi v148 c0_i32_135
  let c1_i32_137 : BitVec 32 := 1#32
  let v151 : BitVec 32 := Scalar.divsi v149 c1_i32_137
  let v152 : BitVec 32 := Scalar.muli v151 c1_i32_137
  let v153 : BitVec 32 := Scalar.addi c0_i32_135 v152
  let c1_i32_139 : BitVec 32 := 1#32
  let arg21 : BitVec 32 := Scf.iv v153 c1_i32_139 k0_t24
  let c16_i32_133 : BitVec 32 := 16#32
  let v172 : BitVec 32 := Scalar.muli arg21 c16_i32_133
  let v173 : BitVec 32 := Scalar.addi c0_i32_134 v172
  let v174 : Index := Scalar.indexCast v173
  ![v174.toNat]

def k0_chk25 (v175 : IVec S16 32) : Prop :=
  (∀ a x, ((![v175] : Fin 1 → IVec S16 32) a x).toNat < S8208.size a)
theorem k0_idx35_inb : ∀ (v175 : IVec S16 32) (k0_hw25 : k0_chk25 v175), ∀ a x, ((![v175] : Fin 1 → IVec S16 32) a x).toNat < S8208.size a := fun v175 k0_hw25 => k0_hw25

def k0_chk26 (v182 : IVec S16 32) : Prop :=
  (∀ a x, ((![v182] : Fin 1 → IVec S16 32) a x).toNat < S8208.size a)
theorem k0_idx36_inb : ∀ (v182 : IVec S16 32) (k0_hw26 : k0_chk26 v182), ∀ a x, ((![v182] : Fin 1 → IVec S16 32) a x).toNat < S8208.size a := fun v182 k0_hw26 => k0_hw26
def k0_off28 (v18 : BitVec 32) (k0_t24 : Fin (k0_t24_loop v18).trips) : Fin 1 → Nat :=
  let c0_i32_134 : BitVec 32 := 0#32
  let c0_i32_135 : BitVec 32 := 0#32
  let c16_i32_61 : BitVec 32 := 16#32
  let v83 : BitVec 32 := Scalar.addi v18 c16_i32_61
  let c1_i32_62 : BitVec 32 := 1#32
  let v84 : BitVec 32 := Scalar.subi v83 c1_i32_62
  let c0_i32_64 : BitVec 32 := 0#32
  let v86 : BitVec 1 := Scalar.cmpi .sgt v84 c0_i32_64
  let v87 : BitVec 32 := Scalar.extui v86
  let c0_i32_65 : BitVec 32 := 0#32
  let v88 : BitVec 1 := Scalar.cmpi .slt v84 c0_i32_65
  let v89 : BitVec 32 := Scalar.extui v88
  let v90 : BitVec 32 := Scalar.subi v87 v89
  let c16_i32_63 : BitVec 32 := 16#32
  let c0_i32_66 : BitVec 32 := 0#32
  let v91 : BitVec 1 := Scalar.cmpi .sgt c16_i32_63 c0_i32_66
  let v92 : BitVec 32 := Scalar.extui v91
  let c0_i32_67 : BitVec 32 := 0#32
  let v93 : BitVec 1 := Scalar.cmpi .slt c16_i32_63 c0_i32_67
  let v94 : BitVec 32 := Scalar.extui v93
  let v95 : BitVec 32 := Scalar.subi v92 v94
  let v96 : BitVec 1 := Scalar.cmpi .ne v90 v95
  let v97 : BitVec 32 := Scalar.remsi v84 c16_i32_63
  let c0_i32_68 : BitVec 32 := 0#32
  let v98 : BitVec 1 := Scalar.cmpi .ne v97 c0_i32_68
  let v99 : BitVec 1 := Scalar.andi v96 v98
  let v85 : BitVec 32 := Scalar.divsi v84 c16_i32_63
  let c1_i32_69 : BitVec 32 := 1#32
  let v100 : BitVec 32 := Scalar.subi v85 c1_i32_69
  let v101 : BitVec 32 := Scalar.select v99 v100 v85
  let c16_i32_70 : BitVec 32 := 16#32
  let v102 : BitVec 32 := Scalar.muli v101 c16_i32_70
  let c0_i32_129 : BitVec 32 := 0#32
  let v145 : BitVec 32 := Scalar.subi v102 c0_i32_129
  let c16_i32_130 : BitVec 32 := 16#32
  let c1_i32_131 : BitVec 32 := 1#32
  let v146 : BitVec 32 := Scalar.subi c16_i32_130 c1_i32_131
  let v147 : BitVec 32 := Scalar.addi v145 v146
  let c16_i32_132 : BitVec 32 := 16#32
  let v148 : BitVec 32 := Scalar.divsi v147 c16_i32_132
  let v149 : BitVec 32 := Scalar.subi v148 c0_i32_135
  let c1_i32_137 : BitVec 32 := 1#32
  let v151 : BitVec 32 := Scalar.divsi v149 c1_i32_137
  let v152 : BitVec 32 := Scalar.muli v151 c1_i32_137
  let v153 : BitVec 32 := Scalar.addi c0_i32_135 v152
  let c1_i32_139 : BitVec 32 := 1#32
  let arg21 : BitVec 32 := Scf.iv v153 c1_i32_139 k0_t24
  let c16_i32_133 : BitVec 32 := 16#32
  let v172 : BitVec 32 := Scalar.muli arg21 c16_i32_133
  let v173 : BitVec 32 := Scalar.addi c0_i32_134 v172
  let v192 : Index := Scalar.indexCast v173
  ![v192.toNat]

def k0_chk27 (v158 : IVec S16 32) : Prop :=
  (∀ a x, ((![v158] : Fin 1 → IVec S16 32) a x).toNat < S8208.size a)
theorem k0_idx37_inb : ∀ (v158 : IVec S16 32) (k0_hw27 : k0_chk27 v158), ∀ a x, ((![v158] : Fin 1 → IVec S16 32) a x).toNat < S8208.size a := fun v158 k0_hw27 => k0_hw27
def k0_off29 (i : grid0.Coords) : Fin 2 → Nat :=
  let arg1 : BitVec 32 := BitVec.ofNat 32 (i 1).val
  let c0_i32_162_r1 : BitVec 32 := 0#32
  ![arg1.toNat, 0]
def k0_off30 (i : grid0.Coords) : Fin 2 → Nat :=
  let arg1 : BitVec 32 := BitVec.ofNat 32 (i 1).val
  let c0_i32_162_r2 : BitVec 32 := 0#32
  ![arg1.toNat, 0]
def k0_off31 (i : grid0.Coords) : Fin 2 → Nat :=
  let arg1 : BitVec 32 := BitVec.ofNat 32 (i 1).val
  let c1_i32_142 : BitVec 32 := 1#32
  let v160 : BitVec 32 := Scalar.xori arg1 c1_i32_142
  let c0_i32_163_r3 : BitVec 32 := 0#32
  ![v160.toNat, 0]
def k0_off32 (i : grid0.Coords) : Fin 2 → Nat :=
  let arg1 : BitVec 32 := BitVec.ofNat 32 (i 1).val
  let c1_i32_142 : BitVec 32 := 1#32
  let v160 : BitVec 32 := Scalar.xori arg1 c1_i32_142
  let c0_i32_162_r4 : BitVec 32 := 0#32
  ![v160.toNat, 0]
@[reducible] def k0_t25_loop (v18 : BitVec 32) : Scf.Loop 32 :=
  let c0_i32_149 : BitVec 32 := 0#32
  let c16_i32_61 : BitVec 32 := 16#32
  let v83 : BitVec 32 := Scalar.addi v18 c16_i32_61
  let c1_i32_62 : BitVec 32 := 1#32
  let v84 : BitVec 32 := Scalar.subi v83 c1_i32_62
  let c0_i32_64 : BitVec 32 := 0#32
  let v86 : BitVec 1 := Scalar.cmpi .sgt v84 c0_i32_64
  let v87 : BitVec 32 := Scalar.extui v86
  let c0_i32_65 : BitVec 32 := 0#32
  let v88 : BitVec 1 := Scalar.cmpi .slt v84 c0_i32_65
  let v89 : BitVec 32 := Scalar.extui v88
  let v90 : BitVec 32 := Scalar.subi v87 v89
  let c16_i32_63 : BitVec 32 := 16#32
  let c0_i32_66 : BitVec 32 := 0#32
  let v91 : BitVec 1 := Scalar.cmpi .sgt c16_i32_63 c0_i32_66
  let v92 : BitVec 32 := Scalar.extui v91
  let c0_i32_67 : BitVec 32 := 0#32
  let v93 : BitVec 1 := Scalar.cmpi .slt c16_i32_63 c0_i32_67
  let v94 : BitVec 32 := Scalar.extui v93
  let v95 : BitVec 32 := Scalar.subi v92 v94
  let v96 : BitVec 1 := Scalar.cmpi .ne v90 v95
  let v97 : BitVec 32 := Scalar.remsi v84 c16_i32_63
  let c0_i32_68 : BitVec 32 := 0#32
  let v98 : BitVec 1 := Scalar.cmpi .ne v97 c0_i32_68
  let v99 : BitVec 1 := Scalar.andi v96 v98
  let v85 : BitVec 32 := Scalar.divsi v84 c16_i32_63
  let c1_i32_69 : BitVec 32 := 1#32
  let v100 : BitVec 32 := Scalar.subi v85 c1_i32_69
  let v101 : BitVec 32 := Scalar.select v99 v100 v85
  let c16_i32_70 : BitVec 32 := 16#32
  let v102 : BitVec 32 := Scalar.muli v101 c16_i32_70
  let c0_i32_143 : BitVec 32 := 0#32
  let v161 : BitVec 32 := Scalar.subi v102 c0_i32_143
  let c16_i32_144 : BitVec 32 := 16#32
  let c1_i32_145 : BitVec 32 := 1#32
  let v162 : BitVec 32 := Scalar.subi c16_i32_144 c1_i32_145
  let v163 : BitVec 32 := Scalar.addi v161 v162
  let c16_i32_146 : BitVec 32 := 16#32
  let v164 : BitVec 32 := Scalar.divsi v163 c16_i32_146
  let v165 : BitVec 32 := Scalar.subi v164 c0_i32_149
  let c1_i32_150 : BitVec 32 := 1#32
  let v167 : BitVec 32 := Scalar.divsi v165 c1_i32_150
  let v168 : BitVec 32 := Scalar.muli v167 c1_i32_150
  let v169 : BitVec 32 := Scalar.addi c0_i32_149 v168
  let c1_i32_151 : BitVec 32 := 1#32
  ⟨c0_i32_149, v169, c1_i32_151⟩
def k0_off33 (v18 : BitVec 32) (k0_t25 : Fin (k0_t25_loop v18).trips) : Fin 1 → Nat :=
  let c0_i32_148 : BitVec 32 := 0#32
  let c0_i32_149 : BitVec 32 := 0#32
  let c1_i32_151 : BitVec 32 := 1#32
  let arg21 : BitVec 32 := Scf.iv c0_i32_149 c1_i32_151 k0_t25
  let c16_i32_147 : BitVec 32 := 16#32
  let v172 : BitVec 32 := Scalar.muli arg21 c16_i32_147
  let v173 : BitVec 32 := Scalar.addi c0_i32_148 v172
  let v174 : Index := Scalar.indexCast v173
  ![v174.toNat]

def k0_chk28 (v187 : IVec S16 32) : Prop :=
  (∀ a x, ((![v187] : Fin 1 → IVec S16 32) a x).toNat < S8208.size a)
theorem k0_idx38_inb : ∀ (v187 : IVec S16 32) (k0_hw28 : k0_chk28 v187), ∀ a x, ((![v187] : Fin 1 → IVec S16 32) a x).toNat < S8208.size a := fun v187 k0_hw28 => k0_hw28

def k0_chk29 (v200 : IVec S16 32) : Prop :=
  (∀ a x, ((![v200] : Fin 1 → IVec S16 32) a x).toNat < S8208.size a)
theorem k0_idx39_inb : ∀ (v200 : IVec S16 32) (k0_hw29 : k0_chk29 v200), ∀ a x, ((![v200] : Fin 1 → IVec S16 32) a x).toNat < S8208.size a := fun v200 k0_hw29 => k0_hw29

def k0_chk30 (v213 : IVec S16 32) : Prop :=
  (∀ a x, ((![v213] : Fin 1 → IVec S16 32) a x).toNat < S8208.size a)
theorem k0_idx40_inb : ∀ (v213 : IVec S16 32) (k0_hw30 : k0_chk30 v213), ∀ a x, ((![v213] : Fin 1 → IVec S16 32) a x).toNat < S8208.size a := fun v213 k0_hw30 => k0_hw30

def k0_chk31 (v226 : IVec S16 32) : Prop :=
  (∀ a x, ((![v226] : Fin 1 → IVec S16 32) a x).toNat < S8208.size a)
theorem k0_idx41_inb : ∀ (v226 : IVec S16 32) (k0_hw31 : k0_chk31 v226), ∀ a x, ((![v226] : Fin 1 → IVec S16 32) a x).toNat < S8208.size a := fun v226 k0_hw31 => k0_hw31

def k0_chk32 (v239 : IVec S16 32) : Prop :=
  (∀ a x, ((![v239] : Fin 1 → IVec S16 32) a x).toNat < S8208.size a)
theorem k0_idx42_inb : ∀ (v239 : IVec S16 32) (k0_hw32 : k0_chk32 v239), ∀ a x, ((![v239] : Fin 1 → IVec S16 32) a x).toNat < S8208.size a := fun v239 k0_hw32 => k0_hw32

def k0_chk33 (v252 : IVec S16 32) : Prop :=
  (∀ a x, ((![v252] : Fin 1 → IVec S16 32) a x).toNat < S8208.size a)
theorem k0_idx43_inb : ∀ (v252 : IVec S16 32) (k0_hw33 : k0_chk33 v252), ∀ a x, ((![v252] : Fin 1 → IVec S16 32) a x).toNat < S8208.size a := fun v252 k0_hw33 => k0_hw33

def k0_chk34 (v265 : IVec S16 32) : Prop :=
  (∀ a x, ((![v265] : Fin 1 → IVec S16 32) a x).toNat < S8208.size a)
theorem k0_idx44_inb : ∀ (v265 : IVec S16 32) (k0_hw34 : k0_chk34 v265), ∀ a x, ((![v265] : Fin 1 → IVec S16 32) a x).toNat < S8208.size a := fun v265 k0_hw34 => k0_hw34

def k0_chk35 (v278 : IVec S16 32) : Prop :=
  (∀ a x, ((![v278] : Fin 1 → IVec S16 32) a x).toNat < S8208.size a)
theorem k0_idx45_inb : ∀ (v278 : IVec S16 32) (k0_hw35 : k0_chk35 v278), ∀ a x, ((![v278] : Fin 1 → IVec S16 32) a x).toNat < S8208.size a := fun v278 k0_hw35 => k0_hw35

def k0_chk36 (v291 : IVec S16 32) : Prop :=
  (∀ a x, ((![v291] : Fin 1 → IVec S16 32) a x).toNat < S8208.size a)
theorem k0_idx46_inb : ∀ (v291 : IVec S16 32) (k0_hw36 : k0_chk36 v291), ∀ a x, ((![v291] : Fin 1 → IVec S16 32) a x).toNat < S8208.size a := fun v291 k0_hw36 => k0_hw36

def k0_chk37 (v304 : IVec S16 32) : Prop :=
  (∀ a x, ((![v304] : Fin 1 → IVec S16 32) a x).toNat < S8208.size a)
theorem k0_idx47_inb : ∀ (v304 : IVec S16 32) (k0_hw37 : k0_chk37 v304), ∀ a x, ((![v304] : Fin 1 → IVec S16 32) a x).toNat < S8208.size a := fun v304 k0_hw37 => k0_hw37

def k0_chk38 (v317 : IVec S16 32) : Prop :=
  (∀ a x, ((![v317] : Fin 1 → IVec S16 32) a x).toNat < S8208.size a)
theorem k0_idx48_inb : ∀ (v317 : IVec S16 32) (k0_hw38 : k0_chk38 v317), ∀ a x, ((![v317] : Fin 1 → IVec S16 32) a x).toNat < S8208.size a := fun v317 k0_hw38 => k0_hw38

def k0_chk39 (v330 : IVec S16 32) : Prop :=
  (∀ a x, ((![v330] : Fin 1 → IVec S16 32) a x).toNat < S8208.size a)
theorem k0_idx49_inb : ∀ (v330 : IVec S16 32) (k0_hw39 : k0_chk39 v330), ∀ a x, ((![v330] : Fin 1 → IVec S16 32) a x).toNat < S8208.size a := fun v330 k0_hw39 => k0_hw39

def k0_chk40 (v343 : IVec S16 32) : Prop :=
  (∀ a x, ((![v343] : Fin 1 → IVec S16 32) a x).toNat < S8208.size a)
theorem k0_idx50_inb : ∀ (v343 : IVec S16 32) (k0_hw40 : k0_chk40 v343), ∀ a x, ((![v343] : Fin 1 → IVec S16 32) a x).toNat < S8208.size a := fun v343 k0_hw40 => k0_hw40

def k0_chk41 (v356 : IVec S16 32) : Prop :=
  (∀ a x, ((![v356] : Fin 1 → IVec S16 32) a x).toNat < S8208.size a)
theorem k0_idx51_inb : ∀ (v356 : IVec S16 32) (k0_hw41 : k0_chk41 v356), ∀ a x, ((![v356] : Fin 1 → IVec S16 32) a x).toNat < S8208.size a := fun v356 k0_hw41 => k0_hw41
def k0_off34 (v18 : BitVec 32) (k0_t25 : Fin (k0_t25_loop v18).trips) : Fin 1 → Nat :=
  let c0_i32_148 : BitVec 32 := 0#32
  let c0_i32_149 : BitVec 32 := 0#32
  let c1_i32_151 : BitVec 32 := 1#32
  let arg21 : BitVec 32 := Scf.iv c0_i32_149 c1_i32_151 k0_t25
  let c16_i32_147 : BitVec 32 := 16#32
  let v172 : BitVec 32 := Scalar.muli arg21 c16_i32_147
  let v173 : BitVec 32 := Scalar.addi c0_i32_148 v172
  let v366 : Index := Scalar.indexCast v173
  ![v366.toNat]

def k0_chk42 (v362 : IVec S16 32) : Prop :=
  (∀ a x, ((![v362] : Fin 1 → IVec S16 32) a x).toNat < S8208.size a)
theorem k0_idx52_inb : ∀ (v362 : IVec S16 32) (k0_hw42 : k0_chk42 v362), ∀ a x, ((![v362] : Fin 1 → IVec S16 32) a x).toNat < S8208.size a := fun v362 k0_hw42 => k0_hw42
def k0_off35 (v18 : BitVec 32) (k0_t25 : Fin (k0_t25_loop v18).trips) : Fin 1 → Nat :=
  let c0_i32_148 : BitVec 32 := 0#32
  let c0_i32_149 : BitVec 32 := 0#32
  let c1_i32_151 : BitVec 32 := 1#32
  let arg21 : BitVec 32 := Scf.iv c0_i32_149 c1_i32_151 k0_t25
  let c16_i32_147 : BitVec 32 := 16#32
  let v172 : BitVec 32 := Scalar.muli arg21 c16_i32_147
  let v173 : BitVec 32 := Scalar.addi c0_i32_148 v172
  let v370 : Index := Scalar.indexCast v173
  ![v370.toNat]

def k0_chk43 (v371 : IVec S16 32) : Prop :=
  (∀ a x, ((![v371] : Fin 1 → IVec S16 32) a x).toNat < S8208.size a) ∧
  (∀ a x, ((![v371] : Fin 1 → IVec S16 32) a x).toNat < S8208.size a)
theorem k0_idx53_inb : ∀ (v371 : IVec S16 32) (k0_hw43 : k0_chk43 v371), ∀ a x, ((![v371] : Fin 1 → IVec S16 32) a x).toNat < S8208.size a := fun v371 k0_hw43 => k0_hw43.1
theorem k0_idx54_inb : ∀ (v371 : IVec S16 32) (k0_hw43 : k0_chk43 v371), ∀ a x, ((![v371] : Fin 1 → IVec S16 32) a x).toNat < S8208.size a := fun v371 k0_hw43 => k0_hw43.2
@[reducible] def k0_t26_loop (v18 : BitVec 32) : Scf.Loop 32 :=
  let c0_i32_149 : BitVec 32 := 0#32
  let c16_i32_61 : BitVec 32 := 16#32
  let v83 : BitVec 32 := Scalar.addi v18 c16_i32_61
  let c1_i32_62 : BitVec 32 := 1#32
  let v84 : BitVec 32 := Scalar.subi v83 c1_i32_62
  let c0_i32_64 : BitVec 32 := 0#32
  let v86 : BitVec 1 := Scalar.cmpi .sgt v84 c0_i32_64
  let v87 : BitVec 32 := Scalar.extui v86
  let c0_i32_65 : BitVec 32 := 0#32
  let v88 : BitVec 1 := Scalar.cmpi .slt v84 c0_i32_65
  let v89 : BitVec 32 := Scalar.extui v88
  let v90 : BitVec 32 := Scalar.subi v87 v89
  let c16_i32_63 : BitVec 32 := 16#32
  let c0_i32_66 : BitVec 32 := 0#32
  let v91 : BitVec 1 := Scalar.cmpi .sgt c16_i32_63 c0_i32_66
  let v92 : BitVec 32 := Scalar.extui v91
  let c0_i32_67 : BitVec 32 := 0#32
  let v93 : BitVec 1 := Scalar.cmpi .slt c16_i32_63 c0_i32_67
  let v94 : BitVec 32 := Scalar.extui v93
  let v95 : BitVec 32 := Scalar.subi v92 v94
  let v96 : BitVec 1 := Scalar.cmpi .ne v90 v95
  let v97 : BitVec 32 := Scalar.remsi v84 c16_i32_63
  let c0_i32_68 : BitVec 32 := 0#32
  let v98 : BitVec 1 := Scalar.cmpi .ne v97 c0_i32_68
  let v99 : BitVec 1 := Scalar.andi v96 v98
  let v85 : BitVec 32 := Scalar.divsi v84 c16_i32_63
  let c1_i32_69 : BitVec 32 := 1#32
  let v100 : BitVec 32 := Scalar.subi v85 c1_i32_69
  let v101 : BitVec 32 := Scalar.select v99 v100 v85
  let c16_i32_70 : BitVec 32 := 16#32
  let v102 : BitVec 32 := Scalar.muli v101 c16_i32_70
  let c0_i32_143 : BitVec 32 := 0#32
  let v161 : BitVec 32 := Scalar.subi v102 c0_i32_143
  let c16_i32_144 : BitVec 32 := 16#32
  let c1_i32_145 : BitVec 32 := 1#32
  let v162 : BitVec 32 := Scalar.subi c16_i32_144 c1_i32_145
  let v163 : BitVec 32 := Scalar.addi v161 v162
  let c16_i32_146 : BitVec 32 := 16#32
  let v164 : BitVec 32 := Scalar.divsi v163 c16_i32_146
  let v165 : BitVec 32 := Scalar.subi v164 c0_i32_149
  let c1_i32_150 : BitVec 32 := 1#32
  let v167 : BitVec 32 := Scalar.divsi v165 c1_i32_150
  let v168 : BitVec 32 := Scalar.muli v167 c1_i32_150
  let v169 : BitVec 32 := Scalar.addi c0_i32_149 v168
  let v166 : BitVec 32 := Scalar.addi c0_i32_149 v165
  let c1_i32_152 : BitVec 32 := 1#32
  ⟨v169, v166, c1_i32_152⟩
def k0_off36 (v18 : BitVec 32) (k0_t26 : Fin (k0_t26_loop v18).trips) : Fin 1 → Nat :=
  let c0_i32_148 : BitVec 32 := 0#32
  let c0_i32_149 : BitVec 32 := 0#32
  let c16_i32_61 : BitVec 32 := 16#32
  let v83 : BitVec 32 := Scalar.addi v18 c16_i32_61
  let c1_i32_62 : BitVec 32 := 1#32
  let v84 : BitVec 32 := Scalar.subi v83 c1_i32_62
  let c0_i32_64 : BitVec 32 := 0#32
  let v86 : BitVec 1 := Scalar.cmpi .sgt v84 c0_i32_64
  let v87 : BitVec 32 := Scalar.extui v86
  let c0_i32_65 : BitVec 32 := 0#32
  let v88 : BitVec 1 := Scalar.cmpi .slt v84 c0_i32_65
  let v89 : BitVec 32 := Scalar.extui v88
  let v90 : BitVec 32 := Scalar.subi v87 v89
  let c16_i32_63 : BitVec 32 := 16#32
  let c0_i32_66 : BitVec 32 := 0#32
  let v91 : BitVec 1 := Scalar.cmpi .sgt c16_i32_63 c0_i32_66
  let v92 : BitVec 32 := Scalar.extui v91
  let c0_i32_67 : BitVec 32 := 0#32
  let v93 : BitVec 1 := Scalar.cmpi .slt c16_i32_63 c0_i32_67
  let v94 : BitVec 32 := Scalar.extui v93
  let v95 : BitVec 32 := Scalar.subi v92 v94
  let v96 : BitVec 1 := Scalar.cmpi .ne v90 v95
  let v97 : BitVec 32 := Scalar.remsi v84 c16_i32_63
  let c0_i32_68 : BitVec 32 := 0#32
  let v98 : BitVec 1 := Scalar.cmpi .ne v97 c0_i32_68
  let v99 : BitVec 1 := Scalar.andi v96 v98
  let v85 : BitVec 32 := Scalar.divsi v84 c16_i32_63
  let c1_i32_69 : BitVec 32 := 1#32
  let v100 : BitVec 32 := Scalar.subi v85 c1_i32_69
  let v101 : BitVec 32 := Scalar.select v99 v100 v85
  let c16_i32_70 : BitVec 32 := 16#32
  let v102 : BitVec 32 := Scalar.muli v101 c16_i32_70
  let c0_i32_143 : BitVec 32 := 0#32
  let v161 : BitVec 32 := Scalar.subi v102 c0_i32_143
  let c16_i32_144 : BitVec 32 := 16#32
  let c1_i32_145 : BitVec 32 := 1#32
  let v162 : BitVec 32 := Scalar.subi c16_i32_144 c1_i32_145
  let v163 : BitVec 32 := Scalar.addi v161 v162
  let c16_i32_146 : BitVec 32 := 16#32
  let v164 : BitVec 32 := Scalar.divsi v163 c16_i32_146
  let v165 : BitVec 32 := Scalar.subi v164 c0_i32_149
  let c1_i32_150 : BitVec 32 := 1#32
  let v167 : BitVec 32 := Scalar.divsi v165 c1_i32_150
  let v168 : BitVec 32 := Scalar.muli v167 c1_i32_150
  let v169 : BitVec 32 := Scalar.addi c0_i32_149 v168
  let c1_i32_152 : BitVec 32 := 1#32
  let arg21 : BitVec 32 := Scf.iv v169 c1_i32_152 k0_t26
  let c16_i32_147 : BitVec 32 := 16#32
  let v172 : BitVec 32 := Scalar.muli arg21 c16_i32_147
  let v173 : BitVec 32 := Scalar.addi c0_i32_148 v172
  let v174 : Index := Scalar.indexCast v173
  ![v174.toNat]

def k0_chk44 (v187 : IVec S16 32) : Prop :=
  (∀ a x, ((![v187] : Fin 1 → IVec S16 32) a x).toNat < S8208.size a)
theorem k0_idx55_inb : ∀ (v187 : IVec S16 32) (k0_hw44 : k0_chk44 v187), ∀ a x, ((![v187] : Fin 1 → IVec S16 32) a x).toNat < S8208.size a := fun v187 k0_hw44 => k0_hw44

def k0_chk45 (v200 : IVec S16 32) : Prop :=
  (∀ a x, ((![v200] : Fin 1 → IVec S16 32) a x).toNat < S8208.size a)
theorem k0_idx56_inb : ∀ (v200 : IVec S16 32) (k0_hw45 : k0_chk45 v200), ∀ a x, ((![v200] : Fin 1 → IVec S16 32) a x).toNat < S8208.size a := fun v200 k0_hw45 => k0_hw45

def k0_chk46 (v213 : IVec S16 32) : Prop :=
  (∀ a x, ((![v213] : Fin 1 → IVec S16 32) a x).toNat < S8208.size a)
theorem k0_idx57_inb : ∀ (v213 : IVec S16 32) (k0_hw46 : k0_chk46 v213), ∀ a x, ((![v213] : Fin 1 → IVec S16 32) a x).toNat < S8208.size a := fun v213 k0_hw46 => k0_hw46

def k0_chk47 (v226 : IVec S16 32) : Prop :=
  (∀ a x, ((![v226] : Fin 1 → IVec S16 32) a x).toNat < S8208.size a)
theorem k0_idx58_inb : ∀ (v226 : IVec S16 32) (k0_hw47 : k0_chk47 v226), ∀ a x, ((![v226] : Fin 1 → IVec S16 32) a x).toNat < S8208.size a := fun v226 k0_hw47 => k0_hw47

def k0_chk48 (v239 : IVec S16 32) : Prop :=
  (∀ a x, ((![v239] : Fin 1 → IVec S16 32) a x).toNat < S8208.size a)
theorem k0_idx59_inb : ∀ (v239 : IVec S16 32) (k0_hw48 : k0_chk48 v239), ∀ a x, ((![v239] : Fin 1 → IVec S16 32) a x).toNat < S8208.size a := fun v239 k0_hw48 => k0_hw48

def k0_chk49 (v252 : IVec S16 32) : Prop :=
  (∀ a x, ((![v252] : Fin 1 → IVec S16 32) a x).toNat < S8208.size a)
theorem k0_idx60_inb : ∀ (v252 : IVec S16 32) (k0_hw49 : k0_chk49 v252), ∀ a x, ((![v252] : Fin 1 → IVec S16 32) a x).toNat < S8208.size a := fun v252 k0_hw49 => k0_hw49

def k0_chk50 (v265 : IVec S16 32) : Prop :=
  (∀ a x, ((![v265] : Fin 1 → IVec S16 32) a x).toNat < S8208.size a)
theorem k0_idx61_inb : ∀ (v265 : IVec S16 32) (k0_hw50 : k0_chk50 v265), ∀ a x, ((![v265] : Fin 1 → IVec S16 32) a x).toNat < S8208.size a := fun v265 k0_hw50 => k0_hw50

def k0_chk51 (v278 : IVec S16 32) : Prop :=
  (∀ a x, ((![v278] : Fin 1 → IVec S16 32) a x).toNat < S8208.size a)
theorem k0_idx62_inb : ∀ (v278 : IVec S16 32) (k0_hw51 : k0_chk51 v278), ∀ a x, ((![v278] : Fin 1 → IVec S16 32) a x).toNat < S8208.size a := fun v278 k0_hw51 => k0_hw51

def k0_chk52 (v291 : IVec S16 32) : Prop :=
  (∀ a x, ((![v291] : Fin 1 → IVec S16 32) a x).toNat < S8208.size a)
theorem k0_idx63_inb : ∀ (v291 : IVec S16 32) (k0_hw52 : k0_chk52 v291), ∀ a x, ((![v291] : Fin 1 → IVec S16 32) a x).toNat < S8208.size a := fun v291 k0_hw52 => k0_hw52

def k0_chk53 (v304 : IVec S16 32) : Prop :=
  (∀ a x, ((![v304] : Fin 1 → IVec S16 32) a x).toNat < S8208.size a)
theorem k0_idx64_inb : ∀ (v304 : IVec S16 32) (k0_hw53 : k0_chk53 v304), ∀ a x, ((![v304] : Fin 1 → IVec S16 32) a x).toNat < S8208.size a := fun v304 k0_hw53 => k0_hw53

def k0_chk54 (v317 : IVec S16 32) : Prop :=
  (∀ a x, ((![v317] : Fin 1 → IVec S16 32) a x).toNat < S8208.size a)
theorem k0_idx65_inb : ∀ (v317 : IVec S16 32) (k0_hw54 : k0_chk54 v317), ∀ a x, ((![v317] : Fin 1 → IVec S16 32) a x).toNat < S8208.size a := fun v317 k0_hw54 => k0_hw54

def k0_chk55 (v330 : IVec S16 32) : Prop :=
  (∀ a x, ((![v330] : Fin 1 → IVec S16 32) a x).toNat < S8208.size a)
theorem k0_idx66_inb : ∀ (v330 : IVec S16 32) (k0_hw55 : k0_chk55 v330), ∀ a x, ((![v330] : Fin 1 → IVec S16 32) a x).toNat < S8208.size a := fun v330 k0_hw55 => k0_hw55

def k0_chk56 (v343 : IVec S16 32) : Prop :=
  (∀ a x, ((![v343] : Fin 1 → IVec S16 32) a x).toNat < S8208.size a)
theorem k0_idx67_inb : ∀ (v343 : IVec S16 32) (k0_hw56 : k0_chk56 v343), ∀ a x, ((![v343] : Fin 1 → IVec S16 32) a x).toNat < S8208.size a := fun v343 k0_hw56 => k0_hw56

def k0_chk57 (v356 : IVec S16 32) : Prop :=
  (∀ a x, ((![v356] : Fin 1 → IVec S16 32) a x).toNat < S8208.size a)
theorem k0_idx68_inb : ∀ (v356 : IVec S16 32) (k0_hw57 : k0_chk57 v356), ∀ a x, ((![v356] : Fin 1 → IVec S16 32) a x).toNat < S8208.size a := fun v356 k0_hw57 => k0_hw57
def k0_off37 (v18 : BitVec 32) (k0_t26 : Fin (k0_t26_loop v18).trips) : Fin 1 → Nat :=
  let c0_i32_148 : BitVec 32 := 0#32
  let c0_i32_149 : BitVec 32 := 0#32
  let c16_i32_61 : BitVec 32 := 16#32
  let v83 : BitVec 32 := Scalar.addi v18 c16_i32_61
  let c1_i32_62 : BitVec 32 := 1#32
  let v84 : BitVec 32 := Scalar.subi v83 c1_i32_62
  let c0_i32_64 : BitVec 32 := 0#32
  let v86 : BitVec 1 := Scalar.cmpi .sgt v84 c0_i32_64
  let v87 : BitVec 32 := Scalar.extui v86
  let c0_i32_65 : BitVec 32 := 0#32
  let v88 : BitVec 1 := Scalar.cmpi .slt v84 c0_i32_65
  let v89 : BitVec 32 := Scalar.extui v88
  let v90 : BitVec 32 := Scalar.subi v87 v89
  let c16_i32_63 : BitVec 32 := 16#32
  let c0_i32_66 : BitVec 32 := 0#32
  let v91 : BitVec 1 := Scalar.cmpi .sgt c16_i32_63 c0_i32_66
  let v92 : BitVec 32 := Scalar.extui v91
  let c0_i32_67 : BitVec 32 := 0#32
  let v93 : BitVec 1 := Scalar.cmpi .slt c16_i32_63 c0_i32_67
  let v94 : BitVec 32 := Scalar.extui v93
  let v95 : BitVec 32 := Scalar.subi v92 v94
  let v96 : BitVec 1 := Scalar.cmpi .ne v90 v95
  let v97 : BitVec 32 := Scalar.remsi v84 c16_i32_63
  let c0_i32_68 : BitVec 32 := 0#32
  let v98 : BitVec 1 := Scalar.cmpi .ne v97 c0_i32_68
  let v99 : BitVec 1 := Scalar.andi v96 v98
  let v85 : BitVec 32 := Scalar.divsi v84 c16_i32_63
  let c1_i32_69 : BitVec 32 := 1#32
  let v100 : BitVec 32 := Scalar.subi v85 c1_i32_69
  let v101 : BitVec 32 := Scalar.select v99 v100 v85
  let c16_i32_70 : BitVec 32 := 16#32
  let v102 : BitVec 32 := Scalar.muli v101 c16_i32_70
  let c0_i32_143 : BitVec 32 := 0#32
  let v161 : BitVec 32 := Scalar.subi v102 c0_i32_143
  let c16_i32_144 : BitVec 32 := 16#32
  let c1_i32_145 : BitVec 32 := 1#32
  let v162 : BitVec 32 := Scalar.subi c16_i32_144 c1_i32_145
  let v163 : BitVec 32 := Scalar.addi v161 v162
  let c16_i32_146 : BitVec 32 := 16#32
  let v164 : BitVec 32 := Scalar.divsi v163 c16_i32_146
  let v165 : BitVec 32 := Scalar.subi v164 c0_i32_149
  let c1_i32_150 : BitVec 32 := 1#32
  let v167 : BitVec 32 := Scalar.divsi v165 c1_i32_150
  let v168 : BitVec 32 := Scalar.muli v167 c1_i32_150
  let v169 : BitVec 32 := Scalar.addi c0_i32_149 v168
  let c1_i32_152 : BitVec 32 := 1#32
  let arg21 : BitVec 32 := Scf.iv v169 c1_i32_152 k0_t26
  let c16_i32_147 : BitVec 32 := 16#32
  let v172 : BitVec 32 := Scalar.muli arg21 c16_i32_147
  let v173 : BitVec 32 := Scalar.addi c0_i32_148 v172
  let v366 : Index := Scalar.indexCast v173
  ![v366.toNat]

def k0_chk58 (v362 : IVec S16 32) : Prop :=
  (∀ a x, ((![v362] : Fin 1 → IVec S16 32) a x).toNat < S8208.size a)
theorem k0_idx69_inb : ∀ (v362 : IVec S16 32) (k0_hw58 : k0_chk58 v362), ∀ a x, ((![v362] : Fin 1 → IVec S16 32) a x).toNat < S8208.size a := fun v362 k0_hw58 => k0_hw58
def k0_off38 (v18 : BitVec 32) (k0_t26 : Fin (k0_t26_loop v18).trips) : Fin 1 → Nat :=
  let c0_i32_148 : BitVec 32 := 0#32
  let c0_i32_149 : BitVec 32 := 0#32
  let c16_i32_61 : BitVec 32 := 16#32
  let v83 : BitVec 32 := Scalar.addi v18 c16_i32_61
  let c1_i32_62 : BitVec 32 := 1#32
  let v84 : BitVec 32 := Scalar.subi v83 c1_i32_62
  let c0_i32_64 : BitVec 32 := 0#32
  let v86 : BitVec 1 := Scalar.cmpi .sgt v84 c0_i32_64
  let v87 : BitVec 32 := Scalar.extui v86
  let c0_i32_65 : BitVec 32 := 0#32
  let v88 : BitVec 1 := Scalar.cmpi .slt v84 c0_i32_65
  let v89 : BitVec 32 := Scalar.extui v88
  let v90 : BitVec 32 := Scalar.subi v87 v89
  let c16_i32_63 : BitVec 32 := 16#32
  let c0_i32_66 : BitVec 32 := 0#32
  let v91 : BitVec 1 := Scalar.cmpi .sgt c16_i32_63 c0_i32_66
  let v92 : BitVec 32 := Scalar.extui v91
  let c0_i32_67 : BitVec 32 := 0#32
  let v93 : BitVec 1 := Scalar.cmpi .slt c16_i32_63 c0_i32_67
  let v94 : BitVec 32 := Scalar.extui v93
  let v95 : BitVec 32 := Scalar.subi v92 v94
  let v96 : BitVec 1 := Scalar.cmpi .ne v90 v95
  let v97 : BitVec 32 := Scalar.remsi v84 c16_i32_63
  let c0_i32_68 : BitVec 32 := 0#32
  let v98 : BitVec 1 := Scalar.cmpi .ne v97 c0_i32_68
  let v99 : BitVec 1 := Scalar.andi v96 v98
  let v85 : BitVec 32 := Scalar.divsi v84 c16_i32_63
  let c1_i32_69 : BitVec 32 := 1#32
  let v100 : BitVec 32 := Scalar.subi v85 c1_i32_69
  let v101 : BitVec 32 := Scalar.select v99 v100 v85
  let c16_i32_70 : BitVec 32 := 16#32
  let v102 : BitVec 32 := Scalar.muli v101 c16_i32_70
  let c0_i32_143 : BitVec 32 := 0#32
  let v161 : BitVec 32 := Scalar.subi v102 c0_i32_143
  let c16_i32_144 : BitVec 32 := 16#32
  let c1_i32_145 : BitVec 32 := 1#32
  let v162 : BitVec 32 := Scalar.subi c16_i32_144 c1_i32_145
  let v163 : BitVec 32 := Scalar.addi v161 v162
  let c16_i32_146 : BitVec 32 := 16#32
  let v164 : BitVec 32 := Scalar.divsi v163 c16_i32_146
  let v165 : BitVec 32 := Scalar.subi v164 c0_i32_149
  let c1_i32_150 : BitVec 32 := 1#32
  let v167 : BitVec 32 := Scalar.divsi v165 c1_i32_150
  let v168 : BitVec 32 := Scalar.muli v167 c1_i32_150
  let v169 : BitVec 32 := Scalar.addi c0_i32_149 v168
  let c1_i32_152 : BitVec 32 := 1#32
  let arg21 : BitVec 32 := Scf.iv v169 c1_i32_152 k0_t26
  let c16_i32_147 : BitVec 32 := 16#32
  let v172 : BitVec 32 := Scalar.muli arg21 c16_i32_147
  let v173 : BitVec 32 := Scalar.addi c0_i32_148 v172
  let v370 : Index := Scalar.indexCast v173
  ![v370.toNat]

def k0_chk8_0 (v18 : BitVec 32) : Prop :=
  ((k0_t6_loop v18).OK) ∧
  ((k0_t7_loop v18).OK) ∧
  ((k0_t8_loop v18).OK) ∧
  (∀ k0_t8 : Fin (k0_t8_loop v18).trips, ∀ (r : Fin 8), ∀ a, (k0_off8 v18 k0_t8 (BitVec.ofNat 32 (128 * r.val))) a + S128.size a ≤ S8192.size a) ∧
  ((k0_t9_loop v18).OK) ∧
  (∀ k0_t9 : Fin (k0_t9_loop v18).trips, ∀ (r : Fin 8), ∀ a, (k0_off9 v18 k0_t9 (BitVec.ofNat 32 (128 * r.val))) a + S128.size a ≤ S8192.size a) ∧
  ((k0_t12_loop v18).OK) ∧
  (∀ k0_t12 : Fin (k0_t12_loop v18).trips, ∀ a, (k0_off12 v18 k0_t12) a + S16.size a ≤ S8192.size a) ∧
  ((k0_t13_loop v18).OK) ∧
  (∀ k0_t13 : Fin (k0_t13_loop v18).trips, ∀ a, (k0_off13 v18 k0_t13) a + S16.size a ≤ S8192.size a) ∧
  ((k0_t15_loop v18).OK) ∧
  (∀ k0_t15 : Fin (k0_t15_loop v18).trips, ∀ a, (k0_off15 v18 k0_t15) a + S16.size a ≤ S8192.size a) ∧
  ((k0_t16_loop v18).OK) ∧
  (∀ k0_t16 : Fin (k0_t16_loop v18).trips, ∀ a, (k0_off16 v18 k0_t16) a + S16.size a ≤ S8192.size a) ∧
  ((k0_t18_loop v18).OK) ∧
  (∀ k0_t18 : Fin (k0_t18_loop v18).trips, ∀ a, (k0_off18 v18 k0_t18) a + S16.size a ≤ S8192.size a) ∧
  ((k0_t19_loop v18).OK) ∧
  (∀ k0_t19 : Fin (k0_t19_loop v18).trips, ∀ a, (k0_off19 v18 k0_t19) a + S16.size a ≤ S8192.size a) ∧
  ((k0_t21_loop v18).OK) ∧
  (∀ k0_t21 : Fin (k0_t21_loop v18).trips, ∀ a, (k0_off21 v18 k0_t21) a + S16.size a ≤ S8192.size a) ∧
  (∀ k0_t21 : Fin (k0_t21_loop v18).trips, ∀ a, (k0_off22 v18 k0_t21) a + S16.size a ≤ S8208.size a) ∧
  ((k0_t22_loop v18).OK) ∧
  (∀ k0_t22 : Fin (k0_t22_loop v18).trips, ∀ a, (k0_off23 v18 k0_t22) a + S16.size a ≤ S8192.size a) ∧
  (∀ k0_t22 : Fin (k0_t22_loop v18).trips, ∀ a, (k0_off24 v18 k0_t22) a + S16.size a ≤ S8208.size a) ∧
  ((k0_t23_loop v18).OK) ∧
  (∀ k0_t23 : Fin (k0_t23_loop v18).trips, ∀ a, (k0_off25 v18 k0_t23) a + S16.size a ≤ S8192.size a) ∧
  (∀ k0_t23 : Fin (k0_t23_loop v18).trips, ∀ a, (k0_off26 v18 k0_t23) a + S16.size a ≤ S8208.size a) ∧
  ((k0_t24_loop v18).OK) ∧
  (∀ k0_t24 : Fin (k0_t24_loop v18).trips, ∀ a, (k0_off27 v18 k0_t24) a + S16.size a ≤ S8192.size a) ∧
  (∀ k0_t24 : Fin (k0_t24_loop v18).trips, ∀ a, (k0_off28 v18 k0_t24) a + S16.size a ≤ S8208.size a) ∧
  ((k0_t25_loop v18).OK) ∧
  (∀ k0_t25 : Fin (k0_t25_loop v18).trips, ∀ a, (k0_off33 v18 k0_t25) a + S16.size a ≤ S8192.size a)
def k0_chk8_1 (v18 : BitVec 32) : Prop :=
  (∀ k0_t25 : Fin (k0_t25_loop v18).trips, ∀ a, (k0_off34 v18 k0_t25) a + S16.size a ≤ S8208.size a) ∧
  (∀ k0_t25 : Fin (k0_t25_loop v18).trips, ∀ a, (k0_off35 v18 k0_t25) a + S16.size a ≤ S8192.size a) ∧
  ((k0_t26_loop v18).OK) ∧
  (∀ k0_t26 : Fin (k0_t26_loop v18).trips, ∀ a, (k0_off36 v18 k0_t26) a + S16.size a ≤ S8192.size a) ∧
  (∀ k0_t26 : Fin (k0_t26_loop v18).trips, ∀ a, (k0_off37 v18 k0_t26) a + S16.size a ≤ S8208.size a) ∧
  (∀ k0_t26 : Fin (k0_t26_loop v18).trips, ∀ a, (k0_off38 v18 k0_t26) a + S16.size a ≤ S8192.size a)
def k0_chk8 (v18 : BitVec 32) : Prop :=
  k0_chk8_0 v18 ∧
  k0_chk8_1 v18
theorem k0_t6_ok : ∀ (v18 : BitVec 32) (k0_hw8 : k0_chk8 v18), (k0_t6_loop v18).OK := fun v18 k0_hw8 => k0_hw8.1.1
theorem k0_t7_ok : ∀ (v18 : BitVec 32) (k0_hw8 : k0_chk8 v18), (k0_t7_loop v18).OK := fun v18 k0_hw8 => k0_hw8.1.2.1
theorem k0_t8_ok : ∀ (v18 : BitVec 32) (k0_hw8 : k0_chk8 v18), (k0_t8_loop v18).OK := fun v18 k0_hw8 => k0_hw8.1.2.2.1
theorem k0_off8_inb : ∀ (v18 : BitVec 32) (k0_hw8 : k0_chk8 v18) (k0_t8 : Fin (k0_t8_loop v18).trips), ∀ (r : Fin 8), ∀ a, (k0_off8 v18 k0_t8 (BitVec.ofNat 32 (128 * r.val))) a + S128.size a ≤ S8192.size a := fun v18 k0_hw8 k0_t8 r => k0_hw8.1.2.2.2.1 k0_t8 r
theorem k0_t9_ok : ∀ (v18 : BitVec 32) (k0_hw8 : k0_chk8 v18), (k0_t9_loop v18).OK := fun v18 k0_hw8 => k0_hw8.1.2.2.2.2.1
theorem k0_off9_inb : ∀ (v18 : BitVec 32) (k0_hw8 : k0_chk8 v18) (k0_t9 : Fin (k0_t9_loop v18).trips), ∀ (r : Fin 8), ∀ a, (k0_off9 v18 k0_t9 (BitVec.ofNat 32 (128 * r.val))) a + S128.size a ≤ S8192.size a := fun v18 k0_hw8 k0_t9 r => k0_hw8.1.2.2.2.2.2.1 k0_t9 r
theorem k0_t12_ok : ∀ (v18 : BitVec 32) (k0_hw8 : k0_chk8 v18), (k0_t12_loop v18).OK := fun v18 k0_hw8 => k0_hw8.1.2.2.2.2.2.2.1
theorem k0_off12_inb : ∀ (v18 : BitVec 32) (k0_hw8 : k0_chk8 v18) (k0_t12 : Fin (k0_t12_loop v18).trips), ∀ a, (k0_off12 v18 k0_t12) a + S16.size a ≤ S8192.size a := fun v18 k0_hw8 k0_t12 => k0_hw8.1.2.2.2.2.2.2.2.1 k0_t12
theorem k0_t13_ok : ∀ (v18 : BitVec 32) (k0_hw8 : k0_chk8 v18), (k0_t13_loop v18).OK := fun v18 k0_hw8 => k0_hw8.1.2.2.2.2.2.2.2.2.1
theorem k0_off13_inb : ∀ (v18 : BitVec 32) (k0_hw8 : k0_chk8 v18) (k0_t13 : Fin (k0_t13_loop v18).trips), ∀ a, (k0_off13 v18 k0_t13) a + S16.size a ≤ S8192.size a := fun v18 k0_hw8 k0_t13 => k0_hw8.1.2.2.2.2.2.2.2.2.2.1 k0_t13
theorem k0_t15_ok : ∀ (v18 : BitVec 32) (k0_hw8 : k0_chk8 v18), (k0_t15_loop v18).OK := fun v18 k0_hw8 => k0_hw8.1.2.2.2.2.2.2.2.2.2.2.1
theorem k0_off15_inb : ∀ (v18 : BitVec 32) (k0_hw8 : k0_chk8 v18) (k0_t15 : Fin (k0_t15_loop v18).trips), ∀ a, (k0_off15 v18 k0_t15) a + S16.size a ≤ S8192.size a := fun v18 k0_hw8 k0_t15 => k0_hw8.1.2.2.2.2.2.2.2.2.2.2.2.1 k0_t15
theorem k0_t16_ok : ∀ (v18 : BitVec 32) (k0_hw8 : k0_chk8 v18), (k0_t16_loop v18).OK := fun v18 k0_hw8 => k0_hw8.1.2.2.2.2.2.2.2.2.2.2.2.2.1
theorem k0_off16_inb : ∀ (v18 : BitVec 32) (k0_hw8 : k0_chk8 v18) (k0_t16 : Fin (k0_t16_loop v18).trips), ∀ a, (k0_off16 v18 k0_t16) a + S16.size a ≤ S8192.size a := fun v18 k0_hw8 k0_t16 => k0_hw8.1.2.2.2.2.2.2.2.2.2.2.2.2.2.1 k0_t16
theorem k0_t18_ok : ∀ (v18 : BitVec 32) (k0_hw8 : k0_chk8 v18), (k0_t18_loop v18).OK := fun v18 k0_hw8 => k0_hw8.1.2.2.2.2.2.2.2.2.2.2.2.2.2.2.1
theorem k0_off18_inb : ∀ (v18 : BitVec 32) (k0_hw8 : k0_chk8 v18) (k0_t18 : Fin (k0_t18_loop v18).trips), ∀ a, (k0_off18 v18 k0_t18) a + S16.size a ≤ S8192.size a := fun v18 k0_hw8 k0_t18 => k0_hw8.1.2.2.2.2.2.2.2.2.2.2.2.2.2.2.2.1 k0_t18
theorem k0_t19_ok : ∀ (v18 : BitVec 32) (k0_hw8 : k0_chk8 v18), (k0_t19_loop v18).OK := fun v18 k0_hw8 => k0_hw8.1.2.2.2.2.2.2.2.2.2.2.2.2.2.2.2.2.1
theorem k0_off19_inb : ∀ (v18 : BitVec 32) (k0_hw8 : k0_chk8 v18) (k0_t19 : Fin (k0_t19_loop v18).trips), ∀ a, (k0_off19 v18 k0_t19) a + S16.size a ≤ S8192.size a := fun v18 k0_hw8 k0_t19 => k0_hw8.1.2.2.2.2.2.2.2.2.2.2.2.2.2.2.2.2.2.1 k0_t19
theorem k0_t21_ok : ∀ (v18 : BitVec 32) (k0_hw8 : k0_chk8 v18), (k0_t21_loop v18).OK := fun v18 k0_hw8 => k0_hw8.1.2.2.2.2.2.2.2.2.2.2.2.2.2.2.2.2.2.2.1
theorem k0_off21_inb : ∀ (v18 : BitVec 32) (k0_hw8 : k0_chk8 v18) (k0_t21 : Fin (k0_t21_loop v18).trips), ∀ a, (k0_off21 v18 k0_t21) a + S16.size a ≤ S8192.size a := fun v18 k0_hw8 k0_t21 => k0_hw8.1.2.2.2.2.2.2.2.2.2.2.2.2.2.2.2.2.2.2.2.1 k0_t21
theorem k0_off22_inb : ∀ (v18 : BitVec 32) (k0_hw8 : k0_chk8 v18) (k0_t21 : Fin (k0_t21_loop v18).trips), ∀ a, (k0_off22 v18 k0_t21) a + S16.size a ≤ S8208.size a := fun v18 k0_hw8 k0_t21 => k0_hw8.1.2.2.2.2.2.2.2.2.2.2.2.2.2.2.2.2.2.2.2.2.1 k0_t21
theorem k0_t22_ok : ∀ (v18 : BitVec 32) (k0_hw8 : k0_chk8 v18), (k0_t22_loop v18).OK := fun v18 k0_hw8 => k0_hw8.1.2.2.2.2.2.2.2.2.2.2.2.2.2.2.2.2.2.2.2.2.2.1
theorem k0_off23_inb : ∀ (v18 : BitVec 32) (k0_hw8 : k0_chk8 v18) (k0_t22 : Fin (k0_t22_loop v18).trips), ∀ a, (k0_off23 v18 k0_t22) a + S16.size a ≤ S8192.size a := fun v18 k0_hw8 k0_t22 => k0_hw8.1.2.2.2.2.2.2.2.2.2.2.2.2.2.2.2.2.2.2.2.2.2.2.1 k0_t22
theorem k0_off24_inb : ∀ (v18 : BitVec 32) (k0_hw8 : k0_chk8 v18) (k0_t22 : Fin (k0_t22_loop v18).trips), ∀ a, (k0_off24 v18 k0_t22) a + S16.size a ≤ S8208.size a := fun v18 k0_hw8 k0_t22 => k0_hw8.1.2.2.2.2.2.2.2.2.2.2.2.2.2.2.2.2.2.2.2.2.2.2.2.1 k0_t22
theorem k0_t23_ok : ∀ (v18 : BitVec 32) (k0_hw8 : k0_chk8 v18), (k0_t23_loop v18).OK := fun v18 k0_hw8 => k0_hw8.1.2.2.2.2.2.2.2.2.2.2.2.2.2.2.2.2.2.2.2.2.2.2.2.2.1
theorem k0_off25_inb : ∀ (v18 : BitVec 32) (k0_hw8 : k0_chk8 v18) (k0_t23 : Fin (k0_t23_loop v18).trips), ∀ a, (k0_off25 v18 k0_t23) a + S16.size a ≤ S8192.size a := fun v18 k0_hw8 k0_t23 => k0_hw8.1.2.2.2.2.2.2.2.2.2.2.2.2.2.2.2.2.2.2.2.2.2.2.2.2.2.1 k0_t23
theorem k0_off26_inb : ∀ (v18 : BitVec 32) (k0_hw8 : k0_chk8 v18) (k0_t23 : Fin (k0_t23_loop v18).trips), ∀ a, (k0_off26 v18 k0_t23) a + S16.size a ≤ S8208.size a := fun v18 k0_hw8 k0_t23 => k0_hw8.1.2.2.2.2.2.2.2.2.2.2.2.2.2.2.2.2.2.2.2.2.2.2.2.2.2.2.1 k0_t23
theorem k0_t24_ok : ∀ (v18 : BitVec 32) (k0_hw8 : k0_chk8 v18), (k0_t24_loop v18).OK := fun v18 k0_hw8 => k0_hw8.1.2.2.2.2.2.2.2.2.2.2.2.2.2.2.2.2.2.2.2.2.2.2.2.2.2.2.2.1
theorem k0_off27_inb : ∀ (v18 : BitVec 32) (k0_hw8 : k0_chk8 v18) (k0_t24 : Fin (k0_t24_loop v18).trips), ∀ a, (k0_off27 v18 k0_t24) a + S16.size a ≤ S8192.size a := fun v18 k0_hw8 k0_t24 => k0_hw8.1.2.2.2.2.2.2.2.2.2.2.2.2.2.2.2.2.2.2.2.2.2.2.2.2.2.2.2.2.1 k0_t24
theorem k0_off28_inb : ∀ (v18 : BitVec 32) (k0_hw8 : k0_chk8 v18) (k0_t24 : Fin (k0_t24_loop v18).trips), ∀ a, (k0_off28 v18 k0_t24) a + S16.size a ≤ S8208.size a := fun v18 k0_hw8 k0_t24 => k0_hw8.1.2.2.2.2.2.2.2.2.2.2.2.2.2.2.2.2.2.2.2.2.2.2.2.2.2.2.2.2.2.1 k0_t24
theorem k0_t25_ok : ∀ (v18 : BitVec 32) (k0_hw8 : k0_chk8 v18), (k0_t25_loop v18).OK := fun v18 k0_hw8 => k0_hw8.1.2.2.2.2.2.2.2.2.2.2.2.2.2.2.2.2.2.2.2.2.2.2.2.2.2.2.2.2.2.2.1
theorem k0_off33_inb : ∀ (v18 : BitVec 32) (k0_hw8 : k0_chk8 v18) (k0_t25 : Fin (k0_t25_loop v18).trips), ∀ a, (k0_off33 v18 k0_t25) a + S16.size a ≤ S8192.size a := fun v18 k0_hw8 k0_t25 => k0_hw8.1.2.2.2.2.2.2.2.2.2.2.2.2.2.2.2.2.2.2.2.2.2.2.2.2.2.2.2.2.2.2.2 k0_t25
theorem k0_off34_inb : ∀ (v18 : BitVec 32) (k0_hw8 : k0_chk8 v18) (k0_t25 : Fin (k0_t25_loop v18).trips), ∀ a, (k0_off34 v18 k0_t25) a + S16.size a ≤ S8208.size a := fun v18 k0_hw8 k0_t25 => k0_hw8.2.1 k0_t25
theorem k0_off35_inb : ∀ (v18 : BitVec 32) (k0_hw8 : k0_chk8 v18) (k0_t25 : Fin (k0_t25_loop v18).trips), ∀ a, (k0_off35 v18 k0_t25) a + S16.size a ≤ S8192.size a := fun v18 k0_hw8 k0_t25 => k0_hw8.2.2.1 k0_t25
theorem k0_t26_ok : ∀ (v18 : BitVec 32) (k0_hw8 : k0_chk8 v18), (k0_t26_loop v18).OK := fun v18 k0_hw8 => k0_hw8.2.2.2.1
theorem k0_off36_inb : ∀ (v18 : BitVec 32) (k0_hw8 : k0_chk8 v18) (k0_t26 : Fin (k0_t26_loop v18).trips), ∀ a, (k0_off36 v18 k0_t26) a + S16.size a ≤ S8192.size a := fun v18 k0_hw8 k0_t26 => k0_hw8.2.2.2.2.1 k0_t26
theorem k0_off37_inb : ∀ (v18 : BitVec 32) (k0_hw8 : k0_chk8 v18) (k0_t26 : Fin (k0_t26_loop v18).trips), ∀ a, (k0_off37 v18 k0_t26) a + S16.size a ≤ S8208.size a := fun v18 k0_hw8 k0_t26 => k0_hw8.2.2.2.2.2.1 k0_t26
theorem k0_off38_inb : ∀ (v18 : BitVec 32) (k0_hw8 : k0_chk8 v18) (k0_t26 : Fin (k0_t26_loop v18).trips), ∀ a, (k0_off38 v18 k0_t26) a + S16.size a ≤ S8192.size a := fun v18 k0_hw8 k0_t26 => k0_hw8.2.2.2.2.2.2 k0_t26

def k0_chk59 (v371 : IVec S16 32) : Prop :=
  (∀ a x, ((![v371] : Fin 1 → IVec S16 32) a x).toNat < S8208.size a) ∧
  (∀ a x, ((![v371] : Fin 1 → IVec S16 32) a x).toNat < S8208.size a)
theorem k0_idx70_inb : ∀ (v371 : IVec S16 32) (k0_hw59 : k0_chk59 v371), ∀ a x, ((![v371] : Fin 1 → IVec S16 32) a x).toNat < S8208.size a := fun v371 k0_hw59 => k0_hw59.1
theorem k0_idx71_inb : ∀ (v371 : IVec S16 32) (k0_hw59 : k0_chk59 v371), ∀ a x, ((![v371] : Fin 1 → IVec S16 32) a x).toNat < S8208.size a := fun v371 k0_hw59 => k0_hw59.2
@[reducible] def k0_t27_loop : Scf.Loop 32 :=
  let c0_i32_153 : BitVec 32 := 0#32
  let c512_i32_154 : BitVec 32 := 512#32
  let v170 : BitVec 32 := Scalar.addi c0_i32_153 c512_i32_154
  let c1_i32_155 : BitVec 32 := 1#32
  ⟨c0_i32_153, v170, c1_i32_155⟩
def k0_off39 (k0_t27 : Fin k0_t27_loop.trips) : Fin 1 → Nat :=
  let c0_i32_163 : BitVec 32 := 0#32
  let c0_i32_153 : BitVec 32 := 0#32
  let c1_i32_155 : BitVec 32 := 1#32
  let arg21 : BitVec 32 := Scf.iv c0_i32_153 c1_i32_155 k0_t27
  let c16_i32_162 : BitVec 32 := 16#32
  let v172 : BitVec 32 := Scalar.muli arg21 c16_i32_162
  let v173 : BitVec 32 := Scalar.addi c0_i32_163 v172
  let v174 : Index := Scalar.indexCast v173
  ![v174.toNat]

def k0_chk60 (v177 : IVec S16 32) : Prop :=
  (∀ a x, ((![v177] : Fin 1 → IVec S16 32) a x).toNat < S8208.size a)
theorem k0_idx72_inb : ∀ (v177 : IVec S16 32) (k0_hw60 : k0_chk60 v177), ∀ a x, ((![v177] : Fin 1 → IVec S16 32) a x).toNat < S8208.size a := fun v177 k0_hw60 => k0_hw60
def k0_off40 (k0_t27 : Fin k0_t27_loop.trips) : Fin 1 → Nat :=
  let c0_i32_163 : BitVec 32 := 0#32
  let c0_i32_153 : BitVec 32 := 0#32
  let c1_i32_155 : BitVec 32 := 1#32
  let arg21 : BitVec 32 := Scf.iv c0_i32_153 c1_i32_155 k0_t27
  let c16_i32_162 : BitVec 32 := 16#32
  let v172 : BitVec 32 := Scalar.muli arg21 c16_i32_162
  let v173 : BitVec 32 := Scalar.addi c0_i32_163 v172
  let v188 : Index := Scalar.indexCast v173
  ![v188.toNat]

def k0_chk61 (v191 : IVec S16 32) : Prop :=
  (∀ a x, ((![v191] : Fin 1 → IVec S16 32) a x).toNat < S8192.size a)
theorem k0_idx73_inb : ∀ (v191 : IVec S16 32) (k0_hw61 : k0_chk61 v191), ∀ a x, ((![v191] : Fin 1 → IVec S16 32) a x).toNat < S8192.size a := fun v191 k0_hw61 => k0_hw61

def k0_chk62 (v197 : IVec S16 32) : Prop :=
  (∀ a x, ((![v197] : Fin 1 → IVec S16 32) a x).toNat < S8192.size a)
theorem k0_idx74_inb : ∀ (v197 : IVec S16 32) (k0_hw62 : k0_chk62 v197), ∀ a x, ((![v197] : Fin 1 → IVec S16 32) a x).toNat < S8192.size a := fun v197 k0_hw62 => k0_hw62
@[reducible] def k0_t28_loop : Scf.Loop 32 :=
  let c0_i32_158 : BitVec 32 := 0#32
  let c512_i32_159 : BitVec 32 := 512#32
  let v171 : BitVec 32 := Scalar.addi c0_i32_158 c512_i32_159
  let c1_i32_160 : BitVec 32 := 1#32
  ⟨c0_i32_158, v171, c1_i32_160⟩
def k0_off41 (k0_t28 : Fin k0_t28_loop.trips) : Fin 1 → Nat :=
  let c0_i32_163 : BitVec 32 := 0#32
  let c0_i32_158 : BitVec 32 := 0#32
  let c1_i32_160 : BitVec 32 := 1#32
  let arg21 : BitVec 32 := Scf.iv c0_i32_158 c1_i32_160 k0_t28
  let c16_i32_162 : BitVec 32 := 16#32
  let v172 : BitVec 32 := Scalar.muli arg21 c16_i32_162
  let v173 : BitVec 32 := Scalar.addi c0_i32_163 v172
  let v174 : Index := Scalar.indexCast v173
  ![v174.toNat]

def k0_chk63 (v181 : IVec S16 32) : Prop :=
  (∀ a x, ((![v181] : Fin 1 → IVec S16 32) a x).toNat < S8192.size a)
theorem k0_idx75_inb : ∀ (v181 : IVec S16 32) (k0_hw63 : k0_chk63 v181), ∀ a x, ((![v181] : Fin 1 → IVec S16 32) a x).toNat < S8192.size a := fun v181 k0_hw63 => k0_hw63
def k0_off42 (i : grid0.Coords) : Fin 2 → Nat :=
  let c8_i32 : BitVec 32 := 8#32
  let arg0 : BitVec 32 := BitVec.ofNat 32 (i 0).val
  let v2 : BitVec 32 := Scalar.muli c8_i32 arg0
  let arg1 : BitVec 32 := BitVec.ofNat 32 (i 1).val
  let c1_i32_0 : BitVec 32 := 1#32
  let v3 : BitVec 32 := Scalar.shrsi arg1 c1_i32_0
  let v4 : BitVec 32 := Scalar.addi v2 v3
  let c2_i32 : BitVec 32 := 2#32
  let v5 : BitVec 32 := Scalar.muli v4 c2_i32
  let c1_i32 : BitVec 32 := 1#32
  let v0 : BitVec 32 := Scalar.andi arg1 c1_i32
  let v6 : BitVec 32 := Scalar.addi v5 v0
  let c0_i32_162_r7 : BitVec 32 := 0#32
  ![v6.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S16x16384 : Shape := ⟨2, ![16, 16384]⟩
abbrev S2097152 : Shape := ⟨1, ![2097152]⟩
abbrev S_ : Shape := ⟨0, ![]⟩
abbrev S16x16384x1 : Shape := ⟨3, ![16, 16384, 1]⟩
abbrev S2x8x16384 : Shape := ⟨3, ![2, 8, 16384]⟩

abbrev nBuf : Space → Nat
  | .hbm => 18
  | .vmem => 0
  | .smem => 0
  | _ => 0

abbrev bufTy : (tb : Table) → Fin (tcTables nBuf tb) → BufTy
  | .hbm, ⟨0, _⟩ => ⟨S16x16384, .i32⟩
  | .hbm, ⟨1, _⟩ => ⟨S2097152, .i32⟩
  | .hbm, ⟨2, _⟩ => ⟨S_, .i32⟩
  | .hbm, ⟨3, _⟩ => ⟨S16x16384, .i32⟩
  | .hbm, ⟨4, _⟩ => ⟨S16x16384, .i1⟩
  | .hbm, ⟨5, _⟩ => ⟨S_, .i32⟩
  | .hbm, ⟨6, _⟩ => ⟨S16x16384, .i32⟩
  | .hbm, ⟨7, _⟩ => ⟨S16x16384, .i32⟩
  | .hbm, ⟨8, _⟩ => ⟨S16x16384, .i32⟩
  | .hbm, ⟨9, _⟩ => ⟨S16x16384x1, .i32⟩
  | .hbm, ⟨10, _⟩ => ⟨S16x16384, .i32⟩
  | .hbm, ⟨11, _⟩ => ⟨S2x8x16384, .i32⟩
  | .hbm, ⟨12, _⟩ => ⟨S2x8x16384, .i32⟩
  | .hbm, ⟨13, _⟩ => ⟨S2x8x16384, .i32⟩
  | .hbm, ⟨14, _⟩ => ⟨S2x8x16384, .i32⟩
  | .hbm, ⟨15, _⟩ => ⟨S2x8x16384, .i32⟩
  | .hbm, ⟨16, _⟩ => ⟨S2x8x16384, .i32⟩
  | .hbm, ⟨17, _⟩ => ⟨S2x8x16384, .i32⟩
  | _, _ => ⟨S16x16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call0_v0 : Ref sig .tc := ⟨.hbm, 12, rfl⟩
abbrev main_call0_v1_0 : Ref sig .tc := ⟨.hbm, 13, rfl⟩
abbrev main_v8 : Ref sig .tc := ⟨.hbm, 14, rfl⟩
abbrev main_call1_v0 : Ref sig .tc := ⟨.hbm, 15, rfl⟩
abbrev main_call1_v1_0 : Ref sig .tc := ⟨.hbm, 16, rfl⟩
abbrev main_v9 : Ref sig .tc := ⟨.hbm, 17, rfl⟩

abbrev nD : Nat := 1
abbrev τ : Topo := Topo.v7x

variable {F : FTy → Type} [FloatOps F]
-- ==== Encode.lean ====
abbrev S8x16384x3 : Shape := ⟨3, ![8, 16384, 3]⟩
abbrev S3x8x16384 : Shape := ⟨3, ![3, 8, 16384]⟩
abbrev S24x16384 : Shape := ⟨2, ![24, 16384]⟩
abbrev S16x16384 : Shape := ⟨2, ![16, 16384]⟩
abbrev S24 : Shape := ⟨1, ![24]⟩
abbrev S24x1 : Shape := ⟨2, ![24, 1]⟩
abbrev S8x16384 : Shape := ⟨2, ![8, 16384]⟩

abbrev nBuf : Space → Nat
  | .hbm => 4
  | .vmem => 2
  | .smem => 0
  | _ => 0

abbrev bufTy : (tb : Table) → Fin (tcTables nBuf tb) → BufTy
  | .hbm, ⟨0, _⟩ => ⟨S8x16384x3, .f32⟩
  | .hbm, ⟨1, _⟩ => ⟨S3x8x16384, .f32⟩
  | .hbm, ⟨2, _⟩ => ⟨S24x16384, .f32⟩
  | .hbm, ⟨3, _⟩ => ⟨S16x16384, .i32⟩
  | .local _ .vmem, ⟨0, _⟩ => ⟨S24x16384, .f32⟩
  | .local _ .vmem, ⟨1, _⟩ => ⟨S16x16384, .i32⟩
  | _, _ => ⟨S8x16384x3, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S24x16384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x16384 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== PositionsIdeal.lean ====
abbrev S8x16384x3 : Shape := ⟨3, ![8, 16384, 3]⟩
abbrev S_ : Shape := ⟨0, ![]⟩
abbrev S8x3 : Shape := ⟨2, ![8, 3]⟩
abbrev S8x1x3 : Shape := ⟨3, ![8, 1, 3]⟩
abbrev S8x16384x1 : Shape := ⟨3, ![8, 16384, 1]⟩
abbrev S8x16384 : Shape := ⟨2, ![8, 16384]⟩
abbrev S1x8x16384 : Shape := ⟨3, ![1, 8, 16384]⟩
abbrev S2x8x16384 : Shape := ⟨3, ![2, 8, 16384]⟩
abbrev S16x16384 : Shape := ⟨2, ![16, 16384]⟩

abbrev nBuf : Space → Nat
  | .hbm => 61
  | .vmem => 0
  | .smem => 0
  | _ => 0

abbrev bufTy : (tb : Table) → Fin (tcTables nBuf tb) → BufTy
  | .hbm, ⟨0, _⟩ => ⟨S8x16384x3, .f32⟩
  | .hbm, ⟨1, _⟩ => ⟨S_, .f32⟩
  | .hbm, ⟨2, _⟩ => ⟨S8x3, .f32⟩
  | .hbm, ⟨3, _⟩ => ⟨S8x1x3, .f32⟩
  | .hbm, ⟨4, _⟩ => ⟨S8x16384x3, .f32⟩
  | .hbm, ⟨5, _⟩ => ⟨S8x16384x3, .f32⟩
  | .hbm, ⟨6, _⟩ => ⟨S_, .f32⟩
  | .hbm, ⟨7, _⟩ => ⟨S8x16384x3, .f32⟩
  | .hbm, ⟨8, _⟩ => ⟨S8x16384x3, .f32⟩
  | .hbm, ⟨9, _⟩ => ⟨S_, .f32⟩
  | .hbm, ⟨10, _⟩ => ⟨S8x16384x3, .f32⟩
  | .hbm, ⟨11, _⟩ => ⟨S8x16384x3, .i1⟩
  | .hbm, ⟨12, _⟩ => ⟨S8x16384x3, .f32⟩
  | .hbm, ⟨13, _⟩ => ⟨S8x16384x3, .f32⟩
  | .hbm, ⟨14, _⟩ => ⟨S8x16384x3, .f32⟩
  | .hbm, ⟨15, _⟩ => ⟨S8x16384x3, .i32⟩
  | .hbm, ⟨16, _⟩ => ⟨S_, .i32⟩
  | .hbm, ⟨17, _⟩ => ⟨S8x16384x3, .i32⟩
  | .hbm, ⟨18, _⟩ => ⟨S8x16384x3, .i1⟩
  | .hbm, ⟨19, _⟩ => ⟨S_, .i32⟩
  | .hbm, ⟨20, _⟩ => ⟨S_, .i32⟩
  | .hbm, ⟨21, _⟩ => ⟨S8x16384x3, .i32⟩
  | .hbm, ⟨22, _⟩ => ⟨S8x16384x3, .i32⟩
  | .hbm, ⟨23, _⟩ => ⟨S8x16384x1, .i32⟩
  | .hbm, ⟨24, _⟩ => ⟨S8x16384, .i32⟩
  | .hbm, ⟨25, _⟩ => ⟨S8x16384x1, .i32⟩
  | .hbm, ⟨26, _⟩ => ⟨S8x16384, .i32⟩
  | .hbm, ⟨27, _⟩ => ⟨S8x16384x1, .i32⟩
  | .hbm, ⟨28, _⟩ => ⟨S8x16384, .i32⟩
  | .hbm, ⟨29, _⟩ => ⟨S_, .i32⟩
  | .hbm, ⟨30, _⟩ => ⟨S8x16384, .i32⟩
  | .hbm, ⟨31, _⟩ => ⟨S8x16384, .i32⟩
  | .hbm, ⟨32, _⟩ => ⟨S_, .i32⟩
  | .hbm, ⟨33, _⟩ => ⟨S8x16384, .i32⟩
  | .hbm, ⟨34, _⟩ => ⟨S8x16384, .i32⟩
  | .hbm, ⟨35, _⟩ => ⟨S_, .i32⟩
  | .hbm, ⟨36, _⟩ => ⟨S8x16384, .i32⟩
  | .hbm, ⟨37, _⟩ => ⟨S8x16384, .i32⟩
  | .hbm, ⟨38, _⟩ => ⟨S8x16384, .i32⟩
  | .hbm, ⟨39, _⟩ => ⟨S8x16384, .i32⟩
  | .hbm, ⟨40, _⟩ => ⟨S8x16384x1, .i32⟩
  | .hbm, ⟨41, _⟩ => ⟨S8x16384, .i32⟩
  | .hbm, ⟨42, _⟩ => ⟨S8x16384x1, .i32⟩
  | .hbm, ⟨43, _⟩ => ⟨S8x16384, .i32⟩
  | .hbm, ⟨44, _⟩ => ⟨S8x16384x1, .i32⟩
  | .hbm, ⟨45, _⟩ => ⟨S8x16384, .i32⟩
  | .hbm, ⟨46, _⟩ => ⟨S_, .i32⟩
  | .hbm, ⟨47, _⟩ => ⟨S8x16384, .i32⟩
  | .hbm, ⟨48, _⟩ => ⟨S8x16384, .i32⟩
  | .hbm, ⟨49, _⟩ => ⟨S_, .i32⟩
  | .hbm, ⟨50, _⟩ => ⟨S8x16384, .i32⟩
  | .hbm, ⟨51, _⟩ => ⟨S8x16384, .i32⟩
  | .hbm, ⟨52, _⟩ => ⟨S_, .i32⟩
  | .hbm, ⟨53, _⟩ => ⟨S8x16384, .i32⟩
  | .hbm, ⟨54, _⟩ => ⟨S8x16384, .i32⟩
  | .hbm, ⟨55, _⟩ => ⟨S8x16384, .i32⟩
  | .hbm, ⟨56, _⟩ => ⟨S8x16384, .i32⟩
  | .hbm, ⟨57, _⟩ => ⟨S1x8x16384, .i32⟩
  | .hbm, ⟨58, _⟩ => ⟨S1x8x16384, .i32⟩
  | .hbm, ⟨59, _⟩ => ⟨S2x8x16384, .i32⟩
  | .hbm, ⟨60, _⟩ => ⟨S16x16384, .i32⟩
  | _, _ => ⟨S8x16384x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_call0_cst : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_call1_v0 : Ref sig .tc := ⟨.hbm, 20, rfl⟩
abbrev main_call1_v1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c_2 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_5 : Ref sig .tc := ⟨.hbm, 46, rfl⟩
abbrev main_v31 : Ref sig .tc := ⟨.hbm, 47, rfl⟩
abbrev main_v32 : Ref sig .tc := ⟨.hbm, 48, rfl⟩
abbrev main_c_6 : Ref sig .tc := ⟨.hbm, 49, rfl⟩
abbrev main_v33 : Ref sig .tc := ⟨.hbm, 50, rfl⟩
abbrev main_v34 : Ref sig .tc := ⟨.hbm, 51, rfl⟩
abbrev main_c_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩

abbrev nD : Nat := 1
abbrev τ : Topo := Topo.v7x

variable {F : FTy → Type} [FloatOps F]
-- ==== Proof.Lanes.lean ====
/-
  Vectors of sixteen lanes and one-dimensional buffers, read at natural-number positions: what a scatter, a
  scatter-add, a running count of equal lanes and a running sum leave, position by position.
-/
module

public import Idealize.ShloMosaic.PureOps
public import Mathlib.Algebra.BigOperators.Fin
public import Mathlib.Algebra.BigOperators.Intervals
public import Mathlib.Data.BitVec
public import Mathlib.Data.List.FinRange
public import Mathlib.Data.List.OfFn
public import Mathlib.Tactic.FinCases
public import Mathlib.Tactic.IntervalCases
public import Mathlib.Tactic.Ring

@[expose] public section

noncomputable section

namespace Cert.Proof.Lanes

open Idealize.ShloMosaic

abbrev Sh (n : ℕ) : Shape := ⟨1, ![n]⟩

/-- Position `j` of a one-dimensional buffer of `n` elements. -/
def ix {n : ℕ} (j : ℕ) (h : j < n) : (Sh n).Idx := fun a => ⟨j, by rw [Fin.eq_zero a]; exact h⟩

/-- The element of a buffer at position `j` (the default past its end). -/
def rd {n : ℕ} {α : Type} [Inhabited α] (f : (Sh n).Idx → α) (j : ℕ) : α := if h : j < n then f (ix j h) else default

theorem rd_of_lt {n : ℕ} {α : Type} [Inhabited α] (f : (Sh n).Idx → α) {j : ℕ} (h : j < n) : rd f j = f (ix j h) := dif_pos h

theorem ix_self {n : ℕ} (x : (Sh n).Idx) (h : (x 0).val < n) : ix (x 0).val h = x := by
  funext a; apply Fin.ext; rw [Fin.eq_zero a]; rfl

theorem val_lt {n : ℕ} (x : (Sh n).Idx) : (x 0).val < n := (x 0).isLt

theorem apply_eq_rd {n : ℕ} {α : Type} [Inhabited α] (f : (Sh n).Idx → α) (x : (Sh n).Idx) : f x = rd f (x 0).val := by
  rw [rd_of_lt f (val_lt x), ix_self]

@[simp] theorem ofLane_eq {n : ℕ} (k : Fin n) : (Shape.ofLane (d := ![n]) k : (Sh n).Idx) = ix k.val k.isLt := by
  funext a; apply Fin.ext; rfl

/-- Sixteen consecutive elements from position `o`. -/
def chunk {n : ℕ} (f : (Sh n).Idx → BitVec 32) (o : ℕ) : (Sh 16).Idx → BitVec 32 := fun x => rd f (o + (x 0).val)

theorem rd_chunk {n : ℕ} (f : (Sh n).Idx → BitVec 32) (o : ℕ) {l : ℕ} (h : l < 16) : rd (chunk f o) l = rd f (o + l) := by
  rw [rd_of_lt _ h]; rfl

/-- Sixteen consecutive elements from position `o` replaced. -/
def put {n : ℕ} (f : (Sh n).Idx → BitVec 32) (o : ℕ) (w : (Sh 16).Idx → BitVec 32) : (Sh n).Idx → BitVec 32 :=
  fun x => if o ≤ (x 0).val ∧ (x 0).val < o + 16 then rd w ((x 0).val - o) else f x

theorem rd_put {n : ℕ} (f : (Sh n).Idx → BitVec 32) (o : ℕ) (w : (Sh 16).Idx → BitVec 32) {j : ℕ} (h : j < n) :
    rd (put f o w) j = if o ≤ j ∧ j < o + 16 then rd w (j - o) else rd f j := by
  rw [rd_of_lt _ h, rd_of_lt f h]; rfl

/-- The elements of a buffer that sixteen indices name. -/
def pick {n : ℕ} (f : (Sh n).Idx → BitVec 32) (v : (Sh 16).Idx → BitVec 32) : (Sh 16).Idx → BitVec 32 := fun x => rd f (v x).toNat

theorem rd_pick {n : ℕ} (f : (Sh n).Idx → BitVec 32) (v : (Sh 16).Idx → BitVec 32) {l : ℕ} (h : l < 16) :
    rd (pick f v) l = rd f (rd v l).toNat := by
  rw [rd_of_lt _ h, rd_of_lt v h]; rfl

section Scatter

variable {F : FTy → Type} [FloatOps F] {n : ℕ}

theorem idxAt_eq (v : IVec (Sh 16) 32) (h : ∀ a x, ((![v] : Fin 1 → IVec (Sh 16) 32) a x).toNat < (Sh n).size a) (k : ℕ) (hk : k < 16)
    (j : (Sh n).Idx) :
    (∀ a, (j a).val = ((idxAt (s := Sh n) ![v] h (ix k hk)) a).val) ↔ (j 0).val = (rd v k).toNat := by
  rw [rd_of_lt v hk]
  constructor
  · intro h'; exact h' 0
  · intro h' a; have := Fin.eq_zero a; subst this; exact h'

theorem loadIdx_eq_pick (f : Vec F (Sh n) .i32) (v : IVec (Sh 16) 32) (h : ∀ a x, ((![v] : Fin 1 → IVec (Sh 16) 32) a x).toNat < (Sh n).size a) :
    loadIdx (F := F) (t := Sh 16) f ![v] h = pick f v := by
  funext x
  have hx : (v x).toNat < n := h 0 x
  show f (idxAt _ h x) = rd f (v x).toNat
  rw [rd_of_lt f hx]
  congr 1
  funext a; apply Fin.ext; have := Fin.eq_zero a; subst this; rfl

variable (f : Vec F (Sh n) .i32) (v : IVec (Sh 16) 32) (w : Vec F (Sh 16) .i32) (m : IVec (Sh 16) 1)
  (h : ∀ a x, ((![v] : Fin 1 → IVec (Sh 16) 32) a x).toNat < (Sh n).size a)

/-- One lane of a scatter. -/
def st (add : Bool) (g : Vec F (Sh n) .i32) (k : Fin 16) : Vec F (Sh n) .i32 :=
  let x : (Sh 16).Idx := Shape.ofLane (d := ![16]) k
  if m x = 1 then
    let i := idxAt (s := Sh n) ![v] h x
    let y := if add then Elt.idxAdd (F := F) .i32 (g i) (w x) else w x
    fun j => if (∀ a, (j a).val = (i a).val) then y else g j
  else g

theorem storeIdx_eq_foldl (add : Bool) : storeIdx (F := F) f ![v] w m add h = (List.finRange 16).foldl (st v w m h add) f := rfl

theorem st_apply (add : Bool) (g : Vec F (Sh n) .i32) (k : Fin 16) (j : (Sh n).Idx) :
    (st v w m h add g k j : BitVec 32) = if rd m k.val = 1#1 ∧ (rd v k.val).toNat = (j 0).val
      then (if add then (g j : BitVec 32) + rd (α := BitVec 32) w k.val else rd (α := BitVec 32) w k.val) else g j := by
  unfold st
  rw [rd_of_lt (α := BitVec 32) w k.isLt]
  simp only [ofLane_eq]
  have hmr : rd m k.val = m (ix k.val k.isLt) := rd_of_lt m k.isLt
  rw [hmr]
  by_cases hm : m (ix k.val k.isLt) = 1
  · rw [if_pos hm]
    by_cases hi : (rd v k.val).toNat = (j 0).val
    · have hi' : (∀ a, (j a).val = ((idxAt (s := Sh n) ![v] h (ix k.val k.isLt)) a).val) := (idxAt_eq v h k.val k.isLt j).mpr hi.symm
      have hje : idxAt (s := Sh n) ![v] h (ix k.val k.isLt) = j := by
        funext a; exact Fin.ext (hi' a).symm
      have hc : m (ix k.val k.isLt) = 1#1 ∧ (rd v k.val).toNat = (j 0).val := And.intro hm hi
      rw [if_pos hi', if_pos hc, hje]
      cases add <;> rfl
    · rw [if_neg (fun hh => hi ((idxAt_eq v h k.val k.isLt j).mp hh).symm), if_neg fun hh => hi hh.2]
  · rw [if_neg hm, if_neg fun hh => hm hh.1]

theorem storeIdx_miss (add : Bool) {j : ℕ} (hm : ∀ l < 16, rd m l = 1#1 → (rd v l).toNat ≠ j) :
    rd (α := BitVec 32) (storeIdx (F := F) f ![v] w m add h) j = rd (α := BitVec 32) f j := by
  by_cases hj : j < n
  · rw [rd_of_lt _ hj, rd_of_lt (α := BitVec 32) f hj, storeIdx_eq_foldl]
    generalize List.finRange 16 = ks
    induction ks generalizing f with
    | nil => rfl
    | cons k ks ih =>
      rw [List.foldl_cons, ih, st_apply, if_neg]
      rintro ⟨h1, h2⟩; exact hm k.val k.isLt h1 h2
  · unfold rd; rw [dif_neg hj, dif_neg hj]

theorem fold_hit (j : (Sh n).Idx) (l : Fin 16) (hl : rd m l.val = 1#1) (hj : (rd v l.val).toNat = (j 0).val) (g : Vec F (Sh n) .i32) :
    ∀ ks : List (Fin 16), ks.Pairwise (· < ·) → l ∈ ks →
    (∀ k ∈ ks, l < k → rd m k.val = 1#1 → (rd v k.val).toNat ≠ (j 0).val) →
    (ks.foldl (st v w m h false) g) j = rd (α := BitVec 32) w l.val := by
  intro ks
  induction ks using List.reverseRecOn with
  | nil => intro _ h'; cases h'
  | append_singleton ks k ih =>
    intro hp hmem hlast
    rw [List.foldl_append, List.foldl_cons, List.foldl_nil]
    rw [List.pairwise_append] at hp
    rcases List.mem_append.mp hmem with hmem' | hmem'
    · have hlk := hp.2.2 l hmem' k List.mem_cons_self
      have h1 := hlast k (List.mem_append_right _ List.mem_cons_self) hlk
      rw [st_apply, if_neg fun hh => h1 hh.1 hh.2]
      exact ih hp.1 hmem' fun k' hk' => hlast k' (List.mem_append_left _ hk')
    · have : l = k := by simpa using hmem'
      subst this
      rw [st_apply, if_pos ⟨hl, hj⟩]; rfl

theorem storeIdx_hit {j l : ℕ} (hl : l < 16) (hm : rd m l = 1#1) (hj : (rd v l).toNat = j)
    (hlast : ∀ l' < 16, l < l' → rd m l' = 1#1 → (rd v l').toNat ≠ j) :
    rd (α := BitVec 32) (storeIdx (F := F) f ![v] w m false h) j = rd (α := BitVec 32) w l := by
  have hjn : j < n := by
    have := h 0 (ix l hl); rw [← hj, rd_of_lt v hl]; exact this
  rw [rd_of_lt _ hjn]
  exact fold_hit v w m h (ix j hjn) ⟨l, hl⟩ hm hj f (List.finRange 16) (List.pairwise_lt_finRange 16) (List.mem_finRange _)
    fun k _ hk hmk he => hlast k.val k.isLt hk hmk he

theorem storeIdx_add {j : ℕ} (hjn : j < n) :
    rd (α := BitVec 32) (storeIdx (F := F) f ![v] w m true h) j
      = rd (α := BitVec 32) f j + ∑ l ∈ Finset.range 16, if rd m l = 1#1 ∧ (rd v l).toNat = j then rd (α := BitVec 32) w l else 0 := by
  rw [rd_of_lt _ hjn, rd_of_lt (α := BitVec 32) f hjn, storeIdx_eq_foldl]
  have key : ∀ (ks : List (Fin 16)) (g : Vec F (Sh n) .i32), (ks.foldl (st v w m h true) g) (ix j hjn)
      = ((g (ix j hjn) : BitVec 32) + (ks.map fun k => if rd m k.val = 1#1 ∧ (rd v k.val).toNat = j then rd (α := BitVec 32) w k.val else 0).sum : BitVec 32) := by
    intro ks
    induction ks with
    | nil => intro g; exact (add_zero _).symm
    | cons k ks ih =>
      intro g
      rw [List.foldl_cons, ih, List.map_cons, List.sum_cons, ← add_assoc, st_apply]
      congr 1
      by_cases hh : rd m k.val = 1#1 ∧ (rd v k.val).toNat = j
      · rw [if_pos hh, if_pos (show _ ∧ _ = ((ix j hjn : (Sh n).Idx) 0).val from hh), if_pos rfl]
      · rw [if_neg hh, if_neg (show ¬ (_ ∧ _ = ((ix j hjn : (Sh n).Idx) 0).val) from hh), add_zero]
  rw [key]
  congr 1

end Scatter

/-! ## Counting equal lanes -/

theorem rowMajor_val (x : (Sh 16).Idx) : ((Sh 16).rowMajor x).val = (x 0).val := by
  revert x; decide +kernel

theorem all_ones (l : ℕ) (h : l < 16) : rd (fun _ : (Sh 16).Idx => 1#1) l = 1#1 := by rw [rd_of_lt _ h]

theorem card_lanes (p : ℕ → Prop) [DecidablePred p] :
    (Finset.univ.filter fun x : (Sh 16).Idx => p (x 0).val).card = ((Finset.range 16).filter p).card := by
  symm
  refine Finset.card_bij (fun l hl => ix l (Finset.mem_range.mp (Finset.mem_filter.mp hl).1)) ?_ ?_ ?_
  · intro l hl; rw [Finset.mem_filter]; exact ⟨Finset.mem_univ _, (Finset.mem_filter.mp hl).2⟩
  · intro l hl l' hl' he; exact congrArg (fun x : (Sh 16).Idx => (x 0).val) he
  · intro x hx; exact ⟨(x 0).val, by simp only [Finset.mem_filter, Finset.mem_range]; exact ⟨val_lt x, (Finset.mem_filter.mp hx).2⟩, ix_self x _⟩

theorem count_lane (v : IVec (Sh 16) 32) {l : ℕ} (hl : l < 16) :
    rd (scanCount (fun _ => 1#1) v).2 l = BitVec.ofNat 32 ((Finset.range 16).filter fun l' => l' ≤ l ∧ rd v l' = rd v l).card := by
  rw [rd_of_lt _ hl]
  show (if (1#1 : BitVec 1) = 1 then BitVec.ofNat 32 (Finset.univ.filter fun j : (Sh 16).Idx => ((Sh 16).rowMajor j).val ≤ ((Sh 16).rowMajor (ix l hl)).val ∧ (1#1 : BitVec 1) = 1 ∧ v j = v (ix l hl)).card else 1) = _
  refine (if_pos (show (1#1 : BitVec 1) = 1 from rfl)).trans ?_
  congr 1
  rw [← card_lanes]
  congr 1
  ext x
  simp only [Finset.mem_filter, Finset.mem_univ, true_and, rowMajor_val, apply_eq_rd v x, rd_of_lt v hl]
  constructor
  · rintro ⟨a, -, c⟩; exact ⟨a, c⟩
  · rintro ⟨a, c⟩; exact ⟨a, rfl, c⟩

theorem last_lane (v : IVec (Sh 16) 32) {l : ℕ} (hl : l < 16) :
    rd (scanCount (fun _ => 1#1) v).1 l = 1#1 ↔ ∀ l' < 16, l < l' → rd v l' ≠ rd v l := by
  rw [rd_of_lt _ hl]
  show (if (1#1 : BitVec 1) = 1 ∧ _ then (1#1) else 0#1) = 1#1 ↔ _
  constructor
  · intro h
    split at h
    · next hh =>
      intro l' hl' hlt he
      refine hh.2 (ix l' hl') ?_ ⟨rfl, ?_⟩
      · simp only [rowMajor_val]; exact hlt
      · rw [rd_of_lt v hl', rd_of_lt v hl] at he; exact he
    · exact absurd h (by decide)
  · intro h
    rw [if_pos]
    refine ⟨rfl, fun j hj hh => ?_⟩
    simp only [rowMajor_val] at hj
    refine h (j 0).val (val_lt j) hj ?_
    rw [← apply_eq_rd, rd_of_lt v hl]; exact hh.2

/-- The last lane of each value holds the number of lanes with that value. -/
theorem count_sum (v : IVec (Sh 16) 32) (j : ℕ) :
    (∑ l ∈ Finset.range 16, if rd (scanCount (fun _ => 1#1) v).1 l = 1#1 ∧ (rd v l).toNat = j then rd (scanCount (fun _ => 1#1) v).2 l else 0)
      = BitVec.ofNat 32 ((Finset.range 16).filter fun l => (rd v l).toNat = j).card := by
  classical
  by_cases hne : ((Finset.range 16).filter fun l => (rd v l).toNat = j).Nonempty
  · set L := ((Finset.range 16).filter fun l => (rd v l).toNat = j).max' hne with hL
    have hLm := Finset.max'_mem _ hne
    rw [← hL, Finset.mem_filter, Finset.mem_range] at hLm
    have hmax : ∀ l < 16, (rd v l).toNat = j → l ≤ L := fun l hl hj => Finset.le_max' _ _ (by simp [hl, hj])
    rw [Finset.sum_eq_single L]
    · rw [if_pos]
      · rw [count_lane v hLm.1]
        congr 2
        ext l
        simp only [Finset.mem_filter, Finset.mem_range]
        constructor
        · rintro ⟨a, b, c⟩; exact ⟨a, by rw [c]; exact hLm.2⟩
        · rintro ⟨a, b⟩; exact ⟨a, hmax l a b, BitVec.eq_of_toNat_eq (b.trans hLm.2.symm)⟩
      · refine ⟨(last_lane v hLm.1).mpr fun l' hl' hlt he => ?_, hLm.2⟩
        have := hmax l' hl' (by rw [he]; exact hLm.2)
        omega
    · intro l hl hne'
      rw [if_neg]
      rintro ⟨h1, h2⟩
      have hl16 := Finset.mem_range.mp hl
      have hle := hmax l hl16 h2
      exact (last_lane v hl16).mp h1 L hLm.1 (by omega) (BitVec.eq_of_toNat_eq (hLm.2.trans h2.symm))
    · intro h; exact absurd (Finset.mem_range.mpr hLm.1) h
  · rw [Finset.not_nonempty_iff_eq_empty] at hne
    rw [hne, Finset.card_empty]
    refine Finset.sum_eq_zero fun l hl => if_neg fun hh => ?_
    have : l ∈ ((Finset.range 16).filter fun l => (rd v l).toNat = j) := by simp [Finset.mem_range.mp hl, hh.2]
    rw [hne] at this; exact absurd this (Finset.notMem_empty _)

/-! ## Running sums -/

theorem scan_lane (v : IVec (Sh 16) 32) {l : ℕ} (hl : l < 16) :
    rd (scan .sum v) l = ∑ l' ∈ Finset.range (l + 1), rd v l' := by
  rw [rd_of_lt _ hl]
  have key : ∀ a : Fin 16 → BitVec 32, ∀ j : Fin 16,
      ((List.finRange 16).filter fun k => decide (0 < k.val ∧ k.val ≤ j.val)).foldl (fun r k => r + a k) (a 0)
        = ∑ l' ∈ Finset.range (j.val + 1), if h : l' < 16 then a ⟨l', h⟩ else 0 := by
    intro a j
    have hl : ∀ j : Fin 16, ((List.finRange 16).filter fun k => decide (0 < k.val ∧ k.val ≤ j.val))
        = (List.finRange 16).filter (fun k => decide (0 < k.val ∧ k.val ≤ j.val)) := fun _ => rfl
    obtain ⟨j, hj⟩ := j
    induction j with
    | zero =>
      have h0 : ((List.finRange 16).filter fun k : Fin 16 => decide (0 < k.val ∧ k.val ≤ 0)) = [] := by decide
      simp only at h0 ⊢
      rw [h0]; simp
    | succ j ih =>
      have h1 : ∀ j : Fin 15, ((List.finRange 16).filter fun k : Fin 16 => decide (0 < k.val ∧ k.val ≤ j.val + 1))
          = ((List.finRange 16).filter fun k : Fin 16 => decide (0 < k.val ∧ k.val ≤ j.val)) ++ [j.succ] := by decide
      have h2 := h1 ⟨j, by omega⟩
      simp only at h2 ⊢
      rw [h2, List.foldl_append, Finset.sum_range_succ]
      have := ih (by omega)
      simp only at this
      rw [this, List.foldl_cons, List.foldl_nil, dif_pos hj]
      rfl
  refine (key (fun k => v (ix k.val k.isLt)) ⟨l, hl⟩).trans ?_
  refine Finset.sum_congr rfl fun l' hl' => ?_
  have : l' < 16 := by have := Finset.mem_range.mp hl'; simp at this; omega
  rw [dif_pos this, rd_of_lt v this]

end Cert.Proof.Lanes
-- ==== Proof.Tile.lean ====
/-
  The program as the launch theorem sees it, and one tile's own memory: its eleven scratch buffers as a record of
  contents, what a program that touches nothing else does to them, and the rule of each operation on each buffer.
-/
module

public import proofs.«01_k».proof.Defs
public import proofs.«01_k».proof.Proof.Lanes
public import proofs.«01_k».proof.Proof.Gen.KernelIdeal
public import proofs.«01_k».proof.Proof.Gen.KernelIdeal.Skeleton
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic

@[expose] public section

noncomputable section

namespace Cert.Proof.Tile

open Cert.KernelIdeal Cert.KernelIdeal.Gen
open Cert.Proof.Lanes

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the barrier cells' and the exchanges' rounds, the transfers' counters -/

abbrev UH : Type := URounds (GSem nD τ sig) ℕ
abbrev UB : Type := URounds (GSem nD τ sig) ℕ
abbrev UU : Type := UH × (UB × Counters)

local notation "𝕄" => MT nD τ sig (HIx 2) (Elt F) ℕ UU ℕ

abbrev EH : Emb UH (MT nD τ sig (HIx 2) (Elt F) ℕ UU ℕ) := embL
def EB : Emb UB (MT nD τ sig (HIx 2) (Elt F) ℕ UU ℕ) :=
  ((Emb.inl : Emb UB (UB × Counters)).trans (Emb.inr : Emb (UB × Counters) UU)).trans
    (uEmb (nD := nD) (sig := sig) (Ix := HIx 2) (Val := Elt F) (Name := ℕ) (U := UU) (Lvl := ℕ)).toEmb
instance EB_landsIn : (EB : Emb UB 𝕄).LandsIn (upEmb : UEmb _ 𝕄) := by unfold EB; infer_instance

/-! ## A tile's scratch buffers -/

/-- The contents of a tile's scratch buffers. -/
structure St where
  b1 : (Sh 8192).Idx → BitVec 32
  b2 : (Sh 8192).Idx → BitVec 32
  b3 : (Sh 8192).Idx → BitVec 32
  b4 : (Sh 8208).Idx → BitVec 32
  b5 : (Sh 8192).Idx → BitVec 32
  b6 : (Sh 8208).Idx → BitVec 32
  cnt : (Sh 2048).Idx → BitVec 32
  oex : (Sh 8208).Idx → BitVec 32
  pc : (Sh 8208).Idx → BitVec 32
  pe : (Sh 8208).Idx → BitVec 32
  rl : (Sh 8192).Idx → BitVec 32

variable [FloatOps F]

/-- The SparseCore and the tile of a pair of coordinates. -/
abbrev cV (L : grid0.Coords) : Fin τ.nSC := (L 0).castLE hcore0
abbrev jV (L : grid0.Coords) : Fin τ.nSub := (L 1).castLE hsub0

variable (d : Dev nD) (L : grid0.Coords)

/-- A tile's scratch buffers, held with given contents. -/
def Res (s : St) : sProp (MT nD τ sig (HIx 2) (Elt F) ℕ UU ℕ) :=
  iprop(((V d (cV L) (jV L)).loc cc0_scratch0 ↦{fullShare} s.b1)
    ∗ ((V d (cV L) (jV L)).loc cc0_scratch1 ↦{fullShare} s.b2)
    ∗ ((V d (cV L) (jV L)).loc cc0_scratch2 ↦{fullShare} s.b3)
    ∗ ((V d (cV L) (jV L)).loc cc0_scratch3 ↦{fullShare} s.b4)
    ∗ ((V d (cV L) (jV L)).loc cc0_scratch4 ↦{fullShare} s.b5)
    ∗ ((V d (cV L) (jV L)).loc cc0_scratch5 ↦{fullShare} s.b6)
    ∗ ((V d (cV L) (jV L)).loc cc0_scratch6 ↦{fullShare} s.cnt)
    ∗ ((V d (cV L) (jV L)).loc cc0_scratch7 ↦{fullShare} s.oex)
    ∗ ((V d (cV L) (jV L)).loc cc0_scratch8 ↦{fullShare} s.pc)
    ∗ ((V d (cV L) (jV L)).loc cc0_scratch9 ↦{fullShare} s.pe)
    ∗ ((V d (cV L) (jV L)).loc cc0_scratch10 ↦{fullShare} s.rl))

/-- A program over a tile's scratch alone, from given contents: it ends, and its value and the contents are in `Q`. -/
def Run {α : Type} (s : St) (e : Prog (TpuEff nD τ sig (Elt F) Λ₀ (.scVector (cV L) (jV L))) α) (Q : α → St → Prop) : Prop :=
  Res (F := F) d L s ⊢ wp frame (wpE (defs₀ (F := F)) 𝒱₀ (V d (cV L) (jV L)) none) Set.univ e
    fun r => iprop(∃ s', ⌜Q r s'⌝ ∗ Res (F := F) d L s')

variable {d L} {α β : Type} {s : St} {Q : α → St → Prop}

theorem Run.mono {e : Prog (TpuEff nD τ sig (Elt F) Λ₀ (.scVector (cV L) (jV L))) α} {P : α → St → Prop} (h : Run (F := F) d L s e P)
    (hPQ : ∀ r s', P r s' → Q r s') : Run (F := F) d L s e Q := by
  refine h.trans (wp_mono _ _ _ fun r => ?_)
  iintro ⟨%s', %hp, H⟩
  iexists s'; isplitr
  · ipureintro; exact hPQ r s' hp
  · iexact H

theorem Run.pure {r : α} (h : Q r s) : Run (F := F) d L s (pure r) Q := by
  unfold Run
  have h' : Res (F := F) d L s ⊢ iprop(∃ s', ⌜Q r s'⌝ ∗ Res (F := F) d L s') := by
    iintro H
    iexists s; isplitr
    · ipureintro; exact h
    iexact H
  exact h'.trans (le_wp_ret (Q := fun r => iprop(∃ s', ⌜Q r s'⌝ ∗ Res (F := F) d L s')) _ _ _ r)

theorem Run.bind {e : Prog (TpuEff nD τ sig (Elt F) Λ₀ (.scVector (cV L) (jV L))) β} {k : β → Prog (TpuEff nD τ sig (Elt F) Λ₀ (.scVector (cV L) (jV L))) α}
    {P : β → St → Prop} (h : Run (F := F) d L s e P) (hk : ∀ r s', P r s' → Run (F := F) d L s' (k r) Q) : Run (F := F) d L s (e >>= k) Q := by
  unfold Run
  rw [wp_bind]
  refine h.trans (wp_mono _ _ _ fun r => ?_)
  iintro ⟨%s', %hp, H⟩
  iapply (show _ ⊢ _ from hk r s' hp); iexact H

theorem Run.assume {p : Prop} {dp : Decidable p} {k : PLift p → Prog (TpuEff nD τ sig (Elt F) Λ₀ (.scVector (cV L) (jV L))) α}
    (h : p) (hk : Run (F := F) d L s (k ⟨h⟩) Q) : Run (F := F) d L s (Prog.lift (TpuEff.assume p dp) >>= k) Q := by
  unfold Run
  rw [show (Prog.lift (TpuEff.assume p dp) >>= k : Prog (TpuEff nD τ sig (Elt F) Λ₀ (.scVector (cV L) (jV L))) α) = .op (.assume p dp) k from rfl]
  rw [wp_assume_of _ _ _ _ h]
  exact hk

theorem Run.for_ {σ : Type} {w : ℕ} {l : Scf.Loop w} (hok : l.OK) {init : σ}
    {body : Fin l.trips → σ → Prog (TpuEff nD τ sig (Elt F) Λ₀ (.scVector (cV L) (jV L))) σ} (I : ℕ → σ → St → Prop) (h0 : I 0 init s)
    (hb : ∀ (k : Fin l.trips) acc s', I k.val acc s' → Run (F := F) d L s' (body k acc) (I (k.val + 1))) :
    Run (F := F) d L s (Scf.Loop.for l hok init body) (I l.trips) := by
  unfold Run
  refine BIBase.Entails.trans ?_ (Scf.wp_for _ _ _ l.lb l.ub l.st hok init body (fun k acc => iprop(∃ s', ⌜I k acc s'⌝ ∗ Res (F := F) d L s')) ?_)
  · iintro H
    isplitl [H]
    · iexists s; isplitr
      · ipureintro; exact h0
      · iexact H
    · iintro %acc H; iexact H
  · intro k acc
    iintro ⟨%s', %hp, H⟩
    iapply (show _ ⊢ _ from hb k acc s' hp); iexact H

/-- A load of sixteen elements reads the chunk. -/
theorem chunk_eq {n o : ℕ} (f : (Sh n).Idx → BitVec 32) (inb : ∀ a, (![o] : Fin 1 → ℕ) a + S16.size a ≤ (Sh n).size a) :
    chunk f o = fun x => f ((Rect.unit (s := Sh n) ![o] S16.size inb).emb x) := by
  funext x
  have h := inb 0
  have hx : (x 0).val < 16 := (x 0).isLt
  have hlt : o + (x 0).val < n := by
    have : o + 16 ≤ n := h
    omega
  show rd f (o + (x 0).val) = _
  rw [rd_of_lt f hlt]
  congr 1
  funext a; apply Fin.ext; rw [Fin.eq_zero a]
  show o + (x 0).val = o + 1 * (x 0).val
  omega

end Cert.Proof.Tile
-- ==== Proof.TileOps.lean ====
/-
  The rule of each operation of a tile on a scratch buffer: sixteen elements loaded or stored, sixteen elements gathered
  or scattered. Each is proved once, from what `Focus` says of a buffer, and each buffer is shown to be such a one.
-/
module

public import proofs.«01_k».proof.Defs
public import proofs.«01_k».proof.Proof.Lanes
public import proofs.«01_k».proof.Proof.Gen.KernelIdeal
public import proofs.«01_k».proof.Proof.Gen.KernelIdeal.Skeleton
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Tile

@[expose] public section

noncomputable section

namespace Cert.Proof.Tile

open Cert.KernelIdeal Cert.KernelIdeal.Gen
open Cert.Proof.Lanes

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable {d : Dev nD} {L : grid0.Coords} {α β : Type} {s : St} {Q : α → St → Prop}

/-- The buffer `m` holds the field `get` of a tile's scratch: it can be taken out and given back changed, and its elements
are read and written in place. `of` takes the field's values to the buffer's contents. -/
structure Focus {n : ℕ} (d : Dev nD) (L : grid0.Coords) (m : Memref sig .scVector .vmem (Sh n) .i32)
    (of : ((Sh n).Idx → BitVec 32) → Buf (Elt F) (m.view.loc (V d (cV L) (jV L))))
    (get : St → (Sh n).Idx → BitVec 32) (set : St → ((Sh n).Idx → BitVec 32) → St) : Prop where
  own : ∀ s, Res (F := F) d L s ⊢ iprop((m.view.loc (V d (cV L) (jV L)) ↦{fullShare} of (get s))
    ∗ ∀ f, (m.view.loc (V d (cV L) (jV L)) ↦{fullShare} of f) -∗ Res (F := F) d L (set s f))
  same : ∀ s, set s (get s) = s
  read : ∀ f o inb, (m.access (Rect.unit (s := Sh n) ![o] S16.size inb)).read (Elt F) (of f) = chunk f o
  write : ∀ f w o inb, (m.access (Rect.unit (s := Sh n) ![o] S16.size inb)).write (Elt F) (of f) w Finset.univ = of (put f o w)
  set_all : (m.access (.whole (Sh n))).set = Finset.univ
  read_all : ∀ f, (m.access (.whole (Sh n))).read (Elt F) (of f) = f
  write_all : ∀ f w, (m.access (.whole (Sh n))).write (Elt F) (of f) w Finset.univ = of w

section Rules

variable {n : ℕ} {m : Memref sig .scVector .vmem (Sh n) .i32} {of : ((Sh n).Idx → BitVec 32) → Buf (Elt F) (m.view.loc (V d (cV L) (jV L)))}
  {get : St → (Sh n).Idx → BitVec 32} {set : St → ((Sh n).Idx → BitVec 32) → St}

theorem Focus.own_same (hf : Focus (F := F) d L m of get set) (s : St) : Res (F := F) d L s ⊢ iprop((m.view.loc (V d (cV L) (jV L)) ↦{fullShare} of (get s))
    ∗ ((m.view.loc (V d (cV L) (jV L)) ↦{fullShare} of (get s)) -∗ Res (F := F) d L s)) := by
  iintro H
  ihave H := (hf.own s) $$ H
  icases H with ⟨H, Hr⟩
  isplitl [H]; · iexact H
  iintro H
  iapply (Entails.of_eq (congrArg (Res (F := F) d L) (hf.same s)))
  iapply Hr; iexact H

theorem Run.load (hf : Focus (F := F) d L m of get set) {o : ℕ} {off : Fin 1 → ℕ} {inb : ∀ a, off a + S16.size a ≤ (Sh n).size a} {hl}
    {k : ((Sh 16).Idx → BitVec 32) → Prog (TpuEff nD τ sig (Elt F) Λ₀ (.scVector (cV L) (jV L))) α} (ho : off = ![o])
    (hk : Run (F := F) d L s (k (chunk (get s) o)) Q) :
    Run (F := F) d L s (Prog.lift (.load m (Rect.unit (s := Sh n) off S16.size inb).toLoadRect hl) >>= k) Q := by
  subst ho
  unfold Run at hk ⊢
  rw [← hf.read (get s) o inb] at hk
  iintro H
  ihave H := (hf.own s) $$ H
  icases H with ⟨H, Hr⟩
  iapply (wp_load_rect (defs := defs₀ (F := F)) 𝒱₀ (V d (cV L) (jV L)) none Set.univ (m := m) (r := Rect.unit (s := Sh n) ![o] S16.size inb)
    (S := Finset.univ) (q := fullShare) (f := of (get s)) (Finset.subset_univ _)) $$ H
  iintro H
  iapply hk
  iapply (Entails.of_eq (congrArg (Res (F := F) d L) (hf.same s)))
  iapply Hr; iexact H

theorem Run.store (hf : Focus (F := F) d L m of get set) {o : ℕ} {off : Fin 1 → ℕ} {inb : ∀ a, off a + S16.size a ≤ (Sh n).size a} {hx hm}
    {w : (Sh 16).Idx → BitVec 32} {k : PUnit → Prog (TpuEff nD τ sig (Elt F) Λ₀ (.scVector (cV L) (jV L))) α} (ho : off = ![o])
    (hk : Run (F := F) d L (set s (put (get s) o w)) (k ⟨⟩) Q) :
    Run (F := F) d L s (Prog.lift (.store m (Rect.unit (s := Sh n) off S16.size inb) w Finset.univ hx hm) >>= k) Q := by
  subst ho
  unfold Run at hk ⊢
  iintro H
  ihave H := (hf.own s) $$ H
  icases H with ⟨H, Hr⟩
  iapply (wp_store (defs := defs₀ (F := F)) 𝒱₀ (V d (cV L) (jV L)) none Set.univ (m := m) (r := Rect.unit (s := Sh n) ![o] S16.size inb)
    (S := Finset.univ) (f := of (get s)) (Finset.subset_univ _)) $$ H
  iintro H
  iapply hk
  iapply Hr
  iapply (Entails.of_eq (congrArg (fun f => (m.view.loc (V d (cV L) (jV L)) ↦{fullShare} f : sProp 𝕄)) (hf.write (get s) w o inb))); iexact H

theorem Run.gather (hf : Focus (F := F) d L m of get set) {v : (Sh 16).Idx → BitVec 32} {h hl}
    {k : ((Sh 16).Idx → BitVec 32) → Prog (TpuEff nD τ sig (Elt F) Λ₀ (.scVector (cV L) (jV L))) α}
    (hk : Run (F := F) d L s (k (pick (get s) v)) Q) :
    Run (F := F) d L s (SparseCore.vectorLoadIdx (t := S16) m ![v] h hl >>= k) Q := by
  unfold Run at hk ⊢
  rw [← loadIdx_eq_pick (F := F) (get s) v h] at hk
  iintro H
  ihave H := (hf.own s) $$ H
  icases H with ⟨H, Hr⟩
  iapply (SparseCore.wp_vectorLoadIdx (defs := defs₀ (F := F)) 𝒱₀ (V d (cV L) (jV L)) none Set.univ (base := m)
    (S := Finset.univ) (q := fullShare) (f := of (get s)) (Finset.subset_univ _)) $$ H
  iintro H
  rw [hf.read_all]
  iapply hk
  iapply (Entails.of_eq (congrArg (Res (F := F) d L) (hf.same s)))
  iapply Hr; iexact H

theorem Run.scatter (hf : Focus (F := F) d L m of get set) {v w : (Sh 16).Idx → BitVec 32} {mk : IVec (Sh 16) 1} {add : Bool} {h hs}
    {k : PUnit → Prog (TpuEff nD τ sig (Elt F) Λ₀ (.scVector (cV L) (jV L))) α}
    (hk : Run (F := F) d L (set s (storeIdx (F := F) (e := .i32) (s := Sh n) (get s) ![v] w mk add h)) (k ⟨⟩) Q) :
    Run (F := F) d L s (SparseCore.vectorStoreIdx m ![v] w mk add h hs >>= k) Q := by
  unfold Run at hk ⊢
  iintro H
  ihave H := (hf.own s) $$ H
  icases H with ⟨H, Hr⟩
  ihave H := (Entails.of_eq (congrArg (fun S => (m.view.loc (V d (cV L) (jV L)) ↦[S]{fullShare} of (get s) : sProp 𝕄)) hf.set_all.symm)) $$ H
  iapply (SparseCore.wp_vectorStoreIdx (defs := defs₀ (F := F)) 𝒱₀ (V d (cV L) (jV L)) none Set.univ (base := m) (f := of (get s))) $$ H
  iintro H
  iapply hk
  iapply Hr
  ihave H := (Entails.of_eq (congrArg (fun S => (m.view.loc (V d (cV L) (jV L)) ↦[S]{fullShare} _ : sProp 𝕄)) hf.set_all)) $$ H
  rw [hf.read_all, hf.write_all]
  iexact H

end Rules

/-- Contents with sixteen elements written in place are `put`. -/
theorem put_eq {n o : ℕ} {e : (Sh 16).Idx → (Sh n).Idx} {f g : (Sh n).Idx → BitVec 32} {w : (Sh 16).Idx → BitVec 32}
    (he : ∀ x, (e x 0).val = o + 1 * (x 0).val) (hin : ∀ x, g (e x) = w x) (hout : ∀ j, (∀ x, e x ≠ j) → g j = f j) : g = put f o w := by
  funext j
  by_cases hj : o ≤ (j 0).val ∧ (j 0).val < o + 16
  · have hx : (j 0).val - o < 16 := by omega
    have hej : e (ix ((j 0).val - o) hx) = j := by
      funext a; apply Fin.ext; rw [Fin.eq_zero a, he]
      show o + 1 * ((j 0).val - o) = (j 0).val
      omega
    rw [← hej, hin, hej]
    refine Eq.trans ?_ (if_pos hj).symm
    exact (rd_of_lt (α := BitVec 32) w hx).symm
  · refine (hout j fun x hx => hj ?_).trans (if_neg hj).symm
    have h16 : (x 0).val < 16 := (x 0).isLt
    rw [← hx, he]; omega

theorem focus_b1 : Focus (F := F) (n := 8192) d L (Memref.whole cc0_scratch0) (fun f => f) St.b1 (fun s f => { s with b1 := f }) where
  own s := by
    unfold Res
    iintro ⟨Hb1, Hb2, Hb3, Hb4, Hb5, Hb6, Hcnt, Hoex, Hpc, Hpe, Hrl⟩
    isplitl [Hb1]; · iexact Hb1
    iintro %f Hb1
    iframe
  same _ := rfl
  read f _ inb := (chunk_eq f inb).symm
  write _ _ _ _ := put_eq (fun _ => rfl) (fun x => View.write_emb_of_mem _ _ (Finset.mem_univ x)) fun _ hj => View.write_of_not_mem _ _ _ fun hm => by
    obtain ⟨x, -, h⟩ := Finset.mem_map.mp hm
    exact hj x h
  set_all := Memref.set_access_whole _
  read_all _ := Memref.read_access_whole ..
  write_all _ _ := Memref.write_access_whole_univ ..

theorem focus_b2 : Focus (F := F) (n := 8192) d L (Memref.whole cc0_scratch1) (fun f => f) St.b2 (fun s f => { s with b2 := f }) where
  own s := by
    unfold Res
    iintro ⟨Hb1, Hb2, Hb3, Hb4, Hb5, Hb6, Hcnt, Hoex, Hpc, Hpe, Hrl⟩
    isplitl [Hb2]; · iexact Hb2
    iintro %f Hb2
    iframe
  same _ := rfl
  read f _ inb := (chunk_eq f inb).symm
  write _ _ _ _ := put_eq (fun _ => rfl) (fun x => View.write_emb_of_mem _ _ (Finset.mem_univ x)) fun _ hj => View.write_of_not_mem _ _ _ fun hm => by
    obtain ⟨x, -, h⟩ := Finset.mem_map.mp hm
    exact hj x h
  set_all := Memref.set_access_whole _
  read_all _ := Memref.read_access_whole ..
  write_all _ _ := Memref.write_access_whole_univ ..

theorem focus_b3 : Focus (F := F) (n := 8192) d L (Memref.whole cc0_scratch2) (fun f => f) St.b3 (fun s f => { s with b3 := f }) where
  own s := by
    unfold Res
    iintro ⟨Hb1, Hb2, Hb3, Hb4, Hb5, Hb6, Hcnt, Hoex, Hpc, Hpe, Hrl⟩
    isplitl [Hb3]; · iexact Hb3
    iintro %f Hb3
    iframe
  same _ := rfl
  read f _ inb := (chunk_eq f inb).symm
  write _ _ _ _ := put_eq (fun _ => rfl) (fun x => View.write_emb_of_mem _ _ (Finset.mem_univ x)) fun _ hj => View.write_of_not_mem _ _ _ fun hm => by
    obtain ⟨x, -, h⟩ := Finset.mem_map.mp hm
    exact hj x h
  set_all := Memref.set_access_whole _
  read_all _ := Memref.read_access_whole ..
  write_all _ _ := Memref.write_access_whole_univ ..

theorem focus_b4 : Focus (F := F) (n := 8208) d L (Memref.whole cc0_scratch3) (fun f => f) St.b4 (fun s f => { s with b4 := f }) where
  own s := by
    unfold Res
    iintro ⟨Hb1, Hb2, Hb3, Hb4, Hb5, Hb6, Hcnt, Hoex, Hpc, Hpe, Hrl⟩
    isplitl [Hb4]; · iexact Hb4
    iintro %f Hb4
    iframe
  same _ := rfl
  read f _ inb := (chunk_eq f inb).symm
  write _ _ _ _ := put_eq (fun _ => rfl) (fun x => View.write_emb_of_mem _ _ (Finset.mem_univ x)) fun _ hj => View.write_of_not_mem _ _ _ fun hm => by
    obtain ⟨x, -, h⟩ := Finset.mem_map.mp hm
    exact hj x h
  set_all := Memref.set_access_whole _
  read_all _ := Memref.read_access_whole ..
  write_all _ _ := Memref.write_access_whole_univ ..

theorem focus_b5 : Focus (F := F) (n := 8192) d L (Memref.whole cc0_scratch4) (fun f => f) St.b5 (fun s f => { s with b5 := f }) where
  own s := by
    unfold Res
    iintro ⟨Hb1, Hb2, Hb3, Hb4, Hb5, Hb6, Hcnt, Hoex, Hpc, Hpe, Hrl⟩
    isplitl [Hb5]; · iexact Hb5
    iintro %f Hb5
    iframe
  same _ := rfl
  read f _ inb := (chunk_eq f inb).symm
  write _ _ _ _ := put_eq (fun _ => rfl) (fun x => View.write_emb_of_mem _ _ (Finset.mem_univ x)) fun _ hj => View.write_of_not_mem _ _ _ fun hm => by
    obtain ⟨x, -, h⟩ := Finset.mem_map.mp hm
    exact hj x h
  set_all := Memref.set_access_whole _
  read_all _ := Memref.read_access_whole ..
  write_all _ _ := Memref.write_access_whole_univ ..

theorem focus_b6 : Focus (F := F) (n := 8208) d L (Memref.whole cc0_scratch5) (fun f => f) St.b6 (fun s f => { s with b6 := f }) where
  own s := by
    unfold Res
    iintro ⟨Hb1, Hb2, Hb3, Hb4, Hb5, Hb6, Hcnt, Hoex, Hpc, Hpe, Hrl⟩
    isplitl [Hb6]; · iexact Hb6
    iintro %f Hb6
    iframe
  same _ := rfl
  read f _ inb := (chunk_eq f inb).symm
  write _ _ _ _ := put_eq (fun _ => rfl) (fun x => View.write_emb_of_mem _ _ (Finset.mem_univ x)) fun _ hj => View.write_of_not_mem _ _ _ fun hm => by
    obtain ⟨x, -, h⟩ := Finset.mem_map.mp hm
    exact hj x h
  set_all := Memref.set_access_whole _
  read_all _ := Memref.read_access_whole ..
  write_all _ _ := Memref.write_access_whole_univ ..

theorem focus_cnt : Focus (F := F) (n := 2048) d L (Memref.whole cc0_scratch6) (fun f => f) St.cnt (fun s f => { s with cnt := f }) where
  own s := by
    unfold Res
    iintro ⟨Hb1, Hb2, Hb3, Hb4, Hb5, Hb6, Hcnt, Hoex, Hpc, Hpe, Hrl⟩
    isplitl [Hcnt]; · iexact Hcnt
    iintro %f Hcnt
    iframe
  same _ := rfl
  read f _ inb := (chunk_eq f inb).symm
  write _ _ _ _ := put_eq (fun _ => rfl) (fun x => View.write_emb_of_mem _ _ (Finset.mem_univ x)) fun _ hj => View.write_of_not_mem _ _ _ fun hm => by
    obtain ⟨x, -, h⟩ := Finset.mem_map.mp hm
    exact hj x h
  set_all := Memref.set_access_whole _
  read_all _ := Memref.read_access_whole ..
  write_all _ _ := Memref.write_access_whole_univ ..

theorem focus_oex : Focus (F := F) (n := 8208) d L (Memref.whole cc0_scratch7) (fun f => f) St.oex (fun s f => { s with oex := f }) where
  own s := by
    unfold Res
    iintro ⟨Hb1, Hb2, Hb3, Hb4, Hb5, Hb6, Hcnt, Hoex, Hpc, Hpe, Hrl⟩
    isplitl [Hoex]; · iexact Hoex
    iintro %f Hoex
    iframe
  same _ := rfl
  read f _ inb := (chunk_eq f inb).symm
  write _ _ _ _ := put_eq (fun _ => rfl) (fun x => View.write_emb_of_mem _ _ (Finset.mem_univ x)) fun _ hj => View.write_of_not_mem _ _ _ fun hm => by
    obtain ⟨x, -, h⟩ := Finset.mem_map.mp hm
    exact hj x h
  set_all := Memref.set_access_whole _
  read_all _ := Memref.read_access_whole ..
  write_all _ _ := Memref.write_access_whole_univ ..

theorem focus_pc : Focus (F := F) (n := 8208) d L (Memref.whole cc0_scratch8) (fun f => f) St.pc (fun s f => { s with pc := f }) where
  own s := by
    unfold Res
    iintro ⟨Hb1, Hb2, Hb3, Hb4, Hb5, Hb6, Hcnt, Hoex, Hpc, Hpe, Hrl⟩
    isplitl [Hpc]; · iexact Hpc
    iintro %f Hpc
    iframe
  same _ := rfl
  read f _ inb := (chunk_eq f inb).symm
  write _ _ _ _ := put_eq (fun _ => rfl) (fun x => View.write_emb_of_mem _ _ (Finset.mem_univ x)) fun _ hj => View.write_of_not_mem _ _ _ fun hm => by
    obtain ⟨x, -, h⟩ := Finset.mem_map.mp hm
    exact hj x h
  set_all := Memref.set_access_whole _
  read_all _ := Memref.read_access_whole ..
  write_all _ _ := Memref.write_access_whole_univ ..

theorem focus_pe : Focus (F := F) (n := 8208) d L (Memref.whole cc0_scratch9) (fun f => f) St.pe (fun s f => { s with pe := f }) where
  own s := by
    unfold Res
    iintro ⟨Hb1, Hb2, Hb3, Hb4, Hb5, Hb6, Hcnt, Hoex, Hpc, Hpe, Hrl⟩
    isplitl [Hpe]; · iexact Hpe
    iintro %f Hpe
    iframe
  same _ := rfl
  read f _ inb := (chunk_eq f inb).symm
  write _ _ _ _ := put_eq (fun _ => rfl) (fun x => View.write_emb_of_mem _ _ (Finset.mem_univ x)) fun _ hj => View.write_of_not_mem _ _ _ fun hm => by
    obtain ⟨x, -, h⟩ := Finset.mem_map.mp hm
    exact hj x h
  set_all := Memref.set_access_whole _
  read_all _ := Memref.read_access_whole ..
  write_all _ _ := Memref.write_access_whole_univ ..

theorem focus_rl : Focus (F := F) (n := 8192) d L (Memref.whole cc0_scratch10) (fun f => f) St.rl (fun s f => { s with rl := f }) where
  own s := by
    unfold Res
    iintro ⟨Hb1, Hb2, Hb3, Hb4, Hb5, Hb6, Hcnt, Hoex, Hpc, Hpe, Hrl⟩
    isplitl [Hrl]; · iexact Hrl
    iintro %f Hrl
    iframe
  same _ := rfl
  read f _ inb := (chunk_eq f inb).symm
  write _ _ _ _ := put_eq (fun _ => rfl) (fun x => View.write_emb_of_mem _ _ (Finset.mem_univ x)) fun _ hj => View.write_of_not_mem _ _ _ fun hm => by
    obtain ⟨x, -, h⟩ := Finset.mem_map.mp hm
    exact hj x h
  set_all := Memref.set_access_whole _
  read_all _ := Memref.read_access_whole ..
  write_all _ _ := Memref.write_access_whole_univ ..

end Cert.Proof.Tile
-- ==== Proof.Count.lean ====
/-
  Counting and ranking positions by a key, and what one group of sixteen lanes adds to a histogram, to the sums before
  each bin, and to a permutation under way.
-/
module

public import proofs.«01_k».proof.Proof.Lanes
public import Mathlib.Data.Nat.Count

@[expose] public section

noncomputable section

namespace Cert.Proof.Lanes

open Idealize.ShloMosaic

/-! ## Counts -/

theorem count_card (p : ℕ → Prop) [DecidablePred p] (n : ℕ) : Nat.count p n = ((Finset.range n).filter p).card :=
  Nat.count_eq_card_filter_range p n

theorem count_congr {p q : ℕ → Prop} [DecidablePred p] [DecidablePred q] {n : ℕ} (h : ∀ j < n, p j ↔ q j) : Nat.count p n = Nat.count q n := by
  rw [count_card, count_card]
  congr 1
  ext j; simp only [Finset.mem_filter, Finset.mem_range]
  exact ⟨fun ⟨a, b⟩ => ⟨a, (h j a).mp b⟩, fun ⟨a, b⟩ => ⟨a, (h j a).mpr b⟩⟩

/-- Two disjoint counts add up. -/
theorem count_or {p q r : ℕ → Prop} [DecidablePred p] [DecidablePred q] [DecidablePred r] {n : ℕ} (h : ∀ j < n, r j ↔ p j ∨ q j)
    (hd : ∀ j < n, p j → ¬ q j) : Nat.count r n = Nat.count p n + Nat.count q n := by
  induction n with
  | zero => simp
  | succ n ih =>
    rw [Nat.count_succ, Nat.count_succ, Nat.count_succ, ih (fun j hj => h j (by omega)) (fun j hj => hd j (by omega))]
    have h1 := h n (by omega); have h2 := hd n (by omega)
    by_cases hp : p n <;> by_cases hq : q n
    · exact absurd hq (h2 hp)
    · rw [if_pos (h1.mpr (.inl hp)), if_pos hp, if_neg hq]; omega
    · rw [if_pos (h1.mpr (.inr hq)), if_neg hp, if_pos hq]; omega
    · rw [if_neg (fun hh => (h1.mp hh).elim hp hq), if_neg hp, if_neg hq]; omega

/-- A count over the indices below `i`, as one below a larger bound. -/
theorem count_below (p : ℕ → Prop) [DecidablePred p] {i n : ℕ} (h : i ≤ n) : Nat.count p i = Nat.count (fun j => p j ∧ j < i) n := by
  rw [count_card, count_card]
  congr 1
  ext j; simp only [Finset.mem_filter, Finset.mem_range]
  exact ⟨fun ⟨a, b⟩ => ⟨by omega, b, a⟩, fun ⟨_, b, c⟩ => ⟨c, b⟩⟩

theorem count_mono_pred {p q : ℕ → Prop} [DecidablePred p] [DecidablePred q] {n : ℕ} (h : ∀ j < n, p j → q j) : Nat.count p n ≤ Nat.count q n := by
  rw [count_card, count_card]
  refine Finset.card_le_card fun j hj => ?_
  simp only [Finset.mem_filter, Finset.mem_range] at hj ⊢
  exact ⟨hj.1, h j hj.1 hj.2⟩

theorem count_le_n (p : ℕ → Prop) [DecidablePred p] (n : ℕ) : Nat.count p n ≤ n := Nat.count_le p

theorem count_lt_n {p : ℕ → Prop} [DecidablePred p] {n i : ℕ} (hi : i < n) (h : ¬ p i) : Nat.count p n < n := by
  have h1 := count_or (n := n) (p := p) (q := fun j => ¬ p j) (r := fun _ => True) (fun j _ => by tauto) (fun j _ a b => b a)
  have h2 : 0 < Nat.count (fun j => ¬ p j) n := by
    rw [count_card, Finset.card_pos]; exact ⟨i, by simp [hi, h]⟩
  have h3 : Nat.count (fun _ => True) n = n := by simp
  omega

theorem count_below_self (n : ℕ) {i : ℕ} (h : i ≤ n) : Nat.count (fun j => j < i) n = i := by
  have := count_below (fun _ => True) h
  simp only [true_and] at this
  rw [← this]; simp

/-- A one-to-one map of the first `N` numbers into themselves counts the values below each of its own. -/
theorem perm_count {N : ℕ} (f : ℕ → ℕ) (hlt : ∀ i < N, f i < N) (hinj : ∀ i < N, ∀ j < N, f i = f j → i = j) {i : ℕ} (hi : i < N) :
    f i = Nat.count (fun j => f j < f i) N := by
  rw [count_card]
  have himg : (Finset.range N).image f = Finset.range N := by
    refine Finset.eq_of_subset_of_card_le ?_ ?_
    · intro x hx; obtain ⟨j, hj, rfl⟩ := Finset.mem_image.mp hx
      exact Finset.mem_range.mpr (hlt j (Finset.mem_range.mp hj))
    · rw [Finset.card_image_of_injOn]
      intro a ha b hb hab; exact hinj a (by simpa using ha) b (by simpa using hb) hab
  have h2 : ((Finset.range N).filter fun j => f j < f i).image f = Finset.range (f i) := by
    ext x; simp only [Finset.mem_image, Finset.mem_filter, Finset.mem_range]
    constructor
    · rintro ⟨j, ⟨_, h⟩, rfl⟩; exact h
    · intro hx
      have : x ∈ (Finset.range N).image f := by rw [himg]; exact Finset.mem_range.mpr (hx.trans (hlt i hi))
      obtain ⟨j, hj, rfl⟩ := Finset.mem_image.mp this
      exact ⟨j, ⟨Finset.mem_range.mp hj, hx⟩, rfl⟩
  have h3 : (((Finset.range N).filter fun j => f j < f i).image f).card = ((Finset.range N).filter fun j => f j < f i).card := by
    rw [Finset.card_image_of_injOn]
    intro a ha b hb hab
    have ha' := (Finset.mem_filter.mp (Finset.mem_coe.mp ha)).1
    have hb' := (Finset.mem_filter.mp (Finset.mem_coe.mp hb)).1
    exact hinj a (Finset.mem_range.mp ha') b (Finset.mem_range.mp hb') hab
  rw [← h3, h2, Finset.card_range]

theorem perm_surj {N : ℕ} (f : ℕ → ℕ) (hlt : ∀ i < N, f i < N) (hinj : ∀ i < N, ∀ j < N, f i = f j → i = j) {p : ℕ} (hp : p < N) :
    ∃ i < N, f i = p := by
  have himg : (Finset.range N).image f = Finset.range N := by
    refine Finset.eq_of_subset_of_card_le ?_ ?_
    · intro x hx; obtain ⟨j, hj, rfl⟩ := Finset.mem_image.mp hx
      exact Finset.mem_range.mpr (hlt j (Finset.mem_range.mp hj))
    · rw [Finset.card_image_of_injOn]
      intro a ha b hb hab; exact hinj a (by simpa using ha) b (by simpa using hb) hab
  have : p ∈ (Finset.range N).image f := by rw [himg]; exact Finset.mem_range.mpr hp
  obtain ⟨j, hj, h⟩ := Finset.mem_image.mp this
  exact ⟨j, Finset.mem_range.mp hj, h⟩

/-- A count along a permutation is the count of the permuted. -/
theorem perm_count_comp {N : ℕ} (f : ℕ → ℕ) (hlt : ∀ i < N, f i < N) (hinj : ∀ i < N, ∀ j < N, f i = f j → i = j)
    (p : ℕ → Prop) [DecidablePred p] : Nat.count (fun i => p (f i)) N = Nat.count p N := by
  rw [count_card, count_card]
  refine Finset.card_bij (fun i _ => f i) ?_ ?_ ?_
  · intro i hi; simp only [Finset.mem_filter, Finset.mem_range] at hi ⊢; exact ⟨hlt i hi.1, hi.2⟩
  · intro i hi j hj h; simp only [Finset.mem_filter, Finset.mem_range] at hi hj; exact hinj i hi.1 j hj.1 h
  · intro x hx; simp only [Finset.mem_filter, Finset.mem_range] at hx
    obtain ⟨i, hi, rfl⟩ := perm_surj f hlt hinj hx.1
    exact ⟨i, by simp only [Finset.mem_filter, Finset.mem_range]; exact ⟨hi, hx.2⟩, rfl⟩

/-! ## The stable rank by a key -/

/-- How many of the first `N` positions have a smaller key, and how many earlier ones the same. -/
def rk (N : ℕ) (key : ℕ → ℕ) (i : ℕ) : ℕ := Nat.count (fun j => key j < key i) N + Nat.count (fun j => key j = key i) i

theorem rk_lt_of {N : ℕ} {key : ℕ → ℕ} {i j : ℕ} (hi : i < N) (h : key i < key j ∨ (key i = key j ∧ i < j)) : rk N key i < rk N key j := by
  unfold rk
  rcases h with h | ⟨h, hij⟩
  · have h1 : Nat.count (fun l => key l = key i) i < Nat.count (fun l => key l = key i) N := Nat.count_strict_mono (p := fun l => key l = key i) rfl hi
    have h2 := count_or (n := N) (p := fun l => key l < key i) (q := fun l => key l = key i) (r := fun l => key l ≤ key i)
      (fun l _ => by show key l ≤ key i ↔ key l < key i ∨ key l = key i; omega) (fun l _ (a : key l < key i) (b : key l = key i) => by omega)
    have h3 := count_mono_pred (n := N) (p := fun l => key l ≤ key i) (q := fun l => key l < key j) (fun l _ (a : key l ≤ key i) => by
      show key l < key j; omega)
    omega
  · rw [h]
    have h1 : Nat.count (fun l => key l = key j) i < Nat.count (fun l => key l = key j) j := Nat.count_strict_mono (p := fun l => key l = key j) h hij
    omega

theorem rk_lt_iff {N : ℕ} {key : ℕ → ℕ} {i j : ℕ} (hi : i < N) (hj : j < N) :
    rk N key i < rk N key j ↔ key i < key j ∨ (key i = key j ∧ i < j) := by
  constructor
  · intro h
    by_contra hc
    rcases Nat.lt_trichotomy (key i) (key j) with h1 | h1 | h1
    · exact hc (.inl h1)
    · rcases Nat.lt_trichotomy i j with h2 | h2 | h2
      · exact hc (.inr ⟨h1, h2⟩)
      · subst h2; omega
      · have := rk_lt_of (N := N) (key := key) hj (.inr ⟨h1.symm, h2⟩); omega
    · have := rk_lt_of (N := N) (key := key) hj (.inl h1); omega
  · exact rk_lt_of hi

theorem rk_inj {N : ℕ} {key : ℕ → ℕ} : ∀ i < N, ∀ j < N, rk N key i = rk N key j → i = j := by
  intro i hi j hj h
  by_contra hne
  rcases Nat.lt_trichotomy (key i) (key j) with h1 | h1 | h1
  · have := rk_lt_of (N := N) (key := key) hi (.inl h1); omega
  · rcases Nat.lt_or_gt_of_ne hne with h2 | h2
    · have := rk_lt_of (N := N) (key := key) hi (.inr ⟨h1, h2⟩); omega
    · have := rk_lt_of (N := N) (key := key) hj (.inr ⟨h1.symm, h2⟩); omega
  · have := rk_lt_of (N := N) (key := key) hj (.inl h1); omega

theorem rk_eq_count {N : ℕ} {key : ℕ → ℕ} {i : ℕ} (hi : i < N) :
    rk N key i = Nat.count (fun j => key j < key i ∨ (key j = key i ∧ j < i)) N := by
  unfold rk
  rw [count_below (fun j => key j = key i) (Nat.le_of_lt hi)]
  symm
  exact count_or (fun j _ => Iff.rfl) (fun j _ (a : key j < key i) b => by omega)

theorem rk_lt {N : ℕ} {key : ℕ → ℕ} : ∀ i < N, rk N key i < N := by
  intro i hi
  rw [rk_eq_count hi]
  exact count_lt_n hi (by omega)

theorem rk_congr {N : ℕ} {key key' : ℕ → ℕ} (h : ∀ i < N, key i = key' i) {i : ℕ} (hi : i < N) : rk N key i = rk N key' i := by
  unfold rk
  rw [count_congr (q := fun j => key' j < key' i) (fun j hj => by rw [h j hj, h i hi]),
    count_congr (n := i) (q := fun j => key' j = key' i) (fun j hj => by rw [h j (by omega), h i hi])]

/-- The position that a one-to-one map sends to `p`. -/
def inv (N : ℕ) (f : ℕ → ℕ) (p : ℕ) : ℕ := open Classical in if h : ∃ i < N, f i = p then h.choose else 0

theorem inv_spec {N : ℕ} {f : ℕ → ℕ} {p : ℕ} (h : ∃ i < N, f i = p) : inv N f p < N ∧ f (inv N f p) = p := by
  unfold inv; rw [dif_pos h]; exact h.choose_spec

theorem inv_apply {N : ℕ} {f : ℕ → ℕ} (hinj : ∀ i < N, ∀ j < N, f i = f j → i = j) {i : ℕ} (hi : i < N) : inv N f (f i) = i := by
  have := inv_spec (N := N) (f := f) (p := f i) ⟨i, hi, rfl⟩
  exact hinj _ this.1 _ hi this.2

theorem inv_rk {N : ℕ} {key : ℕ → ℕ} {p : ℕ} (hp : p < N) : inv N (rk N key) p < N ∧ rk N key (inv N (rk N key) p) = p :=
  inv_spec (perm_surj _ rk_lt rk_inj hp)

/-- Two permutations in the same order are one. -/
theorem perm_eq {N : ℕ} {f g : ℕ → ℕ} (hf : ∀ i < N, f i < N) (hfi : ∀ i < N, ∀ j < N, f i = f j → i = j)
    (hg : ∀ i < N, g i < N) (hgi : ∀ i < N, ∀ j < N, g i = g j → i = j) (h : ∀ i < N, ∀ j < N, f i < f j ↔ g i < g j) {i : ℕ} (hi : i < N) : f i = g i := by
  rw [perm_count f hf hfi hi, perm_count g hg hgi hi]
  exact count_congr fun j hj => h j hj i hi

/-- A rank by the low digit, then by the high one, is the rank by the two. -/
theorem rk_rk {N : ℕ} {lo hi key : ℕ → ℕ} (h : ∀ i < N, ∀ j < N, key i < key j ↔ hi i < hi j ∨ (hi i = hi j ∧ lo i < lo j))
    (he : ∀ i < N, ∀ j < N, key i = key j ↔ hi i = hi j ∧ lo i = lo j) {i : ℕ} (hi' : i < N) :
    rk N (fun p => hi (inv N (rk N lo) p)) (rk N lo i) = rk N key i := by
  have hinv : ∀ i < N, inv N (rk N lo) (rk N lo i) = i := fun i hi => inv_apply rk_inj hi
  refine perm_eq (N := N) (f := fun i => rk N (fun p => hi (inv N (rk N lo) p)) (rk N lo i)) (g := rk N key)
    (fun i hi => rk_lt _ (rk_lt i hi)) (fun i hi j hj hh => rk_inj i hi j hj (rk_inj _ (rk_lt i hi) _ (rk_lt j hj) hh)) rk_lt rk_inj ?_ hi'
  intro i hi1 j hj1
  show rk N (fun p => hi (inv N (rk N lo) p)) (rk N lo i) < rk N (fun p => hi (inv N (rk N lo) p)) (rk N lo j) ↔ _
  rw [rk_lt_iff (rk_lt i hi1) (rk_lt j hj1), rk_lt_iff hi1 hj1, rk_lt_iff hi1 hj1, h i hi1 j hj1, he i hi1 j hj1, hinv i hi1, hinv j hj1]
  omega

/-! ## One group of lanes -/

theorem count_group (p : ℕ → Prop) [DecidablePred p] (a : ℕ) :
    Nat.count p (a + 16) = Nat.count p a + ((Finset.range 16).filter fun l => p (a + l)).card := by
  rw [Nat.count_add, count_card (fun k => p (a + k))]

section Steps

variable {F : FTy → Type} [FloatOps F] {n : ℕ}

theorem ofNat_add' (a b : ℕ) : BitVec.ofNat 32 a + BitVec.ofNat 32 b = BitVec.ofNat 32 (a + b) := by
  apply BitVec.eq_of_toNat_eq; simp [BitVec.toNat_add]

/-- Counts added at the last lane of each bin. -/
theorem hist_step {g : Vec F (Sh n) .i32} {v : IVec (Sh 16) 32} {key base : ℕ → ℕ} {a : ℕ}
    {h : ∀ a x, ((![v] : Fin 1 → IVec (Sh 16) 32) a x).toNat < (Sh n).size a}
    (hv : ∀ l < 16, (rd v l).toNat = key (a + l))
    (hg : ∀ b < n, rd (α := BitVec 32) g b = BitVec.ofNat 32 (base b + Nat.count (fun j => key j = b) a)) :
    ∀ b < n, rd (α := BitVec 32) (storeIdx (F := F) (e := .i32) g ![v] (scanCount (fun _ => 1#1) v).2 (scanCount (fun _ => 1#1) v).1 true h) b
      = BitVec.ofNat 32 (base b + Nat.count (fun j => key j = b) (a + 16)) := by
  intro b hb
  rw [storeIdx_add g v _ _ h hb, hg b hb]
  have := count_sum v b
  refine (congrArg (fun x => BitVec.ofNat 32 (base b + Nat.count (fun j => key j = b) a) + x) this).trans ?_
  rw [count_group, ofNat_add', ← Nat.add_assoc]
  congr 3
  ext l; simp only [Finset.mem_filter, Finset.mem_range]
  exact ⟨fun ⟨h1, h2⟩ => ⟨h1, by rw [← hv l h1]; exact h2⟩, fun ⟨h1, h2⟩ => ⟨h1, by rw [hv l h1]; exact h2⟩⟩

/-- The rank of each lane, from its bin's next free place and its number among the equal lanes. -/
theorem pos_lane {g : (Sh n).Idx → BitVec 32} {v : IVec (Sh 16) 32} {key : ℕ → ℕ} {N a l : ℕ} (hl : l < 16)
    (hv : ∀ l < 16, (rd v l).toNat = key (a + l)) (hb : key (a + l) < n)
    (hg : ∀ b < n, rd g b = BitVec.ofNat 32 (Nat.count (fun j => key j < b) N + Nat.count (fun j => key j = b) a)) :
    rd g (rd v l).toNat + rd (scanCount (fun _ => 1#1) v).2 l - 1#32 = BitVec.ofNat 32 (rk N key (a + l)) := by
  rw [hv l hl, hg _ hb, count_lane v hl, ofNat_add']
  have h1 : ((Finset.range 16).filter fun l' => l' ≤ l ∧ rd v l' = rd v l).card
      = ((Finset.range l).filter fun l' => key (a + l') = key (a + l)).card + 1 := by
    have : ((Finset.range 16).filter fun l' => l' ≤ l ∧ rd v l' = rd v l)
        = insert l ((Finset.range l).filter fun l' => key (a + l') = key (a + l)) := by
      ext l'; simp only [Finset.mem_filter, Finset.mem_range, Finset.mem_insert]
      constructor
      · rintro ⟨h1, h2, h3⟩
        rcases Nat.lt_or_ge l' l with h | h
        · right; refine ⟨h, ?_⟩; rw [← hv l' h1, ← hv l hl, h3]
        · left; omega
      · rintro (rfl | ⟨h1, h2⟩)
        · exact ⟨hl, Nat.le_refl _, rfl⟩
        · exact ⟨by omega, by omega, BitVec.eq_of_toNat_eq (by rw [hv l' (by omega), hv l hl, h2])⟩
    rw [this, Finset.card_insert_of_notMem (by simp)]
  rw [h1]
  unfold rk
  rw [Nat.count_add (p := fun j => key j = key (a + l)), count_card (fun k => key (a + k) = key (a + l))]
  apply BitVec.eq_of_toNat_eq
  simp only [BitVec.toNat_sub, BitVec.toNat_ofNat]
  omega

/-- A group scattered to places no earlier one took. -/
theorem scatter_step {g : Vec F (Sh n) .i32} {v : IVec (Sh 16) 32} {w : Vec F (Sh 16) .i32} {m : IVec (Sh 16) 1}
    {h : ∀ a x, ((![v] : Fin 1 → IVec (Sh 16) 32) a x).toNat < (Sh n).size a}
    {p : ℕ → ℕ} {q : ℕ → Prop} {vals : ℕ → BitVec 32} {a : ℕ}
    (hinj : ∀ i < a + 16, ∀ j < a + 16, q i → q j → p i = p j → i = j)
    (hv : ∀ l < 16, q (a + l) → (rd v l).toNat = p (a + l)) (hm : ∀ l < 16, rd m l = 1#1 ↔ q (a + l))
    (hw : ∀ l < 16, q (a + l) → rd (α := BitVec 32) w l = vals (a + l))
    (hg : ∀ j < a, q j → rd (α := BitVec 32) g (p j) = vals j) :
    ∀ j < a + 16, q j → rd (α := BitVec 32) (storeIdx (F := F) (e := .i32) g ![v] w m false h) (p j) = vals j := by
  intro j hj hq
  rcases Nat.lt_or_ge j a with hja | hja
  · rw [storeIdx_miss g v w m h false, hg j hja hq]
    intro l hl hml he
    have hql := (hm l hl).mp hml
    rw [hv l hl hql] at he
    have := hinj _ (by omega) _ hj hql hq he
    omega
  · obtain ⟨l, rfl⟩ := Nat.exists_eq_add_of_le hja
    have hl : l < 16 := by omega
    rw [storeIdx_hit g v w m h hl ((hm l hl).mpr hq) (hv l hl hq), hw l hl hq]
    intro l' hl' hlt hml he
    have hql := (hm l' hl').mp hml
    rw [hv l' hl' hql] at he
    have := hinj _ (by omega) _ hj hql hq he
    omega

end Steps

end Cert.Proof.Lanes
-- ==== Proof.HashPass.lean ====
/-
  A counting sort's steps on a tile's buffers, for the pass that groups the half-row by a hash: bins cleared, keys
  counted, the sums before each bin, and each element moved to its rank.
-/
module

public import proofs.«01_k».proof.Defs
public import proofs.«01_k».proof.Proof.Lanes
public import proofs.«01_k».proof.Proof.Gen.KernelIdeal
public import proofs.«01_k».proof.Proof.Gen.KernelIdeal.Skeleton
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Tile
public import proofs.«01_k».proof.Proof.TileOps
public import proofs.«01_k».proof.Proof.Count

@[expose] public section

noncomputable section

namespace Cert.Proof.Tile

open Cert.KernelIdeal Cert.KernelIdeal.Gen
open Cert.Proof.Lanes

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable {d : Dev nD} {L : grid0.Coords} {α β : Type} {s : St} {Q : α → St → Prop}

/-- The sums before the first sixteen-lane group of bins past `a`. -/
theorem scan_step {n N a : ℕ} {g : (Sh n).Idx → BitVec 32} {key : ℕ → ℕ} {w : (Sh 16).Idx → BitVec 32} {c : BitVec 32} (hn : a + 16 ≤ n)
    (hw : ∀ l < 16, rd w l = rd (scan .sum (chunk g a)) l - rd (chunk g a) l + c)
    (hc : c = BitVec.ofNat 32 (Nat.count (fun j => key j < a) N))
    (h1 : ∀ b < a, rd g b = BitVec.ofNat 32 (Nat.count (fun j => key j < b) N))
    (h2 : ∀ b < n, a ≤ b → rd g b = BitVec.ofNat 32 (Nat.count (fun j => key j = b) N)) :
    (∀ b < a + 16, rd (put g a w) b = BitVec.ofNat 32 (Nat.count (fun j => key j < b) N))
    ∧ (∀ b < n, a + 16 ≤ b → rd (put g a w) b = BitVec.ofNat 32 (Nat.count (fun j => key j = b) N))
    ∧ c + rd (scan .sum (chunk g a)) 15 = BitVec.ofNat 32 (Nat.count (fun j => key j < a + 16) N) := by
  have hs : ∀ l ≤ 16, c + ∑ l' ∈ Finset.range l, rd (chunk g a) l' = BitVec.ofNat 32 (Nat.count (fun j => key j < a + l) N) := by
    intro l hl
    induction l with
    | zero => simp [hc]
    | succ l ih =>
      rw [Finset.sum_range_succ, ← BitVec.add_assoc, ih (by omega), rd_chunk _ _ (by omega), h2 _ (by omega) (by omega), ofNat_add']
      congr 1
      symm
      exact count_or (fun j _ => by omega) (fun j _ a b => by omega)
  refine ⟨fun b hb => ?_, fun b hb hab => ?_, ?_⟩
  · rw [rd_put _ _ _ (by omega)]
    by_cases hba : a ≤ b
    · rw [if_pos ⟨hba, hb⟩, hw _ (by omega), scan_lane _ (by omega), Finset.sum_range_succ, BitVec.add_sub_cancel, BitVec.add_comm, hs _ (by omega)]
      congr 3; funext j; congr 1; omega
    · rw [if_neg (by omega), h1 b (by omega)]
  · rw [rd_put _ _ _ hb, if_neg (by omega), h2 b hb (by omega)]
  · rw [scan_lane _ (by omega)]; exact hs 16 (by omega)

/-- Sixteen more bins cleared. -/
theorem zero_step {n a : ℕ} {g w : _} (hw : ∀ l < 16, rd (n := 16) w l = 0#32) (hg : ∀ b < a, b < n → rd (n := n) g b = 0#32) :
    ∀ b < a + 16, b < n → rd (put g a w) b = 0#32 := by
  intro b hb hn
  rw [rd_put _ _ _ hn]
  by_cases h : a ≤ b
  · rw [if_pos ⟨h, hb⟩, hw _ (by omega)]
  · rw [if_neg (by omega), hg b (by omega) hn]

theorem lane_lt {v : IVec (Sh 16) 32} {n : ℕ} (h : ∀ l < 16, (rd v l).toNat < n) : ∀ (a : Fin 1) (x : (Sh 16).Idx), ((![v] : Fin 1 → IVec (Sh 16) 32) a x).toNat < (Sh n).size a := by
  intro a x
  rw [Fin.eq_zero a]
  show (v x).toNat < n
  rw [apply_eq_rd v x]; exact h _ (val_lt x)

/-- A word's hash: eleven bits. -/
def hsh (x : BitVec 32) : BitVec 32 := (x ^^^ x.sshiftRight' 10#32) &&& 2047#32

theorem hsh_lt (x : BitVec 32) : (hsh x).toNat < 2048 := by
  unfold hsh
  rw [BitVec.toNat_and]
  exact lt_of_le_of_lt Nat.and_le_right (by decide)

theorem rd_pay162 (v : Vec F S16 .i32) {l : ℕ} (h : l < 16) : rd (k0_pay162 v) l = hsh (rd (α := BitVec 32) v l) := by
  rw [rd_of_lt _ h, rd_of_lt (α := BitVec 32) v h]; rfl

theorem t1_run (s : St) : Run (F := F) d L s (Scf.Loop.for k0_t1_loop k0_t1_ok ⟨⟩ (k0_t1_body L (Memref.whole main_v0_scv) (Memref.isWhole_whole _) (Memref.whole main_arg1_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scoped0 cc0_scoped1 cc0_scoped2 cc0_scoped3 cc0_scoped4 cc0_scoped5 cc0_scoped6 cc0_scoped7 cc0_scoped8))
    (fun _ s' => ∃ g, s' = { s with cnt := g } ∧ ∀ b < 2048, rd g b = 0#32) := by
  refine Run.mono (Run.for_ k0_t1_ok (fun t _ s' => ∃ g, s' = { s with cnt := g } ∧ ∀ b < 16 * t, b < 2048 → rd g b = 0#32) ?_ ?_) ?_
  · exact ⟨s.cnt, rfl, fun b hb => by omega⟩
  · rintro t _ _ ⟨g, rfl, hg⟩
    unfold k0_t1_body
    refine Run.load focus_cnt (k0_off2_eq t) (Run.store focus_cnt (k0_off2_eq t) (Run.pure ?_))
    refine ⟨_, rfl, ?_⟩
    exact zero_step (fun l hl => by rw [rd_of_lt _ hl]; rfl) hg
  · rintro _ _ ⟨g, rfl, hg⟩
    exact ⟨g, rfl, fun b hb => hg b (by show b < 16 * 128; omega) hb⟩

theorem t2_run (s : St) (h0 : ∀ b < 2048, rd s.cnt b = 0#32) : Run (F := F) d L s (Scf.Loop.for k0_t2_loop k0_t2_ok ⟨⟩ (k0_t2_body L (Memref.whole main_v0_scv) (Memref.isWhole_whole _) (Memref.whole main_arg1_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scoped0 cc0_scoped1 cc0_scoped2 cc0_scoped3 cc0_scoped4 cc0_scoped5 cc0_scoped6 cc0_scoped7 cc0_scoped8))
    (fun _ s' => ∃ g, s' = { s with cnt := g } ∧ ∀ b < 2048, rd g b = BitVec.ofNat 32 (Nat.count (fun j => (hsh (rd s.b1 j)).toNat = b) 8192)) := by
  refine Run.mono (Run.for_ k0_t2_ok (fun t _ s' => ∃ g, s' = { s with cnt := g } ∧ ∀ b < 2048, rd g b = BitVec.ofNat 32 (0 + Nat.count (fun j => (hsh (rd s.b1 j)).toNat = b) (16 * t))) ?_ ?_) ?_
  · exact ⟨s.cnt, rfl, fun b hb => by rw [h0 b hb]; simp⟩
  · rintro t _ _ ⟨g, rfl, hg⟩
    unfold k0_t2_body
    have hv : ∀ l < 16, rd (k0_pay162 (F := F) (chunk s.b1 (16 * t.val))) l = hsh (rd s.b1 (16 * t.val + l)) := fun l hl => by
      rw [rd_pay162 _ hl]; exact congrArg hsh (rd_chunk _ _ hl)
    refine Run.load focus_b1 (k0_off3_eq t) (Run.assume (lane_lt fun l hl => by rw [hv l hl]; exact hsh_lt _) (Run.scatter focus_cnt (Run.pure ?_)))
    refine ⟨_, rfl, ?_⟩
    exact hist_step (base := fun _ => 0) (key := fun j => (hsh (rd s.b1 j)).toNat) (fun l hl => congrArg BitVec.toNat (hv l hl)) hg
  · rintro _ _ ⟨g, rfl, hg⟩
    exact ⟨g, rfl, fun b hb => by rw [hg b hb, Nat.zero_add]; rfl⟩

theorem t3_run (s : St) (key : ℕ → ℕ) (N : ℕ) (h : ∀ b < 2048, rd s.cnt b = BitVec.ofNat 32 (Nat.count (fun j => key j = b) N)) :
    Run (F := F) d L s (Scf.Loop.for k0_t3_loop k0_t3_ok 0#32 (k0_t3_body L (Memref.whole main_v0_scv) (Memref.isWhole_whole _) (Memref.whole main_arg1_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scoped0 cc0_scoped1 cc0_scoped2 cc0_scoped3 cc0_scoped4 cc0_scoped5 cc0_scoped6 cc0_scoped7 cc0_scoped8))
    (fun _ s' => ∃ g, s' = { s with cnt := g } ∧ ∀ b < 2048, rd g b = BitVec.ofNat 32 (Nat.count (fun j => key j < b) N)) := by
  refine Run.mono (Run.for_ k0_t3_ok (fun t c s' => ∃ g, s' = { s with cnt := g }
    ∧ c = BitVec.ofNat 32 (Nat.count (fun j => key j < 16 * t) N)
    ∧ (∀ b < 16 * t, rd g b = BitVec.ofNat 32 (Nat.count (fun j => key j < b) N))
    ∧ (∀ b < 2048, 16 * t ≤ b → rd g b = BitVec.ofNat 32 (Nat.count (fun j => key j = b) N))) ?_ ?_) ?_
  · exact ⟨s.cnt, rfl, by simp, fun b hb => by omega, fun b hb _ => h b hb⟩
  · rintro t c _ ⟨g, rfl, hc, h1, h2⟩
    have ht : t.val < 128 := t.isLt
    unfold k0_t3_body
    refine Run.load focus_cnt (k0_off4_eq t) (Run.load focus_cnt (k0_off4_eq t) (Run.store focus_cnt (k0_off4_eq t) (Run.pure ?_)))
    have hs := scan_step (w := k0_pay166 (F := F) c (chunk g (16 * t.val))) (by omega) (fun l hl => by rw [rd_of_lt _ hl, rd_of_lt _ hl, rd_of_lt _ hl]; rfl) hc h1 h2
    exact ⟨_, rfl, (by rw [rd_of_lt _ (by omega)] at hs; exact hs.2.2), hs.1, hs.2.1⟩
  · rintro _ _ ⟨g, rfl, _, hg, _⟩
    exact ⟨g, rfl, fun b hb => hg b (by show b < 16 * 128; omega)⟩

theorem t4_run (s : St) (v1 : BitVec 32) (v7 : IVec S16 32)
    (h : ∀ b < 2048, rd s.cnt b = BitVec.ofNat 32 (Nat.count (fun j => (hsh (rd s.b1 j)).toNat < b) 8192)) :
    Run (F := F) d L s (Scf.Loop.for k0_t4_loop k0_t4_ok ⟨⟩ (k0_t4_body L (Memref.whole main_v0_scv) (Memref.isWhole_whole _) (Memref.whole main_arg1_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scoped0 cc0_scoped1 cc0_scoped2 cc0_scoped3 cc0_scoped4 cc0_scoped5 cc0_scoped6 cc0_scoped7 cc0_scoped8 v1 v7 0#32))
    (fun _ s' => ∃ f2 f3 f4 g, s' = { s with b2 := f2, b3 := f3, b4 := f4, cnt := g } ∧
      ∀ j < 8192, rd f2 (rk 8192 (fun j => (hsh (rd s.b1 j)).toNat) j) = rd s.b1 j
        ∧ rd f3 (rk 8192 (fun j => (hsh (rd s.b1 j)).toNat) j) = v1 + BitVec.ofNat 32 j
        ∧ rd f4 (rk 8192 (fun j => (hsh (rd s.b1 j)).toNat) j + 1) = rd s.b1 j ∧ rd f4 0 = rd s.b4 0) := by
  generalize hkey : (fun j => (hsh (rd s.b1 j)).toNat) = key
  have hkey' : ∀ j, (hsh (rd s.b1 j)).toNat = key j := fun j => congrFun hkey j
  simp only [hkey'] at h
  refine Run.mono (Run.for_ k0_t4_ok (fun t _ s' => ∃ f2 f3 f4 g, s' = { s with b2 := f2, b3 := f3, b4 := f4, cnt := g }
    ∧ (∀ b < 2048, rd g b = BitVec.ofNat 32 (Nat.count (fun j => key j < b) 8192 + Nat.count (fun j => key j = b) (16 * t)))
    ∧ (∀ j < 16 * t, True → rd f2 (rk 8192 key j) = rd s.b1 j)
    ∧ (∀ j < 16 * t, True → rd f3 (rk 8192 key j) = v1 + BitVec.ofNat 32 j)
    ∧ (∀ j < 16 * t, True → rd f4 (rk 8192 key j + 1) = rd s.b1 j) ∧ rd f4 0 = rd s.b4 0) ?_ ?_) ?_
  · exact ⟨s.b2, s.b3, s.b4, s.cnt, rfl, fun b hb => by rw [h b hb]; simp, fun j hj => by omega, fun j hj => by omega, fun j hj => by omega, rfl⟩
  · rintro t _ _ ⟨f2, f3, f4, g, rfl, hg, h2, h3, h4, h40⟩
    have ht : t.val < 512 := t.isLt
    unfold k0_t4_body
    have hv : ∀ l < 16, rd (k0_pay169 (F := F) (chunk s.b1 (16 * t.val))) l = hsh (rd s.b1 (16 * t.val + l)) := fun l hl => by
      rw [show rd (k0_pay169 (F := F) (chunk s.b1 (16 * t.val))) l = _ from rd_pay162 (F := F) _ hl]; exact congrArg hsh (rd_chunk _ _ hl)
    have hk : ∀ j, key j < 2048 := fun j => by rw [← hkey']; exact hsh_lt _
    have hv' : ∀ l < 16, (rd (k0_pay169 (F := F) (chunk s.b1 (16 * t.val))) l).toNat = key (16 * t.val + l) := fun l hl => by rw [hv l hl, hkey']
    have hp : ∀ l < 16, rd (k0_pay173 (F := F) (k0_pay169 (F := F) (chunk s.b1 (16 * t.val))) (pick g (k0_pay169 (F := F) (chunk s.b1 (16 * t.val))))) l
        = BitVec.ofNat 32 (rk 8192 key (16 * t.val + l)) := fun l hl => by
      rw [← pos_lane hl hv' (hk _) hg, ← rd_pick _ _ hl, rd_of_lt _ hl, rd_of_lt _ hl, rd_of_lt _ hl]; rfl
    have hr : ∀ l < 16, rk 8192 key (16 * t.val + l) < 8192 := fun l hl => rk_lt _ (by omega)
    have hpn : ∀ l < 16, (rd (k0_pay173 (F := F) (k0_pay169 (F := F) (chunk s.b1 (16 * t.val))) (pick g (k0_pay169 (F := F) (chunk s.b1 (16 * t.val))))) l).toNat
        = rk 8192 key (16 * t.val + l) := fun l hl => by
      rw [hp l hl, BitVec.toNat_ofNat, Nat.mod_eq_of_lt (by have := hr l hl; omega)]
    have hpn1 : ∀ l < 16, (rd (k0_pay174 (k0_pay173 (F := F) (k0_pay169 (F := F) (chunk s.b1 (16 * t.val))) (pick g (k0_pay169 (F := F) (chunk s.b1 (16 * t.val)))))) l).toNat
        = rk 8192 key (16 * t.val + l) + 1 := fun l hl => by
      have : rd (k0_pay174 (k0_pay173 (F := F) (k0_pay169 (F := F) (chunk s.b1 (16 * t.val))) (pick g (k0_pay169 (F := F) (chunk s.b1 (16 * t.val)))))) l
          = rd (k0_pay173 (F := F) (k0_pay169 (F := F) (chunk s.b1 (16 * t.val))) (pick g (k0_pay169 (F := F) (chunk s.b1 (16 * t.val))))) l + 1#32 := by
        rw [rd_of_lt _ hl, rd_of_lt _ hl]; rfl
      rw [this, BitVec.toNat_add, hpn l hl, Nat.mod_eq_of_lt]; · rfl
      have := hr l hl
      show _ + 1 < _; omega
    have hinj : ∀ i < 16 * t.val + 16, ∀ j < 16 * t.val + 16, True → True → rk 8192 key i = rk 8192 key j → i = j :=
      fun i hi j hj _ _ e => rk_inj i (by omega) j (by omega) e
    have hw1 : ∀ l < 16, True → rd (α := BitVec 32) (chunk s.b1 (16 * t.val)) l = rd s.b1 (16 * t.val + l) := fun l hl _ => rd_chunk _ _ hl
    have hw2 : ∀ l < 16, True → rd (α := BitVec 32) (k0_pay168 v1 0#32 t) l = v1 + BitVec.ofNat 32 (16 * t.val + l) := fun l hl _ => by
      rw [rd_of_lt _ hl]
      show BitVec.ofNat 32 (0 * 16 + l) + (0#32 + ((0#32 + BitVec.ofNat 32 t.val * 1#32) * 16#32) + v1) = _
      apply BitVec.eq_of_toNat_eq
      simp only [BitVec.toNat_add, BitVec.toNat_mul, BitVec.toNat_ofNat]
      omega
    refine Run.load focus_b1 (k0_off5_eq t) ?_
    refine Run.assume ⟨lane_lt fun l hl => by rw [hv' l hl]; exact hk _, lane_lt fun l hl => by rw [hv' l hl]; exact hk _⟩ ?_
    refine Run.gather focus_cnt ?_
    refine Run.assume ⟨lane_lt fun l hl => by rw [hpn l hl]; exact hr l hl, lane_lt fun l hl => by rw [hpn l hl]; exact hr l hl⟩ ?_
    refine Run.scatter focus_b2 ?_
    dsimp only
    refine Run.scatter focus_b3 ?_
    dsimp only
    refine Run.assume (lane_lt fun l hl => by rw [hpn1 l hl]; have := hr l hl; omega) ?_
    refine Run.scatter focus_b4 ?_
    dsimp only
    refine Run.scatter focus_cnt ?_
    dsimp only
    refine Run.pure ?_
    refine ⟨_, _, _, _, rfl, ?_, ?_, ?_, ?_, ?_⟩
    · exact hist_step (base := fun b => Nat.count (fun j => key j < b) 8192) (key := key) hv' hg
    · exact scatter_step (q := fun _ => True) (p := rk 8192 key) (vals := fun j => rd s.b1 j) hinj (fun l hl _ => hpn l hl) (fun l hl => by rw [all_ones l hl]; simp) hw1 h2
    · exact scatter_step (q := fun _ => True) (p := rk 8192 key) (vals := fun j => v1 + BitVec.ofNat 32 j) hinj (fun l hl _ => hpn l hl) (fun l hl => by rw [all_ones l hl]; simp) hw2 h3
    · exact scatter_step (q := fun _ => True) (p := fun j => rk 8192 key j + 1) (vals := fun j => rd s.b1 j) (fun i hi j hj a b e => hinj i hi j hj a b (by omega))
        (fun l hl _ => hpn1 l hl) (fun l hl => by rw [all_ones l hl]; simp) hw1 h4
    · refine (storeIdx_miss (F := F) _ _ _ _ _ _ ?_).trans h40
      intro l hl _ e
      rw [hpn1 l hl] at e; omega
  · rintro _ _ ⟨f2, f3, f4, g, rfl, _, h2, h3, h4, h40⟩
    exact ⟨f2, f3, f4, g, rfl, fun j hj => ⟨h2 j (by show j < 16 * 512; omega) trivial, h3 j (by show j < 16 * 512; omega) trivial, h4 j (by show j < 16 * 512; omega) trivial, h40⟩⟩

end Cert.Proof.Tile
-- ==== Proof.DedupPass.lean ====
/-
  The loop that numbers the runs of equal words: each position's run number, and each run's word and first position.
-/
module

public import proofs.«01_k».proof.Defs
public import proofs.«01_k».proof.Proof.Lanes
public import proofs.«01_k».proof.Proof.Gen.KernelIdeal
public import proofs.«01_k».proof.Proof.Gen.KernelIdeal.Skeleton
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Tile
public import proofs.«01_k».proof.Proof.HashPass

@[expose] public section

noncomputable section

namespace Cert.Proof.Tile

open Cert.KernelIdeal Cert.KernelIdeal.Gen
open Cert.Proof.Lanes

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable {d : Dev nD} {L : grid0.Coords} {α β : Type} {s : St} {Q : α → St → Prop}

theorem sum_ones (P : ℕ → Prop) [DecidablePred P] (f : ℕ → BitVec 32) (m : ℕ) (hf : ∀ l < m, f l = if P l then 1#32 else 0#32) :
    ∑ l ∈ Finset.range m, f l = BitVec.ofNat 32 (Nat.count P m) := by
  induction m with
  | zero => simp
  | succ m ih =>
    rw [Finset.sum_range_succ, ih (fun l hl => hf l (by omega)), hf m (by omega), Nat.count_succ]
    split
    · exact ofNat_add' _ _
    · simp

theorem rd_pay176 (v w : Vec F S16 .i32) {l : ℕ} (h : l < 16) :
    rd (k0_pay176 v w) l = if rd (α := BitVec 32) v l ≠ rd (α := BitVec 32) w l then 1#32 else 0#32 := by
  rw [rd_of_lt _ h, rd_of_lt (α := BitVec 32) v h, rd_of_lt (α := BitVec 32) w h]
  show (BitVec.ofBool ((v _ : BitVec 32) != w _)).setWidth 32 = _
  by_cases hh : (v (ix l h) : BitVec 32) = w (ix l h)
  · rw [if_neg (by simp [hh]), hh]; simp
  · rw [if_pos hh, bne_iff_ne.mpr hh]; rfl

theorem rd_pay175 (v w : Vec F S16 .i32) {l : ℕ} (h : l < 16) :
    rd (k0_pay175 v w) l = 1#1 ↔ rd (α := BitVec 32) v l ≠ rd (α := BitVec 32) w l := by
  rw [rd_of_lt _ h, rd_of_lt (α := BitVec 32) v h, rd_of_lt (α := BitVec 32) w h]
  show BitVec.ofBool ((v _ : BitVec 32) != w _) = 1#1 ↔ _
  by_cases hh : (v (ix l h) : BitVec 32) = w (ix l h)
  · rw [hh]; simp
  · rw [bne_iff_ne.mpr hh]; exact ⟨fun _ => hh, fun _ => rfl⟩

/-- The number of sixteen lanes `0, …, 15`. -/
abbrev lanes : IVec S16 32 := iota .scVector S16 32 [0] iota_S16_d0_w32_scVector

theorem rd_lanes {l : ℕ} (h : l < 16) : rd lanes l = BitVec.ofNat 32 l := by
  rw [rd_of_lt _ h]
  show BitVec.ofNat 32 (0 * 16 + l) = _
  rw [Nat.zero_mul, Nat.zero_add]

theorem ofNat_one (n : ℕ) (h : 0 < n) : BitVec.ofNat 32 n - 1#32 = BitVec.ofNat 32 (n - 1) := by
  apply BitVec.eq_of_toNat_eq
  simp only [BitVec.toNat_sub, BitVec.toNat_ofNat]
  omega

theorem t5_run (s : St) (v1 : BitVec 32) (nw : ℕ → Prop) [DecidablePred nw] (hnw : ∀ p < 8192, nw p ↔ rd s.b2 p ≠ rd s.b4 p) (h0 : nw 0) :
    Run (F := F) d L s (Scf.Loop.for k0_t5_loop k0_t5_ok 0#32 (k0_t5_body L (Memref.whole main_v0_scv) (Memref.isWhole_whole _) (Memref.whole main_arg1_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scoped0 cc0_scoped1 cc0_scoped2 cc0_scoped3 cc0_scoped4 cc0_scoped5 cc0_scoped6 cc0_scoped7 cc0_scoped8 v1 lanes 0#32))
    (fun r s' => ∃ f1 f3 f6, s' = { s with b1 := f1, b3 := f3, b6 := f6 } ∧ r = BitVec.ofNat 32 (Nat.count nw 8192)
      ∧ (∀ p < 8192, rd f3 p = BitVec.ofNat 32 (Nat.count nw (p + 1) - 1) <<< 14#32 ||| rd s.b3 p)
      ∧ (∀ p < 8192, nw p → rd f1 (Nat.count nw p) = rd s.b2 p)
      ∧ (∀ p < 8192, nw p → rd f6 (Nat.count nw p) = v1 + BitVec.ofNat 32 p)) := by
  have hpos : ∀ p, 0 < Nat.count nw (p + 1) := fun p => by
    have := Nat.count_monotone nw (show 1 ≤ p + 1 by omega)
    have h1 : Nat.count nw 1 = 1 := by simp [Nat.count_succ, h0]
    omega
  have hle : ∀ p, Nat.count nw p ≤ p := fun p => Nat.count_le _
  refine Run.mono (Run.for_ k0_t5_ok (fun t c s' => ∃ f1 f3 f6, s' = { s with b1 := f1, b3 := f3, b6 := f6 } ∧ c = BitVec.ofNat 32 (Nat.count nw (16 * t))
      ∧ (∀ p < 8192, rd f3 p = if p < 16 * t then BitVec.ofNat 32 (Nat.count nw (p + 1) - 1) <<< 14#32 ||| rd s.b3 p else rd s.b3 p)
      ∧ (∀ p < 16 * t, nw p → rd f1 (Nat.count nw (p + 1) - 1) = rd s.b2 p)
      ∧ (∀ p < 16 * t, nw p → rd f6 (Nat.count nw (p + 1) - 1) = v1 + BitVec.ofNat 32 p)) ?_ ?_) ?_
  · exact ⟨s.b1, s.b3, s.b6, rfl, by simp, fun p hp => by rw [if_neg (by omega)], fun p hp => by omega, fun p hp => by omega⟩
  · rintro t c _ ⟨f1, f3, f6, rfl, hc, h3, h1, h6⟩
    have ht : t.val < 512 := t.isLt
    have ha : rd (chunk s.b2 (16 * t.val)) = fun l => rd (chunk s.b2 (16 * t.val)) l := rfl
    have hq : ∀ l < 16, nw (16 * t.val + l) ↔ rd (α := BitVec 32) (chunk s.b2 (16 * t.val)) l ≠ rd (α := BitVec 32) (chunk s.b4 (16 * t.val)) l := fun l hl => by
      rw [rd_chunk _ _ hl, rd_chunk _ _ hl]; exact hnw _ (by omega)
    have hsum : ∀ l < 16, c + rd (scan .sum (k0_pay176 (F := F) (chunk s.b2 (16 * t.val)) (chunk s.b4 (16 * t.val)))) l
        = BitVec.ofNat 32 (Nat.count nw (16 * t.val + l + 1)) := fun l hl => by
      rw [scan_lane _ hl, sum_ones (fun l => nw (16 * t.val + l)) _ _ (fun l' hl' => ?_), hc, ofNat_add', ← Nat.count_add, Nat.add_assoc]
      rw [rd_pay176 _ _ (by omega)]
      simp only [← hq l' (by omega)]
    have hv : ∀ l < 16, rd (k0_pay177 (F := F) c (chunk s.b2 (16 * t.val)) (chunk s.b4 (16 * t.val))) l
        = BitVec.ofNat 32 (Nat.count nw (16 * t.val + l + 1) - 1) := fun l hl => by
      rw [← ofNat_one _ (hpos _), ← hsum l hl, rd_of_lt _ hl, rd_of_lt _ hl]; rfl
    have hb : ∀ l < 16, Nat.count nw (16 * t.val + l + 1) - 1 < 8192 := fun l hl => by
      have := hle (16 * t.val + l + 1); omega
    have hvn : ∀ l < 16, (rd (k0_pay177 (F := F) c (chunk s.b2 (16 * t.val)) (chunk s.b4 (16 * t.val))) l).toNat
        = Nat.count nw (16 * t.val + l + 1) - 1 := fun l hl => by
      rw [hv l hl, BitVec.toNat_ofNat, Nat.mod_eq_of_lt]; have := hb l hl; omega
    have hinj : ∀ i < 16 * t.val + 16, ∀ j < 16 * t.val + 16, nw i → nw j → Nat.count nw (i + 1) - 1 = Nat.count nw (j + 1) - 1 → i = j := by
      intro i _ j _ hi hj e
      rw [Nat.count_succ, Nat.count_succ, if_pos hi, if_pos hj] at e
      exact Nat.count_injective hi hj e
    unfold k0_t5_body
    refine Run.load focus_b2 (k0_off6_eq t) ?_
    refine Run.load focus_b4 (k0_off7_eq t) ?_
    refine Run.assume ⟨lane_lt fun l hl => by rw [hvn l hl]; exact hb l hl, lane_lt fun l hl => by rw [hvn l hl]; have := hb l hl; omega⟩ ?_
    refine Run.load focus_b3 (k0_off6_eq t) ?_
    refine Run.load focus_b3 (k0_off6_eq t) ?_
    refine Run.store focus_b3 (k0_off6_eq t) ?_
    dsimp only
    refine Run.scatter focus_b1 ?_
    dsimp only
    refine Run.scatter focus_b6 ?_
    dsimp only
    refine Run.pure ?_
    refine ⟨_, _, _, rfl, ?_, ?_, ?_, ?_⟩
    · rw [show 16 * (t.val + 1) = 16 * t.val + 15 + 1 by omega, ← hsum 15 (by omega), rd_of_lt _ (by omega)]; rfl
    · intro p hp
      rw [rd_put _ _ _ hp]
      by_cases hpt : 16 * t.val ≤ p ∧ p < 16 * t.val + 16
      · rw [if_pos hpt, if_pos (by omega)]
        obtain ⟨l, rfl⟩ := Nat.exists_eq_add_of_le hpt.1
        have hl : l < 16 := by omega
        have e := h3 _ hp
        rw [if_neg (by omega), ← rd_chunk f3 _ hl] at e
        rw [← hv l hl, ← e, Nat.add_sub_cancel_left, rd_of_lt _ hl, rd_of_lt _ hl, rd_of_lt _ hl]; rfl
      · rw [if_neg hpt, h3 p hp]
        by_cases hlt : p < 16 * t.val
        · rw [if_pos hlt, if_pos (by omega)]
        · rw [if_neg hlt, if_neg (by omega)]
    · exact scatter_step (q := nw) (p := fun p => Nat.count nw (p + 1) - 1) (vals := fun p => rd s.b2 p) (a := 16 * t.val) hinj (fun l hl _ => hvn l hl)
        (fun l hl => by rw [rd_pay175 _ _ hl]; exact (hq l hl).symm) (fun l hl _ => rd_chunk _ _ hl) h1
    · exact scatter_step (q := nw) (p := fun p => Nat.count nw (p + 1) - 1) (vals := fun p => v1 + BitVec.ofNat 32 p) (a := 16 * t.val) hinj (fun l hl _ => hvn l hl)
        (fun l hl => by rw [rd_pay175 _ _ hl]; exact (hq l hl).symm) (fun l hl _ => by
          have e : rd (α := BitVec 32) (k0_pay179 v1 lanes t) l = rd lanes l + (0#32 + (0#32 + BitVec.ofNat 32 t.val * 1#32) * 16#32 + v1) := by
            rw [rd_of_lt _ hl, rd_of_lt _ hl]; rfl
          rw [e, rd_lanes hl]
          apply BitVec.eq_of_toNat_eq
          simp only [BitVec.toNat_add, BitVec.toNat_mul, BitVec.toNat_ofNat]
          omega) h6
  · rintro r _ ⟨f1, f3, f6, rfl, hc, h3, h1, h6⟩
    have hs : ∀ p, nw p → Nat.count nw (p + 1) - 1 = Nat.count nw p := fun p hp => by rw [Nat.count_succ, if_pos hp]; rfl
    exact ⟨f1, f3, f6, rfl, hc, fun p hp => by rw [h3 p hp]; exact if_pos hp, fun p hp hn => by rw [← hs p hn]; exact h1 p hp hn,
      fun p hp hn => by rw [← hs p hn]; exact h6 p hp hn⟩

end Cert.Proof.Tile
-- ==== Proof.Trips.lean ====
/-
  The loops whose trip counts come from the number of runs: how many trips, and that every access they make is inside
  its buffer.
-/
module

public import proofs.«01_k».proof.Defs
public import proofs.«01_k».proof.Proof.Lanes
public import proofs.«01_k».proof.Proof.Gen.KernelIdeal
public import proofs.«01_k».proof.Proof.Gen.KernelIdeal.Skeleton
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Tile
public import proofs.«01_k».proof.Proof.Lanes

@[expose] public section

noncomputable section

namespace Cert.Proof.Tile

open Cert.KernelIdeal Cert.KernelIdeal.Gen
open Cert.Proof.Lanes

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable {d : Dev nD} {L : grid0.Coords} {α β : Type} {s : St} {Q : α → St → Prop}

open Idealize.ShloMosaic.Scf in
theorem trips_up {m : ℕ} (h : m < 2 ^ 20) : OK 0#32 (BitVec.ofNat 32 m) 1#32 ∧ trips 0#32 (BitVec.ofNat 32 m) 1#32 = m := by
  have h1 : (BitVec.ofNat 32 m).toInt = m := by rw [BitVec.toInt_eq_toNat_of_lt] <;> rw [BitVec.toNat_ofNat] <;> omega
  have ht : trips 0#32 (BitVec.ofNat 32 m) 1#32 = m := by
    unfold trips; rw [h1, show (0#32).toInt = 0 from rfl, show (1#32).toInt = 1 from rfl]; omega
  refine ⟨⟨by decide, ?_⟩, ht⟩
  rw [ht, show (0#32).toInt = 0 from rfl, show (1#32).toInt = 1 from rfl]; norm_num; omega

open Idealize.ShloMosaic.Scf in
theorem trips_none {m : ℕ} (h : m < 2 ^ 20) : OK (BitVec.ofNat 32 m) (BitVec.ofNat 32 m) 1#32 ∧ trips (BitVec.ofNat 32 m) (BitVec.ofNat 32 m) 1#32 = 0 := by
  have h1 : (BitVec.ofNat 32 m).toInt = m := by rw [BitVec.toInt_eq_toNat_of_lt] <;> rw [BitVec.toNat_ofNat] <;> omega
  have ht : trips (BitVec.ofNat 32 m) (BitVec.ofNat 32 m) 1#32 = 0 := by
    unfold trips; rw [h1, show (1#32).toInt = 1 from rfl]; omega
  refine ⟨⟨by decide, ?_⟩, ht⟩
  rw [ht, h1, show (1#32).toInt = 1 from rfl]; norm_num; omega

theorem add_w (a b : ℕ) : Scalar.addi (BitVec.ofNat 32 a) (BitVec.ofNat 32 b) = BitVec.ofNat 32 (a + b) := by
  show BitVec.ofNat 32 a + BitVec.ofNat 32 b = _
  apply BitVec.eq_of_toNat_eq; simp [BitVec.toNat_add]
theorem mul_w (a b : ℕ) : Scalar.muli (BitVec.ofNat 32 a) (BitVec.ofNat 32 b) = BitVec.ofNat 32 (a * b) := by
  show BitVec.ofNat 32 a * BitVec.ofNat 32 b = _
  apply BitVec.eq_of_toNat_eq; simp [BitVec.toNat_mul]
theorem sub_w {a b : ℕ} (h : b ≤ a) : Scalar.subi (BitVec.ofNat 32 a) (BitVec.ofNat 32 b) = BitVec.ofNat 32 (a - b) := by
  show BitVec.ofNat 32 a - BitVec.ofNat 32 b = _
  apply BitVec.eq_of_toNat_eq; simp only [BitVec.toNat_sub, BitVec.toNat_ofNat]; omega
theorem div_w {a b : ℕ} (ha : a < 2 ^ 20) (hb : 0 < b) (hb' : b < 2 ^ 20) : Scalar.divsi (BitVec.ofNat 32 a) (BitVec.ofNat 32 b) = BitVec.ofNat 32 (a / b) := by
  have ea : (BitVec.ofNat 32 a).toNat = a := by rw [BitVec.toNat_ofNat]; omega
  have eb : (BitVec.ofNat 32 b).toNat = b := by rw [BitVec.toNat_ofNat]; omega
  have hma : (BitVec.ofNat 32 a).msb = false := by rw [BitVec.msb_eq_false_iff_two_mul_lt, ea]; omega
  have hmb : (BitVec.ofNat 32 b).msb = false := by rw [BitVec.msb_eq_false_iff_two_mul_lt, eb]; omega
  have hs : (BitVec.ofNat 32 a).sdiv (BitVec.ofNat 32 b) = BitVec.ofNat 32 (a / b) := by
    rw [BitVec.sdiv_eq, hma, hmb]
    show (BitVec.ofNat 32 a).udiv (BitVec.ofNat 32 b) = _
    apply BitVec.eq_of_toNat_eq
    show ((BitVec.ofNat 32 a) / (BitVec.ofNat 32 b)).toNat = _
    rw [BitVec.toNat_udiv, ea, eb, BitVec.toNat_ofNat, Nat.mod_eq_of_lt]
    exact lt_of_le_of_lt (Nat.div_le_self _ _) (by omega)
  rw [← hs]
  have h0 : BitVec.ofNat 32 b ≠ 0#32 := fun h => by rw [h] at eb; simp at eb; omega
  have hm : ¬ (BitVec.ofNat 32 a = BitVec.intMin 32) := fun h => by rw [h] at hma; revert hma; decide
  unfold Scalar.divsi IntOp.divsi
  rw [if_neg]
  rintro (h | ⟨h, _⟩)
  · exact h0 h
  · exact hm h
theorem sgt_w {a : ℕ} (h : 0 < a) (h' : a < 2 ^ 20) : Scalar.cmpi .sgt (BitVec.ofNat 32 a) 0#32 = 1#1 := by
  have h1 : (BitVec.ofNat 32 a).toInt = a := by rw [BitVec.toInt_eq_toNat_of_lt] <;> rw [BitVec.toNat_ofNat] <;> omega
  show BitVec.ofBool ((0#32).slt (BitVec.ofNat 32 a)) = 1#1
  rw [show (0#32).slt (BitVec.ofNat 32 a) = true from by rw [BitVec.slt_iff_toInt_lt, h1, show (0#32).toInt = 0 from rfl]; omega]; rfl
theorem slt_w {a : ℕ} (h' : a < 2 ^ 20) : Scalar.cmpi .slt (BitVec.ofNat 32 a) 0#32 = 0#1 := by
  have h1 : (BitVec.ofNat 32 a).toInt = a := by rw [BitVec.toInt_eq_toNat_of_lt] <;> rw [BitVec.toNat_ofNat] <;> omega
  show BitVec.ofBool ((BitVec.ofNat 32 a).slt 0#32) = 0#1
  rw [show (BitVec.ofNat 32 a).slt 0#32 = false from by
    rw [Bool.eq_false_iff, ne_eq, BitVec.slt_iff_toInt_lt, h1, show (0#32).toInt = 0 from rfl]; omega]; rfl
theorem ext1 : Scalar.extui 1#1 = 1#32 := rfl
theorem ext0 : Scalar.extui 0#1 = 0#32 := rfl
theorem ne_same (a : BitVec 32) : Scalar.cmpi .ne a a = 0#1 := by show BitVec.ofBool (a != a) = _; simp
theorem and_zero (x : BitVec 1) : Scalar.andi 0#1 x = 0#1 := by show 0#1 &&& x = _; simp
theorem sel_zero (a b : BitVec 32) : Scalar.select 0#1 a b = b := rfl

theorem t6_all (n : ℕ) (hn : 1 ≤ n ∧ n < 8193) : (k0_t6_loop (BitVec.ofNat 32 n)).OK ∧ (k0_t6_loop (BitVec.ofNat 32 n)).trips = ((n + 1023) / 1024 * 1024 - n / 16 * 16) / 16 := by
  obtain ⟨h1, h2⟩ := hn
  simp (disch := omega) only [k0_t6_loop, add_w, mul_w, sub_w, div_w, sgt_w, slt_w, ext1, ext0, ne_same, and_zero, sel_zero, Nat.div_one, Nat.mul_one, Nat.zero_add, Nat.sub_zero]
  refine ⟨(trips_up (by omega)).1, (trips_up (by omega)).2.trans ?_⟩
  omega
theorem t7_all (n : ℕ) (hn : 1 ≤ n ∧ n < 8193) : (k0_t7_loop (BitVec.ofNat 32 n)).OK ∧ (k0_t7_loop (BitVec.ofNat 32 n)).trips = 0 := by
  obtain ⟨h1, h2⟩ := hn
  simp (disch := omega) only [k0_t7_loop, add_w, mul_w, sub_w, div_w, sgt_w, slt_w, ext1, ext0, ne_same, and_zero, sel_zero, Nat.div_one, Nat.mul_one, Nat.zero_add, Nat.sub_zero]
  exact trips_none (by omega)
theorem t8_all (n : ℕ) (hn : 1 ≤ n ∧ n < 8193) : (k0_t8_loop (BitVec.ofNat 32 n)).OK ∧ (k0_t8_loop (BitVec.ofNat 32 n)).trips = (n + 1023) / 1024 := by
  obtain ⟨h1, h2⟩ := hn
  simp (disch := omega) only [k0_t8_loop, add_w, mul_w, sub_w, div_w, sgt_w, slt_w, ext1, ext0, ne_same, and_zero, sel_zero, Nat.div_one, Nat.mul_one, Nat.zero_add, Nat.sub_zero]
  refine ⟨(trips_up (by omega)).1, (trips_up (by omega)).2.trans ?_⟩
  omega
theorem t9_all (n : ℕ) (hn : 1 ≤ n ∧ n < 8193) : (k0_t9_loop (BitVec.ofNat 32 n)).OK ∧ (k0_t9_loop (BitVec.ofNat 32 n)).trips = 0 := by
  obtain ⟨h1, h2⟩ := hn
  simp (disch := omega) only [k0_t9_loop, add_w, mul_w, sub_w, div_w, sgt_w, slt_w, ext1, ext0, ne_same, and_zero, sel_zero, Nat.div_one, Nat.mul_one, Nat.zero_add, Nat.sub_zero]
  exact trips_none (by omega)
theorem t12_all (n : ℕ) (hn : 1 ≤ n ∧ n < 8193) : (k0_t12_loop (BitVec.ofNat 32 n)).OK ∧ (k0_t12_loop (BitVec.ofNat 32 n)).trips = (n + 15) / 16 := by
  obtain ⟨h1, h2⟩ := hn
  simp (disch := omega) only [k0_t12_loop, add_w, mul_w, sub_w, div_w, sgt_w, slt_w, ext1, ext0, ne_same, and_zero, sel_zero, Nat.div_one, Nat.mul_one, Nat.zero_add, Nat.sub_zero]
  refine ⟨(trips_up (by omega)).1, (trips_up (by omega)).2.trans ?_⟩
  omega
theorem t13_all (n : ℕ) (hn : 1 ≤ n ∧ n < 8193) : (k0_t13_loop (BitVec.ofNat 32 n)).OK ∧ (k0_t13_loop (BitVec.ofNat 32 n)).trips = 0 := by
  obtain ⟨h1, h2⟩ := hn
  simp (disch := omega) only [k0_t13_loop, add_w, mul_w, sub_w, div_w, sgt_w, slt_w, ext1, ext0, ne_same, and_zero, sel_zero, Nat.div_one, Nat.mul_one, Nat.zero_add, Nat.sub_zero]
  exact trips_none (by omega)
theorem t15_all (n : ℕ) (hn : 1 ≤ n ∧ n < 8193) : (k0_t15_loop (BitVec.ofNat 32 n)).OK ∧ (k0_t15_loop (BitVec.ofNat 32 n)).trips = (n + 15) / 16 := by
  obtain ⟨h1, h2⟩ := hn
  simp (disch := omega) only [k0_t15_loop, add_w, mul_w, sub_w, div_w, sgt_w, slt_w, ext1, ext0, ne_same, and_zero, sel_zero, Nat.div_one, Nat.mul_one, Nat.zero_add, Nat.sub_zero]
  refine ⟨(trips_up (by omega)).1, (trips_up (by omega)).2.trans ?_⟩
  omega
theorem t16_all (n : ℕ) (hn : 1 ≤ n ∧ n < 8193) : (k0_t16_loop (BitVec.ofNat 32 n)).OK ∧ (k0_t16_loop (BitVec.ofNat 32 n)).trips = 0 := by
  obtain ⟨h1, h2⟩ := hn
  simp (disch := omega) only [k0_t16_loop, add_w, mul_w, sub_w, div_w, sgt_w, slt_w, ext1, ext0, ne_same, and_zero, sel_zero, Nat.div_one, Nat.mul_one, Nat.zero_add, Nat.sub_zero]
  exact trips_none (by omega)
theorem t18_all (n : ℕ) (hn : 1 ≤ n ∧ n < 8193) : (k0_t18_loop (BitVec.ofNat 32 n)).OK ∧ (k0_t18_loop (BitVec.ofNat 32 n)).trips = (n + 15) / 16 := by
  obtain ⟨h1, h2⟩ := hn
  simp (disch := omega) only [k0_t18_loop, add_w, mul_w, sub_w, div_w, sgt_w, slt_w, ext1, ext0, ne_same, and_zero, sel_zero, Nat.div_one, Nat.mul_one, Nat.zero_add, Nat.sub_zero]
  refine ⟨(trips_up (by omega)).1, (trips_up (by omega)).2.trans ?_⟩
  omega
theorem t19_all (n : ℕ) (hn : 1 ≤ n ∧ n < 8193) : (k0_t19_loop (BitVec.ofNat 32 n)).OK ∧ (k0_t19_loop (BitVec.ofNat 32 n)).trips = 0 := by
  obtain ⟨h1, h2⟩ := hn
  simp (disch := omega) only [k0_t19_loop, add_w, mul_w, sub_w, div_w, sgt_w, slt_w, ext1, ext0, ne_same, and_zero, sel_zero, Nat.div_one, Nat.mul_one, Nat.zero_add, Nat.sub_zero]
  exact trips_none (by omega)
theorem t21_all (n : ℕ) (hn : 1 ≤ n ∧ n < 8193) : (k0_t21_loop (BitVec.ofNat 32 n)).OK ∧ (k0_t21_loop (BitVec.ofNat 32 n)).trips = (n + 15) / 16 := by
  obtain ⟨h1, h2⟩ := hn
  simp (disch := omega) only [k0_t21_loop, add_w, mul_w, sub_w, div_w, sgt_w, slt_w, ext1, ext0, ne_same, and_zero, sel_zero, Nat.div_one, Nat.mul_one, Nat.zero_add, Nat.sub_zero]
  refine ⟨(trips_up (by omega)).1, (trips_up (by omega)).2.trans ?_⟩
  omega
theorem t22_all (n : ℕ) (hn : 1 ≤ n ∧ n < 8193) : (k0_t22_loop (BitVec.ofNat 32 n)).OK ∧ (k0_t22_loop (BitVec.ofNat 32 n)).trips = 0 := by
  obtain ⟨h1, h2⟩ := hn
  simp (disch := omega) only [k0_t22_loop, add_w, mul_w, sub_w, div_w, sgt_w, slt_w, ext1, ext0, ne_same, and_zero, sel_zero, Nat.div_one, Nat.mul_one, Nat.zero_add, Nat.sub_zero]
  exact trips_none (by omega)
theorem t23_all (n : ℕ) (hn : 1 ≤ n ∧ n < 8193) : (k0_t23_loop (BitVec.ofNat 32 n)).OK ∧ (k0_t23_loop (BitVec.ofNat 32 n)).trips = (n + 15) / 16 := by
  obtain ⟨h1, h2⟩ := hn
  simp (disch := omega) only [k0_t23_loop, add_w, mul_w, sub_w, div_w, sgt_w, slt_w, ext1, ext0, ne_same, and_zero, sel_zero, Nat.div_one, Nat.mul_one, Nat.zero_add, Nat.sub_zero]
  refine ⟨(trips_up (by omega)).1, (trips_up (by omega)).2.trans ?_⟩
  omega
theorem t24_all (n : ℕ) (hn : 1 ≤ n ∧ n < 8193) : (k0_t24_loop (BitVec.ofNat 32 n)).OK ∧ (k0_t24_loop (BitVec.ofNat 32 n)).trips = 0 := by
  obtain ⟨h1, h2⟩ := hn
  simp (disch := omega) only [k0_t24_loop, add_w, mul_w, sub_w, div_w, sgt_w, slt_w, ext1, ext0, ne_same, and_zero, sel_zero, Nat.div_one, Nat.mul_one, Nat.zero_add, Nat.sub_zero]
  exact trips_none (by omega)
theorem t25_all (n : ℕ) (hn : 1 ≤ n ∧ n < 8193) : (k0_t25_loop (BitVec.ofNat 32 n)).OK ∧ (k0_t25_loop (BitVec.ofNat 32 n)).trips = (n + 15) / 16 := by
  obtain ⟨h1, h2⟩ := hn
  simp (disch := omega) only [k0_t25_loop, add_w, mul_w, sub_w, div_w, sgt_w, slt_w, ext1, ext0, ne_same, and_zero, sel_zero, Nat.div_one, Nat.mul_one, Nat.zero_add, Nat.sub_zero]
  refine ⟨(trips_up (by omega)).1, (trips_up (by omega)).2.trans ?_⟩
  omega
theorem t26_all (n : ℕ) (hn : 1 ≤ n ∧ n < 8193) : (k0_t26_loop (BitVec.ofNat 32 n)).OK ∧ (k0_t26_loop (BitVec.ofNat 32 n)).trips = 0 := by
  obtain ⟨h1, h2⟩ := hn
  simp (disch := omega) only [k0_t26_loop, add_w, mul_w, sub_w, div_w, sgt_w, slt_w, ext1, ext0, ne_same, and_zero, sel_zero, Nat.div_one, Nat.mul_one, Nat.zero_add, Nat.sub_zero]
  exact trips_none (by omega)
theorem off_val {k : ℕ} (h : k < 1024) : ![(0#32 + ((0#32 + BitVec.ofNat 32 k * 1#32) * 16#32)).toNat] = ![16 * k] := by
  congr 1
  simp only [BitVec.toNat_add, BitVec.toNat_mul, BitVec.toNat_ofNat]
  omega
theorem off_val8 {k r : ℕ} (h : k < 1024) (hr : r < 8) :
    ![(((0#32 + ((0#32 + BitVec.ofNat 32 k * 1#32) * 1#32)) * 1024#32) + BitVec.ofNat 32 (128 * r)).toNat] = ![1024 * k + 128 * r] := by
  congr 1
  simp only [BitVec.toNat_add, BitVec.toNat_mul, BitVec.toNat_ofNat]
  omega
theorem lt_ceil {n k : ℕ} (hn : 1 ≤ n ∧ n < 8193) (h : k < (n + 15) / 16) : k < 512 := by omega
theorem lt_wave {n k : ℕ} (hn : 1 ≤ n ∧ n < 8193) (h : k < (n + 1023) / 1024) : k < 8 := by omega
theorem off12_eq {n : ℕ} (hn : 1 ≤ n ∧ n < 8193) (t : Fin (k0_t12_loop (BitVec.ofNat 32 n)).trips) : k0_off12 (BitVec.ofNat 32 n) t = ![16 * t.val] :=
  off_val (Nat.lt_of_lt_of_le (lt_ceil hn (lt_of_lt_of_eq t.isLt (t12_all n hn).2)) (by decide))
theorem off15_eq {n : ℕ} (hn : 1 ≤ n ∧ n < 8193) (t : Fin (k0_t15_loop (BitVec.ofNat 32 n)).trips) : k0_off15 (BitVec.ofNat 32 n) t = ![16 * t.val] :=
  off_val (Nat.lt_of_lt_of_le (lt_ceil hn (lt_of_lt_of_eq t.isLt (t15_all n hn).2)) (by decide))
theorem off18_eq {n : ℕ} (hn : 1 ≤ n ∧ n < 8193) (t : Fin (k0_t18_loop (BitVec.ofNat 32 n)).trips) : k0_off18 (BitVec.ofNat 32 n) t = ![16 * t.val] :=
  off_val (Nat.lt_of_lt_of_le (lt_ceil hn (lt_of_lt_of_eq t.isLt (t18_all n hn).2)) (by decide))
theorem off21_eq {n : ℕ} (hn : 1 ≤ n ∧ n < 8193) (t : Fin (k0_t21_loop (BitVec.ofNat 32 n)).trips) : k0_off21 (BitVec.ofNat 32 n) t = ![16 * t.val] :=
  off_val (Nat.lt_of_lt_of_le (lt_ceil hn (lt_of_lt_of_eq t.isLt (t21_all n hn).2)) (by decide))
theorem off22_eq {n : ℕ} (hn : 1 ≤ n ∧ n < 8193) (t : Fin (k0_t21_loop (BitVec.ofNat 32 n)).trips) : k0_off22 (BitVec.ofNat 32 n) t = ![16 * t.val] :=
  off_val (Nat.lt_of_lt_of_le (lt_ceil hn (lt_of_lt_of_eq t.isLt (t21_all n hn).2)) (by decide))
theorem off25_eq {n : ℕ} (hn : 1 ≤ n ∧ n < 8193) (t : Fin (k0_t23_loop (BitVec.ofNat 32 n)).trips) : k0_off25 (BitVec.ofNat 32 n) t = ![16 * t.val] :=
  off_val (Nat.lt_of_lt_of_le (lt_ceil hn (lt_of_lt_of_eq t.isLt (t23_all n hn).2)) (by decide))
theorem off26_eq {n : ℕ} (hn : 1 ≤ n ∧ n < 8193) (t : Fin (k0_t23_loop (BitVec.ofNat 32 n)).trips) : k0_off26 (BitVec.ofNat 32 n) t = ![16 * t.val] :=
  off_val (Nat.lt_of_lt_of_le (lt_ceil hn (lt_of_lt_of_eq t.isLt (t23_all n hn).2)) (by decide))
theorem off33_eq {n : ℕ} (hn : 1 ≤ n ∧ n < 8193) (t : Fin (k0_t25_loop (BitVec.ofNat 32 n)).trips) : k0_off33 (BitVec.ofNat 32 n) t = ![16 * t.val] :=
  off_val (Nat.lt_of_lt_of_le (lt_ceil hn (lt_of_lt_of_eq t.isLt (t25_all n hn).2)) (by decide))
theorem off34_eq {n : ℕ} (hn : 1 ≤ n ∧ n < 8193) (t : Fin (k0_t25_loop (BitVec.ofNat 32 n)).trips) : k0_off34 (BitVec.ofNat 32 n) t = ![16 * t.val] :=
  off_val (Nat.lt_of_lt_of_le (lt_ceil hn (lt_of_lt_of_eq t.isLt (t25_all n hn).2)) (by decide))
theorem off35_eq {n : ℕ} (hn : 1 ≤ n ∧ n < 8193) (t : Fin (k0_t25_loop (BitVec.ofNat 32 n)).trips) : k0_off35 (BitVec.ofNat 32 n) t = ![16 * t.val] :=
  off_val (Nat.lt_of_lt_of_le (lt_ceil hn (lt_of_lt_of_eq t.isLt (t25_all n hn).2)) (by decide))
theorem off8_eq {n r : ℕ} (hn : 1 ≤ n ∧ n < 8193) (hr : r < 8) (t : Fin (k0_t8_loop (BitVec.ofNat 32 n)).trips) :
    k0_off8 (BitVec.ofNat 32 n) t (BitVec.ofNat 32 (128 * r)) = ![1024 * t.val + 128 * r] :=
  off_val8 (Nat.lt_of_lt_of_le (lt_wave hn (lt_of_lt_of_eq t.isLt (t8_all n hn).2)) (by decide)) hr

theorem room {k : ℕ} (h : k < 512) : 16 * k + 16 ≤ 8192 := by omega
theorem room' {k : ℕ} (h : k < 512) : 16 * k + 16 ≤ 8208 := by omega
theorem room8 {k r : ℕ} (h : k < 8) (hr : r < 8) : 1024 * k + 128 * r + 128 ≤ 8192 := by omega
theorem inb_of {n m t : ℕ} {off : Fin 1 → ℕ} (w : ℕ) (h : off = ![t]) (hm : t + w ≤ m) : ∀ a, off a + (Sh w).size a ≤ (Sh m).size a := by
  intro a; subst h; rw [Fin.eq_zero a]; exact hm

theorem no_trips {l : ℕ} (h : l = 0) {p : Fin l → Prop} : ∀ t, p t := fun t => absurd t.isLt (by omega)

/-- The accesses of a number of runs no greater than the half-row's length. -/
theorem chk8_of {n : ℕ} (hn : 1 ≤ n ∧ n < 8193) : k0_chk8 (BitVec.ofNat 32 n) := by
  refine ⟨⟨(t6_all n hn).1,
    (t7_all n hn).1,
    (t8_all n hn).1,
    (fun t r => inb_of (n := 1) 128 (off8_eq hn r.isLt t) (room8 (lt_wave hn (lt_of_lt_of_eq t.isLt (t8_all n hn).2)) r.isLt)),
    (t9_all n hn).1,
    no_trips (t9_all n hn).2,
    (t12_all n hn).1,
    (fun t => inb_of (n := 1) 16 (off12_eq hn t) (room (lt_ceil hn (lt_of_lt_of_eq t.isLt (t12_all n hn).2)))),
    (t13_all n hn).1,
    no_trips (t13_all n hn).2,
    (t15_all n hn).1,
    (fun t => inb_of (n := 1) 16 (off15_eq hn t) (room (lt_ceil hn (lt_of_lt_of_eq t.isLt (t15_all n hn).2)))),
    (t16_all n hn).1,
    no_trips (t16_all n hn).2,
    (t18_all n hn).1,
    (fun t => inb_of (n := 1) 16 (off18_eq hn t) (room (lt_ceil hn (lt_of_lt_of_eq t.isLt (t18_all n hn).2)))),
    (t19_all n hn).1,
    no_trips (t19_all n hn).2,
    (t21_all n hn).1,
    (fun t => inb_of (n := 1) 16 (off21_eq hn t) (room (lt_ceil hn (lt_of_lt_of_eq t.isLt (t21_all n hn).2)))),
    (fun t => inb_of (n := 1) 16 (off22_eq hn t) (room' (lt_ceil hn (lt_of_lt_of_eq t.isLt (t21_all n hn).2)))),
    (t22_all n hn).1,
    no_trips (t22_all n hn).2,
    no_trips (t22_all n hn).2,
    (t23_all n hn).1,
    (fun t => inb_of (n := 1) 16 (off25_eq hn t) (room (lt_ceil hn (lt_of_lt_of_eq t.isLt (t23_all n hn).2)))),
    (fun t => inb_of (n := 1) 16 (off26_eq hn t) (room' (lt_ceil hn (lt_of_lt_of_eq t.isLt (t23_all n hn).2)))),
    (t24_all n hn).1,
    no_trips (t24_all n hn).2,
    no_trips (t24_all n hn).2,
    (t25_all n hn).1,
    (fun t => inb_of (n := 1) 16 (off33_eq hn t) (room (lt_ceil hn (lt_of_lt_of_eq t.isLt (t25_all n hn).2))))⟩,
    ⟨(fun t => inb_of (n := 1) 16 (off34_eq hn t) (room' (lt_ceil hn (lt_of_lt_of_eq t.isLt (t25_all n hn).2)))),
    (fun t => inb_of (n := 1) 16 (off35_eq hn t) (room (lt_ceil hn (lt_of_lt_of_eq t.isLt (t25_all n hn).2)))),
    (t26_all n hn).1,
    no_trips (t26_all n hn).2,
    no_trips (t26_all n hn).2,
    no_trips (t26_all n hn).2⟩⟩

end Cert.Proof.Tile
-- ==== Proof.RadixPass.lean ====
/-
  The two passes of the radix sort of the run codes: by the low eleven bits, then by the next eleven.
-/
module

public import proofs.«01_k».proof.Defs
public import proofs.«01_k».proof.Proof.Lanes
public import proofs.«01_k».proof.Proof.Gen.KernelIdeal
public import proofs.«01_k».proof.Proof.Gen.KernelIdeal.Skeleton
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Tile
public import proofs.«01_k».proof.Proof.DedupPass
public import proofs.«01_k».proof.Proof.Trips

@[expose] public section

noncomputable section

namespace Cert.Proof.Tile

open Cert.KernelIdeal Cert.KernelIdeal.Gen
open Cert.Proof.Lanes

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable {d : Dev nD} {L : grid0.Coords} {α β : Type} {s : St} {Q : α → St → Prop}

/-- The low digit of a code. -/
def dg0 (x : BitVec 32) : BitVec 32 := x.sshiftRight' 0#32 &&& 2047#32
/-- The high digit of a code. -/
def dg1 (x : BitVec 32) : BitVec 32 := x.sshiftRight' 11#32 &&& 2047#32

theorem dg0_lt (x : BitVec 32) : (dg0 x).toNat < 2048 := by
  unfold dg0
  rw [BitVec.toNat_and]
  exact lt_of_le_of_lt Nat.and_le_right (by decide)
theorem dg1_lt (x : BitVec 32) : (dg1 x).toNat < 2048 := by
  unfold dg1
  rw [BitVec.toNat_and]
  exact lt_of_le_of_lt Nat.and_le_right (by decide)

/-- The sixteen-lane groups that hold `n` numbers, in lanes. -/
abbrev up (n : ℕ) : ℕ := 16 * ((n + 15) / 16)

theorem iv_lane (k l : ℕ) : BitVec.ofNat 32 l + (0#32 + (0#32 + BitVec.ofNat 32 k * 1#32) * 16#32 + 0#32) = BitVec.ofNat 32 (16 * k + l) := by
  have e : (0#32 + (0#32 + BitVec.ofNat 32 k * 1#32) * 16#32 + 0#32) = BitVec.ofNat 32 (k * 16) := by
    simp only [BitVec.zero_add, BitVec.mul_one, BitVec.add_zero]; exact mul_w k 16
  rw [e, ofNat_add']; congr 1; omega

variable {n : ℕ}

theorem t11_run (s : St) (hw : k0_chk8 (BitVec.ofNat 32 n))  : Run (F := F) d L s (Scf.Loop.for k0_t11_loop k0_t11_ok ⟨⟩ (k0_t11_body L (Memref.whole main_v0_scv) (Memref.isWhole_whole _) (Memref.whole main_arg1_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scoped0 cc0_scoped1 cc0_scoped2 cc0_scoped3 cc0_scoped4 cc0_scoped5 cc0_scoped6 cc0_scoped7 cc0_scoped8 lanes (BitVec.ofNat 32 n) hw 0#32 512#32))
    (fun _ s' => ∃ g, s' = { s with cnt := g } ∧ ∀ b < 2048, rd g b = 0#32) := by
  refine Run.mono (Run.for_ k0_t11_ok (fun t _ s' => ∃ g, s' = { s with cnt := g } ∧ ∀ b < 16 * t, b < 2048 → rd g b = 0#32) ?_ ?_) ?_
  · exact ⟨s.cnt, rfl, fun b hb => by omega⟩
  · rintro t _ _ ⟨g, rfl, hg⟩
    unfold k0_t11_body
    refine Run.load focus_cnt (k0_off11_eq t) (Run.store focus_cnt (k0_off11_eq t) (Run.pure ?_))
    refine ⟨_, rfl, ?_⟩
    exact zero_step (fun l hl => by rw [rd_of_lt _ hl]; rfl) hg
  · rintro _ _ ⟨g, rfl, hg⟩
    exact ⟨g, rfl, fun b hb => hg b (by show b < 16 * 128; omega) hb⟩

theorem t12_run (s : St) (hn : 1 ≤ n ∧ n < 8193) (hw : k0_chk8 (BitVec.ofNat 32 n))  (h0 : ∀ b < 2048, rd s.cnt b = 0#32) :
    Run (F := F) d L s (Scf.Loop.for (k0_t12_loop (BitVec.ofNat 32 n)) (k0_t12_ok _ hw) ⟨⟩ (k0_t12_body L (Memref.whole main_v0_scv) (Memref.isWhole_whole _) (Memref.whole main_arg1_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scoped0 cc0_scoped1 cc0_scoped2 cc0_scoped3 cc0_scoped4 cc0_scoped5 cc0_scoped6 cc0_scoped7 cc0_scoped8 lanes (BitVec.ofNat 32 n) hw 0#32 512#32))
    (fun _ s' => ∃ g, s' = { s with cnt := g } ∧ ∀ b < 2048, rd g b = BitVec.ofNat 32 (Nat.count (fun j => (dg0 (rd s.b2 j)).toNat = b) (up n))) := by
  refine Run.mono (Run.for_ (k0_t12_ok _ hw) (fun t _ s' => ∃ g, s' = { s with cnt := g } ∧ ∀ b < 2048, rd g b = BitVec.ofNat 32 (0 + Nat.count (fun j => (dg0 (rd s.b2 j)).toNat = b) (16 * t))) ?_ ?_) ?_
  · exact ⟨s.cnt, rfl, fun b hb => by rw [h0 b hb]; simp⟩
  · rintro t _ _ ⟨g, rfl, hg⟩
    unfold k0_t12_body
    have hv : ∀ l < 16, rd (k0_pay190 (F := F) (chunk s.b2 (16 * t.val))) l = dg0 (rd s.b2 (16 * t.val + l)) := fun l hl => by
      rw [show rd (k0_pay190 (F := F) (chunk s.b2 (16 * t.val))) l = dg0 (rd (chunk s.b2 (16 * t.val)) l) from by rw [rd_of_lt _ hl, rd_of_lt _ hl]; rfl]
      exact congrArg dg0 (rd_chunk _ _ hl)
    refine Run.load focus_b2 (off12_eq hn t) (Run.assume (lane_lt fun l hl => by rw [hv l hl]; exact dg0_lt _) (Run.scatter focus_cnt (Run.pure ?_)))
    refine ⟨_, rfl, ?_⟩
    exact hist_step (base := fun _ => 0) (key := fun j => (dg0 (rd s.b2 j)).toNat) (fun l hl => congrArg BitVec.toNat (hv l hl)) hg
  · rintro _ _ ⟨g, rfl, hg⟩
    exact ⟨g, rfl, fun b hb => by rw [hg b hb, Nat.zero_add]; exact congrArg (fun m => BitVec.ofNat 32 (Nat.count (fun j => (dg0 (rd s.b2 j)).toNat = b) (16 * m))) (t12_all n hn).2⟩

theorem t14_run (s : St) (hw : k0_chk8 (BitVec.ofNat 32 n)) (v102 v112 : BitVec 32) (key : ℕ → ℕ) (N : ℕ) (h : ∀ b < 2048, rd s.cnt b = BitVec.ofNat 32 (Nat.count (fun j => key j = b) N)) :
    Run (F := F) d L s (Scf.Loop.for k0_t14_loop k0_t14_ok 0#32 (k0_t14_body L (Memref.whole main_v0_scv) (Memref.isWhole_whole _) (Memref.whole main_arg1_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scoped0 cc0_scoped1 cc0_scoped2 cc0_scoped3 cc0_scoped4 cc0_scoped5 cc0_scoped6 cc0_scoped7 cc0_scoped8 (BitVec.ofNat 32 n) hw v102 16#32 0#32 v112 1#32))
    (fun _ s' => ∃ g, s' = { s with cnt := g } ∧ ∀ b < 2048, rd g b = BitVec.ofNat 32 (Nat.count (fun j => key j < b) N)) := by
  refine Run.mono (Run.for_ k0_t14_ok (fun t c s' => ∃ g, s' = { s with cnt := g }
    ∧ c = BitVec.ofNat 32 (Nat.count (fun j => key j < 16 * t) N)
    ∧ (∀ b < 16 * t, rd g b = BitVec.ofNat 32 (Nat.count (fun j => key j < b) N))
    ∧ (∀ b < 2048, 16 * t ≤ b → rd g b = BitVec.ofNat 32 (Nat.count (fun j => key j = b) N))) ?_ ?_) ?_
  · exact ⟨s.cnt, rfl, by simp, fun b hb => by omega, fun b hb _ => h b hb⟩
  · rintro t c _ ⟨g, rfl, hc, h1, h2⟩
    have ht : t.val < 128 := t.isLt
    unfold k0_t14_body
    refine Run.load focus_cnt (k0_off14_eq t) (Run.load focus_cnt (k0_off14_eq t) (Run.store focus_cnt (k0_off14_eq t) (Run.pure ?_)))
    have hs := scan_step (w := k0_pay198 (F := F) c (chunk g (16 * t.val))) (by omega) (fun l hl => by rw [rd_of_lt _ hl, rd_of_lt _ hl, rd_of_lt _ hl]; rfl) hc h1 h2
    exact ⟨_, rfl, (by rw [rd_of_lt _ (by omega)] at hs; exact hs.2.2), hs.1, hs.2.1⟩
  · rintro _ _ ⟨g, rfl, _, hg, _⟩
    exact ⟨g, rfl, fun b hb => hg b (by show b < 16 * 128; omega)⟩

theorem t15_run (s : St) (hn : 1 ≤ n ∧ n < 8193) (hw : k0_chk8 (BitVec.ofNat 32 n)) (v102 v112 : BitVec 32)
    (h : ∀ b < 2048, rd s.cnt b = BitVec.ofNat 32 (Nat.count (fun j => (dg0 (rd s.b2 j)).toNat < b) (up n))) :
    Run (F := F) d L s (Scf.Loop.for (k0_t15_loop (BitVec.ofNat 32 n)) (k0_t15_ok _ hw) ⟨⟩ (k0_t15_body L (Memref.whole main_v0_scv) (Memref.isWhole_whole _) (Memref.whole main_arg1_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scoped0 cc0_scoped1 cc0_scoped2 cc0_scoped3 cc0_scoped4 cc0_scoped5 cc0_scoped6 cc0_scoped7 cc0_scoped8 (BitVec.ofNat 32 n) hw v102 16#32 0#32 v112 1#32))
    (fun _ s' => ∃ fk fv g, s' = { s with b5 := fk, b4 := fv, cnt := g } ∧
      ∀ j < up n, rd fk (rk (up n) (fun j => (dg0 (rd s.b2 j)).toNat) j) = rd s.b2 j
        ∧ rd fv (rk (up n) (fun j => (dg0 (rd s.b2 j)).toNat) j) = BitVec.ofNat 32 j) := by
  generalize hkey : (fun j => (dg0 (rd s.b2 j)).toNat) = key
  have hkey' : ∀ j, (dg0 (rd s.b2 j)).toNat = key j := fun j => congrFun hkey j
  have hup : up n ≤ 8192 := by unfold up; omega
  simp only [hkey'] at h
  refine Run.mono (Run.for_ (k0_t15_ok _ hw) (fun t _ s' => ∃ fk fv g, s' = { s with b5 := fk, b4 := fv, cnt := g }
    ∧ (∀ b < 2048, rd g b = BitVec.ofNat 32 (Nat.count (fun j => key j < b) (up n) + Nat.count (fun j => key j = b) (16 * t)))
    ∧ (∀ j < 16 * t, True → rd fk (rk (up n) key j) = rd s.b2 j)
    ∧ (∀ j < 16 * t, True → rd fv (rk (up n) key j) = BitVec.ofNat 32 j)) ?_ ?_) ?_
  · exact ⟨s.b5, s.b4, s.cnt, rfl, fun b hb => by rw [h b hb]; simp, fun j hj => by omega, fun j hj => by omega⟩
  · rintro t _ _ ⟨fk, fv, g, rfl, hg, h2, h3⟩
    have ht : 16 * t.val + 16 ≤ up n := by
      have : t.val < (n + 15) / 16 := lt_of_lt_of_eq t.isLt (t15_all n hn).2
      unfold up; omega
    have ht' : t.val < 512 := lt_ceil hn (lt_of_lt_of_eq t.isLt (t15_all n hn).2)
    unfold k0_t15_body
    have hv : ∀ l < 16, rd (k0_pay201 (F := F) (chunk s.b2 (16 * t.val))) l = dg0 (rd s.b2 (16 * t.val + l)) := fun l hl => by
      rw [show rd (k0_pay201 (F := F) (chunk s.b2 (16 * t.val))) l = dg0 (rd (chunk s.b2 (16 * t.val)) l) from by rw [rd_of_lt _ hl, rd_of_lt _ hl]; rfl]
      exact congrArg dg0 (rd_chunk _ _ hl)
    have hk : ∀ j, key j < 2048 := fun j => by rw [← hkey']; exact dg0_lt _
    have hv' : ∀ l < 16, (rd (k0_pay201 (F := F) (chunk s.b2 (16 * t.val))) l).toNat = key (16 * t.val + l) := fun l hl => by rw [hv l hl, hkey']
    have hp : ∀ l < 16, rd (k0_pay205 (F := F) (k0_pay201 (F := F) (chunk s.b2 (16 * t.val))) (pick g (k0_pay201 (F := F) (chunk s.b2 (16 * t.val))))) l
        = BitVec.ofNat 32 (rk (up n) key (16 * t.val + l)) := fun l hl => by
      rw [← pos_lane hl hv' (hk _) hg, ← rd_pick _ _ hl, rd_of_lt _ hl, rd_of_lt _ hl, rd_of_lt _ hl]; rfl
    have hr : ∀ l < 16, rk (up n) key (16 * t.val + l) < 8192 := fun l hl => Nat.lt_of_lt_of_le (rk_lt _ (by omega)) hup
    have hpn : ∀ l < 16, (rd (k0_pay205 (F := F) (k0_pay201 (F := F) (chunk s.b2 (16 * t.val))) (pick g (k0_pay201 (F := F) (chunk s.b2 (16 * t.val))))) l).toNat
        = rk (up n) key (16 * t.val + l) := fun l hl => by
      rw [hp l hl, BitVec.toNat_ofNat, Nat.mod_eq_of_lt (by have := hr l hl; omega)]
    have hinj : ∀ i < 16 * t.val + 16, ∀ j < 16 * t.val + 16, True → True → rk (up n) key i = rk (up n) key j → i = j :=
      fun i hi j hj _ _ e => rk_inj i (by omega) j (by omega) e
    refine Run.load focus_b2 (off15_eq hn t) ?_
    refine Run.assume ⟨lane_lt fun l hl => by rw [hv' l hl]; exact hk _, lane_lt fun l hl => by rw [hv' l hl]; exact hk _⟩ ?_
    refine Run.gather focus_cnt ?_
    refine Run.assume ⟨lane_lt fun l hl => by rw [hpn l hl]; have := hr l hl; omega, lane_lt fun l hl => by rw [hpn l hl]; have := hr l hl; omega⟩ ?_
    refine Run.scatter focus_b5 ?_
    dsimp only
    refine Run.scatter focus_b4 ?_
    dsimp only
    refine Run.scatter focus_cnt ?_
    dsimp only
    refine Run.pure ?_
    refine ⟨_, _, _, rfl, ?_, ?_, ?_⟩
    · exact hist_step (base := fun b => Nat.count (fun j => key j < b) (up n)) (key := key) hv' hg
    · exact scatter_step (q := fun _ => True) (p := rk (up n) key) (vals := fun j => rd s.b2 j) hinj (fun l hl _ => hpn l hl) (fun l hl => by rw [all_ones l hl]; simp)
        (fun l hl _ => rd_chunk _ _ hl) h2
    · exact scatter_step (q := fun _ => True) (p := rk (up n) key) (vals := fun j => BitVec.ofNat 32 j) hinj (fun l hl _ => hpn l hl) (fun l hl => by rw [all_ones l hl]; simp)
        (fun l hl _ => by
        have e : rd (α := BitVec 32) (k0_pay200 (BitVec.ofNat 32 n) t) l = rd lanes l + (0#32 + (0#32 + BitVec.ofNat 32 t.val * 1#32) * 16#32 + 0#32) := by
          rw [rd_of_lt _ hl, rd_of_lt _ hl]; rfl
        rw [e, rd_lanes hl]
        exact iv_lane _ _) h3
  · rintro _ _ ⟨fk, fv, g, rfl, _, h2, h3⟩
    have ht : 16 * (k0_t15_loop (BitVec.ofNat 32 n)).trips = up n := congrArg (16 * ·) (t15_all n hn).2
    rw [ht] at h2 h3
    exact ⟨fk, fv, g, rfl, fun j hj => ⟨h2 j hj trivial, h3 j hj trivial⟩⟩

theorem t17_run (s : St) (hw : k0_chk8 (BitVec.ofNat 32 n)) (v102 v112 : BitVec 32) : Run (F := F) d L s (Scf.Loop.for k0_t17_loop k0_t17_ok ⟨⟩ (k0_t17_body L (Memref.whole main_v0_scv) (Memref.isWhole_whole _) (Memref.whole main_arg1_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scoped0 cc0_scoped1 cc0_scoped2 cc0_scoped3 cc0_scoped4 cc0_scoped5 cc0_scoped6 cc0_scoped7 cc0_scoped8 (BitVec.ofNat 32 n) hw v102 16#32 0#32 v112 1#32))
    (fun _ s' => ∃ g, s' = { s with cnt := g } ∧ ∀ b < 2048, rd g b = 0#32) := by
  refine Run.mono (Run.for_ k0_t17_ok (fun t _ s' => ∃ g, s' = { s with cnt := g } ∧ ∀ b < 16 * t, b < 2048 → rd g b = 0#32) ?_ ?_) ?_
  · exact ⟨s.cnt, rfl, fun b hb => by omega⟩
  · rintro t _ _ ⟨g, rfl, hg⟩
    unfold k0_t17_body
    refine Run.load focus_cnt (k0_off17_eq t) (Run.store focus_cnt (k0_off17_eq t) (Run.pure ?_))
    refine ⟨_, rfl, ?_⟩
    exact zero_step (fun l hl => by rw [rd_of_lt _ hl]; rfl) hg
  · rintro _ _ ⟨g, rfl, hg⟩
    exact ⟨g, rfl, fun b hb => hg b (by show b < 16 * 128; omega) hb⟩

theorem t18_run (s : St) (hn : 1 ≤ n ∧ n < 8193) (hw : k0_chk8 (BitVec.ofNat 32 n)) (v102 v112 : BitVec 32) (h0 : ∀ b < 2048, rd s.cnt b = 0#32) :
    Run (F := F) d L s (Scf.Loop.for (k0_t18_loop (BitVec.ofNat 32 n)) (k0_t18_ok _ hw) ⟨⟩ (k0_t18_body L (Memref.whole main_v0_scv) (Memref.isWhole_whole _) (Memref.whole main_arg1_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scoped0 cc0_scoped1 cc0_scoped2 cc0_scoped3 cc0_scoped4 cc0_scoped5 cc0_scoped6 cc0_scoped7 cc0_scoped8 (BitVec.ofNat 32 n) hw v102 16#32 0#32 v112 1#32))
    (fun _ s' => ∃ g, s' = { s with cnt := g } ∧ ∀ b < 2048, rd g b = BitVec.ofNat 32 (Nat.count (fun j => (dg1 (rd s.b5 j)).toNat = b) (up n))) := by
  refine Run.mono (Run.for_ (k0_t18_ok _ hw) (fun t _ s' => ∃ g, s' = { s with cnt := g } ∧ ∀ b < 2048, rd g b = BitVec.ofNat 32 (0 + Nat.count (fun j => (dg1 (rd s.b5 j)).toNat = b) (16 * t))) ?_ ?_) ?_
  · exact ⟨s.cnt, rfl, fun b hb => by rw [h0 b hb]; simp⟩
  · rintro t _ _ ⟨g, rfl, hg⟩
    unfold k0_t18_body
    have hv : ∀ l < 16, rd (k0_pay213 (F := F) (chunk s.b5 (16 * t.val))) l = dg1 (rd s.b5 (16 * t.val + l)) := fun l hl => by
      rw [show rd (k0_pay213 (F := F) (chunk s.b5 (16 * t.val))) l = dg1 (rd (chunk s.b5 (16 * t.val)) l) from by rw [rd_of_lt _ hl, rd_of_lt _ hl]; rfl]
      exact congrArg dg1 (rd_chunk _ _ hl)
    refine Run.load focus_b5 (off18_eq hn t) (Run.assume (lane_lt fun l hl => by rw [hv l hl]; exact dg1_lt _) (Run.scatter focus_cnt (Run.pure ?_)))
    refine ⟨_, rfl, ?_⟩
    exact hist_step (base := fun _ => 0) (key := fun j => (dg1 (rd s.b5 j)).toNat) (fun l hl => congrArg BitVec.toNat (hv l hl)) hg
  · rintro _ _ ⟨g, rfl, hg⟩
    exact ⟨g, rfl, fun b hb => by rw [hg b hb, Nat.zero_add]; exact congrArg (fun m => BitVec.ofNat 32 (Nat.count (fun j => (dg1 (rd s.b5 j)).toNat = b) (16 * m))) (t18_all n hn).2⟩

theorem t20_run (s : St) (hw : k0_chk8 (BitVec.ofNat 32 n)) (v20 : IVec S16 1) (v102 : BitVec 32) (key : ℕ → ℕ) (N : ℕ) (h : ∀ b < 2048, rd s.cnt b = BitVec.ofNat 32 (Nat.count (fun j => key j = b) N)) :
    Run (F := F) d L s (Scf.Loop.for k0_t20_loop k0_t20_ok 0#32 (k0_t20_body L (Memref.whole main_v0_scv) (Memref.isWhole_whole _) (Memref.whole main_arg1_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scoped0 cc0_scoped1 cc0_scoped2 cc0_scoped3 cc0_scoped4 cc0_scoped5 cc0_scoped6 cc0_scoped7 cc0_scoped8 lanes (BitVec.ofNat 32 n) hw v20 v102 0#32 0#32))
    (fun _ s' => ∃ g, s' = { s with cnt := g } ∧ ∀ b < 2048, rd g b = BitVec.ofNat 32 (Nat.count (fun j => key j < b) N)) := by
  refine Run.mono (Run.for_ k0_t20_ok (fun t c s' => ∃ g, s' = { s with cnt := g }
    ∧ c = BitVec.ofNat 32 (Nat.count (fun j => key j < 16 * t) N)
    ∧ (∀ b < 16 * t, rd g b = BitVec.ofNat 32 (Nat.count (fun j => key j < b) N))
    ∧ (∀ b < 2048, 16 * t ≤ b → rd g b = BitVec.ofNat 32 (Nat.count (fun j => key j = b) N))) ?_ ?_) ?_
  · exact ⟨s.cnt, rfl, by simp, fun b hb => by omega, fun b hb _ => h b hb⟩
  · rintro t c _ ⟨g, rfl, hc, h1, h2⟩
    have ht : t.val < 128 := t.isLt
    unfold k0_t20_body
    refine Run.load focus_cnt (k0_off20_eq t) (Run.load focus_cnt (k0_off20_eq t) (Run.store focus_cnt (k0_off20_eq t) (Run.pure ?_)))
    have hs := scan_step (w := k0_pay221 (F := F) c (chunk g (16 * t.val))) (by omega) (fun l hl => by rw [rd_of_lt _ hl, rd_of_lt _ hl, rd_of_lt _ hl]; rfl) hc h1 h2
    exact ⟨_, rfl, (by rw [rd_of_lt _ (by omega)] at hs; exact hs.2.2), hs.1, hs.2.1⟩
  · rintro _ _ ⟨g, rfl, _, hg, _⟩
    exact ⟨g, rfl, fun b hb => hg b (by show b < 16 * 128; omega)⟩

theorem t21_run (s : St) (hn : 1 ≤ n ∧ n < 8193) (hw : k0_chk8 (BitVec.ofNat 32 n)) (v20 : IVec S16 1) (v102 : BitVec 32)
    (h : ∀ b < 2048, rd s.cnt b = BitVec.ofNat 32 (Nat.count (fun j => (dg1 (rd s.b5 j)).toNat < b) (up n))) :
    Run (F := F) d L s (Scf.Loop.for (k0_t21_loop (BitVec.ofNat 32 n)) (k0_t21_ok _ hw) ⟨⟩ (k0_t21_body L (Memref.whole main_v0_scv) (Memref.isWhole_whole _) (Memref.whole main_arg1_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scoped0 cc0_scoped1 cc0_scoped2 cc0_scoped3 cc0_scoped4 cc0_scoped5 cc0_scoped6 cc0_scoped7 cc0_scoped8 lanes (BitVec.ofNat 32 n) hw v20 v102 0#32 0#32))
    (fun _ s' => ∃ fk fv g, s' = { s with b2 := fk, b1 := fv, cnt := g } ∧
      (∀ j < up n, rd fk (rk (up n) (fun j => (dg1 (rd s.b5 j)).toNat) j) = rd s.b5 j
        ∧ rd fv (rk (up n) (fun j => (dg1 (rd s.b5 j)).toNat) j) = rd s.b4 j) ∧ ∀ r, up n ≤ r → rd fk r = rd s.b2 r) := by
  generalize hkey : (fun j => (dg1 (rd s.b5 j)).toNat) = key
  have hkey' : ∀ j, (dg1 (rd s.b5 j)).toNat = key j := fun j => congrFun hkey j
  have hup : up n ≤ 8192 := by unfold up; omega
  simp only [hkey'] at h
  refine Run.mono (Run.for_ (k0_t21_ok _ hw) (fun t _ s' => ∃ fk fv g, s' = { s with b2 := fk, b1 := fv, cnt := g }
    ∧ (∀ b < 2048, rd g b = BitVec.ofNat 32 (Nat.count (fun j => key j < b) (up n) + Nat.count (fun j => key j = b) (16 * t)))
    ∧ (∀ j < 16 * t, True → rd fk (rk (up n) key j) = rd s.b5 j)
    ∧ (∀ j < 16 * t, True → rd fv (rk (up n) key j) = rd s.b4 j)
    ∧ ∀ r, up n ≤ r → rd fk r = rd s.b2 r) ?_ ?_) ?_
  · exact ⟨s.b2, s.b1, s.cnt, rfl, fun b hb => by rw [h b hb]; simp, fun j hj => by omega, fun j hj => by omega, fun _ _ => rfl⟩
  · rintro t _ _ ⟨fk, fv, g, rfl, hg, h2, h3, h4⟩
    have ht : 16 * t.val + 16 ≤ up n := by
      have : t.val < (n + 15) / 16 := lt_of_lt_of_eq t.isLt (t21_all n hn).2
      unfold up; omega
    have ht' : t.val < 512 := lt_ceil hn (lt_of_lt_of_eq t.isLt (t21_all n hn).2)
    unfold k0_t21_body
    have hv : ∀ l < 16, rd (k0_pay223 (F := F) (chunk s.b5 (16 * t.val))) l = dg1 (rd s.b5 (16 * t.val + l)) := fun l hl => by
      rw [show rd (k0_pay223 (F := F) (chunk s.b5 (16 * t.val))) l = dg1 (rd (chunk s.b5 (16 * t.val)) l) from by rw [rd_of_lt _ hl, rd_of_lt _ hl]; rfl]
      exact congrArg dg1 (rd_chunk _ _ hl)
    have hk : ∀ j, key j < 2048 := fun j => by rw [← hkey']; exact dg1_lt _
    have hv' : ∀ l < 16, (rd (k0_pay223 (F := F) (chunk s.b5 (16 * t.val))) l).toNat = key (16 * t.val + l) := fun l hl => by rw [hv l hl, hkey']
    have hp : ∀ l < 16, rd (k0_pay227 (F := F) (k0_pay223 (F := F) (chunk s.b5 (16 * t.val))) (pick g (k0_pay223 (F := F) (chunk s.b5 (16 * t.val))))) l
        = BitVec.ofNat 32 (rk (up n) key (16 * t.val + l)) := fun l hl => by
      rw [← pos_lane hl hv' (hk _) hg, ← rd_pick _ _ hl, rd_of_lt _ hl, rd_of_lt _ hl, rd_of_lt _ hl]; rfl
    have hr : ∀ l < 16, rk (up n) key (16 * t.val + l) < 8192 := fun l hl => Nat.lt_of_lt_of_le (rk_lt _ (by omega)) hup
    have hpn : ∀ l < 16, (rd (k0_pay227 (F := F) (k0_pay223 (F := F) (chunk s.b5 (16 * t.val))) (pick g (k0_pay223 (F := F) (chunk s.b5 (16 * t.val))))) l).toNat
        = rk (up n) key (16 * t.val + l) := fun l hl => by
      rw [hp l hl, BitVec.toNat_ofNat, Nat.mod_eq_of_lt (by have := hr l hl; omega)]
    have hinj : ∀ i < 16 * t.val + 16, ∀ j < 16 * t.val + 16, True → True → rk (up n) key i = rk (up n) key j → i = j :=
      fun i hi j hj _ _ e => rk_inj i (by omega) j (by omega) e
    refine Run.load focus_b5 (off21_eq hn t) ?_
    refine Run.load focus_b4 (off22_eq hn t) ?_
    refine Run.assume ⟨lane_lt fun l hl => by rw [hv' l hl]; exact hk _, lane_lt fun l hl => by rw [hv' l hl]; exact hk _⟩ ?_
    refine Run.gather focus_cnt ?_
    refine Run.assume ⟨lane_lt fun l hl => by rw [hpn l hl]; have := hr l hl; omega, lane_lt fun l hl => by rw [hpn l hl]; have := hr l hl; omega⟩ ?_
    refine Run.scatter focus_b2 ?_
    dsimp only
    refine Run.scatter focus_b1 ?_
    dsimp only
    refine Run.scatter focus_cnt ?_
    dsimp only
    refine Run.pure ?_
    refine ⟨_, _, _, rfl, ?_, ?_, ?_, ?_⟩
    · exact hist_step (base := fun b => Nat.count (fun j => key j < b) (up n)) (key := key) hv' hg
    · exact scatter_step (q := fun _ => True) (p := rk (up n) key) (vals := fun j => rd s.b5 j) hinj (fun l hl _ => hpn l hl) (fun l hl => by rw [all_ones l hl]; simp)
        (fun l hl _ => rd_chunk _ _ hl) h2
    · exact scatter_step (q := fun _ => True) (p := rk (up n) key) (vals := fun j => rd s.b4 j) hinj (fun l hl _ => hpn l hl) (fun l hl => by rw [all_ones l hl]; simp)
        (fun l hl _ => rd_chunk _ _ hl) h3
    · intro r hr'
      refine (storeIdx_miss (F := F) _ _ _ _ _ _ ?_).trans (h4 r hr')
      intro l hl _ e
      have := rk_lt (N := up n) (key := key) (16 * t.val + l) (by omega)
      rw [hpn l hl] at e; omega
  · rintro _ _ ⟨fk, fv, g, rfl, _, h2, h3, h4⟩
    have ht : 16 * (k0_t21_loop (BitVec.ofNat 32 n)).trips = up n := congrArg (16 * ·) (t21_all n hn).2
    rw [ht] at h2 h3
    exact ⟨fk, fv, g, rfl, fun j hj => ⟨h2 j hj trivial, h3 j hj trivial⟩, h4⟩

end Cert.Proof.Tile
-- ==== Proof.Fill.lean ====
/-
  The loops that fill the tail of the list of runs with the positions themselves, and the codes past the last run with
  a code above every other; and the loop that sums the lengths of the runs before each.
-/
module

public import proofs.«01_k».proof.Defs
public import proofs.«01_k».proof.Proof.Lanes
public import proofs.«01_k».proof.Proof.Gen.KernelIdeal
public import proofs.«01_k».proof.Proof.Gen.KernelIdeal.Skeleton
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Tile
public import proofs.«01_k».proof.Proof.RadixPass

@[expose] public section

noncomputable section

namespace Cert.Proof.Tile

open Cert.KernelIdeal Cert.KernelIdeal.Gen
open Cert.Proof.Lanes

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable {d : Dev nD} {L : grid0.Coords} {α β : Type} {s : St} {Q : α → St → Prop}

variable {n : ℕ}

theorem sge_w {a b : ℕ} (ha : a < 2 ^ 20) (hb : b < 2 ^ 20) : BitVec.ofBool ((BitVec.ofNat 32 b).sle (BitVec.ofNat 32 a)) = 1#1 ↔ b ≤ a := by
  have h1 : (BitVec.ofNat 32 a).toInt = a := by rw [BitVec.toInt_eq_toNat_of_lt] <;> rw [BitVec.toNat_ofNat] <;> omega
  have h2 : (BitVec.ofNat 32 b).toInt = b := by rw [BitVec.toInt_eq_toNat_of_lt] <;> rw [BitVec.toNat_ofNat] <;> omega
  by_cases h : b ≤ a
  · rw [show (BitVec.ofNat 32 b).sle (BitVec.ofNat 32 a) = true from by rw [BitVec.sle_iff_toInt_le, h1, h2]; omega]; simp [h]
  · rw [show (BitVec.ofNat 32 b).sle (BitVec.ofNat 32 a) = false from by rw [Bool.eq_false_iff, ne_eq, BitVec.sle_iff_toInt_le, h1, h2]; omega]; simp [h]

theorem slt_w' {a b : ℕ} (ha : a < 2 ^ 20) (hb : b < 2 ^ 20) : (BitVec.ofBool ((BitVec.ofNat 32 a).slt (BitVec.ofNat 32 b)) = 1) ↔ a < b := by
  have h1 : (BitVec.ofNat 32 a).toInt = a := by rw [BitVec.toInt_eq_toNat_of_lt] <;> rw [BitVec.toNat_ofNat] <;> omega
  have h2 : (BitVec.ofNat 32 b).toInt = b := by rw [BitVec.toInt_eq_toNat_of_lt] <;> rw [BitVec.toNat_ofNat] <;> omega
  by_cases h : a < b
  · rw [show (BitVec.ofNat 32 a).slt (BitVec.ofNat 32 b) = true from by rw [BitVec.slt_iff_toInt_lt, h1, h2]; omega]; simp [h]
  · rw [show (BitVec.ofNat 32 a).slt (BitVec.ofNat 32 b) = false from by rw [Bool.eq_false_iff, ne_eq, BitVec.slt_iff_toInt_lt, h1, h2]; omega]; simp [h]

/-- The number of words that the whole waves of gathers bring. -/
abbrev waves (n : ℕ) : ℕ := (n + 1023) / 1024 * 1024

theorem t6_run (s : St) (hn : 1 ≤ n ∧ n < 8193) (hw : k0_chk8 (BitVec.ofNat 32 n)) (v44 : BitVec 32) :
    Run (F := F) d L s (Scf.Loop.for (k0_t6_loop (BitVec.ofNat 32 n)) (k0_t6_ok _ hw) ⟨⟩
      (k0_t6_body L (Memref.whole main_v0_scv) (Memref.isWhole_whole _) (Memref.whole main_arg1_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scoped0 cc0_scoped1 cc0_scoped2 cc0_scoped3 cc0_scoped4 cc0_scoped5 cc0_scoped6 cc0_scoped7 cc0_scoped8 lanes (BitVec.ofNat 32 n) hw v44 16#32 (BitVec.ofNat 32 (n / 16)) 1#32 0#32))
    (fun _ s' => ∃ f, s' = { s with b1 := f } ∧ (∀ p < n, rd f p = rd s.b1 p) ∧ ∀ p < waves n, n ≤ p → rd f p = BitVec.ofNat 32 p) := by
  refine Run.mono (Run.for_ (k0_t6_ok _ hw) (fun t _ s' => ∃ f, s' = { s with b1 := f } ∧ (∀ p < n, rd f p = rd s.b1 p)
    ∧ ∀ j < 16 * t, n ≤ n / 16 * 16 + j → rd f (n / 16 * 16 + j) = BitVec.ofNat 32 (n / 16 * 16 + j)) ?_ ?_) ?_
  · exact ⟨s.b1, rfl, fun p _ => rfl, fun j hj => by omega⟩
  · rintro t _ _ ⟨f, rfl, h1, h2⟩
    have ht : t.val < (waves n - n / 16 * 16) / 16 := lt_of_lt_of_eq t.isLt (t6_all n hn).2
    unfold k0_t6_body
    have hv : ∀ l < 16, rd (k0_pay184 lanes (BitVec.ofNat 32 n) 16#32 (BitVec.ofNat 32 (n / 16)) 1#32 0#32 t) l = BitVec.ofNat 32 (n / 16 * 16 + (16 * t.val + l)) := fun l hl => by
      have e : rd (k0_pay184 lanes (BitVec.ofNat 32 n) 16#32 (BitVec.ofNat 32 (n / 16)) 1#32 0#32 t) l
          = rd lanes l + (BitVec.ofNat 32 (n / 16) * 16#32 + (0#32 + BitVec.ofNat 32 t.val * 1#32) * 16#32) := by
        rw [rd_of_lt _ hl, rd_of_lt _ hl]
        show lanes _ + (Scalar.muli (Scalar.select (Scalar.andi (Scalar.cmpi .ne 1#32 1#32) _) _ _) 16#32 + _) = _
        rw [ne_same, and_zero, sel_zero]; rfl
      rw [e, rd_lanes hl, BitVec.zero_add, BitVec.mul_one, show BitVec.ofNat 32 (n / 16) * 16#32 = BitVec.ofNat 32 (n / 16 * 16) from mul_w _ 16,
        show BitVec.ofNat 32 t.val * 16#32 = BitVec.ofNat 32 (t.val * 16) from mul_w _ 16, ofNat_add', ofNat_add']
      congr 1; omega
    have hr : ∀ l < 16, n / 16 * 16 + (16 * t.val + l) < 8192 := fun l hl => by
      clear hv; unfold waves at ht; omega
    have hvn : ∀ l < 16, (rd (k0_pay184 lanes (BitVec.ofNat 32 n) 16#32 (BitVec.ofNat 32 (n / 16)) 1#32 0#32 t) l).toNat = n / 16 * 16 + (16 * t.val + l) := fun l hl => by
      rw [hv l hl, BitVec.toNat_ofNat, Nat.mod_eq_of_lt]; have := hr l hl; omega
    have hm : ∀ l < 16, rd (k0_pay185 (BitVec.ofNat 32 n) (k0_pay184 lanes (BitVec.ofNat 32 n) 16#32 (BitVec.ofNat 32 (n / 16)) 1#32 0#32 t)) l = 1#1
        ↔ n ≤ n / 16 * 16 + (16 * t.val + l) := fun l hl => by
      have e : rd (k0_pay185 (BitVec.ofNat 32 n) (k0_pay184 lanes (BitVec.ofNat 32 n) 16#32 (BitVec.ofNat 32 (n / 16)) 1#32 0#32 t)) l
          = BitVec.ofBool ((BitVec.ofNat 32 n).sle (rd (k0_pay184 lanes (BitVec.ofNat 32 n) 16#32 (BitVec.ofNat 32 (n / 16)) 1#32 0#32 t) l)) := by
        rw [rd_of_lt _ hl, rd_of_lt _ hl]; rfl
      rw [e, hv l hl]
      exact sge_w (by have := hr l hl; omega) (by omega)
    refine Run.assume (lane_lt fun l hl => by rw [hvn l hl]; exact hr l hl) ?_
    refine Run.scatter focus_b1 ?_
    dsimp only
    refine Run.pure ?_
    refine ⟨_, rfl, ?_, ?_⟩
    · intro p hp
      refine (storeIdx_miss (F := F) _ _ _ _ _ _ ?_).trans (h1 p hp)
      intro l hl hml e
      have := (hm l hl).mp hml
      rw [hvn l hl] at e; omega
    · exact scatter_step (q := fun j => n ≤ n / 16 * 16 + j) (p := fun j => n / 16 * 16 + j) (vals := fun j => BitVec.ofNat 32 (n / 16 * 16 + j)) (a := 16 * t.val)
        (fun i _ j _ _ _ e => by omega) (fun l hl _ => hvn l hl) hm (fun l hl _ => hv l hl) h2
  · rintro _ _ ⟨f, rfl, h1, h2⟩
    have ht : (k0_t6_loop (BitVec.ofNat 32 n)).trips = (waves n - n / 16 * 16) / 16 := (t6_all n hn).2
    rw [ht] at h2
    refine ⟨f, rfl, h1, fun p hp hnp => ?_⟩
    have := h2 (p - n / 16 * 16) (by unfold waves at hp ⊢; omega) (by omega)
    rwa [show n / 16 * 16 + (p - n / 16 * 16) = p by omega] at this

/-- The code past every run's: above every value of the table. -/
abbrev sentinel : BitVec 32 := 4194303#32

theorem t10_run (s : St) (hn : 1 ≤ n ∧ n < 8193) (hw : k0_chk8 (BitVec.ofNat 32 n)) :
    Run (F := F) d L s (Scf.Loop.for k0_t10_loop k0_t10_ok ⟨⟩ (k0_t10_body L (Memref.whole main_v0_scv) (Memref.isWhole_whole _) (Memref.whole main_arg1_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scoped0 cc0_scoped1 cc0_scoped2 cc0_scoped3 cc0_scoped4 cc0_scoped5 cc0_scoped6 cc0_scoped7 cc0_scoped8 lanes (BitVec.ofNat 32 n) hw 0#32 512#32))
    (fun _ s' => ∃ f, s' = { s with b2 := f } ∧ ∀ p < 8192, rd f p = if p < n then rd s.b2 p else sentinel) := by
  refine Run.mono (Run.for_ k0_t10_ok (fun t _ s' => ∃ f, s' = { s with b2 := f }
    ∧ ∀ p < 8192, rd f p = if p < n ∨ 16 * t ≤ p then rd s.b2 p else sentinel) ?_ ?_) ?_
  · exact ⟨s.b2, rfl, fun p _ => by rw [if_pos (by omega)]⟩
  · rintro t _ _ ⟨f, rfl, h⟩
    have ht : t.val < 512 := t.isLt
    unfold k0_t10_body
    refine Run.load focus_b2 (k0_off10_eq t) (Run.load focus_b2 (k0_off10_eq t) (Run.store focus_b2 (k0_off10_eq t) (Run.pure ?_)))
    refine ⟨_, rfl, fun p hp => ?_⟩
    rw [rd_put _ _ _ hp]
    by_cases hpt : 16 * t.val ≤ p ∧ p < 16 * t.val + 16
    · rw [if_pos hpt]
      obtain ⟨l, rfl⟩ := Nat.exists_eq_add_of_le hpt.1
      have hl : l < 16 := by omega
      have e : rd (α := BitVec 32) (k0_pay188 (F := F) lanes (BitVec.ofNat 32 n) 0#32 t (chunk f (16 * t.val))) l
          = if BitVec.ofBool ((rd lanes l + (0#32 + (0#32 + BitVec.ofNat 32 t.val * 1#32) * 16#32 + 0#32)).slt (BitVec.ofNat 32 n)) = 1 then rd (chunk f (16 * t.val)) l else sentinel := by
        rw [BitVec.add_zero, rd_of_lt _ hl, rd_of_lt _ hl, rd_of_lt _ hl]; rfl
      rw [Nat.add_sub_cancel_left]
      refine e.trans ?_
      rw [rd_lanes hl, iv_lane, rd_chunk _ _ hl, h _ hp, if_pos (show 16 * t.val + l < n ∨ 16 * t.val ≤ 16 * t.val + l by omega)]
      by_cases hh : 16 * t.val + l < n
      · rw [if_pos ((slt_w' (by omega) (by omega)).mpr hh), if_pos (.inl hh)]
      · rw [if_neg (fun a => hh ((slt_w' (by omega) (by omega)).mp a)), if_neg (by omega)]
    · rw [if_neg hpt, h p hp]
      by_cases hh : p < n ∨ 16 * t.val ≤ p
      · rw [if_pos hh, if_pos (by omega)]
      · rw [if_neg hh, if_neg (by omega)]
  · rintro _ _ ⟨f, rfl, h⟩
    refine ⟨f, rfl, fun p hp => ?_⟩
    rw [h p hp]
    have : 16 * k0_t10_loop.trips = 8192 := rfl
    by_cases hh : p < n
    · rw [if_pos (.inl hh), if_pos hh]
    · rw [if_neg (by omega), if_neg hh]

theorem t23_run (s : St) (hn : 1 ≤ n ∧ n < 8193) (hw : k0_chk8 (BitVec.ofNat 32 n)) (v20 : IVec S16 1) (v102 : BitVec 32)
    (hb : ∀ k < up n, (rd s.b1 k).toNat < 8192) (len : ℕ → BitVec 32)
    (hlen : ∀ k < up n, len k = if k < n then rd s.b6 ((rd s.b1 k).toNat + 1) - rd s.b6 (rd s.b1 k).toNat else 0#32) :
    Run (F := F) d L s (Scf.Loop.for (k0_t23_loop (BitVec.ofNat 32 n)) (k0_t23_ok _ hw) 0#32 (k0_t23_body L (Memref.whole main_v0_scv) (Memref.isWhole_whole _) (Memref.whole main_arg1_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scoped0 cc0_scoped1 cc0_scoped2 cc0_scoped3 cc0_scoped4 cc0_scoped5 cc0_scoped6 cc0_scoped7 cc0_scoped8 lanes (BitVec.ofNat 32 n) hw v20 v102 0#32 0#32))
    (fun _ s' => ∃ f, s' = { s with oex := f } ∧ ∀ k < up n, rd f k = ∑ k' ∈ Finset.range k, len k') := by
  have hup : up n ≤ 8192 := by unfold up; omega
  refine Run.mono (Run.for_ (k0_t23_ok _ hw) (fun t c s' => ∃ f, s' = { s with oex := f } ∧ c = ∑ k' ∈ Finset.range (16 * t), len k'
    ∧ ∀ k < 16 * t, rd f k = ∑ k' ∈ Finset.range k, len k') ?_ ?_) ?_
  · exact ⟨s.oex, rfl, by simp, fun k hk => by omega⟩
  · rintro t c _ ⟨f, rfl, hc, h⟩
    have ht : 16 * t.val + 16 ≤ up n := by
      have : t.val < (n + 15) / 16 := lt_of_lt_of_eq t.isLt (t23_all n hn).2
      unfold up; omega
    unfold k0_t23_body
    have hx : ∀ l < 16, rd (chunk s.b1 (16 * t.val)) l = rd s.b1 (16 * t.val + l) := fun l hl => rd_chunk _ _ hl
    have hx1 : ∀ l < 16, (rd (k0_pay233 (F := F) (chunk s.b1 (16 * t.val))) l).toNat = (rd s.b1 (16 * t.val + l)).toNat + 1 := fun l hl => by
      have e : rd (k0_pay233 (F := F) (chunk s.b1 (16 * t.val))) l = rd (chunk s.b1 (16 * t.val)) l + 1#32 := by
        rw [rd_of_lt _ hl, rd_of_lt _ hl]; rfl
      have := hb (16 * t.val + l) (by omega)
      rw [e, hx l hl, BitVec.toNat_add, show (1#32).toNat = 1 from rfl, Nat.mod_eq_of_lt (by omega)]
    have hl' : ∀ l < 16, rd (k0_pay234 (F := F) lanes (BitVec.ofNat 32 n) t (pick s.b6 (chunk s.b1 (16 * t.val))) (pick s.b6 (k0_pay233 (F := F) (chunk s.b1 (16 * t.val))))) l
        = len (16 * t.val + l) := fun l hl => by
      have e : rd (k0_pay234 (F := F) lanes (BitVec.ofNat 32 n) t (pick s.b6 (chunk s.b1 (16 * t.val))) (pick s.b6 (k0_pay233 (F := F) (chunk s.b1 (16 * t.val))))) l
          = if BitVec.ofBool ((rd lanes l + (0#32 + (0#32 + BitVec.ofNat 32 t.val * 1#32) * 16#32 + 0#32)).slt (BitVec.ofNat 32 n)) = 1
            then rd (pick s.b6 (k0_pay233 (F := F) (chunk s.b1 (16 * t.val)))) l - rd (pick s.b6 (chunk s.b1 (16 * t.val))) l else 0#32 := by
        rw [BitVec.add_zero, rd_of_lt _ hl, rd_of_lt _ hl, rd_of_lt _ hl, rd_of_lt _ hl]; rfl
      rw [e, rd_lanes hl, iv_lane, rd_pick _ _ hl, rd_pick _ _ hl, hx1 l hl, hx l hl, hlen _ (by omega)]
      by_cases hh : 16 * t.val + l < n
      · rw [if_pos ((slt_w' (by omega) (by omega)).mpr hh), if_pos hh]
      · rw [if_neg (fun a => hh ((slt_w' (by omega) (by omega)).mp a)), if_neg hh]
    have hsum : ∀ l < 16, rd (scan .sum (k0_pay234 (F := F) lanes (BitVec.ofNat 32 n) t (pick s.b6 (chunk s.b1 (16 * t.val))) (pick s.b6 (k0_pay233 (F := F) (chunk s.b1 (16 * t.val)))))) l
        = ∑ l' ∈ Finset.range (l + 1), len (16 * t.val + l') := fun l hl => by
      rw [scan_lane _ hl]; exact Finset.sum_congr rfl fun l' h' => hl' l' (by have := Finset.mem_range.mp h'; omega)
    refine Run.load focus_b1 (off25_eq hn t) ?_
    refine Run.assume (lane_lt fun l hl => by rw [hx l hl]; have := hb (16 * t.val + l) (by omega); omega) ?_
    refine Run.gather focus_b6 ?_
    refine Run.assume (lane_lt fun l hl => by rw [hx1 l hl]; have := hb (16 * t.val + l) (by omega); omega) ?_
    refine Run.gather focus_b6 ?_
    refine Run.load focus_oex (off26_eq hn t) ?_
    refine Run.store focus_oex (off26_eq hn t) ?_
    dsimp only
    refine Run.pure ?_
    refine ⟨_, rfl, ?_, ?_⟩
    · have := hsum 15 (by omega)
      rw [rd_of_lt _ (by omega)] at this
      refine (congrArg (fun x => c + x) this).trans ?_
      rw [hc, show 16 * (t.val + 1) = 16 * t.val + (15 + 1) by omega]
      exact (Finset.sum_range_add _ _ _).symm
    · intro k hk
      rw [rd_put _ _ _ (by omega)]
      by_cases hkt : 16 * t.val ≤ k
      · rw [if_pos (by omega)]
        obtain ⟨l, rfl⟩ := Nat.exists_eq_add_of_le hkt
        have hl : l < 16 := by omega
        have e : rd (α := BitVec 32) (k0_pay235 (F := F) lanes (BitVec.ofNat 32 n) t c (pick s.b6 (chunk s.b1 (16 * t.val))) (pick s.b6 (k0_pay233 (F := F) (chunk s.b1 (16 * t.val))))) l
            = rd (scan .sum (k0_pay234 (F := F) lanes (BitVec.ofNat 32 n) t (pick s.b6 (chunk s.b1 (16 * t.val))) (pick s.b6 (k0_pay233 (F := F) (chunk s.b1 (16 * t.val)))))) l
              - rd (k0_pay234 (F := F) lanes (BitVec.ofNat 32 n) t (pick s.b6 (chunk s.b1 (16 * t.val))) (pick s.b6 (k0_pay233 (F := F) (chunk s.b1 (16 * t.val))))) l + c := by
          rw [rd_of_lt _ hl, rd_of_lt _ hl, rd_of_lt _ hl]; rfl
        rw [Nat.add_sub_cancel_left]
        refine e.trans ?_
        rw [hsum l hl, hl' l hl, Finset.sum_range_succ, BitVec.add_sub_cancel, hc, Finset.sum_range_add, BitVec.add_comm]
      · rw [if_neg (by omega), h k (by omega)]
  · rintro _ _ ⟨f, rfl, _, h⟩
    have ht : 16 * (k0_t23_loop (BitVec.ofNat 32 n)).trips = up n := congrArg (16 * ·) (t23_all n hn).2
    rw [ht] at h
    exact ⟨f, rfl, h⟩

end Cert.Proof.Tile
-- ==== Proof.Search.lean ====
/-
  The search of the partner's sorted codes: fourteen halvings in each lane, and the loop that turns their result into the
  shift of each run's entries in the row.
-/
module

public import proofs.«01_k».proof.Defs
public import proofs.«01_k».proof.Proof.Lanes
public import proofs.«01_k».proof.Proof.Gen.KernelIdeal
public import proofs.«01_k».proof.Proof.Gen.KernelIdeal.Skeleton
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Tile
public import proofs.«01_k».proof.Proof.Fill

@[expose] public section

noncomputable section

namespace Cert.Proof.Tile

open Cert.KernelIdeal Cert.KernelIdeal.Gen
open Cert.Proof.Lanes

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable {d : Dev nD} {L : grid0.Coords} {α β : Type} {s : St} {Q : α → St → Prop}

variable {n : ℕ}

/-- The middle of the interval of each lane. -/
abbrev mid (lo hi : IVec S16 32) : IVec S16 32 := shrsi (addi lo hi) (broadcast S16 1#32)
abbrev act (lo hi : IVec S16 32) : IVec S16 1 := cmpi .slt lo hi
abbrev nlo (v tgt lo hi : IVec S16 32) : IVec S16 32 :=
  select (andi (act lo hi) (cmpi .slt v tgt)) (addi (mid lo hi) (broadcast S16 1#32)) lo
abbrev nhi (v tgt lo hi : IVec S16 32) : IVec S16 32 :=
  select (andi (act lo hi) (xori (cmpi .slt v tgt) (constantI S16 1 1#1))) (mid lo hi) hi

/-- The place `c` splits the words below the target from the others. -/
def Split (f : (Sh 8208).Idx → BitVec 32) (x : BitVec 32) (c : ℕ) : Prop := c ≤ 8192 ∧ ∀ j < 8192, ((rd f j).slt x = true ↔ j < c)

/-- The intervals of the lanes, of width at most `w`: each holds every place that splits. -/
def Between (f : (Sh 8208).Idx → BitVec 32) (tgt : IVec S16 32) (w : ℕ) (lo hi : IVec S16 32) : Prop :=
  ∀ l < 16, (rd lo l).toNat ≤ (rd hi l).toNat ∧ (rd hi l).toNat ≤ 8192 ∧ (rd hi l).toNat - (rd lo l).toNat ≤ w
    ∧ ∀ c, Split f (rd tgt l) c → (rd lo l).toNat ≤ c ∧ c ≤ (rd hi l).toNat

theorem mid_lane {lo hi : IVec S16 32} {l : ℕ} (hl : l < 16) (h : (rd lo l).toNat ≤ 8192 ∧ (rd hi l).toNat ≤ 8192) :
    (rd (mid lo hi) l).toNat = ((rd lo l).toNat + (rd hi l).toNat) / 2 := by
  have e : rd (mid lo hi) l = (rd lo l + rd hi l).sshiftRight 1 := by
    rw [rd_of_lt _ hl, rd_of_lt _ hl, rd_of_lt _ hl]; rfl
  have hs : (rd lo l + rd hi l).toNat = (rd lo l).toNat + (rd hi l).toNat := by
    rw [BitVec.toNat_add, Nat.mod_eq_of_lt (by omega)]
  rw [e, BitVec.sshiftRight_eq_of_msb_false (by rw [BitVec.msb_eq_decide, hs]; simp; omega), BitVec.toNat_ushiftRight, hs,
    Nat.shiftRight_eq_div_pow]

theorem slt_nat {a b : BitVec 32} (ha : a.toNat ≤ 8192) (hb : b.toNat ≤ 8192) : a.slt b = true ↔ a.toNat < b.toNat := by
  rw [BitVec.slt_iff_toInt_lt, BitVec.toInt_eq_toNat_of_lt (by omega), BitVec.toInt_eq_toNat_of_lt (by omega)]; omega

theorem mid_lt {f : (Sh 8208).Idx → BitVec 32} {tgt : IVec S16 32} {w : ℕ} {lo hi : IVec S16 32} (h : Between f tgt w lo hi) :
    ∀ l < 16, (rd (mid lo hi) l).toNat < 8208 := fun l hl => by
  have := h l hl
  rw [mid_lane hl (by omega)]; omega

theorem and_bool (a b : Bool) : BitVec.ofBool a &&& BitVec.ofBool b = BitVec.ofBool (a && b) := by cases a <;> cases b <;> rfl
theorem xor_bool (b : Bool) : BitVec.ofBool b ^^^ 1#1 = BitVec.ofBool (!b) := by cases b <;> rfl
theorem bool_one (b : Bool) : (BitVec.ofBool b = 1) ↔ b = true := by cases b <;> decide

/-- One halving. -/
theorem Between.step {f : (Sh 8208).Idx → BitVec 32} {tgt : IVec S16 32} {w : ℕ} {lo hi : IVec S16 32} (h : Between f tgt w lo hi) :
    Between f tgt (w / 2) (nlo (pick f (mid lo hi)) tgt lo hi) (nhi (pick f (mid lo hi)) tgt lo hi) := by
  intro l hl
  obtain ⟨h1, h2, h3, h4⟩ := h l hl
  have hm := mid_lane (lo := lo) (hi := hi) hl (by omega)
  have e1 : rd (nlo (pick f (mid lo hi)) tgt lo hi) l
      = if BitVec.ofBool ((rd lo l).slt (rd hi l)) &&& BitVec.ofBool ((rd f (rd (mid lo hi) l).toNat).slt (rd tgt l)) = 1 then rd (mid lo hi) l + 1#32 else rd lo l := by
    rw [← rd_pick f _ hl]
    simp only [rd_of_lt _ hl]; rfl
  have e2 : rd (nhi (pick f (mid lo hi)) tgt lo hi) l
      = if BitVec.ofBool ((rd lo l).slt (rd hi l)) &&& (BitVec.ofBool ((rd f (rd (mid lo hi) l).toNat).slt (rd tgt l)) ^^^ 1#1) = 1 then rd (mid lo hi) l else rd hi l := by
    rw [← rd_pick f _ hl]
    simp only [rd_of_lt _ hl]; rfl
  rw [e1, e2]
  rw [xor_bool, and_bool, and_bool]
  simp only [bool_one, Bool.and_eq_true, Bool.not_eq_true', slt_nat (show (rd lo l).toNat ≤ 8192 by omega) h2]
  by_cases ha : (rd lo l).toNat < (rd hi l).toNat
  · have hml : (rd (mid lo hi) l).toNat < 8192 := by omega
    by_cases hb : (rd f (rd (mid lo hi) l).toNat).slt (rd tgt l) = true
    · rw [if_pos ⟨ha, hb⟩, if_neg (by simp [hb]), BitVec.toNat_add, show (1#32).toNat = 1 from rfl, Nat.mod_eq_of_lt (by omega)]
      refine ⟨by omega, h2, by omega, fun c hc => ⟨?_, (h4 c hc).2⟩⟩
      exact (hc.2 _ hml).mp hb
    · rw [if_neg (fun x => hb x.2), if_pos ⟨ha, by simpa using hb⟩]
      refine ⟨by omega, by omega, by omega, fun c hc => ⟨(h4 c hc).1, ?_⟩⟩
      by_contra hlt
      exact hb ((hc.2 _ hml).mpr (by omega))
  · rw [if_neg (fun x => ha x.1), if_neg (fun x => ha x.1)]
    exact ⟨h1, h2, by omega, h4⟩

theorem between_start (f : (Sh 8208).Idx → BitVec 32) (tgt : IVec S16 32) :
    Between f tgt 8192 (broadcast S16 0#32) (broadcast S16 8192#32) := by
  intro l hl
  have e1 : rd (broadcast S16 0#32 : IVec S16 32) l = 0#32 := by rw [rd_of_lt _ hl]; rfl
  have e2 : rd (broadcast S16 8192#32 : IVec S16 32) l = 8192#32 := by rw [rd_of_lt _ hl]; rfl
  rw [e1, e2]
  exact ⟨by decide, by decide, by decide, fun c hc => ⟨Nat.zero_le _, hc.1⟩⟩

theorem part3_run (s : St) (v0 : BitVec 32) (hn : 1 ≤ n ∧ n < 8193) (hw : k0_chk8 (BitVec.ofNat 32 n)) (t : Fin (k0_t25_loop (BitVec.ofNat 32 n)).trips) :
    Run (F := F) d L s (k0_part3 L (Memref.whole main_v0_scv) (Memref.isWhole_whole _) (Memref.whole main_arg1_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scoped0 cc0_scoped1 cc0_scoped2 cc0_scoped3 cc0_scoped4 cc0_scoped5 cc0_scoped6 cc0_scoped7 cc0_scoped8 v0 lanes (BitVec.ofNat 32 n) hw 16#32 0#32 0#32 1#32 t)
    (fun r s' => s' = s ∧ ∃ a lo hi, Between s.pc (addi (chunk s.b2 (16 * t.val)) (broadcast S16 v0)) 2048 lo hi
      ∧ r = ⟨a, addi (chunk s.b2 (16 * t.val)) (broadcast S16 v0), k0_pay6 lanes (BitVec.ofNat 32 n) 16#32 0#32 0#32 1#32 t, lo, hi, act lo hi, mid lo hi,
        cmpi .slt (pick s.pc (mid lo hi)) (addi (chunk s.b2 (16 * t.val)) (broadcast S16 v0)),
        andi (act lo hi) (cmpi .slt (pick s.pc (mid lo hi)) (addi (chunk s.b2 (16 * t.val)) (broadcast S16 v0))), broadcast S16 1#32⟩) := by
  rw [k0_part3_eq_skeleton]; unfold k0_part3_skel
  refine Run.load focus_b2 (off33_eq hn t) ?_
  have b0 := between_start s.pc (addi (chunk s.b2 (16 * t.val)) (broadcast S16 v0))
  refine Run.assume (lane_lt (mid_lt b0)) ?_
  refine Run.gather focus_pc ?_
  have b1 := b0.step
  refine Run.assume (lane_lt (mid_lt b1)) ?_
  refine Run.gather focus_pc ?_
  have b2 := b1.step
  refine Run.assume (lane_lt (mid_lt b2)) ?_
  refine Run.gather focus_pc ?_
  refine Run.pure ⟨rfl, _, _, _, b2, rfl⟩

theorem part4_run (s : St) (tgt lo hi : IVec S16 32) (hb : Between s.pc tgt 2048 lo hi) :
    Run (F := F) d L s (k0_part4 L (Memref.whole main_v0_scv) (Memref.isWhole_whole _) (Memref.whole main_arg1_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scoped0 cc0_scoped1 cc0_scoped2 cc0_scoped3 cc0_scoped4 cc0_scoped5 cc0_scoped6 cc0_scoped7 cc0_scoped8 tgt lo hi (act lo hi) (mid lo hi) (cmpi .slt (pick s.pc (mid lo hi)) tgt)
      (andi (act lo hi) (cmpi .slt (pick s.pc (mid lo hi)) tgt)) (broadcast S16 1#32))
    (fun r s' => s' = s ∧ ∃ lo hi, Between s.pc tgt 128 lo hi ∧ r = ⟨lo, hi, act lo hi, addi lo hi, 1#32⟩) := by
  rw [k0_part4_eq_skeleton]; unfold k0_part4_skel
  have b1 := hb.step
  refine Run.assume (lane_lt (mid_lt b1)) ?_
  refine Run.gather focus_pc ?_
  have b2 := b1.step
  refine Run.assume (lane_lt (mid_lt b2)) ?_
  refine Run.gather focus_pc ?_
  have b3 := b2.step
  refine Run.assume (lane_lt (mid_lt b3)) ?_
  refine Run.gather focus_pc ?_
  exact Run.pure ⟨rfl, _, _, b3.step, rfl⟩

theorem part5_run (s : St) (tgt lo hi : IVec S16 32) (hb : Between s.pc tgt 128 lo hi) :
    Run (F := F) d L s (k0_part5 L (Memref.whole main_v0_scv) (Memref.isWhole_whole _) (Memref.whole main_arg1_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scoped0 cc0_scoped1 cc0_scoped2 cc0_scoped3 cc0_scoped4 cc0_scoped5 cc0_scoped6 cc0_scoped7 cc0_scoped8 tgt lo hi (act lo hi) (addi lo hi) 1#32)
    (fun r s' => s' = s ∧ ∃ lo hi, Between s.pc tgt 16 lo hi ∧ r = ⟨lo, hi, act lo hi, mid lo hi, cmpi .slt (pick s.pc (mid lo hi)) tgt,
      andi (act lo hi) (cmpi .slt (pick s.pc (mid lo hi)) tgt), addi (mid lo hi) (broadcast S16 1#32)⟩) := by
  rw [k0_part5_eq_skeleton]; unfold k0_part5_skel
  refine Run.assume (lane_lt (mid_lt hb)) ?_
  refine Run.gather focus_pc ?_
  have b1 := hb.step
  refine Run.assume (lane_lt (mid_lt b1)) ?_
  refine Run.gather focus_pc ?_
  have b2 := b1.step
  refine Run.assume (lane_lt (mid_lt b2)) ?_
  refine Run.gather focus_pc ?_
  have b3 := b2.step
  refine Run.assume (lane_lt (mid_lt b3)) ?_
  refine Run.gather focus_pc ?_
  exact Run.pure ⟨rfl, _, _, b3, rfl⟩

theorem part6_run (s : St) (tgt lo hi : IVec S16 32) (hb : Between s.pc tgt 16 lo hi) :
    Run (F := F) d L s (k0_part6 L (Memref.whole main_v0_scv) (Memref.isWhole_whole _) (Memref.whole main_arg1_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scoped0 cc0_scoped1 cc0_scoped2 cc0_scoped3 cc0_scoped4 cc0_scoped5 cc0_scoped6 cc0_scoped7 cc0_scoped8 tgt lo hi (act lo hi) (mid lo hi) (cmpi .slt (pick s.pc (mid lo hi)) tgt)
      (andi (act lo hi) (cmpi .slt (pick s.pc (mid lo hi)) tgt)) (addi (mid lo hi) (broadcast S16 1#32)))
    (fun r s' => s' = s ∧ ∃ lo hi, Between s.pc tgt 1 lo hi ∧ r = ⟨lo, hi, act lo hi, addi lo hi, broadcast S16 1#32⟩) := by
  rw [k0_part6_eq_skeleton]; unfold k0_part6_skel
  have b1 := hb.step
  refine Run.assume (lane_lt (mid_lt b1)) ?_
  refine Run.gather focus_pc ?_
  have b2 := b1.step
  refine Run.assume (lane_lt (mid_lt b2)) ?_
  refine Run.gather focus_pc ?_
  have b3 := b2.step
  refine Run.assume (lane_lt (mid_lt b3)) ?_
  refine Run.gather focus_pc ?_
  exact Run.pure ⟨rfl, _, _, b3.step, rfl⟩

/-- A run's first entry in the row: what the tile's own runs before it hold, and what the partner's smaller codes hold. -/
def Shift (s : St) (v0 : BitVec 32) (k : ℕ) (x : BitVec 32) : Prop :=
  ∃ lo, lo ≤ 8192 ∧ (∀ c, Split s.pc (rd s.b2 k + v0) c → lo = c) ∧ x = rd s.oex k + rd s.pe lo - rd s.b6 (rd s.b1 k).toNat

theorem t25_run (s : St) (v0 v1 v102 : BitVec 32) (hn : 1 ≤ n ∧ n < 8193) (hw : k0_chk8 (BitVec.ofNat 32 n))
    (hb : ∀ k < up n, (rd s.b1 k).toNat < 8192) (hinj : ∀ k < up n, ∀ k' < up n, (rd s.b1 k).toNat = (rd s.b1 k').toNat → k = k') :
    Run (F := F) d L s (Scf.Loop.for (k0_t25_loop (BitVec.ofNat 32 n)) (k0_t25_ok _ hw) ⟨⟩
      (k0_t25_body L (Memref.whole main_v0_scv) (Memref.isWhole_whole _) (Memref.whole main_arg1_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scoped0 cc0_scoped1 cc0_scoped2 cc0_scoped3 cc0_scoped4 cc0_scoped5 cc0_scoped6 cc0_scoped7 cc0_scoped8 v0 v1 lanes (BitVec.ofNat 32 n) hw v102))
    (fun _ s' => ∃ f, s' = { s with b4 := f } ∧ ∀ k < n, Shift s v0 k (rd f (rd s.b1 k).toNat)) := by
  refine Run.mono (Run.for_ (k0_t25_ok _ hw) (fun t _ s' => ∃ f, s' = { s with b4 := f }
    ∧ ∀ k < 16 * t, k < n → Shift s v0 k (rd f (rd s.b1 k).toNat)) ?_ ?_) ?_
  · exact ⟨s.b4, rfl, fun k hk => by omega⟩
  · rintro t _ _ ⟨f, rfl, hf⟩
    have ht : 16 * t.val + 16 ≤ up n := by
      have : t.val < (n + 15) / 16 := lt_of_lt_of_eq t.isLt (t25_all n hn).2
      unfold up; omega
    have hup : up n ≤ 8192 := by unfold up; omega
    unfold k0_t25_body
    refine Run.bind (part3_run _ v0 hn hw t) ?_
    rintro _ _ ⟨rfl, a, lo, hi, h3, rfl⟩
    refine Run.bind (part4_run _ _ _ _ h3) ?_
    rintro _ _ ⟨rfl, lo, hi, h4, rfl⟩
    refine Run.bind (part5_run _ _ _ _ h4) ?_
    rintro _ _ ⟨rfl, lo, hi, h5, rfl⟩
    refine Run.bind (part6_run _ _ _ _ h5) ?_
    rintro _ _ ⟨rfl, lo, hi, h6, rfl⟩
    dsimp only at h6 ⊢
    refine Run.assume (lane_lt (mid_lt h6)) ?_
    refine Run.gather focus_pc ?_
    have h7 := h6.step
    have hz : ∀ l < 16, (rd (nlo (pick s.pc (mid lo hi)) (addi (chunk s.b2 (16 * t.val)) (broadcast S16 v0)) lo hi) l).toNat < 8208 := fun l hl => by
      have := h7 l hl; omega
    refine Run.assume (lane_lt hz) ?_
    refine Run.load focus_oex (off34_eq hn t) ?_
    refine Run.gather focus_pe ?_
    refine Run.load focus_b1 (off35_eq hn t) ?_
    have hx : ∀ l < 16, rd (chunk s.b1 (16 * t.val)) l = rd s.b1 (16 * t.val + l) := fun l hl => rd_chunk _ _ hl
    refine Run.assume ⟨lane_lt fun l hl => by rw [hx l hl]; have := hb (16 * t.val + l) (by omega); omega, lane_lt fun l hl => by rw [hx l hl]; have := hb (16 * t.val + l) (by omega); omega⟩ ?_
    refine Run.gather focus_b6 ?_
    refine Run.scatter focus_b4 ?_
    dsimp only
    refine Run.pure ?_
    refine ⟨_, rfl, ?_⟩
    have hm : ∀ l < 16, rd (k0_pay6 lanes (BitVec.ofNat 32 n) 16#32 0#32 0#32 1#32 t) l = 1#1 ↔ 16 * t.val + l < n := fun l hl => by
      have e : rd (k0_pay6 lanes (BitVec.ofNat 32 n) 16#32 0#32 0#32 1#32 t) l
          = BitVec.ofBool ((rd lanes l + (0#32 + (0#32 + BitVec.ofNat 32 t.val * 1#32) * 16#32 + 0#32)).slt (BitVec.ofNat 32 n)) := by
        rw [BitVec.add_zero, rd_of_lt _ hl, rd_of_lt _ hl]; rfl
      rw [e, rd_lanes hl, iv_lane]
      exact slt_w' (by omega) (by omega)
    have hvals : ∀ l < 16, ∃ z : ℕ, z ≤ 8192 ∧ (∀ c, Split s.pc (rd s.b2 (16 * t.val + l) + v0) c → z = c) ∧
        rd (α := BitVec 32) (k0_pay244 (F := F) (chunk s.oex (16 * t.val)) (pick s.pe (nlo (pick s.pc (mid lo hi)) (addi (chunk s.b2 (16 * t.val)) (broadcast S16 v0)) lo hi)) (pick s.b6 (chunk s.b1 (16 * t.val)))) l
          = rd s.oex (16 * t.val + l) + rd s.pe z - rd s.b6 (rd s.b1 (16 * t.val + l)).toNat := fun l hl => by
      obtain ⟨q1, q2, q3, q4⟩ := h7 l hl
      refine ⟨_, q1.trans q2, fun c hc => ?_, ?_⟩
      · have et : rd (addi (chunk s.b2 (16 * t.val)) (broadcast S16 v0)) l = rd s.b2 (16 * t.val + l) + v0 := by
          rw [← rd_chunk _ _ hl, rd_of_lt _ hl, rd_of_lt _ hl]; rfl
        rw [← et] at hc
        have := q4 c hc
        omega
      · rw [← rd_pick s.pe _ hl, ← hx l hl, ← rd_pick s.b6 _ hl, ← rd_chunk s.oex _ hl]
        simp only [rd_of_lt _ hl]; rfl
    choose! g hg1 hg2 hg3 using hvals
    intro k hk hkn
    have hs := scatter_step (F := F) (g := f) (p := fun j => (rd s.b1 j).toNat) (q := fun j => j < n)
      (vals := fun j => if j < 16 * t.val then rd f (rd s.b1 j).toNat
        else rd s.oex j + rd s.pe (g (j - 16 * t.val)) - rd s.b6 (rd s.b1 j).toNat) (a := 16 * t.val)
      (h := lane_lt fun l hl => by rw [hx l hl]; have := hb (16 * t.val + l) (by omega); omega)
      (fun i hi j hj _ _ e => hinj i (by omega) j (by omega) e) (fun l hl _ => by rw [hx l hl]) hm
      (fun l hl _ => by rw [if_neg (by omega), Nat.add_sub_cancel_left]; exact hg3 l hl)
      (fun j hj _ => by rw [if_pos hj]) k (by omega) hkn
    refine (congrArg (Shift s v0 k) hs).mpr ?_
    by_cases hkt : k < 16 * t.val
    · simp only [hkt, if_true]; exact hf k hkt hkn
    · simp only [hkt, if_false]
      have hl : k - 16 * t.val < 16 := by omega
      refine ⟨_, hg1 _ hl, fun c hc => hg2 _ hl c ?_, rfl⟩
      rwa [Nat.add_sub_cancel' (by omega)]
  · rintro _ _ ⟨f, rfl, hf⟩
    have ht : 16 * (k0_t25_loop (BitVec.ofNat 32 n)).trips = up n := congrArg (16 * ·) (t25_all n hn).2
    rw [ht] at hf
    exact ⟨f, rfl, fun k hk => hf k (by unfold up; omega) hk⟩

end Cert.Proof.Tile
-- ==== Proof.Place.lean ====
/-
  The last two loops: each entry's position from its run's shift, kept packed with its index, and written to the half of
  the result it belongs to; and the partner's entries that belong to this tile's half.
-/
module

public import proofs.«01_k».proof.Defs
public import proofs.«01_k».proof.Proof.Lanes
public import proofs.«01_k».proof.Proof.Gen.KernelIdeal
public import proofs.«01_k».proof.Proof.Gen.KernelIdeal.Skeleton
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Tile
public import proofs.«01_k».proof.Proof.Search

@[expose] public section

noncomputable section

namespace Cert.Proof.Tile

open Cert.KernelIdeal Cert.KernelIdeal.Gen
open Cert.Proof.Lanes

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable {d : Dev nD} {L : grid0.Coords} {α β : Type} {s : St} {Q : α → St → Prop}

theorem pack_eq {u g : ℕ} (hu : u < 16384) (hg : g < 16384) : (BitVec.ofNat 32 u <<< 14#32) ||| BitVec.ofNat 32 g = BitVec.ofNat 32 (u * 16384 + g) := by
  apply BitVec.eq_of_toNat_eq
  have e : (BitVec.ofNat 32 u <<< 14#32).toNat = u <<< 14 := by
    rw [BitVec.shiftLeft_eq', BitVec.toNat_shiftLeft, show (14#32).toNat = 14 from rfl, BitVec.toNat_ofNat, Nat.mod_eq_of_lt (a := u) (by omega), Nat.mod_eq_of_lt]
    rw [Nat.shiftLeft_eq]; omega
  rw [BitVec.toNat_or, e, BitVec.toNat_ofNat, BitVec.toNat_ofNat, Nat.mod_eq_of_lt (a := g) (by omega), Nat.mod_eq_of_lt (a := u * 16384 + g) (by omega),
    ← Nat.shiftLeft_add_eq_or_of_lt (by omega), Nat.shiftLeft_eq]

theorem shr_toNat {x : BitVec 32} (k : ℕ) (hx : x.toNat < 2 ^ 31) : (x.sshiftRight k).toNat = x.toNat / 2 ^ k := by
  rw [BitVec.sshiftRight_eq_of_msb_false (by rw [BitVec.msb_eq_decide]; simp; omega), BitVec.toNat_ushiftRight, Nat.shiftRight_eq_div_pow]

theorem low14 (x : BitVec 32) : x &&& 16383#32 = BitVec.ofNat 32 (x.toNat % 16384) := by
  apply BitVec.eq_of_toNat_eq
  rw [BitVec.toNat_and, show (16383#32).toNat = 2 ^ 14 - 1 from rfl, Nat.and_two_pow_sub_one_eq_mod, BitVec.toNat_ofNat]; omega

theorem low13 (x : BitVec 32) : (x &&& 8191#32).toNat = x.toNat % 8192 := by
  rw [BitVec.toNat_and, show (8191#32).toNat = 2 ^ 13 - 1 from rfl, Nat.and_two_pow_sub_one_eq_mod]

theorem pick_half {x : BitVec 32} {b : ℕ} (hx : x.toNat < 2 ^ 31) (hb : b < 2) : BitVec.ofBool (x.sshiftRight 13 == BitVec.ofNat 32 b) = 1#1 ↔ x.toNat / 8192 = b := by
  have e : (x.sshiftRight 13 == BitVec.ofNat 32 b) = true ↔ x.toNat / 8192 = b := by
    rw [beq_iff_eq, ← BitVec.toNat_inj, shr_toNat 13 hx, BitVec.toNat_ofNat, Nat.mod_eq_of_lt (by omega)]; norm_num
  rw [← e]
  cases (x.sshiftRight 13 == BitVec.ofNat 32 b) <;> decide

section
variable (s : St) (half : ℕ) (u g : ℕ → ℕ)

/-- The position of the tile's entry of rank `p`, as the kernel computes it. -/
def at_ (p : ℕ) : BitVec 32 := rd s.b4 (u p) + BitVec.ofNat 32 (p + half * 8192)

/-- The positions are distinct places of the row. -/
def Apart : Prop := (∀ p < 8192, (at_ s half u p).toNat < 16384) ∧ ∀ p < 8192, ∀ q < 8192, (at_ s half u p).toNat = (at_ s half u q).toNat → p = q
end

theorem t27_run {n : ℕ} (s : St) (hw : k0_chk8 (BitVec.ofNat 32 n)) (v102 : BitVec 32) (half : ℕ) (hh : half < 2) (u g : ℕ → ℕ)
    (hb3 : ∀ p < 8192, rd s.b3 p = BitVec.ofNat 32 (u p * 16384 + g p)) (hu : ∀ p < 8192, u p < 8192)
    (hg : ∀ p < 8192, half * 8192 ≤ g p ∧ g p < half * 8192 + 8192) (hgi : ∀ p < 8192, ∀ q < 8192, g p = g q → p = q) :
    Run (F := F) d L s (Scf.Loop.for k0_t27_loop k0_t27_ok ⟨⟩
      (k0_t27_body L (Memref.whole main_v0_scv) (Memref.isWhole_whole _) (Memref.whole main_arg1_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scoped0 cc0_scoped1 cc0_scoped2 cc0_scoped3 cc0_scoped4 cc0_scoped5 cc0_scoped6 cc0_scoped7 cc0_scoped8 (BitVec.ofNat 32 half) (BitVec.ofNat 32 (half * 8192)) lanes (BitVec.ofNat 32 n) hw v102))
    (fun _ s' => ∃ f1 f2 fr, s' = { s with b1 := f1, b2 := f2, rl := fr }
      ∧ (∀ p < 8192, rd f2 p = (at_ s half u p <<< 14#32) ||| BitVec.ofNat 32 (g p))
      ∧ (∀ p < 8192, rd fr (g p - half * 8192) = at_ s half u p)
      ∧ (Apart s half u → ∀ p < 8192, (at_ s half u p).toNat / 8192 = half → rd f1 ((at_ s half u p).toNat % 8192) = BitVec.ofNat 32 (g p))) := by
  refine Run.mono (Run.for_ k0_t27_ok (fun t _ s' => ∃ f1 f2 fr, s' = { s with b1 := f1, b2 := f2, rl := fr }
      ∧ (∀ p < 16 * t, rd f2 p = (at_ s half u p <<< 14#32) ||| BitVec.ofNat 32 (g p))
      ∧ (∀ p < 16 * t, True → rd fr (g p - half * 8192) = at_ s half u p)
      ∧ (Apart s half u → ∀ p < 16 * t, (at_ s half u p).toNat / 8192 = half → rd f1 ((at_ s half u p).toNat % 8192) = BitVec.ofNat 32 (g p))) ?_ ?_) ?_
  · exact ⟨s.b1, s.b2, s.rl, rfl, fun p hp => by omega, fun p hp => by omega, fun _ p hp => by omega⟩
  · rintro t _ _ ⟨f1, f2, fr, rfl, h2, hr, h1⟩
    have ht : t.val < 512 := t.isLt
    unfold k0_t27_body
    have hX : ∀ l < 16, rd (chunk s.b3 (16 * t.val)) l = BitVec.ofNat 32 (u (16 * t.val + l) * 16384 + g (16 * t.val + l)) := fun l hl => by
      rw [rd_chunk _ _ hl, hb3 _ (by omega)]
    have hXn : ∀ l < 16, (rd (chunk s.b3 (16 * t.val)) l).toNat = u (16 * t.val + l) * 16384 + g (16 * t.val + l) := fun l hl => by
      have := hu (16 * t.val + l) (by omega); have := hg (16 * t.val + l) (by omega)
      rw [hX l hl, BitVec.toNat_ofNat, Nat.mod_eq_of_lt (by omega)]
    have hU : ∀ l < 16, (rd (k0_pay247 (F := F) (chunk s.b3 (16 * t.val))) l).toNat = u (16 * t.val + l) := fun l hl => by
      have e : rd (k0_pay247 (F := F) (chunk s.b3 (16 * t.val))) l = (rd (chunk s.b3 (16 * t.val)) l).sshiftRight 14 := by
        rw [rd_of_lt _ hl, rd_of_lt _ hl]; rfl
      have := hu (16 * t.val + l) (by omega); have := hg (16 * t.val + l) (by omega)
      rw [e, shr_toNat 14 (by rw [hXn l hl]; omega), hXn l hl]; omega
    have hG : ∀ l < 16, rd (k0_pay248 (F := F) (chunk s.b3 (16 * t.val))) l = BitVec.ofNat 32 (g (16 * t.val + l)) := fun l hl => by
      have e : rd (k0_pay248 (F := F) (chunk s.b3 (16 * t.val))) l = rd (chunk s.b3 (16 * t.val)) l &&& 16383#32 := by
        rw [rd_of_lt _ hl, rd_of_lt _ hl]; rfl
      have := hg (16 * t.val + l) (by omega)
      rw [e, low14, hXn l hl]; congr 1; omega
    have hP : ∀ l < 16, rd (k0_pay249 (F := F) (BitVec.ofNat 32 (half * 8192)) lanes t (pick s.b4 (k0_pay247 (F := F) (chunk s.b3 (16 * t.val))))) l = at_ s half u (16 * t.val + l) := fun l hl => by
      have e : rd (k0_pay249 (F := F) (BitVec.ofNat 32 (half * 8192)) lanes t (pick s.b4 (k0_pay247 (F := F) (chunk s.b3 (16 * t.val))))) l
          = rd (pick s.b4 (k0_pay247 (F := F) (chunk s.b3 (16 * t.val)))) l + (rd lanes l + ((0#32 + (0#32 + BitVec.ofNat 32 t.val * 1#32) * 16#32 + 0#32) + BitVec.ofNat 32 (half * 8192))) := by
        rw [BitVec.add_zero, rd_of_lt _ hl, rd_of_lt _ hl, rd_of_lt _ hl]; rfl
      rw [e, ← BitVec.add_assoc (rd lanes l), rd_lanes hl, iv_lane, rd_pick _ _ hl, hU l hl, ofNat_add']; rfl
    have hL : ∀ l < 16, (rd (k0_pay251 (F := F) (BitVec.ofNat 32 (half * 8192)) lanes t (pick s.b4 (k0_pay247 (F := F) (chunk s.b3 (16 * t.val))))) l).toNat
        = (at_ s half u (16 * t.val + l)).toNat % 8192 := fun l hl => by
      have e : rd (k0_pay251 (F := F) (BitVec.ofNat 32 (half * 8192)) lanes t (pick s.b4 (k0_pay247 (F := F) (chunk s.b3 (16 * t.val))))) l
          = rd (k0_pay249 (F := F) (BitVec.ofNat 32 (half * 8192)) lanes t (pick s.b4 (k0_pay247 (F := F) (chunk s.b3 (16 * t.val))))) l &&& 8191#32 := by
        rw [rd_of_lt _ hl, rd_of_lt _ hl]; rfl
      rw [e, low13, hP l hl]
    have hM : Apart s half u → ∀ l < 16, rd (k0_pay252 (F := F) (BitVec.ofNat 32 half) (BitVec.ofNat 32 (half * 8192)) lanes t (pick s.b4 (k0_pay247 (F := F) (chunk s.b3 (16 * t.val))))) l = 1#1
        ↔ (at_ s half u (16 * t.val + l)).toNat / 8192 = half := fun hA l hl => by
      have e : rd (k0_pay252 (F := F) (BitVec.ofNat 32 half) (BitVec.ofNat 32 (half * 8192)) lanes t (pick s.b4 (k0_pay247 (F := F) (chunk s.b3 (16 * t.val))))) l
          = BitVec.ofBool ((rd (k0_pay249 (F := F) (BitVec.ofNat 32 (half * 8192)) lanes t (pick s.b4 (k0_pay247 (F := F) (chunk s.b3 (16 * t.val))))) l).sshiftRight 13 == BitVec.ofNat 32 half) := by
        rw [rd_of_lt _ hl, rd_of_lt _ hl]; rfl
      rw [e, hP l hl]
      exact pick_half (by have := hA.1 (16 * t.val + l) (by omega); omega) hh
    have hR : ∀ l < 16, (rd (k0_pay253 (F := F) (BitVec.ofNat 32 (half * 8192)) (chunk s.b3 (16 * t.val))) l).toNat = g (16 * t.val + l) - half * 8192 := fun l hl => by
      have e : rd (k0_pay253 (F := F) (BitVec.ofNat 32 (half * 8192)) (chunk s.b3 (16 * t.val))) l
          = rd (k0_pay248 (F := F) (chunk s.b3 (16 * t.val))) l - BitVec.ofNat 32 (half * 8192) := by
        rw [rd_of_lt _ hl, rd_of_lt _ hl]; rfl
      have := hg (16 * t.val + l) (by omega)
      rw [e, hG l hl, BitVec.toNat_sub, BitVec.toNat_ofNat, BitVec.toNat_ofNat]; omega
    refine Run.load focus_b3 (k0_off39_eq t) ?_
    refine Run.assume (lane_lt fun l hl => by rw [hU l hl]; have := hu (16 * t.val + l) (by omega); omega) ?_
    refine Run.gather focus_b4 ?_
    refine Run.load focus_b2 (k0_off40_eq t) ?_
    refine Run.store focus_b2 (k0_off40_eq t) ?_
    dsimp only
    refine Run.assume (lane_lt fun l hl => by rw [hL l hl]; omega) ?_
    refine Run.scatter focus_b1 ?_
    dsimp only
    refine Run.assume (lane_lt fun l hl => by rw [hR l hl]; have := hg (16 * t.val + l) (by omega); omega) ?_
    refine Run.scatter focus_rl ?_
    dsimp only
    refine Run.pure ?_
    refine ⟨_, _, _, rfl, ?_, ?_, ?_⟩
    · intro p hp
      rw [rd_put _ _ _ (by omega)]
      by_cases hpt : 16 * t.val ≤ p
      · rw [if_pos (by omega)]
        obtain ⟨l, rfl⟩ := Nat.exists_eq_add_of_le hpt
        have hl : l < 16 := by omega
        have e : rd (α := BitVec 32) (k0_pay250 (F := F) (BitVec.ofNat 32 (half * 8192)) lanes t (chunk s.b3 (16 * t.val)) (pick s.b4 (k0_pay247 (F := F) (chunk s.b3 (16 * t.val))))) l
            = (rd (k0_pay249 (F := F) (BitVec.ofNat 32 (half * 8192)) lanes t (pick s.b4 (k0_pay247 (F := F) (chunk s.b3 (16 * t.val))))) l <<< 14#32)
              ||| rd (k0_pay248 (F := F) (chunk s.b3 (16 * t.val))) l := by
          rw [rd_of_lt _ hl, rd_of_lt _ hl, rd_of_lt _ hl]; rfl
        rw [Nat.add_sub_cancel_left]
        exact e.trans (by rw [hP l hl, hG l hl])
      · rw [if_neg (by omega)]; exact h2 p (by omega)
    · exact scatter_step (q := fun _ => True) (p := fun p => g p - half * 8192) (vals := fun p => at_ s half u p) (a := 16 * t.val)
        (fun i hi j hj _ _ e => hgi i (by omega) j (by omega) (by have := hg i (by omega); have := hg j (by omega); omega))
        (fun l hl _ => hR l hl) (fun l hl => by rw [rd_of_lt _ hl]; simp) (fun l hl _ => hP l hl) hr
    · intro hA
      refine scatter_step (q := fun p => (at_ s half u p).toNat / 8192 = half) (p := fun p => (at_ s half u p).toNat % 8192) (vals := fun p => BitVec.ofNat 32 (g p)) (a := 16 * t.val)
        (fun i hi j hj qi qj e => hA.2 i (by omega) j (by omega) (by omega))
        (fun l hl _ => hL l hl) (hM hA) (fun l hl _ => hG l hl) (h1 hA)
  · rintro _ _ ⟨f1, f2, fr, rfl, h2, hr, h1⟩
    have : 16 * k0_t27_loop.trips = 8192 := rfl
    rw [this] at h2 hr h1
    exact ⟨f1, f2, fr, rfl, h2, fun p hp => hr p hp trivial, h1⟩

/-- The partner's entries: packed pairs of distinct places of the row with indices. -/
def Packs (f : (Sh 8192).Idx → BitVec 32) (P G : ℕ → ℕ) : Prop :=
  (∀ j < 8192, rd f j = BitVec.ofNat 32 (P j * 16384 + G j) ∧ P j < 16384 ∧ G j < 16384) ∧ ∀ i < 8192, ∀ j < 8192, P i = P j → i = j

theorem t28_run (s : St) (half : ℕ) (hh : half < 2) (P G : ℕ → ℕ) :
    Run (F := F) d L s (Scf.Loop.for k0_t28_loop k0_t28_ok ⟨⟩ (k0_t28_body L (Memref.whole main_v0_scv) (Memref.isWhole_whole _) (Memref.whole main_arg1_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scoped0 cc0_scoped1 cc0_scoped2 cc0_scoped3 cc0_scoped4 cc0_scoped5 cc0_scoped6 cc0_scoped7 cc0_scoped8 (BitVec.ofNat 32 half)))
    (fun _ s' => ∃ f1, s' = { s with b1 := f1 } ∧ (Packs s.b5 P G →
      (∀ j < 8192, P j / 8192 = half → rd f1 (P j % 8192) = BitVec.ofNat 32 (G j))
      ∧ ∀ r < 8192, (∀ j < 8192, P j / 8192 = half → P j % 8192 ≠ r) → rd f1 r = rd s.b1 r)) := by
  refine Run.mono (Run.for_ k0_t28_ok (fun t _ s' => ∃ f1, s' = { s with b1 := f1 } ∧ (Packs s.b5 P G →
      (∀ j < 16 * t, P j / 8192 = half → rd f1 (P j % 8192) = BitVec.ofNat 32 (G j))
      ∧ ∀ r < 8192, (∀ j < 8192, P j / 8192 = half → P j % 8192 ≠ r) → rd f1 r = rd s.b1 r)) ?_ ?_) ?_
  · exact ⟨s.b1, rfl, fun _ => ⟨fun j hj => by omega, fun r _ _ => rfl⟩⟩
  · rintro t _ _ ⟨f1, rfl, h⟩
    have ht : t.val < 512 := t.isLt
    unfold k0_t28_body
    have hL : ∀ l < 16, rd (k0_pay3 (F := F) (chunk s.b5 (16 * t.val))) l = (rd (chunk s.b5 (16 * t.val)) l).sshiftRight 14 &&& 8191#32 := fun l hl => by
      rw [rd_of_lt _ hl, rd_of_lt _ hl]; rfl
    have hM : ∀ l < 16, rd (k0_pay4 (F := F) (BitVec.ofNat 32 half) (chunk s.b5 (16 * t.val))) l = BitVec.ofBool (((rd (chunk s.b5 (16 * t.val)) l).sshiftRight 14).sshiftRight 13 == BitVec.ofNat 32 half) := fun l hl => by
      rw [rd_of_lt _ hl, rd_of_lt _ hl]; rfl
    have hG : ∀ l < 16, rd (k0_pay2 (F := F) (chunk s.b5 (16 * t.val))) l = rd (chunk s.b5 (16 * t.val)) l &&& 16383#32 := fun l hl => by
      rw [rd_of_lt _ hl, rd_of_lt _ hl]; rfl
    have hX : Packs s.b5 P G → ∀ l < 16, (rd (chunk s.b5 (16 * t.val)) l).toNat = P (16 * t.val + l) * 16384 + G (16 * t.val + l)
        ∧ ((rd (chunk s.b5 (16 * t.val)) l).sshiftRight 14).toNat = P (16 * t.val + l) ∧ P (16 * t.val + l) < 16384 ∧ G (16 * t.val + l) < 16384 := fun hp l hl => by
      obtain ⟨e, h1, h2⟩ := hp.1 (16 * t.val + l) (by omega)
      have e' : (rd (chunk s.b5 (16 * t.val)) l).toNat = P (16 * t.val + l) * 16384 + G (16 * t.val + l) := by
        rw [rd_chunk _ _ hl, e, BitVec.toNat_ofNat, Nat.mod_eq_of_lt (by omega)]
      refine ⟨e', ?_, h1, h2⟩
      rw [shr_toNat 14 (by omega), e']; omega
    refine Run.load focus_b5 (k0_off41_eq t) ?_
    refine Run.assume (lane_lt fun l hl => by rw [hL l hl, low13]; omega) ?_
    refine Run.scatter focus_b1 ?_
    dsimp only
    refine Run.pure ?_
    refine ⟨_, rfl, fun hp => ?_⟩
    have hLn : ∀ l < 16, (rd (k0_pay3 (F := F) (chunk s.b5 (16 * t.val))) l).toNat = P (16 * t.val + l) % 8192 := fun l hl => by
      rw [hL l hl, low13, (hX hp l hl).2.1]
    have hMn : ∀ l < 16, rd (k0_pay4 (F := F) (BitVec.ofNat 32 half) (chunk s.b5 (16 * t.val))) l = 1#1 ↔ P (16 * t.val + l) / 8192 = half := fun l hl => by
      have := hX hp l hl
      rw [hM l hl, pick_half (by omega) hh, this.2.1]
    refine ⟨?_, ?_⟩
    · exact scatter_step (q := fun p => P p / 8192 = half) (p := fun p => P p % 8192) (vals := fun p => BitVec.ofNat 32 (G p)) (a := 16 * t.val)
        (fun i hi j hj qi qj e => hp.2 i (by omega) j (by omega) (by omega))
        (fun l hl _ => hLn l hl) hMn (fun l hl _ => by
          have := hX hp l hl
          refine (hG l hl).trans ?_
          rw [low14, this.1]; congr 1; omega) (h hp).1
    · intro r hr hne
      refine (storeIdx_miss (F := F) _ _ _ _ _ _ ?_).trans ((h hp).2 r hr hne)
      intro l hl hml e
      rw [hLn l hl] at e
      exact hne _ (by omega) ((hMn l hl).mp hml) e
  · rintro _ _ ⟨f1, rfl, h⟩
    exact ⟨f1, rfl, h⟩

end Cert.Proof.Tile
-- ==== Proof.Sort.lean ====
/-
  The stages of one tile between its transfers, each as one run over the scratch: the sort by hash and the list of runs;
  the sort of the runs' codes and the sums of their lengths; the shifts and the positions.
-/
module

public import proofs.«01_k».proof.Defs
public import proofs.«01_k».proof.Proof.Lanes
public import proofs.«01_k».proof.Proof.Gen.KernelIdeal
public import proofs.«01_k».proof.Proof.Gen.KernelIdeal.Skeleton
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Tile
public import proofs.«01_k».proof.Proof.Place

@[expose] public section

noncomputable section

namespace Cert.Proof.Tile

open Cert.KernelIdeal Cert.KernelIdeal.Gen
open Cert.Proof.Lanes

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable {d : Dev nD} {L : grid0.Coords} {α β : Type} {s : St} {Q : α → St → Prop}

variable {n : ℕ}

theorem Run.none {σ : Type} {w : ℕ} {l : Scf.Loop w} {hok : l.OK} {init : σ} {s : St} {Q : σ → St → Prop}
    {body : Fin l.trips → σ → Prog (TpuEff nD τ sig (Elt F) Λ₀ (.scVector (cV L) (jV L))) σ} (h : l.trips = 0) (hq : Q init s) :
    Run (F := F) d L s (Scf.Loop.for l hok init body) Q := by
  refine Run.mono (Run.for_ hok (fun _ r s' => r = init ∧ s' = s) ⟨rfl, rfl⟩ ?_) ?_
  · intro k; exact absurd (lt_of_lt_of_eq k.isLt h) (Nat.not_lt_zero _)
  · rintro _ _ ⟨rfl, rfl⟩; exact hq

/-- The key of a code: its two digits. -/
def kk (x : BitVec 32) : ℕ := (dg1 x).toNat * 2048 + (dg0 x).toNat

/-- The codes to sort: the runs', and above the last one the sentinel. -/
abbrev codes (n : ℕ) (f : (Sh 8192).Idx → BitVec 32) (p : ℕ) : BitVec 32 := if p < n then rd f p else sentinel

theorem part14_run (s : St) (hn : 1 ≤ n ∧ n < 8193) (hw : k0_chk8 (BitVec.ofNat 32 n)) :
    Run (F := F) d L s (k0_part14 L (Memref.whole main_v0_scv) (Memref.isWhole_whole _) (Memref.whole main_arg1_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scoped0 cc0_scoped1 cc0_scoped2 cc0_scoped3 cc0_scoped4 cc0_scoped5 cc0_scoped6 cc0_scoped7 cc0_scoped8 lanes (BitVec.ofNat 32 n) hw 0#32 512#32)
    (fun r s' => ∃ f g v102 v112, s' = { s with b2 := f, cnt := g } ∧ (∀ p < 8192, rd f p = codes n s.b2 p)
      ∧ (∀ b < 2048, rd g b = BitVec.ofNat 32 (Nat.count (fun j => (dg0 (rd f j)).toNat = b) (up n)))
      ∧ r = ⟨v102, 16#32, 0#32, v112, 1#32⟩) := by
  rw [k0_part14_eq_skeleton]; unfold k0_part14_skel
  refine Run.bind (t10_run _ hn hw) ?_
  rintro _ _ ⟨f, rfl, hf⟩
  refine Run.bind (t11_run _ hw) ?_
  rintro _ _ ⟨g, rfl, hg⟩
  refine Run.bind (t12_run _ hn hw hg) ?_
  rintro _ _ ⟨g', rfl, hg'⟩
  exact Run.pure ⟨f, g', _, _, rfl, hf, hg', rfl⟩

theorem part15_run (s : St) (hn : 1 ≤ n ∧ n < 8193) (hw : k0_chk8 (BitVec.ofNat 32 n)) (v102 v112 : BitVec 32)
    (h : ∀ b < 2048, rd s.cnt b = BitVec.ofNat 32 (Nat.count (fun j => (dg0 (rd s.b2 j)).toNat = b) (up n))) :
    Run (F := F) d L s (k0_part15 L (Memref.whole main_v0_scv) (Memref.isWhole_whole _) (Memref.whole main_arg1_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scoped0 cc0_scoped1 cc0_scoped2 cc0_scoped3 cc0_scoped4 cc0_scoped5 cc0_scoped6 cc0_scoped7 cc0_scoped8 (BitVec.ofNat 32 n) hw v102 16#32 0#32 v112 1#32)
    (fun r s' => ∃ fk fv g, s' = { s with b5 := fk, b4 := fv, cnt := g }
      ∧ (∀ j < up n, rd fk (rk (up n) (fun j => (dg0 (rd s.b2 j)).toNat) j) = rd s.b2 j
        ∧ rd fv (rk (up n) (fun j => (dg0 (rd s.b2 j)).toNat) j) = BitVec.ofNat 32 j)
      ∧ (∀ b < 2048, rd g b = BitVec.ofNat 32 (Nat.count (fun j => (dg1 (rd fk j)).toNat = b) (up n)))
      ∧ r = ⟨0#32, 0#32⟩) := by
  rw [k0_part15_eq_skeleton]; unfold k0_part15_skel
  refine Run.bind (Run.none (t13_all n hn).2 (Q := fun _ s' => s' = s) rfl) ?_
  rintro _ _ rfl
  refine Run.bind (t14_run _ hw v102 v112 _ _ h) ?_
  rintro _ _ ⟨g, rfl, hg⟩
  refine Run.bind (t15_run _ hn hw v102 v112 hg) ?_
  rintro _ _ ⟨fk, fv, g', rfl, h15⟩
  dsimp only at h15 ⊢
  refine Run.bind (Run.none (t16_all n hn).2 (Q := fun _ s' => s' = _) rfl) ?_
  rintro _ _ rfl
  refine Run.bind (t17_run _ hw v102 v112) ?_
  rintro _ _ ⟨g1, rfl, hg1⟩
  refine Run.bind (t18_run _ hn hw v102 v112 hg1) ?_
  rintro _ _ ⟨g2, rfl, hg2⟩
  refine Run.bind (Run.none (t19_all n hn).2 (Q := fun _ s' => s' = _) rfl) ?_
  rintro _ _ rfl
  exact Run.pure ⟨fk, fv, g2, rfl, h15, hg2, rfl⟩

/-- The two passes put the codes in the order of their keys, and beside each the index it came from. -/
theorem two_passes {m : ℕ} {f2 f5 f2' f1 : (Sh 8192).Idx → BitVec 32} {f4 : (Sh 8208).Idx → BitVec 32}
    (h5 : ∀ j < m, rd f5 (rk m (fun j => (dg0 (rd f2 j)).toNat) j) = rd f2 j ∧ rd f4 (rk m (fun j => (dg0 (rd f2 j)).toNat) j) = BitVec.ofNat 32 j)
    (h2 : ∀ j < m, rd f2' (rk m (fun j => (dg1 (rd f5 j)).toNat) j) = rd f5 j ∧ rd f1 (rk m (fun j => (dg1 (rd f5 j)).toNat) j) = rd f4 j) :
    ∀ j < m, rd f2' (rk m (fun j => kk (rd f2 j)) j) = rd f2 j ∧ rd f1 (rk m (fun j => kk (rd f2 j)) j) = BitVec.ofNat 32 j := by
  intro j hj
  have hk : ∀ x, (dg0 x).toNat < 2048 := dg0_lt
  have e := rk_rk (N := m) (lo := fun j => (dg0 (rd f2 j)).toNat) (hi := fun j => (dg1 (rd f2 j)).toNat) (key := fun j => kk (rd f2 j))
    (fun i _ j _ => by have := hk (rd f2 i); have := hk (rd f2 j); unfold kk; omega)
    (fun i _ j _ => by have := hk (rd f2 i); have := hk (rd f2 j); unfold kk; omega) hj
  have hr : rk m (fun j => (dg0 (rd f2 j)).toNat) j < m := rk_lt j hj
  have e' : rk m (fun j => (dg1 (rd f5 j)).toNat) (rk m (fun j => (dg0 (rd f2 j)).toNat) j) = rk m (fun j => kk (rd f2 j)) j := by
    rw [← e]
    refine rk_congr (fun p hp => ?_) hr
    obtain ⟨hi, hpi⟩ := inv_rk (key := fun j => (dg0 (rd f2 j)).toNat) hp
    have := (h5 _ hi).1
    rw [hpi] at this
    rw [this]
  obtain ⟨a1, a2⟩ := h5 j hj
  obtain ⟨b1, b2⟩ := h2 _ hr
  rw [e'] at b1 b2
  exact ⟨b1.trans a1, b2.trans a2⟩

/-- The number of entries of the run that the `r`-th word of `f1` names. -/
abbrev len (n : ℕ) (f1 : (Sh 8192).Idx → BitVec 32) (b6 : (Sh 8208).Idx → BitVec 32) (r : ℕ) : BitVec 32 :=
  if r < n then rd b6 ((rd f1 r).toNat + 1) - rd b6 (rd f1 r).toNat else 0#32

theorem part16_run (s : St) (hn : 1 ≤ n ∧ n < 8193) (hw : k0_chk8 (BitVec.ofNat 32 n)) (v102 : BitVec 32)
    (h : ∀ b < 2048, rd s.cnt b = BitVec.ofNat 32 (Nat.count (fun j => (dg1 (rd s.b5 j)).toNat = b) (up n)))
    (h5 : ∀ j < up n, rd s.b5 (rk (up n) (fun j => (dg0 (rd s.b2 j)).toNat) j) = rd s.b2 j
        ∧ rd s.b4 (rk (up n) (fun j => (dg0 (rd s.b2 j)).toNat) j) = BitVec.ofNat 32 j) :
    Run (F := F) d L s (k0_part16 L (Memref.whole main_v0_scv) (Memref.isWhole_whole _) (Memref.whole main_arg1_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scoped0 cc0_scoped1 cc0_scoped2 cc0_scoped3 cc0_scoped4 cc0_scoped5 cc0_scoped6 cc0_scoped7 cc0_scoped8 lanes (BitVec.ofNat 32 n) hw (k0_pay181 lanes) v102 0#32 0#32)
    (fun _ s' => ∃ f2 f1 g fo, s' = { s with b2 := f2, b1 := f1, cnt := g, oex := fo }
      ∧ (∀ j < up n, rd f2 (rk (up n) (fun j => kk (rd s.b2 j)) j) = rd s.b2 j ∧ rd f1 (rk (up n) (fun j => kk (rd s.b2 j)) j) = BitVec.ofNat 32 j)
      ∧ (∀ r, up n ≤ r → rd f2 r = rd s.b2 r)
      ∧ (∀ r < n, rd fo r = ∑ k ∈ Finset.range r, len n f1 s.b6 k) ∧ rd fo n = 8192#32) := by
  have hup : up n ≤ 8192 := by unfold up; omega
  have hnup : n ≤ up n := by unfold up; omega
  rw [k0_part16_eq_skeleton]; unfold k0_part16_skel
  refine Run.bind (t20_run _ hw _ v102 _ _ h) ?_
  rintro _ _ ⟨g, rfl, hg⟩
  refine Run.bind (t21_run _ hn hw _ v102 hg) ?_
  rintro _ _ ⟨f2, f1, g', rfl, h21, hrest⟩
  dsimp only at h21 hrest ⊢
  have htwo := two_passes h5 h21
  refine Run.bind (Run.none (t22_all n hn).2 (Q := fun _ s' => s' = _) rfl) ?_
  rintro _ _ rfl
  have hb : ∀ k < up n, (rd f1 k).toNat < 8192 := fun k hk => by
    obtain ⟨hi, hpi⟩ := inv_rk (key := fun j => kk (rd s.b2 j)) hk
    have := (htwo _ hi).2
    rw [hpi] at this
    rw [this, BitVec.toNat_ofNat, Nat.mod_eq_of_lt (by omega)]; omega
  refine Run.bind (t23_run _ hn hw _ v102 hb (len n f1 s.b6) (fun _ _ => rfl)) ?_
  rintro v154 _ ⟨fo, rfl, ho⟩
  refine Run.bind (Run.none (t24_all n hn).2 (Q := fun _ s' => s' = _) rfl) ?_
  rintro _ _ rfl
  have hv : ∀ l < 16, (rd (k0_pay241 (BitVec.ofNat 32 n)) l).toNat = n := fun l hl => by
    have e : rd (k0_pay241 (BitVec.ofNat 32 n)) l = 0#32 + BitVec.ofNat 32 n := by rw [rd_of_lt _ hl]; rfl
    rw [e, BitVec.zero_add, BitVec.toNat_ofNat, Nat.mod_eq_of_lt (by omega)]
  have hm : ∀ l < 16, rd (k0_pay181 lanes) l = 1#1 ↔ l = 0 := fun l hl => by
    have e : rd (k0_pay181 lanes) l = BitVec.ofBool (rd lanes l == 0#32) := by rw [rd_of_lt _ hl, rd_of_lt _ hl]; rfl
    rw [e, rd_lanes hl]
    interval_cases l <;> decide
  refine Run.assume (lane_lt fun l hl => by rw [hv l hl]; omega) ?_
  refine Run.scatter focus_oex ?_
  dsimp only
  refine Run.pure ?_
  refine ⟨f2, f1, g', _, rfl, htwo, hrest, ?_, ?_⟩
  · intro r hr
    refine (storeIdx_miss (F := F) _ _ _ _ _ _ ?_).trans (ho r (by omega))
    intro l hl _ e
    rw [hv l hl] at e; omega
  · refine (storeIdx_hit (F := F) (l := 0) _ _ _ _ _ (by omega) ((hm 0 (by omega)).mpr rfl) (hv 0 (by omega)) ?_).trans ?_
    · intro l hl hl0 hlm
      exact absurd ((hm _ hl).mp hlm) (by omega)
    · rw [rd_of_lt _ (by omega)]; rfl

/-- What the shifts and the packs are made from. -/
theorem part18_run (s : St) (hn : 1 ≤ n ∧ n < 8193) (hw : k0_chk8 (BitVec.ofNat 32 n)) (v102 v169 : BitVec 32) (half : ℕ) (hh : half < 2) (u g : ℕ → ℕ)
    (hb : ∀ k < up n, (rd s.b1 k).toNat < 8192) (hinj : ∀ k < up n, ∀ k' < up n, (rd s.b1 k).toNat = (rd s.b1 k').toNat → k = k')
    (hb3 : ∀ p < 8192, rd s.b3 p = BitVec.ofNat 32 (u p * 16384 + g p)) (hu : ∀ p < 8192, u p < 8192)
    (hg : ∀ p < 8192, half * 8192 ≤ g p ∧ g p < half * 8192 + 8192) (hgi : ∀ p < 8192, ∀ q < 8192, g p = g q → p = q) {β : Type}
    {k : Prog (TpuEff nD τ sig (Elt F) Λ₀ (.scVector (cV L) (jV L))) β} {Q : β → St → Prop}
    (hk : ∀ f4 f1 f2 fr s', s' = { s with b4 := f4, b1 := f1, b2 := f2, rl := fr } →
      (∀ k < n, Shift s (BitVec.ofNat 32 half) k (rd f4 (rd s.b1 k).toNat)) →
      (∀ p < 8192, rd f2 p = (at_ s' half u p <<< 14#32) ||| BitVec.ofNat 32 (g p)) →
      (∀ p < 8192, rd fr (g p - half * 8192) = at_ s' half u p) →
      (Apart s' half u → ∀ p < 8192, (at_ s' half u p).toNat / 8192 = half → rd f1 ((at_ s' half u p).toNat % 8192) = BitVec.ofNat 32 (g p)) →
      Run (F := F) d L s' k Q) :
    Run (F := F) d L s (do
      Scf.Loop.for (k0_t25_loop (BitVec.ofNat 32 n)) (k0_t25_ok _ hw) ⟨⟩ (k0_t25_body L (Memref.whole main_v0_scv) (Memref.isWhole_whole _) (Memref.whole main_arg1_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scoped0 cc0_scoped1 cc0_scoped2 cc0_scoped3 cc0_scoped4 cc0_scoped5 cc0_scoped6 cc0_scoped7 cc0_scoped8 (BitVec.ofNat 32 half) (BitVec.ofNat 32 (half * 8192)) lanes (BitVec.ofNat 32 n) hw v102)
      Scf.Loop.for (k0_t26_loop (BitVec.ofNat 32 n)) (k0_t26_ok _ hw) ⟨⟩ (k0_t26_body L (Memref.whole main_v0_scv) (Memref.isWhole_whole _) (Memref.whole main_arg1_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scoped0 cc0_scoped1 cc0_scoped2 cc0_scoped3 cc0_scoped4 cc0_scoped5 cc0_scoped6 cc0_scoped7 cc0_scoped8 (BitVec.ofNat 32 half) (BitVec.ofNat 32 (half * 8192)) lanes (BitVec.ofNat 32 n) hw v102 v169)
      Scf.Loop.for k0_t27_loop k0_t27_ok ⟨⟩ (k0_t27_body L (Memref.whole main_v0_scv) (Memref.isWhole_whole _) (Memref.whole main_arg1_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scoped0 cc0_scoped1 cc0_scoped2 cc0_scoped3 cc0_scoped4 cc0_scoped5 cc0_scoped6 cc0_scoped7 cc0_scoped8 (BitVec.ofNat 32 half) (BitVec.ofNat 32 (half * 8192)) lanes (BitVec.ofNat 32 n) hw v102)
      k) Q := by
  refine Run.bind (t25_run _ _ _ v102 hn hw hb hinj) ?_
  rintro _ _ ⟨f4, rfl, h4⟩
  refine Run.bind (Run.none (t26_all n hn).2 (Q := fun _ s' => s' = _) rfl) ?_
  rintro _ _ rfl
  refine Run.bind (t27_run _ hw v102 half hh u g hb3 hu hg hgi) ?_
  rintro _ _ ⟨f1, f2, fr, rfl, h2, hr, h1⟩
  exact hk f4 f1 f2 fr _ rfl h4 h2 hr h1

end Cert.Proof.Tile
-- ==== Proof.Head.lean ====
/-
  The first stages of a tile: the half-row sorted by hash, the runs of equal codes numbered, and the list of the runs'
  codes filled up to whole waves of gathers.
-/
module

public import proofs.«01_k».proof.Defs
public import proofs.«01_k».proof.Proof.Lanes
public import proofs.«01_k».proof.Proof.Gen.KernelIdeal
public import proofs.«01_k».proof.Proof.Gen.KernelIdeal.Skeleton
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Tile
public import proofs.«01_k».proof.Proof.Sort

@[expose] public section

noncomputable section

namespace Cert.Proof.Tile

open Cert.KernelIdeal Cert.KernelIdeal.Gen
open Cert.Proof.Lanes

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable {d : Dev nD} {L : grid0.Coords} {α β : Type} {s : St} {Q : α → St → Prop}

/-! ## The half-row sorted by hash, and its runs -/

/-- The hash of the `j`-th code. -/
def hk (f : ℕ → BitVec 32) (j : ℕ) : ℕ := (hsh (f j)).toNat
/-- The index of the code at rank `p` by hash, and the code. -/
def sg (f : ℕ → BitVec 32) (p : ℕ) : ℕ := inv 8192 (rk 8192 (hk f)) p
def kp (f : ℕ → BitVec 32) (p : ℕ) : BitVec 32 := f (sg f p)
/-- A run of equal codes starts at rank `p`. -/
def nw (f : ℕ → BitVec 32) (p : ℕ) : Prop := p = 0 ∨ kp f p ≠ kp f (p - 1)
instance (f : ℕ → BitVec 32) : DecidablePred (nw f) := fun p => inferInstanceAs (Decidable (p = 0 ∨ kp f p ≠ kp f (p - 1)))
/-- The number of runs, and the run that holds rank `p`. -/
def nr (f : ℕ → BitVec 32) : ℕ := Nat.count (nw f) 8192
def ru (f : ℕ → BitVec 32) (p : ℕ) : ℕ := Nat.count (nw f) (p + 1) - 1

theorem sg_spec (f : ℕ → BitVec 32) {p : ℕ} (hp : p < 8192) : sg f p < 8192 ∧ rk 8192 (hk f) (sg f p) = p := inv_rk hp

theorem count_nw_pos (f : ℕ → BitVec 32) (p : ℕ) : 0 < Nat.count (nw f) (p + 1) := by
  have := Nat.count_monotone (nw f) (show 1 ≤ p + 1 by omega)
  have h1 : Nat.count (nw f) 1 = 1 := by rw [Nat.count_succ, if_pos (show nw f 0 from .inl rfl)]; simp
  omega

theorem nr_pos (f : ℕ → BitVec 32) : 1 ≤ nr f ∧ nr f < 8193 :=
  ⟨count_nw_pos f 8191, Nat.lt_succ_of_le (count_le_n _ _)⟩

theorem ru_lt (f : ℕ → BitVec 32) {p : ℕ} (hp : p < 8192) : ru f p < nr f := by
  have h1 := Nat.count_monotone (nw f) (show p + 1 ≤ 8192 by omega)
  have h2 := count_nw_pos f p
  have h3 := nr_pos f
  unfold ru; unfold nr at h3 ⊢; omega

/-! ## The stages -/

theorem head_run (s : St) {β : Type} {k : Prog (TpuEff nD τ sig (Elt F) Λ₀ (.scVector (cV L) (jV L))) β} {Q : β → St → Prop}
    (hk : ∀ f4 g, rd f4 0 = 4294967295#32 →
      (∀ b < 2048, rd g b = BitVec.ofNat 32 (Nat.count (fun j => (hsh (rd s.b1 j)).toNat < b) 8192)) →
      Run (F := F) d L { s with b4 := f4, cnt := g } k Q) :
    Run (F := F) d L s (do
      have v8 : IVec S16 32 := broadcast S16 0#32
      have k0_hw1 : k0_chk1 v8 := (← Prog.lift (TpuEff.assume (k0_chk1 v8) (k0_chk1.dec v8))).down
      SparseCore.vectorStoreIdx (Memref.whole cc0_scratch3) ![v8] k0_pay159 k0_pay160 false (k0_idx1_inb v8 k0_hw1) (View.stores_vmem_bits_univ h_S8208 rfl)
      Scf.Loop.for k0_t1_loop k0_t1_ok ⟨⟩ (k0_t1_body L (Memref.whole main_v0_scv) (Memref.isWhole_whole _) (Memref.whole main_arg1_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scoped0 cc0_scoped1 cc0_scoped2 cc0_scoped3 cc0_scoped4 cc0_scoped5 cc0_scoped6 cc0_scoped7 cc0_scoped8)
      Scf.Loop.for k0_t2_loop k0_t2_ok ⟨⟩ (k0_t2_body L (Memref.whole main_v0_scv) (Memref.isWhole_whole _) (Memref.whole main_arg1_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scoped0 cc0_scoped1 cc0_scoped2 cc0_scoped3 cc0_scoped4 cc0_scoped5 cc0_scoped6 cc0_scoped7 cc0_scoped8)
      let _ : BitVec 32 ← Scf.Loop.for k0_t3_loop k0_t3_ok 0#32 (k0_t3_body L (Memref.whole main_v0_scv) (Memref.isWhole_whole _) (Memref.whole main_arg1_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scoped0 cc0_scoped1 cc0_scoped2 cc0_scoped3 cc0_scoped4 cc0_scoped5 cc0_scoped6 cc0_scoped7 cc0_scoped8)
      k) Q := by
  have hv : ∀ l < 16, (rd (broadcast S16 0#32 : IVec S16 32) l).toNat = 0 := fun l hl => by rw [rd_of_lt _ hl]; rfl
  have hm : ∀ l < 16, rd k0_pay160 l = 1#1 ↔ l = 0 := fun l hl => by
    have e : rd k0_pay160 l = BitVec.ofBool (rd lanes l == 0#32) := by rw [rd_of_lt _ hl, rd_of_lt _ hl]; rfl
    rw [e, rd_lanes hl]
    interval_cases l <;> decide
  refine Run.assume (lane_lt fun l hl => by rw [hv l hl]; omega) ?_
  refine Run.scatter focus_b4 ?_
  refine Run.bind (t1_run _) ?_
  rintro _ _ ⟨g1, rfl, h1⟩
  refine Run.bind (t2_run _ h1) ?_
  rintro _ _ ⟨g2, rfl, h2⟩
  refine Run.bind (t3_run _ _ _ h2) ?_
  rintro _ _ ⟨g3, rfl, h3⟩
  refine hk _ g3 ?_ h3
  refine (storeIdx_hit (F := F) (l := 0) _ _ _ _ _ (by omega) ((hm 0 (by omega)).mpr rfl) (hv 0 (by omega)) ?_).trans ?_
  · intro l hl hl0 hlm
    exact absurd ((hm _ hl).mp hlm) (by omega)
  · rw [rd_of_lt _ (by omega)]; rfl

theorem part12_run (s : St) (half : ℕ) (hh : half < 2) (f : ℕ → BitVec 32) (hf : ∀ j < 8192, rd s.b1 j = f j) (hlt : ∀ j < 8192, (f j).toNat < 2097152)
    (h4 : rd s.b4 0 = 4294967295#32)
    (h : ∀ b < 2048, rd s.cnt b = BitVec.ofNat 32 (Nat.count (fun j => (hsh (rd s.b1 j)).toNat < b) 8192)) :
    Run (F := F) d L s (k0_part12 L (Memref.whole main_v0_scv) (Memref.isWhole_whole _) (Memref.whole main_arg1_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scoped0 cc0_scoped1 cc0_scoped2 cc0_scoped3 cc0_scoped4 cc0_scoped5 cc0_scoped6 cc0_scoped7 cc0_scoped8 (BitVec.ofNat 32 (half * 8192)) lanes 0#32)
    (fun r s' => ∃ f1 f2 f3 f4 f6 g, s' = { s with b1 := f1, b2 := f2, b3 := f3, b4 := f4, b6 := f6, cnt := g }
      ∧ (∀ p < 8192, rd f3 p = BitVec.ofNat 32 (ru f p * 16384 + (half * 8192 + sg f p)))
      ∧ (∀ p < 8192, nw f p → rd f1 (Nat.count (nw f) p) = kp f p)
      ∧ (∀ p < 8192, nw f p → rd f6 (Nat.count (nw f) p) = BitVec.ofNat 32 (half * 8192 + p))
      ∧ rd f6 (nr f) = BitVec.ofNat 32 (half * 8192 + 8192)
      ∧ ∃ v44, r = ⟨BitVec.ofNat 32 (nr f), chk8_of (nr_pos f), k0_pay181 lanes, v44, 16#32, BitVec.ofNat 32 (nr f / 16), 1#32, 0#32⟩) := by
  have hnr := nr_pos f
  rw [k0_part12_eq_skeleton]; unfold k0_part12_skel
  refine Run.bind (t4_run s _ _ h) ?_
  rintro _ _ ⟨f2, f3, f4, g, rfl, ht4⟩
  have hrk : ∀ j < 8192, rk 8192 (fun j => (hsh (rd s.b1 j)).toNat) j = rk 8192 (hk f) j := fun j hj =>
    rk_congr (fun i hi => by show _ = (hsh (f i)).toNat; rw [hf i hi]) hj
  have ht4' : ∀ p < 8192, rd f2 p = kp f p ∧ rd f3 p = BitVec.ofNat 32 (half * 8192) + BitVec.ofNat 32 (sg f p) ∧ rd f4 (p + 1) = kp f p := fun p hp => by
    obtain ⟨a1, a2⟩ := sg_spec f hp
    have := ht4 _ a1
    rw [hrk _ a1, a2, hf _ a1] at this
    exact ⟨this.1, this.2.1, this.2.2.1⟩
  have h40 : rd f4 0 = 4294967295#32 := (ht4 0 (by omega)).2.2.2.trans h4
  have hnw : ∀ p < 8192, nw f p ↔ rd f2 p ≠ rd f4 p := fun p hp => by
    rcases Nat.eq_zero_or_pos p with rfl | h0
    · refine iff_of_true (.inl rfl) ?_
      rw [(ht4' 0 hp).1, h40]
      intro e
      have := hlt _ (sg_spec f hp).1
      change kp f 0 = _ at e
      unfold kp at e
      rw [e] at this
      exact absurd this (by decide)
    · obtain ⟨q, rfl⟩ : ∃ q, p = q + 1 := ⟨p - 1, by omega⟩
      rw [(ht4' _ hp).1, (ht4' q (by omega)).2.2]
      unfold nw
      rw [Nat.add_sub_cancel]
      exact ⟨fun h => h.resolve_left (by omega), .inr⟩
  dsimp only
  refine Run.bind (t5_run _ _ (nw f) hnw (.inl rfl)) ?_
  rintro v18 _ ⟨f1, f3', f6, rfl, h18, h3, h1, h6⟩
  replace h18 : v18 = BitVec.ofNat 32 (nr f) := h18
  subst h18
  dsimp only at h1 h3 h6 ⊢
  refine Run.assume (chk8_of hnr) ?_
  have hv : ∀ l < 16, (rd (k0_pay182 (BitVec.ofNat 32 (nr f))) l).toNat = nr f := fun l hl => by
    have e : rd (k0_pay182 (BitVec.ofNat 32 (nr f))) l = 0#32 + BitVec.ofNat 32 (nr f) := by rw [rd_of_lt _ hl]; rfl
    rw [e, BitVec.zero_add, BitVec.toNat_ofNat, Nat.mod_eq_of_lt (by omega)]
  have hm : ∀ l < 16, rd (k0_pay181 lanes) l = 1#1 ↔ l = 0 := fun l hl => by
    have e : rd (k0_pay181 lanes) l = BitVec.ofBool (rd lanes l == 0#32) := by rw [rd_of_lt _ hl, rd_of_lt _ hl]; rfl
    rw [e, rd_lanes hl]
    interval_cases l <;> decide
  refine Run.assume (lane_lt fun l hl => by rw [hv l hl]; omega) ?_
  refine Run.scatter focus_b6 ?_
  dsimp only
  refine Run.pure ?_
  refine ⟨f1, f2, f3', f4, _, g, rfl, ?_, ?_, ?_, ?_, ?_⟩
  · intro p hp
    have hrl := ru_lt f hp
    rw [h3 p hp, (ht4' p hp).2.1, ofNat_add', show Nat.count (nw f) (p + 1) - 1 = ru f p from rfl]
    exact pack_eq (by omega) (by have := (sg_spec f hp).1; omega)
  · intro p hp hp'
    exact (h1 p hp hp').trans (ht4' p hp).1
  · intro p hp hp'
    have hlt' : Nat.count (nw f) p < nr f := Nat.count_strict_mono hp' hp
    refine (storeIdx_miss (F := F) _ _ _ _ _ _ ?_).trans ((h6 p hp hp').trans (ofNat_add' _ _))
    intro l hl _ e
    exact absurd (e.symm.trans (hv l hl)) (by omega)
  · refine (storeIdx_hit (F := F) (l := 0) _ _ _ _ _ (by omega) ((hm 0 (by omega)).mpr rfl) (hv 0 (by omega)) ?_).trans ?_
    · intro l hl hl0 hlm
      exact absurd ((hm _ hl).mp hlm) (by omega)
    · have e : rd (α := BitVec 32) (k0_pay183 (BitVec.ofNat 32 (half * 8192))) 0 = 8192#32 + BitVec.ofNat 32 (half * 8192) := by rw [rd_of_lt _ (by omega)]; rfl
      refine e.trans ?_
      rw [show (8192#32) = BitVec.ofNat 32 8192 from rfl, ofNat_add']; congr 1; omega
  · have e1 : Scalar.divsi (BitVec.ofNat 32 (nr f)) 16#32 = BitVec.ofNat 32 (nr f / 16) := by
      simp (disch := omega) only [div_w]
    have e2 : Scalar.subi (Scalar.extui (Scalar.cmpi .sgt (BitVec.ofNat 32 (nr f)) 0#32)) (Scalar.extui (Scalar.cmpi .slt (BitVec.ofNat 32 (nr f)) 0#32)) = 1#32 := by
      simp (disch := omega) only [sgt_w, slt_w, ext1, ext0]; rfl
    rw [e1, e2]
    exact ⟨_, rfl⟩

/-- The list of the runs' codes filled up to whole waves. -/
theorem fill_run {n : ℕ} (s : St) (hn : 1 ≤ n ∧ n < 8193) (v44 : BitVec 32) {β : Type} {k : Prog (TpuEff nD τ sig (Elt F) Λ₀ (.scVector (cV L) (jV L))) β} {Q : β → St → Prop}
    (hk : ∀ f1, (∀ p < n, rd f1 p = rd s.b1 p) → (∀ p < waves n, n ≤ p → rd f1 p = BitVec.ofNat 32 p) → Run (F := F) d L { s with b1 := f1 } k Q) :
    Run (F := F) d L s (do
      Scf.Loop.for (k0_t6_loop (BitVec.ofNat 32 n)) (k0_t6_ok _ (chk8_of hn)) ⟨⟩ (k0_t6_body L (Memref.whole main_v0_scv) (Memref.isWhole_whole _) (Memref.whole main_arg1_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scoped0 cc0_scoped1 cc0_scoped2 cc0_scoped3 cc0_scoped4 cc0_scoped5 cc0_scoped6 cc0_scoped7 cc0_scoped8 lanes (BitVec.ofNat 32 n) (chk8_of hn) v44 16#32 (BitVec.ofNat 32 (n / 16)) 1#32 0#32)
      Scf.Loop.for (k0_t7_loop (BitVec.ofNat 32 n)) (k0_t7_ok _ (chk8_of hn)) ⟨⟩ (k0_t7_body L (Memref.whole main_v0_scv) (Memref.isWhole_whole _) (Memref.whole main_arg1_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scoped0 cc0_scoped1 cc0_scoped2 cc0_scoped3 cc0_scoped4 cc0_scoped5 cc0_scoped6 cc0_scoped7 cc0_scoped8 lanes (BitVec.ofNat 32 n) (chk8_of hn) v44 16#32 (BitVec.ofNat 32 (n / 16)) 1#32 0#32)
      k) Q := by
  refine Run.bind (t6_run _ hn _ v44) ?_
  rintro _ _ ⟨f1, rfl, h1, h2⟩
  refine Run.bind (Run.none (t7_all n hn).2 (Q := fun _ s' => s' = _) rfl) ?_
  rintro _ _ rfl
  exact hk f1 h1 h2

end Cert.Proof.Tile
-- ==== Proof.Runs.lean ====
/-
  What one tile's stages compute, as counting: the starts and the lengths of the runs, the sums of the lengths of the runs
  with smaller codes, and the place of a code among another tile's sorted codes.
-/
module

public import proofs.«01_k».proof.Defs
public import proofs.«01_k».proof.Proof.Lanes
public import proofs.«01_k».proof.Proof.Gen.KernelIdeal
public import proofs.«01_k».proof.Proof.Gen.KernelIdeal.Skeleton
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Tile
public import proofs.«01_k».proof.Proof.Head

@[expose] public section

noncomputable section

namespace Cert.Proof.Tile

open Cert.KernelIdeal Cert.KernelIdeal.Gen
open Cert.Proof.Lanes

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable {d : Dev nD} {L : grid0.Coords} {α β : Type} {s : St} {Q : α → St → Prop}

open Finset (range)

theorem exists_start {q : ℕ → Prop} [DecidablePred q] {u : ℕ} : ∀ {N : ℕ}, u < Nat.count q N → ∃ a < N, q a ∧ Nat.count q a = u := by
  intro N
  induction N with
  | zero => intro h; simp at h
  | succ N ih =>
    intro h
    by_cases hu : u < Nat.count q N
    · obtain ⟨a, ha, h1, h2⟩ := ih hu; exact ⟨a, by omega, h1, h2⟩
    · rw [Nat.count_succ] at h
      by_cases hq : q N
      · rw [if_pos hq] at h; exact ⟨N, by omega, hq, by omega⟩
      · rw [if_neg hq] at h; omega

section
variable (f : ℕ → BitVec 32)

/-- The first rank of run `u`: how many ranks are in runs before it. -/
def rs (u : ℕ) : ℕ := Nat.count (fun p => ru f p < u) 8192

theorem ru_mono {p q : ℕ} (h : p ≤ q) : ru f p ≤ ru f q := by
  have := Nat.count_monotone (nw f) (show p + 1 ≤ q + 1 by omega)
  unfold ru; omega

theorem start_spec {u : ℕ} (hu : u < nr f) : rs f u < 8192 ∧ nw f (rs f u) ∧ Nat.count (nw f) (rs f u) = u ∧ ∀ p < 8192, (ru f p < u ↔ p < rs f u) := by
  obtain ⟨a, ha, h1, h2⟩ := exists_start (q := nw f) hu
  have hiff : ∀ p < 8192, (ru f p < u ↔ p < a) := fun p _ => by
    constructor
    · intro h
      by_contra hc
      have hm := Nat.count_monotone (nw f) (show a + 1 ≤ p + 1 by omega)
      rw [Nat.count_succ, if_pos h1, h2] at hm
      have := count_nw_pos f p
      unfold ru at h; omega
    · intro h
      have hm := Nat.count_monotone (nw f) (show p + 1 ≤ a by omega)
      have := count_nw_pos f p
      unfold ru; omega
  have hrs : rs f u = a := by
    unfold rs
    rw [count_congr (q := fun p => p < a) hiff]
    exact count_below_self 8192 (by omega)
  rw [hrs]; exact ⟨ha, h1, h2, hiff⟩

theorem rs_end : rs f (nr f) = 8192 := by
  unfold rs
  rw [count_congr (q := fun _ => True) (fun p hp => iff_of_true (ru_lt f hp) trivial)]
  simp

theorem ru_iff {u : ℕ} (hu : u ≤ nr f) {p : ℕ} (hp : p < 8192) : ru f p < u ↔ p < rs f u := by
  rcases Nat.lt_or_ge u (nr f) with h | h
  · exact (start_spec f h).2.2.2 p hp
  · have e : u = nr f := Nat.le_antisymm hu h
    rw [e, rs_end]; exact iff_of_true (ru_lt f hp) hp

theorem rs_succ (u : ℕ) : rs f (u + 1) = rs f u + Nat.count (fun p => ru f p = u) 8192 :=
  count_or (fun p _ => by omega) (fun p _ h => by omega)

theorem rs_le {p : ℕ} (hp : p < 8192) : rs f (ru f p) ≤ p := by
  by_contra hc
  exact absurd ((ru_iff f (Nat.le_of_lt (ru_lt f hp)) hp).mpr (by omega)) (Nat.lt_irrefl _)

/-- A rank's distance from the start of its run. -/
theorem in_run {p : ℕ} (hp : p < 8192) : Nat.count (fun q => ru f q = ru f p ∧ q < p) 8192 = p - rs f (ru f p) := by
  have h := count_or (n := 8192) (p := fun q => ru f q < ru f p) (q := fun q => ru f q = ru f p ∧ q < p) (r := fun q => q < p)
    (fun q hq => by
      constructor
      · intro hqp
        have := ru_mono f (Nat.le_of_lt hqp)
        rcases Nat.lt_or_ge (ru f q) (ru f p) with h | h
        · exact .inl h
        · exact .inr ⟨by omega, hqp⟩
      · rintro (h | h)
        · by_contra hc
          have := ru_mono f (show p ≤ q by omega); omega
        · exact h.2) (fun q _ a b => by omega)
  rw [count_below_self 8192 (by omega)] at h
  have : rs f (ru f p) = Nat.count (fun q => ru f q < ru f p) 8192 := rfl
  omega

theorem same_run : ∀ {p q : ℕ}, q ≤ p → ru f q = ru f p → kp f q = kp f p := by
  intro p
  induction p with
  | zero => intro q h _; rw [Nat.le_zero.mp h]
  | succ p ih =>
    intro q h he
    rcases Nat.eq_or_lt_of_le h with rfl | hlt
    · rfl
    · have h1 := ru_mono f (show q ≤ p by omega)
      have h2 := ru_mono f (show p ≤ p + 1 by omega)
      have hn : ¬ nw f (p + 1) := fun hn => by
        have : Nat.count (nw f) (p + 1 + 1) = Nat.count (nw f) (p + 1) + 1 := by rw [Nat.count_succ, if_pos hn]
        have := count_nw_pos f p
        unfold ru at h1 h2 he; omega
      rw [ih (show q ≤ p by omega) (by omega)]
      unfold nw at hn
      push Not at hn
      have := hn.2
      rw [Nat.add_sub_cancel] at this
      exact this.symm

/-- The code of the run of a rank is the code at the rank. -/
theorem run_key {p : ℕ} (hp : p < 8192) : kp f (rs f (ru f p)) = kp f p := by
  obtain ⟨h1, h2, h3, _⟩ := start_spec f (ru_lt f hp)
  refine same_run f (rs_le f hp) ?_
  have : Nat.count (nw f) (rs f (ru f p) + 1) = ru f p + 1 := by rw [Nat.count_succ, if_pos h2, h3]
  show Nat.count (nw f) (rs f (ru f p) + 1) - 1 = _
  omega
end

theorem rk_lt_count {N x : ℕ} {key : ℕ → ℕ} {i : ℕ} (hi : i < N) : rk N key i < Nat.count (fun j => key j < x) N ↔ key i < x := by
  constructor
  · intro h
    by_contra hc
    have : Nat.count (fun j => key j < x) N ≤ Nat.count (fun j => key j < key i) N := count_mono_pred fun j _ h => by omega
    unfold rk at h; omega
  · intro h
    rw [rk_eq_count hi]
    have h1 := count_or (n := N) (p := fun j => key j < key i ∨ (key j = key i ∧ j < i)) (q := fun j => j = i) (r := fun j => (key j < key i ∨ (key j = key i ∧ j < i)) ∨ j = i)
      (fun j _ => Iff.rfl) (fun j _ a b => by subst b; omega)
    have h2 : 0 < Nat.count (fun j => j = i) N := by
      rw [count_card, Finset.card_pos]; exact ⟨i, by simp [hi]⟩
    have h3 : Nat.count (fun j => (key j < key i ∨ (key j = key i ∧ j < i)) ∨ j = i) N ≤ Nat.count (fun j => key j < x) N :=
      count_mono_pred fun j _ hj => by rcases hj with (hj | hj) | rfl <;> omega
    omega

/-- The keys of greatest value that are last keep their places. -/
theorem rk_last {N n : ℕ} {key : ℕ → ℕ} {m : ℕ} (hmax : ∀ j < N, key j ≤ m) (hpad : ∀ j < N, n ≤ j → key j = m) {i : ℕ} (hi : i < N) :
    (n ≤ i → rk N key i = i) ∧ (i < n → rk N key i < n) := by
  have hfix : ∀ i < N, n ≤ i → rk N key i = i := fun i hi hn => by
    rw [rk_eq_count hi, count_congr (q := fun j => j < i) (fun j hj => ?_)]
    · exact count_below_self N (by omega)
    · have := hmax j hj
      have := hpad i hi hn
      constructor
      · rintro (h | h)
        · by_contra hc
          have := hpad j hj (by omega); omega
        · exact h.2
      · intro h
        rcases Nat.lt_or_ge (key j) (key i) with h' | h'
        · exact .inl h'
        · exact .inr ⟨by omega, h⟩
  refine ⟨hfix i hi, fun h => ?_⟩
  by_contra hc
  have h1 := rk_lt (key := key) i hi
  have h2 := hfix _ h1 (by omega)
  have := rk_inj (N := N) (key := key) _ h1 i hi h2
  omega

/-! ## The codes of one half-row -/

/-- The table's words are in range and distinct. -/
def Good (T : ℕ → BitVec 32) : Prop := (∀ i < 2097152, (T i).toNat < 2097152) ∧ ∀ i < 2097152, ∀ j < 2097152, T i = T j → i = j

/-- The code of entry `i`. -/
def cd (T f : ℕ → BitVec 32) (i : ℕ) : ℕ := (T (f i).toNat).toNat
/-- The code of run `u`, as a word. -/
def rc (T f : ℕ → BitVec 32) (u : ℕ) : BitVec 32 := if u < nr f then T (kp f (rs f u)).toNat else sentinel

theorem kk_eq {x : BitVec 32} (h : x.toNat < 4194304) : kk x = x.toNat := by
  have e0 : (dg0 x).toNat = x.toNat % 2048 := by
    show (x.sshiftRight 0 &&& 2047#32).toNat = _
    rw [BitVec.toNat_and, show (2047#32).toNat = 2 ^ 11 - 1 from rfl, Nat.and_two_pow_sub_one_eq_mod, shr_toNat 0 (by omega)]; norm_num
  have e1 : (dg1 x).toNat = x.toNat / 2048 := by
    show (x.sshiftRight 11 &&& 2047#32).toNat = _
    rw [BitVec.toNat_and, show (2047#32).toNat = 2 ^ 11 - 1 from rfl, Nat.and_two_pow_sub_one_eq_mod, shr_toNat 11 (by omega)]; omega
  unfold kk; rw [e0, e1]; omega

section
variable (T f : ℕ → BitVec 32)

/-- The sorted place of run `u`. -/
def ro (u : ℕ) : ℕ := rk (up (nr f)) (fun u => kk (rc T f u)) u

theorem kk_lt (x : BitVec 32) : kk x < 4194304 := by
  have := dg0_lt x; have := dg1_lt x; unfold kk; omega

theorem ro_last {u : ℕ} (hu : u < up (nr f)) : (nr f ≤ u → ro T f u = u) ∧ (u < nr f → ro T f u < nr f) :=
  rk_last (m := 4194303) (fun j _ => by have := kk_lt (rc T f j); omega)
    (fun j _ hj => by unfold rc; rw [if_neg (by omega)]; decide) hu

theorem le_up (n : ℕ) : n ≤ up n := by unfold up; omega
theorem up_le {n : ℕ} (h : n < 8193) : up n ≤ 8192 := by unfold up; omega

variable {T f}

/-- What a tile has made of its half-row before the exchange: its runs' codes in order, the runs beside them, how many entries are before
each, and where each run starts. -/
structure Sorted (T f : ℕ → BitVec 32) (half : ℕ) (f1 f2 : (Sh 8192).Idx → BitVec 32) (f6 fo : (Sh 8208).Idx → BitVec 32) : Prop where
  code : ∀ u < up (nr f), rd f2 (ro T f u) = rc T f u
  run : ∀ u < up (nr f), rd f1 (ro T f u) = BitVec.ofNat 32 u
  rest : ∀ r < 8192, up (nr f) ≤ r → rd f2 r = sentinel
  start : ∀ u ≤ nr f, rd f6 u = BitVec.ofNat 32 (half * 8192 + rs f u)
  sums : ∀ r < nr f, rd fo r = ∑ k ∈ range r, len (nr f) f1 f6 k
  last : rd fo (nr f) = 8192#32

/-- The sums of lengths count the entries of the runs placed before. -/
theorem Sorted.sum {half : ℕ} {f1 f2 : (Sh 8192).Idx → BitVec 32} {f6 fo : (Sh 8208).Idx → BitVec 32} (h : Sorted T f half f1 f2 f6 fo) {r : ℕ} (hr : r ≤ nr f) :
    rd fo r = BitVec.ofNat 32 (Nat.count (fun p => ro T f (ru f p) < r) 8192) := by
  have hn := nr_pos f
  have key : ∀ r ≤ nr f, ∑ k ∈ range r, len (nr f) f1 f6 k = BitVec.ofNat 32 (Nat.count (fun p => ro T f (ru f p) < r) 8192) := by
    intro r
    induction r with
    | zero => intro _; simp
    | succ r ih =>
      intro hr
      rw [Finset.sum_range_succ, ih (by omega)]
      have hru : r < up (nr f) := by have := le_up (nr f); omega
      obtain ⟨a1, a2⟩ := inv_rk (key := fun u => kk (rc T f u)) hru
      generalize hu : inv (up (nr f)) (rk (up (nr f)) fun u => kk (rc T f u)) r = u at a1 a2
      change ro T f u = r at a2
      have hun : u < nr f := by
        by_contra hc
        have := (ro_last T f a1).1 (by omega); omega
      have h1 : rd f1 r = BitVec.ofNat 32 u := by rw [← a2]; exact h.run u a1
      have h2 : (rd f1 r).toNat = u := by rw [h1, BitVec.toNat_ofNat, Nat.mod_eq_of_lt (by omega)]
      have hs := rs_succ f u
      rw [show len (nr f) f1 f6 r = BitVec.ofNat 32 (Nat.count (fun p => ru f p = u) 8192) from by
        show (if r < nr f then _ else _) = _
        rw [if_pos (by omega), h2, h.start _ (by omega), h.start _ (by omega), hs, ← Nat.add_assoc, ← ofNat_add', BitVec.add_comm, BitVec.add_sub_cancel]]
      rw [ofNat_add']
      refine congrArg (BitVec.ofNat 32) ?_
      symm
      refine count_or (fun p hp => ?_) (fun p hp x y => ?_)
      · have hp' : ru f p < up (nr f) := Nat.lt_of_lt_of_le (ru_lt f hp) (le_up _)
        have : ro T f (ru f p) = r ↔ ru f p = u := ⟨fun e => rk_inj _ hp' _ a1 (e.trans a2.symm), fun e => by rw [e, a2]⟩
        rw [← this]; omega
      · rw [y, a2] at x; omega
  rcases Nat.lt_or_ge r (nr f) with h' | h'
  · rw [h.sums r h', key r hr]
  · have e : r = nr f := Nat.le_antisymm hr h'
    rw [e, h.last, count_congr (q := fun _ => True) (fun p hp => iff_of_true ((ro_last T f (Nat.lt_of_lt_of_le (ru_lt f hp) (le_up _))).2 (ru_lt f hp)) trivial)]
    simp

theorem kp_lt (hf : ∀ j < 8192, (f j).toNat < 2097152) {p : ℕ} (hp : p < 8192) : (kp f p).toNat < 2097152 := hf _ (sg_spec f hp).1

theorem rc_run {p : ℕ} (hp : p < 8192) : (rc T f (ru f p)).toNat = cd T f (sg f p) := by
  unfold rc; rw [if_pos (ru_lt f hp), run_key f hp]; rfl

theorem rc_lt (hT : Good T) (hf : ∀ j < 8192, (f j).toNat < 2097152) (u : ℕ) : (u < nr f → (rc T f u).toNat < 2097152) ∧ (rc T f u).toNat < 4194304 := by
  unfold rc
  by_cases h : u < nr f
  · rw [if_pos h]
    have := hT.1 _ (kp_lt hf (start_spec f h).1)
    exact ⟨fun _ => this, by omega⟩
  · rw [if_neg h]; exact ⟨fun h' => absurd h' h, by decide⟩

/-- What a tile's exchanged rows tell its partner: where a code is among its own, and how many of its entries are before it. -/
def Served (T f : ℕ → BitVec 32) (f2 fo : (Sh 8208).Idx → BitVec 32) : Prop :=
  ∀ x : BitVec 32, x.toNat ≤ 2097152 → ∃ c, Split f2 x c ∧ rd fo c = BitVec.ofNat 32 (Nat.count (fun i => cd T f i < x.toNat) 8192)

theorem sg_count (q : ℕ → Prop) [DecidablePred q] : Nat.count (fun p => q (sg f p)) 8192 = Nat.count q 8192 := by
  refine perm_count_comp (sg f) (fun i hi => (sg_spec f hi).1) (fun i hi j hj e => ?_) q
  rw [← (sg_spec f hi).2, ← (sg_spec f hj).2, e]

theorem Sorted.served (hT : Good T) (hf : ∀ j < 8192, (f j).toNat < 2097152) {half : ℕ} {f1 f2 : (Sh 8192).Idx → BitVec 32} {f6 fo : (Sh 8208).Idx → BitVec 32}
    (h : Sorted T f half f1 f2 f6 fo) {g : (Sh 8208).Idx → BitVec 32} (hg : ∀ j < 8192, rd g j = rd f2 j) : Served T f g fo := by
  intro x hx
  have hn := nr_pos f
  have hkk : ∀ u, kk (rc T f u) = (rc T f u).toNat := fun u => kk_eq (rc_lt hT hf u).2
  have hpads : ∀ u < up (nr f), kk (rc T f u) < x.toNat → u < nr f := fun u _ hu => by
    by_contra hc
    rw [hkk] at hu
    unfold rc at hu
    rw [if_neg hc, show (sentinel).toNat = 4194303 from rfl] at hu
    omega
  have hlt : ∀ u < up (nr f), (ro T f u < Nat.count (fun j => kk (rc T f j) < x.toNat) (up (nr f)) ↔ (rc T f u).toNat < x.toNat) := fun u hu => by
    rw [← hkk]; exact rk_lt_count hu
  have hcn : Nat.count (fun j => kk (rc T f j) < x.toNat) (up (nr f)) ≤ nr f := by
    refine (count_mono_pred (q := fun j => j < nr f) hpads).trans ?_
    rw [count_below_self _ (le_up _)]
  generalize hc : Nat.count (fun j => kk (rc T f j) < x.toNat) (up (nr f)) = c at hlt hcn
  have hslt : ∀ y : BitVec 32, y.toNat < 4194304 → (y.slt x = true ↔ y.toNat < x.toNat) := fun y hy => by
    rw [BitVec.slt_iff_toInt_lt, BitVec.toInt_eq_toNat_of_lt (by omega), BitVec.toInt_eq_toNat_of_lt (by omega)]; omega
  refine ⟨c, ⟨by omega, fun j hj => ?_⟩, ?_⟩
  · rw [hg j hj]
    rcases Nat.lt_or_ge j (up (nr f)) with hju | hju
    · obtain ⟨a1, a2⟩ := inv_rk (key := fun u => kk (rc T f u)) hju
      generalize hu : inv (up (nr f)) (rk (up (nr f)) fun u => kk (rc T f u)) j = u at a1 a2
      change ro T f u = j at a2
      have := h.code u a1
      rw [a2] at this
      rw [this, hslt _ (rc_lt hT hf u).2, ← hlt u a1, a2]
    · rw [h.rest j hj hju, hslt _ (by decide), show (sentinel).toNat = 4194303 from rfl]
      have := le_up (nr f)
      omega
  · rw [h.sum hcn]
    refine congrArg (BitVec.ofNat 32) ?_
    rw [← sg_count (f := f) (fun i => cd T f i < x.toNat)]
    refine count_congr fun p hp => ?_
    rw [hlt _ (Nat.lt_of_lt_of_le (ru_lt f hp) (le_up _)), rc_run hp]
end

end Cert.Proof.Tile
-- ==== Proof.Row.lean ====
/-
  A row of two half-rows: the place of every entry in the row's stable order, from the two tiles' sorted codes, and the two
  result rows.
-/
module

public import proofs.«01_k».proof.Defs
public import proofs.«01_k».proof.Proof.Lanes
public import proofs.«01_k».proof.Proof.Gen.KernelIdeal
public import proofs.«01_k».proof.Proof.Gen.KernelIdeal.Skeleton
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Tile
public import proofs.«01_k».proof.Proof.Runs

@[expose] public section

noncomputable section

namespace Cert.Proof.Tile

open Cert.KernelIdeal Cert.KernelIdeal.Gen
open Cert.Proof.Lanes

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable {d : Dev nD} {L : grid0.Coords} {α β : Type} {s : St} {Q : α → St → Prop}

variable {T row : ℕ → BitVec 32}

/-- One half of the row. -/
def hf (row : ℕ → BitVec 32) (half : ℕ) (i : ℕ) : BitVec 32 := row (half * 8192 + i)
/-- The place of entry `g` in the row's stable order by code. -/
def place (T row : ℕ → BitVec 32) (g : ℕ) : ℕ := rk 16384 (cd T row) g

theorem cd_hf (half i : ℕ) : cd T (hf row half) i = cd T row (half * 8192 + i) := rfl

theorem hk_eq {f : ℕ → BitVec 32} {i j : ℕ} (h : f i = f j) : hk f i = hk f j := by unfold hk; rw [h]

/-- The order of the ranks is the order of the entries where the codes agree. -/
theorem sg_order (hT : Good T) {f : ℕ → BitVec 32} (hf : ∀ j < 8192, (f j).toNat < 2097152) {p q : ℕ} (hp : p < 8192) (hq : q < 8192)
    (h : cd T f (sg f q) = cd T f (sg f p)) : q < p ↔ sg f q < sg f p := by
  obtain ⟨a1, a2⟩ := sg_spec f hp
  obtain ⟨b1, b2⟩ := sg_spec f hq
  have hk' : hk f (sg f q) = hk f (sg f p) := hk_eq (BitVec.eq_of_toNat_eq (by
    rw [hT.2 _ (hf _ b1) _ (hf _ a1) (BitVec.eq_of_toNat_eq h)]))
  have := rk_lt_iff (key := hk f) b1 a1
  rw [a2, b2] at this
  rw [this]; omega

theorem rank_half (hT : Good T) {f : ℕ → BitVec 32} (hf : ∀ j < 8192, (f j).toNat < 2097152) {p : ℕ} (hp : p < 8192) :
    Nat.count (fun q => ro T f (ru f q) < ro T f (ru f p)) 8192 + (p - rs f (ru f p)) = rk 8192 (cd T f) (sg f p) := by
  rw [← in_run f hp, rk_eq_count (sg_spec f hp).1,
    ← sg_count (f := f) (fun j => cd T f j < cd T f (sg f p) ∨ (cd T f j = cd T f (sg f p) ∧ j < sg f p))]
  symm
  have hk' : ∀ q < 8192, kk (rc T f (ru f q)) = cd T f (sg f q) := fun q hq => by rw [kk_eq (rc_lt hT hf _).2, rc_run hq]
  refine count_or (fun q hq => ?_) (fun q hq a b => ?_)
  · have hqu := Nat.lt_of_lt_of_le (ru_lt f hq) (le_up _)
    have hpu := Nat.lt_of_lt_of_le (ru_lt f hp) (le_up _)
    have hro : ro T f (ru f q) < ro T f (ru f p) ↔ _ := rk_lt_iff (key := fun u => kk (rc T f u)) hqu hpu
    rw [hro]
    simp only [hk' q hq, hk' p hp]
    have hru : ru f q < ru f p → q < p := fun h => by
      by_contra hc
      have := ru_mono f (show p ≤ q by omega); omega
    have hru' : q < p → ru f q ≤ ru f p := fun h => ru_mono f (Nat.le_of_lt h)
    constructor
    · rintro (h | ⟨h, h'⟩)
      · exact .inl (.inl h)
      · have hqp := (sg_order hT hf hp hq h).mpr h'
        rcases Nat.lt_or_ge (ru f q) (ru f p) with h2 | h2
        · exact .inl (.inr ⟨h, h2⟩)
        · exact .inr ⟨Nat.le_antisymm (hru' hqp) h2, hqp⟩
    · rintro ((h | ⟨h, h'⟩) | ⟨h, h'⟩)
      · exact .inl h
      · exact .inr ⟨h, (sg_order hT hf hp hq h).mp (hru h')⟩
      · have he : cd T f (sg f q) = cd T f (sg f p) := by rw [← hk' q hq, ← hk' p hp, h]
        exact .inr ⟨he, (sg_order hT hf hp hq he).mp h'⟩
  · rw [b.1] at a; exact absurd a (Nat.lt_irrefl _)

/-- The rank in the row is the rank in the half and the count of the other half's entries that come before. -/
theorem place_half {half i : ℕ} (hh : half < 2) (hi : i < 8192) :
    place T row (half * 8192 + i) = rk 8192 (cd T (hf row half)) i + Nat.count (fun j => cd T (hf row (1 - half)) j < cd T (hf row half) i + half) 8192 := by
  unfold place
  rw [rk_eq_count (by omega), rk_eq_count hi, show (16384 : ℕ) = 8192 + 8192 from rfl, Nat.count_add]
  rcases Nat.lt_or_ge half 1 with h | h
  · obtain rfl : half = 0 := by omega
    refine congrArg₂ (· + ·) (count_congr fun j hj => ?_) (count_congr fun j hj => ?_)
    · simp only [cd_hf]; norm_num
    · simp only [cd_hf]; norm_num
      intro _ _; omega
  · obtain rfl : half = 1 := by omega
    rw [Nat.add_comm]
    refine congrArg₂ (· + ·) (count_congr fun j hj => ?_) (count_congr fun j hj => ?_)
    · simp only [cd_hf]; norm_num
    · simp only [cd_hf]; norm_num
      omega

variable {half : ℕ}

/-- The positions the shifts give are the places in the row. -/
theorem at_eq (hT : Good T) (hrow : ∀ g < 16384, (row g).toNat < 2097152) (hh : half < 2) (s : St) (f4 : (Sh 8208).Idx → BitVec 32)
    (h : Sorted T (hf row half) half s.b1 s.b2 s.b6 s.oex) (hp : Served T (hf row (1 - half)) s.pc s.pe)
    (h4 : ∀ k < nr (hf row half), Shift s (BitVec.ofNat 32 half) k (rd f4 (rd s.b1 k).toNat)) (s' : St) (hs' : s'.b4 = f4) {p : ℕ} (hp' : p < 8192) :
    at_ s' half (ru (hf row half)) p = BitVec.ofNat 32 (place T row (half * 8192 + sg (hf row half) p)) := by
  have hf' : ∀ j < 8192, ((hf row half) j).toNat < 2097152 := fun j hj => hrow _ (by omega)
  have hru := ru_lt (hf row half) hp'
  have hnr := nr_pos (hf row half)
  have hup := up_le hnr.2
  have hru' := Nat.lt_of_lt_of_le hru (le_up _)
  have hro := (ro_last T (hf row half) hru').2 hru
  obtain ⟨lo, hlo, hc, he⟩ := h4 _ hro
  have hb1 : (rd s.b1 (ro T (hf row half) (ru (hf row half) p))).toNat = ru (hf row half) p := by
    rw [h.run _ hru', BitVec.toNat_ofNat, Nat.mod_eq_of_lt (by omega)]
  have hcd : cd T (hf row half) (sg (hf row half) p) < 2097152 := hT.1 _ (hf' _ (sg_spec _ hp').1)
  have hx : (rc T (hf row half) (ru (hf row half) p) + BitVec.ofNat 32 half).toNat = cd T (hf row half) (sg (hf row half) p) + half := by
    rw [BitVec.toNat_add, rc_run hp', BitVec.toNat_ofNat, Nat.mod_eq_of_lt (show half < 2 ^ 32 by omega), Nat.mod_eq_of_lt (by omega)]
  obtain ⟨c, hsp, hpe⟩ := hp (rc T (hf row half) (ru (hf row half) p) + BitVec.ofNat 32 half) (by omega)
  rw [h.code _ hru'] at hc
  have := hc c hsp
  subst this
  rw [hb1, hpe, hx, h.sum (Nat.le_of_lt hro), h.start _ (Nat.le_of_lt hru)] at he
  unfold at_
  rw [hs', he, place_half hh (sg_spec _ hp').1, ← rank_half hT hf' hp', ofNat_add']
  have hle := rs_le (hf row half) hp'
  generalize Nat.count (fun p_1 => ro T (hf row half) (ru (hf row half) p_1) < ro T (hf row half) (ru (hf row half) p)) 8192 = A
  generalize Nat.count (fun i => cd T (hf row (1 - half)) i < cd T (hf row half) (sg (hf row half) p) + half) 8192 = B
  generalize rs (hf row half) (ru (hf row half) p) = R at hle
  obtain ⟨e, rfl⟩ : ∃ e, p = R + e := ⟨p - R, by omega⟩
  rw [show R + e - R = e by omega, show A + e + B = A + B + e by omega, show R + e + half * 8192 = e + (half * 8192 + R) by omega]
  rw [← ofNat_add' (A + B) e, ← ofNat_add' e (half * 8192 + R)]
  generalize BitVec.ofNat 32 (A + B) = x
  generalize BitVec.ofNat 32 e = y
  generalize BitVec.ofNat 32 (half * 8192 + R) = z
  rw [BitVec.add_comm y z, ← BitVec.add_assoc, BitVec.sub_add_cancel]

theorem place_lt (T row : ℕ → BitVec 32) {g : ℕ} (hg : g < 16384) : place T row g < 16384 := rk_lt _ hg
theorem place_inj (T row : ℕ → BitVec 32) {g g' : ℕ} (hg : g < 16384) (hg' : g' < 16384) (h : place T row g = place T row g') : g = g' := rk_inj _ hg _ hg' h

/-- What a tile's packed row tells its partner. -/
def Packed (T row : ℕ → BitVec 32) (half : ℕ) (f : (Sh 8192).Idx → BitVec 32) : Prop :=
  ∀ j < 8192, rd f j = BitVec.ofNat 32 (place T row (half * 8192 + sg (hf row half) j) * 16384 + (half * 8192 + sg (hf row half) j))

theorem sg_inj {f : ℕ → BitVec 32} {i j : ℕ} (hi : i < 8192) (hj : j < 8192) (h : sg f i = sg f j) : i = j := by
  rw [← (sg_spec f hi).2, ← (sg_spec f hj).2, h]

theorem sg_surj {f : ℕ → BitVec 32} {i : ℕ} (hi : i < 8192) : ∃ p < 8192, sg f p = i :=
  perm_surj (sg f) (fun i hi => (sg_spec f hi).1) (fun _ hi _ hj => sg_inj hi hj) hi

theorem Packed.packs {f : (Sh 8192).Idx → BitVec 32} (hh : half < 2) (h : Packed T row half f) :
    Packs f (fun j => place T row (half * 8192 + sg (hf row half) j)) (fun j => half * 8192 + sg (hf row half) j) := by
  have hlt : ∀ j < 8192, half * 8192 + sg (hf row half) j < 16384 := fun j hj => by have := (sg_spec (hf row half) hj).1; omega
  refine ⟨fun j hj => ⟨h j hj, place_lt T row (hlt j hj), hlt j hj⟩, fun i hi j hj e => sg_inj (f := hf row half) hi hj ?_⟩
  have := place_inj T row (hlt i hi) (hlt j hj) e
  omega

/-- The two rows a tile writes back: the place of each entry, and the entry at each place. -/
structure Wrote (T row : ℕ → BitVec 32) (half : ℕ) (fo fr : (Sh 8192).Idx → BitVec 32) : Prop where
  rev : ∀ r < 8192, rd fr r = BitVec.ofNat 32 (place T row (half * 8192 + r))
  ord : ∀ g < 16384, place T row g / 8192 = half → rd fo (place T row g % 8192) = BitVec.ofNat 32 g

/-- The last stages' outputs, from the positions. -/
theorem packed_of (hh : half < 2) (s' : St) (hat : ∀ p < 8192, at_ s' half (ru (hf row half)) p = BitVec.ofNat 32 (place T row (half * 8192 + sg (hf row half) p)))
    {f2 : (Sh 8192).Idx → BitVec 32} (h2 : ∀ p < 8192, rd f2 p = (at_ s' half (ru (hf row half)) p <<< 14#32) ||| BitVec.ofNat 32 (half * 8192 + sg (hf row half) p)) :
    Packed T row half f2 := fun p hp => by
  have := (sg_spec (hf row half) hp).1
  rw [h2 p hp, hat p hp, pack_eq (place_lt T row (by omega)) (by omega)]

theorem wrote_of (hh : half < 2) (s' : St) (hat : ∀ p < 8192, at_ s' half (ru (hf row half)) p = BitVec.ofNat 32 (place T row (half * 8192 + sg (hf row half) p)))
    {f1 fr f1' f5 : (Sh 8192).Idx → BitVec 32}
    (hr : ∀ p < 8192, rd fr (half * 8192 + sg (hf row half) p - half * 8192) = at_ s' half (ru (hf row half)) p)
    (h1 : Apart s' half (ru (hf row half)) → ∀ p < 8192, (at_ s' half (ru (hf row half)) p).toNat / 8192 = half →
      rd f1 ((at_ s' half (ru (hf row half)) p).toNat % 8192) = BitVec.ofNat 32 (half * 8192 + sg (hf row half) p))
    (hpk : Packed T row (1 - half) f5)
    (h8 : Packs f5 (fun j => place T row ((1 - half) * 8192 + sg (hf row (1 - half)) j)) (fun j => (1 - half) * 8192 + sg (hf row (1 - half)) j) →
      (∀ j < 8192, place T row ((1 - half) * 8192 + sg (hf row (1 - half)) j) / 8192 = half →
        rd f1' (place T row ((1 - half) * 8192 + sg (hf row (1 - half)) j) % 8192) = BitVec.ofNat 32 ((1 - half) * 8192 + sg (hf row (1 - half)) j))
      ∧ ∀ r < 8192, (∀ j < 8192, place T row ((1 - half) * 8192 + sg (hf row (1 - half)) j) / 8192 = half →
        place T row ((1 - half) * 8192 + sg (hf row (1 - half)) j) % 8192 ≠ r) → rd f1' r = rd f1 r) :
    Wrote T row half f1' fr := by
  have hlt : ∀ p < 8192, half * 8192 + sg (hf row half) p < 16384 := fun j hj => by have := (sg_spec (hf row half) hj).1; omega
  have hnat : ∀ p < 8192, (at_ s' half (ru (hf row half)) p).toNat = place T row (half * 8192 + sg (hf row half) p) := fun p hp => by
    have := place_lt T row (hlt p hp)
    rw [hat p hp, BitVec.toNat_ofNat, Nat.mod_eq_of_lt (by omega)]
  have hap : Apart s' half (ru (hf row half)) := by
    refine ⟨fun p hp => by rw [hnat p hp]; exact place_lt T row (hlt p hp), fun p hp q hq e => sg_inj (f := hf row half) hp hq ?_⟩
    rw [hnat p hp, hnat q hq] at e
    have := place_inj T row (hlt p hp) (hlt q hq) e
    omega
  obtain ⟨h81, h82⟩ := h8 (hpk.packs (by omega))
  refine ⟨fun r hr' => ?_, fun g hg hgh => ?_⟩
  · obtain ⟨p, hp, rfl⟩ := sg_surj (f := hf row half) hr'
    have := hr p hp
    rw [Nat.add_sub_cancel_left, hat p hp] at this
    exact this
  · by_cases hown : g / 8192 = half
    · obtain ⟨p, hp, hpe⟩ := sg_surj (f := hf row half) (i := g % 8192) (by omega)
      have hge : half * 8192 + sg (hf row half) p = g := by rw [hpe]; omega
      have hpl := hnat p hp
      rw [hge] at hpl
      rw [h82 _ (by omega) (fun j hj hj' e => ?_)]
      · have := h1 hap p hp (by rw [hpl]; exact hgh)
        rw [hpl, hge] at this
        exact this
      · have hj2 := (sg_spec (hf row (1 - half)) hj).1
        have := place_inj T row (g := (1 - half) * 8192 + sg (hf row (1 - half)) j) (by omega) hg (by omega)
        omega
    · obtain ⟨j, hj, hje⟩ := sg_surj (f := hf row (1 - half)) (i := g % 8192) (by omega)
      have hge : (1 - half) * 8192 + sg (hf row (1 - half)) j = g := by rw [hje]; omega
      have := h81 j hj (by rw [hge]; exact hgh)
      rw [hge] at this
      exact this

end Cert.Proof.Tile
-- ==== Proof.Exchange.lean ====
/-
  The two meetings of a SparseCore's tiles at their barrier, and the boxes in which a tile leaves a row for its neighbour.
  A barrier semaphore receives thirty-two units, two from every tile. One round of it holds all of them: a tile may take its
  first sixteen while a faster tile has already sent its second. What the units carry are facts alone: that the sender has
  filled its box. A row itself stays in the box until the neighbour, shown that fact, takes it.
-/
module

public import proofs.«01_k».proof.Defs
public import proofs.«01_k».proof.Proof.Lanes
public import proofs.«01_k».proof.Proof.Gen.KernelIdeal
public import proofs.«01_k».proof.Proof.Gen.KernelIdeal.Skeleton
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Tile
public import proofs.«01_k».proof.Proof.Row

@[expose] public section

noncomputable section

namespace Cert.Proof.Tile

open Cert.KernelIdeal Cert.KernelIdeal.Gen
open Cert.Proof.Lanes

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable {d : Dev nD} {L : grid0.Coords} {α β : Type} {s : St} {Q : α → St → Prop}

theorem nSub_eq : τ.nSub = 16 := rfl
theorem bound_one : grid0.bound 1 = 16 := rfl
abbrev jL (L : grid0.Coords) : Fin 16 := Fin.cast bound_one (L 1)

/-- The call has two stages, one for each meeting. -/
@[reducible] def stages : SparseCore.Cfg.Blocks 1 2 where
  first := fun _ => 0
  last := fun _ => 1
  fst := fun k => if k = 0 then 0 else 2
  blk := fun _ ι => ∃ j, ι = some j
  first_le_last := fun _ => by decide
  fst_val := fun q => by obtain rfl : q = 0 := Subsingleton.elim _ _; rfl
  fst_le := fun k q h => by
    obtain rfl : q = 0 := Subsingleton.elim _ _
    obtain rfl : k = 0 := Nat.le_zero.mp h
    exact le_rfl
  last_lt_fst := fun q => by obtain rfl : q = 0 := Subsingleton.elim _ _; decide
  blk_iff := fun _ ι => ⟨fun ⟨j, h⟩ => ⟨j, Fin.le_def.mpr (Nat.zero_le _), Fin.le_def.mpr (Nat.le_of_lt_succ j.isLt), h⟩, fun ⟨j, _, _, h⟩ => ⟨j, h⟩⟩

attribute [local instance] stages

/-! ## The boxes -/

/-- A box: not yet filled, or filled and holding `R` or, once emptied, the token of the neighbour that emptied it. -/
def Box (g : GSem nD τ sig) (R : sProp 𝕄) : sProp 𝕄 :=
  iprop(roundAuth EB g 0 ∅ 0 ∨ (roundAuth EB g 1 ∅ 0 ∗ (R ∨ dutyTok EB g 0 0)))

instance Box_storable (g : GSem nD τ sig) (R : sProp 𝕄) [BI.Storable (upEmb : UEmb _ 𝕄) R] : BI.Storable (upEmb : UEmb _ 𝕄) (Box g R) := by
  unfold Box; infer_instance

theorem Box.fill {κ : ℕ} {g : GSem nD τ sig} {R : sProp 𝕄} :
    iprop(inv κ (Box g R) ∗ atPos EB g 0 ∅ 0 ∗ R) ⊢ iprop(|={Set.univ}=> reached EB g 1 : sProp 𝕄) := by
  iintro ⟨Hinv, Hat, HR⟩
  imod (inv_acc (Set.mem_univ κ)) $$ Hinv with ⟨Hb, Hclose⟩
  unfold Box
  icases Hb with (Ha | ⟨Ha, Hb⟩)
  · imod (Rounds.roundAuth_atPos_move (E := EB) 1 ∅ 0 (Nat.zero_le 1)) $$ [Ha Hat] with ⟨Ha, Hat⟩
    · isplitl [Ha] <;> iassumption
    imod (Rounds.roundAuth_witness (E := EB)) $$ Ha with ⟨Ha, Hr⟩
    ihave Hc := Hclose $$ [Ha HR]
    · iright; isplitl [Ha]; · iexact Ha
      ileft; iexact HR
    imod Hc
    imodintro; iexact Hr
  · ihave H := (Rounds.roundAuth_atPos_agree (E := EB)) $$ [Ha Hat]
    · isplitl [Ha] <;> iassumption
    icases H with %h
    exact absurd h.1 (by decide)

theorem Box.empty {κ : ℕ} {g : GSem nD τ sig} {R : sProp 𝕄} :
    iprop(inv κ (Box g R) ∗ reached EB g 1 ∗ dutyTok EB g 0 0) ⊢ iprop(|={Set.univ}=> R : sProp 𝕄) := by
  iintro ⟨Hinv, Hr, Ht⟩
  imod (inv_acc (Set.mem_univ κ)) $$ Hinv with ⟨Hb, Hclose⟩
  unfold Box
  icases Hb with (Ha | ⟨Ha, (HR | Ht')⟩)
  · ihave H := (Rounds.roundAuth_reached_le (E := EB)) $$ [Ha Hr]
    · isplitl [Ha] <;> iassumption
    icases H with %h
    exact absurd h (by decide)
  · ihave Hc := Hclose $$ [Ha Ht]
    · iright; isplitl [Ha]; · iexact Ha
      iright; iexact Ht
    imod Hc
    imodintro; iexact HR
  · iexfalso
    iapply (Rounds.dutyTok_dutyTok_false (E := EB))
    isplitl [Ht] <;> iassumption

/-! ## The barrier's cells -/

/-- A tile's barrier semaphore. -/
abbrev bcell (d : Dev nD) (c : Fin τ.nSC) (j : Fin τ.nSub) : GSem nD τ sig := (V d c j, .reg sc_bar0)
/-- The names of a tile's two boxes. -/
abbrev key1 (d : Dev nD) (c : Fin τ.nSC) (x : Fin 16) : GSem nD τ sig := (V d c (Fin.cast nSub_eq.symm x), .dma cc0_scoped1.sem)
abbrev key2 (d : Dev nD) (c : Fin τ.nSC) (x : Fin 16) : GSem nD τ sig := (V d c (Fin.cast nSub_eq.symm x), .dma cc0_scoped5.sem)

def isBar (g : GSem nD τ sig) : Bool :=
  match g with
  | ((_, .scVector _ _), sm) => decide (sm = .reg sc_bar0)
  | _ => false

@[simp] theorem isBar_bcell (d : Dev nD) (c : Fin τ.nSC) (j : Fin τ.nSub) : isBar (bcell d c j) = true := by simp [isBar]

/-- What a unit tells: of the first sixteen, that the sender has filled its first box; of the second sixteen, that it has filled its second
and that every tile has filled its first. -/
def tells (d : Dev nD) (c : Fin τ.nSC) (n : ℕ) : sProp 𝕄 :=
  if n < 16 then reached EB (key1 d c (Fin.ofNat 16 n)) 1
  else iprop(reached EB (key2 d c (Fin.ofNat 16 n)) 1 ∗ bigSep Finset.univ fun x : Fin 16 => reached EB (key1 d c x) 1)

instance tells_persistent (d : Dev nD) (c : Fin τ.nSC) (n : ℕ) : BI.Persistent (tells (F := F) d c n) := by
  unfold tells; split <;> infer_instance
instance tells_storable (d : Dev nD) (c : Fin τ.nSC) (n : ℕ) : BI.Storable (upEmb : UEmb _ 𝕄) (tells (F := F) d c n) := by
  unfold tells; split <;> infer_instance

def bPay (g : GSem nD τ sig) (n : ℕ) : sProp 𝕄 :=
  match g with
  | ((d, .scVector c _), _) => tells d c n
  | _ => iprop(emp)

/-- One round on each barrier cell, of thirty-two units. -/
def bRd : Rounds.Schedule (GSem nD τ sig) ℕ 𝕄 where
  duties g r := if isBar g ∧ r = 0 then Finset.range 32 else ∅
  amount _ _ _ := 1
  payload g _ n := bPay g n
  amount_pos _ _ _ _ := Nat.one_pos

instance bRd_payload_storable (g : GSem nD τ sig) (r n : ℕ) : BI.Storable (upEmb : UEmb _ 𝕄) ((bRd (F := F)).payload g r n) := by
  show BI.Storable upEmb (bPay g n)
  unfold bPay
  rcases g with ⟨⟨d, _ | c | ⟨c, i⟩⟩, sm⟩ <;> dsimp only <;> infer_instance

theorem bRd_duties₀ (d : Dev nD) (c : Fin τ.nSC) (j : Fin τ.nSub) : (bRd (F := F)).duties (bcell d c j) 0 = Finset.range 32 := by
  simp [bRd, isBar]
theorem bRd_duties_succ (g : GSem nD τ sig) (r : ℕ) (hr : 1 ≤ r) : (bRd (F := F)).duties g r = ∅ :=
  if_neg fun h => absurd h.2 (Nat.ne_of_gt hr)
theorem bRd_expect (d : Dev nD) (c : Fin τ.nSC) (j : Fin τ.nSub) : (bRd (F := F)).expect (bcell d c j) 0 = 32 := by
  unfold Rounds.Schedule.expect; rw [bRd_duties₀]
  show (∑ x ∈ Finset.range 32, 1) = 32
  simp

/-- A unit on every tile's cell, at one stage. -/
def units (d : Dev nD) (c : Fin τ.nSC) (st : Fin 2) : CellTallies nD τ sig (HIx 2) := ∑ j : Fin (grid0.bound 1), tallyAt (bcell d c (j.castLE hsub0)) (some st) 1

/-- What every tile of a SparseCore holds alike: the barrier cells' invariants, and that their rounds have begun. -/
def cellsOf (d : Dev nD) (c : Fin τ.nSC) : sProp 𝕄 :=
  iprop((∃ κ : GSem nD τ sig → ℕ, bigSep Finset.univ fun j : Fin (grid0.bound 1) =>
      cellInv EB (bRd (F := F)) (κ (bcell d c (j.castLE hsub0))) (bcell d c (j.castLE hsub0)))
    ∗ (bigSep Finset.univ fun j : Fin (grid0.bound 1) => reached EB (bcell d c (j.castLE hsub0)) 0))

instance cellsOf_persistent (d : Dev nD) (c : Fin τ.nSC) : BI.Persistent (cellsOf (F := F) d c) := by unfold cellsOf; infer_instance

section
variable {d : Dev nD} {c : Fin τ.nSC} {i : Fin τ.nSub} {α : Type}

/-- A tile's units sent, one to every tile. -/
theorem wp_arrive (κ : GSem nD τ sig → ℕ) (n : ℕ) (hn : n < 32) (ι : HIx 2) (O : CellTallies nD τ sig (HIx 2)) (W : Waits sig (HIx 2))
    {k : Prog (TpuEff nD τ sig (Elt F) Λ₀ (.scVector c i)) α} {Q : α → sProp 𝕄} (l : List (Fin (grid0.bound 1))) (hl : l.Nodup) :
    iprop((bigSep Finset.univ fun j : Fin (grid0.bound 1) => cellInv EB (bRd (F := F)) (κ (bcell d c (j.castLE hsub0))) (bcell d c (j.castLE hsub0)))
        ∗ (bigSep Finset.univ fun j : Fin (grid0.bound 1) => reached EB (bcell d c (j.castLE hsub0)) 0)
        ∗ tells d c n ∗ owes (V d c i) (O + ∑ j ∈ l.toFinset, tallyAt (bcell d c (j.castLE hsub0)) ι 1) W
        ∗ (bigSep l.toFinset fun j : Fin (grid0.bound 1) => dutyTok EB (bcell d c (j.castLE hsub0)) 0 n)
        ∗ (owes (V d c i) O W -∗ wp frame (wpE (defs₀ (F := F)) 𝒱₀ (V d c i) none) Set.univ k Q))
      ⊢ wp frame (wpE (defs₀ (F := F)) 𝒱₀ (V d c i) none) Set.univ
          (l.foldr (fun j r => .op (TpuEff.semSignal (d, .scVector c (j.castLE hsub0)) sc_bar0 1) fun _ => r) k) Q := by
  induction l with
  | nil =>
    rw [List.toFinset_nil, List.foldr_nil, Finset.sum_empty, add_zero]
    iintro ⟨-, -, -, HO, -, Hk⟩
    iapply Hk; iexact HO
  | cons j l ih =>
    have hj : j ∉ l.toFinset := fun h => (List.nodup_cons.mp hl).1 (List.mem_toFinset.mp h)
    rw [List.toFinset_cons, List.foldr_cons, SparseCore.bigSep_insert' hj, Finset.sum_insert hj]
    iintro ⟨#Hinv, #Hr, #Ht, HO, ⟨Htok, Htoks⟩, Hk⟩
    iapply (Rounds.wp_signal 𝒱₀ EB (bRd (F := F)) (V d c i) none (dst := V d c (j.castLE hsub0)) (sem := sc_bar0) (r := 0) (d := n) (k' := 1)
        (κ := κ (bcell d c (j.castLE hsub0))) (by rw [bRd_duties₀]; exact Finset.mem_range.mpr hn) rfl ι
        (O₀ := O + (tallyAt (bcell d c (j.castLE hsub0)) ι 1 + ∑ j ∈ l.toFinset, tallyAt (bcell d c (j.castLE hsub0)) ι 1))
        (O := O + ∑ j ∈ l.toFinset, tallyAt (bcell d c (j.castLE hsub0)) ι 1) (by rw [add_left_comm, add_comm]) (W := W)) $$ [HO Htok]
    · isplitr
      · iapply (SparseCore.ent (bigSep_elim (Φ := fun j : Fin (grid0.bound 1) => (cellInv EB (bRd (F := F)) (κ (bcell d c (j.castLE hsub0))) (bcell d c (j.castLE hsub0)) : sProp 𝕄)) (Finset.mem_univ j))); iexact Hinv
      isplitl [HO]; · iexact HO
      isplitl [Htok]; · iexact Htok
      isplitr; · iapply (show tells (F := F) d c n ⊢ (bRd (F := F)).payload (bcell d c (j.castLE hsub0)) 0 n from .rfl); iexact Ht
      iapply (SparseCore.ent (bigSep_elim (Φ := fun j : Fin (grid0.bound 1) => (reached EB (bcell d c (j.castLE hsub0)) 0 : sProp 𝕄)) (Finset.mem_univ j))); iexact Hr
    iintro HO
    iapply (ih (List.nodup_cons.mp hl).2)
    isplitr; · iexact Hinv
    isplitr; · iexact Hr
    isplitr; · iexact Ht
    isplitl [HO]; · iexact HO
    isplitl [Htoks] <;> iassumption
end

/-! ## The two meetings -/

theorem lev_bcell (d : Dev nD) (c : Fin τ.nSC) (j : Fin τ.nSub) (st : Fin 2) : (K (F := F)).lev (bcell d c j) (some st) = 8 * st.val + 3 :=
  (K (F := F)).lev_V_reg d c j (show (sc_bar0 : Sem sig) ≠ sc_go by decide) st

theorem units_pos {d : Dev nD} {c : Fin τ.nSC} {st : Fin 2} {g : GSem nD τ sig} {ι : HIx 2} (h : 0 < units d c st g ι) :
    (∃ j : Fin (grid0.bound 1), g = bcell d c (j.castLE hsub0)) ∧ ι = some st := by
  unfold units at h
  rw [Finset.sum_apply, Finsupp.finsetSum_apply] at h
  obtain ⟨j, -, hj⟩ := Finset.exists_ne_zero_of_sum_ne_zero (Nat.pos_iff_ne_zero.mp h)
  rw [tallyAt_apply] at hj
  by_cases e : g = bcell d c (j.castLE hsub0) ∧ ι = some st
  · exact ⟨⟨j, e.1⟩, e.2⟩
  · exact absurd (if_neg e) hj

section
variable {d : Dev nD} {c : Fin τ.nSC} {i : Fin τ.nSub} {α : Type}

/-- Whichever sixteen of the thirty-two units a tile has taken, it knows that every tile has filled its first box. -/
theorem all_first {S : Finset ℕ} (hS : S ⊆ Finset.range 32) (hc : 16 + (Finset.range 32 \ S).card ≤ 32) :
    (bigSep S fun n => tells (F := F) d c n) ⊢ (bigSep Finset.univ fun x : Fin 16 => reached EB (key1 d c x) 1 : sProp 𝕄) := by
  have hcard : (Finset.range 32 \ S).card + S.card = 32 := by
    rw [Finset.card_sdiff_of_subset hS]
    have := Finset.card_le_card hS
    rw [Finset.card_range] at this ⊢
    omega
  by_cases hx : ∃ n ∈ S, 16 ≤ n
  · obtain ⟨n, hn, h16⟩ := hx
    have hn' : tells (F := F) d c n ⊢ (bigSep Finset.univ fun x : Fin 16 => reached EB (key1 d c x) 1 : sProp 𝕄) := by
      unfold tells
      rw [if_neg (Nat.not_lt.mpr h16)]
      iintro ⟨-, H⟩
      iexact H
    exact BIBase.Entails.trans (bigSep_elim (Φ := fun n => tells (F := F) d c n) hn) hn'
  · have hsub : S ⊆ Finset.range 16 := fun n hn => Finset.mem_range.mpr (Nat.lt_of_not_le fun h => hx ⟨n, hn, h⟩)
    have hcS : (Finset.range 16).card ≤ S.card := by rw [Finset.card_range]; omega
    rw [Finset.eq_of_subset_of_card_le hsub hcS]
    iintro #H
    iapply (SparseCore.ent (bigSep_intro_persistent (S := Finset.univ) (R := (bigSep (Finset.range 16) fun n => tells (F := F) d c n : sProp 𝕄)) (Φ := fun x : Fin 16 => (reached EB (key1 d c x) 1 : sProp 𝕄)) fun x _ => by
      have h := bigSep_elim (Φ := fun n => tells (F := F) d c n) (Finset.mem_range.mpr x.isLt)
      rwa [show tells (F := F) d c x.val = reached EB (key1 d c x) 1 by
        unfold tells; rw [if_pos x.isLt, Fin.ofNat_val_eq_self x]] at h)); iexact H

/-- All thirty-two units taken, in two parts, a tile knows that every tile has filled its second box. -/
theorem all_second (S : Finset ℕ) :
    iprop((bigSep S fun n => tells (F := F) d c n) ∗ bigSep (Finset.range 32 \ S) fun n => tells (F := F) d c n)
      ⊢ (bigSep Finset.univ fun x : Fin 16 => reached EB (key2 d c x) 1 : sProp 𝕄) := by
  refine bigSep_intro_persistent fun x _ => ?_
  have hx : tells (F := F) d c (16 + x.val) ⊢ reached EB (key2 d c x) 1 := by
    unfold tells
    rw [if_neg (by omega), show Fin.ofNat 16 (16 + x.val) = x from Fin.ext (show (16 + x.val) % 16 = x.val by omega)]
    iintro ⟨H, -⟩; iexact H
  refine BIBase.Entails.trans ?_ hx
  by_cases hS : 16 + x.val ∈ S
  · iintro ⟨H, -⟩
    iapply (SparseCore.ent (bigSep_elim (Φ := fun n => tells (F := F) d c n) hS)); iexact H
  · iintro ⟨-, H⟩
    iapply (SparseCore.ent (bigSep_elim (Φ := fun n => tells (F := F) d c n) (Finset.mem_sdiff.mpr ⟨(Finset.mem_range.mpr (by omega) : 16 + x.val ∈ Finset.range 32), hS⟩))); iexact H

theorem wp_meet1 (me : Fin (grid0.bound 1)) (hme : me.castLE hsub0 = i) (O : CellTallies nD τ sig (HIx 2)) (W : Waits sig (HIx 2))
    (hO : ∀ g ι, 0 < O g ι → 8 * 0 + 3 < (K (F := F)).lev g ι)
    {k : PUnit → Prog (TpuEff nD τ sig (Elt F) Λ₀ (.scVector c i)) α} {Q : α → sProp 𝕄} :
    iprop(levAts (K (F := F)).L (K (F := F)).lev ∗ cellsOf (F := F) d c ∗ tells d c me.val
        ∗ owes (V d c i) (O + units d c 0) W
        ∗ (bigSep Finset.univ fun j : Fin (grid0.bound 1) => dutyTok EB (bcell d c (j.castLE hsub0)) 0 me.val)
        ∗ cred (tallyAt (bcell d c i) (some 0) 16) ∗ atPos EB (bcell d c i) 0 ∅ 0)
      ⊢ iprop((iprop(owes (V d c i) O (W ∪ {(SemLoc.reg sc_bar0, some 0)})
              ∗ (bigSep Finset.univ fun x : Fin 16 => reached EB (key1 d c x) 1)
              ∗ (∃ S, atPos EB (bcell d c i) 0 S 16 ∗ bigSep S fun n => tells (F := F) d c n))
            -∗ wp frame (wpE (defs₀ (F := F)) 𝒱₀ (V d c i) none) Set.univ (k ⟨⟩) Q)
          -∗ wp frame (wpE (defs₀ (F := F)) 𝒱₀ (V d c i) none) Set.univ (SparseCore.subcoreBarrier sc_bar0 (grid0.bound 1) hsub0 >>= k) Q) := by
  rw [SparseCore.subcoreBarrier_bind, show (wp frame (wpE (defs₀ (F := F)) 𝒱₀ (V d c i) none) Set.univ (.op .deviceId _) Q : sProp 𝕄) = _ from wp_deviceId 𝒱₀ (V d c i) none Set.univ]
  unfold cellsOf
  iintro ⟨#Hlev, ⟨⟨%κ, #Hinv⟩, #Hr⟩, #Ht, HO, Htoks, Hcred, Hat⟩ Hk
  have h := wp_arrive (F := F) (d := d) (c := c) (i := i) (Q := Q) κ me.val (lt_trans me.isLt (by decide)) (some 0) O W (k := .op (TpuEff.semWait sc_bar0 (grid0.bound 1)) k) _ (List.nodup_finRange _)
  rw [List.toFinset_finRange] at h
  iapply h
  isplitr; · iexact Hinv
  isplitr; · iexact Hr
  isplitr; · iexact Ht
  isplitl [HO]; · unfold units; iexact HO
  isplitl [Htoks]; · iexact Htoks
  iintro HO
  iapply (Rounds.wp_wait 𝒱₀ EB (bRd (F := F)) (V d c i) none (sm := .reg sc_bar0) (k' := grid0.bound 1) (κ := κ (V d c i, .reg sc_bar0))
      (wpE_semWait_eq 𝒱₀ (V d c i) none Set.univ) (Set.mem_univ _) (cr := Finsupp.single (some 0) 16) (O := O) (W := W) {(.reg sc_bar0, some 0)}
      (R := 0) (m := 0) (T := ∅) (by rw [Util.total_single]; rfl) (image_single_subset (.reg sc_bar0) (some 0) 16)) $$ [Hcred HO Hat]
  · isplitr
    · subst hme
      iapply (SparseCore.ent (bigSep_elim (Φ := fun j : Fin (grid0.bound 1) => (cellInv EB (bRd (F := F)) (κ (bcell d c (j.castLE hsub0))) (bcell d c (j.castLE hsub0)) : sProp 𝕄)) (Finset.mem_univ me))); iexact Hinv
    isplitl [Hcred]; · iexact Hcred
    isplitl [HO]; · iexact HO
    isplitr
    · iapply ((K (F := F)).mayOwe_of_bound (thr := V d c i) 3 (fun p hp => by
        rw [Finset.mem_singleton] at hp; subst hp; exact le_of_eq (lev_bcell d c i 0)) hO); iexact Hlev
    iexact Hat
  iintro %S ⟨%hS, HO, Hat, Hp⟩
  obtain ⟨-, hS, hc⟩ := hS
  rw [bRd_duties₀] at hS
  rw [bRd_duties₀, bRd_expect] at hc
  rw [Finset.sdiff_empty]
  iapply Hk
  isplitl [HO]; · iexact HO
  ihave #Hp' := (show (bigSep S fun n => (bRd (F := F)).payload (V d c i, .reg sc_bar0) 0 n) ⊢ bigSep S fun n => tells (F := F) d c n from .rfl) $$ Hp
  isplitr
  · iapply (all_first (F := F) (d := d) (c := c) hS (le_trans (by rw [bound_one]) hc)); iexact Hp'
  iexists S
  isplitl [Hat]; · iexact Hat
  iexact Hp'

theorem wp_meet2 (me : Fin (grid0.bound 1)) (hme : me.castLE hsub0 = i) (O : CellTallies nD τ sig (HIx 2)) (W : Waits sig (HIx 2))
    (hO : ∀ g ι, 0 < O g ι → 8 * 1 + 3 < (K (F := F)).lev g ι) (S : Finset ℕ)
    {k : PUnit → Prog (TpuEff nD τ sig (Elt F) Λ₀ (.scVector c i)) α} {Q : α → sProp 𝕄} :
    iprop(levAts (K (F := F)).L (K (F := F)).lev ∗ cellsOf (F := F) d c ∗ tells d c (16 + me.val)
        ∗ owes (V d c i) (O + units d c 1) W
        ∗ (bigSep Finset.univ fun j : Fin (grid0.bound 1) => dutyTok EB (bcell d c (j.castLE hsub0)) 0 (16 + me.val))
        ∗ cred (tallyAt (bcell d c i) (some 1) 16) ∗ atPos EB (bcell d c i) 0 S 16 ∗ bigSep S fun n => tells (F := F) d c n)
      ⊢ iprop((iprop(owes (V d c i) O (insert (SemLoc.reg sc_bar0, some 1) W)
              ∗ atPos EB (bcell d c i) 1 ∅ 0
              ∗ (bigSep Finset.univ fun x : Fin 16 => reached EB (key2 d c x) 1))
            -∗ wp frame (wpE (defs₀ (F := F)) 𝒱₀ (V d c i) none) Set.univ (k ⟨⟩) Q)
          -∗ wp frame (wpE (defs₀ (F := F)) 𝒱₀ (V d c i) none) Set.univ (SparseCore.subcoreBarrier sc_bar0 (grid0.bound 1) hsub0 >>= k) Q) := by
  rw [SparseCore.subcoreBarrier_bind, show (wp frame (wpE (defs₀ (F := F)) 𝒱₀ (V d c i) none) Set.univ (.op .deviceId _) Q : sProp 𝕄) = _ from wp_deviceId 𝒱₀ (V d c i) none Set.univ]
  unfold cellsOf
  iintro ⟨#Hlev, ⟨⟨%κ, #Hinv⟩, #Hr⟩, #Ht, HO, Htoks, Hcred, Hat, #HS⟩ Hk
  have h := wp_arrive (F := F) (d := d) (c := c) (i := i) (Q := Q) κ (16 + me.val) (Nat.add_lt_add_left (show me.val < 16 from me.isLt) 16) (some 1) O W (k := .op (TpuEff.semWait sc_bar0 (grid0.bound 1)) k) _ (List.nodup_finRange _)
  rw [List.toFinset_finRange] at h
  iapply h
  isplitr; · iexact Hinv
  isplitr; · iexact Hr
  isplitr; · iexact Ht
  isplitl [HO]; · unfold units; iexact HO
  isplitl [Htoks]; · iexact Htoks
  iintro HO
  iapply (Rounds.wp_wait_rest_token 𝒱₀ EB (bRd (F := F)) (V d c i) none (sm := .reg sc_bar0) (k' := grid0.bound 1) (κ := κ (V d c i, .reg sc_bar0))
      (wpE_semWait_eq 𝒱₀ (V d c i) none Set.univ) (Set.mem_univ _) (some 1) (O := O) (W := W)
      (R := 0) (m := 16) (T := S) (by rw [bRd_expect]; rfl)) $$ [Hcred HO Hat]
  · isplitr
    · subst hme
      iapply (SparseCore.ent (bigSep_elim (Φ := fun j : Fin (grid0.bound 1) => (cellInv EB (bRd (F := F)) (κ (bcell d c (j.castLE hsub0))) (bcell d c (j.castLE hsub0)) : sProp 𝕄)) (Finset.mem_univ me))); iexact Hinv
    isplitl [Hcred]; · iexact Hcred
    isplitl [HO]; · iexact HO
    isplitr
    · iapply ((K (F := F)).mayOwe_of_bound (thr := V d c i) 11 (fun p hp => by
        rw [Finset.mem_singleton] at hp; subst hp; exact le_of_eq (lev_bcell d c i 1)) hO); iexact Hlev
    iexact Hat
  rw [bRd_duties₀]
  iintro ⟨HO, Hat, -, Hp⟩
  ihave #Hp' := (show (bigSep (Finset.range 32 \ S) fun n => (bRd (F := F)).payload (V d c i, .reg sc_bar0) 0 n) ⊢ bigSep (Finset.range 32 \ S) fun n => tells (F := F) d c n from .rfl) $$ Hp
  iapply Hk
  isplitl [HO]; · iexact HO
  isplitl [Hat]; · iexact Hat
  iapply (all_second (F := F) (d := d) (c := c) S)
  isplitr <;> iassumption
end

end Cert.Proof.Tile
-- ==== Proof.Gather.lean ====
/-
  A wave of gathers: eight lists of 128 indices each name 1024 elements of the template, all brought under one
  semaphore; the tile waits for every one of them before it goes on.
-/
module

public import proofs.«01_k».proof.Defs
public import proofs.«01_k».proof.Proof.Lanes
public import proofs.«01_k».proof.Proof.Gen.KernelIdeal
public import proofs.«01_k».proof.Proof.Gen.KernelIdeal.Skeleton
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Tile
public import proofs.«01_k».proof.Proof.Exchange

@[expose] public section

noncomputable section

namespace Cert.Proof.Tile

open Cert.KernelIdeal Cert.KernelIdeal.Gen
open Cert.Proof.Lanes

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable {d : Dev nD} {L : grid0.Coords} {α β : Type} {s : St} {Q : α → St → Prop}

attribute [local instance] stages

section Issue

variable {c : Thread nD τ} {sp : Space} {s₀ s si : Shape} {e : EltTy} {a : ℕ} {n : ℕ}

/-- The next `m` of a family, taken one by one. -/
theorem bigSep_take (X : Fin n → sProp 𝕄) : ∀ (m k : ℕ) (h : k + m ≤ n),
    bigSep (Transfers.pending k) X ⊢ iprop((bigSep Finset.univ fun j : Fin m => X ⟨k + j.val, by omega⟩) ∗ bigSep (Transfers.pending (k + m)) X)
  | 0, k, h => by
    rw [Finset.univ_eq_empty, BI.bigSep_empty]
    iintro H; isplitr
    · iempintro
    · iexact H
  | m + 1, k, h => by
    rw [Transfers.bigSep_pending_step X k (by omega), bigSep_univ_succ]
    iintro ⟨H0, H⟩
    ihave H' := bigSep_take X m (k + 1) (by omega) $$ H
    icases H' with ⟨H1, H2⟩
    isplitl [H0 H1]
    · isplitl [H0]
      · iapply (Entails.of_eq (show X ⟨k, Nat.lt_of_lt_of_le (Nat.lt_add_of_pos_right (Nat.succ_pos m)) h⟩ = X ⟨k + (0 : Fin (m + 1)).val, Nat.lt_of_lt_of_le (Nat.lt_add_of_pos_right (Nat.succ_pos m)) h⟩ from congrArg X (Fin.ext rfl)))
        iexact H0
      rw [show (fun j : Fin m => X ⟨k + j.succ.val, by have := j.isLt; rw [Fin.val_succ]; omega⟩) = fun j : Fin m => X ⟨k + 1 + j.val, by omega⟩ from
        funext fun j => congrArg X (Fin.ext (by show k + (j.val + 1) = k + 1 + j.val; omega))]
      iexact H1
    · rw [show k + (m + 1) = k + 1 + m by omega]; iexact H2

/-- The rows of one gather join a batch: what each needs is taken from a pool `P`, and what each delivers is the batch's next. -/
theorem wp_gatherBatch {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ₀ c.2) α} {Q : α → sProp 𝕄}
    {qk : Fin (s.size hg.axis') → PosShare TreeShare} {qo : PosShare TreeShare}
    {fs : Buf (Elt F) (src.view.loc c)} {fd : Buf (Elt F) (dst.view.loc c)} {fo : Buf (Elt F) (offs.view.loc c)}
    (ι : HIx 2) (N : ℕ) (hN : ∀ j, (dst.slice (s.rowRect hg.axis' j) (s.stride_rowRect hg.axis' j)).view.dmaCredit = N)
    (hin : ∀ x, (offs.view.read (Elt F) fo x).toNat < s₀.size hg.axis)
    (m k0 : ℕ) (hm : s.size hg.axis' = m) (hk0 : k0 + m ≤ n) (P D : Fin n → sProp 𝕄)
    (hP : ∀ j : Fin (s.size hg.axis'), P ⟨k0 + j.val, by omega⟩
      ⊢ iprop(((dst.view.loc c ↦[(dst.view.slice (s.rowRect hg.axis' j)).set]{fullShare} fd)
        ∗ (offs.view.loc c ↦[{offs.view.emb (si.rowMajor.symm (j.cast hn.symm))}]{qo} fo)) ∗ (src.view.loc c ↦[src.view.set]{qk j} fs)))
    (hD : ∀ j : Fin (s.size hg.axis'), iprop(((dst.view.loc c ↦[(dst.view.slice (s.rowRect hg.axis' j)).set]{fullShare}
          ((dst.view.slice (s.rowRect hg.axis' j)).write (Elt F) fd
            (fun i => src.view.read (Elt F) fs (hg.rowIdx (SparseCore.rows (offs.view.read (Elt F) fo) hn hin j) i)) Finset.univ))
        ∗ (offs.view.loc c ↦[{offs.view.emb (si.rowMajor.symm (j.cast hn.symm))}]{qo} fo)) ∗ (src.view.loc c ↦[src.view.set]{qk j} fs))
      ⊢ D ⟨k0 + j.val, by omega⟩) :
    iprop(bigSep (Transfers.pending k0) P ∗ Transfers.Batch countersEmb c (.dma sem) ι N D k0 0)
      ⊢ iprop((iprop(bigSep (Transfers.pending (k0 + m)) P ∗ Transfers.Batch countersEmb c (.dma sem) ι N D (k0 + m) 0)
              -∗ wp frame (wpE (defs₀ (F := F)) 𝒱₀ c none) Set.univ (k ⟨⟩) Q)
          -∗ wp frame (wpE (defs₀ (F := F)) 𝒱₀ c none) Set.univ (SparseCore.enqueueIndirectGather hp src dst hg offs hn sem hsrc he hsp hr >>= k) Q) := by
  subst hm
  rw [SparseCore.enqueueIndirectGather_bind]
  let S : Stream nD τ sig (Elt F) :=
    Stream.issued c offs.view hn sem (fun j w => (SparseCore.rowOf (s₀.size hg.axis) w).map (SparseCore.gatherRow c src dst hg sem hsrc he hsp hr j)) 0
  let r : Fin (s.size hg.axis') → Fin (s₀.size hg.axis) := SparseCore.rows (offs.view.read (Elt F) fo) hn hin
  let rd : Fin (s.size hg.axis') → RowDma τ sig (Elt F) c.2 sem := fun j => SparseCore.gatherRow c src dst hg sem hsrc he hsp hr j (r j)
  have hA : S.RowsAgree := by
    intro j x x' ρ ρ' h h'
    obtain ⟨_, _, rfl⟩ := Option.map_eq_some_iff.mp h
    obtain ⟨_, _, rfl⟩ := Option.map_eq_some_iff.mp h'
    rfl
  have hrd : ∀ j, S.row j (S.word fo j) = some (rd j) := fun j => by
    change (SparseCore.rowOf (s₀.size hg.axis) (offs.view.read (Elt F) fo (S.entry j))).map _ = _
    rw [SparseCore.rowOf_of_lt (hin _)]; rfl
  have hsum : ∑ j, (rd j).dst.view.dmaCredit = s.size hg.axis' * N := by
    rw [Finset.sum_congr rfl fun j _ => hN j, Finset.sum_const, Finset.card_univ, Fintype.card_fin, smul_eq_mul]
  unfold Transfers.Batch
  iintro ⟨HP, %γ, %γ₀, %κ, #Hinv, HI, H0, Hcred⟩ Hk
  ihave HP' := bigSep_take P (s.size hg.axis') k0 hk0 $$ HP
  icases HP' with ⟨HP1, HP2⟩
  ihave HI' := bigSep_take (fun t => count countersEmb (γ t) 0) (s.size hg.axis') k0 hk0 $$ HI
  icases HI' with ⟨HI1, HI2⟩
  iapply (wp_enqueueIndirectDma 𝒱₀ c none Set.univ (qo := qo) (fo := fo) (rd := rd) ι (s.size hg.axis' * N) hA hrd hsum) $$ [HP1 HI1]
  · have hrow : ∀ j : Fin (s.size hg.axis'), iprop(inv κ (Transfers.batchBody countersEmb (c, SemLoc.dma sem) N D γ γ₀)
          ∗ (P ⟨k0 + j.val, by omega⟩ ∗ count countersEmb (γ ⟨k0 + j.val, by omega⟩) 0))
        ⊢ iprop(S.heldEntry qo fo j ∗ (S.heldEntry qo fo j -∗ rowRes c (rd j))) := fun j => by
      iintro ⟨#Hinv, HPj, Hγj⟩
      ihave HPj' := hP j $$ HPj
      icases HPj' with ⟨⟨Hr, He⟩, Hsq⟩
      isplitl [He]; · iexact He
      iintro He
      unfold rowRes
      iexists qk j, fs, iprop((dst.view.loc c ↦[(dst.view.slice (s.rowRect hg.axis' j)).set]{fullShare} ((dst.view.slice (s.rowRect hg.axis' j)).write (Elt F) fd (fun i => src.view.read (Elt F) fs (hg.rowIdx (r j) i)) Finset.univ)) ∗ S.heldEntry qo fo j)
      isplitl [Hsq]; · iexact Hsq
      isplitl [Hr He]
      · iapply writeUpdate_frame
        isplitl [Hr]
        · iapply (pointsTo_writeUpdate c (v := dst.view.slice (s.rowRect hg.axis' j)) subset_rfl) $$ Hr
        · iexact He
      · have hcu := Transfers.batch_creditUpdate countersEmb (g := (c, SemLoc.dma sem)) (N := N) (γ := γ) (γ₀ := γ₀) (ι := κ) ⟨k0 + j.val, by omega⟩ (hD j)
        rw [show (rd j).dst.view.amount (.dma sem) = N from hN j]
        iapply hcu
        isplitr; · iexact Hinv
        iexact Hγj
    unfold Stream.res
    ihave H3 := Transfers.bigSep_sep_in _ _ _ $$ [HP1 HI1]; · isplitl [HP1] <;> iassumption
    iapply (Transfers.bigSep_mono_pers Finset.univ _ _ _ fun j _ => hrow j)
    isplitr; · iexact Hinv
    iexact H3
  · iintro Hcr
    iapply Hk
    isplitl [HP2]; · iexact HP2
    iexists γ, γ₀, κ
    isplitr; · iexact Hinv
    isplitl [HI2]; · iexact HI2
    isplitl [H0]; · iexact H0
    rw [show (k0 + s.size hg.axis') * N - 0 = (k0 * N - 0) + s.size hg.axis' * N by rw [Nat.add_mul]; omega, ← tallyAt_add]
    icombine Hcred Hcr as H
    iexact H

end Issue

/-! ## One wave of the kernel -/

/-- What each of the indices brings. -/
def gath (T : (Sh 2097152).Idx → BitVec 32) (f1 : (Sh 8192).Idx → BitVec 32) : (Sh 8192).Idx → BitVec 32 := fun x => rd T (f1 x).toNat

/-- The elements brought so far: those from `lo` up to `hi`. -/
def mixed (lo hi : ℕ) (g f : (Sh 8192).Idx → BitVec 32) : (Sh 8192).Idx → BitVec 32 := fun x => if lo ≤ (x 0).val ∧ (x 0).val < hi then g x else f x

section Wave

variable (d : Dev nD) (L : grid0.Coords)

/-- The whole template, as the stream reads it. -/
abbrev srcT : Memref sig .scVector .hbm S2097152 .i32 :=
  (Memref.whole main_arg1_scv).slice (Rect.unit (s := S2097152) ![0] S2097152.size inb_S2097152_S2097152_0) (fun _ => rfl)

theorem srcT_emb (x : S2097152.Idx) : srcT.view.emb x = x := by
  funext a; apply Fin.ext
  rw [Fin.eq_zero a]
  show 0 + 1 * (x 0).val = (x 0).val
  omega

theorem srcT_set : srcT.view.set = Finset.univ := by
  refine Finset.eq_univ_iff_forall.mpr fun x => ?_
  unfold View.set
  exact Finset.mem_map.mpr ⟨x, Finset.mem_univ _, srcT_emb x⟩

/-- The credit of one element. -/
abbrev oneRow : ℕ := (cc0_scratch1 : Ref sig .scVector).dmaCredit (S128.rowShape 0) .i32

/-- What one index needs: its element of the destination, itself, and a share of the template. -/
def gPool (q : PosShare TreeShare) (T : (Sh 2097152).Idx → BitVec 32) (f1 f2 : (Sh 8192).Idx → BitVec 32) (base : ℕ) (hb : base + 1024 ≤ 8192) (t : Fin 1024) : sProp 𝕄 :=
  iprop((((V d (cV L) (jV L)).loc cc0_scratch1 ↦[{(ix (base + t.val) (by omega) : (Sh 8192).Idx)}]{fullShare} f2)
    ∗ ((V d (cV L) (jV L)).loc cc0_scratch0 ↦[{(ix (base + t.val) (by omega) : (Sh 8192).Idx)}]{fullShare} f1))
    ∗ ((V d (cV L) (jV L)).loc main_arg1_scv ↦{pieceOf q 1024 (by decide) t} T))

instance (q T f1 f2 base hb t) : Storable (upEmb : UEmb _ 𝕄) (gPool (F := F) d L q T f1 f2 base hb t) := by unfold gPool; infer_instance

/-- A stretch of 128 elements of a scratch buffer. -/
abbrev dst8 (off : Fin 1 → ℕ) (inb : ∀ a, off a + S128.size a ≤ S8192.size a) : Memref sig .scVector .vmem S128 .i32 :=
  (Memref.whole cc0_scratch1).slice (Rect.unit (s := S8192) off S128.size inb) (fun _ => rfl)
abbrev lst8 (off : Fin 1 → ℕ) (inb : ∀ a, off a + S128.size a ≤ S8192.size a) : Memref sig .scVector .vmem S128 .i32 :=
  (Memref.whole cc0_scratch0).slice (Rect.unit (s := S8192) off S128.size inb) (fun _ => rfl)

theorem dst8_emb {o : ℕ} (inb : ∀ a, (![o] : Fin 1 → ℕ) a + S128.size a ≤ S8192.size a) (h : o + 128 ≤ 8192) (x : S128.Idx) :
    (dst8 ![o] inb).view.emb x = (ix (o + (x 0).val) (by have : (x 0).val < 128 := (x 0).isLt; omega) : (Sh 8192).Idx) := by
  funext a; apply Fin.ext
  rw [Fin.eq_zero a]
  show o + 1 * (x 0).val = o + (x 0).val
  omega

theorem lst8_emb {o : ℕ} (inb : ∀ a, (![o] : Fin 1 → ℕ) a + S128.size a ≤ S8192.size a) (h : o + 128 ≤ 8192) (x : S128.Idx) :
    (lst8 ![o] inb).view.emb x = (ix (o + (x 0).val) (by have : (x 0).val < 128 := (x 0).isLt; omega) : (Sh 8192).Idx) := by
  funext a; apply Fin.ext
  rw [Fin.eq_zero a]
  show o + 1 * (x 0).val = o + (x 0).val
  omega

theorem row_emb {o : ℕ} (inb : ∀ a, (![o] : Fin 1 → ℕ) a + S128.size a ≤ S8192.size a) (h : o + 128 ≤ 8192) (j : Fin (S128.size 0)) (i : (S128.rowShape 0).Idx) :
    ((dst8 ![o] inb).view.slice (S128.rowRect 0 j)).emb i = (ix (o + j.val) (by have : j.val < 128 := j.isLt; omega) : (Sh 8192).Idx) := by
  refine (dst8_emb inb h ((S128.rowRect 0 j).emb i)).trans ?_
  funext a; apply Fin.ext
  show o + ((S128.rowRect 0 j).emb i 0).val = o + j.val
  rw [Shape.rowRect_emb_val, if_pos rfl]

theorem row_set {o : ℕ} (inb : ∀ a, (![o] : Fin 1 → ℕ) a + S128.size a ≤ S8192.size a) (h : o + 128 ≤ 8192) (j : Fin (S128.size 0)) :
    ((dst8 ![o] inb).view.slice (S128.rowRect 0 j)).set = {(ix (o + j.val) (by have : j.val < 128 := j.isLt; omega) : (Sh 8192).Idx)} := by
  ext x
  rw [Finset.mem_singleton]
  unfold View.set
  rw [Finset.mem_map]
  constructor
  · rintro ⟨i, -, rfl⟩; exact row_emb inb h j i
  · rintro rfl
    exact ⟨fun a => ⟨0, by rw [Fin.eq_zero a]; exact Nat.one_pos⟩, Finset.mem_univ _, row_emb inb h j _⟩

theorem entry_val (j : Fin (S128.size 0)) (hn : S128.numel = S128.size 0) : ((S128.rowMajor.symm (j.cast hn.symm)) 0).val = j.val := by
  have h := congrArg Fin.val (S128.rowMajor.apply_symm_apply (j.cast hn.symm))
  refine Eq.trans ?_ h
  generalize S128.rowMajor.symm (j.cast hn.symm) = x
  revert x; decide +kernel

variable {L d}

/-- One of the eight gathers of a wave. -/
theorem wp_gather1 {g : ℕ} (hg : g < 8) {base : ℕ} (hb : base + 1024 ≤ 8192) {off : Fin 1 → ℕ} (hoff : off = ![base + 128 * g])
    (inb : ∀ a, off a + S128.size a ≤ S8192.size a) (inb' : ∀ a, off a + S128.size a ≤ S8192.size a) (q : PosShare TreeShare) (T : (Sh 2097152).Idx → BitVec 32) (f1 f2 : (Sh 8192).Idx → BitVec 32)
    (hT : ∀ p, base ≤ p → p < base + 1024 → (rd f1 p).toNat < 2097152)
    {hn : S128.numel = S128.size gathers_S2097152_S128.axis'} {hp : (V d (cV L) (jV L)).2.kind = .scVector} {hsrc : (srcT).view.WordExact} {he : EltTy.i32.bits = 32} {hsp : Space.hbm = .hbm ∨ Space.hbm = .shared} {hr : S2097152.StreamRows 0}
    {k : PUnit → Prog (TpuEff nD τ sig (Elt F) Λ₀ (.scVector (cV L) (jV L))) α} {Q : α → sProp 𝕄} :
    iprop(bigSep (Transfers.pending (128 * g)) (gPool (F := F) d L q T f1 f2 base hb)
        ∗ Transfers.Batch countersEmb (V d (cV L) (jV L)) (.dma cc0_scratch14.sem) (default : HIx 2) oneRow (gPool (F := F) d L q T f1 (gath T f1) base hb) (128 * g) 0)
      ⊢ iprop((iprop(bigSep (Transfers.pending (128 * (g + 1))) (gPool (F := F) d L q T f1 f2 base hb)
        ∗ Transfers.Batch countersEmb (V d (cV L) (jV L)) (.dma cc0_scratch14.sem) (default : HIx 2) oneRow (gPool (F := F) d L q T f1 (gath T f1) base hb) (128 * (g + 1)) 0)
              -∗ wp frame (wpE (defs₀ (F := F)) 𝒱₀ (V d (cV L) (jV L)) none) Set.univ (k ⟨⟩) Q)
          -∗ wp frame (wpE (defs₀ (F := F)) 𝒱₀ (V d (cV L) (jV L)) none) Set.univ
            (SparseCore.enqueueIndirectGather hp srcT (dst8 off inb) gathers_S2097152_S128 (lst8 off inb') hn cc0_scratch14.sem hsrc he hsp hr >>= k) Q) := by
  subst hoff
  have hpiece : base + 128 * g + 128 ≤ 8192 := by omega
  have hin : ∀ x, ((lst8 ![base + 128 * g] inb').view.read (Elt F) f1 x).toNat < S2097152.size gathers_S2097152_S128.axis := fun x => by
    have hx : (x 0).val < 128 := (x 0).isLt
    have e : (lst8 ![base + 128 * g] inb').view.read (Elt F) f1 x = rd f1 (base + 128 * g + (x 0).val) := by
      rw [rd_of_lt _ (by omega)]
      exact congrArg f1 (lst8_emb inb' hpiece x)
    exact lt_of_eq_of_lt (congrArg BitVec.toNat e) (hT _ (by omega) (by omega))
  have hS : ∀ j : Fin (S128.size 0), (lst8 ![base + 128 * g] inb').view.emb (S128.rowMajor.symm (j.cast hn.symm)) = (ix (base + (128 * g + j.val)) (by have : j.val < 128 := j.isLt; omega) : (Sh 8192).Idx) := fun j => by
    rw [lst8_emb inb' hpiece]
    funext a; apply Fin.ext
    show base + 128 * g + _ = base + (128 * g + j.val)
    rw [entry_val j hn]; omega
  have hR : ∀ j : Fin (S128.size 0), ((dst8 ![base + 128 * g] inb).view.slice (S128.rowRect 0 j)).set = {(ix (base + (128 * g + j.val)) (by have : j.val < 128 := j.isLt; omega) : (Sh 8192).Idx)} := fun j => by
    rw [row_set inb hpiece]
    congr 1
    funext a; apply Fin.ext
    show base + 128 * g + j.val = base + (128 * g + j.val)
    omega
  have hW : ∀ j : Fin (S128.size 0), ((dst8 ![base + 128 * g] inb).view.slice (S128.rowRect 0 j)).write (Elt F) f2
      (fun i => (srcT).view.read (Elt F) T (gathers_S2097152_S128.rowIdx (SparseCore.rows ((lst8 ![base + 128 * g] inb').view.read (Elt F) f1) hn hin j) i)) Finset.univ
      (ix (base + (128 * g + j.val)) (by have : j.val < 128 := j.isLt; omega) : (Sh 8192).Idx) = gath T f1 (ix (base + (128 * g + j.val)) (by have : j.val < 128 := j.isLt; omega) : (Sh 8192).Idx) := fun j => by
    let i : (S128.rowShape 0).Idx := fun a => ⟨0, by rw [Fin.eq_zero a]; exact Nat.one_pos⟩
    have hi : (ix (base + (128 * g + j.val)) (by have : j.val < 128 := j.isLt; omega) : (Sh 8192).Idx) = ((dst8 ![base + 128 * g] inb).view.slice (S128.rowRect 0 j)).emb i := by
      rw [row_emb inb hpiece]
      funext a; apply Fin.ext
      show base + (128 * g + j.val) = base + 128 * g + j.val
      omega
    have h1 := View.write_emb_of_mem (Val := Elt F) (v := (dst8 ![base + 128 * g] inb).view.slice (S128.rowRect 0 j)) f2
      (fun i => (srcT).view.read (Elt F) T (gathers_S2097152_S128.rowIdx (SparseCore.rows ((lst8 ![base + 128 * g] inb').view.read (Elt F) f1) hn hin j) i)) (M := Finset.univ) (Finset.mem_univ i)
    rw [← hi] at h1
    rw [h1]
    show T (srcT.view.emb _) = rd T _
    rw [srcT_emb]
    have hlt := hT (base + (128 * g + j.val)) (by omega) (by have : j.val < 128 := j.isLt; omega)
    rw [rd_of_lt _ (by have : j.val < 128 := j.isLt; omega)] at hlt
    rw [rd_of_lt _ hlt]
    congr 1
    funext a; apply Fin.ext
    rw [Fin.eq_zero a]
    show (f1 ((lst8 ![base + 128 * g] inb').view.emb (S128.rowMajor.symm (j.cast hn.symm)))).toNat = _
    rw [hS]
    rfl
  rw [show 128 * (g + 1) = 128 * g + 128 by omega]
  refine wp_gatherBatch (F := F) (c := V d (cV L) (jV L)) (hg := gathers_S2097152_S128) (qo := fullShare) (fd := f2) (fo := f1) (fs := T)
    (qk := fun j => pieceOf q 1024 (by decide) ⟨128 * g + j.val, by have : j.val < 128 := j.isLt; omega⟩)
    (default : HIx 2) oneRow (fun _ => rfl) hin 128 (128 * g) rfl (by omega)
    (gPool (F := F) d L q T f1 f2 base hb) (gPool (F := F) d L q T f1 (gath T f1) base hb) (fun j => ?_) (fun j => ?_)
  · unfold gPool
    refine sep_mono (sep_mono ?_ ?_) ?_
    · exact Entails.of_eq (congrArg (fun S => ((V d (cV L) (jV L)).loc cc0_scratch1 ↦[S]{fullShare} f2 : sProp 𝕄)) (hR j).symm)
    · exact Entails.of_eq (congrArg (fun x => ((V d (cV L) (jV L)).loc cc0_scratch0 ↦[{x}]{fullShare} f1 : sProp 𝕄)) (hS j).symm)
    · exact Entails.of_eq (congrArg (fun S => ((V d (cV L) (jV L)).loc main_arg1_scv ↦[S]{_} T : sProp 𝕄)) srcT_set.symm)
  · unfold gPool
    refine sep_mono (sep_mono ?_ ?_) ?_
    · refine BIBase.Entails.trans (Entails.of_eq (congrArg (fun S => ((V d (cV L) (jV L)).loc cc0_scratch1 ↦[S]{fullShare} _ : sProp 𝕄)) (hR j))) ?_
      exact Entails.of_eq (pointsTo_congr fun x hx => by rw [Finset.mem_singleton.mp hx]; exact hW j)
    · exact Entails.of_eq (congrArg (fun x => ((V d (cV L) (jV L)).loc cc0_scratch0 ↦[{x}]{fullShare} f1 : sProp 𝕄)) (hS j))
    · exact Entails.of_eq (congrArg (fun S => ((V d (cV L) (jV L)).loc main_arg1_scv ↦[S]{_} T : sProp 𝕄)) srcT_set)

/-- The wait for one of the gathers takes the credit of its 128 elements. -/
theorem wp_wait1 {D : Fin 1024 → sProp 𝕄} {u : ℕ} (hu : u + 128 ≤ 1024) {off : Fin 1 → ℕ}
    (inb : ∀ a, off a + S128.size a ≤ S8192.size a) {hsrc : (srcT).view.WordExact} {hdst : (dst8 off inb).view.WordExact}
    {O : CellTallies nD τ sig (HIx 2)} {W : Waits sig (HIx 2)}
    {k : PUnit → Prog (TpuEff nD τ sig (Elt F) Λ₀ (.scVector (cV L) (jV L))) α} {Q : α → sProp 𝕄} :
    iprop(Transfers.Batch countersEmb (V d (cV L) (jV L)) (.dma cc0_scratch14.sem) (default : HIx 2) oneRow D 1024 (u * oneRow)
        ∗ owes (V d (cV L) (jV L)) O W ∗ Transfers.MayWaits (V d (cV L) (jV L)) (default : HIx 2) O)
      ⊢ iprop((iprop(Transfers.Batch countersEmb (V d (cV L) (jV L)) (.dma cc0_scratch14.sem) (default : HIx 2) oneRow D 1024 ((u + 128) * oneRow)
          ∗ owes (V d (cV L) (jV L)) O (insert (SemLoc.dma cc0_scratch14.sem, (default : HIx 2)) W))
              -∗ wp frame (wpE (defs₀ (F := F)) 𝒱₀ (V d (cV L) (jV L)) none) Set.univ (k ⟨⟩) Q)
          -∗ wp frame (wpE (defs₀ (F := F)) 𝒱₀ (V d (cV L) (jV L)) none) Set.univ
            (SparseCore.waitIndirectGather cc0_scratch14.sem srcT (dst8 off inb) hsrc hdst >>= k) Q) := by
  rw [Nat.add_mul]
  refine BIBase.Entails.trans ?_ (Transfers.wp_waitBatchMulO countersEmb 𝒱₀ (V d (cV L) (jV L)) none (srcw := srcT) (dstw := dst8 off inb) (default : HIx 2) 128 (N := oneRow) ?_ ?_)
  · iintro ⟨HB, HO, Hm⟩
    isplitl [HB]; · iexact HB
    isplitl [HO]; · iexact HO
    iapply (Transfers.MayWaits.elim (SemLoc.dma cc0_scratch14.sem)) $$ Hm
  · rfl
  · rw [Nat.mul_comm oneRow, ← Nat.add_mul]; exact Nat.mul_le_mul_right _ hu

/-- The elements a wave brings. -/
def window (base : ℕ) (hb : base + 1024 ≤ 8192) : Finset (Sh 8192).Idx := Finset.univ.biUnion fun t : Fin 1024 => {ix (base + t.val) (by omega)}

theorem mem_window {base : ℕ} (hb : base + 1024 ≤ 8192) (x : (Sh 8192).Idx) : x ∈ window base hb ↔ base ≤ (x 0).val ∧ (x 0).val < base + 1024 := by
  unfold window
  rw [Finset.mem_biUnion]
  constructor
  · rintro ⟨t, -, h⟩
    rw [Finset.mem_singleton] at h
    subst h
    exact ⟨Nat.le_add_right _ _, Nat.add_lt_add_left t.isLt _⟩
  · rintro ⟨h1, h2⟩
    refine ⟨⟨(x 0).val - base, by omega⟩, Finset.mem_univ _, ?_⟩
    rw [Finset.mem_singleton]
    funext a; apply Fin.ext
    rw [Fin.eq_zero a]
    show (x 0).val = base + ((x 0).val - base)
    omega

theorem window_apart {base : ℕ} (hb : base + 1024 ≤ 8192) : ∀ t ∈ (Finset.univ : Finset (Fin 1024)), ∀ t' ∈ (Finset.univ : Finset (Fin 1024)), t ≠ t' →
    Disjoint ({ix (base + t.val) (by omega)} : Finset (Sh 8192).Idx) {ix (base + t'.val) (by omega)} := fun t _ t' _ hne =>
  Finset.disjoint_singleton.mpr fun he => hne (Fin.ext (by
    have h : base + t.val = base + t'.val := congrArg (fun x : (Sh 8192).Idx => (x 0).val) he
    omega))

theorem pool_eq (q : PosShare TreeShare) (T : (Sh 2097152).Idx → BitVec 32) (f1 f2 : (Sh 8192).Idx → BitVec 32) (base : ℕ) (hb : base + 1024 ≤ 8192) :
    bigSep Finset.univ (gPool (F := F) d L q T f1 f2 base hb)
      = iprop((((V d (cV L) (jV L)).loc cc0_scratch1 ↦[window base hb]{fullShare} f2) ∗ ((V d (cV L) (jV L)).loc cc0_scratch0 ↦[window base hb]{fullShare} f1))
          ∗ ((V d (cV L) (jV L)).loc main_arg1_scv ↦{q} T)) := by
  have h1 := (pointsTo_biUnion (ℓ := (V d (cV L) (jV L)).loc cc0_scratch1) (q := fullShare) (f := f2) _ _ (window_apart hb) : (_ : sProp 𝕄) = _).symm
  have h0 := (pointsTo_biUnion (ℓ := (V d (cV L) (jV L)).loc cc0_scratch0) (q := fullShare) (f := f1) _ _ (window_apart hb) : (_ : sProp 𝕄) = _).symm
  have hT := (pointsTo_piecesOf (Finset.univ : Finset (Idx ((V d (cV L) (jV L)).loc main_arg1_scv))) T (o := 1024) (by decide) q : (_ : sProp 𝕄) = _).symm
  exact (BI.bigSep_sep _ _ _).trans (congrArg₂ (fun A B : sProp 𝕄 => iprop(A ∗ B)) ((BI.bigSep_sep _ _ _).trans (congrArg₂ (fun A B : sProp 𝕄 => iprop(A ∗ B)) h1 h0)) hT)

theorem mixed_in {lo hi : ℕ} (g f : (Sh 8192).Idx → BitVec 32) {x : (Sh 8192).Idx} (h : lo ≤ (x 0).val ∧ (x 0).val < hi) : mixed lo hi g f x = g x := by
  unfold mixed; exact if_pos h

theorem mixed_out {lo hi : ℕ} (g f : (Sh 8192).Idx → BitVec 32) {x : (Sh 8192).Idx} (h : ¬ (lo ≤ (x 0).val ∧ (x 0).val < hi)) : mixed lo hi g f x = f x := by
  unfold mixed; exact if_neg h

/-- A buffer written in the window. -/
theorem mixed_eq {base : ℕ} (hb : base + 1024 ≤ 8192) (g f : (Sh 8192).Idx → BitVec 32) :
    iprop(((V d (cV L) (jV L)).loc cc0_scratch1 ↦[window base hb]{fullShare} g) ∗ ((V d (cV L) (jV L)).loc cc0_scratch1 ↦[Finset.univ \ window base hb]{fullShare} f))
      ⊢ ((V d (cV L) (jV L)).loc cc0_scratch1 ↦{fullShare} mixed base (base + 1024) g f : sProp 𝕄) := by
  have h1 : ∀ x : (Sh 8192).Idx, x ∈ window base hb → g x = mixed base (base + 1024) g f x := by
    intro x hx
    have h : base ≤ (x 0).val ∧ (x 0).val < base + 1024 := by rwa [mem_window hb x] at hx
    have e := mixed_in (lo := base) (hi := base + 1024) g f (x := x) h
    exact e.symm
  have h2 : ∀ x : (Sh 8192).Idx, x ∈ Finset.univ \ window base hb → f x = mixed base (base + 1024) g f x := by
    intro x hx
    have hn : ¬ (base ≤ (x 0).val ∧ (x 0).val < base + 1024) := by
      rw [Finset.mem_sdiff, mem_window hb x] at hx
      exact hx.2
    have e := mixed_out (lo := base) (hi := base + 1024) g f (x := x) hn
    exact e.symm
  refine BIBase.Entails.trans (BIClass.sep_mono (Entails.of_eq (pointsTo_congr (ℓ := (V d (cV L) (jV L)).loc cc0_scratch1) h1)) (Entails.of_eq (pointsTo_congr (ℓ := (V d (cV L) (jV L)).loc cc0_scratch1) h2))) ?_
  exact (pointsTo_split_subset (ℓ := (V d (cV L) (jV L)).loc cc0_scratch1) (Finset.subset_univ (window base hb))).2

/-- One wave: eight gathers, then the eight waits. -/
theorem wp_wave {n : ℕ} (hn : 1 ≤ n ∧ n < 8193) (hw : k0_chk8 (BitVec.ofNat 32 n)) (t : Fin (k0_t8_loop (BitVec.ofNat 32 n)).trips) (v7 : IVec S16 32) (v44 c16 v45 v50 c0 : BitVec 32)
    (q : PosShare TreeShare) (T : (Sh 2097152).Idx → BitVec 32) (f1 f2 : (Sh 8192).Idx → BitVec 32)
    (hT : ∀ p, 1024 * t.val ≤ p → p < 1024 * t.val + 1024 → (rd f1 p).toNat < 2097152) (O : CellTallies nD τ sig (HIx 2)) (W : Waits sig (HIx 2)) :
    iprop(Transfers.MayWaits (V d (cV L) (jV L)) (default : HIx 2) O
        ∗ ((V d (cV L) (jV L)).loc cc0_scratch0 ↦{fullShare} f1) ∗ ((V d (cV L) (jV L)).loc cc0_scratch1 ↦{fullShare} f2)
        ∗ ((V d (cV L) (jV L)).loc main_arg1_scv ↦{q} T) ∗ semVal (V d (cV L) (jV L), SemLoc.dma cc0_scratch14.sem) 0 ∗ owes (V d (cV L) (jV L)) O W : sProp 𝕄)
      ⊢ wp frame (wpE (defs₀ (F := F)) 𝒱₀ (V d (cV L) (jV L)) none) Set.univ (k0_t8_body L (Memref.whole main_v0_scv) (Memref.isWhole_whole _) (Memref.whole main_arg1_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scoped0 cc0_scoped1 cc0_scoped2 cc0_scoped3 cc0_scoped4 cc0_scoped5 cc0_scoped6 cc0_scoped7 cc0_scoped8 v7 (BitVec.ofNat 32 n) hw v44 c16 v45 v50 c0 t ()) fun _ =>
        iprop(((V d (cV L) (jV L)).loc cc0_scratch0 ↦{fullShare} f1) ∗ ((V d (cV L) (jV L)).loc cc0_scratch1 ↦{fullShare} mixed (1024 * t.val) (1024 * t.val + 1024) (gath T f1) f2)
          ∗ ((V d (cV L) (jV L)).loc main_arg1_scv ↦{q} T) ∗ semVal (V d (cV L) (jV L), SemLoc.dma cc0_scratch14.sem) 0
          ∗ ∃ W' : Waits sig (HIx 2), ⌜∀ p ∈ W', p ∈ W ∨ p.2 = none⌝ ∗ owes (V d (cV L) (jV L)) O W') := by
  have ht : t.val < (n + 1023) / 1024 := lt_of_lt_of_eq t.isLt (t8_all n hn).2
  have hb : 1024 * t.val + 1024 ≤ 8192 := by omega
  unfold k0_t8_body k0_part1
  iintro ⟨#Hm, Hb1, Hb2, HT, Hv, HO⟩
  imod (Transfers.batch_alloc' countersEmb (V d (cV L) (jV L)) (default : HIx 2) oneRow (gPool (F := F) d L q T f1 (gath T f1) (1024 * t.val) hb) (sm := SemLoc.dma cc0_scratch14.sem)) $$ Hv with HB
  ihave Hb1s := (pointsTo_split_subset (q := fullShare) (f := f1) (S := Finset.univ) (ℓ := (V d (cV L) (jV L)).loc cc0_scratch0) (Finset.subset_univ (window (1024 * t.val) hb))).1 $$ Hb1
  ihave Hb2s := (pointsTo_split_subset (q := fullShare) (f := f2) (S := Finset.univ) (ℓ := (V d (cV L) (jV L)).loc cc0_scratch1) (Finset.subset_univ (window (1024 * t.val) hb))).1 $$ Hb2
  icases Hb1s with ⟨Hb1, Hb1r⟩
  icases Hb2s with ⟨Hb2, Hb2r⟩
  ihave HP0 := (Entails.of_eq (pool_eq (F := F) q T f1 f2 (1024 * t.val) hb).symm) $$ [Hb1 Hb2 HT]
  · isplitr [HT]
    · isplitl [Hb2] <;> iassumption
    · iexact HT
  ihave HP := (show bigSep Finset.univ (gPool (F := F) d L q T f1 f2 (1024 * t.val) hb) ⊢ bigSep (Transfers.pending (128 * 0)) (gPool (F := F) d L q T f1 f2 (1024 * t.val) hb) by
    rw [Nat.mul_zero, Transfers.pending_zero]) $$ HP0
  rw [wp_bind]
  iapply (wp_gather1 (F := F) (g := 0) (by decide) hb (off8_eq hn (r := 0) (by decide) t) _ _ q T f1 f2 hT) $$ [HP HB]
  · isplitl [HP] <;> iassumption
  iintro ⟨HP, HB⟩
  iapply (wp_gather1 (F := F) (g := 1) (by decide) hb (off8_eq hn (r := 1) (by decide) t) _ _ q T f1 f2 hT) $$ [HP HB]
  · isplitl [HP] <;> iassumption
  iintro ⟨HP, HB⟩
  iapply (wp_gather1 (F := F) (g := 2) (by decide) hb (off8_eq hn (r := 2) (by decide) t) _ _ q T f1 f2 hT) $$ [HP HB]
  · isplitl [HP] <;> iassumption
  iintro ⟨HP, HB⟩
  iapply (wp_gather1 (F := F) (g := 3) (by decide) hb (off8_eq hn (r := 3) (by decide) t) _ _ q T f1 f2 hT) $$ [HP HB]
  · isplitl [HP] <;> iassumption
  iintro ⟨HP, HB⟩
  iapply (wp_gather1 (F := F) (g := 4) (by decide) hb (off8_eq hn (r := 4) (by decide) t) _ _ q T f1 f2 hT) $$ [HP HB]
  · isplitl [HP] <;> iassumption
  iintro ⟨HP, HB⟩
  iapply (wp_gather1 (F := F) (g := 5) (by decide) hb (off8_eq hn (r := 5) (by decide) t) _ _ q T f1 f2 hT) $$ [HP HB]
  · isplitl [HP] <;> iassumption
  iintro ⟨HP, HB⟩
  iapply (le_wp_ret _ _ _ _)
  iapply (wp_gather1 (F := F) (g := 6) (by decide) hb (off8_eq hn (r := 6) (by decide) t) _ _ q T f1 f2 hT) $$ [HP HB]
  · isplitl [HP] <;> iassumption
  iintro ⟨HP, HB⟩
  iapply (wp_gather1 (F := F) (g := 7) (by decide) hb (off8_eq hn (r := 7) (by decide) t) _ _ q T f1 f2 hT) $$ [HP HB]
  · isplitl [HP] <;> iassumption
  iintro ⟨-, HB⟩
  ihave HB := (show Transfers.Batch countersEmb (V d (cV L) (jV L)) (.dma cc0_scratch14.sem) (default : HIx 2) oneRow (gPool (F := F) d L q T f1 (gath T f1) (1024 * t.val) hb) (128 * (7 + 1)) 0
    ⊢ Transfers.Batch countersEmb (V d (cV L) (jV L)) (.dma cc0_scratch14.sem) (default : HIx 2) oneRow (gPool (F := F) d L q T f1 (gath T f1) (1024 * t.val) hb) 1024 (0 * oneRow) by
    rw [Nat.zero_mul]) $$ HB
  iapply (wp_wait1 (F := F) (u := 0) (by decide) _) $$ [HB HO]
  · isplitl [HB]; · iexact HB
    isplitl [HO]; · iexact HO
    iexact Hm
  iintro ⟨HB, HO⟩
  iapply (wp_wait1 (F := F) (u := 128) (by decide) _) $$ [HB HO]
  · isplitl [HB]; · iexact HB
    isplitl [HO]; · iexact HO
    iexact Hm
  iintro ⟨HB, HO⟩
  iapply (wp_wait1 (F := F) (u := 256) (by decide) _) $$ [HB HO]
  · isplitl [HB]; · iexact HB
    isplitl [HO]; · iexact HO
    iexact Hm
  iintro ⟨HB, HO⟩
  iapply (wp_wait1 (F := F) (u := 384) (by decide) _) $$ [HB HO]
  · isplitl [HB]; · iexact HB
    isplitl [HO]; · iexact HO
    iexact Hm
  iintro ⟨HB, HO⟩
  iapply (wp_wait1 (F := F) (u := 512) (by decide) _) $$ [HB HO]
  · isplitl [HB]; · iexact HB
    isplitl [HO]; · iexact HO
    iexact Hm
  iintro ⟨HB, HO⟩
  iapply (wp_wait1 (F := F) (u := 640) (by decide) _) $$ [HB HO]
  · isplitl [HB]; · iexact HB
    isplitl [HO]; · iexact HO
    iexact Hm
  iintro ⟨HB, HO⟩
  iapply (wp_wait1 (F := F) (u := 768) (by decide) _) $$ [HB HO]
  · isplitl [HB]; · iexact HB
    isplitl [HO]; · iexact HO
    iexact Hm
  iintro ⟨HB, HO⟩
  iapply (wp_wait1 (F := F) (u := 896) (by decide) _) $$ [HB HO]
  · isplitl [HB]; · iexact HB
    isplitl [HO]; · iexact HO
    iexact Hm
  iintro ⟨HB, HO⟩
  ihave HB := (show Transfers.Batch countersEmb (V d (cV L) (jV L)) (.dma cc0_scratch14.sem) (default : HIx 2) oneRow (gPool (F := F) d L q T f1 (gath T f1) (1024 * t.val) hb) 1024 ((896 + 128) * oneRow)
    ⊢ Transfers.Batch countersEmb (V d (cV L) (jV L)) (.dma cc0_scratch14.sem) (default : HIx 2) oneRow (gPool (F := F) d L q T f1 (gath T f1) (1024 * t.val) hb) 1024 (oneRow * 1024) by
    rw [Nat.mul_comm oneRow]) $$ HB
  imod (Transfers.batch_collect' countersEmb (V d (cV L) (jV L)) (show 0 < oneRow by decide)) $$ HB with ⟨HD, Hv⟩
  ihave HD' := (Entails.of_eq (pool_eq (F := F) q T f1 (gath T f1) (1024 * t.val) hb)) $$ HD
  icases HD' with ⟨⟨Hb2, Hb1⟩, HT⟩
  iapply (le_wp_ret _ _ _ _)
  isplitl [Hb1 Hb1r]
  · iapply (pointsTo_split_subset (q := fullShare) (f := f1) (S := Finset.univ) (ℓ := (V d (cV L) (jV L)).loc cc0_scratch0) (Finset.subset_univ (window (1024 * t.val) hb))).2
    isplitl [Hb1] <;> iassumption
  isplitl [Hb2 Hb2r]
  · iapply (mixed_eq (F := F) hb (gath T f1) f2); isplitl [Hb2] <;> iassumption
  isplitl [HT]; · iexact HT
  isplitl [Hv]; · iexact Hv
  iexists _
  isplitr
  swap; · iexact HO
  ipureintro
  intro p hp
  simp only [Finset.mem_insert] at hp
  rcases hp with hp | hp | hp | hp | hp | hp | hp | hp | hp
  iterate 8 exact .inr (hp ▸ rfl)
  exact .inl hp

end Wave

end Cert.Proof.Tile
-- ==== Proof.Copy.lean ====
/-
  The copies of a tile: a row of an array in HBM or of the SparseCore's shared scratch, and the copy to or from it.
-/
module

public import proofs.«01_k».proof.Defs
public import proofs.«01_k».proof.Proof.Lanes
public import proofs.«01_k».proof.Proof.Gen.KernelIdeal
public import proofs.«01_k».proof.Proof.Gen.KernelIdeal.Skeleton
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Tile
public import proofs.«01_k».proof.Proof.Gather

@[expose] public section

noncomputable section

namespace Cert.Proof.Tile

open Cert.KernelIdeal Cert.KernelIdeal.Gen
open Cert.Proof.Lanes

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable {d : Dev nD} {L : grid0.Coords} {α β : Type} {s : St} {Q : α → St → Prop}

attribute [local instance] stages

/-! ## A row of a two-dimensional array -/

abbrev Sh2 (n w : ℕ) : Shape := ⟨2, ![n, w]⟩

def ix2 {n w : ℕ} (r p : ℕ) (hr : r < n) (hp : p < w) : (Sh2 n w).Idx := fun a => match a with | 0 => ⟨r, hr⟩ | 1 => ⟨p, hp⟩

/-- The element in row `r` at position `p` (the default outside the array). -/
def rd2 {n w : ℕ} (f : (Sh2 n w).Idx → BitVec 32) (r p : ℕ) : BitVec 32 := if h : r < n ∧ p < w then f (ix2 r p h.1 h.2) else default

theorem rd2_eq {n w : ℕ} (f : (Sh2 n w).Idx → BitVec 32) {r p : ℕ} (hr : r < n) (hp : p < w) : rd2 f r p = f (ix2 r p hr hp) := dif_pos ⟨hr, hp⟩

/-- The elements of row `r`. -/
def rowS (n w r : ℕ) : Finset (Sh2 n w).Idx := Finset.univ.filter fun x => (x 0).val = r

theorem reshape_row {w : ℕ} (h : (Sh w).numel = (Sh2 1 w).numel) (x : (Sh w).Idx) :
    Shape.reshapeEquiv h x = (ix2 0 (x 0).val (by decide) (x 0).isLt : (Sh2 1 w).Idx) := by
  refine Shape.reshapeEquiv_eq_of_rowMajor h ?_
  rw [Shape.rowMajor_val_two, Shape.rowMajor_val_one]
  show 0 * _ + (x 0).val = (x 0).val
  omega

theorem row_emb2 {n w r : ℕ} (hr : r < n) (h : (Sh w).numel = (Sh2 1 w).numel) (inb : ∀ a, (![r, 0] : Fin 2 → ℕ) a + (Sh2 1 w).size a ≤ (Sh2 n w).size a) (x : (Sh w).Idx) :
    (Rect.unit (s := Sh2 n w) ![r, 0] (Sh2 1 w).size inb).emb (Shape.reshapeEquiv h x) = (ix2 r (x 0).val hr (x 0).isLt : (Sh2 n w).Idx) := by
  rw [reshape_row]
  funext a
  apply Fin.ext
  match a with
  | 0 => show r + 1 * 0 = r; omega
  | 1 => show 0 + 1 * (x 0).val = (x 0).val; omega

/-- Row `off 0` of `main_v0_scv`. -/
abbrev flatRow (off : Fin 2 → ℕ) (inb : ∀ a, off a + S1x8192.size a ≤ S32x8192.size a) : Memref sig .scVector .hbm S8192 .i32 :=
  ((Memref.whole main_v0_scv).slice (Rect.unit (s := S32x8192) off S1x8192.size inb) (fun _ => rfl)).squeeze S8192 squeezes_S1x8192_S8192

theorem flatRow_emb {r : ℕ} (hr : r < 32) (inb : ∀ a, (![r, 0] : Fin 2 → ℕ) a + S1x8192.size a ≤ S32x8192.size a) (x : S8192.Idx) :
    (flatRow ![r, 0] inb).view.emb x = (ix2 r (x 0).val hr (x 0).isLt : (Sh2 32 8192).Idx) := row_emb2 (n := 32) (w := 8192) hr _ inb x

theorem flatRow_set {r : ℕ} (hr : r < 32) (inb : ∀ a, (![r, 0] : Fin 2 → ℕ) a + S1x8192.size a ≤ S32x8192.size a) : (flatRow ![r, 0] inb).view.set = rowS 32 8192 r := by
  ext x
  unfold View.set rowS
  rw [Finset.mem_map, Finset.mem_filter]
  constructor
  · rintro ⟨y, -, rfl⟩
    rw [flatRow_emb hr]
    exact ⟨Finset.mem_univ _, rfl⟩
  · rintro ⟨-, hx⟩
    refine ⟨(ix (x 1).val (x 1).isLt : (Sh 8192).Idx), Finset.mem_univ _, ?_⟩
    rw [flatRow_emb hr]
    funext a
    apply Fin.ext
    match a with
    | 0 => exact hx.symm
    | 1 => rfl

theorem flatRow_read {r : ℕ} (hr : r < 32) (inb : ∀ a, (![r, 0] : Fin 2 → ℕ) a + S1x8192.size a ≤ S32x8192.size a) (f : (Sh2 32 8192).Idx → BitVec 32) (p : ℕ) (hp : p < 8192) :
    rd (n := 8192) ((flatRow ![r, 0] inb).view.read (Elt F) f) p = rd2 f r p := by
  rw [rd_of_lt _ hp, rd2_eq f hr hp]
  show f ((flatRow ![r, 0] inb).view.emb _) = _
  rw [flatRow_emb hr]
  rfl

/-- Row `off 0` of `main_v1_0_scv`. -/
abbrev ordrRow (off : Fin 2 → ℕ) (inb : ∀ a, off a + S1x8192.size a ≤ S32x8192.size a) : Memref sig .scVector .hbm S8192 .i32 :=
  ((Memref.whole main_v1_0_scv).slice (Rect.unit (s := S32x8192) off S1x8192.size inb) (fun _ => rfl)).squeeze S8192 squeezes_S1x8192_S8192

theorem ordrRow_emb {r : ℕ} (hr : r < 32) (inb : ∀ a, (![r, 0] : Fin 2 → ℕ) a + S1x8192.size a ≤ S32x8192.size a) (x : S8192.Idx) :
    (ordrRow ![r, 0] inb).view.emb x = (ix2 r (x 0).val hr (x 0).isLt : (Sh2 32 8192).Idx) := row_emb2 (n := 32) (w := 8192) hr _ inb x

theorem ordrRow_set {r : ℕ} (hr : r < 32) (inb : ∀ a, (![r, 0] : Fin 2 → ℕ) a + S1x8192.size a ≤ S32x8192.size a) : (ordrRow ![r, 0] inb).view.set = rowS 32 8192 r := by
  ext x
  unfold View.set rowS
  rw [Finset.mem_map, Finset.mem_filter]
  constructor
  · rintro ⟨y, -, rfl⟩
    rw [ordrRow_emb hr]
    exact ⟨Finset.mem_univ _, rfl⟩
  · rintro ⟨-, hx⟩
    refine ⟨(ix (x 1).val (x 1).isLt : (Sh 8192).Idx), Finset.mem_univ _, ?_⟩
    rw [ordrRow_emb hr]
    funext a
    apply Fin.ext
    match a with
    | 0 => exact hx.symm
    | 1 => rfl

theorem ordrRow_write {r : ℕ} (hr : r < 32) (inb : ∀ a, (![r, 0] : Fin 2 → ℕ) a + S1x8192.size a ≤ S32x8192.size a) (f : (Sh2 32 8192).Idx → BitVec 32) (g : (Sh 8192).Idx → BitVec 32) (p : ℕ) (hp : p < 8192) :
    rd2 (n := 32) (w := 8192) ((ordrRow ![r, 0] inb).view.write (Elt F) f g Finset.univ) r p = rd g p := by
  rw [rd_of_lt _ hp, rd2_eq _ hr hp]
  have h := (ordrRow ![r, 0] inb).view.write_emb_of_mem (Val := Elt F) f g (Finset.mem_univ (ix p hp : (Sh 8192).Idx))
  rw [ordrRow_emb hr] at h
  exact h

/-- Row `off 0` of `main_v1_1_scv`. -/
abbrev revRow (off : Fin 2 → ℕ) (inb : ∀ a, off a + S1x8192.size a ≤ S32x8192.size a) : Memref sig .scVector .hbm S8192 .i32 :=
  ((Memref.whole main_v1_1_scv).slice (Rect.unit (s := S32x8192) off S1x8192.size inb) (fun _ => rfl)).squeeze S8192 squeezes_S1x8192_S8192

theorem revRow_emb {r : ℕ} (hr : r < 32) (inb : ∀ a, (![r, 0] : Fin 2 → ℕ) a + S1x8192.size a ≤ S32x8192.size a) (x : S8192.Idx) :
    (revRow ![r, 0] inb).view.emb x = (ix2 r (x 0).val hr (x 0).isLt : (Sh2 32 8192).Idx) := row_emb2 (n := 32) (w := 8192) hr _ inb x

theorem revRow_set {r : ℕ} (hr : r < 32) (inb : ∀ a, (![r, 0] : Fin 2 → ℕ) a + S1x8192.size a ≤ S32x8192.size a) : (revRow ![r, 0] inb).view.set = rowS 32 8192 r := by
  ext x
  unfold View.set rowS
  rw [Finset.mem_map, Finset.mem_filter]
  constructor
  · rintro ⟨y, -, rfl⟩
    rw [revRow_emb hr]
    exact ⟨Finset.mem_univ _, rfl⟩
  · rintro ⟨-, hx⟩
    refine ⟨(ix (x 1).val (x 1).isLt : (Sh 8192).Idx), Finset.mem_univ _, ?_⟩
    rw [revRow_emb hr]
    funext a
    apply Fin.ext
    match a with
    | 0 => exact hx.symm
    | 1 => rfl

theorem revRow_write {r : ℕ} (hr : r < 32) (inb : ∀ a, (![r, 0] : Fin 2 → ℕ) a + S1x8192.size a ≤ S32x8192.size a) (f : (Sh2 32 8192).Idx → BitVec 32) (g : (Sh 8192).Idx → BitVec 32) (p : ℕ) (hp : p < 8192) :
    rd2 (n := 32) (w := 8192) ((revRow ![r, 0] inb).view.write (Elt F) f g Finset.univ) r p = rd g p := by
  rw [rd_of_lt _ hp, rd2_eq _ hr hp]
  have h := (revRow ![r, 0] inb).view.write_emb_of_mem (Val := Elt F) f g (Finset.mem_univ (ix p hp : (Sh 8192).Idx))
  rw [revRow_emb hr] at h
  exact h

/-- Row `off 0` of `cc0_scratch11`. -/
abbrev codeSRow (off : Fin 2 → ℕ) (inb : ∀ a, off a + S1x8192.size a ≤ S16x8192.size a) : Memref sig .scVector .shared S8192 .i32 :=
  ((Memref.whole cc0_scratch11).slice (Rect.unit (s := S16x8192) off S1x8192.size inb) (fun _ => rfl)).squeeze S8192 squeezes_S1x8192_S8192

theorem codeSRow_emb {r : ℕ} (hr : r < 16) (inb : ∀ a, (![r, 0] : Fin 2 → ℕ) a + S1x8192.size a ≤ S16x8192.size a) (x : S8192.Idx) :
    (codeSRow ![r, 0] inb).view.emb x = (ix2 r (x 0).val hr (x 0).isLt : (Sh2 16 8192).Idx) := row_emb2 (n := 16) (w := 8192) hr _ inb x

theorem codeSRow_set {r : ℕ} (hr : r < 16) (inb : ∀ a, (![r, 0] : Fin 2 → ℕ) a + S1x8192.size a ≤ S16x8192.size a) : (codeSRow ![r, 0] inb).view.set = rowS 16 8192 r := by
  ext x
  unfold View.set rowS
  rw [Finset.mem_map, Finset.mem_filter]
  constructor
  · rintro ⟨y, -, rfl⟩
    rw [codeSRow_emb hr]
    exact ⟨Finset.mem_univ _, rfl⟩
  · rintro ⟨-, hx⟩
    refine ⟨(ix (x 1).val (x 1).isLt : (Sh 8192).Idx), Finset.mem_univ _, ?_⟩
    rw [codeSRow_emb hr]
    funext a
    apply Fin.ext
    match a with
    | 0 => exact hx.symm
    | 1 => rfl

theorem codeSRow_read {r : ℕ} (hr : r < 16) (inb : ∀ a, (![r, 0] : Fin 2 → ℕ) a + S1x8192.size a ≤ S16x8192.size a) (f : (Sh2 16 8192).Idx → BitVec 32) (p : ℕ) (hp : p < 8192) :
    rd (n := 8192) ((codeSRow ![r, 0] inb).view.read (Elt F) f) p = rd2 f r p := by
  rw [rd_of_lt _ hp, rd2_eq f hr hp]
  show f ((codeSRow ![r, 0] inb).view.emb _) = _
  rw [codeSRow_emb hr]
  rfl

theorem codeSRow_write {r : ℕ} (hr : r < 16) (inb : ∀ a, (![r, 0] : Fin 2 → ℕ) a + S1x8192.size a ≤ S16x8192.size a) (f : (Sh2 16 8192).Idx → BitVec 32) (g : (Sh 8192).Idx → BitVec 32) (p : ℕ) (hp : p < 8192) :
    rd2 (n := 16) (w := 8192) ((codeSRow ![r, 0] inb).view.write (Elt F) f g Finset.univ) r p = rd g p := by
  rw [rd_of_lt _ hp, rd2_eq _ hr hp]
  have h := (codeSRow ![r, 0] inb).view.write_emb_of_mem (Val := Elt F) f g (Finset.mem_univ (ix p hp : (Sh 8192).Idx))
  rw [codeSRow_emb hr] at h
  exact h

/-- Row `off 0` of `cc0_scratch12`. -/
abbrev exclSRow (off : Fin 2 → ℕ) (inb : ∀ a, off a + S1x8208.size a ≤ S16x8208.size a) : Memref sig .scVector .shared S8208 .i32 :=
  ((Memref.whole cc0_scratch12).slice (Rect.unit (s := S16x8208) off S1x8208.size inb) (fun _ => rfl)).squeeze S8208 squeezes_S1x8208_S8208

theorem exclSRow_emb {r : ℕ} (hr : r < 16) (inb : ∀ a, (![r, 0] : Fin 2 → ℕ) a + S1x8208.size a ≤ S16x8208.size a) (x : S8208.Idx) :
    (exclSRow ![r, 0] inb).view.emb x = (ix2 r (x 0).val hr (x 0).isLt : (Sh2 16 8208).Idx) := row_emb2 (n := 16) (w := 8208) hr _ inb x

theorem exclSRow_set {r : ℕ} (hr : r < 16) (inb : ∀ a, (![r, 0] : Fin 2 → ℕ) a + S1x8208.size a ≤ S16x8208.size a) : (exclSRow ![r, 0] inb).view.set = rowS 16 8208 r := by
  ext x
  unfold View.set rowS
  rw [Finset.mem_map, Finset.mem_filter]
  constructor
  · rintro ⟨y, -, rfl⟩
    rw [exclSRow_emb hr]
    exact ⟨Finset.mem_univ _, rfl⟩
  · rintro ⟨-, hx⟩
    refine ⟨(ix (x 1).val (x 1).isLt : (Sh 8208).Idx), Finset.mem_univ _, ?_⟩
    rw [exclSRow_emb hr]
    funext a
    apply Fin.ext
    match a with
    | 0 => exact hx.symm
    | 1 => rfl

theorem exclSRow_read {r : ℕ} (hr : r < 16) (inb : ∀ a, (![r, 0] : Fin 2 → ℕ) a + S1x8208.size a ≤ S16x8208.size a) (f : (Sh2 16 8208).Idx → BitVec 32) (p : ℕ) (hp : p < 8208) :
    rd (n := 8208) ((exclSRow ![r, 0] inb).view.read (Elt F) f) p = rd2 f r p := by
  rw [rd_of_lt _ hp, rd2_eq f hr hp]
  show f ((exclSRow ![r, 0] inb).view.emb _) = _
  rw [exclSRow_emb hr]
  rfl

theorem exclSRow_write {r : ℕ} (hr : r < 16) (inb : ∀ a, (![r, 0] : Fin 2 → ℕ) a + S1x8208.size a ≤ S16x8208.size a) (f : (Sh2 16 8208).Idx → BitVec 32) (g : (Sh 8208).Idx → BitVec 32) (p : ℕ) (hp : p < 8208) :
    rd2 (n := 16) (w := 8208) ((exclSRow ![r, 0] inb).view.write (Elt F) f g Finset.univ) r p = rd g p := by
  rw [rd_of_lt _ hp, rd2_eq _ hr hp]
  have h := (exclSRow ![r, 0] inb).view.write_emb_of_mem (Val := Elt F) f g (Finset.mem_univ (ix p hp : (Sh 8208).Idx))
  rw [exclSRow_emb hr] at h
  exact h

/-- Row `off 0` of `cc0_scratch13`. -/
abbrev packSRow (off : Fin 2 → ℕ) (inb : ∀ a, off a + S1x8192.size a ≤ S16x8192.size a) : Memref sig .scVector .shared S8192 .i32 :=
  ((Memref.whole cc0_scratch13).slice (Rect.unit (s := S16x8192) off S1x8192.size inb) (fun _ => rfl)).squeeze S8192 squeezes_S1x8192_S8192

theorem packSRow_emb {r : ℕ} (hr : r < 16) (inb : ∀ a, (![r, 0] : Fin 2 → ℕ) a + S1x8192.size a ≤ S16x8192.size a) (x : S8192.Idx) :
    (packSRow ![r, 0] inb).view.emb x = (ix2 r (x 0).val hr (x 0).isLt : (Sh2 16 8192).Idx) := row_emb2 (n := 16) (w := 8192) hr _ inb x

theorem packSRow_set {r : ℕ} (hr : r < 16) (inb : ∀ a, (![r, 0] : Fin 2 → ℕ) a + S1x8192.size a ≤ S16x8192.size a) : (packSRow ![r, 0] inb).view.set = rowS 16 8192 r := by
  ext x
  unfold View.set rowS
  rw [Finset.mem_map, Finset.mem_filter]
  constructor
  · rintro ⟨y, -, rfl⟩
    rw [packSRow_emb hr]
    exact ⟨Finset.mem_univ _, rfl⟩
  · rintro ⟨-, hx⟩
    refine ⟨(ix (x 1).val (x 1).isLt : (Sh 8192).Idx), Finset.mem_univ _, ?_⟩
    rw [packSRow_emb hr]
    funext a
    apply Fin.ext
    match a with
    | 0 => exact hx.symm
    | 1 => rfl

theorem packSRow_read {r : ℕ} (hr : r < 16) (inb : ∀ a, (![r, 0] : Fin 2 → ℕ) a + S1x8192.size a ≤ S16x8192.size a) (f : (Sh2 16 8192).Idx → BitVec 32) (p : ℕ) (hp : p < 8192) :
    rd (n := 8192) ((packSRow ![r, 0] inb).view.read (Elt F) f) p = rd2 f r p := by
  rw [rd_of_lt _ hp, rd2_eq f hr hp]
  show f ((packSRow ![r, 0] inb).view.emb _) = _
  rw [packSRow_emb hr]
  rfl

theorem packSRow_write {r : ℕ} (hr : r < 16) (inb : ∀ a, (![r, 0] : Fin 2 → ℕ) a + S1x8192.size a ≤ S16x8192.size a) (f : (Sh2 16 8192).Idx → BitVec 32) (g : (Sh 8192).Idx → BitVec 32) (p : ℕ) (hp : p < 8192) :
    rd2 (n := 16) (w := 8192) ((packSRow ![r, 0] inb).view.write (Elt F) f g Finset.univ) r p = rd g p := by
  rw [rd_of_lt _ hp, rd2_eq _ hr hp]
  have h := (packSRow ![r, 0] inb).view.write_emb_of_mem (Val := Elt F) f g (Finset.mem_univ (ix p hp : (Sh 8192).Idx))
  rw [packSRow_emb hr] at h
  exact h

/-! ## One copy and its wait -/

section Copy
variable {sp sp' : Space} {sh : Shape}

theorem wp_sync {src : Memref sig .scVector sp sh .i32} {dst : Memref sig .scVector sp' sh .i32} {sem : DmaSem sig}
    {h1 : src.view.WordExact} {h2 : dst.view.WordExact} {h3 : DmaTarget.Typed (nD := nD) (τ := τ) (p := .scVector (cV L) (jV L)) sp (.dma sem) (.here dst)} {h4 : src.view.WordExact} {h5 : dst.view.WordExact}
    {k : PUnit → Prog (TpuEff nD τ sig (Elt F) Λ₀ (.scVector (cV L) (jV L))) α}
    {Φ : α → sProp 𝕄} (q : PosShare TreeShare) (fs : Buf (Elt F) (src.view.loc (V d (cV L) (jV L)))) (fd : Buf (Elt F) (dst.view.loc (V d (cV L) (jV L))))
    (Sd : Finset (Idx (dst.view.loc (V d (cV L) (jV L))))) (hSd : dst.view.set ⊆ Sd) (hN : 0 < dst.view.dmaCredit)
    (O : CellTallies nD τ sig (HIx 2)) (W : Waits sig (HIx 2)) :
    iprop((src.view.loc (V d (cV L) (jV L)) ↦[src.view.set]{q} fs) ∗ (dst.view.loc (V d (cV L) (jV L)) ↦[Sd]{fullShare} fd)
        ∗ semVal (V d (cV L) (jV L), SemLoc.dma sem) 0 ∗ owes (V d (cV L) (jV L)) O W ∗ Transfers.MayWaits (V d (cV L) (jV L)) (default : HIx 2) O)
      ⊢ iprop((iprop((dst.view.loc (V d (cV L) (jV L)) ↦[Sd]{fullShare} (dst.view.write (Elt F) fd (src.view.read (Elt F) fs) Finset.univ))
              ∗ (src.view.loc (V d (cV L) (jV L)) ↦[src.view.set]{q} fs)
              ∗ semVal (V d (cV L) (jV L), SemLoc.dma sem) 0 ∗ owes (V d (cV L) (jV L)) O (insert (SemLoc.dma sem, (default : HIx 2)) W))
            -∗ wp frame (wpE (defs₀ (F := F)) 𝒱₀ (V d (cV L) (jV L)) none) Set.univ (k ⟨⟩) Φ)
          -∗ wp frame (wpE (defs₀ (F := F)) 𝒱₀ (V d (cV L) (jV L)) none) Set.univ
            (Prog.lift (.enqueueDma src (.here dst) (.dma sem) h1 h2 h3) >>= fun _ => Prog.lift (.waitDma2 sem src dst h4 h5) >>= k) Φ) := by
  iintro ⟨Hs, Hd, Hv, HO, #Hm⟩ Hk
  iapply (Transfers.wp_dmaLocal countersEmb 𝒱₀ (V d (cV L) (jV L)) none (src := src) (dst := dst) (via := ReadAs.same) (default : HIx 2) (dst.view.amount (.dma sem)) rfl hN hSd) $$ [Hs Hd Hv]
  · isplitl [Hs]; · iexact Hs
    isplitl [Hd] <;> iassumption
  iintro HF
  iapply (Transfers.wp_waitLocalO countersEmb 𝒱₀ (V d (cV L) (jV L)) none (default : HIx 2) (dstw := dst) (srcw := src) rfl) $$ [HF HO]
  · isplitl [HF]; · iexact HF
    isplitl [HO]; · iexact HO
    iapply (Transfers.MayWaits.elim (SemLoc.dma sem)); iexact Hm
  iintro ⟨⟨Hd, Hs⟩, Hv, HO⟩
  iapply Hk
  isplitl [Hd]; · iexact Hd
  isplitl [Hs]; · iexact Hs
  isplitl [Hv] <;> iassumption
end Copy

/-! ## Parts in sequence -/

/-! ## The waves -/

theorem mixed_mixed {a b c : ℕ} (hab : a ≤ b) (hbc : b ≤ c) (g f : (Sh 8192).Idx → BitVec 32) : mixed b c g (mixed a b g f) = mixed a c g f := by
  funext x
  unfold mixed
  by_cases h1 : b ≤ (x 0).val ∧ (x 0).val < c
  · rw [if_pos h1, if_pos (by omega)]
  · rw [if_neg h1]
    by_cases h2 : a ≤ (x 0).val ∧ (x 0).val < b
    · rw [if_pos h2, if_pos (by omega)]
    · rw [if_neg h2, if_neg (by omega)]

theorem mixed_self {a : ℕ} (g f : (Sh 8192).Idx → BitVec 32) : mixed a a g f = f := by
  funext x
  unfold mixed
  exact if_neg (by omega)

/-- All waves: the codes of the runs, gathered. -/
theorem wp_waves {n : ℕ} (hn : 1 ≤ n ∧ n < 8193) (hw : k0_chk8 (BitVec.ofNat 32 n)) (v7 : IVec S16 32) (v44 c16 v45 v50 c0 : BitVec 32)
    (q : PosShare TreeShare) (T : (Sh 2097152).Idx → BitVec 32) (f1 f2 : (Sh 8192).Idx → BitVec 32)
    (hT : ∀ p < waves n, (rd f1 p).toNat < 2097152) (O : CellTallies nD τ sig (HIx 2)) (W : Waits sig (HIx 2)) {Φ : PUnit → sProp 𝕄} :
    iprop((Transfers.MayWaits (V d (cV L) (jV L)) (default : HIx 2) O
        ∗ ((V d (cV L) (jV L)).loc cc0_scratch0 ↦{fullShare} f1) ∗ ((V d (cV L) (jV L)).loc cc0_scratch1 ↦{fullShare} f2)
        ∗ ((V d (cV L) (jV L)).loc main_arg1_scv ↦{q} T) ∗ semVal (V d (cV L) (jV L), SemLoc.dma cc0_scratch14.sem) 0 ∗ owes (V d (cV L) (jV L)) O W)
        ∗ (iprop(((V d (cV L) (jV L)).loc cc0_scratch0 ↦{fullShare} f1) ∗ ((V d (cV L) (jV L)).loc cc0_scratch1 ↦{fullShare} mixed 0 (waves n) (gath T f1) f2)
          ∗ ((V d (cV L) (jV L)).loc main_arg1_scv ↦{q} T) ∗ semVal (V d (cV L) (jV L), SemLoc.dma cc0_scratch14.sem) 0
          ∗ ∃ W' : Waits sig (HIx 2), ⌜∀ p ∈ W', p ∈ W ∨ p.2 = none⌝ ∗ owes (V d (cV L) (jV L)) O W') -∗ Φ ⟨⟩))
      ⊢ wp frame (wpE (defs₀ (F := F)) 𝒱₀ (V d (cV L) (jV L)) none) Set.univ (Scf.Loop.for (k0_t8_loop (BitVec.ofNat 32 n)) (k0_t8_ok _ hw) ⟨⟩ (k0_t8_body L (Memref.whole main_v0_scv) (Memref.isWhole_whole _) (Memref.whole main_arg1_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scoped0 cc0_scoped1 cc0_scoped2 cc0_scoped3 cc0_scoped4 cc0_scoped5 cc0_scoped6 cc0_scoped7 cc0_scoped8 v7 (BitVec.ofNat 32 n) hw v44 c16 v45 v50 c0)) Φ := by
  have htr := (t8_all n hn).2
  iintro ⟨⟨#Hm, Hb1, Hb2, HT, Hv, HO⟩, Hk⟩
  iapply (Scf.wp_for _ _ _ (k0_t8_loop (BitVec.ofNat 32 n)).lb (k0_t8_loop (BitVec.ofNat 32 n)).ub (k0_t8_loop (BitVec.ofNat 32 n)).st (k0_t8_ok _ hw) ⟨⟩
    (k0_t8_body L (Memref.whole main_v0_scv) (Memref.isWhole_whole _) (Memref.whole main_arg1_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scoped0 cc0_scoped1 cc0_scoped2 cc0_scoped3 cc0_scoped4 cc0_scoped5 cc0_scoped6 cc0_scoped7 cc0_scoped8 v7 (BitVec.ofNat 32 n) hw v44 c16 v45 v50 c0)
    (fun t _ => iprop(Transfers.MayWaits (V d (cV L) (jV L)) (default : HIx 2) O ∗ ((V d (cV L) (jV L)).loc cc0_scratch0 ↦{fullShare} f1) ∗ ((V d (cV L) (jV L)).loc cc0_scratch1 ↦{fullShare} mixed 0 (1024 * t) (gath T f1) f2)
          ∗ ((V d (cV L) (jV L)).loc main_arg1_scv ↦{q} T) ∗ semVal (V d (cV L) (jV L), SemLoc.dma cc0_scratch14.sem) 0
          ∗ ∃ W' : Waits sig (HIx 2), ⌜∀ p ∈ W', p ∈ W ∨ p.2 = none⌝ ∗ owes (V d (cV L) (jV L)) O W')) ?_)
  · intro t acc
    iintro ⟨#Hm, Hb1, Hb2, HT, Hv, %W1, %hW1, HO⟩
    have h := wp_wave (F := F) (d := d) (L := L) hn hw t v7 v44 c16 v45 v50 c0 q T f1 (mixed 0 (1024 * t.val) (gath T f1) f2) (fun p _ hp => hT p (by
      have ht : t.val < (n + 1023) / 1024 := lt_of_lt_of_eq t.isLt htr
      unfold waves; omega)) O W1
    ihave Hw := h $$ [Hb1 Hb2 HT Hv HO]
    · isplitr; · iexact Hm
      isplitl [Hb1]; · iexact Hb1
      isplitl [Hb2]; · iexact Hb2
      isplitl [HT]; · iexact HT
      isplitl [Hv] <;> iassumption
    iapply (wp_wand) $$ [Hw]
    · iexact Hw
    iintro %r ⟨Hb1, Hb2, HT, Hv, %W2, %hW2, HO⟩
    isplitr; · iexact Hm
    isplitl [Hb1]; · iexact Hb1
    isplitl [Hb2]
    · iapply (Entails.of_eq (congrArg (fun f => ((V d (cV L) (jV L)).loc cc0_scratch1 ↦{fullShare} f : sProp 𝕄)) (show mixed (1024 * t.val) (1024 * t.val + 1024) (gath T f1) (mixed 0 (1024 * t.val) (gath T f1) f2) = mixed 0 (1024 * (t.val + 1)) (gath T f1) f2 from
        mixed_mixed (Nat.zero_le _) (by omega) _ _))); iexact Hb2
    isplitl [HT]; · iexact HT
    isplitl [Hv]; · iexact Hv
    iexists W2; isplitr
    · ipureintro
      intro p hp
      rcases hW2 p hp with h | h
      · exact hW1 p h
      · exact .inr h
    iexact HO
  · isplitr [Hk]
    · isplitr; · iexact Hm
      isplitl [Hb1]; · iexact Hb1
      isplitl [Hb2]
      · iapply (Entails.of_eq (congrArg (fun f => ((V d (cV L) (jV L)).loc cc0_scratch1 ↦{fullShare} f : sProp 𝕄)) (mixed_self (gath T f1) f2).symm)); iexact Hb2
      isplitl [HT]; · iexact HT
      isplitl [Hv]; · iexact Hv
      iexists W; isplitr
      · ipureintro; exact fun p hp => .inl hp
      iexact HO
    · iintro %acc ⟨-, Hb1, Hb2, H⟩
      iapply Hk
      isplitl [Hb1]; · iexact Hb1
      isplitl [Hb2]
      · iapply (Entails.of_eq (congrArg (fun t => ((V d (cV L) (jV L)).loc cc0_scratch1 ↦{fullShare} mixed 0 t (gath T f1) f2 : sProp 𝕄))
          (show 1024 * (k0_t8_loop (BitVec.ofNat 32 n)).trips = waves n by rw [htr]; unfold waves; omega))); iexact Hb2
      iexact H

end Cert.Proof.Tile
-- ==== Proof.Moves.lean ====
/-
  A tile's copies between its scratch and a row of an array: each with its wait, as one step.
-/
module

public import proofs.«01_k».proof.Defs
public import proofs.«01_k».proof.Proof.Lanes
public import proofs.«01_k».proof.Proof.Gen.KernelIdeal
public import proofs.«01_k».proof.Proof.Gen.KernelIdeal.Skeleton
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Tile
public import proofs.«01_k».proof.Proof.TileOps
public import proofs.«01_k».proof.Proof.Copy

@[expose] public section

noncomputable section

namespace Cert.Proof.Tile

open Cert.KernelIdeal Cert.KernelIdeal.Gen
open Cert.Proof.Lanes

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable {d : Dev nD} {L : grid0.Coords} {α β : Type} {s : St} {Q : α → St → Prop}

attribute [local instance] stages

section Moves
local notation "thr" => V d (cV L) (jV L)

theorem wp_seq {X : sProp 𝕄} {e : Prog (TpuEff nD τ sig (Elt F) Λ₀ (.scVector (cV L) (jV L))) α} {k : α → Prog (TpuEff nD τ sig (Elt F) Λ₀ (.scVector (cV L) (jV L))) β}
    {Φ : α → sProp 𝕄} {Ψ : β → sProp 𝕄} (h : X ⊢ wp frame (wpE (defs₀ (F := F)) 𝒱₀ thr none) Set.univ e Φ) :
    iprop(X ∗ (∀ r, Φ r -∗ wp frame (wpE (defs₀ (F := F)) 𝒱₀ thr none) Set.univ (k r) Ψ)) ⊢ wp frame (wpE (defs₀ (F := F)) 𝒱₀ thr none) Set.univ (e >>= k) Ψ := by
  rw [wp_bind]
  iintro ⟨HS, HR⟩
  ihave Hw := h $$ HS
  iapply (wp_wand) $$ [Hw]
  · iexact Hw
  iexact HR

theorem run_seq {s : St} {e : Prog (TpuEff nD τ sig (Elt F) Λ₀ (.scVector (cV L) (jV L))) α} {k : α → Prog (TpuEff nD τ sig (Elt F) Λ₀ (.scVector (cV L) (jV L))) β}
    {Q : α → St → Prop} {Ψ : β → sProp 𝕄} (h : Run (F := F) d L s e Q) :
    iprop(Res (F := F) d L s ∗ (∀ r s', ⌜Q r s'⌝ -∗ Res (F := F) d L s' -∗ wp frame (wpE (defs₀ (F := F)) 𝒱₀ thr none) Set.univ (k r) Ψ))
      ⊢ wp frame (wpE (defs₀ (F := F)) 𝒱₀ thr none) Set.univ (e >>= k) Ψ := by
  rw [wp_bind]
  iintro ⟨HS, HR⟩
  ihave Hw := (show Res (F := F) d L s ⊢ _ from h) $$ HS
  iapply (wp_wand) $$ [Hw]
  · iexact Hw
  iintro %r ⟨%s', %hq, HS⟩
  ihave H := HR $$ %r %s'
  ihave H1 := H $$ %hq
  iapply H1; iexact HS

theorem Res.b1_acc (s : St) : Res (F := F) d L s ⊢ iprop(((thr).loc cc0_scratch0 ↦{fullShare} s.b1) ∗ (∀ f : Buf (Elt F) ((thr).loc cc0_scratch0), ((thr).loc cc0_scratch0 ↦{fullShare} f) -∗ Res (F := F) d L { s with b1 := f }) : sProp 𝕄) :=
  (focus_b1 (F := F) (d := d) (L := L)).own s

theorem Res.b1_same (s : St) : Res (F := F) d L s ⊢ iprop(((thr).loc cc0_scratch0 ↦{fullShare} s.b1) ∗ (((thr).loc cc0_scratch0 ↦{fullShare} s.b1) -∗ Res (F := F) d L s) : sProp 𝕄) :=
  (focus_b1 (F := F) (d := d) (L := L)).own_same s

theorem Res.b2_acc (s : St) : Res (F := F) d L s ⊢ iprop(((thr).loc cc0_scratch1 ↦{fullShare} s.b2) ∗ (∀ f : Buf (Elt F) ((thr).loc cc0_scratch1), ((thr).loc cc0_scratch1 ↦{fullShare} f) -∗ Res (F := F) d L { s with b2 := f }) : sProp 𝕄) :=
  (focus_b2 (F := F) (d := d) (L := L)).own s

theorem Res.b2_same (s : St) : Res (F := F) d L s ⊢ iprop(((thr).loc cc0_scratch1 ↦{fullShare} s.b2) ∗ (((thr).loc cc0_scratch1 ↦{fullShare} s.b2) -∗ Res (F := F) d L s) : sProp 𝕄) :=
  (focus_b2 (F := F) (d := d) (L := L)).own_same s

theorem Res.b5_acc (s : St) : Res (F := F) d L s ⊢ iprop(((thr).loc cc0_scratch4 ↦{fullShare} s.b5) ∗ (∀ f : Buf (Elt F) ((thr).loc cc0_scratch4), ((thr).loc cc0_scratch4 ↦{fullShare} f) -∗ Res (F := F) d L { s with b5 := f }) : sProp 𝕄) :=
  (focus_b5 (F := F) (d := d) (L := L)).own s

theorem Res.oex_acc (s : St) : Res (F := F) d L s ⊢ iprop(((thr).loc cc0_scratch7 ↦{fullShare} s.oex) ∗ (∀ f : Buf (Elt F) ((thr).loc cc0_scratch7), ((thr).loc cc0_scratch7 ↦{fullShare} f) -∗ Res (F := F) d L { s with oex := f }) : sProp 𝕄) :=
  (focus_oex (F := F) (d := d) (L := L)).own s

theorem Res.oex_same (s : St) : Res (F := F) d L s ⊢ iprop(((thr).loc cc0_scratch7 ↦{fullShare} s.oex) ∗ (((thr).loc cc0_scratch7 ↦{fullShare} s.oex) -∗ Res (F := F) d L s) : sProp 𝕄) :=
  (focus_oex (F := F) (d := d) (L := L)).own_same s

theorem Res.pc_acc (s : St) : Res (F := F) d L s ⊢ iprop(((thr).loc cc0_scratch8 ↦{fullShare} s.pc) ∗ (∀ f : Buf (Elt F) ((thr).loc cc0_scratch8), ((thr).loc cc0_scratch8 ↦{fullShare} f) -∗ Res (F := F) d L { s with pc := f }) : sProp 𝕄) :=
  (focus_pc (F := F) (d := d) (L := L)).own s

theorem Res.pe_acc (s : St) : Res (F := F) d L s ⊢ iprop(((thr).loc cc0_scratch9 ↦{fullShare} s.pe) ∗ (∀ f : Buf (Elt F) ((thr).loc cc0_scratch9), ((thr).loc cc0_scratch9 ↦{fullShare} f) -∗ Res (F := F) d L { s with pe := f }) : sProp 𝕄) :=
  (focus_pe (F := F) (d := d) (L := L)).own s

theorem Res.rl_acc (s : St) : Res (F := F) d L s ⊢ iprop(((thr).loc cc0_scratch10 ↦{fullShare} s.rl) ∗ (∀ f : Buf (Elt F) ((thr).loc cc0_scratch10), ((thr).loc cc0_scratch10 ↦{fullShare} f) -∗ Res (F := F) d L { s with rl := f }) : sProp 𝕄) :=
  (focus_rl (F := F) (d := d) (L := L)).own s

theorem Res.rl_same (s : St) : Res (F := F) d L s ⊢ iprop(((thr).loc cc0_scratch10 ↦{fullShare} s.rl) ∗ (((thr).loc cc0_scratch10 ↦{fullShare} s.rl) -∗ Res (F := F) d L s) : sProp 𝕄) :=
  (focus_rl (F := F) (d := d) (L := L)).own_same s

/-- Scratch `b2` out to a row of `codeS`. -/
theorem b2_to_codeS (s : St) {off : Fin 2 → ℕ} {inb : ∀ a, off a + S1x8192.size a ≤ S16x8192.size a} {r : ℕ} (hr : r < 16) (hoff : off = ![r, 0]) {sem : DmaSem sig}
    {h1 : (Memref.whole cc0_scratch1).view.WordExact} {h2 : (codeSRow off inb).view.WordExact} {h3 : DmaTarget.Typed (nD := nD) (τ := τ) (p := .scVector (cV L) (jV L)) .vmem (.dma sem) (.here (codeSRow off inb))}
    {h4 : (Memref.whole cc0_scratch1).view.WordExact} {h5 : (codeSRow off inb).view.WordExact}
    {k : PUnit → Prog (TpuEff nD τ sig (Elt F) Λ₀ (.scVector (cV L) (jV L))) α} {Φ : α → sProp 𝕄} (g : (Sh2 16 8192).Idx → BitVec 32)
    (O : CellTallies nD τ sig (HIx 2)) (W : Waits sig (HIx 2)) :
    iprop((Transfers.MayWaits thr (default : HIx 2) O ∗ Res (F := F) d L s ∗ ((thr).loc cc0_scratch11 ↦[rowS 16 8192 r]{fullShare} g) ∗ semVal (thr, SemLoc.dma sem) 0 ∗ owes thr O W)
        ∗ (∀ g' : (Sh2 16 8192).Idx → BitVec 32, ⌜∀ p < 8192, rd2 g' r p = rd s.b2 p⌝ -∗
          (Res (F := F) d L s ∗ ((thr).loc cc0_scratch11 ↦[rowS 16 8192 r]{fullShare} g') ∗ semVal (thr, SemLoc.dma sem) 0 ∗ owes thr O (insert (SemLoc.dma sem, (default : HIx 2)) W))
          -∗ wp frame (wpE (defs₀ (F := F)) 𝒱₀ thr none) Set.univ (k ⟨⟩) Φ))
      ⊢ wp frame (wpE (defs₀ (F := F)) 𝒱₀ thr none) Set.univ
          (Prog.lift (.enqueueDma (Memref.whole cc0_scratch1) (.here (codeSRow off inb)) (.dma sem) h1 h2 h3) >>= fun _ => Prog.lift (.waitDma2 sem (Memref.whole cc0_scratch1) (codeSRow off inb) h4 h5) >>= k) Φ := by
  subst hoff
  iintro ⟨⟨#Hm, HR, Hg, Hv, HO⟩, Hk⟩
  ihave HR' := (Res.b2_same (F := F) (d := d) (L := L) s) $$ HR
  icases HR' with ⟨Hf, HR⟩
  iapply (wp_sync (F := F) (d := d) (L := L) (src := Memref.whole cc0_scratch1) (dst := codeSRow ![r, 0] inb) fullShare s.b2 g (rowS 16 8192 r) (by rw [codeSRow_set hr]) (View.dmaCredit_pos _ (by decide)) O W) $$ [Hf Hg Hv HO]
  · isplitl [Hf]
    · iapply (Entails.of_eq (congrArg (fun S => ((thr).loc cc0_scratch1 ↦[S]{fullShare} s.b2 : sProp 𝕄)) (View.set_whole cc0_scratch1).symm)); iexact Hf
    isplitl [Hg]; · iexact Hg
    isplitl [Hv]; · iexact Hv
    isplitl [HO]; · iexact HO
    iexact Hm
  iintro ⟨Hg, Hf, Hv, HO⟩
  ihave Hf' := (Entails.of_eq (congrArg (fun S => ((thr).loc cc0_scratch1 ↦[S]{fullShare} s.b2 : sProp 𝕄)) (View.set_whole cc0_scratch1))) $$ Hf
  ihave HR' := HR $$ Hf'
  ihave Hk1 := Hk $$ %_ %(fun p hp => codeSRow_write (F := F) hr inb g s.b2 p hp)
  iapply Hk1
  isplitl [HR']; · iexact HR'
  isplitl [Hg]; · iexact Hg
  isplitl [Hv] <;> iassumption

/-- Scratch `oex` out to a row of `exclS`. -/
theorem oex_to_exclS (s : St) {off : Fin 2 → ℕ} {inb : ∀ a, off a + S1x8208.size a ≤ S16x8208.size a} {r : ℕ} (hr : r < 16) (hoff : off = ![r, 0]) {sem : DmaSem sig}
    {h1 : (Memref.whole cc0_scratch7).view.WordExact} {h2 : (exclSRow off inb).view.WordExact} {h3 : DmaTarget.Typed (nD := nD) (τ := τ) (p := .scVector (cV L) (jV L)) .vmem (.dma sem) (.here (exclSRow off inb))}
    {h4 : (Memref.whole cc0_scratch7).view.WordExact} {h5 : (exclSRow off inb).view.WordExact}
    {k : PUnit → Prog (TpuEff nD τ sig (Elt F) Λ₀ (.scVector (cV L) (jV L))) α} {Φ : α → sProp 𝕄} (g : (Sh2 16 8208).Idx → BitVec 32)
    (O : CellTallies nD τ sig (HIx 2)) (W : Waits sig (HIx 2)) :
    iprop((Transfers.MayWaits thr (default : HIx 2) O ∗ Res (F := F) d L s ∗ ((thr).loc cc0_scratch12 ↦[rowS 16 8208 r]{fullShare} g) ∗ semVal (thr, SemLoc.dma sem) 0 ∗ owes thr O W)
        ∗ (∀ g' : (Sh2 16 8208).Idx → BitVec 32, ⌜∀ p < 8208, rd2 g' r p = rd s.oex p⌝ -∗
          (Res (F := F) d L s ∗ ((thr).loc cc0_scratch12 ↦[rowS 16 8208 r]{fullShare} g') ∗ semVal (thr, SemLoc.dma sem) 0 ∗ owes thr O (insert (SemLoc.dma sem, (default : HIx 2)) W))
          -∗ wp frame (wpE (defs₀ (F := F)) 𝒱₀ thr none) Set.univ (k ⟨⟩) Φ))
      ⊢ wp frame (wpE (defs₀ (F := F)) 𝒱₀ thr none) Set.univ
          (Prog.lift (.enqueueDma (Memref.whole cc0_scratch7) (.here (exclSRow off inb)) (.dma sem) h1 h2 h3) >>= fun _ => Prog.lift (.waitDma2 sem (Memref.whole cc0_scratch7) (exclSRow off inb) h4 h5) >>= k) Φ := by
  subst hoff
  iintro ⟨⟨#Hm, HR, Hg, Hv, HO⟩, Hk⟩
  ihave HR' := (Res.oex_same (F := F) (d := d) (L := L) s) $$ HR
  icases HR' with ⟨Hf, HR⟩
  iapply (wp_sync (F := F) (d := d) (L := L) (src := Memref.whole cc0_scratch7) (dst := exclSRow ![r, 0] inb) fullShare s.oex g (rowS 16 8208 r) (by rw [exclSRow_set hr]) (View.dmaCredit_pos _ (by decide)) O W) $$ [Hf Hg Hv HO]
  · isplitl [Hf]
    · iapply (Entails.of_eq (congrArg (fun S => ((thr).loc cc0_scratch7 ↦[S]{fullShare} s.oex : sProp 𝕄)) (View.set_whole cc0_scratch7).symm)); iexact Hf
    isplitl [Hg]; · iexact Hg
    isplitl [Hv]; · iexact Hv
    isplitl [HO]; · iexact HO
    iexact Hm
  iintro ⟨Hg, Hf, Hv, HO⟩
  ihave Hf' := (Entails.of_eq (congrArg (fun S => ((thr).loc cc0_scratch7 ↦[S]{fullShare} s.oex : sProp 𝕄)) (View.set_whole cc0_scratch7))) $$ Hf
  ihave HR' := HR $$ Hf'
  ihave Hk1 := Hk $$ %_ %(fun p hp => exclSRow_write (F := F) hr inb g s.oex p hp)
  iapply Hk1
  isplitl [HR']; · iexact HR'
  isplitl [Hg]; · iexact Hg
  isplitl [Hv] <;> iassumption

/-- Scratch `b2` out to a row of `packS`. -/
theorem b2_to_packS (s : St) {off : Fin 2 → ℕ} {inb : ∀ a, off a + S1x8192.size a ≤ S16x8192.size a} {r : ℕ} (hr : r < 16) (hoff : off = ![r, 0]) {sem : DmaSem sig}
    {h1 : (Memref.whole cc0_scratch1).view.WordExact} {h2 : (packSRow off inb).view.WordExact} {h3 : DmaTarget.Typed (nD := nD) (τ := τ) (p := .scVector (cV L) (jV L)) .vmem (.dma sem) (.here (packSRow off inb))}
    {h4 : (Memref.whole cc0_scratch1).view.WordExact} {h5 : (packSRow off inb).view.WordExact}
    {k : PUnit → Prog (TpuEff nD τ sig (Elt F) Λ₀ (.scVector (cV L) (jV L))) α} {Φ : α → sProp 𝕄} (g : (Sh2 16 8192).Idx → BitVec 32)
    (O : CellTallies nD τ sig (HIx 2)) (W : Waits sig (HIx 2)) :
    iprop((Transfers.MayWaits thr (default : HIx 2) O ∗ Res (F := F) d L s ∗ ((thr).loc cc0_scratch13 ↦[rowS 16 8192 r]{fullShare} g) ∗ semVal (thr, SemLoc.dma sem) 0 ∗ owes thr O W)
        ∗ (∀ g' : (Sh2 16 8192).Idx → BitVec 32, ⌜∀ p < 8192, rd2 g' r p = rd s.b2 p⌝ -∗
          (Res (F := F) d L s ∗ ((thr).loc cc0_scratch13 ↦[rowS 16 8192 r]{fullShare} g') ∗ semVal (thr, SemLoc.dma sem) 0 ∗ owes thr O (insert (SemLoc.dma sem, (default : HIx 2)) W))
          -∗ wp frame (wpE (defs₀ (F := F)) 𝒱₀ thr none) Set.univ (k ⟨⟩) Φ))
      ⊢ wp frame (wpE (defs₀ (F := F)) 𝒱₀ thr none) Set.univ
          (Prog.lift (.enqueueDma (Memref.whole cc0_scratch1) (.here (packSRow off inb)) (.dma sem) h1 h2 h3) >>= fun _ => Prog.lift (.waitDma2 sem (Memref.whole cc0_scratch1) (packSRow off inb) h4 h5) >>= k) Φ := by
  subst hoff
  iintro ⟨⟨#Hm, HR, Hg, Hv, HO⟩, Hk⟩
  ihave HR' := (Res.b2_same (F := F) (d := d) (L := L) s) $$ HR
  icases HR' with ⟨Hf, HR⟩
  iapply (wp_sync (F := F) (d := d) (L := L) (src := Memref.whole cc0_scratch1) (dst := packSRow ![r, 0] inb) fullShare s.b2 g (rowS 16 8192 r) (by rw [packSRow_set hr]) (View.dmaCredit_pos _ (by decide)) O W) $$ [Hf Hg Hv HO]
  · isplitl [Hf]
    · iapply (Entails.of_eq (congrArg (fun S => ((thr).loc cc0_scratch1 ↦[S]{fullShare} s.b2 : sProp 𝕄)) (View.set_whole cc0_scratch1).symm)); iexact Hf
    isplitl [Hg]; · iexact Hg
    isplitl [Hv]; · iexact Hv
    isplitl [HO]; · iexact HO
    iexact Hm
  iintro ⟨Hg, Hf, Hv, HO⟩
  ihave Hf' := (Entails.of_eq (congrArg (fun S => ((thr).loc cc0_scratch1 ↦[S]{fullShare} s.b2 : sProp 𝕄)) (View.set_whole cc0_scratch1))) $$ Hf
  ihave HR' := HR $$ Hf'
  ihave Hk1 := Hk $$ %_ %(fun p hp => packSRow_write (F := F) hr inb g s.b2 p hp)
  iapply Hk1
  isplitl [HR']; · iexact HR'
  isplitl [Hg]; · iexact Hg
  isplitl [Hv] <;> iassumption

/-- Scratch `b1` out to a row of `ordr`. -/
theorem b1_to_ordr (s : St) {off : Fin 2 → ℕ} {inb : ∀ a, off a + S1x8192.size a ≤ S32x8192.size a} {r : ℕ} (hr : r < 32) (hoff : off = ![r, 0]) {sem : DmaSem sig}
    {h1 : (Memref.whole cc0_scratch0).view.WordExact} {h2 : (ordrRow off inb).view.WordExact} {h3 : DmaTarget.Typed (nD := nD) (τ := τ) (p := .scVector (cV L) (jV L)) .vmem (.dma sem) (.here (ordrRow off inb))}
    {h4 : (Memref.whole cc0_scratch0).view.WordExact} {h5 : (ordrRow off inb).view.WordExact}
    {k : PUnit → Prog (TpuEff nD τ sig (Elt F) Λ₀ (.scVector (cV L) (jV L))) α} {Φ : α → sProp 𝕄} (g : (Sh2 32 8192).Idx → BitVec 32)
    (O : CellTallies nD τ sig (HIx 2)) (W : Waits sig (HIx 2)) :
    iprop((Transfers.MayWaits thr (default : HIx 2) O ∗ Res (F := F) d L s ∗ ((thr).loc main_v1_0_scv ↦[rowS 32 8192 r]{fullShare} g) ∗ semVal (thr, SemLoc.dma sem) 0 ∗ owes thr O W)
        ∗ (∀ g' : (Sh2 32 8192).Idx → BitVec 32, ⌜∀ p < 8192, rd2 g' r p = rd s.b1 p⌝ -∗
          (Res (F := F) d L s ∗ ((thr).loc main_v1_0_scv ↦[rowS 32 8192 r]{fullShare} g') ∗ semVal (thr, SemLoc.dma sem) 0 ∗ owes thr O (insert (SemLoc.dma sem, (default : HIx 2)) W))
          -∗ wp frame (wpE (defs₀ (F := F)) 𝒱₀ thr none) Set.univ (k ⟨⟩) Φ))
      ⊢ wp frame (wpE (defs₀ (F := F)) 𝒱₀ thr none) Set.univ
          (Prog.lift (.enqueueDma (Memref.whole cc0_scratch0) (.here (ordrRow off inb)) (.dma sem) h1 h2 h3) >>= fun _ => Prog.lift (.waitDma2 sem (Memref.whole cc0_scratch0) (ordrRow off inb) h4 h5) >>= k) Φ := by
  subst hoff
  iintro ⟨⟨#Hm, HR, Hg, Hv, HO⟩, Hk⟩
  ihave HR' := (Res.b1_same (F := F) (d := d) (L := L) s) $$ HR
  icases HR' with ⟨Hf, HR⟩
  iapply (wp_sync (F := F) (d := d) (L := L) (src := Memref.whole cc0_scratch0) (dst := ordrRow ![r, 0] inb) fullShare s.b1 g (rowS 32 8192 r) (by rw [ordrRow_set hr]) (View.dmaCredit_pos _ (by decide)) O W) $$ [Hf Hg Hv HO]
  · isplitl [Hf]
    · iapply (Entails.of_eq (congrArg (fun S => ((thr).loc cc0_scratch0 ↦[S]{fullShare} s.b1 : sProp 𝕄)) (View.set_whole cc0_scratch0).symm)); iexact Hf
    isplitl [Hg]; · iexact Hg
    isplitl [Hv]; · iexact Hv
    isplitl [HO]; · iexact HO
    iexact Hm
  iintro ⟨Hg, Hf, Hv, HO⟩
  ihave Hf' := (Entails.of_eq (congrArg (fun S => ((thr).loc cc0_scratch0 ↦[S]{fullShare} s.b1 : sProp 𝕄)) (View.set_whole cc0_scratch0))) $$ Hf
  ihave HR' := HR $$ Hf'
  ihave Hk1 := Hk $$ %_ %(fun p hp => ordrRow_write (F := F) hr inb g s.b1 p hp)
  iapply Hk1
  isplitl [HR']; · iexact HR'
  isplitl [Hg]; · iexact Hg
  isplitl [Hv] <;> iassumption

/-- Scratch `rl` out to a row of `rev`. -/
theorem rl_to_rev (s : St) {off : Fin 2 → ℕ} {inb : ∀ a, off a + S1x8192.size a ≤ S32x8192.size a} {r : ℕ} (hr : r < 32) (hoff : off = ![r, 0]) {sem : DmaSem sig}
    {h1 : (Memref.whole cc0_scratch10).view.WordExact} {h2 : (revRow off inb).view.WordExact} {h3 : DmaTarget.Typed (nD := nD) (τ := τ) (p := .scVector (cV L) (jV L)) .vmem (.dma sem) (.here (revRow off inb))}
    {h4 : (Memref.whole cc0_scratch10).view.WordExact} {h5 : (revRow off inb).view.WordExact}
    {k : PUnit → Prog (TpuEff nD τ sig (Elt F) Λ₀ (.scVector (cV L) (jV L))) α} {Φ : α → sProp 𝕄} (g : (Sh2 32 8192).Idx → BitVec 32)
    (O : CellTallies nD τ sig (HIx 2)) (W : Waits sig (HIx 2)) :
    iprop((Transfers.MayWaits thr (default : HIx 2) O ∗ Res (F := F) d L s ∗ ((thr).loc main_v1_1_scv ↦[rowS 32 8192 r]{fullShare} g) ∗ semVal (thr, SemLoc.dma sem) 0 ∗ owes thr O W)
        ∗ (∀ g' : (Sh2 32 8192).Idx → BitVec 32, ⌜∀ p < 8192, rd2 g' r p = rd s.rl p⌝ -∗
          (Res (F := F) d L s ∗ ((thr).loc main_v1_1_scv ↦[rowS 32 8192 r]{fullShare} g') ∗ semVal (thr, SemLoc.dma sem) 0 ∗ owes thr O (insert (SemLoc.dma sem, (default : HIx 2)) W))
          -∗ wp frame (wpE (defs₀ (F := F)) 𝒱₀ thr none) Set.univ (k ⟨⟩) Φ))
      ⊢ wp frame (wpE (defs₀ (F := F)) 𝒱₀ thr none) Set.univ
          (Prog.lift (.enqueueDma (Memref.whole cc0_scratch10) (.here (revRow off inb)) (.dma sem) h1 h2 h3) >>= fun _ => Prog.lift (.waitDma2 sem (Memref.whole cc0_scratch10) (revRow off inb) h4 h5) >>= k) Φ := by
  subst hoff
  iintro ⟨⟨#Hm, HR, Hg, Hv, HO⟩, Hk⟩
  ihave HR' := (Res.rl_same (F := F) (d := d) (L := L) s) $$ HR
  icases HR' with ⟨Hf, HR⟩
  iapply (wp_sync (F := F) (d := d) (L := L) (src := Memref.whole cc0_scratch10) (dst := revRow ![r, 0] inb) fullShare s.rl g (rowS 32 8192 r) (by rw [revRow_set hr]) (View.dmaCredit_pos _ (by decide)) O W) $$ [Hf Hg Hv HO]
  · isplitl [Hf]
    · iapply (Entails.of_eq (congrArg (fun S => ((thr).loc cc0_scratch10 ↦[S]{fullShare} s.rl : sProp 𝕄)) (View.set_whole cc0_scratch10).symm)); iexact Hf
    isplitl [Hg]; · iexact Hg
    isplitl [Hv]; · iexact Hv
    isplitl [HO]; · iexact HO
    iexact Hm
  iintro ⟨Hg, Hf, Hv, HO⟩
  ihave Hf' := (Entails.of_eq (congrArg (fun S => ((thr).loc cc0_scratch10 ↦[S]{fullShare} s.rl : sProp 𝕄)) (View.set_whole cc0_scratch10))) $$ Hf
  ihave HR' := HR $$ Hf'
  ihave Hk1 := Hk $$ %_ %(fun p hp => revRow_write (F := F) hr inb g s.rl p hp)
  iapply Hk1
  isplitl [HR']; · iexact HR'
  isplitl [Hg]; · iexact Hg
  isplitl [Hv] <;> iassumption

/-- A row of `flat` into scratch `b1`. -/
theorem b1_of_flat (s : St) {off : Fin 2 → ℕ} {inb : ∀ a, off a + S1x8192.size a ≤ S32x8192.size a} {r : ℕ} (hr : r < 32) (hoff : off = ![r, 0]) {sem : DmaSem sig}
    {h1 : (flatRow off inb).view.WordExact} {h2 : (Memref.whole cc0_scratch0).view.WordExact} {h3 : DmaTarget.Typed (nD := nD) (τ := τ) (p := .scVector (cV L) (jV L)) .hbm (.dma sem) (.here (Memref.whole cc0_scratch0))}
    {h4 : (flatRow off inb).view.WordExact} {h5 : (Memref.whole cc0_scratch0).view.WordExact}
    {k : PUnit → Prog (TpuEff nD τ sig (Elt F) Λ₀ (.scVector (cV L) (jV L))) α} {Φ : α → sProp 𝕄} (q : PosShare TreeShare) (g : (Sh2 32 8192).Idx → BitVec 32)
    (O : CellTallies nD τ sig (HIx 2)) (W : Waits sig (HIx 2)) :
    iprop((Transfers.MayWaits thr (default : HIx 2) O ∗ Res (F := F) d L s ∗ ((thr).loc main_v0_scv ↦[rowS 32 8192 r]{q} g) ∗ semVal (thr, SemLoc.dma sem) 0 ∗ owes thr O W)
        ∗ (∀ f : (Sh 8192).Idx → BitVec 32, ⌜∀ p < 8192, rd f p = rd2 g r p⌝ -∗
          (Res (F := F) d L { s with b1 := f } ∗ ((thr).loc main_v0_scv ↦[rowS 32 8192 r]{q} g) ∗ semVal (thr, SemLoc.dma sem) 0 ∗ owes thr O (insert (SemLoc.dma sem, (default : HIx 2)) W))
          -∗ wp frame (wpE (defs₀ (F := F)) 𝒱₀ thr none) Set.univ (k ⟨⟩) Φ))
      ⊢ wp frame (wpE (defs₀ (F := F)) 𝒱₀ thr none) Set.univ
          (Prog.lift (.enqueueDma (flatRow off inb) (.here (Memref.whole cc0_scratch0)) (.dma sem) h1 h2 h3) >>= fun _ => Prog.lift (.waitDma2 sem (flatRow off inb) (Memref.whole cc0_scratch0) h4 h5) >>= k) Φ := by
  subst hoff
  iintro ⟨⟨#Hm, HR, Hg, Hv, HO⟩, Hk⟩
  ihave HR' := (Res.b1_acc (F := F) (d := d) (L := L) s) $$ HR
  icases HR' with ⟨Hf, HR⟩
  iapply (wp_sync (F := F) (d := d) (L := L) (src := flatRow ![r, 0] inb) (dst := Memref.whole cc0_scratch0) q g s.b1 Finset.univ (Finset.subset_univ _) (by show 0 < (Memref.whole cc0_scratch0).view.dmaCredit; decide) O W) $$ [Hf Hg Hv HO]
  · isplitl [Hg]
    · iapply (Entails.of_eq (congrArg (fun S => ((thr).loc main_v0_scv ↦[S]{q} g : sProp 𝕄)) (flatRow_set hr inb).symm)); iexact Hg
    isplitl [Hf]; · iexact Hf
    isplitl [Hv]; · iexact Hv
    isplitl [HO]; · iexact HO
    iexact Hm
  iintro ⟨Hf, Hg, Hv, HO⟩
  ihave Hg' := (Entails.of_eq (congrArg (fun S => ((thr).loc main_v0_scv ↦[S]{q} g : sProp 𝕄)) (flatRow_set hr inb))) $$ Hg
  ihave Hf' := (Entails.of_eq (congrArg (fun f => ((thr).loc cc0_scratch0 ↦{fullShare} f : sProp 𝕄)) (View.write_whole_univ (Val := Elt F) cc0_scratch0 s.b1 ((flatRow ![r, 0] inb).view.read (Elt F) g)))) $$ Hf
  ihave HR' := HR $$ %_ Hf'
  ihave Hk1 := Hk $$ %_ %(fun p hp => flatRow_read (F := F) hr inb g p hp)
  iapply Hk1
  isplitl [HR']; · iexact HR'
  isplitl [Hg']; · iexact Hg'
  isplitl [Hv] <;> iassumption

/-- A row of `packS` into scratch `b5`. -/
theorem b5_of_packS (s : St) {off : Fin 2 → ℕ} {inb : ∀ a, off a + S1x8192.size a ≤ S16x8192.size a} {r : ℕ} (hr : r < 16) (hoff : off = ![r, 0]) {sem : DmaSem sig}
    {h1 : (packSRow off inb).view.WordExact} {h2 : (Memref.whole cc0_scratch4).view.WordExact} {h3 : DmaTarget.Typed (nD := nD) (τ := τ) (p := .scVector (cV L) (jV L)) .shared (.dma sem) (.here (Memref.whole cc0_scratch4))}
    {h4 : (packSRow off inb).view.WordExact} {h5 : (Memref.whole cc0_scratch4).view.WordExact}
    {k : PUnit → Prog (TpuEff nD τ sig (Elt F) Λ₀ (.scVector (cV L) (jV L))) α} {Φ : α → sProp 𝕄} (q : PosShare TreeShare) (g : (Sh2 16 8192).Idx → BitVec 32)
    (O : CellTallies nD τ sig (HIx 2)) (W : Waits sig (HIx 2)) :
    iprop((Transfers.MayWaits thr (default : HIx 2) O ∗ Res (F := F) d L s ∗ ((thr).loc cc0_scratch13 ↦[rowS 16 8192 r]{q} g) ∗ semVal (thr, SemLoc.dma sem) 0 ∗ owes thr O W)
        ∗ (∀ f : (Sh 8192).Idx → BitVec 32, ⌜∀ p < 8192, rd f p = rd2 g r p⌝ -∗
          (Res (F := F) d L { s with b5 := f } ∗ ((thr).loc cc0_scratch13 ↦[rowS 16 8192 r]{q} g) ∗ semVal (thr, SemLoc.dma sem) 0 ∗ owes thr O (insert (SemLoc.dma sem, (default : HIx 2)) W))
          -∗ wp frame (wpE (defs₀ (F := F)) 𝒱₀ thr none) Set.univ (k ⟨⟩) Φ))
      ⊢ wp frame (wpE (defs₀ (F := F)) 𝒱₀ thr none) Set.univ
          (Prog.lift (.enqueueDma (packSRow off inb) (.here (Memref.whole cc0_scratch4)) (.dma sem) h1 h2 h3) >>= fun _ => Prog.lift (.waitDma2 sem (packSRow off inb) (Memref.whole cc0_scratch4) h4 h5) >>= k) Φ := by
  subst hoff
  iintro ⟨⟨#Hm, HR, Hg, Hv, HO⟩, Hk⟩
  ihave HR' := (Res.b5_acc (F := F) (d := d) (L := L) s) $$ HR
  icases HR' with ⟨Hf, HR⟩
  iapply (wp_sync (F := F) (d := d) (L := L) (src := packSRow ![r, 0] inb) (dst := Memref.whole cc0_scratch4) q g s.b5 Finset.univ (Finset.subset_univ _) (by show 0 < (Memref.whole cc0_scratch4).view.dmaCredit; decide) O W) $$ [Hf Hg Hv HO]
  · isplitl [Hg]
    · iapply (Entails.of_eq (congrArg (fun S => ((thr).loc cc0_scratch13 ↦[S]{q} g : sProp 𝕄)) (packSRow_set hr inb).symm)); iexact Hg
    isplitl [Hf]; · iexact Hf
    isplitl [Hv]; · iexact Hv
    isplitl [HO]; · iexact HO
    iexact Hm
  iintro ⟨Hf, Hg, Hv, HO⟩
  ihave Hg' := (Entails.of_eq (congrArg (fun S => ((thr).loc cc0_scratch13 ↦[S]{q} g : sProp 𝕄)) (packSRow_set hr inb))) $$ Hg
  ihave Hf' := (Entails.of_eq (congrArg (fun f => ((thr).loc cc0_scratch4 ↦{fullShare} f : sProp 𝕄)) (View.write_whole_univ (Val := Elt F) cc0_scratch4 s.b5 ((packSRow ![r, 0] inb).view.read (Elt F) g)))) $$ Hf
  ihave HR' := HR $$ %_ Hf'
  ihave Hk1 := Hk $$ %_ %(fun p hp => packSRow_read (F := F) hr inb g p hp)
  iapply Hk1
  isplitl [HR']; · iexact HR'
  isplitl [Hg']; · iexact Hg'
  isplitl [Hv] <;> iassumption

theorem head_write (f : (Sh 8208).Idx → BitVec 32) (w : (Sh 8192).Idx → BitVec 32) {p : ℕ} (hp : p < 8192) :
    rd (n := 8208) (((Memref.whole cc0_scratch8).slice (Rect.unit (s := S8208) ![0] S8192.size inb_S8208_S8192_0) (fun _ => rfl)).view.write (Elt F) f w Finset.univ) p = rd w p := by
  rw [rd_of_lt w hp, rd_of_lt _ (show p < 8208 by omega)]
  have h := ((Memref.whole cc0_scratch8).slice (Rect.unit (s := S8208) ![0] S8192.size inb_S8208_S8192_0) (fun _ => rfl)).view.write_emb_of_mem (Val := Elt F) f w (Finset.mem_univ (ix p hp : (Sh 8192).Idx))
  have e : ((Memref.whole cc0_scratch8).slice (Rect.unit (s := S8208) ![0] S8192.size inb_S8208_S8192_0) (fun _ => rfl)).view.emb (ix p hp : (Sh 8192).Idx) = (ix p (show p < 8208 by omega) : (Sh 8208).Idx) := by
    funext a
    apply Fin.ext
    rw [Fin.eq_zero a]
    exact show 0 + 1 * p = p by omega
  rw [e] at h
  exact h

/-- The partner's row of codes into the head of `pc`. -/
theorem pc_of_codeS (s : St) {off : Fin 2 → ℕ} {inb : ∀ a, off a + S1x8192.size a ≤ S16x8192.size a} {r : ℕ} (hr : r < 16) (hoff : off = ![r, 0]) {sem : DmaSem sig}
    {h1 : (codeSRow off inb).view.WordExact} {h2 : ((Memref.whole cc0_scratch8).slice (Rect.unit (s := S8208) ![0] S8192.size inb_S8208_S8192_0) (fun _ => rfl)).view.WordExact}
    {h3 : DmaTarget.Typed (nD := nD) (τ := τ) (p := .scVector (cV L) (jV L)) .shared (.dma sem) (.here ((Memref.whole cc0_scratch8).slice (Rect.unit (s := S8208) ![0] S8192.size inb_S8208_S8192_0) (fun _ => rfl)))}
    {h4 : (codeSRow off inb).view.WordExact} {h5 : ((Memref.whole cc0_scratch8).slice (Rect.unit (s := S8208) ![0] S8192.size inb_S8208_S8192_0) (fun _ => rfl)).view.WordExact}
    {k : PUnit → Prog (TpuEff nD τ sig (Elt F) Λ₀ (.scVector (cV L) (jV L))) α} {Φ : α → sProp 𝕄} (q : PosShare TreeShare) (g : (Sh2 16 8192).Idx → BitVec 32)
    (O : CellTallies nD τ sig (HIx 2)) (W : Waits sig (HIx 2)) :
    iprop((Transfers.MayWaits thr (default : HIx 2) O ∗ Res (F := F) d L s ∗ ((thr).loc cc0_scratch11 ↦[rowS 16 8192 r]{q} g) ∗ semVal (thr, SemLoc.dma sem) 0 ∗ owes thr O W)
        ∗ (∀ f : (Sh 8208).Idx → BitVec 32, ⌜∀ p < 8192, rd f p = rd2 g r p⌝ -∗
          (Res (F := F) d L { s with pc := f } ∗ ((thr).loc cc0_scratch11 ↦[rowS 16 8192 r]{q} g) ∗ semVal (thr, SemLoc.dma sem) 0 ∗ owes thr O (insert (SemLoc.dma sem, (default : HIx 2)) W))
          -∗ wp frame (wpE (defs₀ (F := F)) 𝒱₀ thr none) Set.univ (k ⟨⟩) Φ))
      ⊢ wp frame (wpE (defs₀ (F := F)) 𝒱₀ thr none) Set.univ
          (Prog.lift (.enqueueDma (codeSRow off inb) (.here ((Memref.whole cc0_scratch8).slice (Rect.unit (s := S8208) ![0] S8192.size inb_S8208_S8192_0) (fun _ => rfl))) (.dma sem) h1 h2 h3) >>= fun _ =>
            Prog.lift (.waitDma2 sem (codeSRow off inb) ((Memref.whole cc0_scratch8).slice (Rect.unit (s := S8208) ![0] S8192.size inb_S8208_S8192_0) (fun _ => rfl)) h4 h5) >>= k) Φ := by
  subst hoff
  iintro ⟨⟨#Hm, HR, Hg, Hv, HO⟩, Hk⟩
  ihave HR' := (Res.pc_acc (F := F) (d := d) (L := L) s) $$ HR
  icases HR' with ⟨Hf, HR⟩
  iapply (wp_sync (F := F) (d := d) (L := L) (src := codeSRow ![r, 0] inb) (dst := (Memref.whole cc0_scratch8).slice (Rect.unit (s := S8208) ![0] S8192.size inb_S8208_S8192_0) (fun _ => rfl)) q g s.pc Finset.univ (Finset.subset_univ _) (View.dmaCredit_pos _ (by decide)) O W) $$ [Hf Hg Hv HO]
  · isplitl [Hg]
    · iapply (Entails.of_eq (congrArg (fun S => ((thr).loc cc0_scratch11 ↦[S]{q} g : sProp 𝕄)) (codeSRow_set hr inb).symm)); iexact Hg
    isplitl [Hf]; · iexact Hf
    isplitl [Hv]; · iexact Hv
    isplitl [HO]; · iexact HO
    iexact Hm
  iintro ⟨Hf, Hg, Hv, HO⟩
  ihave Hg' := (Entails.of_eq (congrArg (fun S => ((thr).loc cc0_scratch11 ↦[S]{q} g : sProp 𝕄)) (codeSRow_set hr inb))) $$ Hg
  ihave HR' := HR $$ %_ Hf
  ihave Hk1 := Hk $$ %_ %(fun p hp => (head_write (F := F) s.pc _ hp).trans (codeSRow_read (F := F) hr inb g p hp))
  iapply Hk1
  isplitl [HR']; · iexact HR'
  isplitl [Hg']; · iexact Hg'
  isplitl [Hv] <;> iassumption

/-- The partner's row of sums on its way into `pe`. -/
def Coming (sem : DmaSem sig) (r : ℕ) (g : (Sh2 16 8208).Idx → BitVec 32) : sProp 𝕄 :=
  iprop(∃ f : (Sh 8208).Idx → BitVec 32, ⌜∀ p < 8208, rd f p = rd2 g r p⌝ ∗ Transfers.Flight countersEmb thr (SemLoc.dma sem) (default : HIx 2) ((Memref.whole cc0_scratch9).view.amount (.dma sem))
    iprop(((thr).loc cc0_scratch9 ↦{fullShare} f) ∗ ((thr).loc cc0_scratch12 ↦[rowS 16 8208 r]{fullShare} g)))

theorem pe_issue (s : St) {off : Fin 2 → ℕ} {inb : ∀ a, off a + S1x8208.size a ≤ S16x8208.size a} {r : ℕ} (hr : r < 16) (hoff : off = ![r, 0]) {sem : DmaSem sig}
    {h1 : (exclSRow off inb).view.WordExact} {h2 : (Memref.whole cc0_scratch9).view.WordExact} {h3 : DmaTarget.Typed (nD := nD) (τ := τ) (p := .scVector (cV L) (jV L)) .shared (.dma sem) (.here (Memref.whole cc0_scratch9))}
    {k : PUnit → Prog (TpuEff nD τ sig (Elt F) Λ₀ (.scVector (cV L) (jV L))) α} {Φ : α → sProp 𝕄} (g : (Sh2 16 8208).Idx → BitVec 32) :
    iprop((Res (F := F) d L s ∗ ((thr).loc cc0_scratch12 ↦[rowS 16 8208 r]{fullShare} g) ∗ semVal (thr, SemLoc.dma sem) 0)
        ∗ ((Coming (F := F) (d := d) (L := L) sem r g ∗ (∀ f : Buf (Elt F) ((thr).loc cc0_scratch9), ((thr).loc cc0_scratch9 ↦{fullShare} f) -∗ Res (F := F) d L { s with pe := f }))
          -∗ wp frame (wpE (defs₀ (F := F)) 𝒱₀ thr none) Set.univ (k ⟨⟩) Φ))
      ⊢ wp frame (wpE (defs₀ (F := F)) 𝒱₀ thr none) Set.univ
          (Prog.lift (.enqueueDma (exclSRow off inb) (.here (Memref.whole cc0_scratch9)) (.dma sem) h1 h2 h3) >>= k) Φ := by
  subst hoff
  iintro ⟨⟨HR, Hg, Hv⟩, Hk⟩
  ihave HR' := (Res.pe_acc (F := F) (d := d) (L := L) s) $$ HR
  icases HR' with ⟨Hf, HR⟩
  iapply (Transfers.wp_dmaLocal countersEmb 𝒱₀ thr none (src := exclSRow ![r, 0] inb) (dst := Memref.whole cc0_scratch9) (via := ReadAs.same) (q := fullShare) (fs := g) (fd := s.pe) (default : HIx 2) ((Memref.whole cc0_scratch9).view.amount (.dma sem)) rfl
    (View.dmaCredit_pos _ (by decide)) (Finset.subset_univ _)) $$ [Hf Hg Hv]
  · isplitl [Hg]
    · iapply (Entails.of_eq (congrArg (fun S => ((thr).loc cc0_scratch12 ↦[S]{fullShare} g : sProp 𝕄)) (exclSRow_set hr inb).symm)); iexact Hg
    isplitl [Hf]; · iexact Hf
    iexact Hv
  iintro HF
  iapply Hk
  isplitl [HF]
  · unfold Coming
    iexists _
    isplitr
    · ipureintro; exact fun p hp => exclSRow_read (F := F) hr inb g p hp
    iapply (Entails.of_eq (congrArg₂ (fun A B => Transfers.Flight countersEmb thr (SemLoc.dma sem) (default : HIx 2) ((Memref.whole cc0_scratch9).view.amount (.dma sem))
      (iprop(A ∗ B) : sProp 𝕄))
      (congrArg (fun f => ((thr).loc cc0_scratch9 ↦{fullShare} f : sProp 𝕄)) (View.write_whole_univ (Val := Elt F) cc0_scratch9 s.pe ((exclSRow ![r, 0] inb).view.read (Elt F) g)))
      (congrArg (fun S => ((thr).loc cc0_scratch12 ↦[S]{fullShare} g : sProp 𝕄)) (exclSRow_set hr inb))))
    iexact HF
  iexact HR

theorem pe_wait (s : St) {off : Fin 2 → ℕ} {inb : ∀ a, off a + S1x8208.size a ≤ S16x8208.size a} {r : ℕ} {sem : DmaSem sig}
    {h4 : (exclSRow off inb).view.WordExact} {h5 : (Memref.whole cc0_scratch9).view.WordExact}
    {k : PUnit → Prog (TpuEff nD τ sig (Elt F) Λ₀ (.scVector (cV L) (jV L))) α} {Φ : α → sProp 𝕄} (g : (Sh2 16 8208).Idx → BitVec 32)
    (O : CellTallies nD τ sig (HIx 2)) (W : Waits sig (HIx 2)) :
    iprop((Transfers.MayWaits thr (default : HIx 2) O ∗ Coming (F := F) (d := d) (L := L) sem r g ∗ (∀ f : Buf (Elt F) ((thr).loc cc0_scratch9), ((thr).loc cc0_scratch9 ↦{fullShare} f) -∗ Res (F := F) d L { s with pe := f }) ∗ owes thr O W)
        ∗ (∀ f : (Sh 8208).Idx → BitVec 32, ⌜∀ p < 8208, rd f p = rd2 g r p⌝ -∗
          (Res (F := F) d L { s with pe := f } ∗ ((thr).loc cc0_scratch12 ↦[rowS 16 8208 r]{fullShare} g) ∗ semVal (thr, SemLoc.dma sem) 0 ∗ owes thr O (insert (SemLoc.dma sem, (default : HIx 2)) W))
          -∗ wp frame (wpE (defs₀ (F := F)) 𝒱₀ thr none) Set.univ (k ⟨⟩) Φ))
      ⊢ wp frame (wpE (defs₀ (F := F)) 𝒱₀ thr none) Set.univ
          (Prog.lift (.waitDma2 sem (exclSRow off inb) (Memref.whole cc0_scratch9) h4 h5) >>= k) Φ := by
  unfold Coming
  iintro ⟨⟨#Hm, ⟨%f, %hf, HF⟩, HR, HO⟩, Hk⟩
  iapply (Transfers.wp_waitLocalO countersEmb 𝒱₀ thr none (default : HIx 2) (dstw := Memref.whole cc0_scratch9) (srcw := exclSRow off inb) rfl) $$ [HF HO]
  · isplitl [HF]; · iexact HF
    isplitl [HO]; · iexact HO
    iapply (Transfers.MayWaits.elim (SemLoc.dma sem)); iexact Hm
  iintro ⟨⟨Hf, Hg⟩, Hv, HO⟩
  ihave HR' := HR $$ %_ Hf
  ihave Hk1 := Hk $$ %_ %hf
  iapply Hk1
  isplitl [HR']; · iexact HR'
  isplitl [Hg]; · iexact Hg
  isplitl [Hv] <;> iassumption
end Moves

end Cert.Proof.Tile
-- ==== Proof.Parts.lean ====
/-
  What a tile has of its half-row before the exchange, and the two parts of it that copy.
-/
module

public import proofs.«01_k».proof.Defs
public import proofs.«01_k».proof.Proof.Lanes
public import proofs.«01_k».proof.Proof.Gen.KernelIdeal
public import proofs.«01_k».proof.Proof.Gen.KernelIdeal.Skeleton
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Tile
public import proofs.«01_k».proof.Proof.Moves
public import proofs.«01_k».proof.Proof.Row

@[expose] public section

noncomputable section

namespace Cert.Proof.Tile

open Cert.KernelIdeal Cert.KernelIdeal.Gen
open Cert.Proof.Lanes

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable {d : Dev nD} {L : grid0.Coords} {α β : Type} {s : St} {Q : α → St → Prop}

attribute [local instance] stages
open Finset (range)

/-- Two buffers with the same words are one. -/
theorem ext_rd {n : ℕ} {f g : (Sh n).Idx → BitVec 32} (h : ∀ p < n, rd f p = rd g p) : f = g := by
  funext x
  have hx : (x 0).val < n := (x 0).isLt
  have := h _ hx
  rwa [rd_of_lt _ hx, rd_of_lt _ hx, ix_self] at this

section
variable {T : (Sh 2097152).Idx → BitVec 32} {f : ℕ → BitVec 32} {half : ℕ} {f1a f1b f2 f2c f1' f2' : (Sh 8192).Idx → BitVec 32} {f6 fo : (Sh 8208).Idx → BitVec 32}

theorem key_of (h1 : ∀ p < 8192, nw f p → rd f1a (Nat.count (nw f) p) = kp f p) {u : ℕ} (hu : u < nr f) : rd f1a u = kp f (rs f u) := by
  obtain ⟨a1, a2, a3, -⟩ := start_spec f hu
  have := h1 _ a1 a2
  rwa [a3] at this

theorem waves_le {n : ℕ} (h : n < 8193) : waves n ≤ 8192 := by unfold waves; omega
theorem le_waves (n : ℕ) : n ≤ waves n := by unfold waves; omega

theorem codes_of (h1 : ∀ p < 8192, nw f p → rd f1a (Nat.count (nw f) p) = kp f p) (hfill : ∀ p < nr f, rd f1b p = rd f1a p)
    (hc : ∀ p < 8192, rd f2c p = codes (nr f) (mixed 0 (waves (nr f)) (gath T f1b) f2) p) {u : ℕ} (hu : u < 8192) : rd f2c u = rc (rd T) f u := by
  have hw := le_waves (nr f)
  rw [hc u hu]
  unfold codes rc
  by_cases h : u < nr f
  · rw [if_pos h, if_pos h, rd_of_lt _ hu]
    unfold mixed
    rw [if_pos (show 0 ≤ ((ix u hu : (Sh 8192).Idx) 0).val ∧ ((ix u hu : (Sh 8192).Idx) 0).val < waves (nr f) from ⟨Nat.zero_le _, show u < _ by omega⟩)]
    unfold gath
    rw [← rd_of_lt f1b hu, hfill u h, key_of h1 h]
  · rw [if_neg h, if_neg h]

theorem sorted_of (h1 : ∀ p < 8192, nw f p → rd f1a (Nat.count (nw f) p) = kp f p) (hfill : ∀ p < nr f, rd f1b p = rd f1a p)
    (hc : ∀ p < 8192, rd f2c p = codes (nr f) (mixed 0 (waves (nr f)) (gath T f1b) f2) p)
    (h6 : ∀ p < 8192, nw f p → rd f6 (Nat.count (nw f) p) = BitVec.ofNat 32 (half * 8192 + p)) (h6e : rd f6 (nr f) = BitVec.ofNat 32 (half * 8192 + 8192))
    (h16 : ∀ j < up (nr f), rd f2' (rk (up (nr f)) (fun j => kk (rd f2c j)) j) = rd f2c j ∧ rd f1' (rk (up (nr f)) (fun j => kk (rd f2c j)) j) = BitVec.ofNat 32 j)
    (hrest : ∀ r, up (nr f) ≤ r → rd f2' r = rd f2c r)
    (hs : ∀ r < nr f, rd fo r = ∑ k ∈ range r, len (nr f) f1' f6 k) (hl : rd fo (nr f) = 8192#32) : Sorted (rd T) f half f1' f2' f6 fo := by
  have hnr := nr_pos f
  have hup := up_le hnr.2
  have hro : ∀ u < up (nr f), rk (up (nr f)) (fun j => kk (rd f2c j)) u = ro (rd T) f u := fun u hu =>
    rk_congr (fun i hi => by rw [codes_of h1 hfill hc (show i < 8192 by omega)]) hu
  refine ⟨fun u hu => ?_, fun u hu => ?_, fun r hr hur => ?_, fun u hu => ?_, hs, hl⟩
  · rw [← hro u hu, (h16 u hu).1, codes_of h1 hfill hc (by omega)]
  · rw [← hro u hu, (h16 u hu).2]
  · rw [hrest r hur, codes_of h1 hfill hc hr]
    unfold rc
    have := le_up (nr f)
    rw [if_neg (by omega)]
  · rcases Nat.lt_or_ge u (nr f) with h | h
    · obtain ⟨a1, a2, a3, -⟩ := start_spec f h
      have := h6 _ a1 a2
      rwa [a3] at this
    · have e : u = nr f := Nat.le_antisymm hu h
      rw [e, h6e, rs_end]

/-- The order of the runs is a permutation of their numbers. -/
theorem order_of {n : ℕ} (hn : n < 8193) {key : ℕ → ℕ} (h : ∀ j < up n, rd f1' (rk (up n) key j) = BitVec.ofNat 32 j) :
    (∀ k < up n, (rd f1' k).toNat < 8192) ∧ ∀ k < up n, ∀ k' < up n, (rd f1' k).toNat = (rd f1' k').toNat → k = k' := by
  have hup := up_le hn
  have hk : ∀ k < up n, ∃ j < up n, rk (up n) key j = k ∧ (rd f1' k).toNat = j := fun k hk => by
    obtain ⟨a1, a2⟩ := inv_rk (key := key) hk
    refine ⟨_, a1, a2, ?_⟩
    have := h _ a1
    rw [a2] at this
    rw [this, BitVec.toNat_ofNat, Nat.mod_eq_of_lt (by omega)]
  refine ⟨fun k h' => ?_, fun k h1 k' h2 e => ?_⟩
  · obtain ⟨j, hj, -, e⟩ := hk k h'
    omega
  · obtain ⟨j, hj, e1, e2⟩ := hk k h1
    obtain ⟨j', hj', e1', e2'⟩ := hk k' h2
    rw [← e1, ← e1', show j = j' by omega]
end

section Parts

local notation "thr" => V d (cV L) (jV L)

theorem off1_eq (L : grid0.Coords) : k0_off1 L = ![16 * (L 0).val + (L 1).val, 0] := by
  have h : ∀ a : Fin 2, ∀ b : Fin 16, (Scalar.addi (Scalar.muli (Scalar.addi (Scalar.muli 8#32 (BitVec.ofNat 32 a.val)) (Scalar.shrsi (BitVec.ofNat 32 b.val) 1#32)) 2#32) (Scalar.andi (BitVec.ofNat 32 b.val) 1#32)).toNat = 16 * a.val + b.val := by decide +kernel
  exact congrArg (fun r => ![r, 0]) (h (L 0) (L 1))

theorem half_word (L : grid0.Coords) : Scalar.andi (BitVec.ofNat 32 (L 1).val) 1#32 = BitVec.ofNat 32 ((L 1).val % 2) := by
  have h : ∀ b : Fin 16, Scalar.andi (BitVec.ofNat 32 b.val) 1#32 = BitVec.ofNat 32 (b.val % 2) := by decide +kernel
  exact h (L 1)

theorem base_word (L : grid0.Coords) : Scalar.muli (BitVec.ofNat 32 ((L 1).val % 2)) 8192#32 = BitVec.ofNat 32 ((L 1).val % 2 * 8192) := by
  have h : ∀ b : Fin 16, Scalar.muli (BitVec.ofNat 32 (b.val % 2)) 8192#32 = BitVec.ofNat 32 (b.val % 2 * 8192) := by decide +kernel
  exact h (L 1)

theorem run_two {s : St} {e1 e2 : Prog (TpuEff nD τ sig (Elt F) Λ₀ (.scVector (cV L) (jV L))) PUnit} {k : Prog (TpuEff nD τ sig (Elt F) Λ₀ (.scVector (cV L) (jV L))) β}
    {Q : PUnit → St → Prop} {Ψ : β → sProp 𝕄} (h : Run (F := F) d L s (e1 >>= fun _ => e2 >>= fun _ => pure ⟨⟩) Q) :
    iprop(Res (F := F) d L s ∗ (∀ s', ⌜Q ⟨⟩ s'⌝ -∗ Res (F := F) d L s' -∗ wp frame (wpE (defs₀ (F := F)) 𝒱₀ thr none) Set.univ k Ψ))
      ⊢ wp frame (wpE (defs₀ (F := F)) 𝒱₀ thr none) Set.univ (e1 >>= fun _ => e2 >>= fun _ => k) Ψ := by
  have e : (e1 >>= fun _ => e2 >>= fun _ => k) = ((e1 >>= fun _ => e2 >>= fun _ => pure PUnit.unit) >>= fun _ => k) := by simp only [bind_assoc, pure_bind]
  rw [e]
  iintro ⟨HR, Hk⟩
  iapply (run_seq h)
  isplitl [HR]; · iexact HR
  iintro %r %s'
  iapply Hk

theorem run_three {s : St} {e1 e2 e3 : Prog (TpuEff nD τ sig (Elt F) Λ₀ (.scVector (cV L) (jV L))) PUnit} {k : Prog (TpuEff nD τ sig (Elt F) Λ₀ (.scVector (cV L) (jV L))) β}
    {Q : PUnit → St → Prop} {Ψ : β → sProp 𝕄} (h : Run (F := F) d L s (e1 >>= fun _ => e2 >>= fun _ => e3 >>= fun _ => pure ⟨⟩) Q) :
    iprop(Res (F := F) d L s ∗ (∀ s', ⌜Q ⟨⟩ s'⌝ -∗ Res (F := F) d L s' -∗ wp frame (wpE (defs₀ (F := F)) 𝒱₀ thr none) Set.univ k Ψ))
      ⊢ wp frame (wpE (defs₀ (F := F)) 𝒱₀ thr none) Set.univ (e1 >>= fun _ => e2 >>= fun _ => e3 >>= fun _ => k) Ψ := by
  have e : (e1 >>= fun _ => e2 >>= fun _ => e3 >>= fun _ => k) = ((e1 >>= fun _ => e2 >>= fun _ => e3 >>= fun _ => pure PUnit.unit) >>= fun _ => k) := by simp only [bind_assoc, pure_bind]
  rw [e]
  iintro ⟨HR, Hk⟩
  iapply (run_seq h)
  isplitl [HR]; · iexact HR
  iintro %r %s'
  iapply Hk

/-- The half-row fetched, and the counts of its codes by hash. -/
theorem part11_wp (s : St) (fx : (Sh2 32 8192).Idx → BitVec 32) (O : CellTallies nD τ sig (HIx 2)) (W : Waits sig (HIx 2)) :
    iprop(Transfers.MayWaits thr (default : HIx 2) O ∗ Res (F := F) d L s ∗ ((thr).loc main_v0_scv ↦[rowS 32 8192 (16 * (L 0).val + (L 1).val)]{fullShare} fx) ∗ semVal (thr, SemLoc.dma cc0_scoped0.sem) 0 ∗ owes thr O W)
      ⊢ wp frame (wpE (defs₀ (F := F)) 𝒱₀ thr none) Set.univ (k0_part11 L (Memref.whole main_v0_scv) (Memref.isWhole_whole _) (Memref.whole main_arg1_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scoped0 cc0_scoped1 cc0_scoped2 cc0_scoped3 cc0_scoped4 cc0_scoped5 cc0_scoped6 cc0_scoped7 cc0_scoped8)
        fun r => iprop(⌜r = ⟨BitVec.ofNat 32 (L 1).val, BitVec.ofNat 32 ((L 1).val % 2), BitVec.ofNat 32 ((L 1).val % 2 * 8192), lanes, 0#32⟩⌝
          ∗ (∃ s', ⌜(∀ j < 8192, rd s'.b1 j = rd2 fx (16 * (L 0).val + (L 1).val) j) ∧ rd s'.b4 0 = 4294967295#32
            ∧ ∀ b < 2048, rd s'.cnt b = BitVec.ofNat 32 (Nat.count (fun j => (hsh (rd s'.b1 j)).toNat < b) 8192)⌝ ∗ Res (F := F) d L s')
          ∗ ((thr).loc main_v0_scv ↦[rowS 32 8192 (16 * (L 0).val + (L 1).val)]{fullShare} fx) ∗ semVal (thr, SemLoc.dma cc0_scoped0.sem) 0
          ∗ owes thr O (insert (SemLoc.dma cc0_scoped0.sem, (default : HIx 2)) W)) := by
  rw [k0_part11_eq_skeleton]; unfold k0_part11_skel
  have hr : 16 * (L 0).val + (L 1).val < 32 := by
    have h0 : (L 0).val < 2 := (L 0).isLt
    have h1 : (L 1).val < 16 := (L 1).isLt
    omega
  iintro H
  iapply (b1_of_flat (F := F) (d := d) (L := L) s hr (off1_eq L) fullShare fx O W)
  isplitl [H]
  · icases H with ⟨Hm, HR, Hg, Hv, HO⟩
    isplitl [Hm]; · iexact Hm
    isplitl [HR]; · iexact HR
    isplitl [Hg]; · iexact Hg
    isplitl [Hv] <;> iassumption
  iintro %f %hf ⟨HR, Hg, Hv, HO⟩
  have hrun := head_run (F := F) (d := d) (L := L) { s with b1 := f } (k := pure (⟨BitVec.ofNat 32 (L 1).val, BitVec.ofNat 32 ((L 1).val % 2), BitVec.ofNat 32 ((L 1).val % 2 * 8192), lanes, 0#32⟩ : Σ' (arg1 : BitVec 32) (v0 : BitVec 32) (v1 : BitVec 32) (v7 : IVec S16 32), BitVec 32))
    (Q := fun r s' => r = ⟨BitVec.ofNat 32 (L 1).val, BitVec.ofNat 32 ((L 1).val % 2), BitVec.ofNat 32 ((L 1).val % 2 * 8192), lanes, 0#32⟩ ∧ (∀ j < 8192, rd s'.b1 j = rd2 fx (16 * (L 0).val + (L 1).val) j) ∧ rd s'.b4 0 = 4294967295#32
            ∧ ∀ b < 2048, rd s'.cnt b = BitVec.ofNat 32 (Nat.count (fun j => (hsh (rd s'.b1 j)).toNat < b) 8192))
    (fun f4 g h4 hg => Run.pure ⟨rfl, hf, h4, hg⟩)
  have hrun' := hrun
  rw [← base_word, ← half_word] at hrun
  ihave Hw := (show Res (F := F) d L { s with b1 := f } ⊢ _ from hrun) $$ HR
  iapply (wp_wand) $$ [Hw]
  · iexact Hw
  iintro %r ⟨%s', %hq, HR⟩
  isplitr
  · ipureintro
    rw [← base_word, ← half_word]
    exact hq.1
  isplitl [HR]
  · iexists s'
    isplitr
    · ipureintro; exact hq.2
    iexact HR
  isplitl [Hg]; · iexact Hg
  isplitl [Hv] <;> iassumption

/-- The runs' codes gathered. -/
theorem part13_wp (s : St) {n : ℕ} (hn : 1 ≤ n ∧ n < 8193) (v44 : BitVec 32) (q : PosShare TreeShare) (T : (Sh 2097152).Idx → BitVec 32)
    (hT : ∀ p < n, (rd s.b1 p).toNat < 2097152) (O : CellTallies nD τ sig (HIx 2)) (W : Waits sig (HIx 2)) :
    iprop(Transfers.MayWaits thr (default : HIx 2) O ∗ Res (F := F) d L s ∗ ((thr).loc main_arg1_scv ↦{q} T) ∗ semVal (thr, SemLoc.dma cc0_scratch14.sem) 0 ∗ owes thr O W)
      ⊢ wp frame (wpE (defs₀ (F := F)) 𝒱₀ thr none) Set.univ (k0_part13 L (Memref.whole main_v0_scv) (Memref.isWhole_whole _) (Memref.whole main_arg1_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scoped0 cc0_scoped1 cc0_scoped2 cc0_scoped3 cc0_scoped4 cc0_scoped5 cc0_scoped6 cc0_scoped7 cc0_scoped8 lanes (BitVec.ofNat 32 n) (chk8_of hn) v44 16#32 (BitVec.ofNat 32 (n / 16)) 1#32 0#32)
        fun r => iprop(⌜r = ⟨0#32, 512#32⟩⌝
          ∗ (∃ f1, ⌜∀ p < n, rd f1 p = rd s.b1 p⌝ ∗ Res (F := F) d L { s with b1 := f1, b2 := mixed 0 (waves n) (gath T f1) s.b2 })
          ∗ ((thr).loc main_arg1_scv ↦{q} T) ∗ semVal (thr, SemLoc.dma cc0_scratch14.sem) 0
          ∗ ∃ W' : Waits sig (HIx 2), ⌜∀ p ∈ W', p ∈ W ∨ p.2 = none⌝ ∗ owes thr O W') := by
  rw [k0_part13_eq_skeleton]; unfold k0_part13_skel
  have hrun := fill_run (F := F) (d := d) (L := L) s hn v44 (k := pure ⟨⟩) (Q := fun (_ : PUnit) s' => ∃ f1, s' = { s with b1 := f1 } ∧ (∀ p < n, rd f1 p = rd s.b1 p) ∧ ∀ p < waves n, n ≤ p → rd f1 p = BitVec.ofNat 32 p)
    (fun f1 h1 h2 => Run.pure ⟨f1, rfl, h1, h2⟩)
  iintro ⟨#Hm, HR, HT, Hv, HO⟩
  iapply (run_two hrun)
  isplitl [HR]; · iexact HR
  iintro %s' %hs' HR
  obtain ⟨f1, rfl, h1, h2⟩ := hs'
  have hT' : ∀ p < waves n, (rd f1 p).toNat < 2097152 := fun p hp => by
    have := waves_le hn.2
    rcases Nat.lt_or_ge p n with h | h
    · rw [h1 p h]; exact hT p h
    · rw [h2 p hp h, BitVec.toNat_ofNat, Nat.mod_eq_of_lt (by omega)]; omega
  unfold Res
  icases HR with ⟨Hb1, Hb2, HR⟩
  iapply (wp_seq (wp_waves (F := F) (d := d) (L := L) hn (chk8_of hn) lanes v44 16#32 (BitVec.ofNat 32 (n / 16)) 1#32 0#32 q T f1 s.b2 hT' O W
    (Φ := fun _ => iprop(((thr).loc cc0_scratch0 ↦{fullShare} f1) ∗ ((thr).loc cc0_scratch1 ↦{fullShare} mixed 0 (waves n) (gath T f1) s.b2)
          ∗ ((thr).loc main_arg1_scv ↦{q} T) ∗ semVal (thr, SemLoc.dma cc0_scratch14.sem) 0
          ∗ ∃ W' : Waits sig (HIx 2), ⌜∀ p ∈ W', p ∈ W ∨ p.2 = none⌝ ∗ owes thr O W'))))
  isplitl [Hb1 Hb2 HT Hv HO]
  · isplitl
    · isplitr; · iexact Hm
      isplitl [Hb1]; · iexact Hb1
      isplitl [Hb2]; · iexact Hb2
      isplitl [HT]; · iexact HT
      isplitl [Hv] <;> iassumption
    iintro H; iexact H
  iintro %_ ⟨Hb1, Hb2, HT, Hv, HO⟩
  iapply (run_seq (Run.none (s := { s with b1 := f1, b2 := mixed 0 (waves n) (gath T f1) s.b2 }) (t9_all n hn).2 (Q := fun _ s' => s' = { s with b1 := f1, b2 := mixed 0 (waves n) (gath T f1) s.b2 }) rfl))
  isplitl [Hb1 Hb2 HR]
  · unfold Res
    isplitl [Hb1]; · iexact Hb1
    isplitl [Hb2]; · iexact Hb2
    iexact HR
  iintro %_ %s' %hs' HR
  subst hs'
  iapply (le_wp_ret _ _ _ _)
  isplitr; · ipureintro; rfl
  isplitl [HR]
  · iexists f1
    isplitr
    · ipureintro; exact h1
    unfold Res; iexact HR
  isplitl [HT]; · iexact HT
  isplitl [Hv]; · iexact Hv
  iexact HO
end Parts

end Cert.Proof.Tile
-- ==== Proof.Kit.lean ====
/-
  What the tiles of a pair hand each other through the shared scratch, and what a tile is dealt for the two meetings.
-/
module

public import proofs.«01_k».proof.Defs
public import proofs.«01_k».proof.Proof.Lanes
public import proofs.«01_k».proof.Proof.Gen.KernelIdeal
public import proofs.«01_k».proof.Proof.Gen.KernelIdeal.Skeleton
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Tile
public import proofs.«01_k».proof.Proof.Parts

@[expose] public section

noncomputable section

namespace Cert.Proof.Tile

open Cert.KernelIdeal Cert.KernelIdeal.Gen
open Cert.Proof.Lanes

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable {d : Dev nD} {L : grid0.Coords} {α β : Type} {s : St} {Q : α → St → Prop}

attribute [local instance] stages

/-- A SparseCore's shared scratch: the codes, the sums, the packed places. -/
abbrev codesL (d : Dev nD) (c : Fin τ.nSC) : Loc nD τ sig := (V d c ⟨0, by decide⟩).loc cc0_scratch11
abbrev sumsL (d : Dev nD) (c : Fin τ.nSC) : Loc nD τ sig := (V d c ⟨0, by decide⟩).loc cc0_scratch12
abbrev packsL (d : Dev nD) (c : Fin τ.nSC) : Loc nD τ sig := (V d c ⟨0, by decide⟩).loc cc0_scratch13

/-- The tile that has the other half of the row. -/
def mate (x : Fin 16) : Fin 16 := ⟨if x.val % 2 = 0 then x.val + 1 else x.val - 1, by have := x.isLt; split <;> omega⟩
theorem mate_mate (x : Fin 16) : mate (mate x) = x := by revert x; decide
def mateEquiv : Fin 16 ≃ Fin 16 := ⟨mate, mate, mate_mate, mate_mate⟩
theorem mate_div (x : Fin 16) : (mate x).val / 2 = x.val / 2 := by revert x; decide
theorem mate_mod (x : Fin 16) : (mate x).val % 2 = 1 - x.val % 2 := by revert x; decide

/-- Row `R` of the 16 rows: the two half-rows one after the other. -/
def rowOf (fx : (Sh2 32 8192).Idx → BitVec 32) (R : ℕ) : ℕ → BitVec 32 := fun g => rd2 fx (2 * R + g / 8192) (g % 8192)

theorem hf_rowOf (fx : (Sh2 32 8192).Idx → BitVec 32) (c x : ℕ) {j : ℕ} (hj : j < 8192) :
    hf (rowOf fx (8 * c + x / 2)) (x % 2) j = rd2 fx (16 * c + x) j := by
  unfold hf rowOf
  rw [show 2 * (8 * c + x / 2) + (x % 2 * 8192 + j) / 8192 = 16 * c + x by omega, show (x % 2 * 8192 + j) % 8192 = j by omega]

section
variable (fx : (Sh2 32 8192).Idx → BitVec 32) (T : (Sh 2097152).Idx → BitVec 32)

/-- A tile's first rows: what they tell of its half-row, if the table is good. -/
def Row1 (d : Dev nD) (c : Fin τ.nSC) (x : Fin 16) : sProp 𝕄 :=
  iprop(∃ fc : (Sh2 16 8192).Idx → BitVec 32, ∃ fe : (Sh2 16 8208).Idx → BitVec 32,
    ⌜Good (rd T) → ∀ g fo : (Sh 8208).Idx → BitVec 32, (∀ j < 8192, rd g j = rd2 fc x.val j) → (∀ j < 8208, rd fo j = rd2 fe x.val j) →
      Served (rd T) (hf (rowOf fx (8 * c.val + x.val / 2)) (x.val % 2)) g fo⌝
    ∗ (codesL d c ↦[rowS 16 8192 x.val]{fullShare} fc) ∗ (sumsL d c ↦[rowS 16 8208 x.val]{fullShare} fe))

/-- A tile's second row. -/
def Row2 (d : Dev nD) (c : Fin τ.nSC) (x : Fin 16) : sProp 𝕄 :=
  iprop(∃ f : (Sh2 16 8192).Idx → BitVec 32,
    ⌜Good (rd T) → ∀ g : (Sh 8192).Idx → BitVec 32, (∀ j < 8192, rd g j = rd2 f x.val j) → Packed (rd T) (rowOf fx (8 * c.val + x.val / 2)) (x.val % 2) g⌝
    ∗ (packsL d c ↦[rowS 16 8192 x.val]{fullShare} f))

instance Row1_storable (d : Dev nD) (c : Fin τ.nSC) (x : Fin 16) : BI.Storable (upEmb : UEmb _ 𝕄) (Row1 (F := F) fx T d c x) := by unfold Row1; infer_instance
instance Row2_storable (d : Dev nD) (c : Fin τ.nSC) (x : Fin 16) : BI.Storable (upEmb : UEmb _ 𝕄) (Row2 (F := F) fx T d c x) := by unfold Row2; infer_instance

/-- The boxes of a SparseCore's tiles. -/
def boxes (d : Dev nD) (c : Fin τ.nSC) : sProp 𝕄 :=
  iprop((∃ κ : Fin 16 → ℕ, bigSep Finset.univ fun x : Fin 16 => inv (κ x) (Box (key1 d c x) (Row1 (F := F) fx T d c x)))
    ∗ (∃ κ : Fin 16 → ℕ, bigSep Finset.univ fun x : Fin 16 => inv (κ x) (Box (key2 d c x) (Row2 (F := F) fx T d c x))))

instance boxes_persistent (d : Dev nD) (c : Fin τ.nSC) : BI.Persistent (boxes (F := F) fx T d c) := by unfold boxes; infer_instance

/-- What a tile is dealt for the meetings: the cells and the boxes, its tokens for both meetings, its place on its own cell and the
credits of its two waits, its places on its boxes and the tokens that empty its mate's. -/
def bkit (d : Dev nD) (c : Fin τ.nSC) (i : Fin τ.nSub) : sProp 𝕄 :=
  iprop(cellsOf (F := F) d c ∗ boxes (F := F) fx T d c
    ∗ (bigSep Finset.univ fun j : Fin (grid0.bound 1) => dutyTok EB (bcell d c (j.castLE hsub0)) 0 i.val)
    ∗ (bigSep Finset.univ fun j : Fin (grid0.bound 1) => dutyTok EB (bcell d c (j.castLE hsub0)) 0 (16 + i.val))
    ∗ atPos EB (bcell d c i) 0 ∅ 0 ∗ cred (tallyAt (bcell d c i) (some 0) 16) ∗ cred (tallyAt (bcell d c i) (some 1) 16)
    ∗ atPos EB (key1 d c (Fin.cast nSub_eq i)) 0 ∅ 0 ∗ atPos EB (key2 d c (Fin.cast nSub_eq i)) 0 ∅ 0
    ∗ dutyTok EB (key1 d c (mate (Fin.cast nSub_eq i))) 0 0 ∗ dutyTok EB (key2 d c (mate (Fin.cast nSub_eq i))) 0 0)

theorem put1 {d : Dev nD} {c : Fin τ.nSC} (x : Fin 16) :
    iprop(boxes (F := F) fx T d c ∗ atPos EB (key1 d c x) 0 ∅ 0 ∗ Row1 (F := F) fx T d c x) ⊢ iprop(|={Set.univ}=> tells (F := F) d c x.val : sProp 𝕄) := by
  have h : tells (F := F) d c x.val = (reached EB (key1 d c x) 1 : sProp 𝕄) := by
    unfold tells
    rw [if_pos x.isLt, show Fin.ofNat 16 x.val = x from Fin.ext (Nat.mod_eq_of_lt x.isLt)]
  rw [h]
  unfold boxes
  iintro ⟨⟨⟨%κ, H⟩, -⟩, Hat, HR⟩
  iapply (Box.fill (κ := κ x) (R := Row1 (F := F) fx T d c x))
  isplitl [H]
  · iapply (SparseCore.ent (bigSep_elim (Φ := fun x : Fin 16 => (inv (κ x) (Box (key1 d c x) (Row1 (F := F) fx T d c x)) : sProp 𝕄)) (Finset.mem_univ x))); iexact H
  isplitl [Hat] <;> iassumption

theorem take1 {d : Dev nD} {c : Fin τ.nSC} (x : Fin 16) :
    iprop(boxes (F := F) fx T d c ∗ (bigSep Finset.univ fun x : Fin 16 => reached EB (key1 d c x) 1) ∗ dutyTok EB (key1 d c x) 0 0) ⊢ iprop(|={Set.univ}=> Row1 (F := F) fx T d c x : sProp 𝕄) := by
  unfold boxes
  iintro ⟨⟨⟨%κ, H⟩, -⟩, Hr, Ht⟩
  iapply (Box.empty (κ := κ x) (g := key1 d c x) (R := Row1 (F := F) fx T d c x))
  isplitl [H]
  · iapply (SparseCore.ent (bigSep_elim (Φ := fun x : Fin 16 => (inv (κ x) (Box (key1 d c x) (Row1 (F := F) fx T d c x)) : sProp 𝕄)) (Finset.mem_univ x))); iexact H
  isplitl [Hr]
  · iapply (SparseCore.ent (bigSep_elim (Φ := fun x : Fin 16 => (reached EB (key1 d c x) 1 : sProp 𝕄)) (Finset.mem_univ x))); iexact Hr
  iexact Ht

theorem put2 {d : Dev nD} {c : Fin τ.nSC} (x : Fin 16) :
    iprop(boxes (F := F) fx T d c ∗ (bigSep Finset.univ fun x : Fin 16 => reached EB (key1 d c x) 1) ∗ atPos EB (key2 d c x) 0 ∅ 0 ∗ Row2 (F := F) fx T d c x) ⊢ iprop(|={Set.univ}=> tells (F := F) d c (16 + x.val) : sProp 𝕄) := by
  have h : tells (F := F) d c (16 + x.val) = (iprop(reached EB (key2 d c x) 1 ∗ bigSep Finset.univ fun x : Fin 16 => reached EB (key1 d c x) 1) : sProp 𝕄) := by
    unfold tells
    rw [if_neg (by omega), show Fin.ofNat 16 (16 + x.val) = x from Fin.ext (show (16 + x.val) % 16 = x.val by have := x.isLt; omega)]
  rw [h]
  unfold boxes
  iintro ⟨⟨-, ⟨%κ, H⟩⟩, Hr, Hat, HR⟩
  imod (Box.fill (κ := κ x) (g := key2 d c x) (R := Row2 (F := F) fx T d c x)) $$ [H Hat HR] with H'
  · isplitl [H]
    · iapply (SparseCore.ent (bigSep_elim (Φ := fun x : Fin 16 => (inv (κ x) (Box (key2 d c x) (Row2 (F := F) fx T d c x)) : sProp 𝕄)) (Finset.mem_univ x))); iexact H
    isplitl [Hat] <;> iassumption
  imodintro
  isplitl [H'] <;> iassumption

theorem take2 {d : Dev nD} {c : Fin τ.nSC} (x : Fin 16) :
    iprop(boxes (F := F) fx T d c ∗ (bigSep Finset.univ fun x : Fin 16 => reached EB (key2 d c x) 1) ∗ dutyTok EB (key2 d c x) 0 0) ⊢ iprop(|={Set.univ}=> Row2 (F := F) fx T d c x : sProp 𝕄) := by
  unfold boxes
  iintro ⟨⟨-, ⟨%κ, H⟩⟩, Hr, Ht⟩
  iapply (Box.empty (κ := κ x) (g := key2 d c x) (R := Row2 (F := F) fx T d c x))
  isplitl [H]
  · iapply (SparseCore.ent (bigSep_elim (Φ := fun x : Fin 16 => (inv (κ x) (Box (key2 d c x) (Row2 (F := F) fx T d c x)) : sProp 𝕄)) (Finset.mem_univ x))); iexact H
  isplitl [Hr]
  · iapply (SparseCore.ent (bigSep_elim (Φ := fun x : Fin 16 => (reached EB (key2 d c x) 1 : sProp 𝕄)) (Finset.mem_univ x))); iexact Hr
  iexact Ht
end

end Cert.Proof.Tile
-- ==== Proof.Meet.lean ====
/-
  The two parts of a tile that meet the other tiles: its rows out to the shared scratch, the meeting, the mate's rows in.
-/
module

public import proofs.«01_k».proof.Defs
public import proofs.«01_k».proof.Proof.Lanes
public import proofs.«01_k».proof.Proof.Gen.KernelIdeal
public import proofs.«01_k».proof.Proof.Gen.KernelIdeal.Skeleton
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Tile
public import proofs.«01_k».proof.Proof.Kit

@[expose] public section

noncomputable section

namespace Cert.Proof.Tile

open Cert.KernelIdeal Cert.KernelIdeal.Gen
open Cert.Proof.Lanes

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable {d : Dev nD} {L : grid0.Coords} {α β : Type} {s : St} {Q : α → St → Prop}

attribute [local instance] stages

section
variable (fx : (Sh2 32 8192).Idx → BitVec 32) (T : (Sh 2097152).Idx → BitVec 32)

local notation "thr" => V d (cV L) (jV L)

theorem off29_eq (L : grid0.Coords) : k0_off29 L = ![(jL L).val, 0] := by
  have h : ∀ b : Fin 16, (BitVec.ofNat 32 b.val).toNat = b.val := by decide
  exact congrArg (fun r => ![r, 0]) (h (L 1))
theorem off30_eq (L : grid0.Coords) : k0_off30 L = ![(jL L).val, 0] := off29_eq L
theorem off31_eq (L : grid0.Coords) : k0_off31 L = ![(mate (jL L)).val, 0] := by
  have h : ∀ b : Fin 16, (Scalar.xori (BitVec.ofNat 32 b.val) 1#32).toNat = (mate b).val := by decide
  exact congrArg (fun r => ![r, 0]) (h (L 1))
theorem off32_eq (L : grid0.Coords) : k0_off32 L = ![(mate (jL L)).val, 0] := off31_eq L

/-- The codes of the half-row of tile `x`. -/
abbrev half (L : grid0.Coords) (x : Fin 16) : ℕ → BitVec 32 := hf (rowOf fx (8 * (cV L).val + x.val / 2)) (x.val % 2)

/-- A debt of arrivals at the second meeting alone, beside debts above it. -/
theorem above {O : CellTallies nD τ sig (HIx 2)} (hO : ∀ g ι, 0 < O g ι → 11 < (K (F := F)).lev g ι) {c : Fin τ.nSC} (g : GSem nD τ sig) (ι : HIx 2)
    (h : 0 < (O + units d c 1) g ι) : 8 * 0 + 3 < (K (F := F)).lev g ι := by
  rw [Pi.add_apply, Finsupp.add_apply] at h
  rcases Nat.eq_zero_or_pos (O g ι) with h0 | h0
  · rw [h0, Nat.zero_add] at h
    obtain ⟨⟨j, rfl⟩, rfl⟩ := units_pos h
    rw [lev_bcell]; decide
  · have := hO g ι h0; omega

theorem part17_wp (s : St) (g1 : (Sh2 16 8192).Idx → BitVec 32) (g2 : (Sh2 16 8208).Idx → BitVec 32) (O : CellTallies nD τ sig (HIx 2)) (W : Waits sig (HIx 2))
    (hO : ∀ g ι, 0 < O g ι → 11 < (K (F := F)).lev g ι)
    (hrow : ∀ j < 8192, (half fx L (jL L) j).toNat < 2097152) (hs : Good (rd T) → Sorted (rd T) (half fx L (jL L)) ((jL L).val % 2) s.b1 s.b2 s.b6 s.oex) (a : BitVec 32) :
    iprop(levAts (K (F := F)).L (K (F := F)).lev ∗ cellsOf (F := F) d (cV L) ∗ boxes (F := F) fx T d (cV L)
        ∗ Transfers.MayWaits thr (default : HIx 2) (O + units d (cV L) 1 + units d (cV L) 0) ∗ Transfers.MayWaits thr (default : HIx 2) (O + units d (cV L) 1)
        ∗ Res (F := F) d L s ∗ ((thr).loc cc0_scratch11 ↦[rowS 16 8192 (jL L).val]{fullShare} g1) ∗ ((thr).loc cc0_scratch12 ↦[rowS 16 8208 (jL L).val]{fullShare} g2)
        ∗ (semVal (thr, SemLoc.dma cc0_scoped1.sem) 0 ∗ semVal (thr, SemLoc.dma cc0_scoped2.sem) 0 ∗ semVal (thr, SemLoc.dma cc0_scoped3.sem) 0 ∗ semVal (thr, SemLoc.dma cc0_scoped4.sem) 0)
        ∗ owes thr (O + units d (cV L) 1 + units d (cV L) 0) W
        ∗ (bigSep Finset.univ fun j : Fin (grid0.bound 1) => dutyTok EB (bcell d (cV L) (j.castLE hsub0)) 0 (jV L).val)
        ∗ atPos EB (bcell d (cV L) (jV L)) 0 ∅ 0 ∗ cred (tallyAt (bcell d (cV L) (jV L)) (some 0) 16)
        ∗ atPos EB (key1 d (cV L) (jL L)) 0 ∅ 0 ∗ dutyTok EB (key1 d (cV L) (mate (jL L))) 0 0)
      ⊢ wp frame (wpE (defs₀ (F := F)) 𝒱₀ thr none) Set.univ (k0_part17 L (Memref.whole main_v0_scv) (Memref.isWhole_whole _) (Memref.whole main_arg1_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scoped0 cc0_scoped1 cc0_scoped2 cc0_scoped3 cc0_scoped4 cc0_scoped5 cc0_scoped6 cc0_scoped7 cc0_scoped8 a)
        fun _ => iprop(∃ fpc : (Sh 8208).Idx → BitVec 32, ∃ fc : (Sh2 16 8192).Idx → BitVec 32, ∃ fe : (Sh2 16 8208).Idx → BitVec 32,
          ⌜Good (rd T) → ∀ fo : (Sh 8208).Idx → BitVec 32, (∀ j < 8208, rd fo j = rd2 fe (mate (jL L)).val j) → Served (rd T) (half fx L (mate (jL L))) fpc fo⌝
          ∗ Coming (F := F) (d := d) (L := L) cc0_scoped4.sem (mate (jL L)).val fe
          ∗ (∀ f : Buf (Elt F) ((thr).loc cc0_scratch9), ((thr).loc cc0_scratch9 ↦{fullShare} f) -∗ Res (F := F) d L { s with pc := fpc, pe := f })
          ∗ ((thr).loc cc0_scratch11 ↦[rowS 16 8192 (mate (jL L)).val]{fullShare} fc)
          ∗ (semVal (thr, SemLoc.dma cc0_scoped1.sem) 0 ∗ semVal (thr, SemLoc.dma cc0_scoped2.sem) 0 ∗ semVal (thr, SemLoc.dma cc0_scoped3.sem) 0)
          ∗ (∃ W' : Waits sig (HIx 2), ⌜∀ p ∈ W', p ∈ W ∨ p.2 = none ∨ ∃ j, p.2 = some j⌝ ∗ owes thr (O + units d (cV L) 1) W')
          ∗ (bigSep Finset.univ fun x : Fin 16 => reached EB (key1 d (cV L) x) 1)
          ∗ (∃ S, atPos EB (bcell d (cV L) (jV L)) 0 S 16 ∗ bigSep S fun n => tells (F := F) d (cV L) n)) := by
  rw [k0_part17_eq_skeleton]; unfold k0_part17_skel
  iintro ⟨#Hlv, #Hce, #Hbx, #Hm1, #Hm2, HR, Hg1, Hg2, ⟨Hv1, Hv2, Hv3, Hv4⟩, HO, Htok, Hat, Hcr, Hk1, Hd1⟩
  iapply (b2_to_codeS (F := F) (d := d) (L := L) s (jL L).isLt (off29_eq L) g1 _ W)
  isplitl [HR Hg1 Hv1 HO]
  · isplitr; · iexact Hm1
    isplitl [HR]; · iexact HR
    isplitl [Hg1]; · iexact Hg1
    isplitl [Hv1] <;> iassumption
  iintro %g1' %hg1 ⟨HR, Hg1, Hv1, HO⟩
  iapply (oex_to_exclS (F := F) (d := d) (L := L) s (jL L).isLt (off30_eq L) g2 _ _)
  isplitl [HR Hg2 Hv2 HO]
  · isplitr; · iexact Hm1
    isplitl [HR]; · iexact HR
    isplitl [Hg2]; · iexact Hg2
    isplitl [Hv2] <;> iassumption
  iintro %g2' %hg2 ⟨HR, Hg2, Hv2, HO⟩
  imod (put1 (F := F) fx T (d := d) (c := cV L) (jL L)) $$ [Hk1 Hg1 Hg2] with #Ht
  · isplitr; · iexact Hbx
    isplitl [Hk1]; · iexact Hk1
    unfold Row1
    iexists g1'; iexists g2'
    isplitr
    · ipureintro
      intro hG g fo h1 h2
      have e : fo = s.oex := ext_rd fun p hp => (h2 p hp).trans (hg2 p hp)
      rw [e]
      exact (hs hG).served hG hrow (fun j hj => (h1 j hj).trans (hg1 j hj))
    isplitl [Hg1]
    · iexact Hg1
    · iexact Hg2
  iapply (wp_meet1 (F := F) (d := d) (c := cV L) (i := jV L) (L 1) rfl (O + units d (cV L) 1) _ (above hO)) $$ [HO Htok Hcr Hat]
  · isplitr; · iexact Hlv
    isplitr; · iexact Hce
    isplitr; · iexact Ht
    isplitl [HO]; · iexact HO
    isplitl [Htok]; · iexact Htok
    isplitl [Hcr] <;> iassumption
  iintro ⟨HO, #Hre, HS⟩
  imod (take1 (F := F) fx T (d := d) (c := cV L) (mate (jL L))) $$ [Hd1] with Hrow
  · isplitr; · iexact Hbx
    isplitr; · iexact Hre
    iexact Hd1
  unfold Row1
  icases Hrow with ⟨%fc, %fe, %hserv, Hc, He⟩
  iapply (pc_of_codeS (F := F) (d := d) (L := L) s (mate (jL L)).isLt (off31_eq L) fullShare fc _ _)
  isplitl [HR Hc Hv3 HO]
  · isplitr; · iexact Hm2
    isplitl [HR]; · iexact HR
    isplitl [Hc]; · iexact Hc
    isplitl [Hv3] <;> iassumption
  iintro %fpc %hpc ⟨HR, Hc, Hv3, HO⟩
  iapply (pe_issue (F := F) (d := d) (L := L) { s with pc := fpc } (mate (jL L)).isLt (off32_eq L) fe)
  isplitl [HR He Hv4]
  · isplitl [HR]; · iexact HR
    isplitl [He]
    · iexact He
    · iexact Hv4
  iintro ⟨Hcom, Hhole⟩
  iapply (le_wp_ret _ _ _ _)
  iexists fpc; iexists fc; iexists fe
  isplitr
  · ipureintro
    intro hG fo hfo
    exact hserv hG fpc fo hpc hfo
  isplitl [Hcom]; · iexact Hcom
  isplitl [Hhole]; · iexact Hhole
  isplitl [Hc]; · iexact Hc
  isplitl [Hv1 Hv2 Hv3]
  · isplitl [Hv1]; · iexact Hv1
    isplitl [Hv2] <;> iassumption
  isplitl [HO]
  · iexists _; isplitr
    swap; · iexact HO
    ipureintro; intro p hp
    rcases Finset.mem_insert.mp hp with hp | hp; · exact .inr (.inl (hp ▸ rfl))
    rcases Finset.mem_union.mp hp with hp | hp
    · rcases Finset.mem_insert.mp hp with hp | hp; · exact .inr (.inl (hp ▸ rfl))
      rcases Finset.mem_insert.mp hp with hp | hp; · exact .inr (.inl (hp ▸ rfl))
      exact .inl hp
    · exact .inr (.inr ⟨0, by rw [Finset.mem_singleton.mp hp]⟩)
  isplitr; · iexact Hre
  iexact HS

/-- The row of tile `x` and its mate. -/
abbrev pair (L : grid0.Coords) : ℕ → BitVec 32 := rowOf fx (8 * (cV L).val + (jL L).val / 2)

theorem half_mate (L : grid0.Coords) : half fx L (mate (jL L)) = hf (pair fx L) (1 - (jL L).val % 2) := by
  unfold half; rw [mate_div, mate_mod]

/-- The tile's positions and its mate's packed pairs, ready for the last loop. -/
def Ready (T row : ℕ → BitVec 32) (h : ℕ) (s : St) : Prop :=
  Good T → ∃ s' : St, (∀ p < 8192, at_ s' h (ru (hf row h)) p = BitVec.ofNat 32 (place T row (h * 8192 + sg (hf row h) p)))
    ∧ (∀ p < 8192, rd s.rl (h * 8192 + sg (hf row h) p - h * 8192) = at_ s' h (ru (hf row h)) p)
    ∧ (Apart s' h (ru (hf row h)) → ∀ p < 8192, (at_ s' h (ru (hf row h)) p).toNat / 8192 = h →
      rd s.b1 ((at_ s' h (ru (hf row h)) p).toNat % 8192) = BitVec.ofNat 32 (h * 8192 + sg (hf row h) p))
    ∧ Packed T row (1 - h) s.b5

/-- What the third block of loops leaves. -/
def Placed (T row : ℕ → BitVec 32) (h : ℕ) (s s' : St) : Prop :=
  (∃ f4 f1 f2 fr, s' = { s with b4 := f4, b1 := f1, b2 := f2, rl := fr })
  ∧ (Good T → ∀ p < 8192, at_ s' h (ru (hf row h)) p = BitVec.ofNat 32 (place T row (h * 8192 + sg (hf row h) p)))
  ∧ (∀ p < 8192, rd s'.b2 p = (at_ s' h (ru (hf row h)) p <<< 14#32) ||| BitVec.ofNat 32 (h * 8192 + sg (hf row h) p))
  ∧ (∀ p < 8192, rd s'.rl (h * 8192 + sg (hf row h) p - h * 8192) = at_ s' h (ru (hf row h)) p)
  ∧ (Apart s' h (ru (hf row h)) → ∀ p < 8192, (at_ s' h (ru (hf row h)) p).toNat / 8192 = h →
      rd s'.b1 ((at_ s' h (ru (hf row h)) p).toNat % 8192) = BitVec.ofNat 32 (h * 8192 + sg (hf row h) p))

theorem placed_run (T row : ℕ → BitVec 32) {h : ℕ} (hh : h < 2) (hrow : ∀ g < 16384, (row g).toNat < 2097152) (s : St) (v102 v169 : BitVec 32)
    (hw : k0_chk8 (BitVec.ofNat 32 (nr (hf row h))))
    (hs : Good T → Sorted T (hf row h) h s.b1 s.b2 s.b6 s.oex) (hp : Good T → Served T (hf row (1 - h)) s.pc s.pe)
    (hb : ∀ k < up (nr (hf row h)), (rd s.b1 k).toNat < 8192) (hinj : ∀ k < up (nr (hf row h)), ∀ k' < up (nr (hf row h)), (rd s.b1 k).toNat = (rd s.b1 k').toNat → k = k')
    (hb3 : ∀ p < 8192, rd s.b3 p = BitVec.ofNat 32 (ru (hf row h) p * 16384 + (h * 8192 + sg (hf row h) p))) :
    Run (F := F) d L s (do
      Scf.Loop.for (k0_t25_loop (BitVec.ofNat 32 (nr (hf row h)))) (k0_t25_ok _ hw) ⟨⟩ (k0_t25_body L (Memref.whole main_v0_scv) (Memref.isWhole_whole _) (Memref.whole main_arg1_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scoped0 cc0_scoped1 cc0_scoped2 cc0_scoped3 cc0_scoped4 cc0_scoped5 cc0_scoped6 cc0_scoped7 cc0_scoped8 (BitVec.ofNat 32 h) (BitVec.ofNat 32 (h * 8192)) lanes (BitVec.ofNat 32 (nr (hf row h))) hw v102)
      Scf.Loop.for (k0_t26_loop (BitVec.ofNat 32 (nr (hf row h)))) (k0_t26_ok _ hw) ⟨⟩ (k0_t26_body L (Memref.whole main_v0_scv) (Memref.isWhole_whole _) (Memref.whole main_arg1_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scoped0 cc0_scoped1 cc0_scoped2 cc0_scoped3 cc0_scoped4 cc0_scoped5 cc0_scoped6 cc0_scoped7 cc0_scoped8 (BitVec.ofNat 32 h) (BitVec.ofNat 32 (h * 8192)) lanes (BitVec.ofNat 32 (nr (hf row h))) hw v102 v169)
      Scf.Loop.for k0_t27_loop k0_t27_ok ⟨⟩ (k0_t27_body L (Memref.whole main_v0_scv) (Memref.isWhole_whole _) (Memref.whole main_arg1_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scoped0 cc0_scoped1 cc0_scoped2 cc0_scoped3 cc0_scoped4 cc0_scoped5 cc0_scoped6 cc0_scoped7 cc0_scoped8 (BitVec.ofNat 32 h) (BitVec.ofNat 32 (h * 8192)) lanes (BitVec.ofNat 32 (nr (hf row h))) hw v102)
      pure (PUnit.unit : PUnit.{1})) (fun _ s' => Placed T row h s s') := by
  refine part18_run s (nr_pos _) hw v102 v169 h hh (ru (hf row h)) (fun p => h * 8192 + sg (hf row h) p) hb hinj hb3 ?_ ?_ ?_ ?_
  · intro p hp
    have a := ru_lt (hf row h) hp
    have b := nr_pos (hf row h)
    omega
  · intro p hp
    have := (sg_spec (hf row h) hp).1
    constructor <;> omega
  · intro p hp q hq e
    exact sg_inj hp hq (Nat.add_left_cancel (show h * 8192 + sg (hf row h) p = h * 8192 + sg (hf row h) q from e))
  · intro f4 f1 f2 fr s' e h4 h2 hr h1
    refine Run.pure ⟨⟨f4, f1, f2, fr, e⟩, fun hG p hp' => ?_, ?_, ?_, ?_⟩
    · exact at_eq hG hrow hh s f4 (hs hG) (hp hG) h4 s' (by rw [e]) hp'
    · rw [show s'.b2 = f2 by rw [e]]; exact h2
    · rw [show s'.rl = fr by rw [e]]; exact hr
    · rw [show s'.b1 = f1 by rw [e]]; exact h1

theorem part18_wp (s : St) (g3 : (Sh2 16 8192).Idx → BitVec 32) (fe : (Sh2 16 8208).Idx → BitVec 32) (O : CellTallies nD τ sig (HIx 2)) (W : Waits sig (HIx 2))
    (hO : ∀ g ι, 0 < O g ι → 11 < (K (F := F)).lev g ι)
    (hrow : ∀ g < 16384, (pair fx L g).toNat < 2097152)
    (hw : k0_chk8 (BitVec.ofNat 32 (nr (hf (pair fx L) ((jL L).val % 2)))))
    (hs : Good (rd T) → Sorted (rd T) (hf (pair fx L) ((jL L).val % 2)) ((jL L).val % 2) s.b1 s.b2 s.b6 s.oex)
    (hp : Good (rd T) → ∀ fo : (Sh 8208).Idx → BitVec 32, (∀ j < 8208, rd fo j = rd2 fe (mate (jL L)).val j) → Served (rd T) (half fx L (mate (jL L))) s.pc fo)
    (hb : ∀ k < up (nr (hf (pair fx L) ((jL L).val % 2))), (rd s.b1 k).toNat < 8192)
    (hinj : ∀ k < up (nr (hf (pair fx L) ((jL L).val % 2))), ∀ k' < up (nr (hf (pair fx L) ((jL L).val % 2))), (rd s.b1 k).toNat = (rd s.b1 k').toNat → k = k')
    (hb3 : ∀ p < 8192, rd s.b3 p = BitVec.ofNat 32 (ru (hf (pair fx L) ((jL L).val % 2)) p * 16384 + ((jL L).val % 2 * 8192 + sg (hf (pair fx L) ((jL L).val % 2)) p)))
    (v102 : BitVec 32) (S : Finset ℕ) :
    iprop(levAts (K (F := F)).L (K (F := F)).lev ∗ cellsOf (F := F) d (cV L) ∗ boxes (F := F) fx T d (cV L)
        ∗ Transfers.MayWaits thr (default : HIx 2) (O + units d (cV L) 1) ∗ Transfers.MayWaits thr (default : HIx 2) O
        ∗ Coming (F := F) (d := d) (L := L) cc0_scoped4.sem (mate (jL L)).val fe
        ∗ (∀ f : Buf (Elt F) ((thr).loc cc0_scratch9), ((thr).loc cc0_scratch9 ↦{fullShare} f) -∗ Res (F := F) d L { s with pe := f })
        ∗ ((thr).loc cc0_scratch13 ↦[rowS 16 8192 (jL L).val]{fullShare} g3)
        ∗ (semVal (thr, SemLoc.dma cc0_scoped5.sem) 0 ∗ semVal (thr, SemLoc.dma cc0_scoped6.sem) 0)
        ∗ owes thr (O + units d (cV L) 1) W
        ∗ (bigSep Finset.univ fun j : Fin (grid0.bound 1) => dutyTok EB (bcell d (cV L) (j.castLE hsub0)) 0 (16 + (jV L).val))
        ∗ cred (tallyAt (bcell d (cV L) (jV L)) (some 1) 16) ∗ atPos EB (bcell d (cV L) (jV L)) 0 S 16 ∗ (bigSep S fun n => tells (F := F) d (cV L) n)
        ∗ (bigSep Finset.univ fun x : Fin 16 => reached EB (key1 d (cV L) x) 1)
        ∗ atPos EB (key2 d (cV L) (jL L)) 0 ∅ 0 ∗ dutyTok EB (key2 d (cV L) (mate (jL L))) 0 0)
      ⊢ wp frame (wpE (defs₀ (F := F)) 𝒱₀ thr none) Set.univ
        (k0_part18 L (Memref.whole main_v0_scv) (Memref.isWhole_whole _) (Memref.whole main_arg1_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scoped0 cc0_scoped1 cc0_scoped2 cc0_scoped3 cc0_scoped4 cc0_scoped5 cc0_scoped6 cc0_scoped7 cc0_scoped8 (BitVec.ofNat 32 ((jL L).val % 2)) (BitVec.ofNat 32 ((jL L).val % 2 * 8192)) lanes (BitVec.ofNat 32 (nr (hf (pair fx L) ((jL L).val % 2)))) hw v102)
        fun _ => iprop((∃ s' : St, ⌜Ready (rd T) (pair fx L) ((jL L).val % 2) s'⌝ ∗ Res (F := F) d L s')
          ∗ (∃ fp : (Sh2 16 8192).Idx → BitVec 32, (thr).loc cc0_scratch13 ↦[rowS 16 8192 (mate (jL L)).val]{fullShare} fp)
          ∗ ((thr).loc cc0_scratch12 ↦[rowS 16 8208 (mate (jL L)).val]{fullShare} fe)
          ∗ (semVal (thr, SemLoc.dma cc0_scoped4.sem) 0 ∗ semVal (thr, SemLoc.dma cc0_scoped5.sem) 0 ∗ semVal (thr, SemLoc.dma cc0_scoped6.sem) 0)
          ∗ (∃ W' : Waits sig (HIx 2), ⌜∀ p ∈ W', p ∈ W ∨ p.2 = none ∨ ∃ j, p.2 = some j⌝ ∗ owes thr O W')
          ∗ atPos EB (bcell d (cV L) (jV L)) 1 ∅ 0) := by
  rw [k0_part18_eq_skeleton]; unfold k0_part18_skel
  iintro ⟨#Hlv, #Hce, #Hbx, #Hm1, #Hm2, Hcom, Hhole, Hg3, ⟨Hv5, Hv6⟩, HO, Htok, Hcr, Hat, HS, #Hr1, Hk2, Hd2⟩
  iapply (pe_wait (F := F) (d := d) (L := L) s fe _ W)
  isplitl [Hcom Hhole HO]
  · isplitr; · iexact Hm1
    isplitl [Hcom]; · iexact Hcom
    isplitl [Hhole]; · iexact Hhole
    iexact HO
  iintro %fo %hfo ⟨HR, He, Hv4, HO⟩
  iapply (run_three (placed_run (F := F) (d := d) (L := L) (rd T) (pair fx L) (show (jL L).val % 2 < 2 by omega) hrow { s with pe := fo } v102 _ hw hs
    (fun hG => half_mate fx L ▸ hp hG fo hfo) hb hinj hb3))
  isplitl [HR]; · iexact HR
  iintro %s' %hpl HR
  iapply (b2_to_packS (F := F) (d := d) (L := L) s' (jL L).isLt (off29_eq L) g3 _ _)
  isplitl [HR Hg3 Hv5 HO]
  · isplitr; · iexact Hm1
    isplitl [HR]; · iexact HR
    isplitl [Hg3]; · iexact Hg3
    isplitl [Hv5] <;> iassumption
  iintro %g3' %hg3 ⟨HR, Hg3, Hv5, HO⟩
  imod (put2 (F := F) fx T (d := d) (c := cV L) (jL L)) $$ [Hk2 Hg3] with #Ht
  · isplitr; · iexact Hbx
    isplitr; · iexact Hr1
    isplitl [Hk2]; · iexact Hk2
    unfold Row2
    iexists g3'
    isplitr
    · ipureintro
      intro hG g h1
      refine packed_of (by omega) s' (hpl.2.1 hG) (fun p hp' => ?_)
      rw [h1 p hp', hg3 p hp', hpl.2.2.1 p hp']
    iexact Hg3
  iapply (wp_meet2 (F := F) (d := d) (c := cV L) (i := jV L) (L 1) rfl O _ (fun g ι h => hO g ι h) S) $$ [HO Htok Hcr Hat HS]
  · isplitr; · iexact Hlv
    isplitr; · iexact Hce
    isplitr; · iexact Ht
    isplitl [HO]; · iexact HO
    isplitl [Htok]; · iexact Htok
    isplitl [Hcr]; · iexact Hcr
    isplitl [Hat] <;> iassumption
  iintro ⟨HO, Hat, #Hre⟩
  imod (take2 (F := F) fx T (d := d) (c := cV L) (mate (jL L))) $$ [Hd2] with Hrow
  · isplitr; · iexact Hbx
    isplitr; · iexact Hre
    iexact Hd2
  unfold Row2
  icases Hrow with ⟨%fp, %hpk, Hp⟩
  iapply (b5_of_packS (F := F) (d := d) (L := L) s' (mate (jL L)).isLt (off31_eq L) fullShare fp _ _)
  isplitl [HR Hp Hv6 HO]
  · isplitr; · iexact Hm2
    isplitl [HR]; · iexact HR
    isplitl [Hp]; · iexact Hp
    isplitl [Hv6] <;> iassumption
  iintro %f5 %hf5 ⟨HR, Hp, Hv6, HO⟩
  iapply (le_wp_ret _ _ _ _)
  isplitl [HR]
  · iexists { s' with b5 := f5 }
    isplitr
    · ipureintro
      intro hG
      refine ⟨s', hpl.2.1 hG, hpl.2.2.2.1, hpl.2.2.2.2, ?_⟩
      have := hpk hG f5 hf5
      rw [mate_div, mate_mod] at this
      exact this
    iexact HR
  isplitl [Hp]; · iexists fp; iexact Hp
  isplitl [He]; · iexact He
  isplitl [Hv4 Hv5 Hv6]
  · isplitl [Hv4]; · iexact Hv4
    isplitl [Hv5] <;> iassumption
  isplitl [HO]
  · iexists _; isplitr
    swap; · iexact HO
    ipureintro; intro p hp
    rcases Finset.mem_insert.mp hp with hp | hp; · exact .inr (.inl (hp ▸ rfl))
    rcases Finset.mem_insert.mp hp with hp | hp; · exact .inr (.inr ⟨1, by rw [hp]⟩)
    rcases Finset.mem_insert.mp hp with hp | hp; · exact .inr (.inl (hp ▸ rfl))
    rcases Finset.mem_insert.mp hp with hp | hp; · exact .inr (.inl (hp ▸ rfl))
    exact .inl hp
  iexact Hat
end

end Cert.Proof.Tile
-- ==== Proof.Own.lean ====
/-
  What a tile owns: its eleven scratch buffers and its ten semaphores, each apart.
-/
module

public import proofs.«01_k».proof.Defs
public import proofs.«01_k».proof.Proof.Lanes
public import proofs.«01_k».proof.Proof.Gen.KernelIdeal
public import proofs.«01_k».proof.Proof.Gen.KernelIdeal.Skeleton
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Tile
public import proofs.«01_k».proof.Proof.Meet

@[expose] public section

noncomputable section

namespace Cert.Proof.Tile

open Cert.KernelIdeal Cert.KernelIdeal.Gen
open Cert.Proof.Lanes

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable {d : Dev nD} {L : grid0.Coords} {α β : Type} {s : St} {Q : α → St → Prop}

attribute [local instance] stages

/-- The members of a set that `f` names, and the rest. -/
theorem bigSep_named {I J : Type} [DecidableEq I] [Fintype J] [DecidableEq J] {s : Finset I} {f : J → I} (inj : Function.Injective f) (sub : ∀ j, f j ∈ s) (Φ : I → sProp 𝕄) :
    bigSep s Φ = iprop(bigSep Finset.univ (fun j => Φ (f j)) ∗ bigSep (s \ Finset.univ.image f) Φ) := by
  rw [SparseCore.bigSep_sdiff_split' (t := Finset.univ.image f) fun x mem => by obtain ⟨j, -, rfl⟩ := Finset.mem_image.mp mem; exact sub j,
    SparseCore.bigSep_image_of_injOn (fun a _ b _ h => inj h)]

section
local notation "thr" => V d (cV L) (jV L)

/-- The scratch buffers of a tile. -/
def scr : Fin 11 → Ref sig .scVector := ![cc0_scratch0, cc0_scratch1, cc0_scratch2, cc0_scratch3, cc0_scratch4, cc0_scratch5, cc0_scratch6, cc0_scratch7, cc0_scratch8, cc0_scratch9, cc0_scratch10]
/-- The transfer semaphores of a tile. -/
def dsem : Fin 10 → DmaSem sig := ![cc0_scoped0.sem, cc0_scoped1.sem, cc0_scoped2.sem, cc0_scoped3.sem, cc0_scoped4.sem, cc0_scoped5.sem, cc0_scoped6.sem, cc0_scoped7.sem, cc0_scoped8.sem, cc0_scratch14.sem]

theorem scr_inj : Function.Injective scr := by decide
theorem dsem_inj : Function.Injective dsem := by decide

/-- The other buffers of a tile. -/
def restB (d : Dev nD) (c : Fin τ.nSC) (i : Fin τ.nSub) : sProp 𝕄 :=
  bigSep (ownRefs (τ := τ) (.scVector c i) \ Finset.univ.image fun k => (Proc.scVector c i).devRef (scr k)) fun b => iprop(∃ f, ((d, b) : Loc nD τ sig) ↦{fullShare} f)
/-- The other semaphores of a tile. -/
def restS (d : Dev nD) (c : Fin τ.nSC) (i : Fin τ.nSub) : sProp 𝕄 :=
  bigSep (ownCells (V d c i) \ Finset.univ.image fun k => ((V d c i, SemLoc.dma (dsem k)) : GSem nD τ sig)) fun g => semVal g 0

theorem ownBufs_V : (ownBufs (thr) : sProp 𝕄)
    = iprop(((∃ f, (thr).loc cc0_scratch0 ↦{fullShare} f) ∗ (∃ f, (thr).loc cc0_scratch1 ↦{fullShare} f) ∗ (∃ f, (thr).loc cc0_scratch2 ↦{fullShare} f)
      ∗ (∃ f, (thr).loc cc0_scratch3 ↦{fullShare} f) ∗ (∃ f, (thr).loc cc0_scratch4 ↦{fullShare} f) ∗ (∃ f, (thr).loc cc0_scratch5 ↦{fullShare} f)
      ∗ (∃ f, (thr).loc cc0_scratch6 ↦{fullShare} f) ∗ (∃ f, (thr).loc cc0_scratch7 ↦{fullShare} f) ∗ (∃ f, (thr).loc cc0_scratch8 ↦{fullShare} f)
      ∗ (∃ f, (thr).loc cc0_scratch9 ↦{fullShare} f) ∗ (∃ f, (thr).loc cc0_scratch10 ↦{fullShare} f)) ∗ restB (F := F) d (cV L) (jV L)) := by
  unfold SparseCore.Cfg.ownBufs restB
  rw [bigSep_named (J := Fin 11) (f := fun k => (Proc.scVector (cV L) (jV L)).devRef (scr k))
    (fun a b h => scr_inj (Proc.devRef_injective _ h))
    (fun k => SparseCore.Cfg.mem_ownRefs_of_owner (p := Proc.scVector (cV L) (jV L)) (match k with | 0 => rfl | 1 => rfl | 2 => rfl | 3 => rfl | 4 => rfl | 5 => rfl | 6 => rfl | 7 => rfl | 8 => rfl | 9 => rfl | 10 => rfl))]
  exact congrArg (fun P : sProp 𝕄 => iprop(P ∗ _)) (BI.bigSep_univ_eq_bigSepL [0, 1, 2, 3, 4, 5, 6, 7, 8, 9, 10] (by decide) (by decide) _)

theorem ownSems0_V : (ownSems0 (thr) : sProp 𝕄)
    = iprop((semVal (thr, SemLoc.dma cc0_scoped0.sem) 0 ∗ semVal (thr, SemLoc.dma cc0_scoped1.sem) 0 ∗ semVal (thr, SemLoc.dma cc0_scoped2.sem) 0
      ∗ semVal (thr, SemLoc.dma cc0_scoped3.sem) 0 ∗ semVal (thr, SemLoc.dma cc0_scoped4.sem) 0 ∗ semVal (thr, SemLoc.dma cc0_scoped5.sem) 0
      ∗ semVal (thr, SemLoc.dma cc0_scoped6.sem) 0 ∗ semVal (thr, SemLoc.dma cc0_scoped7.sem) 0 ∗ semVal (thr, SemLoc.dma cc0_scoped8.sem) 0
      ∗ semVal (thr, SemLoc.dma cc0_scratch14.sem) 0) ∗ restS (F := F) d (cV L) (jV L)) := by
  unfold SparseCore.Cfg.ownSems0 restS
  rw [bigSep_named (J := Fin 10) (f := fun k => ((thr, SemLoc.dma (dsem k)) : GSem nD τ sig))
    (fun a b h => dsem_inj (SemLoc.dma.inj (Prod.mk.inj h).2))
    (fun k => (mem_ownCells (g := ((thr, SemLoc.dma (dsem k)) : GSem nD τ sig))).mpr ⟨rfl, by
      show (SemLoc.dma (dsem k) : SemLoc sig).isScoped .scVector = true; revert k; decide⟩)]
  exact congrArg (fun P : sProp 𝕄 => iprop(P ∗ _)) (BI.bigSep_univ_eq_bigSepL [0, 1, 2, 3, 4, 5, 6, 7, 8, 9] (by decide) (by decide) _)

/-- The scratch at some contents. -/
theorem res_of_bufs : (ownBufs (thr) : sProp 𝕄) ⊢ iprop((∃ s : St, Res (F := F) d L s) ∗ restB (F := F) d (cV L) (jV L)) := by
  rw [ownBufs_V]
  iintro ⟨⟨⟨%f0, H0⟩, ⟨%f1, H1⟩, ⟨%f2, H2⟩, ⟨%f3, H3⟩, ⟨%f4, H4⟩, ⟨%f5, H5⟩, ⟨%f6, H6⟩, ⟨%f7, H7⟩, ⟨%f8, H8⟩, ⟨%f9, H9⟩, ⟨%f10, H10⟩⟩, HB⟩
  isplitr [HB]; swap; · iexact HB
  iexists (⟨f0, f1, f2, f3, f4, f5, f6, f7, f8, f9, f10⟩ : St)
  unfold Res
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem bufs_of_res (s : St) : iprop(Res (F := F) d L s ∗ restB (F := F) d (cV L) (jV L)) ⊢ (ownBufs (thr) : sProp 𝕄) := by
  rw [ownBufs_V]
  unfold Res
  iintro ⟨⟨H0, H1, H2, H3, H4, H5, H6, H7, H8, H9, H10⟩, HB⟩
  isplitr [HB]; swap; · iexact HB
  isplitl [H0]; · iexists _; iexact H0
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  iexists _; iexact H10
end

end Cert.Proof.Tile
-- ==== Proof.Body.lean ====
/-
  A tile's whole run: its half-row fetched, sorted and exchanged, its mate's half merged, its rows of the results written.
-/
module

public import proofs.«01_k».proof.Defs
public import proofs.«01_k».proof.Proof.Lanes
public import proofs.«01_k».proof.Proof.Gen.KernelIdeal
public import proofs.«01_k».proof.Proof.Gen.KernelIdeal.Skeleton
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Tile
public import proofs.«01_k».proof.Proof.Own

@[expose] public section

noncomputable section

namespace Cert.Proof.Tile

open Cert.KernelIdeal Cert.KernelIdeal.Gen
open Cert.Proof.Lanes

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable {d : Dev nD} {L : grid0.Coords} {α β : Type} {s : St} {Q : α → St → Prop}

attribute [local instance] stages

section
variable (fx : (Sh2 32 8192).Idx → BitVec 32) (T : (Sh 2097152).Idx → BitVec 32)

local notation "thr" => V d (cV L) (jV L)

theorem off42_eq (L : grid0.Coords) : k0_off42 L = ![16 * (L 0).val + (L 1).val, 0] := off1_eq L

/-- What a tile owes: an arrival at each meeting, to every tile of its SparseCore. -/
def oxV (d : Dev nD) (c : Fin τ.nSC) : CellTallies nD τ sig (HIx 2) := units d c 0 + units d c 1

/-- The row of tile `L`. -/
abbrev rw32 (L : grid0.Coords) : ℕ := 16 * (L 0).val + (L 1).val

/-- The two result rows of tile `L`. -/
def Done (L : grid0.Coords) (go gr : (Sh2 32 8192).Idx → BitVec 32) : Prop :=
  Good (rd T) → ∃ o r : (Sh 8192).Idx → BitVec 32, Wrote (rd T) (pair fx L) ((jL L).val % 2) o r
    ∧ (∀ p < 8192, rd2 go (rw32 L) p = rd o p) ∧ ∀ p < 8192, rd2 gr (rw32 L) p = rd r p

/-- A tile's own cell among its SparseCore's. -/
theorem cell_of (d : Dev nD) (c : Fin τ.nSC) (j : Fin (grid0.bound 1)) :
    cellsOf (F := F) d c ⊢ (iprop(∃ κ : ℕ, cellInv EB (bRd (F := F)) κ (bcell d c (j.castLE hsub0))) : sProp 𝕄) := by
  unfold cellsOf
  iintro ⟨⟨%κ, #H⟩, -⟩
  iexists (κ (bcell d c (j.castLE hsub0)))
  iapply (SparseCore.ent (bigSep_elim (Φ := fun j : Fin (grid0.bound 1) =>
        (cellInv EB (bRd (F := F)) (κ (bcell d c (j.castLE hsub0))) (bcell d c (j.castLE hsub0)) : sProp 𝕄)) (Finset.mem_univ j))); iexact H

theorem tile_body (hF : (K (F := F)).Facts) (q : PosShare TreeShare) (O : CellTallies nD τ sig (HIx 2)) (W : Waits sig (HIx 2)) (hO : ∀ g, O g none = 0)
    (hOlev : ∀ g ι, 0 < O g ι → 11 < (K (F := F)).lev g ι) (hfx : ∀ r < 32, ∀ j < 8192, (rd2 fx r j).toNat < 2097152) :
    iprop(levAts (K (F := F)).L (K (F := F)).lev ∗ bkit (F := F) fx T d (cV L) (jV L)
        ∗ (((thr).loc main_v0_scv ↦[rowS 32 8192 (rw32 L)]{fullShare} fx) ∗ ((thr).loc main_arg1_scv ↦{q} T)
          ∗ (∃ g : (Sh2 32 8192).Idx → BitVec 32, (thr).loc main_v1_0_scv ↦[rowS 32 8192 (rw32 L)]{fullShare} g)
          ∗ (∃ g : (Sh2 32 8192).Idx → BitVec 32, (thr).loc main_v1_1_scv ↦[rowS 32 8192 (rw32 L)]{fullShare} g)
          ∗ (∃ g : (Sh2 16 8192).Idx → BitVec 32, codesL d (cV L) ↦[rowS 16 8192 (jL L).val]{fullShare} g)
          ∗ (∃ g : (Sh2 16 8208).Idx → BitVec 32, sumsL d (cV L) ↦[rowS 16 8208 (jL L).val]{fullShare} g)
          ∗ (∃ g : (Sh2 16 8192).Idx → BitVec 32, packsL d (cV L) ↦[rowS 16 8192 (jL L).val]{fullShare} g))
        ∗ scopedBufs (thr) ∗ scopedSems0 (thr) ∗ owes thr (O + oxV d (cV L)) W)
      ⊢ wp frame (wpE (defs₀ (F := F)) 𝒱₀ thr none) Set.univ (cc0__sc_sort_body L (Memref.whole main_v0_scv) (Memref.isWhole_whole _) (Memref.whole main_arg1_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scoped0 cc0_scoped1 cc0_scoped2 cc0_scoped3 cc0_scoped4 cc0_scoped5 cc0_scoped6 cc0_scoped7 cc0_scoped8)
        fun _ => iprop(((((thr).loc main_v0_scv ↦[rowS 32 8192 (rw32 L)]{fullShare} fx) ∗ ((thr).loc main_arg1_scv ↦{q} T)
            ∗ (∃ go gr : (Sh2 32 8192).Idx → BitVec 32, ⌜Done fx T L go gr⌝ ∗ ((thr).loc main_v1_0_scv ↦[rowS 32 8192 (rw32 L)]{fullShare} go)
              ∗ ((thr).loc main_v1_1_scv ↦[rowS 32 8192 (rw32 L)]{fullShare} gr))
            ∗ (∃ g : (Sh2 16 8192).Idx → BitVec 32, codesL d (cV L) ↦[rowS 16 8192 (mate (jL L)).val]{fullShare} g)
            ∗ (∃ g : (Sh2 16 8208).Idx → BitVec 32, sumsL d (cV L) ↦[rowS 16 8208 (mate (jL L)).val]{fullShare} g)
            ∗ (∃ g : (Sh2 16 8192).Idx → BitVec 32, packsL d (cV L) ↦[rowS 16 8192 (mate (jL L)).val]{fullShare} g))
            ∗ semVal (bcell d (cV L) (jV L)) 0)
          ∗ scopedBufs (thr) ∗ scopedSems0 (thr)
          ∗ ∃ W' : Waits sig (HIx 2), ⌜∀ p ∈ W', p ∈ W ∨ p.2 = none ∨ ∃ j, p.2 = some j⌝ ∗ owes thr O W') := by
  simp only [cc0__sc_sort_body_eq_skeleton]; unfold cc0__sc_sort_body_skel
  rw [(K (F := F)).scopedBufs_V hF d (cV L) (jV L), SparseCore.Cfg.scopedSems0_V (Val := Elt F) d (cV L) (jV L), ownSems0_V]
  have hL0 : (L 0).val < 2 := (L 0).isLt
  have hL1 : (L 1).val < 16 := (L 1).isLt
  have hlt32 : rw32 L < 32 := by unfold rw32; omega
  have hh : (jL L).val % 2 < 2 := by omega
  have hpair : ∀ g < 16384, (pair fx L g).toNat < 2097152 := fun g hg =>
    hfx (2 * (8 * (L 0).val + (L 1).val / 2) + g / 8192) (by omega) (g % 8192) (by omega)
  have hhalf : ∀ j < 8192, rd2 fx (rw32 L) j = hf (pair fx L) ((jL L).val % 2) j := fun j hj => (hf_rowOf fx (L 0).val (L 1).val hj).symm
  have hlt : ∀ j < 8192, (hf (pair fx L) ((jL L).val % 2) j).toNat < 2097152 := fun j hj => hhalf j hj ▸ hfx _ hlt32 j hj
  generalize hfdef : hf (pair fx L) ((jL L).val % 2) = f at hhalf hlt
  have hnr := nr_pos f
  unfold bkit
  iintro ⟨#Hlv, ⟨#Hce, #Hbx, Htok1, Htok2, Hat, Hcr1, Hcr2, Hk1, Hk2, Hd1, Hd2⟩, ⟨Hx, HT, ⟨%go, Hgo⟩, ⟨%gr, Hgr⟩, ⟨%g1, Hg1⟩, ⟨%g2, Hg2⟩, ⟨%g3, Hg3⟩⟩, HB,
    ⟨⟨Hv0, Hv1, Hv2, Hv3, Hv4, Hv5, Hv6, Hv7, Hv8, Hv14⟩, HS⟩, HO⟩
  have eO : O + oxV d (cV L) = O + units d (cV L) 1 + units d (cV L) 0 := by unfold oxV; rw [add_assoc, add_comm (units d (cV L) 1)]
  have hu : ∀ (st : Fin 2) g, units d (cV L) st g none = 0 := fun st g => Nat.eq_zero_of_not_pos fun h => by have := (units_pos h).2; simp at this
  have hO1 : ∀ g, (O + units d (cV L) 1) g none = 0 := fun g => by rw [Pi.add_apply, Finsupp.add_apply, hO g, hu]
  have hO2 : ∀ g, (O + units d (cV L) 1 + units d (cV L) 0) g none = 0 := fun g => by rw [Pi.add_apply, Finsupp.add_apply, hO1 g, hu]
  rw [eO]
  ihave Hm2 := (show levAts (K (F := F)).L (K (F := F)).lev ⊢ Transfers.MayWaits thr (default : HIx 2) (O + units d (cV L) 1 + units d (cV L) 0) from
    (K (F := F)).mayWaits_none hO2) $$ Hlv
  ihave Hm1 := (show levAts (K (F := F)).L (K (F := F)).lev ⊢ Transfers.MayWaits thr (default : HIx 2) (O + units d (cV L) 1) from
    (K (F := F)).mayWaits_none hO1) $$ Hlv
  ihave Hm0 := (show levAts (K (F := F)).L (K (F := F)).lev ⊢ Transfers.MayWaits thr (default : HIx 2) O from
    (K (F := F)).mayWaits_none hO) $$ Hlv
  icases Hm2 with #Hm2
  icases Hm1 with #Hm1
  icases Hm0 with #Hm0
  ihave HB' := (res_of_bufs (F := F) (d := d) (L := L)) $$ HB
  icases HB' with ⟨⟨%s0, HR⟩, HB⟩
  -- the half-row and its counts
  iapply (wp_seq (part11_wp (F := F) (d := d) (L := L) s0 fx _ W))
  isplitl [HR Hx Hv0 HO]
  · isplitr; · iexact Hm2
    isplitl [HR]; · iexact HR
    isplitl [Hx]; · iexact Hx
    isplitl [Hv0] <;> iassumption
  iintro %r ⟨%er, ⟨%s1, %h1, HR⟩, Hx, Hv0, HO⟩
  subst er
  dsimp only
  -- the ranks by hash and the runs
  have hf1 : ∀ j < 8192, rd s1.b1 j = f j := fun j hj => (h1.1 j hj).trans (hhalf j hj)
  iapply (run_seq (part12_run s1 ((L 1).val % 2) hh f hf1 hlt h1.2.1 h1.2.2))
  isplitl [HR]; · iexact HR
  iintro %r %s2 %h2 HR
  obtain ⟨f1, f2, f3, f4, f6, gc, e2, h3, hk1, h6, h6e, v44, er⟩ := h2
  subst er
  dsimp only
  have hT : ∀ p < nr f, (rd s2.b1 p).toNat < 2097152 := fun p hp => by
    rw [show s2.b1 = f1 by rw [e2], key_of hk1 hp]
    exact kp_lt hlt (start_spec f hp).1
  iapply (wp_seq (part13_wp (F := F) (d := d) (L := L) s2 hnr v44 q T hT _ _))
  isplitl [HR HT Hv14 HO]
  · isplitr; · iexact Hm2
    isplitl [HR]; · iexact HR
    isplitl [HT]; · iexact HT
    isplitl [Hv14] <;> iassumption
  iintro %r ⟨%er, ⟨%f1b, %hfill, HR⟩, HT, Hv14, ⟨%W1, %hW1, HO⟩⟩
  subst er
  dsimp only
  -- the codes sorted, and the sums before each
  iapply (run_seq (part14_run _ hnr (chk8_of hnr)))
  isplitl [HR]; · iexact HR
  iintro %r %s3 %h3' HR
  obtain ⟨f2c, gc3, v102, v112, e3, hc, hcnt3, er⟩ := h3'
  subst er
  dsimp only at e3 hc hcnt3 ⊢
  iapply (run_seq (part15_run s3 hnr (chk8_of hnr) v102 v112 (by rw [e3]; exact hcnt3)))
  isplitl [HR]; · iexact HR
  iintro %r %s4 %h4' HR
  obtain ⟨fk, fv, gc4, e4, h15, hcnt4, er⟩ := h4'
  subst er
  dsimp only
  iapply (run_seq (part16_run s4 hnr (chk8_of hnr) v102 (by rw [e4]; exact hcnt4) (by rw [e4]; exact h15)))
  isplitl [HR]; · iexact HR
  iintro %r %s5 %h5' HR
  obtain ⟨f2', f1', gc5, fo, e5, h16, hrest, hsums, hlast⟩ := h5'
  dsimp only
  have b2_4 : s4.b2 = f2c := by rw [e4, e3]
  have b6_4 : s4.b6 = f6 := by rw [e4, e3]; dsimp only; rw [e2]
  have b3_5 : s5.b3 = f3 := by rw [e5, e4, e3]; dsimp only; rw [e2]
  have b1_5 : s5.b1 = f1' := by rw [e5]
  have b2_5 : s5.b2 = f2' := by rw [e5]
  have b6_5 : s5.b6 = f6 := by rw [e5]; exact b6_4
  have ox_5 : s5.oex = fo := by rw [e5]
  rw [b2_4] at h16 hrest
  rw [b6_4] at hsums
  have b1_2 : s2.b1 = f1 := by rw [e2]
  rw [b1_2] at hfill
  have hord := order_of hnr.2 (fun j hj => (h16 j hj).2)
  have hsorted : Sorted (rd T) f ((jL L).val % 2) s5.b1 s5.b2 s5.b6 s5.oex := by
    rw [b1_5, b2_5, b6_5, ox_5]
    exact sorted_of hk1 hfill hc h6 h6e h16 hrest hsums hlast
  rw [← b1_5] at hord
  rw [← b3_5] at h3
  clear e5 e4 e3 e2 h16 hrest hsums hlast h15 hcnt3 hcnt4 hc hfill
  subst hfdef
  -- the first meeting
  iapply (wp_seq (part17_wp (F := F) (d := d) (L := L) fx T s5 g1 g2 O W1 hOlev hlt (fun _ => hsorted) _))
  isplitl [HR Hg1 Hg2 Hv1 Hv2 Hv3 Hv4 HO Htok1 Hat Hcr1 Hk1 Hd1]
  · isplitr; · iexact Hlv
    isplitr; · iexact Hce
    isplitr; · iexact Hbx
    isplitr; · iexact Hm2
    isplitr; · iexact Hm1
    isplitl [HR]; · iexact HR
    isplitl [Hg1]; · iexact Hg1
    isplitl [Hg2]; · iexact Hg2
    isplitl [Hv1 Hv2 Hv3 Hv4]
    · isplitl [Hv1]; · iexact Hv1
      isplitl [Hv2]; · iexact Hv2
      isplitl [Hv3] <;> iassumption
    isplitl [HO]; · iexact HO
    isplitl [Htok1]; · iexact Htok1
    isplitl [Hat]; · iexact Hat
    isplitl [Hcr1]; · iexact Hcr1
    isplitl [Hk1]; · iexact Hk1
    iexact Hd1
  iintro %r ⟨%fpc, %fc, %fe, %hserv, Hcom, Hhole, Hc, ⟨Hv1, Hv2, Hv3⟩, ⟨%W2, %hW2, HO⟩, #Hr1, ⟨%S, Hat, HSt⟩⟩
  -- the merge and the second meeting
  iapply (wp_seq (part18_wp (F := F) (d := d) (L := L) fx T { s5 with pc := fpc } g3 fe O W2 hOlev hpair (chk8_of hnr) (fun _ => hsorted) hserv hord.1 hord.2 h3 v102 S))
  isplitl [Hcom Hhole Hg3 Hv5 Hv6 HO Htok2 Hcr2 Hat HSt Hk2 Hd2]
  · isplitr; · iexact Hlv
    isplitr; · iexact Hce
    isplitr; · iexact Hbx
    isplitr; · iexact Hm1
    isplitr; · iexact Hm0
    isplitl [Hcom]; · iexact Hcom
    isplitl [Hhole]; · iexact Hhole
    isplitl [Hg3]; · iexact Hg3
    isplitl [Hv5 Hv6]
    · isplitl [Hv5] <;> iassumption
    isplitl [HO]; · iexact HO
    isplitl [Htok2]; · iexact Htok2
    isplitl [Hcr2]; · iexact Hcr2
    isplitl [Hat]; · iexact Hat
    isplitl [HSt]; · iexact HSt
    isplitr; · iexact Hr1
    isplitl [Hk2]; · iexact Hk2
    iexact Hd2
  iintro %r ⟨⟨%s6, %hready, HR⟩, Hp, He, ⟨Hv4, Hv5, Hv6⟩, ⟨%W3, %hW3, HO⟩, Hat⟩
  dsimp only
  -- its rounds over, the tile closes its cell
  ihave Hce' := (show cellsOf (F := F) d (cV L) ⊢ iprop(∃ κ : ℕ, cellInv EB (bRd (F := F)) κ (bcell d (cV L) (jV L))) from cell_of (F := F) d (cV L) (L 1)) $$ Hce
  icases Hce' with ⟨%κ, #Hinv⟩
  imod (Rounds.cell_close EB (bRd (F := F)) (g := bcell d (cV L) (jV L)) (Set.mem_univ κ) (fun h => h) (bRd_duties_succ _)) $$ [Hat] with Hbar
  · isplitr
    · iexact Hinv
    · iexact Hat
  -- the mate's half merged
  iapply (run_seq (t28_run s6 ((L 1).val % 2) hh
    (fun j => place (rd T) (pair fx L) ((1 - (jL L).val % 2) * 8192 + sg (hf (pair fx L) (1 - (jL L).val % 2)) j))
    (fun j => (1 - (jL L).val % 2) * 8192 + sg (hf (pair fx L) (1 - (jL L).val % 2)) j)))
  isplitl [HR]; · iexact HR
  iintro %r %s7 %h7 HR
  obtain ⟨f7, e7, h7⟩ := h7
  have b1_7 : s7.b1 = f7 := by rw [e7]
  have rl_7 : s7.rl = s6.rl := by rw [e7]
  -- the rows of the results
  iapply (b1_to_ordr (F := F) (d := d) (L := L) s7 hlt32 (off42_eq L) go _ _)
  isplitl [HR Hgo Hv7 HO]
  · isplitr; · iexact Hm0
    isplitl [HR]; · iexact HR
    isplitl [Hgo]; · iexact Hgo
    isplitl [Hv7] <;> iassumption
  iintro %go' %hgo ⟨HR, Hgo, Hv7, HO⟩
  iapply (rl_to_rev (F := F) (d := d) (L := L) s7 hlt32 (off42_eq L) gr _ _)
  isplitl [HR Hgr Hv8 HO]
  · isplitr; · iexact Hm0
    isplitl [HR]; · iexact HR
    isplitl [Hgr]; · iexact Hgr
    isplitl [Hv8] <;> iassumption
  iintro %gr' %hgr ⟨HR, Hgr, Hv8, HO⟩
  iapply (le_wp_ret _ _ _ _)
  isplitl [Hx HT Hgo Hgr Hc He Hp Hbar]
  · isplitr [Hbar]; swap; · iexact Hbar
    isplitl [Hx]; · iexact Hx
    isplitl [HT]; · iexact HT
    isplitl [Hgo Hgr]
    · iexists go'; iexists gr'
      isplitr
      · ipureintro
        intro hG
        obtain ⟨s', hat, hr, h1', hpk⟩ := hready hG
        exact ⟨f7, s6.rl, wrote_of hh s' hat hr h1' hpk h7, fun p hp => b1_7 ▸ hgo p hp, fun p hp => rl_7 ▸ hgr p hp⟩
      isplitl [Hgo] <;> iassumption
    isplitl [Hc]; · iexists fc; iexact Hc
    isplitl [He]; · iexists fe; iexact He
    icases Hp with ⟨%fp, Hp⟩
    iexists fp; iexact Hp
  isplitl [HR HB]
  · iapply (bufs_of_res (F := F) (d := d) (L := L) s7)
    isplitl [HR] <;> iassumption
  isplitl [Hv0 Hv1 Hv2 Hv3 Hv4 Hv5 Hv6 Hv7 Hv8 Hv14 HS]
  · isplitr [HS]; swap; · iexact HS
    isplitl [Hv0]; · iexact Hv0
    isplitl [Hv1]; · iexact Hv1
    isplitl [Hv2]; · iexact Hv2
    isplitl [Hv3]; · iexact Hv3
    isplitl [Hv4]; · iexact Hv4
    isplitl [Hv5]; · iexact Hv5
    isplitl [Hv6]; · iexact Hv6
    isplitl [Hv7]; · iexact Hv7
    isplitl [Hv8]; · iexact Hv8
    iexact Hv14
  iexists _; isplitr
  swap; · iexact HO
  ipureintro; intro p hp
  rcases Finset.mem_insert.mp hp with hp | hp; · exact .inr (.inl (hp ▸ rfl))
  rcases Finset.mem_insert.mp hp with hp | hp; · exact .inr (.inl (hp ▸ rfl))
  rcases hW3 p hp with hp | hp; swap; · exact .inr hp
  rcases hW2 p hp with hp | hp; swap; · exact .inr hp
  rcases hW1 p hp with hp | hp; swap; · exact .inr (.inl hp)
  rcases Finset.mem_insert.mp hp with hp | hp; · exact .inr (.inl (hp ▸ rfl))
  exact .inl hp
end

end Cert.Proof.Tile
-- ==== Proof.Deal.lean ====
/-
  What the one call carries: every tile its half-row, its share of the table, its rows of the results and of its
  SparseCore's shared scratch; and how those split off the whole arrays and come together again.
-/
module

public import proofs.«01_k».proof.Defs
public import proofs.«01_k».proof.Proof.Lanes
public import proofs.«01_k».proof.Proof.Gen.KernelIdeal
public import proofs.«01_k».proof.Proof.Gen.KernelIdeal.Skeleton
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Tile
public import proofs.«01_k».proof.Proof.Body

@[expose] public section

noncomputable section

namespace Cert.Proof.Tile

open Cert.KernelIdeal Cert.KernelIdeal.Gen
open Cert.Proof.Lanes

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable {d : Dev nD} {L : grid0.Coords} {α β : Type} {s : St} {Q : α → St → Prop}

attribute [local instance] stages

/-! ## Rows of an array -/

theorem rowS_disjoint (n w : ℕ) : ∀ i ∈ (Finset.univ : Finset (Fin n)), ∀ j ∈ (Finset.univ : Finset (Fin n)), i ≠ j → Disjoint (rowS n w i.val) (rowS n w j.val) :=
  fun i _ j _ h => Finset.disjoint_left.mpr fun x hx hy => h (Fin.ext (((Finset.mem_filter.mp hx).2).symm.trans (Finset.mem_filter.mp hy).2))

theorem rowS_cover (n w : ℕ) : (Finset.univ : Finset (Fin n)).biUnion (fun i => rowS n w i.val) = Finset.univ :=
  Finset.eq_univ_iff_forall.mpr fun x => Finset.mem_biUnion.mpr ⟨x 0, Finset.mem_univ _, Finset.mem_filter.mpr ⟨Finset.mem_univ _, rfl⟩⟩

section
variable {I : Type} [Fintype I] [DecidableEq I] {ℓ : Loc nD τ sig} {R : I → Finset (Idx ℓ)}

theorem rows_eq (hd : ∀ i ∈ (Finset.univ : Finset I), ∀ j ∈ (Finset.univ : Finset I), i ≠ j → Disjoint (R i) (R j)) (hc : (Finset.univ : Finset I).biUnion R = Finset.univ)
    (f : Buf (Elt F) ℓ) : (ℓ ↦{fullShare} f : sProp 𝕄) = bigSep Finset.univ fun i : I => ℓ ↦[R i]{fullShare} f := by
  rw [← pointsTo_biUnion Finset.univ (ℓ := ℓ) R hd, hc]

theorem rows_split (hd : ∀ i ∈ (Finset.univ : Finset I), ∀ j ∈ (Finset.univ : Finset I), i ≠ j → Disjoint (R i) (R j)) (hc : (Finset.univ : Finset I).biUnion R = Finset.univ) :
    iprop(∃ f : Buf (Elt F) ℓ, ℓ ↦{fullShare} f) ⊢ (bigSep Finset.univ (fun i : I => iprop(∃ f : Buf (Elt F) ℓ, ℓ ↦[R i]{fullShare} f)) : sProp 𝕄) := by
  iintro ⟨%f, H⟩
  iapply (SparseCore.ent ((Entails.of_eq (rows_eq (F := F) hd hc f)).trans (SparseCore.ent (bigSep_mono (Φ := fun i => (ℓ ↦[R i]{fullShare} f : sProp 𝕄))
      (Ψ := fun i => iprop(∃ f : Buf (Elt F) ℓ, ℓ ↦[R i]{fullShare} f))
      fun i _ => BI.BIClass.exists_intro (Φ := fun f : Buf (Elt F) ℓ => (ℓ ↦[R i]{fullShare} f : sProp 𝕄)) f))))
  iexact H

theorem rows_join [Nonempty I] (hd : ∀ i ∈ (Finset.univ : Finset I), ∀ j ∈ (Finset.univ : Finset I), i ≠ j → Disjoint (R i) (R j)) (hc : (Finset.univ : Finset I).biUnion R = Finset.univ)
    (C : I → Buf (Elt F) ℓ → Prop) :
    (bigSep Finset.univ (fun i : I => iprop(∃ f : Buf (Elt F) ℓ, ⌜C i f⌝ ∗ ℓ ↦[R i]{fullShare} f)) : sProp 𝕄)
      ⊢ iprop(∃ f : Buf (Elt F) ℓ, ⌜∀ i, ∃ g, C i g ∧ ∀ x ∈ R i, f x = g x⌝ ∗ ℓ ↦{fullShare} f) := by
  refine (bigSep_exists_pi Finset.univ (fun i (f : Buf (Elt F) ℓ) => iprop(⌜C i f⌝ ∗ ℓ ↦[R i]{fullShare} f))).trans ?_
  iintro ⟨%fs, H⟩
  ihave H' := (SparseCore.ent (BI.bigSep_pure_sep Finset.univ (fun i : I => C i (fs i)) (fun i => (ℓ ↦[R i]{fullShare} fs i : sProp 𝕄)))) $$ H
  icases H' with ⟨%hp, H⟩
  ihave H' := (pointsTo_biUnion_join Finset.univ R fs (fs (Classical.arbitrary I)) hd) $$ H
  icases H' with ⟨%g, %hg, Hg⟩
  rw [hc]
  iexists g
  isplitr
  · ipureintro; exact fun i => ⟨fs i, hp i (Finset.mem_univ i), hg i (Finset.mem_univ i)⟩
  iexact Hg
end

/-! ## What the call carries -/

theorem nCore_zero : (K (F := F)).nCore 0 = 2 := rfl
theorem nSC_eq : τ.nSC = 2 := rfl

/-- The coordinates of a tile. -/
def coordsV (c : Fin (grid0.bound 0)) (s : Fin (grid0.bound 1)) : grid0.Coords :=
  fun | 0 => c | 1 => s | ⟨_ + 2, h⟩ => absurd h (Nat.not_lt.2 (Nat.le_add_left _ _))

/-- The table is shared out in thirty-two parts. -/
def part (c : Fin 2) (i : Fin 16) : PosShare TreeShare := pieceOf fullShare 32 (by decide) (finProdFinEquiv (c, i))

abbrev flatL (d : Dev nD) : Loc nD τ sig := (d.tc : Thread nD τ).loc main_v0
abbrev tabL (d : Dev nD) : Loc nD τ sig := (d.tc : Thread nD τ).loc main_arg1
abbrev ordL (d : Dev nD) : Loc nD τ sig := (d.tc : Thread nD τ).loc main_v1_0
abbrev revL (d : Dev nD) : Loc nD τ sig := (d.tc : Thread nD τ).loc main_v1_1

section
variable (X : Dev nD → (Sh2 32 8192).Idx → BitVec 32) (T : Dev nD → (Sh 2097152).Idx → BitVec 32)

/-- What a tile's rows of the results say, if the table is good. -/
def OrdOk (d : Dev nD) (c : Fin 2) (i : Fin 16) (go : (Sh2 32 8192).Idx → BitVec 32) : Prop :=
  Good (rd (T d)) → ∀ g < 16384, place (rd (T d)) (rowOf (X d) (8 * c.val + i.val / 2)) g / 8192 = i.val % 2 →
    rd2 go (16 * c.val + i.val) (place (rd (T d)) (rowOf (X d) (8 * c.val + i.val / 2)) g % 8192) = BitVec.ofNat 32 g
def RevOk (d : Dev nD) (c : Fin 2) (i : Fin 16) (gr : (Sh2 32 8192).Idx → BitVec 32) : Prop :=
  Good (rd (T d)) → ∀ p < 8192, rd2 gr (16 * c.val + i.val) p = BitVec.ofNat 32 (place (rd (T d)) (rowOf (X d) (8 * c.val + i.val / 2)) (i.val % 2 * 8192 + p))

theorem ok_of_done {d : Dev nD} {c : Fin 2} {i : Fin 16} {go gr : (Sh2 32 8192).Idx → BitVec 32} (h : Done (X d) (T d) (coordsV c i) go gr) :
    OrdOk X T d c i go ∧ RevOk X T d c i gr :=
  ⟨fun hg g hlt hp => by
    obtain ⟨o, r, hw, ho, -⟩ := h hg
    exact (ho _ (Nat.mod_lt _ (by decide))).trans (hw.ord g hlt hp),
  fun hg p hlt => by
    obtain ⟨o, r, hw, -, hr⟩ := h hg
    exact (hr p hlt).trans (hw.rev p hlt)⟩

/-- A tile's rows of a SparseCore's shared scratch. -/
abbrev shr (d : Dev nD) (c : Fin τ.nSC) (x : Fin 16) : sProp 𝕄 :=
  iprop((∃ g : (Sh2 16 8192).Idx → BitVec 32, codesL d c ↦[rowS 16 8192 x.val]{fullShare} g)
    ∗ (∃ g : (Sh2 16 8208).Idx → BitVec 32, sumsL d c ↦[rowS 16 8208 x.val]{fullShare} g)
    ∗ (∃ g : (Sh2 16 8192).Idx → BitVec 32, packsL d c ↦[rowS 16 8192 x.val]{fullShare} g))

/-- What a tile reads. -/
abbrev reads (d : Dev nD) (c : Fin 2) (i : Fin 16) (R : sProp 𝕄) : sProp 𝕄 :=
  iprop((flatL d ↦[rowS 32 8192 (16 * c.val + i.val)]{fullShare} X d) ∗ (tabL d ↦{part c i} T d) ∗ R)

/-- A SparseCore's part of the call's operands, and of its results. -/
abbrev operands (d : Dev nD) (c : Fin 2) : sProp 𝕄 :=
  bigSep Finset.univ fun i : Fin 16 => reads (F := F) X T d c i
    iprop((∃ g : (Sh2 32 8192).Idx → BitVec 32, ordL d ↦[rowS 32 8192 (16 * c.val + i.val)]{fullShare} g)
      ∗ (∃ g : (Sh2 32 8192).Idx → BitVec 32, revL d ↦[rowS 32 8192 (16 * c.val + i.val)]{fullShare} g))
abbrev results (d : Dev nD) (c : Fin 2) : sProp 𝕄 :=
  bigSep Finset.univ fun i : Fin 16 => reads (F := F) X T d c i
    iprop((∃ g : (Sh2 32 8192).Idx → BitVec 32, ⌜OrdOk X T d c i g⌝ ∗ ordL d ↦[rowS 32 8192 (16 * c.val + i.val)]{fullShare} g)
      ∗ (∃ g : (Sh2 32 8192).Idx → BitVec 32, ⌜RevOk X T d c i g⌝ ∗ revL d ↦[rowS 32 8192 (16 * c.val + i.val)]{fullShare} g))

/-- The barrier semaphores of a SparseCore's tiles, at zero. -/
abbrev bars (d : Dev nD) (c : Fin τ.nSC) : sProp 𝕄 := bigSep Finset.univ fun i : Fin 16 => semVal (bcell d c (Fin.cast nSub_eq.symm i)) 0

abbrev given (d : Dev nD) (c : Fin 2) (i : Fin 16) : sProp 𝕄 :=
  reads (F := F) X T d c i
    iprop((∃ g : (Sh2 32 8192).Idx → BitVec 32, ordL d ↦[rowS 32 8192 (16 * c.val + i.val)]{fullShare} g)
      ∗ (∃ g : (Sh2 32 8192).Idx → BitVec 32, revL d ↦[rowS 32 8192 (16 * c.val + i.val)]{fullShare} g)
      ∗ shr (F := F) d (Fin.cast nSC_eq.symm c) i)
abbrev back (d : Dev nD) (c : Fin 2) (i : Fin 16) : sProp 𝕄 :=
  reads (F := F) X T d c i
    iprop((∃ go gr : (Sh2 32 8192).Idx → BitVec 32, ⌜Done (X d) (T d) (coordsV c i) go gr⌝
        ∗ (ordL d ↦[rowS 32 8192 (16 * c.val + i.val)]{fullShare} go) ∗ (revL d ↦[rowS 32 8192 (16 * c.val + i.val)]{fullShare} gr))
      ∗ shr (F := F) d (Fin.cast nSC_eq.symm c) (mate i))

def P : (K (F := F)).Pay (N := 2) (nD := nD) (Val := Elt F) (Name := ℕ) (U := UU) where
  st := fun q d c => match q with | 0 => operands (F := F) X T d (Fin.cast nCore_zero c)
  dn := fun q d c => match q with | 0 => iprop(results (F := F) X T d (Fin.cast nCore_zero c) ∗ bars (F := F) d ((K (F := F)).core 0 c))
  go := fun q d c i => match q with | 0 => given (F := F) X T d (Fin.cast nCore_zero c) (Fin.cast nSub_zero i)
  td := fun q d c i => match q with
    | 0 => iprop(back (F := F) X T d (Fin.cast nCore_zero c) (Fin.cast nSub_zero i) ∗ semVal (bcell d ((K (F := F)).core 0 c) ((K (F := F)).sub 0 i)) 0)
  x := fun _ th => match th with
    | (d, .scVector c i) => bkit (F := F) (X d) (T d) d c i
    | _ => iprop(emp)
  ox := fun _ th => match th with
    | (d, .scVector c _) => oxV d c
    | _ => 0
  ox_band := by
    intro q th g ι h
    obtain rfl : q = 0 := Subsingleton.elim _ _
    rcases th with ⟨d, _ | c | ⟨c, i⟩⟩
    · exact absurd h (lt_irrefl 0)
    · exact absurd h (lt_irrefl 0)
    · have h' : 0 < units d c 0 g ι + units d c 1 g ι := h
      rcases Nat.eq_zero_or_pos (units d c 0 g ι) with h0 | h0
      · obtain ⟨⟨j, rfl⟩, rfl⟩ := units_pos (d := d) (c := c) (st := 1) (g := g) (ι := ι) (by omega)
        rw [lev_bcell]; exact ⟨by decide, by decide⟩
      · obtain ⟨⟨j, rfl⟩, rfl⟩ := units_pos h0
        rw [lev_bcell]; exact ⟨by decide, by decide⟩
  ox_tc := fun _ _ => rfl
  ox_sc := fun _ _ _ h => absurd rfl h
  ox_vc := by
    intro q d c i _
    obtain rfl : q = 0 := Subsingleton.elim _ _
    exact ⟨rfl, c.isLt, i.isLt⟩

instance P_storable : (P (F := F) X T).IsStorable where
  st q d c := match q with
    | 0 => (inferInstance : BI.Storable (upEmb : UEmb _ 𝕄) (operands (F := F) X T d (Fin.cast nCore_zero c)))
  dn q d c := match q with
    | 0 => (inferInstance : BI.Storable (upEmb : UEmb _ 𝕄) iprop(results (F := F) X T d (Fin.cast nCore_zero c) ∗ bars (F := F) d ((K (F := F)).core 0 c)))
  go q d c i := match q with
    | 0 => (inferInstance : BI.Storable (upEmb : UEmb _ 𝕄) (given (F := F) X T d (Fin.cast nCore_zero c) (Fin.cast nSub_zero i)))
  td q d c i := match q with
    | 0 => (inferInstance : BI.Storable (upEmb : UEmb _ 𝕄)
      iprop(back (F := F) X T d (Fin.cast nCore_zero c) (Fin.cast nSub_zero i) ∗ semVal (bcell d ((K (F := F)).core 0 c) ((K (F := F)).sub 0 i)) 0))

/-! ## The tiles' obligation -/

theorem defs₀_vector (c : Fin τ.nSC) (s : Fin τ.nSub) :
    defs₀ (F := F) (.scVector c s) 0 ()
      = SparseCore.onTile hcore0 hsub0 (fun c s => cc0__sc_sort_body (coordsV c s) (Memref.whole main_v0_scv) (Memref.isWhole_whole _) (Memref.whole main_arg1_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scoped0 cc0_scoped1 cc0_scoped2 cc0_scoped3 cc0_scoped4 cc0_scoped5 cc0_scoped6 cc0_scoped7 cc0_scoped8) ⟨⟩ c s := rfl

set_option maxRecDepth 16384 in
theorem tileObl (hF : (K (F := F)).Facts) (hX : ∀ d, ∀ r < 32, ∀ j < 8192, (rd2 (X d) r j).toNat < 2097152) : (K (F := F)).TileObl (D (F := F)) 𝒱 (P (F := F) X T) v₀ 0 := by
  intro d c i O W hO hOlev _
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body (F := F) (d := d) (L := coordsV ⟨_, hci.1⟩ ⟨_, hci.2⟩) (X d) (T d) hF (part ⟨_, hci.1⟩ ⟨_, hci.2⟩) O W hO
    (fun g ι h => lt_of_lt_of_le (by decide) (hOlev g ι h)) (hX d)

/-! ## The shared scratch, split and joined -/

/-- The shared buffers. -/
def shs : Fin 3 → Ref sig .scVector := ![cc0_scratch11, cc0_scratch12, cc0_scratch13]
theorem shs_inj : Function.Injective shs := by decide

/-- A sequencer's buffers beside the shared scratch. -/
def restSh (d : Dev nD) (c : Fin τ.nSC) : sProp 𝕄 :=
  bigSep (ownRefs (τ := τ) (sig := sig) (.scScalar c) \ Finset.univ.image fun k => (Proc.scVector (τ := τ) c ⟨0, by decide⟩).devRef (shs k)) fun b =>
    iprop(∃ f : Buf (Elt F) ((d, b) : Loc nD τ sig), ((d, b) : Loc nD τ sig) ↦{fullShare} f)

theorem ownBufs_S (d : Dev nD) (c : Fin τ.nSC) : (ownBufs (S d c) : sProp 𝕄)
    = iprop(((∃ f, codesL d c ↦{fullShare} f) ∗ (∃ f, sumsL d c ↦{fullShare} f) ∗ (∃ f, packsL d c ↦{fullShare} f)) ∗ restSh (F := F) d c) := by
  unfold SparseCore.Cfg.ownBufs restSh
  rw [bigSep_named (J := Fin 3) (f := fun k => (Proc.scVector (τ := τ) c ⟨0, by decide⟩).devRef (shs k))
    (fun a b h => shs_inj (Proc.devRef_injective _ h))
    (fun k => (mem_ownRefs (p := Proc.scScalar c)).mpr (match k with | 0 => rfl | 1 => rfl | 2 => rfl))]
  exact congrArg (fun P : sProp 𝕄 => iprop(P ∗ _)) (BI.bigSep_univ_eq_bigSepL [0, 1, 2] (by decide) (by decide) _)

theorem join_plain {I : Type} [Fintype I] [DecidableEq I] [Nonempty I] {ℓ : Loc nD τ sig} {R : I → Finset (Idx ℓ)}
    (hd : ∀ i ∈ (Finset.univ : Finset I), ∀ j ∈ (Finset.univ : Finset I), i ≠ j → Disjoint (R i) (R j)) (hc : (Finset.univ : Finset I).biUnion R = Finset.univ) :
    (bigSep Finset.univ (fun i : I => iprop(∃ f : Buf (Elt F) ℓ, ℓ ↦[R i]{fullShare} f)) : sProp 𝕄) ⊢ iprop(∃ f : Buf (Elt F) ℓ, ℓ ↦{fullShare} f) := by
  iintro H
  ihave H' := (SparseCore.ent ((SparseCore.ent (bigSep_mono (Φ := fun i : I => iprop(∃ f : Buf (Elt F) ℓ, ℓ ↦[R i]{fullShare} f))
      (Ψ := fun i : I => iprop(∃ f : Buf (Elt F) ℓ, ⌜True⌝ ∗ ℓ ↦[R i]{fullShare} f)) fun i _ => by
        show BIBase.Entails (PROP := sProp 𝕄) _ _
        iintro ⟨%f, H⟩
        iexists f
        isplitr; · ipureintro; trivial
        iexact H)).trans (rows_join (F := F) hd hc fun _ _ => True))) $$ H
  icases H' with ⟨%f, -, H⟩
  iexists f; iexact H

/-- The shared scratch is every tile's rows of it. -/
theorem shr_split (d : Dev nD) (c : Fin τ.nSC) :
    iprop((∃ f, codesL d c ↦{fullShare} f) ∗ (∃ f, sumsL d c ↦{fullShare} f) ∗ (∃ f, packsL d c ↦{fullShare} f)) ⊢ (bigSep Finset.univ (fun i : Fin 16 => shr (F := F) d c i) : sProp 𝕄) := by
  unfold shr
  rw [bigSep_sep', bigSep_sep']
  iintro ⟨H1, H2, H3⟩
  isplitl [H1]; · iapply (rows_split (F := F) (ℓ := codesL d c) (R := fun i : Fin 16 => rowS 16 8192 i.val) (rowS_disjoint 16 8192) (rowS_cover 16 8192)); iexact H1
  isplitl [H2]; · iapply (rows_split (F := F) (ℓ := sumsL d c) (R := fun i : Fin 16 => rowS 16 8208 i.val) (rowS_disjoint 16 8208) (rowS_cover 16 8208)); iexact H2
  iapply (rows_split (F := F) (ℓ := packsL d c) (R := fun i : Fin 16 => rowS 16 8192 i.val) (rowS_disjoint 16 8192) (rowS_cover 16 8192)); iexact H3

/-- Each tile's rows come back from its mate. -/
theorem shr_join (d : Dev nD) (c : Fin τ.nSC) :
    (bigSep Finset.univ (fun i : Fin 16 => shr (F := F) d c (mate i)) : sProp 𝕄) ⊢ iprop((∃ f, codesL d c ↦{fullShare} f) ∗ (∃ f, sumsL d c ↦{fullShare} f) ∗ (∃ f, packsL d c ↦{fullShare} f)) := by
  show (bigSep Finset.univ fun i : Fin 16 => shr (F := F) d c (mateEquiv i)) ⊢ _
  rw [← bigSep_univ_equiv mateEquiv (fun i : Fin 16 => shr (F := F) d c i)]
  unfold shr
  rw [bigSep_sep', bigSep_sep']
  iintro ⟨H1, H2, H3⟩
  isplitl [H1]; · iapply (join_plain (F := F) (ℓ := codesL d c) (R := fun i : Fin 16 => rowS 16 8192 i.val) (rowS_disjoint 16 8192) (rowS_cover 16 8192)); iexact H1
  isplitl [H2]; · iapply (join_plain (F := F) (ℓ := sumsL d c) (R := fun i : Fin 16 => rowS 16 8208 i.val) (rowS_disjoint 16 8208) (rowS_cover 16 8208)); iexact H2
  iapply (join_plain (F := F) (ℓ := packsL d c) (R := fun i : Fin 16 => rowS 16 8192 i.val) (rowS_disjoint 16 8192) (rowS_cover 16 8192)); iexact H3

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem give (d : Dev nD) (c : Fin 2) :
    iprop(operands (F := F) X T d c ∗ bigSep Finset.univ fun i : Fin 16 => shr (F := F) d (Fin.cast nSC_eq.symm c) i)
      ⊢ (bigSep Finset.univ fun i : Fin 16 => given (F := F) X T d c i : sProp 𝕄) := by
  unfold operands
  rw [← bigSep_sep']
  refine bigSep_mono fun i _ => ?_
  show BIBase.Entails (PROP := sProp 𝕄) _ _
  iintro ⟨⟨H1, H2, H3, H4⟩, H5⟩
  isplitl [H1]; · iexact H1
  isplitl [H2]; · iexact H2
  isplitl [H3]; · iexact H3
  isplitl [H4]; · iexact H4
  iexact H5

theorem take (d : Dev nD) (c : Fin 2) :
    (bigSep Finset.univ fun i : Fin 16 => back (F := F) X T d c i : sProp 𝕄)
      ⊢ iprop(results (F := F) X T d c ∗ bigSep Finset.univ fun i : Fin 16 => shr (F := F) d (Fin.cast nSC_eq.symm c) (mate i)) := by
  unfold results
  rw [← bigSep_sep']
  refine bigSep_mono fun i _ => ?_
  show BIBase.Entails (PROP := sProp 𝕄) _ _
  iintro ⟨H1, H2, ⟨%go, %gr, %h, H3, H4⟩, H5⟩
  isplitr [H5]; swap; · iexact H5
  isplitl [H1]; · iexact H1
  isplitl [H2]; · iexact H2
  isplitl [H3]
  · iexists go
    isplitr; · ipureintro; exact (ok_of_done X T h).1
    iexact H3
  iexists gr
  isplitr; · ipureintro; exact (ok_of_done X T h).2
  iexact H4

theorem vecSplit : (K (F := F)).VecSplit (P (F := F) X T) 0 := by
  intro d c
  show iprop(operands (F := F) X T d (Fin.cast nCore_zero c) ∗ ownBufs (S d ((K (F := F)).core 0 c))) ⊢ |={Set.univ}=> iprop(
      (bigSep Finset.univ fun i : Fin ((K (F := F)).nSub 0) => given (F := F) X T d (Fin.cast nCore_zero c) (Fin.cast nSub_zero i))
      ∗ ((bigSep Finset.univ fun i : Fin ((K (F := F)).nSub 0) => iprop(back (F := F) X T d (Fin.cast nCore_zero c) (Fin.cast nSub_zero i)
            ∗ semVal (bcell d ((K (F := F)).core 0 c) ((K (F := F)).sub 0 i)) 0))
          -∗ iprop(iprop(results (F := F) X T d (Fin.cast nCore_zero c) ∗ bars (F := F) d ((K (F := F)).core 0 c)) ∗ ownBufs (S d ((K (F := F)).core 0 c)))))
  rw [bigSep_sep' _ (fun i : Fin ((K (F := F)).nSub 0) => back (F := F) X T d (Fin.cast nCore_zero c) (Fin.cast nSub_zero i)),
    bigSep_tasks (F := F) (fun i => given (F := F) X T d (Fin.cast nCore_zero c) i),
    bigSep_tasks (F := F) (fun i => back (F := F) X T d (Fin.cast nCore_zero c) i), ownBufs_S]
  iintro ⟨Hst, Hsh, Hrest⟩; imodintro
  isplitl [Hst Hsh]
  · iapply (give (F := F) X T d (Fin.cast nCore_zero c))
    isplitl [Hst]; · iexact Hst
    iapply (shr_split (F := F) d ((K (F := F)).core 0 c)); iexact Hsh
  iintro ⟨Htd, Hbars⟩
  ihave H := (take (F := F) X T d (Fin.cast nCore_zero c)) $$ Htd
  icases H with ⟨Hres, Hsh⟩
  isplitl [Hres Hbars]
  · isplitl [Hres]; · iexact Hres
    iexact Hbars
  isplitl [Hsh]; · iapply (shr_join (F := F) d ((K (F := F)).core 0 c)); iexact Hsh
  iexact Hrest
end

end Cert.Proof.Tile
-- ==== Proof.Start.lean ====
/-
  What the launch begins with: the barrier cells and the boxes, and every tile's kit out of them.
-/
module

public import proofs.«01_k».proof.Defs
public import proofs.«01_k».proof.Proof.Lanes
public import proofs.«01_k».proof.Proof.Gen.KernelIdeal
public import proofs.«01_k».proof.Proof.Gen.KernelIdeal.Skeleton
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Tile
public import proofs.«01_k».proof.Proof.Deal

@[expose] public section

noncomputable section

namespace Cert.Proof.Tile

open Cert.KernelIdeal Cert.KernelIdeal.Gen
open Cert.Proof.Lanes

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable {d : Dev nD} {L : grid0.Coords} {α β : Type} {s : St} {Q : α → St → Prop}

attribute [local instance] stages

abbrev DCI : Type := Dev nD × Fin τ.nSC × Fin τ.nSub
abbrev cellB (x : DCI) : GSem nD τ sig := bcell x.1 x.2.1 x.2.2
abbrev cellK1 (x : DCI) : GSem nD τ sig := key1 x.1 x.2.1 (Fin.cast nSub_eq x.2.2)
abbrev cellK2 (x : DCI) : GSem nD τ sig := key2 x.1 x.2.1 (Fin.cast nSub_eq x.2.2)

theorem V_inj {d d' : Dev nD} {c c' : Fin τ.nSC} {i i' : Fin τ.nSub} (h : V d c i = V d' c' i') : ((d, c, i) : DCI) = (d', c', i') := by
  obtain ⟨rfl, h2⟩ := Prod.mk.inj h; obtain ⟨rfl, rfl⟩ := Proc.scVector.inj h2; rfl

theorem cellB_inj : Function.Injective cellB := fun a b e => V_inj (Prod.mk.inj e).1
theorem cellK1_inj : Function.Injective cellK1 := fun a b e => V_inj (Prod.mk.inj e).1
theorem cellK2_inj : Function.Injective cellK2 := fun a b e => V_inj (Prod.mk.inj e).1

def cellsB : Finset (GSem nD τ sig) := Finset.univ.image cellB
def cellsK1 : Finset (GSem nD τ sig) := Finset.univ.image cellK1
def cellsK2 : Finset (GSem nD τ sig) := Finset.univ.image cellK2
def cellsAll : Finset (GSem nD τ sig) := cellsB ∪ (cellsK1 ∪ cellsK2)

theorem disj_of {A B : Type} [DecidableEq A] [DecidableEq B] {X Y : Finset A} (f : A → B) (p q : B) (hpq : p ≠ q) (hx : ∀ a ∈ X, f a = p) (hy : ∀ a ∈ Y, f a = q) : Disjoint X Y :=
  Finset.disjoint_left.mpr fun a ha hb => hpq ((hx a ha).symm.trans (hy a hb))

theorem sems_B : ∀ g ∈ cellsB, g.2 = .reg sc_bar0 := fun g h => by obtain ⟨x, -, rfl⟩ := Finset.mem_image.mp h; rfl
theorem sems_K1 : ∀ g ∈ cellsK1, g.2 = .dma cc0_scoped1.sem := fun g h => by obtain ⟨x, -, rfl⟩ := Finset.mem_image.mp h; rfl
theorem sems_K2 : ∀ g ∈ cellsK2, g.2 = .dma cc0_scoped5.sem := fun g h => by obtain ⟨x, -, rfl⟩ := Finset.mem_image.mp h; rfl

/-- A family over all the cells is one over each kind. -/
theorem cellsAll_eq (Φ : GSem nD τ sig → sProp 𝕄) :
    bigSep cellsAll Φ = iprop((bigSep Finset.univ fun x : DCI => Φ (cellB x)) ∗ (bigSep Finset.univ fun x : DCI => Φ (cellK1 x)) ∗ (bigSep Finset.univ fun x : DCI => Φ (cellK2 x))) := by
  have h12 : Disjoint cellsK1 cellsK2 := disj_of (fun g : GSem nD τ sig => g.2) _ _ (by decide) sems_K1 sems_K2
  have h0 : Disjoint cellsB (cellsK1 ∪ cellsK2) := Finset.disjoint_union_right.mpr
    ⟨disj_of (fun g : GSem nD τ sig => g.2) _ _ (by decide) sems_B sems_K1, disj_of (fun g : GSem nD τ sig => g.2) _ _ (by decide) sems_B sems_K2⟩
  unfold cellsAll
  rw [SparseCore.bigSep_union' h0, SparseCore.bigSep_union' h12]
  unfold cellsB cellsK1 cellsK2
  rw [SparseCore.bigSep_image_of_injOn (fun a _ b _ e => cellB_inj e), SparseCore.bigSep_image_of_injOn (fun a _ b _ e => cellK1_inj e),
    SparseCore.bigSep_image_of_injOn (fun a _ b _ e => cellK2_inj e)]

/-! ## The tokens -/

abbrev tokB (x : DCI × Fin 2 × Fin (grid0.bound 1)) : GSem nD τ sig × ℕ × ℕ := (bcell x.1.1 x.1.2.1 (x.2.2.castLE hsub0), 0, 16 * x.2.1.val + x.1.2.2.val)
def toksB : Finset (GSem nD τ sig × ℕ × ℕ) := Finset.univ.image tokB
def toksK1 : Finset (GSem nD τ sig × ℕ × ℕ) := Finset.univ.image fun x : DCI => (cellK1 x, 0, 0)
def toksK2 : Finset (GSem nD τ sig × ℕ × ℕ) := Finset.univ.image fun x : DCI => (cellK2 x, 0, 0)
def toksAll : Finset (GSem nD τ sig × ℕ × ℕ) := toksB ∪ (toksK1 ∪ toksK2)

theorem tokB_inj : Function.Injective tokB := by
  rintro ⟨⟨d, c, i⟩, h, j⟩ ⟨⟨d', c', i'⟩, h', j'⟩ e
  have e1 := V_inj (Prod.mk.inj (Prod.mk.inj e).1).1
  have e2 : 16 * h.val + i.val = 16 * h'.val + i'.val := (Prod.mk.inj (Prod.mk.inj e).2).2
  have hi : i.val < 16 := i.isLt
  have hi' : i'.val < 16 := i'.isLt
  obtain ⟨rfl, e3⟩ := Prod.mk.inj e1
  obtain ⟨rfl, e4⟩ := Prod.mk.inj e3
  obtain rfl : j = j' := Fin.ext (congrArg (fun x : Fin τ.nSub => x.val) e4)
  obtain rfl : h = h' := Fin.ext (by omega)
  obtain rfl : i = i' := Fin.ext (by omega)
  rfl

theorem toksAll_eq (Φ : GSem nD τ sig × ℕ × ℕ → sProp 𝕄) :
    bigSep toksAll Φ = iprop((bigSep Finset.univ fun x : DCI × Fin 2 × Fin (grid0.bound 1) => Φ (tokB x))
      ∗ (bigSep Finset.univ fun x : DCI => Φ (cellK1 x, 0, 0)) ∗ (bigSep Finset.univ fun x : DCI => Φ (cellK2 x, 0, 0))) := by
  have sB : ∀ t ∈ toksB, t.1.2 = .reg sc_bar0 := fun g h => by obtain ⟨x, -, rfl⟩ := Finset.mem_image.mp h; rfl
  have s1 : ∀ t ∈ toksK1, t.1.2 = .dma cc0_scoped1.sem := fun g h => by obtain ⟨x, -, rfl⟩ := Finset.mem_image.mp h; rfl
  have s2 : ∀ t ∈ toksK2, t.1.2 = .dma cc0_scoped5.sem := fun g h => by obtain ⟨x, -, rfl⟩ := Finset.mem_image.mp h; rfl
  have h12 : Disjoint toksK1 toksK2 := disj_of (fun t : GSem nD τ sig × ℕ × ℕ => t.1.2) _ _ (by decide) s1 s2
  have h0 : Disjoint toksB (toksK1 ∪ toksK2) := Finset.disjoint_union_right.mpr
    ⟨disj_of (fun t : GSem nD τ sig × ℕ × ℕ => t.1.2) _ _ (by decide) sB s1, disj_of (fun t : GSem nD τ sig × ℕ × ℕ => t.1.2) _ _ (by decide) sB s2⟩
  unfold toksAll
  rw [SparseCore.bigSep_union' h0, SparseCore.bigSep_union' h12]
  unfold toksB toksK1 toksK2
  rw [SparseCore.bigSep_image_of_injOn (fun a _ b _ e => tokB_inj e), SparseCore.bigSep_image_of_injOn (fun a _ b _ e => cellK1_inj (Prod.mk.inj e).1),
    SparseCore.bigSep_image_of_injOn (fun a _ b _ e => cellK2_inj (Prod.mk.inj e).1)]

/-- A tile's tokens for both meetings. -/
theorem toksB_deal : (bigSep Finset.univ fun x : DCI × Fin 2 × Fin (grid0.bound 1) => (dutyTok EB (tokB x).1 (tokB x).2.1 (tokB x).2.2 : sProp 𝕄))
    = bigSep Finset.univ fun x : DCI => iprop((bigSep Finset.univ fun j : Fin (grid0.bound 1) => dutyTok EB (bcell x.1 x.2.1 (j.castLE hsub0)) 0 x.2.2.val)
      ∗ (bigSep Finset.univ fun j : Fin (grid0.bound 1) => dutyTok EB (bcell x.1 x.2.1 (j.castLE hsub0)) 0 (16 + x.2.2.val))) := by
  rw [bigSep_univ_prod]
  refine bigSep_congr fun x _ => ?_
  rw [bigSep_univ_prod, BI.bigSep_fin_two]
  unfold tokB
  simp only [Fin.val_zero, Fin.val_one, Nat.mul_zero, Nat.zero_add, Nat.mul_one]
  rfl

/-- A tile with its mate's number. -/
def mateD : DCI ≃ DCI where
  toFun x := (x.1, x.2.1, Fin.cast nSub_eq.symm (mate (Fin.cast nSub_eq x.2.2)))
  invFun x := (x.1, x.2.1, Fin.cast nSub_eq.symm (mate (Fin.cast nSub_eq x.2.2)))
  left_inv x := by rcases x with ⟨d, c, i⟩; simp [mate_mate]
  right_inv x := by rcases x with ⟨d, c, i⟩; simp [mate_mate]

theorem toksK1_deal : (bigSep Finset.univ fun x : DCI => (dutyTok EB (cellK1 x) 0 0 : sProp 𝕄)) = bigSep Finset.univ fun x : DCI => dutyTok EB (key1 x.1 x.2.1 (mate (Fin.cast nSub_eq x.2.2))) 0 0 :=
  bigSep_univ_equiv mateD (fun x : DCI => (dutyTok EB (cellK1 x) 0 0 : sProp 𝕄))
theorem toksK2_deal : (bigSep Finset.univ fun x : DCI => (dutyTok EB (cellK2 x) 0 0 : sProp 𝕄)) = bigSep Finset.univ fun x : DCI => dutyTok EB (key2 x.1 x.2.1 (mate (Fin.cast nSub_eq x.2.2))) 0 0 :=
  bigSep_univ_equiv mateD (fun x : DCI => (dutyTok EB (cellK2 x) 0 0 : sProp 𝕄))

section
variable (X : Dev nD → (Sh2 32 8192).Idx → BitVec 32) (T : Dev nD → (Sh 2097152).Idx → BitVec 32)

/-! ## The credit -/

theorem sum_one (g : GSem nD τ sig) (ι : HIx 2) (n : ℕ) : ∑ _ : Fin n, tallyAt g ι 1 = (tallyAt g ι n : CellTallies nD τ sig (HIx 2)) := by
  induction n with
  | zero => rw [tallyAt_zero]; rfl
  | succ n ih => rw [Fin.sum_univ_castSucc, ih, tallyAt_add]

/-- Sixteen units to every tile of a SparseCore are sixteen for each of its cells. -/
theorem units_deal (d : Dev nD) (c : Fin τ.nSC) (st : Fin 2) :
    (bigSep Finset.univ fun _ : Fin τ.nSub => (cred (units d c st) : sProp 𝕄)) ⊢ bigSep Finset.univ fun i : Fin τ.nSub => cred (tallyAt (bcell d c i) (some st) 16) := by
  unfold units
  rw [SparseCore.Cfg.cred_finsum, bigSep_univ_comm]
  refine bigSep_mono fun j _ => ?_
  rw [← SparseCore.Cfg.cred_finsum]
  rw [show (∑ _ : Fin τ.nSub, tallyAt (bcell d c (Fin.castLE hsub0 j)) (some st) 1 : CellTallies nD τ sig (HIx 2)) = tallyAt (bcell d c j) (some st) 16 from sum_one _ _ 16]
  exact fun _ h => h

theorem creds : ((P (F := F) X T).oxCred : sProp 𝕄)
    ⊢ bigSep Finset.univ fun x : DCI => iprop(cred (tallyAt (cellB x) (some 0) 16) ∗ cred (tallyAt (cellB x) (some 1) 16)) := by
  unfold SparseCore.Cfg.Pay.oxCred
  rw [SparseCore.Cfg.bigSep_threads (fun th : Thread nD τ => (cred ((P (F := F) X T).oxFrom 0 th) : sProp 𝕄))]
  refine sep_elim_right.trans (sep_elim_right.trans ?_)
  rw [bigSep_univ_prod, bigSep_univ_prod (fun x : DCI => iprop(cred (tallyAt (cellB x) (some 0) 16) ∗ cred (tallyAt (cellB x) (some 1) 16)))]
  refine bigSep_mono fun d _ => ?_
  rw [bigSep_univ_prod, bigSep_univ_prod (fun ci : Fin τ.nSC × Fin τ.nSub => iprop(cred (tallyAt (cellB (d, ci)) (some 0) 16) ∗ cred (tallyAt (cellB (d, ci)) (some 1) 16)))]
  refine bigSep_mono fun c _ => ?_
  dsimp only
  have hox : ∀ i, (P (F := F) X T).oxFrom 0 (V d c i) = oxV d c := fun i => by
    rw [show (0 : ℕ) = (0 : Fin 1).val from rfl, (P (F := F) X T).oxFrom_step, (P (F := F) X T).oxFrom_end _ (n := (0 : Fin 1).val + 1) le_rfl, add_zero]; rfl
  simp only [hox]
  unfold oxV
  rw [SparseCore.Cfg.cred_add_eq, bigSep_sep', bigSep_sep']
  exact BIClass.sep_mono (units_deal d c 0) (units_deal d c 1)

/-! ## The cells' semaphores, and the invariants -/

theorem sems : ((K (F := F)).freeOn (· ∈ cellsB) : sProp 𝕄) ⊢ bigSep Finset.univ fun x : DCI => semVal (cellB x) 0 := by
  unfold SparseCore.Cfg.freeOn
  refine sep_elim_right.trans (bigSep_mono fun x _ => ?_)
  exact bigSep_elim (Φ := fun sm : SemLoc sig => (semVal (V x.1 x.2.1 x.2.2, sm) 0 : sProp 𝕄)) (Finset.mem_filter.mpr
      ⟨Finset.mem_erase.mpr ⟨fun h => absurd (SemLoc.reg.inj h) (show (sc_bar0 : Sem sig) ≠ sc_go by decide), Finset.mem_filter.mpr ⟨Finset.mem_univ _, by decide⟩⟩,
        Finset.mem_image_of_mem cellB (Finset.mem_univ x)⟩)

/-- The barrier cells' invariants. -/
theorem invs_B : iprop((bigSep Finset.univ fun x : DCI => (semVal (cellB x) 0 : sProp 𝕄)) ∗ bigSep Finset.univ fun x : DCI => Rounds.initState EB (cellB x))
    ⊢ |={Set.univ}=> iprop(∃ κ : GSem nD τ sig → ℕ, bigSep Finset.univ fun x : DCI => cellInv EB (bRd (F := F)) (κ (cellB x)) (cellB x)) := by
  have eq : ∀ Φ : GSem nD τ sig → sProp 𝕄, bigSep cellsB Φ = bigSep Finset.univ fun x : DCI => Φ (cellB x) := fun Φ => by
    unfold cellsB; exact SparseCore.bigSep_image_of_injOn (fun a _ b _ e => cellB_inj e) Φ
  rw [← eq (fun g => semVal g 0), ← eq (fun g => Rounds.initState EB g)]
  refine (BIClass.sep_mono .rfl (bigSep_mono fun g _ => Rounds.roundState_init EB (bRd (F := F)))).trans ?_
  refine (Rounds.bodies_intro EB (bRd (F := F)) cellsB).trans ((inv_alloc_family cellsB (Rounds.body EB (bRd (F := F))) ∅ (E := Set.univ)).trans ?_)
  iintro H
  imod H with ⟨%κ, -, Hinv⟩
  imodintro; iexists κ
  ihave H := (Entails.of_eq (eq fun g => cellInv EB (bRd (F := F)) (κ g) g)) $$ Hinv
  iexact H

/-- A family of boxes, none filled. -/
theorem invs_K (g : DCI → GSem nD τ sig) (R : DCI → sProp 𝕄) [∀ x, BI.Storable (upEmb : UEmb _ 𝕄) (R x)] :
    (bigSep Finset.univ fun x : DCI => (Rounds.initState EB (g x) : sProp 𝕄)) ⊢ |={Set.univ}=> iprop(∃ κ : DCI → ℕ, bigSep Finset.univ fun x : DCI => inv (κ x) (Box (g x) (R x))) := by
  refine BIBase.Entails.trans (bigSep_mono (Ψ := fun x : DCI => Box (g x) (R x)) fun x _ => ?_) ((inv_alloc_family Finset.univ (fun x : DCI => Box (g x) (R x)) ∅ (E := Set.univ)).trans ?_)
  · show BIBase.Entails (PROP := sProp 𝕄) _ _
    unfold Box Rounds.initState
    iintro ⟨H, -⟩
    ileft; iexact H
  iintro H
  imod H with ⟨%κ, -, Hinv⟩
  imodintro; iexists κ; iexact Hinv

theorem boxes_of (κ1 κ2 : DCI → ℕ) (d : Dev nD) (c : Fin τ.nSC) :
    iprop((bigSep Finset.univ fun x : DCI => inv (κ1 x) (Box (cellK1 x) (Row1 (F := F) (X x.1) (T x.1) x.1 x.2.1 (Fin.cast nSub_eq x.2.2))))
        ∗ (bigSep Finset.univ fun x : DCI => inv (κ2 x) (Box (cellK2 x) (Row2 (F := F) (X x.1) (T x.1) x.1 x.2.1 (Fin.cast nSub_eq x.2.2)))))
      ⊢ (boxes (F := F) (X d) (T d) d c : sProp 𝕄) := by
  unfold boxes
  iintro ⟨#H1, #H2⟩
  isplitr
  · iexists (fun x : Fin 16 => κ1 (d, c, Fin.cast nSub_eq.symm x))
    iapply (SparseCore.ent (bigSep_intro_persistent (S := Finset.univ) (R := bigSep Finset.univ fun x : DCI => inv (κ1 x) (Box (cellK1 x) (Row1 (F := F) (X x.1) (T x.1) x.1 x.2.1 (Fin.cast nSub_eq x.2.2))))
      (Φ := fun x : Fin 16 => inv (κ1 (d, c, Fin.cast nSub_eq.symm x)) (Box (key1 d c x) (Row1 (F := F) (X d) (T d) d c x))) fun x _ =>
        bigSep_elim (Φ := fun x : DCI => inv (κ1 x) (Box (cellK1 x) (Row1 (F := F) (X x.1) (T x.1) x.1 x.2.1 (Fin.cast nSub_eq x.2.2)))) (Finset.mem_univ (d, c, Fin.cast nSub_eq.symm x))))
    iexact H1
  · iexists (fun x : Fin 16 => κ2 (d, c, Fin.cast nSub_eq.symm x))
    iapply (SparseCore.ent (bigSep_intro_persistent (S := Finset.univ) (R := bigSep Finset.univ fun x : DCI => inv (κ2 x) (Box (cellK2 x) (Row2 (F := F) (X x.1) (T x.1) x.1 x.2.1 (Fin.cast nSub_eq x.2.2))))
      (Φ := fun x : Fin 16 => inv (κ2 (d, c, Fin.cast nSub_eq.symm x)) (Box (key2 d c x) (Row2 (F := F) (X d) (T d) d c x))) fun x _ =>
        bigSep_elim (Φ := fun x : DCI => inv (κ2 x) (Box (cellK2 x) (Row2 (F := F) (X x.1) (T x.1) x.1 x.2.1 (Fin.cast nSub_eq x.2.2)))) (Finset.mem_univ (d, c, Fin.cast nSub_eq.symm x))))
    iexact H2

theorem cells_of (κ : GSem nD τ sig → ℕ) (d : Dev nD) (c : Fin τ.nSC) :
    iprop((bigSep Finset.univ fun x : DCI => cellInv EB (bRd (F := F)) (κ (cellB x)) (cellB x)) ∗ (bigSep Finset.univ fun x : DCI => reached EB (cellB x) 0))
      ⊢ (cellsOf (F := F) d c : sProp 𝕄) := by
  unfold cellsOf
  iintro ⟨#H1, #H2⟩
  isplitr
  · iexists κ
    iapply (SparseCore.ent (bigSep_intro_persistent (S := Finset.univ) (R := bigSep Finset.univ fun x : DCI => cellInv EB (bRd (F := F)) (κ (cellB x)) (cellB x))
      (Φ := fun j : Fin (grid0.bound 1) => cellInv EB (bRd (F := F)) (κ (bcell d c (j.castLE hsub0))) (bcell d c (j.castLE hsub0))) fun j _ =>
        bigSep_elim (Φ := fun x : DCI => cellInv EB (bRd (F := F)) (κ (cellB x)) (cellB x)) (Finset.mem_univ (d, c, j.castLE hsub0))))
    iexact H1
  · iapply (SparseCore.ent (bigSep_intro_persistent (S := Finset.univ) (R := bigSep Finset.univ fun x : DCI => (reached EB (cellB x) 0 : sProp 𝕄))
      (Φ := fun j : Fin (grid0.bound 1) => reached EB (bcell d c (j.castLE hsub0)) 0) fun j _ =>
        bigSep_elim (Φ := fun x : DCI => (reached EB (cellB x) 0 : sProp 𝕄)) (Finset.mem_univ (d, c, j.castLE hsub0))))
    iexact H2

/-! ## The kits -/

/-- What each tile is handed of its own. -/
abbrev mine (x : DCI) : sProp 𝕄 :=
  iprop(((bigSep Finset.univ fun j : Fin (grid0.bound 1) => dutyTok EB (bcell x.1 x.2.1 (j.castLE hsub0)) 0 x.2.2.val)
      ∗ (bigSep Finset.univ fun j : Fin (grid0.bound 1) => dutyTok EB (bcell x.1 x.2.1 (j.castLE hsub0)) 0 (16 + x.2.2.val)))
    ∗ atPos EB (cellB x) 0 ∅ 0 ∗ (cred (tallyAt (cellB x) (some 0) 16) ∗ cred (tallyAt (cellB x) (some 1) 16))
    ∗ atPos EB (cellK1 x) 0 ∅ 0 ∗ atPos EB (cellK2 x) 0 ∅ 0
    ∗ dutyTok EB (key1 x.1 x.2.1 (mate (Fin.cast nSub_eq x.2.2))) 0 0 ∗ dutyTok EB (key2 x.1 x.2.1 (mate (Fin.cast nSub_eq x.2.2))) 0 0)

/-- What they are handed alike. -/
abbrev alike : sProp 𝕄 :=
  iprop((∃ κ : GSem nD τ sig → ℕ, bigSep Finset.univ fun x : DCI => cellInv EB (bRd (F := F)) (κ (cellB x)) (cellB x)) ∗ (bigSep Finset.univ fun x : DCI => reached EB (cellB x) 0)
    ∗ (∃ κ : DCI → ℕ, bigSep Finset.univ fun x : DCI => inv (κ x) (Box (cellK1 x) (Row1 (F := F) (X x.1) (T x.1) x.1 x.2.1 (Fin.cast nSub_eq x.2.2))))
    ∗ (∃ κ : DCI → ℕ, bigSep Finset.univ fun x : DCI => inv (κ x) (Box (cellK2 x) (Row2 (F := F) (X x.1) (T x.1) x.1 x.2.1 (Fin.cast nSub_eq x.2.2)))))

theorem kit (x : DCI) : iprop(alike (F := F) X T ∗ mine (F := F) x) ⊢ (bkit (F := F) (X x.1) (T x.1) x.1 x.2.1 x.2.2 : sProp 𝕄) := by
  unfold bkit
  iintro ⟨⟨⟨%κ, #Hc⟩, #Hr, ⟨%κ1, #H1⟩, ⟨%κ2, #H2⟩⟩, ⟨Ht1, Ht2⟩, Hat, ⟨Hc1, Hc2⟩, Hk1, Hk2, Hd1, Hd2⟩
  isplitr
  · iapply (cells_of (F := F) κ x.1 x.2.1)
    isplitr; · iexact Hc
    iexact Hr
  isplitr
  · iapply (boxes_of (F := F) X T κ1 κ2 x.1 x.2.1)
    isplitr; · iexact H1
    iexact H2
  isplitl [Ht1]; · iexact Ht1
  isplitl [Ht2]; · iexact Ht2
  isplitl [Hat]; · iexact Hat
  isplitl [Hc1]; · iexact Hc1
  isplitl [Hc2]; · iexact Hc2
  isplitl [Hk1]; · iexact Hk1
  isplitl [Hk2]; · iexact Hk2
  isplitl [Hd1] <;> iassumption

theorem frame_each {I : Type} [DecidableEq I] {R : sProp 𝕄} [BI.Persistent R] {A : Finset I} {Φ Ψ : I → sProp 𝕄}
    (h : ∀ i ∈ A, iprop(R ∗ Φ i) ⊢ Ψ i) : iprop(R ∗ bigSep A Φ) ⊢ bigSep A Ψ := by
  induction A using Finset.induction_on with
  | empty => rw [bigSep_empty, bigSep_empty]; exact sep_elim_right
  | insert a s ha ih =>
    rw [SparseCore.bigSep_insert' ha, SparseCore.bigSep_insert' ha]
    iintro ⟨#HR, H1, H2⟩
    isplitl [H1]
    · iapply (h a (Finset.mem_insert_self _ _)); isplitr; · iexact HR
      iexact H1
    · iapply (ih fun i hi => h i (Finset.mem_insert_of_mem hi)); isplitr; · iexact HR
      iexact H2

theorem Px_T (d : Dev nD) : (bigSep Finset.univ fun q : Fin 1 => (P (F := F) X T).x q (SparseCore.T d)) = iprop(emp) :=
  bigSep_univ_of_subsingleton (0 : Fin 1)
theorem Px_S (d : Dev nD) (c : Fin τ.nSC) : (bigSep Finset.univ fun q : Fin 1 => (P (F := F) X T).x q (S d c)) = iprop(emp) :=
  bigSep_univ_of_subsingleton (0 : Fin 1)
theorem Px_V (d : Dev nD) (c : Fin τ.nSC) (i : Fin τ.nSub) :
    (bigSep Finset.univ fun q : Fin 1 => (P (F := F) X T).x q (V d c i)) = bkit (F := F) (X d) (T d) d c i :=
  bigSep_univ_of_subsingleton (0 : Fin 1)
theorem all_emp {I : Type} (A : Finset I) : (bigSep A fun _ => iprop(emp)) = (iprop(emp) : sProp 𝕄) := bigSep_emp_const A

theorem kits : iprop(alike (F := F) X T ∗ bigSep Finset.univ fun x : DCI => mine (F := F) x)
    ⊢ (bigSep Finset.univ fun th : Thread nD τ => bigSep Finset.univ fun q : Fin 1 => (P (F := F) X T).x q th : sProp 𝕄) := by
  rw [SparseCore.Cfg.bigSep_threads (fun th : Thread nD τ => bigSep Finset.univ fun q : Fin 1 => (P (F := F) X T).x q th)]
  simp only [Px_T, Px_S, Px_V, all_emp]
  iintro ⟨#Ha, Hm⟩
  isplitr; · iempintro
  isplitr; · iempintro
  iapply (frame_each (F := F) (R := alike (F := F) X T) (Φ := mine (F := F)) fun x _ => kit (F := F) X T x)
  isplitr; · iexact Ha
  iexact Hm

theorem mine_eq : (bigSep Finset.univ fun x : DCI => mine (F := F) x) =
    iprop((bigSep Finset.univ fun x : DCI => iprop((bigSep Finset.univ fun j : Fin (grid0.bound 1) => dutyTok EB (bcell x.1 x.2.1 (j.castLE hsub0)) 0 x.2.2.val)
      ∗ (bigSep Finset.univ fun j : Fin (grid0.bound 1) => dutyTok EB (bcell x.1 x.2.1 (j.castLE hsub0)) 0 (16 + x.2.2.val))))
    ∗ (bigSep Finset.univ fun x : DCI => atPos EB (cellB x) 0 ∅ 0)
    ∗ (bigSep Finset.univ fun x : DCI => iprop(cred (tallyAt (cellB x) (some 0) 16) ∗ cred (tallyAt (cellB x) (some 1) 16)))
    ∗ (bigSep Finset.univ fun x : DCI => atPos EB (cellK1 x) 0 ∅ 0) ∗ (bigSep Finset.univ fun x : DCI => atPos EB (cellK2 x) 0 ∅ 0)
    ∗ (bigSep Finset.univ fun x : DCI => dutyTok EB (key1 x.1 x.2.1 (mate (Fin.cast nSub_eq x.2.2))) 0 0)
    ∗ (bigSep Finset.univ fun x : DCI => dutyTok EB (key2 x.1 x.2.1 (mate (Fin.cast nSub_eq x.2.2))) 0 0)) := by
  unfold mine
  simp only [bigSep_sep']

def u₀ : UU := (initOf (K (F := F)).hsCells (K (F := F)).hsToks, (initOf cellsAll toksAll, 1))

theorem ownU_split (a : UH) (b : UB) : (ownU ((a, (b, 1)) : UU) : sProp 𝕄) ⊢ iprop(BI.own (EH a) ∗ BI.own (EB b)) :=
  BI.own_op_elim ((uEmb (nD := nD) (sig := sig) (Ix := HIx 2) (Val := Elt F) (Name := ℕ) (U := UU) (Lvl := ℕ)).toEmb.op_of_mem
    (Prod.mk_mem_op (URA.mem_op_one a) (URA.mem_one_op (b, (1 : Counters)))))

/-- What the launch's funding gives, by the kinds of cells. -/
abbrev funds : sProp 𝕄 :=
  iprop(((bigSep Finset.univ fun x : DCI => Rounds.initState EB (cellB x)) ∗ (bigSep Finset.univ fun x : DCI => Rounds.initState EB (cellK1 x)) ∗ (bigSep Finset.univ fun x : DCI => Rounds.initState EB (cellK2 x)))
    ∗ ((bigSep Finset.univ fun x : DCI => reached EB (cellB x) 0) ∗ (bigSep Finset.univ fun x : DCI => reached EB (cellK1 x) 0) ∗ (bigSep Finset.univ fun x : DCI => reached EB (cellK2 x) 0))
    ∗ ((bigSep Finset.univ fun x : DCI => atPos EB (cellB x) 0 ∅ 0) ∗ (bigSep Finset.univ fun x : DCI => atPos EB (cellK1 x) 0 ∅ 0) ∗ (bigSep Finset.univ fun x : DCI => atPos EB (cellK2 x) 0 ∅ 0))
    ∗ bigSep toksAll fun t => dutyTok EB t.1 t.2.1 t.2.2)

theorem fund : BI.own (EB (initOf cellsAll toksAll)) ⊢ |==> funds (F := F) :=
  (Rounds.fund_init EB cellsAll toksAll).trans (BI.bupd_mono
    (BIClass.sep_mono (Entails.of_eq (cellsAll_eq (F := F) fun g => Rounds.initState EB g))
      (BIClass.sep_mono (Entails.of_eq (cellsAll_eq (F := F) fun g => reached EB g 0))
        (BIClass.sep_mono (Entails.of_eq (cellsAll_eq (F := F) fun g => atPos EB g 0 ∅ 0)) .rfl))))

theorem alike_of : iprop(((bigSep Finset.univ fun x : DCI => (semVal (cellB x) 0 : sProp 𝕄)) ∗ bigSep Finset.univ fun x : DCI => Rounds.initState EB (cellB x))
      ∗ (bigSep Finset.univ fun x : DCI => reached EB (cellB x) 0)
      ∗ (bigSep Finset.univ fun x : DCI => Rounds.initState EB (cellK1 x)) ∗ (bigSep Finset.univ fun x : DCI => Rounds.initState EB (cellK2 x)))
    ⊢ |={Set.univ}=> alike (F := F) X T := by
  iintro ⟨H0, Hr, H1, H2⟩
  imod (invs_B (F := F)) $$ H0 with H0
  imod (invs_K (F := F) cellK1 (fun x => Row1 (F := F) (X x.1) (T x.1) x.1 x.2.1 (Fin.cast nSub_eq x.2.2))) $$ H1 with H1
  imod (invs_K (F := F) cellK2 (fun x => Row2 (F := F) (X x.1) (T x.1) x.1 x.2.1 (Fin.cast nSub_eq x.2.2))) $$ H2 with H2
  imodintro
  isplitl [H0]; · iexact H0
  isplitl [Hr]; · iexact Hr
  isplitl [H1] <;> iassumption

theorem mine_of : iprop((bigSep toksAll fun t => dutyTok EB t.1 t.2.1 t.2.2)
      ∗ (bigSep Finset.univ fun x : DCI => atPos EB (cellB x) 0 ∅ 0)
      ∗ (bigSep Finset.univ fun x : DCI => iprop(cred (tallyAt (cellB x) (some 0) 16) ∗ cred (tallyAt (cellB x) (some 1) 16)))
      ∗ (bigSep Finset.univ fun x : DCI => atPos EB (cellK1 x) 0 ∅ 0) ∗ (bigSep Finset.univ fun x : DCI => atPos EB (cellK2 x) 0 ∅ 0))
    ⊢ (bigSep Finset.univ fun x : DCI => mine (F := F) x : sProp 𝕄) := by
  iintro ⟨Htok, Ha0, Hc, Ha1, Ha2⟩
  ihave Htok' := (Entails.of_eq (toksAll_eq (F := F) fun t => dutyTok EB t.1 t.2.1 t.2.2)) $$ Htok
  icases Htok' with ⟨Ht0, Ht1, Ht2⟩
  ihave Ht0' := (Entails.of_eq (toksB_deal (F := F))) $$ Ht0
  ihave Ht1' := (Entails.of_eq (toksK1_deal (F := F))) $$ Ht1
  ihave Ht2' := (Entails.of_eq (toksK2_deal (F := F))) $$ Ht2
  iapply (Entails.of_eq (mine_eq (F := F)).symm)
  isplitl [Ht0']; · iexact Ht0'
  isplitl [Ha0]; · iexact Ha0
  isplitl [Hc]; · iexact Hc
  isplitl [Ha1]; · iexact Ha1
  isplitl [Ha2]; · iexact Ha2
  isplitl [Ht1'] <;> iassumption

theorem hu₀ : iprop(ownU (u₀ (F := F)) ∗ (P (F := F) X T).oxCred ∗ (K (F := F)).freeOn (· ∈ cellsB))
    ⊢ |={Set.univ}=> iprop(BI.own (EH (initOf (K (F := F)).hsCells (K (F := F)).hsToks)) ∗ (bigSep Finset.univ fun _ : Dev nD => iprop(emp))
        ∗ (bigSep Finset.univ fun th : Thread nD τ => bigSep Finset.univ fun q : Fin 1 => (P (F := F) X T).x q th) : sProp 𝕄) := by
  unfold u₀
  iintro ⟨Hu, Hcred, Hfree⟩
  ihave H := (ownU_split _ _) $$ Hu
  icases H with ⟨HH, HB⟩
  imod (fund (F := F)) $$ HB with ⟨⟨Hs0, Hs1, Hs2⟩, ⟨Hr0, -, -⟩, ⟨Ha0, Ha1, Ha2⟩, Htok⟩
  ihave Hsems := (sems (F := F)) $$ Hfree
  imod (alike_of (F := F) X T) $$ [Hsems Hs0 Hr0 Hs1 Hs2] with Hal
  · isplitl [Hsems Hs0]
    · isplitl [Hsems] <;> iassumption
    isplitl [Hr0]; · iexact Hr0
    isplitl [Hs1] <;> iassumption
  ihave Hcred' := (creds (F := F) X T) $$ Hcred
  ihave Hm := (mine_of (F := F)) $$ [Htok Ha0 Hcred' Ha1 Ha2]
  · isplitl [Htok]; · iexact Htok
    isplitl [Ha0]; · iexact Ha0
    isplitl [Hcred']; · iexact Hcred'
    isplitl [Ha1] <;> iassumption
  imodintro
  isplitl [HH]; · iexact HH
  isplitr; · rw [all_emp]; iempintro
  iapply (kits (F := F) X T)
  isplitl [Hal] <;> iassumption
end

end Cert.Proof.Tile
-- ==== Proof.Run.lean ====
/-
  The run of the program: the reshape of the positions, the call, and the reshapes of its two results.  The positions'
  rows, the results' rows and the table's parts are dealt to the two SparseCores; what comes back says that the results
  hold the order and the places of every row, if the table is good.
-/
module

public import proofs.«01_k».proof.Defs
public import proofs.«01_k».proof.Proof.Lanes
public import proofs.«01_k».proof.Proof.Gen.KernelIdeal
public import proofs.«01_k».proof.Proof.Gen.KernelIdeal.Skeleton
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Tile
public import proofs.«01_k».proof.Proof.Start

@[expose] public section

noncomputable section

namespace Cert.Proof.Tile

open Cert.KernelIdeal Cert.KernelIdeal.Gen
open Cert.Proof.Lanes

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable {d : Dev nD} {L : grid0.Coords} {α β : Type} {s : St} {Q : α → St → Prop}

attribute [local instance] stages

section
variable (X : Dev nD → (Sh2 32 8192).Idx → BitVec 32) (T : Dev nD → (Sh 2097152).Idx → BitVec 32)

/-! ## Dealing the rows -/

/-- A tile's row. -/
abbrev R2 (x : Fin 2 × Fin 16) : Finset (Sh2 32 8192).Idx := rowS 32 8192 (16 * x.1.val + x.2.val)

theorem R2_disjoint : ∀ i ∈ (Finset.univ : Finset (Fin 2 × Fin 16)), ∀ j ∈ (Finset.univ : Finset (Fin 2 × Fin 16)), i ≠ j → Disjoint (R2 i) (R2 j) :=
  fun i _ j _ h => Finset.disjoint_left.mpr fun x hx hy => h (by
    have e := ((Finset.mem_filter.mp hx).2).symm.trans (Finset.mem_filter.mp hy).2
    have h1 := i.2.isLt; have h2 := j.2.isLt
    exact Prod.ext (Fin.ext (by omega)) (Fin.ext (by omega)))

theorem R2_cover : (Finset.univ : Finset (Fin 2 × Fin 16)).biUnion R2 = Finset.univ :=
  Finset.eq_univ_iff_forall.mpr fun x => by
    have hx : (x 0).val < 32 := (x 0).isLt
    exact Finset.mem_biUnion.mpr ⟨(⟨(x 0).val / 16, by omega⟩, ⟨(x 0).val % 16, by omega⟩), Finset.mem_univ _,
      Finset.mem_filter.mpr ⟨Finset.mem_univ _, show (x 0).val = 16 * ((x 0).val / 16) + (x 0).val % 16 by omega⟩⟩

theorem parts_eq {ℓ : Loc nD τ sig} (f : Buf (Elt F) ℓ) : (ℓ ↦{fullShare} f : sProp 𝕄) = bigSep Finset.univ fun x : Fin 2 × Fin 16 => ℓ ↦{part x.1 x.2} f :=
  (pointsTo_piecesOf (ℓ := ℓ) Finset.univ f (o := 32) (by decide) fullShare).trans
    (bigSep_univ_equiv (finProdFinEquiv : Fin 2 × Fin 16 ≃ Fin 32) (fun j : Fin 32 => (ℓ ↦{pieceOf fullShare 32 (by decide) j} f : sProp 𝕄)))

theorem tab_split (d : Dev nD) : (tabL d ↦{fullShare} T d : sProp 𝕄) = bigSep Finset.univ fun x : Fin 2 × Fin 16 => tabL d ↦{part x.1 x.2} T d :=
  parts_eq (F := F) (ℓ := tabL d) (T d)

theorem deal (d : Dev nD) : iprop((flatL d ↦{fullShare} X d) ∗ (tabL d ↦{fullShare} T d)
      ∗ (∃ g : (Sh2 32 8192).Idx → BitVec 32, ordL d ↦{fullShare} g) ∗ (∃ g : (Sh2 32 8192).Idx → BitVec 32, revL d ↦{fullShare} g))
    ⊢ (bigSep Finset.univ fun c : Fin 2 => operands (F := F) X T d c : sProp 𝕄) := by
  rw [show (bigSep Finset.univ fun c : Fin 2 => operands (F := F) X T d c)
    = bigSep Finset.univ fun x : Fin 2 × Fin 16 => reads (F := F) X T d x.1 x.2
        iprop((∃ g : (Sh2 32 8192).Idx → BitVec 32, ordL d ↦[R2 x]{fullShare} g) ∗ (∃ g : (Sh2 32 8192).Idx → BitVec 32, revL d ↦[R2 x]{fullShare} g))
    from (bigSep_univ_prod (fun x : Fin 2 × Fin 16 => reads (F := F) X T d x.1 x.2
        iprop((∃ g : (Sh2 32 8192).Idx → BitVec 32, ordL d ↦[R2 x]{fullShare} g) ∗ (∃ g : (Sh2 32 8192).Idx → BitVec 32, revL d ↦[R2 x]{fullShare} g)))).symm,
    tab_split]
  unfold reads
  rw [bigSep_sep', bigSep_sep', bigSep_sep']
  exact BIClass.sep_mono (Entails.of_eq (rows_eq (F := F) (ℓ := flatL d) (R := R2) R2_disjoint R2_cover (X d))) (BIClass.sep_mono .rfl
    (BIClass.sep_mono (rows_split (F := F) (ℓ := ordL d) (R := R2) R2_disjoint R2_cover) (rows_split (F := F) (ℓ := revL d) (R := R2) R2_disjoint R2_cover)))

theorem gather (d : Dev nD) : (bigSep Finset.univ fun c : Fin 2 => results (F := F) X T d c : sProp 𝕄)
    ⊢ iprop((flatL d ↦{fullShare} X d) ∗ (tabL d ↦{fullShare} T d)
      ∗ (∃ f : (Sh2 32 8192).Idx → BitVec 32, ⌜∀ x : Fin 2 × Fin 16, ∃ g, OrdOk X T d x.1 x.2 g ∧ ∀ y ∈ R2 x, f y = g y⌝ ∗ ordL d ↦{fullShare} f)
      ∗ (∃ f : (Sh2 32 8192).Idx → BitVec 32, ⌜∀ x : Fin 2 × Fin 16, ∃ g, RevOk X T d x.1 x.2 g ∧ ∀ y ∈ R2 x, f y = g y⌝ ∗ revL d ↦{fullShare} f)) := by
  rw [show (bigSep Finset.univ fun c : Fin 2 => results (F := F) X T d c)
    = bigSep Finset.univ fun x : Fin 2 × Fin 16 => reads (F := F) X T d x.1 x.2
        iprop((∃ g : (Sh2 32 8192).Idx → BitVec 32, ⌜OrdOk X T d x.1 x.2 g⌝ ∗ ordL d ↦[R2 x]{fullShare} g)
          ∗ (∃ g : (Sh2 32 8192).Idx → BitVec 32, ⌜RevOk X T d x.1 x.2 g⌝ ∗ revL d ↦[R2 x]{fullShare} g))
    from (bigSep_univ_prod (fun x : Fin 2 × Fin 16 => reads (F := F) X T d x.1 x.2
        iprop((∃ g : (Sh2 32 8192).Idx → BitVec 32, ⌜OrdOk X T d x.1 x.2 g⌝ ∗ ordL d ↦[R2 x]{fullShare} g)
          ∗ (∃ g : (Sh2 32 8192).Idx → BitVec 32, ⌜RevOk X T d x.1 x.2 g⌝ ∗ revL d ↦[R2 x]{fullShare} g)))).symm,
    tab_split]
  unfold reads
  rw [bigSep_sep', bigSep_sep', bigSep_sep']
  exact BIClass.sep_mono (Entails.of_eq (rows_eq (F := F) (ℓ := flatL d) (R := R2) R2_disjoint R2_cover (X d)).symm) (BIClass.sep_mono .rfl
    (BIClass.sep_mono (rows_join (F := F) (ℓ := ordL d) (R := R2) R2_disjoint R2_cover fun x g => OrdOk X T d x.1 x.2 g)
      (rows_join (F := F) (ℓ := revL d) (R := R2) R2_disjoint R2_cover fun x g => RevOk X T d x.1 x.2 g)))

/-- What the results say of every row. -/
def AllOk (d : Dev nD) (go gr : (Sh2 32 8192).Idx → BitVec 32) : Prop :=
  ∀ (c : Fin 2) (i : Fin 16), OrdOk X T d c i go ∧ RevOk X T d c i gr

theorem rd2_row {f g : (Sh2 32 8192).Idx → BitVec 32} {x : Fin 2 × Fin 16} (h : ∀ y ∈ R2 x, f y = g y) (j : ℕ) (hj : j < 8192) :
    rd2 f (16 * x.1.val + x.2.val) j = rd2 g (16 * x.1.val + x.2.val) j := by
  have h1 := x.1.isLt; have h2 := x.2.isLt
  have hr : 16 * x.1.val + x.2.val < 32 := by omega
  rw [rd2_eq f hr hj, rd2_eq g hr hj]
  exact h _ (Finset.mem_filter.mpr ⟨Finset.mem_univ _, rfl⟩)

theorem allOk_of {d : Dev nD} {go gr : (Sh2 32 8192).Idx → BitVec 32}
    (ho : ∀ x : Fin 2 × Fin 16, ∃ g, OrdOk X T d x.1 x.2 g ∧ ∀ y ∈ R2 x, go y = g y)
    (hr : ∀ x : Fin 2 × Fin 16, ∃ g, RevOk X T d x.1 x.2 g ∧ ∀ y ∈ R2 x, gr y = g y) : AllOk X T d go gr := fun c i => by
  obtain ⟨g, hg, e⟩ := ho (c, i)
  obtain ⟨g', hg', e'⟩ := hr (c, i)
  exact ⟨fun hT a ha hp => (rd2_row e _ (Nat.mod_lt _ (by decide))).trans (hg hT a ha hp), fun hT p hp => (rd2_row e' p hp).trans (hg' hT p hp)⟩
end

/-! ## @main on the TensorCore -/

open Idealize.ShloMosaic.StableHlo (held wp_hlo_within)

abbrev posL (d : Dev nD) : Loc nD τ sig := (d.tc : Thread nD τ).loc main_arg0
abbrev outL (d : Dev nD) : Loc nD τ sig := (d.tc : Thread nD τ).loc main_v2
abbrev invL (d : Dev nD) : Loc nD τ sig := (d.tc : Thread nD τ).loc main_v3
abbrev pos' : DevRef τ sig := Proc.devRef .tc (main_arg0 : Ref sig .tc)
abbrev tab' : DevRef τ sig := Proc.devRef .tc (main_arg1 : Ref sig .tc)
abbrev flat' : DevRef τ sig := Proc.devRef .tc (main_v0 : Ref sig .tc)
abbrev ord' : DevRef τ sig := Proc.devRef .tc (main_v1_0 : Ref sig .tc)
abbrev rev' : DevRef τ sig := Proc.devRef .tc (main_v1_1 : Ref sig .tc)
abbrev out' : DevRef τ sig := Proc.devRef .tc (main_v2 : Ref sig .tc)
abbrev inv' : DevRef τ sig := Proc.devRef .tc (main_v3 : Ref sig .tc)
abbrev opFlat : HloOp τ sig (Elt F) := StableHlo.reshape main_arg0 main_v0 (rfl : (.i32 : EltTy) = .i32) shapeCasts_S16x16384_S32x8192
abbrev opOut : HloOp τ sig (Elt F) := StableHlo.reshape main_v1_0 main_v2 (rfl : (.i32 : EltTy) = .i32) shapeCasts_S32x8192_S2x8x16384
abbrev opInv : HloOp τ sig (Elt F) := StableHlo.reshape main_v1_1 main_v3 (rfl : (.i32 : EltTy) = .i32) shapeCasts_S32x8192_S2x8x16384

/-- The TensorCore's arrays. -/
abbrev S7 : Finset (DevRef τ sig) := {pos', tab', flat', ord', rev', out', inv'}

theorem held_S7 (d : Dev nD) (W : Valuation τ sig (Elt F)) :
    (held (SparseCore.T d) S7 W : sProp 𝕄)
      = iprop((posL d ↦{fullShare} W pos') ∗ (tabL d ↦{fullShare} W tab') ∗ (flatL d ↦{fullShare} W flat') ∗ (ordL d ↦{fullShare} W ord')
          ∗ (revL d ↦{fullShare} W rev') ∗ (outL d ↦{fullShare} W out') ∗ invL d ↦{fullShare} W inv') := by
  unfold held S7
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

theorem unscopedBufs_eq (d : Dev nD) (W : (b : Ref sig .tc) → Buf (Elt F) ((d.tc : Thread nD τ).loc b)) :
    (unscopedBufs d W : sProp 𝕄)
      = iprop((posL d ↦{fullShare} W main_arg0) ∗ (tabL d ↦{fullShare} W main_arg1) ∗ (flatL d ↦{fullShare} W main_v0) ∗ (ordL d ↦{fullShare} W main_v1_0)
          ∗ (revL d ↦{fullShare} W main_v1_1) ∗ (outL d ↦{fullShare} W main_v2) ∗ invL d ↦{fullShare} W main_v3) := by
  unfold unscopedBufs
  rw [show (Finset.univ.filter fun b : Ref sig .tc => ¬ b.isScoped) = {main_arg0, main_arg1, main_v0, main_v1_0, main_v1_1, main_v2, main_v3} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

variable (m : (ℓ : Loc nD τ sig) → Buf (Elt F) ℓ) (ρ : Dev nD → PrngReg)

/-- The positions as 32 half rows, and the table. -/
def Xm (d : Dev nD) : (Sh2 32 8192).Idx → BitVec 32 := shapeCast S32x8192 (m (posL d) : S16x16384.Idx → BitVec 32) shapeCasts_S16x16384_S32x8192
def Tm (d : Dev nD) : (Sh 2097152).Idx → BitVec 32 := m (tabL d)

/-- A result, as it is returned. -/
def asOut (g : (Sh2 32 8192).Idx → BitVec 32) : S2x8x16384.Idx → BitVec 32 := shapeCast S2x8x16384 (g : S32x8192.Idx → BitVec 32) shapeCasts_S32x8192_S2x8x16384

def V0 (d : Dev nD) : Valuation τ sig (Elt F) := fun b => m (d, b)
/-- The arrays after the call. -/
def V2 (d : Dev nD) (go gr : (Sh2 32 8192).Idx → BitVec 32) : Valuation τ sig (Elt F) :=
  Function.update (Function.update ((opFlat (F := F)).result (V0 m d)) ord' go) rev' gr

theorem unscoped_held (d : Dev nD) : (unscopedBufs d (fun b => m ((SparseCore.T d).loc b)) : sProp 𝕄) = held (SparseCore.T d) S7 (V0 m d) := by
  rw [unscopedBufs_eq, held_S7]; rfl

theorem hFlat : (opFlat (F := F)).bufs ⊆ S7 := show ({pos', flat'} : Finset (DevRef τ sig)) ⊆ S7 by decide
theorem hOut : (opOut (F := F)).bufs ⊆ S7 := show ({ord', out'} : Finset (DevRef τ sig)) ⊆ S7 by decide
theorem hInv : (opInv (F := F)).bufs ⊆ S7 := show ({rev', inv'} : Finset (DevRef τ sig)) ⊆ S7 by decide

theorem V1_flat (d : Dev nD) : (opFlat (F := F)).result (V0 m d) flat' = Xm m d := StableHlo.reshape_result _ _ _ _ _ _ _
theorem V1_ne (d : Dev nD) {b : DevRef τ sig} (h : b ∉ ({flat'} : Finset (DevRef τ sig))) : (opFlat (F := F)).result (V0 m d) b = m (d, b) :=
  (opFlat (F := F)).result_of_not_mem _ h

theorem held_V1 (d : Dev nD) : (held (SparseCore.T d) S7 ((opFlat (F := F)).result (V0 m d)) : sProp 𝕄)
      = iprop((posL d ↦{fullShare} m (posL d)) ∗ (tabL d ↦{fullShare} m (tabL d)) ∗ (flatL d ↦{fullShare} Xm m d) ∗ (ordL d ↦{fullShare} m (ordL d))
          ∗ (revL d ↦{fullShare} m (revL d)) ∗ (outL d ↦{fullShare} m (outL d)) ∗ invL d ↦{fullShare} m (invL d)) := by
  rw [held_S7, V1_flat, V1_ne m d (b := pos') (by decide), V1_ne m d (b := tab') (by decide), V1_ne m d (b := ord') (by decide),
    V1_ne m d (b := rev') (by decide), V1_ne m d (b := out') (by decide), V1_ne m d (b := inv') (by decide)]

section
variable (d : Dev nD) (go gr : (Sh2 32 8192).Idx → BitVec 32)

theorem V2_rev : V2 m d go gr rev' = gr := Function.update_self _ _ _
theorem V2_ord : V2 m d go gr ord' = go := (Function.update_of_ne (show ord' ≠ rev' by decide) _ _).trans (Function.update_self _ _ _)
theorem V2_flat : V2 m d go gr flat' = Xm m d :=
  (Function.update_of_ne (show flat' ≠ rev' by decide) _ _).trans ((Function.update_of_ne (show flat' ≠ ord' by decide) _ _).trans (V1_flat m d))
theorem V2_ne {b : DevRef τ sig} (h1 : b ≠ rev') (h2 : b ≠ ord') (h : b ∉ ({flat'} : Finset (DevRef τ sig))) : V2 m d go gr b = m (d, b) :=
  (Function.update_of_ne h1 _ _).trans ((Function.update_of_ne h2 _ _).trans (V1_ne m d h))

theorem held_V2 : (held (SparseCore.T d) S7 (V2 m d go gr) : sProp 𝕄)
      = iprop((posL d ↦{fullShare} m (posL d)) ∗ (tabL d ↦{fullShare} m (tabL d)) ∗ (flatL d ↦{fullShare} Xm m d) ∗ (ordL d ↦{fullShare} go)
          ∗ (revL d ↦{fullShare} gr) ∗ (outL d ↦{fullShare} m (outL d)) ∗ invL d ↦{fullShare} m (invL d)) := by
  rw [held_S7, V2_flat, V2_rev, V2_ord, V2_ne m d go gr (b := pos') (by decide) (by decide) (by decide), V2_ne m d go gr (b := tab') (by decide) (by decide) (by decide),
    V2_ne m d go gr (b := out') (by decide) (by decide) (by decide), V2_ne m d go gr (b := inv') (by decide) (by decide) (by decide)]

abbrev V4 : Valuation τ sig (Elt F) := (opInv (F := F)).result ((opOut (F := F)).result (V2 m d go gr))

theorem V3_ne {b : DevRef τ sig} (h : b ∉ ({out'} : Finset (DevRef τ sig))) : (opOut (F := F)).result (V2 m d go gr) b = V2 m d go gr b :=
  (opOut (F := F)).result_of_not_mem _ h
theorem V4_ne {b : DevRef τ sig} (h : b ∉ ({inv'} : Finset (DevRef τ sig))) : V4 m d go gr b = (opOut (F := F)).result (V2 m d go gr) b :=
  (opInv (F := F)).result_of_not_mem _ h
theorem V4_out : V4 m d go gr out' = asOut go := by
  rw [V4_ne m d go gr (by decide)]
  refine (StableHlo.reshape_result _ _ _ _ _ _ _).trans ?_
  rw [show V2 m d go gr (Proc.devRef .tc (main_v1_0 : Ref sig .tc)) = go from V2_ord m d go gr]
  rfl
theorem V4_inv : V4 m d go gr inv' = asOut gr := by
  refine (StableHlo.reshape_result _ _ _ _ _ _ _).trans ?_
  rw [show (opOut (F := F)).result (V2 m d go gr) (Proc.devRef .tc (main_v1_1 : Ref sig .tc)) = gr from (V3_ne m d go gr (b := rev') (by decide)).trans (V2_rev m d go gr)]
  rfl

theorem held_V4 : (held (SparseCore.T d) S7 (V4 m d go gr) : sProp 𝕄)
      = iprop((posL d ↦{fullShare} m (posL d)) ∗ (tabL d ↦{fullShare} m (tabL d)) ∗ (flatL d ↦{fullShare} V4 m d go gr flat') ∗ (ordL d ↦{fullShare} V4 m d go gr ord')
          ∗ (revL d ↦{fullShare} V4 m d go gr rev') ∗ (outL d ↦{fullShare} asOut go) ∗ invL d ↦{fullShare} asOut gr) := by
  rw [held_S7, V4_out, V4_inv, V4_ne m d go gr (b := pos') (by decide), V4_ne m d go gr (b := tab') (by decide), V3_ne m d go gr (b := pos') (by decide),
    V3_ne m d go gr (b := tab') (by decide), V2_ne m d go gr (b := pos') (by decide) (by decide) (by decide), V2_ne m d go gr (b := tab') (by decide) (by decide) (by decide)]
end

abbrev Pm : (K (F := F)).Pay (N := 2) (nD := nD) (Val := Elt F) (Name := ℕ) (U := UU) := P (F := F) (Xm m) (Tm m)

theorem st0 (d : Dev nD) : (bigSep Finset.univ fun c : Fin ((K (F := F)).nCore 0) => (Pm m).st 0 d c) = bigSep Finset.univ fun c : Fin 2 => operands (F := F) (Xm m) (Tm m) d c := rfl
theorem dn0 (d : Dev nD) : (bigSep Finset.univ fun c : Fin ((K (F := F)).nCore 0) => (Pm m).dn 0 d c)
    = iprop((bigSep Finset.univ fun c : Fin 2 => results (F := F) (Xm m) (Tm m) d c) ∗ bigSep Finset.univ fun c : Fin 2 => bars (F := F) d (Fin.cast nSC_eq.symm c)) :=
  (show _ = bigSep Finset.univ fun c : Fin 2 => iprop(results (F := F) (Xm m) (Tm m) d c ∗ bars (F := F) d (Fin.cast nSC_eq.symm c)) from rfl).trans (bigSep_sep' _ _ _)

/-- What @main leaves: the arguments as at the launch, the results, the barrier semaphores at zero. -/
abbrev FIN (d : Dev nD) : sProp 𝕄 :=
  iprop((posL d ↦{fullShare} m (posL d)) ∗ (tabL d ↦{fullShare} m (tabL d))
    ∗ (∃ go gr : (Sh2 32 8192).Idx → BitVec 32, ⌜AllOk (Xm m) (Tm m) d go gr⌝ ∗ (outL d ↦{fullShare} asOut go) ∗ (invL d ↦{fullShare} asOut gr))
    ∗ bigSep Finset.univ fun c : Fin 2 => bars (F := F) d (Fin.cast nSC_eq.symm c))

theorem hmain (κ : GSem nD τ sig → ℕ) (d : Dev nD) :
    iprop((K (F := F)).ctx EH (Pm m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opFlat) (S := S7) hFlat (V := V0 m d)) $$ [Hb Hheld]
  · isplitl [Hb] <;> iassumption
  iintro ⟨Hb, Hheld⟩
  rw [wp_ret]; imodintro
  ihave Hh := (Entails.of_eq (held_V1 (F := F) m d)) $$ Hheld
  icases Hh with ⟨Hpos, Htab, Hflat, Hord, Hrev, Hout, Hinv⟩
  iapply ((K (F := F)).wp_run (D (F := F)) 𝒱 (EH := EH) (P := Pm m) κ d 0) $$ [Hst Hpos Htab Hflat Hord Hrev Hout Hinv Hb Hts]
  isplitr; · iexact Hctx
  isplitl [Hst]; · iexact Hst
  isplitl [Htab Hflat Hord Hrev]
  · rw [st0]
    iapply (deal (F := F) (Xm m) (Tm m) d)
    isplitl [Hflat]; · iexact Hflat
    isplitl [Htab]; · iexact Htab
    isplitl [Hord]; · iexists _; iexact Hord
    iexists _; iexact Hrev
  iintro ⟨Hst, Hdn⟩
  ihave Hdn' := (Entails.of_eq (dn0 (F := F) m d)) $$ Hdn
  icases Hdn' with ⟨Hres, Hbars⟩
  ihave Hres' := (gather (F := F) (Xm m) (Tm m) d) $$ Hres
  icases Hres' with ⟨Hflat, Htab, ⟨%go, %hgo, Hord⟩, ⟨%gr, %hgr, Hrev⟩⟩
  iapply (wp_hlo_within 𝒱 (SparseCore.T d) none Set.univ (op := opOut) (S := S7) hOut (V := V2 m d go gr)) $$ [Hb Hpos Htab Hflat Hord Hrev Hout Hinv]
  · isplitl [Hb]; · iexact Hb
    rw [held_V2]
    isplitl [Hpos]; · iexact Hpos
    isplitl [Htab]; · iexact Htab
    isplitl [Hflat]; · iexact Hflat
    isplitl [Hord]; · iexact Hord
    isplitl [Hrev]; · iexact Hrev
    isplitl [Hout]; · iexact Hout
    iexact Hinv
  iintro ⟨Hb, Hheld⟩
  rw [wp_ret]; imodintro
  iapply (wp_hlo_within 𝒱 (SparseCore.T d) none Set.univ (op := opInv) (S := S7) hInv (V := (opOut (F := F)).result (V2 m d go gr))) $$ [Hb Hheld]
  · isplitl [Hb] <;> iassumption
  iintro ⟨Hb, Hheld⟩
  ihave Hh := (Entails.of_eq (held_V4 (F := F) m d go gr)) $$ Hheld
  icases Hh with ⟨Hpos, Htab, -, -, -, Hout, Hinv⟩
  rw [wp_ret]; imodintro; imodintro
  isplitl [Hst]; · iexact Hst
  isplitr [Hb Hts]
  · isplitl [Hpos]; · iexact Hpos
    isplitl [Htab]; · iexact Htab
    isplitl [Hout Hinv]
    · iexists go; iexists gr
      isplitr; · ipureintro; exact allOk_of _ _ hgo hgr
      isplitl [Hout] <;> iassumption
    iexact Hbars
  isplitl [Hb] <;> iassumption

/-! ## The final state -/

def fq (d : Dev nD) (s' : Phys nD τ sig (Elt F)) : Prop :=
  (s'.mem.mem (posL d) = m (posL d) ∧ s'.mem.mem (tabL d) = m (tabL d)
    ∧ ∃ go gr : (Sh2 32 8192).Idx → BitVec 32, AllOk (Xm m) (Tm m) d go gr ∧ s'.mem.mem (outL d) = asOut go ∧ s'.mem.mem (invL d) = asOut gr)
  ∧ ∀ (c : Fin 2) (i : Fin 16), s'.mem.sem (bcell d (Fin.cast nSC_eq.symm c) (Fin.cast nSub_eq.symm i)) = 0

theorem hfin_val (d : Dev nD) (s' : Phys nD τ sig (Elt F)) :
    iprop(((posL d ↦{fullShare} m (posL d)) ∗ (tabL d ↦{fullShare} m (tabL d))
      ∗ (∃ go gr : (Sh2 32 8192).Idx → BitVec 32, ⌜AllOk (Xm m) (Tm m) d go gr⌝ ∗ (outL d ↦{fullShare} asOut go) ∗ (invL d ↦{fullShare} asOut gr))) ∗ SI s')
    ⊢ (⌜s'.mem.mem (posL d) = m (posL d) ∧ s'.mem.mem (tabL d) = m (tabL d)
      ∧ ∃ go gr : (Sh2 32 8192).Idx → BitVec 32, AllOk (Xm m) (Tm m) d go gr ∧ s'.mem.mem (outL d) = asOut go ∧ s'.mem.mem (invL d) = asOut gr⌝ : sProp 𝕄) := by
  iintro ⟨⟨Hp, Ht, ⟨%go, %gr, %hok, Ho, Hi⟩⟩, HSI⟩
  ihave H := (persistent_entails_right (SI_pointsTo_agree (st := s') (ℓ := posL d) (I := Finset.univ) (q := fullShare) (f := m (posL d)))) $$ [HSI Hp]
  · isplitl [HSI] <;> iassumption
  icases H with ⟨%h1, HSI, -⟩
  ihave H := (persistent_entails_right (SI_pointsTo_agree (st := s') (ℓ := tabL d) (I := Finset.univ) (q := fullShare) (f := m (tabL d)))) $$ [HSI Ht]
  · isplitl [HSI] <;> iassumption
  icases H with ⟨%h2, HSI, -⟩
  ihave H := (persistent_entails_right (SI_pointsTo_agree (st := s') (ℓ := outL d) (I := Finset.univ) (q := fullShare) (f := asOut go))) $$ [HSI Ho]
  · isplitl [HSI] <;> iassumption
  icases H with ⟨%h3, HSI, -⟩
  ihave H := (SI_pointsTo_agree (st := s') (ℓ := invL d) (I := Finset.univ) (q := fullShare) (f := asOut gr)) $$ [HSI Hi]
  · isplitl [HSI] <;> iassumption
  icases H with %h4
  ipureintro
  exact ⟨funext fun i => h1 i (Finset.mem_univ i), funext fun i => h2 i (Finset.mem_univ i), go, gr, hok, funext fun i => h3 i (Finset.mem_univ i),
    funext fun i => h4 i (Finset.mem_univ i)⟩

theorem hfin (d : Dev nD) (s' : Phys nD τ sig (Elt F)) : iprop(FIN m d ∗ SI s') ⊢ (⌜fq m d s'⌝ : sProp 𝕄) :=
  fun x hx => ⟨by
    refine (BIBase.Entails.trans ?_ (hfin_val m d s')) x hx
    iintro ⟨⟨Hp, Ht, Hv, -⟩, HSI⟩
    isplitr [HSI]
    · isplitl [Hp]; · iexact Hp
      isplitl [Ht] <;> iassumption
    iexact HSI,
  fun c i => by
    refine (BIBase.Entails.trans ?_ (SparseCore.Cfg.semVal_zero_read (bcell d (Fin.cast nSC_eq.symm c) (Fin.cast nSub_eq.symm i)) s')) x hx
    exact sep_mono_left (sep_elim_right.trans (sep_elim_right.trans (sep_elim_right.trans
      ((SparseCore.ent (bigSep_elim (Finset.mem_univ c))).trans (SparseCore.ent (bigSep_elim (Finset.mem_univ i)))))))⟩

theorem hA (s' : Phys nD τ sig (Elt F)) (h : ∀ d, fq m d s') (g : GSem nD τ sig) (hg : g ∈ cellsB) : s'.mem.sem g = 0 := by
  obtain ⟨⟨d, c, i⟩, -, rfl⟩ := Finset.mem_image.mp hg
  exact (h d).2 (Fin.cast nSC_eq c) (Fin.cast nSub_eq i)

/-- What a run ends with. -/
def QC : PUnit × MemSt nD τ sig (Elt F) → Prop := fun r =>
  (∀ d : Dev nD, r.2.mem (posL d) = m (posL d) ∧ r.2.mem (tabL d) = m (tabL d)
    ∧ ∃ go gr : (Sh2 32 8192).Idx → BitVec 32, AllOk (Xm m) (Tm m) d go gr ∧ r.2.mem (outL d) = asOut go ∧ r.2.mem (invL d) = asOut gr)
  ∧ r.2.sem = fun _ => 0

theorem run_main [∀ e, Nonempty (Elt F e)] (hX : ∀ d, ∀ r < 32, ∀ j < 8192, (rd2 (Xm m d) r j).toNat < 2097152) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := Pm m) (hA := hA m) facts v₀
    (fun q hq => match q with | 0 => nomatch hq)
    (fun q _ => match q with | 0 => tileObl (Xm m) (Tm m) facts hX)
    (fun q _ => match q with | 0 => vecSplit (Xm m) (Tm m))
    m ρ main (fun _ => iprop(emp)) (FIN m) (u₀ (F := F)) (hu₀ (Xm m) (Tm m)) (hmain m ρ) (fq m) (hfin m) (QC m) (fun _ h hz => ⟨fun c => (h c).1, hz⟩)

end Cert.Proof.Tile
-- ==== Proof.Argsort.lean ====
/-
  A stable sort of positions by a key: the position that it puts at a rank is the position of that rank.  From this, what
  the reference's two sorts hold: the order of a row, and the places of its entries.
-/
module

public import proofs.«01_k».proof.Proof.Row
public import proofs.«01_k».proof.Proof.Copy
public import Idealize.ShloMosaic.Lib.SortFacts
public import Idealize.ShloMosaic.Lib.StableHlo.Predicate

@[expose] public section

noncomputable section

namespace Cert.Proof.Tile

open Cert.Proof.Lanes
open Idealize.ShloMosaic

/-! ## A stable sort by a key -/

/-- By key, then by position. -/
def lex {N : ℕ} (key : ℕ → ℕ) (b c : Fin N) : Prop := key b.val < key c.val ∨ (key b.val = key c.val ∧ b < c)

theorem lex_insert {N : ℕ} {key : ℕ → ℕ} {before : Fin N → Fin N → Bool} (hb : ∀ k k' : Fin N, before k k' = true ↔ key k.val < key k'.val)
    (a : Fin N) (l : List (Fin N)) (hl : l.Pairwise (lex key)) (ha : ∀ b ∈ l, a < b) : (insertBefore before a l).Pairwise (lex key) := by
  induction l with
  | nil => exact List.pairwise_singleton _ _
  | cons b l ih =>
    rw [List.pairwise_cons] at hl
    unfold insertBefore
    split
    · rename_i h
      rw [hb] at h
      refine List.pairwise_cons.2 ⟨fun c hc => ?_, ih hl.2 fun c hc => ha c (List.mem_cons_of_mem _ hc)⟩
      rcases List.mem_cons.1 ((perm_insertBefore before a l).mem_iff.1 hc) with rfl | hc
      · exact .inl h
      · exact hl.1 c hc
    · rename_i h
      rw [hb] at h
      have hab := ha b (List.mem_cons_self ..)
      refine List.pairwise_cons.2 ⟨fun c hc => ?_, List.pairwise_cons.2 hl⟩
      rcases List.mem_cons.1 hc with rfl | hc'
      · unfold lex; omega
      · have h1 := hl.1 c hc'
        have h2 := ha c hc
        unfold lex at h1 ⊢; omega

theorem lex_sort {N : ℕ} {key : ℕ → ℕ} {before : Fin N → Fin N → Bool} (hb : ∀ k k' : Fin N, before k k' = true ↔ key k.val < key k'.val)
    (l : List (Fin N)) (hl : l.Pairwise (· < ·)) : (stableSort before l).Pairwise (lex key) := by
  induction l with
  | nil => exact List.Pairwise.nil
  | cons a l ih =>
    rw [List.pairwise_cons] at hl
    unfold stableSort
    exact lex_insert hb a _ (ih hl.2) fun b h => hl.1 b ((perm_stableSort before l).mem_iff.1 h)

theorem lex_from {N : ℕ} {key : ℕ → ℕ} {before : Fin N → Fin N → Bool} (hb : ∀ k k' : Fin N, before k k' = true ↔ key k.val < key k'.val)
    {i j : Fin N} (h : i < j) : lex key (sortedFrom before i) (sortedFrom before j) :=
  (List.pairwise_iff_get.1 (lex_sort hb (List.finRange N) (List.pairwise_lt_finRange N))) (i.cast (length_sortPositions N before).symm)
    (j.cast (length_sortPositions N before).symm) h

/-- What lands at a rank has that rank. -/
theorem rk_from {N : ℕ} {key : ℕ → ℕ} {before : Fin N → Fin N → Bool} (hb : ∀ k k' : Fin N, before k k' = true ↔ key k.val < key k'.val)
    (p : Fin N) : rk N key (sortedFrom before p).val = p.val := by
  have hlt : ∀ i j : Fin N, i < j → rk N key (sortedFrom before i).val < rk N key (sortedFrom before j).val := fun i j h => by
    rw [rk_lt_iff (Fin.isLt _) (Fin.isLt _)]
    exact lex_from hb h
  have e := perm_eq (N := N) (f := fun i => if h : i < N then rk N key (sortedFrom before ⟨i, h⟩).val else 0) (g := fun i => i)
    (fun i hi => by simp only [dif_pos hi]; exact rk_lt _ (Fin.isLt _))
    (fun i hi j hj h => by
      simp only [dif_pos hi, dif_pos hj] at h
      rcases Nat.lt_trichotomy i j with h' | h' | h'
      · have := hlt ⟨i, hi⟩ ⟨j, hj⟩ h'; omega
      · exact h'
      · have := hlt ⟨j, hj⟩ ⟨i, hi⟩ h'; omega)
    (fun i hi => hi) (fun i _ j _ h => h)
    (fun i hi j hj => by
      simp only [dif_pos hi, dif_pos hj]
      constructor
      · intro h
        by_contra hc
        rcases Nat.lt_or_eq_of_le (Nat.le_of_not_lt hc) with h' | h'
        · have := hlt ⟨j, hj⟩ ⟨i, hi⟩ h'; omega
        · subst h'; omega
      · exact fun h => hlt ⟨i, hi⟩ ⟨j, hj⟩ h)
    p.isLt
  simpa using e

/-- The position of rank `rk key g` is `g`. -/
theorem from_rk {N : ℕ} {key : ℕ → ℕ} {before : Fin N → Fin N → Bool} (hb : ∀ k k' : Fin N, before k k' = true ↔ key k.val < key k'.val)
    {g : ℕ} (hg : g < N) (h : rk N key g < N) : (sortedFrom before ⟨rk N key g, h⟩).val = g :=
  rk_inj _ (Fin.isLt _) _ hg (rk_from hb _)

/-- A key that undoes the ranks: the ranks by it undo them too. -/
theorem rk_undo {N : ℕ} {key key' : ℕ → ℕ} (h : ∀ g < N, key' (rk N key g) = g) {g : ℕ} (hg : g < N) : rk N key' (rk N key g) = g := by
  refine perm_eq (N := N) (f := fun g => rk N key' (rk N key g)) (g := fun g => g)
    (fun i hi => rk_lt _ (rk_lt _ hi)) (fun i hi j hj hh => rk_inj i hi j hj (rk_inj _ (rk_lt i hi) _ (rk_lt j hj) hh))
    (fun i hi => hi) (fun i _ j _ h => h) (fun i hi j hj => ?_) hg
  show rk N key' (rk N key i) < rk N key' (rk N key j) ↔ i < j
  rw [rk_lt_iff (rk_lt _ hi) (rk_lt _ hj), h i hi, h j hj]
  constructor
  · rintro (h1 | ⟨h1, h2⟩)
    · exact h1
    · subst h1; omega
  · exact .inl

/-! ## Rows of a three-dimensional array -/

section
variable {N : ℕ}

abbrev Sh3 (N : ℕ) : Shape := ⟨3, ![2, 8, N]⟩

def ix3 (a b p : ℕ) (ha : a < 2) (hb : b < 8) (hp : p < N) : (Sh3 N).Idx := fun k => match k with | 0 => ⟨a, ha⟩ | 1 => ⟨b, hb⟩ | 2 => ⟨p, hp⟩

theorem ix3_self (j : (Sh3 N).Idx) : ix3 (j 0).val (j 1).val (j 2).val (j 0).isLt (j 1).isLt (j 2).isLt = j := by
  funext k
  match k with
  | 0 => rfl
  | 1 => rfl
  | 2 => rfl

theorem ix3_along {a b p : ℕ} (ha : a < 2) (hb : b < 8) (hp : p < N) (k : Fin N) :
    (ix3 a b p ha hb hp).along (2 : Fin 3) k = ix3 a b k.val ha hb k.isLt := by
  funext x
  match x with
  | 0 => rfl
  | 1 => rfl
  | 2 => rfl

/-- The positions of a row sorted by the row's entries: at the rank of position `g` stands `g`. -/
theorem argsort_at {cmp : BitVec 32 × BitVec 32 → BitVec 32 × BitVec 32 → BitVec 1} (hc : ∀ l r, cmp l r = IntOp.cmpi .slt l.1 r.1)
    (x : (Sh3 N).Idx → BitVec 32) {a b : ℕ} (ha : a < 2) (hb : b < 8) {key : ℕ → ℕ} (hk : ∀ k (h : k < N), (x (ix3 a b k ha hb h)).toNat = key k)
    (hs : ∀ k < N, key k < 2147483648) {g : ℕ} (hg : g < N) :
    (Host.sort2 (Sh3 N) 2 cmp x (iotaInDim (Sh3 N) 32 2)).2 (ix3 a b (rk N key g) ha hb (rk_lt g hg)) = BitVec.ofNat 32 g := by
  have hb' : ∀ k k' : Fin N, (cmp (x ((ix3 a b (rk N key g) ha hb (rk_lt g hg)).along (2 : Fin 3) k), iotaInDim (Sh3 N) 32 2 ((ix3 a b (rk N key g) ha hb (rk_lt g hg)).along (2 : Fin 3) k))
      (x ((ix3 a b (rk N key g) ha hb (rk_lt g hg)).along (2 : Fin 3) k'), iotaInDim (Sh3 N) 32 2 ((ix3 a b (rk N key g) ha hb (rk_lt g hg)).along (2 : Fin 3) k')) == 1#1) = true ↔ key k.val < key k'.val := by
    intro k k'
    rw [hc, beq_iff_eq, ix3_along, ix3_along, StableHlo.Predicate.slt_iff_toNat (by rw [hk k.val k.isLt]; exact hs _ k.isLt) (by rw [hk k'.val k'.isLt]; exact hs _ k'.isLt),
      hk k.val k.isLt, hk k'.val k'.isLt]
  have e := from_rk hb' hg (rk_lt g hg)
  exact congrArg (BitVec.ofNat 32) e

/-- Sorted once more: at position `g` stands its rank. -/
theorem argsort_again {cmp : BitVec 32 × BitVec 32 → BitVec 32 × BitVec 32 → BitVec 1} (hc : ∀ l r, cmp l r = IntOp.cmpi .slt l.1 r.1) (hN : N ≤ 2147483648)
    (y : (Sh3 N).Idx → BitVec 32) {a b : ℕ} (ha : a < 2) (hb : b < 8) {key : ℕ → ℕ} (hy : ∀ g (hg : g < N), y (ix3 a b (rk N key g) ha hb (rk_lt g hg)) = BitVec.ofNat 32 g)
    {g : ℕ} (hg : g < N) :
    (Host.sort2 (Sh3 N) 2 cmp y (iotaInDim (Sh3 N) 32 2)).2 (ix3 a b g ha hb hg) = BitVec.ofNat 32 (rk N key g) := by
  obtain ⟨key', hk'⟩ : ∃ key' : ℕ → ℕ, ∀ k (h : k < N), (y (ix3 a b k ha hb h)).toNat = key' k :=
    ⟨fun k => if h : k < N then (y (ix3 a b k ha hb h)).toNat else 0, fun k h => by simp only [dif_pos h]⟩
  have hkey : ∀ g < N, key' (rk N key g) = g := fun g hg => by
    rw [← hk' _ (rk_lt g hg), hy g hg, BitVec.toNat_ofNat]
    omega
  have hsmall : ∀ k < N, key' k < 2147483648 := fun k hk => by
    obtain ⟨h1, h2⟩ := inv_rk (N := N) (key := key) hk
    have h3 := hkey _ h1
    rw [h2] at h3
    omega
  have e := argsort_at hc y ha hb hk' hsmall (rk_lt (key := key) g hg)
  have hx : ∀ p (hp : p < N), p = g → (Host.sort2 (Sh3 N) 2 cmp y (iotaInDim (Sh3 N) 32 2)).2 (ix3 a b p ha hb hp)
      = (Host.sort2 (Sh3 N) 2 cmp y (iotaInDim (Sh3 N) 32 2)).2 (ix3 a b g ha hb hg) := fun p hp h => by subst h; rfl
  rw [← hx _ _ (rk_undo hkey hg)]
  exact e

end

end Cert.Proof.Tile
-- ==== Proof.Ref.lean ====
/-
  The reference's two results, row by row: the order of the row by its codes, and the place of each entry in that order.
-/
module

public import proofs.«01_k».proof.Defs
public import proofs.«01_k».proof.Proof.Gen.Reference
public import proofs.«01_k».proof.Proof.Argsort

@[expose] public section

noncomputable section

namespace Cert.Proof.Tile

open Cert.Proof.Lanes
open Idealize.ShloMosaic

/-! ## The table read at a matrix of positions -/

def ixc {n m : ℕ} (r p : ℕ) (hr : r < n) (hp : p < m) : (⟨3, ![n, m, 1]⟩ : Shape).Idx := fun a => match a with | 0 => ⟨r, hr⟩ | 1 => ⟨p, hp⟩ | 2 => (0 : Fin 1)

theorem si_at {N n m : ℕ} (d : GatherDims (Sh N) ⟨3, ![n, m, 1]⟩ (Sh2 n m)) (hoff : d.offsetDims = []) (hsim : d.startIndexMap = [0])
    (hivd : d.indexVectorDim = 2) {r p : ℕ} (hr : r < n) (hp : p < m) (c : Fin d.startIndexMap.length) : d.siIdx (ix2 r p hr hp) c = ixc r p hr hp := by
  obtain ⟨od, cd, ob, sb, sm, iv, ss, wf⟩ := d
  simp only at hoff hsim hivd
  subst hoff hsim hivd
  funext b
  apply Fin.ext
  match b with
  | 0 => rfl
  | 1 => rfl
  | 2 => exact Nat.lt_one_iff.1 c.isLt

theorem gather_at {α : Type} {N n m : ℕ} (d : GatherDims (Sh N) ⟨3, ![n, m, 1]⟩ (Sh2 n m))
    (hcoll : d.collapsedSliceDims = [0]) (hoff : d.offsetDims = []) (hob : d.operandBatchingDims = []) (hsim : d.startIndexMap = [0]) (hivd : d.indexVectorDim = 2)
    (x : (Sh N).Idx → α) (idx : IVec ⟨3, ![n, m, 1]⟩ 32) {r p : ℕ} (hr : r < n) (hp : p < m) (hN : (idx (ixc r p hr hp)).toInt.toNat < N) :
    Host.gather d x idx (ix2 r p hr hp) = x (ix (idx (ixc r p hr hp)).toInt.toNat hN) := by
  unfold Host.gather
  congr 1
  funext a
  have ha0 : a = 0 := Subsingleton.elim _ _
  subst ha0
  apply Fin.ext
  have hb : (0 : Fin 1) ∉ d.operandBatchingDims := by rw [hob]; exact List.not_mem_nil
  have hk : (0 : Fin 1) ∉ d.sKept := by rw [GatherDims.mem_sKept, hcoll]; simp
  have hm : (0 : Fin 1) ∈ d.startIndexMap := by rw [hsim]; exact List.mem_singleton.mpr rfl
  have hsl : d.sliceSizes 0 = 1 := d.slice_collapsed 0 (by rw [hcoll]; exact List.mem_singleton.mpr rfl)
  have hsi : d.siIdx (ix2 r p hr hp) ⟨List.idxOf (0 : Fin 1) d.startIndexMap, List.idxOf_lt_length_iff.2 hm⟩ = ixc r p hr hp := by
    exact si_at d hoff hsim hivd hr hp _
  simp only [GatherDims.operandIdx, GatherDims.batchCoord_eq_zero _ _ _ hb, GatherDims.offCoord_eq_zero _ _ _ hk,
    Nat.add_zero, GatherDims.start, dif_pos hm]
  show min (idx _).toInt.toNat (N - d.sliceSizes 0) = (idx (ixc r p hr hp)).toInt.toNat
  rw [hsl]
  rw [hsi]
  omega

/-! ## The reference's rows -/

section
open Cert.Reference Cert.Reference.Facts₀

variable (T : IVec S2097152 32) (f : IVec S16x16384 32)

/-- The positions in the table, as the reference takes them. -/
def refIndex : IVec S16x16384x1 32 :=
  broadcastInDim S16x16384x1 ![0, 1] bcast_S16x16384_S16x16384x1_0_1
    (select (cmpi .slt f (broadcastInDim S16x16384 ![] bcast_S_S16x16384 (constantI S_ 32 0#32))) (addi f (broadcastInDim S16x16384 ![] bcast_S_S16x16384 (constantI S_ 32 2097152#32))) f)
/-- The codes of the entries. -/
def refCodes : IVec S2x8x16384 32 :=
  shapeCast S2x8x16384 (Host.gather gather_S2097152_S16x16384x1_S16x16384_n_0_n_n_0_2_1 T (refIndex f))
    shapeCasts_S16x16384_S2x8x16384
/-- The order of every row. -/
def refOrder : IVec S2x8x16384 32 := (Host.sort2 S2x8x16384 2 comparator_i32_i32_d2 (refCodes T f) (iotaInDim S2x8x16384 32 2)).2
/-- The places of every row's entries. -/
def refPlaces : IVec S2x8x16384 32 := (Host.sort2 S2x8x16384 2 comparator_i32_i32_d2 (refOrder T f) (iotaInDim S2x8x16384 32 2)).2

/-- Row `R` of the positions. -/
def rowAt (R : ℕ) : ℕ → BitVec 32 := fun g => rd2 (f : (Sh2 16 16384).Idx → BitVec 32) R g

variable {T f} (hf : ∀ i, (f i).toNat < 2097152) (hT : Good (rd (T : (Sh 2097152).Idx → BitVec 32)))
include hf

theorem pick_self (i : S16x16384.Idx) :
    select (cmpi .slt f (broadcastInDim S16x16384 ![] bcast_S_S16x16384 (constantI S_ 32 0#32))) (addi f (broadcastInDim S16x16384 ![] bcast_S_S16x16384 (constantI S_ 32 2097152#32))) f i = f i := by
  have h0 : ¬ IntOp.cmpi .slt (f i) 0#32 = 1#1 := by
    rw [StableHlo.Predicate.slt_iff_toNat (by have := hf i; omega) (by decide)]
    exact Nat.not_lt_zero _
  exact if_neg h0

theorem index_at {r p : ℕ} (hr : r < 16) (hp : p < 16384) :
    refIndex f (ixc r p hr hp) = f (ix2 r p hr hp) := by
  have e : ∀ v : IVec S16x16384 32, broadcastInDim S16x16384x1 ![0, 1] bcast_S16x16384_S16x16384x1_0_1 v (ixc r p hr hp) = v (ix2 r p hr hp) := fun v => by
    simp only [broadcastInDim]
    congr 1
    funext a
    apply Fin.ext
    match a with
    | 0 => rfl
    | 1 => rfl
  unfold refIndex
  rw [e, pick_self hf]

theorem codes_at {a b k : ℕ} (ha : a < 2) (hb : b < 8) (hk : k < 16384) :
    (refCodes T f (ix3 a b k ha hb hk)).toNat = cd (rd (T : (Sh 2097152).Idx → BitVec 32)) (rowAt f (8 * a + b)) k := by
  have hr : 8 * a + b < 16 := by omega
  have hfi := hf (ix2 (8 * a + b) k hr hk)
  have hi := index_at hf hr hk
  have hn : (f (ix2 (8 * a + b) k hr hk)).toInt.toNat = (f (ix2 (8 * a + b) k hr hk)).toNat := by
    rw [StableHlo.Predicate.toInt_eq_toNat_of_lt (by omega)]; rfl
  have e : Shape.reshapeEquiv shapeCasts_S16x16384_S2x8x16384 (ix3 a b k ha hb hk) = (ix2 (8 * a + b) k hr hk : S16x16384.Idx) := by
    refine Shape.reshapeEquiv_eq_of_rowMajor _ ?_
    rw [Shape.rowMajor_val_two, Shape.rowMajor_val_three]
    show (8 * a + b) * 16384 + k = (a * 8 + b) * 16384 + k
    omega
  show (Host.gather _ T (refIndex f) (Shape.reshapeEquiv shapeCasts_S16x16384_S2x8x16384 (ix3 a b k ha hb hk))).toNat = _
  rw [e]
  have g := gather_at gather_S2097152_S16x16384x1_S16x16384_n_0_n_n_0_2_1 rfl rfl rfl rfl rfl T (refIndex f) hr hk (by rw [hi, hn]; exact hfi)
  refine (congrArg BitVec.toNat g).trans ?_
  unfold cd rowAt
  rw [rd2_eq _ hr hk, rd_of_lt _ hfi]
  congr 3
  rw [hi, hn]

include hT

/-- At the place of position `g` the order holds `g`. -/
theorem refOrder_at {a b g : ℕ} (ha : a < 2) (hb : b < 8) (hg : g < 16384) :
    refOrder T f (ix3 a b (place (rd (T : (Sh 2097152).Idx → BitVec 32)) (rowAt f (8 * a + b)) g) ha hb (place_lt _ _ hg)) = BitVec.ofNat 32 g :=
  argsort_at (N := 16384) (fun _ _ => rfl) (refCodes T f) ha hb (key := cd (rd (T : (Sh 2097152).Idx → BitVec 32)) (rowAt f (8 * a + b)))
    (fun k hk => codes_at hf ha hb hk)
    (fun k hk => by
      unfold cd
      have h : (rowAt f (8 * a + b) k).toNat < 2097152 := by
        unfold rowAt
        rw [rd2_eq _ (by omega) hk]
        exact hf _
      have := hT.1 _ h
      omega) hg

/-- At position `g` the places hold the place of `g`. -/
theorem refPlaces_at {a b g : ℕ} (ha : a < 2) (hb : b < 8) (hg : g < 16384) :
    refPlaces T f (ix3 a b g ha hb hg) = BitVec.ofNat 32 (place (rd (T : (Sh 2097152).Idx → BitVec 32)) (rowAt f (8 * a + b)) g) :=
  argsort_again (N := 16384) (fun _ _ => rfl) (by omega) (refOrder T f) ha hb (key := cd (rd (T : (Sh 2097152).Idx → BitVec 32)) (rowAt f (8 * a + b)))
    (fun g hg => refOrder_at hf hT ha hb hg) hg

end

end Cert.Proof.Tile
-- ==== Proof.Agree.lean ====
/-
  The two results of the program, as its run describes them, are the reference's two results.
-/
module

public import proofs.«01_k».proof.Proof.Run
public import proofs.«01_k».proof.Proof.Ref

@[expose] public section

noncomputable section

namespace Cert.Proof.Tile

open Cert.KernelIdeal Cert.KernelIdeal.Gen
open Cert.Proof.Lanes
open Idealize.ShloMosaic

/-- The result array at a position of a row: the row's halves are two rows of the call's array. -/
theorem asOut_at (g : (Sh2 32 8192).Idx → BitVec 32) {a b p : ℕ} (ha : a < 2) (hb : b < 8) (hp : p < 16384) :
    asOut g (ix3 a b p ha hb hp) = rd2 g (2 * (8 * a + b) + p / 8192) (p % 8192) := by
  have hr : 2 * (8 * a + b) + p / 8192 < 32 := by omega
  have hq : p % 8192 < 8192 := by omega
  rw [rd2_eq _ hr hq]
  have e : Shape.reshapeEquiv shapeCasts_S32x8192_S2x8x16384 (ix3 a b p ha hb hp) = (ix2 (2 * (8 * a + b) + p / 8192) (p % 8192) hr hq : S32x8192.Idx) := by
    refine Shape.reshapeEquiv_eq_of_rowMajor _ ?_
    rw [Shape.rowMajor_val_two, Shape.rowMajor_val_three]
    show (2 * (8 * a + b) + p / 8192) * 8192 + p % 8192 = (a * 8 + b) * 16384 + p
    omega
  exact congrArg g e

/-- The positions, as halves of rows. -/
def halves (f : IVec S16x16384 32) : (Sh2 32 8192).Idx → BitVec 32 := shapeCast S32x8192 f shapeCasts_S16x16384_S32x8192

theorem halves_at (f : IVec S16x16384 32) {r q : ℕ} (hr : r < 32) (hq : q < 8192) :
    rd2 (halves f) r q = f (ix2 (r / 2) (r % 2 * 8192 + q) (by omega) (by omega) : (Sh2 16 16384).Idx) := by
  rw [rd2_eq _ hr hq]
  have e : Shape.reshapeEquiv shapeCasts_S16x16384_S32x8192 (ix2 r q hr hq : S32x8192.Idx) = (ix2 (r / 2) (r % 2 * 8192 + q) (by omega) (by omega) : (Sh2 16 16384).Idx) := by
    refine Shape.reshapeEquiv_eq_of_rowMajor _ ?_
    rw [Shape.rowMajor_val_two, Shape.rowMajor_val_two]
    show r / 2 * 16384 + (r % 2 * 8192 + q) = r * 8192 + q
    omega
  exact congrArg f e

theorem place_halves (T : ℕ → BitVec 32) (f : IVec S16x16384 32) {R g : ℕ} (hR : R < 16) (hg : g < 16384) :
    place T (rowOf (halves f) R) g = place T (rowAt f R) g := by
  unfold place
  refine rk_congr (fun k hk => ?_) hg
  have e : rowOf (halves f) R k = rowAt f R k := by
    unfold rowOf rowAt
    rw [halves_at f (by omega) (by omega), rd2_eq _ hR hk]
    congr 1
    funext x
    apply Fin.ext
    match x with
    | 0 => show (2 * R + k / 8192) / 2 = R; omega
    | 1 => show (2 * R + k / 8192) % 2 * 8192 + k % 8192 = k; omega
  unfold cd
  rw [e]

section
variable {X : Dev nD → (Sh2 32 8192).Idx → BitVec 32} {T : Dev nD → (Sh 2097152).Idx → BitVec 32} {d : Dev nD} {go gr : (Sh2 32 8192).Idx → BitVec 32}
  {f : IVec S16x16384 32} (hX : X d = halves f) (hf : ∀ i, (f i).toNat < 2097152) (hT : Good (rd (T d))) (h : AllOk X T d go gr)
include hX hf hT h

theorem order_at {a b p : ℕ} (ha : a < 2) (hb : b < 8) (hp : p < 16384) : asOut go (ix3 a b p ha hb hp) = refOrder (T d) f (ix3 a b p ha hb hp) := by
  obtain ⟨g, hg, e⟩ : ∃ g < 16384, place (rd (T d)) (rowAt f (8 * a + b)) g = p :=
    ⟨_, (inv_rk (N := 16384) (key := cd (rd (T d)) (rowAt f (8 * a + b))) hp).1, (inv_rk (N := 16384) (key := cd (rd (T d)) (rowAt f (8 * a + b))) hp).2⟩
  subst e
  rw [refOrder_at hf hT ha hb hg, asOut_at go ha hb hp]
  have hlt := place_lt (rd (T d)) (rowAt f (8 * a + b)) hg
  have hi : 2 * b + place (rd (T d)) (rowAt f (8 * a + b)) g / 8192 < 16 := by omega
  have k := (h ⟨a, ha⟩ ⟨2 * b + place (rd (T d)) (rowAt f (8 * a + b)) g / 8192, hi⟩).1 hT g hg
  rw [show (8 * (⟨a, ha⟩ : Fin 2).val + (⟨2 * b + place (rd (T d)) (rowAt f (8 * a + b)) g / 8192, hi⟩ : Fin 16).val / 2) = 8 * a + b by
    show 8 * a + (2 * b + place (rd (T d)) (rowAt f (8 * a + b)) g / 8192) / 2 = _
    omega] at k
  rw [hX, place_halves (rd (T d)) f (by omega) hg] at k
  have k' := k (by show _ = (2 * b + place (rd (T d)) (rowAt f (8 * a + b)) g / 8192) % 2; omega)
  rw [show (16 * (⟨a, ha⟩ : Fin 2).val + (⟨2 * b + place (rd (T d)) (rowAt f (8 * a + b)) g / 8192, hi⟩ : Fin 16).val)
      = 2 * (8 * a + b) + place (rd (T d)) (rowAt f (8 * a + b)) g / 8192 by
    show 16 * a + (2 * b + place (rd (T d)) (rowAt f (8 * a + b)) g / 8192) = _
    omega] at k'
  exact k'

theorem places_at {a b p : ℕ} (ha : a < 2) (hb : b < 8) (hp : p < 16384) : asOut gr (ix3 a b p ha hb hp) = refPlaces (T d) f (ix3 a b p ha hb hp) := by
  rw [refPlaces_at hf hT ha hb hp, asOut_at gr ha hb hp]
  have hi : 2 * b + p / 8192 < 16 := by omega
  have k := (h ⟨a, ha⟩ ⟨2 * b + p / 8192, hi⟩).2 hT (p % 8192) (by omega)
  rw [show (8 * (⟨a, ha⟩ : Fin 2).val + (⟨2 * b + p / 8192, hi⟩ : Fin 16).val / 2) = 8 * a + b by
    show 8 * a + (2 * b + p / 8192) / 2 = _
    omega, show (⟨2 * b + p / 8192, hi⟩ : Fin 16).val % 2 * 8192 + p % 8192 = p by
    show (2 * b + p / 8192) % 2 * 8192 + p % 8192 = p
    omega, show (16 * (⟨a, ha⟩ : Fin 2).val + (⟨2 * b + p / 8192, hi⟩ : Fin 16).val) = 2 * (8 * a + b) + p / 8192 by
    show 16 * a + (2 * b + p / 8192) = _
    omega, hX, place_halves (rd (T d)) f (by omega) hp] at k
  exact k

theorem order_eq : asOut go = refOrder (T d) f := by
  funext j
  rw [← ix3_self (N := 16384) j]
  exact order_at hX hf hT h _ _ _

theorem places_eq : asOut gr = refPlaces (T d) f := by
  funext j
  rw [← ix3_self (N := 16384) j]
  exact places_at hX hf hT h _ _ _

end

end Cert.Proof.Tile
-- ==== Proof.Pre.lean ====
/-
  The two preconditions, read back: every position lies in the table, and — for the values — the table, sorted, is
  0, 1, 2, …, so that its entries are pairwise distinct and each below its length.
-/
module

public import proofs.«01_k».proof.Defs
public import proofs.«01_k».proof.Proof.Gen.Pre_ranges
public import proofs.«01_k».proof.Proof.Gen.Pre_permutation
public import proofs.«01_k».proof.Proof.Agree
public import Idealize.ShloMosaic.Lib.ReduceAll

@[expose] public section

noncomputable section

namespace Cert.Proof.Tile

open Cert.Proof.Lanes
open Idealize.ShloMosaic

theorem andi_one {a b : BitVec 1} (h : IntOp.andi a b = 1#1) : a = 1#1 ∧ b = 1#1 := by
  rcases BitVec.eq_zero_or_eq_one a with rfl | rfl <;> rcases BitVec.eq_zero_or_eq_one b with rfl | rfl <;> first | exact ⟨rfl, rfl⟩ | exact absurd h (by decide)

theorem in_range {v : BitVec 32} (h0 : IntOp.cmpi .sge v 0#32 = 1#1) (h1 : IntOp.cmpi .slt v 2097152#32 = 1#1) : v.toNat < 2097152 := by
  have ofBool_eq_one (p : Bool) : (BitVec.ofBool p = 1#1) ↔ p = true := by cases p <;> decide
  simp only [IntOp.cmpi, ofBool_eq_one, BitVec.sle_eq_decide, BitVec.slt_eq_decide,
    decide_eq_true_eq, BitVec.toInt_eq_toNat_cond, BitVec.toNat_ofNat, Nat.reducePow, Nat.reduceMod] at h0 h1
  omega

section
variable {F : FTy → Type} [FloatOps F] {f : IVec Cert.Pre_ranges.S16x16384 32} {T : IVec Cert.Pre_ranges.S2097152 32}

theorem range_of_ranges (h : Cert.Pre_ranges.fn (F := F) f T = fun _ => 1#1) (i : Cert.Pre_ranges.S16x16384.Idx) : (f i).toNat < 2097152 := by
  have e := congrFun h (fun a => a.elim0)
  obtain ⟨e1, e2⟩ := andi_one e
  haveI : Subsingleton Cert.Pre_ranges.S_.Idx := ⟨fun a b => funext fun x => x.elim0⟩
  exact in_range (Host.reduce_andi_all _ _ _ _ _ e1 i) (Host.reduce_andi_all _ _ _ _ _ e2 i)

theorem range_of_permutation (h : Cert.Pre_permutation.fn (F := F) f T = fun _ => 1#1) (i : Cert.Pre_permutation.S16x16384.Idx) : (f i).toNat < 2097152 := by
  have e := congrFun h (fun a => a.elim0)
  obtain ⟨e12, -⟩ := andi_one e
  obtain ⟨e1, e2⟩ := andi_one e12
  haveI : Subsingleton Cert.Pre_permutation.S_.Idx := ⟨fun a b => funext fun x => x.elim0⟩
  exact in_range (Host.reduce_andi_all _ _ _ _ _ e1 i) (Host.reduce_andi_all _ _ _ _ _ e2 i)

/-- A table that, sorted, is 0, 1, 2, … has pairwise distinct entries below its length. -/
theorem good_of_sorted {N : ℕ} {cmp : BitVec 32 → BitVec 32 → BitVec 1} {x : (Sh N).Idx → BitVec 32} (hN : N ≤ 4294967296)
    (h : ∀ i : (Sh N).Idx, Host.sort (Sh N) 0 cmp x i = BitVec.ofNat 32 (i 0).val) :
    (∀ i < N, (rd x i).toNat < N) ∧ ∀ i < N, ∀ j < N, rd x i = rd x j → i = j := by
  have along : ∀ (k : ℕ) (hk : k < N) (q : Fin N), (ix k hk).along (0 : Fin 1) q = ix q.val q.isLt := fun k hk q => by
    funext a
    rw [Fin.eq_zero a]
    rfl
  obtain ⟨σ, hsurj, hσ⟩ : ∃ σ : Fin N → Fin N, Function.Surjective σ ∧ ∀ k : Fin N, x (ix (σ k).val (σ k).isLt) = BitVec.ofNat 32 k.val := by
    refine ⟨sortedFrom fun a b => cmp (x (ix a.val a.isLt)) (x (ix b.val b.isLt)) == 1#1, sortedFrom_surjective _, fun k => ?_⟩
    have e : Host.sort (Sh N) 0 cmp x (ix k.val k.isLt) = x ((ix k.val k.isLt).along (0 : Fin 1)
        (sortedFrom (fun a b : Fin N => cmp (x ((ix k.val k.isLt).along (0 : Fin 1) a)) (x ((ix k.val k.isLt).along (0 : Fin 1) b)) == 1#1) k)) := rfl
    simp only [along] at e
    exact (congrArg x (along _ _ _).symm).trans (e.symm.trans (h (ix k.val k.isLt)))
  have hs : ∀ i < N, ∃ k : Fin N, (σ k).val = i ∧ rd x i = BitVec.ofNat 32 k.val := fun i hi => by
    obtain ⟨k, hk⟩ := hsurj ⟨i, hi⟩
    have hki : (σ k).val = i := congrArg Fin.val hk
    refine ⟨k, hki, ?_⟩
    rw [← hσ k, ← hki, rd_of_lt x (σ k).isLt]
  refine ⟨fun i hi => ?_, fun i hi j hj e => ?_⟩
  · obtain ⟨k, -, hv⟩ := hs i hi
    rw [hv, BitVec.toNat_ofNat]
    exact lt_of_le_of_lt (Nat.mod_le _ _) k.isLt
  · obtain ⟨k, hk, hv⟩ := hs i hi
    obtain ⟨k', hk', hv'⟩ := hs j hj
    rw [hv, hv'] at e
    have e2 := congrArg BitVec.toNat e
    rw [BitVec.toNat_ofNat, BitVec.toNat_ofNat, Nat.mod_eq_of_lt (by have := k.isLt; omega), Nat.mod_eq_of_lt (by have := k'.isLt; omega)] at e2
    rw [← hk, ← hk', Fin.ext e2]

theorem good_of_permutation (h : Cert.Pre_permutation.fn (F := F) f T = fun _ => 1#1) : Good (rd (T : (Sh 2097152).Idx → BitVec 32)) := by
  have e := congrFun h (fun a => a.elim0)
  obtain ⟨-, e3⟩ := andi_one e
  haveI : Subsingleton Cert.Pre_permutation.S_.Idx := ⟨fun a b => funext fun x => x.elim0⟩
  have k := fun i => StableHlo.Predicate.cmpi_eq_iff.1 (Host.reduce_andi_all _ _ _ _ _ e3 i)
  exact good_of_sorted (N := 2097152) (cmp := Cert.Pre_permutation.comparator_i32_d0) (by omega) k

end

/-! ## The run, under the preconditions -/

section
open Cert.KernelIdeal

variable {F : FTy → Type} [FloatOps F] [∀ e, Nonempty (Elt F e)] (m : (ℓ : Loc nD τ sig) → Buf (Elt F) ℓ) (ρ : Dev nD → PrngReg)

/-- The positions and the table in a memory. -/
def posOf (d : Dev nD) : IVec S16x16384 32 := m (posL d)
def tabOf (d : Dev nD) : IVec S2097152 32 := m (tabL d)

theorem run_frame (hf : ∀ d, ∀ i, (posOf m d i).toNat < 2097152) :
    θ_run (Cert.KernelIdeal.defs (F := F)) (Cert.KernelIdeal.threads (F := F)) ⟨m, fun _ => 0, ρ⟩ (QC m) :=
  run_main m ρ fun d r hr j hj => by
    have e : Xm m d = halves (posOf m d) := rfl
    rw [e, halves_at _ hr hj]
    exact hf d _

/-- With a good table the two results are the reference's. -/
theorem run_value (hf : ∀ d, ∀ i, (posOf m d i).toNat < 2097152) (hT : ∀ d, Good (rd (tabOf m d : (Sh 2097152).Idx → BitVec 32))) :
    θ_run (Cert.KernelIdeal.defs (F := F)) (Cert.KernelIdeal.threads (F := F)) ⟨m, fun _ => 0, ρ⟩ fun r => ∀ d,
      r.2.mem (outL d) = refOrder (tabOf m d) (posOf m d) ∧ r.2.mem (invL d) = refPlaces (tabOf m d) (posOf m d)
        ∧ r.2.mem (posL d) = m (posL d) ∧ r.2.mem (tabL d) = m (tabL d) :=
  (θ_run Cert.KernelIdeal.defs _ _).mono (fun _ h d => by
    obtain ⟨h0, h1, go, gr, hall, h2, h3⟩ := h.1 d
    exact ⟨h2.trans (order_eq (X := Xm m) (T := Tm m) (f := posOf m d) rfl (hf d) (hT d) hall),
      h3.trans (places_eq (X := Xm m) (T := Tm m) (f := posOf m d) rfl (hf d) (hT d) hall), h0, h1⟩) (run_frame m ρ hf)

end

end Cert.Proof.Tile
-- ==== Proof.Cells.lean ====
/-
  The TensorCore call's result, and its reference's, at the extended reals: every word is the flat index of one point's
  grid cell.
-/
module

public import proofs.«01_k».proof.Proof.Gen.EncodeIdeal.Value
public import proofs.«01_k».proof.Proof.Gen.PositionsIdeal.Run
public import Idealize.ShloMosaic.Lib.Pointwise

@[expose] public section

noncomputable section

namespace Cert.Proof.Cells

open Idealize.ShloMosaic
open Idealize.ShloMosaic.TcCoe

/-- The smallest coordinate is a minimum from +∞, and a cell is 1/50 wide, as the single-precision word has it. -/
abbrev inf : EReal := FloatOps.ofBits (F := Ideal) .f32 0x7F800000#32
abbrev width : EReal := FloatOps.ofBits (F := Ideal) .f32 0x3CA3D70A#32

/-- A cell number, clipped to the grid, and the cell of a coordinate `x` whose smallest in the batch is `l`. -/
def clip (q : BitVec 32) : BitVec 32 := if IntOp.cmpi .sge q 128#32 = 1#1 then 127#32 else q
def cellOf (x l : EReal) : BitVec 32 := clip (Ideal.fptosi 32 (Ideal.div (x - l) width))

/-- The flat index from the three cells. -/
def flatOf (x y z : BitVec 32) : BitVec 32 := z * 16384#32 + y * 128#32 + x

/-- A point's cell along an axis. -/
def cell (X : FVec Ideal ⟨3, ![8, 16384, 3]⟩ .f32) (b : Fin 8) (n : Fin 16384) (k : Fin 3) : BitVec 32 :=
  cellOf (X (ix3 b n k)) (Finset.univ.fold min inf fun n : Fin 16384 => X (ix3 b n k))

/-- The flat indices: the first eight rows take the axes as x, y, z, the last eight as y, x, z. -/
def flats (X : FVec Ideal ⟨3, ![8, 16384, 3]⟩ .f32) (a : Fin 2) (b : Fin 8) (n : Fin 16384) : BitVec 32 :=
  if a = 0 then flatOf (cell X b n 0) (cell X b n 1) (cell X b n 2) else flatOf (cell X b n 1) (cell X b n 0) (cell X b n 2)

/-! ## The call -/

section Kernel

open Cert.EncodeIdeal Cert.EncodeIdeal.Gen

/-- The cells of the 24 rows, three axes of eight batches, as the body computes them, and the same clipped. -/
def cells (P : FVec Ideal S24x16384 .f32) : IVec S24x16384 32 :=
  fptosi 32 (divf (subf (shapeCast S24x16384 P shapeCasts_S24x16384_S24x16384) (broadcastTo S24x16384 (shapeCast S24x1
    (multiReduction .minimumf [1] S24 (shapeCast S24x16384 P shapeCasts_S24x16384_S24x16384) 0x7F800000#32 reduces_S24x16384_S24 (.inl rfl) rfl)
    shapeCasts_S24_S24x1) broadcasts_S24x1_S24x16384)) (broadcast S24x16384 (Scalar.ofBits .f32 0x3CA3D70A#32)))

def grid (P : FVec Ideal S24x16384 .f32) : IVec S24x16384 32 :=
  select (cmpi .sge (cells P) (broadcast S24x16384 128#32)) (broadcast S24x16384 127#32) (cells P)

theorem grid_at (P : FVec Ideal S24x16384 .f32) (r : Fin 24) (n : Fin 16384) :
    grid P (ix2 r n) = cellOf (P (ix2 r n)) (Finset.univ.fold min inf fun k : Fin 16384 => P (ix2 r k)) := by
  unfold grid cells
  simp only [pointwise]
  rfl

/-- The two halves of the result: the cells weighted in the two orders. -/
theorem cat_first (P : FVec Ideal S24x16384 .f32) (b : Fin 8) (n : Fin 16384) :
    Value.Cat1_0 (F := Ideal) P 0 (ix2 b n) = flatOf (grid P (ix2 ⟨0 + b, by omega⟩ n)) (grid P (ix2 ⟨8 + b, by omega⟩ n)) (grid P (ix2 ⟨16 + b, by omega⟩ n)) := by
  show addi (addi (muli (extractStridedSlice S8x16384 ![16, 0] (grid P) slices_S24x16384_o16_0_S8x16384) (broadcast S8x16384 16384#32))
    (muli (extractStridedSlice S8x16384 ![8, 0] (grid P) slices_S24x16384_o8_0_S8x16384) (broadcast S8x16384 128#32)))
    (extractStridedSlice S8x16384 ![0, 0] (grid P) slices_S24x16384_o0_0_S8x16384) (ix2 b n) = _
  simp only [pointwise, Matrix.cons_val_zero, Matrix.cons_val_one, Nat.zero_add, Fin.eta]
  rfl

theorem cat_second (P : FVec Ideal S24x16384 .f32) (b : Fin 8) (n : Fin 16384) :
    Value.Cat1_0 (F := Ideal) P 1 (ix2 b n) = flatOf (grid P (ix2 ⟨8 + b, by omega⟩ n)) (grid P (ix2 ⟨0 + b, by omega⟩ n)) (grid P (ix2 ⟨16 + b, by omega⟩ n)) := by
  show addi (addi (muli (extractStridedSlice S8x16384 ![16, 0] (grid P) slices_S24x16384_o16_0_S8x16384) (broadcast S8x16384 16384#32))
    (muli (extractStridedSlice S8x16384 ![0, 0] (grid P) slices_S24x16384_o0_0_S8x16384) (broadcast S8x16384 128#32)))
    (extractStridedSlice S8x16384 ![8, 0] (grid P) slices_S24x16384_o8_0_S8x16384) (ix2 b n) = _
  simp only [pointwise, Matrix.cons_val_zero, Matrix.cons_val_one, Nat.zero_add, Fin.eta]
  rfl

/-- The points as the call's operand: one row for each axis and batch. -/
def pts (X : FVec Ideal S8x16384x3 .f32) : FVec Ideal S24x16384 .f32 :=
  shapeCast S24x16384 (transpose S3x8x16384 [2, 0, 1] X transposes_S8x16384x3_S3x8x16384_2_0_1) shapeCasts_S3x8x16384_S24x16384

theorem pts_at (X : FVec Ideal S8x16384x3 .f32) {r : Fin 24} {k : Fin 3} {b : Fin 8} (n : Fin 16384) (e : r.val = 8 * k.val + b.val) :
    pts X (ix2 r n) = X (ix3 b n k) := by
  have h : 8 * k.val + b.val < 24 := by omega
  rw [show r = ⟨8 * k.val + b.val, h⟩ from Fin.ext e]
  unfold pts
  simp only [pointwise]

theorem grid_pts (X : FVec Ideal S8x16384x3 .f32) {r : Fin 24} {k : Fin 3} {b : Fin 8} (n : Fin 16384) (e : r.val = 8 * k.val + b.val) :
    grid (pts X) (ix2 r n) = cell X b n k := by
  rw [grid_at]
  unfold cell
  simp only [pts_at X _ e]

/-- So a word of the result is a flat index. -/
theorem E1_at (X : FVec Ideal S8x16384x3 .f32) (a : Fin 2) (b : Fin 8) (n : Fin 16384) :
    Value.E1 (F := Ideal) (pts X) (ix2 ⟨8 * a + b, by omega⟩ n) = flats X a b n := by
  have ea : Value.csel1_0 (ix2 ⟨8 * a + b, by omega⟩ n) = a := Fin.ext (show (8 * a.val + b.val) / 8 = a.val by omega)
  have eb : Value.ix1_0 (ix2 ⟨8 * a + b, by omega⟩ n) = ix2 b n := by
    funext x
    match x with
    | 0 => exact Fin.ext (show (8 * a.val + b.val) % 8 = b.val by omega)
    | 1 => rfl
  show Value.Cat1_0 (F := Ideal) (pts X) (Value.csel1_0 _) (Value.ix1_0 _) = _
  rw [ea, eb]
  match a with
  | 0 =>
    rw [cat_first, grid_pts X (k := 0) (b := b) n rfl, grid_pts X (k := 1) (b := b) n rfl, grid_pts X (k := 2) (b := b) n rfl]
    rfl
  | 1 =>
    rw [cat_second, grid_pts X (k := 1) (b := b) n rfl, grid_pts X (k := 0) (b := b) n rfl, grid_pts X (k := 2) (b := b) n rfl]
    rfl

/-- The call finds its operand laid out so. -/
theorem V_eq (m : (ℓ : Loc nD τ sig) → Buf (Elt Ideal) ℓ) (c : Dev nD) : V m c (Pipeline.arrRef spec0 0) = pts (m ((c.tc : Thread nD τ).loc main_arg0)) := by
  unfold V hostOps0
  after_results_simp
  rfl

/-- The call has one point, and a block is its whole array. -/
theorem in_whole (f : Vec Ideal S24x16384 .f32) : (win0_0.blk t0_0).view.read (Elt Ideal) f = f :=
  Memref.read_access_unit_zero (Elt Ideal) main_v1
    (show (fun a => win0_0.index t0_0 a * main_v1.ty.shape.size a) = fun _ => 0 from funext fun a => by fin_cases a <;> decide)
    (fun a => by fin_cases a <;> decide) f

theorem out_whole (f : Vec Ideal S16x16384 .i32) : (win0_1.blk t0_0).view.read (Elt Ideal) f = f :=
  Memref.read_access_unit_zero (Elt Ideal) main_v2
    (show (fun a => win0_1.index t0_0 a * main_v2.ty.shape.size a) = fun _ => 0 from funext fun a => by fin_cases a <;> decide)
    (fun a => by fin_cases a <;> decide) f

theorem zero24 : (![0, 0] : Fin S24x16384.rank → ℕ) = fun _ => 0 := by funext a; fin_cases a <;> rfl

/-- What the body leaves of the points' array. -/
theorem out_eq (P : Vec Ideal S24x16384 .f32) : out0_1 (F := Ideal) P = Value.E1 (F := Ideal) P := by
  funext y
  unfold out0_1
  rw [View.ld_unit_zero zero24]
  exact Value.canon1_eq P y

theorem iblk_eq (m : (ℓ : Loc nD τ sig) → Buf (Elt Ideal) ℓ) (c : Dev nD) : iblk m c 0 t0_0 = pts (m ((c.tc : Thread nD τ).loc main_arg0)) :=
  (in_whole _).trans (V_eq m c)

theorem flushed_eq (m : (ℓ : Loc nD τ sig) → Buf (Elt Ideal) ℓ) (c : Dev nD) :
    (dats m 0 c).flushed 1 t0_0 = out0_1 (F := Ideal) (pts (m ((c.tc : Thread nD τ).loc main_arg0))) := by
  rw [Value.flushed1, iblk_eq]
  exact funext fun _ => rfl

/-- So the call's result is what its body leaves of the points. -/
theorem final (m : (ℓ : Loc nD τ sig) → Buf (Elt Ideal) ℓ) (c : Dev nD) :
    (dats m 0 c).arrAt 1 cfg0.N = Value.E1 (F := Ideal) (pts (m ((c.tc : Thread nD τ).loc main_arg0))) :=
  (out_whole _).symm.trans ((Value.blocks1 m c t0_0 (flush0_1 _)).trans ((flushed_eq m c).trans (out_eq _)))

end Kernel

/-! ## The reference -/

/-- Rounding toward zero before the conversion changes nothing: the conversion does it. -/
theorem fptosi_trunc (x : EReal) :
    Ideal.fptosi 32 (if x < 0 then Ideal.liftRound Int.ceil x else Ideal.liftRound Int.floor x) = Ideal.fptosi 32 x := by
  induction x with
  | bot => simp
  | top => simp
  | coe r =>
    by_cases h : r < 0
    · rw [if_pos (by exact_mod_cast h)]
      show BitVec.ofInt 32 (max _ (min _ (if (0 : ℝ) ≤ ((⌈r⌉ : ℤ) : ℝ) then ⌊((⌈r⌉ : ℤ) : ℝ)⌋ else ⌈((⌈r⌉ : ℤ) : ℝ)⌉))) = BitVec.ofInt 32 (max _ (min _ (if (0 : ℝ) ≤ r then ⌊r⌋ else ⌈r⌉)))
      rw [Int.floor_intCast, Int.ceil_intCast, ite_self, if_neg (not_le.2 h)]
    · rw [if_neg (by exact_mod_cast h)]
      show BitVec.ofInt 32 (max _ (min _ (if (0 : ℝ) ≤ ((⌊r⌋ : ℤ) : ℝ) then ⌊((⌊r⌋ : ℤ) : ℝ)⌋ else ⌈((⌊r⌋ : ℤ) : ℝ)⌉))) = BitVec.ofInt 32 (max _ (min _ (if (0 : ℝ) ≤ r then ⌊r⌋ else ⌈r⌉)))
      rw [Int.floor_intCast, Int.ceil_intCast, ite_self, if_pos (not_lt.1 h)]

section Reference

open Cert.PositionsIdeal Cert.PositionsIdeal.Gen

/-- The coordinates' quotients, as the reference computes them. -/
def quot (X : FVec Ideal S8x16384x3 .f32) : FVec Ideal S8x16384x3 .f32 :=
  Host.divf (subf X (broadcastInDim S8x16384x3 ![0, 1, 2] bcast_S8x1x3_S8x16384x3_0_1_2 (broadcastInDim S8x1x3 ![0, 2] bcast_S8x3_S8x1x3_0_2 (Host.reduce FloatOps.minimumf X (constant S_ .f32 0x7F800000#32) reducesTo_S8x16384x3_S8x3_d1 h_S_)))) (broadcastInDim S8x16384x3 ![] bcast_S_S8x16384x3 (constant S_ .f32 0x3CA3D70A#32))

/-- The unclipped cells. -/
def whole (X : FVec Ideal S8x16384x3 .f32) : IVec S8x16384x3 32 :=
  fptosi 32 (select (cmpf .olt (quot X) (broadcastInDim S8x16384x3 ![] bcast_S_S8x16384x3 (constant S_ .f32 0x00000000#32))) (Host.ceil (quot X)) (Host.floor (quot X)))

theorem quot_at (X : FVec Ideal S8x16384x3 .f32) (b : Fin 8) (n : Fin 16384) (k : Fin 3) :
    quot X (ix3 b n k) = Ideal.div (X (ix3 b n k) - Finset.univ.fold min inf fun n : Fin 16384 => X (ix3 b n k)) width := by
  unfold quot
  simp only [pointwise]
  rfl

theorem whole_at (X : FVec Ideal S8x16384x3 .f32) (b : Fin 8) (n : Fin 16384) (k : Fin 3) :
    whole X (ix3 b n k) = Ideal.fptosi 32 (quot X (ix3 b n k)) := by
  rw [← fptosi_trunc]
  unfold whole
  simp only [pointwise]
  rfl

/-- The clipped cells. -/
def refGrid (X : FVec Ideal S8x16384x3 .f32) : IVec S8x16384x3 32 :=
  select (cmpi .sge (whole X) (broadcastInDim S8x16384x3 ![] bcast_S_S8x16384x3 (constantI S_ 32 128#32)))
    (broadcastInDim S8x16384x3 ![] bcast_S_S8x16384x3 (id (constantI S_ 32 127#32))) (whole X)

theorem refGrid_at (X : FVec Ideal S8x16384x3 .f32) (b : Fin 8) (n : Fin 16384) (k : Fin 3) :
    refGrid X (ix3 b n k) = cell X b n k := by
  unfold refGrid cell cellOf
  rw [← quot_at, ← whole_at]
  simp only [pointwise]
  rfl

/-- The three axes' cells. -/
def planeX (X : FVec Ideal S8x16384x3 .f32) : IVec S8x16384 32 := shapeCast S8x16384 (extractStridedSlice S8x16384x1 ![0, 0, 0] (refGrid X) slices_S8x16384x3_S8x16384x1_0_0_0) shapeCasts_S8x16384x1_S8x16384
def planeY (X : FVec Ideal S8x16384x3 .f32) : IVec S8x16384 32 := shapeCast S8x16384 (extractStridedSlice S8x16384x1 ![0, 0, 1] (refGrid X) slices_S8x16384x3_S8x16384x1_0_0_1) shapeCasts_S8x16384x1_S8x16384
def planeZ (X : FVec Ideal S8x16384x3 .f32) : IVec S8x16384 32 := shapeCast S8x16384 (extractStridedSlice S8x16384x1 ![0, 0, 2] (refGrid X) slices_S8x16384x3_S8x16384x1_0_0_2) shapeCasts_S8x16384x1_S8x16384

/-- The flat indices in one order. -/
def flat (x y z : IVec S8x16384 32) : IVec S8x16384 32 :=
  addi (addi (muli (muli z (broadcastInDim S8x16384 ![] bcast_S_S8x16384 (constantI S_ 32 128#32))) (broadcastInDim S8x16384 ![] bcast_S_S8x16384 (constantI S_ 32 128#32)))
    (muli y (broadcastInDim S8x16384 ![] bcast_S_S8x16384 (constantI S_ 32 128#32)))) x

/-- The reference's result. -/
def both (X : FVec Ideal S8x16384x3 .f32) : IVec S16x16384 32 :=
  shapeCast S16x16384 (concatenate S2x8x16384 0
    [⟨S1x8x16384, broadcastInDim S1x8x16384 ![1, 2] bcast_S8x16384_S1x8x16384_1_2 (flat (planeX X) (planeY X) (planeZ X))⟩,
     ⟨S1x8x16384, broadcastInDim S1x8x16384 ![1, 2] bcast_S8x16384_S1x8x16384_1_2 (flat (planeY X) (planeX X) (planeZ X))⟩]
    concatenates_S1x8x16384_S1x8x16384_S2x8x16384_d0) shapeCasts_S2x8x16384_S16x16384

theorem res_eq (m : (ℓ : Loc nD τ sig) → Buf (Elt Ideal) ℓ) (c : Dev nD) :
    Value.res_main_v42 m c = both (m ((c.tc : Thread nD τ).loc main_arg0)) := rfl

theorem planeX_at (X : FVec Ideal S8x16384x3 .f32) (b : Fin 8) (n : Fin 16384) : planeX X (ix2 b n) = cell X b n 0 := by
  rw [← refGrid_at]
  unfold planeX
  simp only [pointwise, Matrix.cons_val_zero, Matrix.cons_val_one, Nat.zero_add, Fin.eta]

theorem planeY_at (X : FVec Ideal S8x16384x3 .f32) (b : Fin 8) (n : Fin 16384) : planeY X (ix2 b n) = cell X b n 1 := by
  rw [← refGrid_at]
  unfold planeY
  simp only [pointwise, Matrix.cons_val_zero, Matrix.cons_val_one, Nat.zero_add, Fin.eta]

theorem planeZ_at (X : FVec Ideal S8x16384x3 .f32) (b : Fin 8) (n : Fin 16384) : planeZ X (ix2 b n) = cell X b n 2 := by
  rw [← refGrid_at]
  unfold planeZ
  simp only [pointwise, Matrix.cons_val_zero, Matrix.cons_val_one, Nat.zero_add, Fin.eta]

theorem flat_at (x y z : IVec S8x16384 32) (b : Fin 8) (n : Fin 16384) : flat x y z (ix2 b n) = flatOf (x (ix2 b n)) (y (ix2 b n)) (z (ix2 b n)) := by
  unfold flat flatOf
  simp only [pointwise]
  show z (ix2 b n) * 128#32 * 128#32 + y (ix2 b n) * 128#32 + x (ix2 b n) = _
  rw [BitVec.mul_assoc]
  rfl

theorem both_at (X : FVec Ideal S8x16384x3 .f32) (a : Fin 2) (b : Fin 8) (n : Fin 16384) :
    both X (ix2 ⟨8 * a + b, by omega⟩ n) = flats X a b n := by
  unfold both
  simp only [pointwise]
  unfold flats
  match a with
  | 0 =>
    exact (flat_at _ _ _ b n).trans (by rw [planeX_at, planeY_at, planeZ_at]; rfl)
  | 1 =>
    exact (flat_at _ _ _ b n).trans (by rw [planeX_at, planeY_at, planeZ_at]; rfl)

end Reference

/-- The two results are one. -/
theorem agree (X : FVec Ideal ⟨3, ![8, 16384, 3]⟩ .f32) : Cert.EncodeIdeal.Value.E1 (F := Ideal) (pts X) = both X := by
  funext i
  have h0 : (i 0).val < 16 := (i 0).isLt
  have h1 : (i 1).val < 16384 := (i 1).isLt
  have e : (ix2 ⟨8 * (⟨(i 0).val / 8, by omega⟩ : Fin 2).val + (⟨(i 0).val % 8, by omega⟩ : Fin 8).val, by show 8 * ((i 0).val / 8) + (i 0).val % 8 < 16; omega⟩ (⟨(i 1).val, h1⟩ : Fin 16384) : Cert.EncodeIdeal.S16x16384.Idx) = i := by
    funext x
    match x with
    | 0 => exact Fin.ext (show 8 * ((i 0).val / 8) + (i 0).val % 8 = (i 0).val by omega)
    | 1 => rfl
  exact (congrArg _ e.symm).trans ((E1_at X _ _ _).trans ((both_at X _ _ _).symm.trans (congrArg _ e)))

end Cert.Proof.Cells

end
-- ==== Proof.lean ====
/-
  The claims of the certificate, each from the one run of the program and the one run of the reference.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.Reference
public import proofs.«01_k».proof.Proof.Gen.Reference.Run
public import proofs.«01_k».proof.Proof.Gen.ReferenceIdeal
public import proofs.«01_k».proof.Proof.Gen.ReferenceIdeal.Run
public import proofs.«01_k».proof.Proof.Gen.Pre_ranges
public import proofs.«01_k».proof.Proof.Gen.Pre_permutation
public import proofs.«01_k».proof.Proof.Pre
public import proofs.«01_k».proof.Proof.Gen.Encode.Frame
public import proofs.«01_k».proof.Proof.Gen.EncodeIdeal.Value
public import proofs.«01_k».proof.Proof.Gen.PositionsIdeal.Run
public import proofs.«01_k».proof.Proof.Cells

@[expose] public section

noncomputable section

namespace Cert.Proof

open Idealize.ShloMosaic Idealize.SL.Sem
open Cert.Proof.Tile

/-! ## The frames -/

/-- The program's frame, for any float values, from positions inside the table. -/
theorem frame_of {F : FTy → Type} [FloatOps F] [∀ e, Nonempty (Elt F e)]
    (m : (ℓ : Loc Cert.KernelIdeal.nD Cert.KernelIdeal.τ Cert.KernelIdeal.sig) → Buf (Elt F) ℓ) (ρ : Dev Cert.KernelIdeal.nD → PrngReg)
    (hf : ∀ d, ∀ i, (posOf m d i).toNat < 2097152) :
    θ_run (Cert.KernelIdeal.defs (F := F)) (Cert.KernelIdeal.threads (F := F)) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono (fun _ h => ⟨fun c => ⟨(h.1 c).1, (h.1 c).2.1⟩, h.2⟩) (run_frame m ρ hf)

theorem frame_kernelIdeal : Cert.quiescent_KernelIdeal := fun m ρ h => frame_of (F := Ideal) m ρ fun d => range_of_ranges (h d)
theorem frame_kernelIdeal_permutation : Cert.quiescent_KernelIdeal_pre_permutation := fun m ρ h => frame_of (F := Ideal) m ρ fun d => range_of_permutation (h d)
theorem frame_kernel : Cert.quiescent_Kernel := fun m ρ h => frame_of (F := Bits) m ρ fun d => range_of_ranges (h d)
theorem frame_kernel_permutation : Cert.quiescent_Kernel_pre_permutation := fun m ρ h => frame_of (F := Bits) m ρ fun d => range_of_permutation (h d)

theorem frame_referenceIdeal : Cert.quiescent_ReferenceIdeal := fun m ρ _ =>
  (θ_run Cert.ReferenceIdeal.defs _ _).mono (fun r h => ⟨fun c => ⟨(h c).2.2.1, (h c).2.2.2⟩, Idealize.ShloMosaic.sem_eq_zero_of_no_sems (by decide) r.2⟩)
    (Cert.ReferenceIdeal.Value.run (F := Ideal) m ρ)
theorem frame_referenceIdeal_permutation : Cert.quiescent_ReferenceIdeal_pre_permutation := fun m ρ _ => frame_referenceIdeal m ρ trivial
theorem frame_reference : Cert.quiescent_Reference := fun m ρ _ =>
  (θ_run Cert.Reference.defs _ _).mono (fun r h => ⟨fun c => ⟨(h c).2.2.1, (h c).2.2.2⟩, Idealize.ShloMosaic.sem_eq_zero_of_no_sems (by decide) r.2⟩)
    (Cert.Reference.Value.run (F := Bits) m ρ)

/-! ## The values -/

theorem algebraic : Cert.algebraic_KernelIdeal_ReferenceIdeal_pre_permutation := fun m ρ m' ρ' h e =>
  ⟨fun c => refOrder (tabOf m c) (posOf m c), fun c => refPlaces (tabOf m c) (posOf m c),
    run_value (F := Ideal) m ρ (fun d => range_of_permutation (h d)) (fun d => good_of_permutation (h d)),
    (θ_run Cert.ReferenceIdeal.defs _ _).mono (fun r k c => ⟨(k c).1.trans (by rw [(e c).1, (e c).2]; rfl), (k c).2.1.trans (by rw [(e c).1, (e c).2]; rfl), (k c).2.2.1, (k c).2.2.2⟩)
      (Cert.ReferenceIdeal.Value.run (F := Ideal) m' ρ')⟩

theorem bitexact : Cert.bitexact_Kernel_Reference_pre_permutation := fun m ρ m' ρ' h e =>
  ⟨fun c => refOrder (tabOf (F := Bits) m c) (posOf (F := Bits) m c), fun c => refPlaces (tabOf (F := Bits) m c) (posOf (F := Bits) m c),
    run_value (F := Bits) m ρ (fun d => range_of_permutation (h d)) (fun d => good_of_permutation (h d)),
    (θ_run Cert.Reference.defs _ _).mono (fun r k c => ⟨(k c).1.trans (by rw [(e c).1, (e c).2]; rfl), (k c).2.1.trans (by rw [(e c).1, (e c).2]; rfl), (k c).2.2.1, (k c).2.2.2⟩)
      (Cert.Reference.Value.run (F := Bits) m' ρ')⟩

/-! ## The TensorCore call -/

theorem frame_encode : Cert.quiescent_Encode := fun m ρ _ => Cert.Encode.Gen.frame m ρ
theorem frame_encodeIdeal : Cert.quiescent_EncodeIdeal := fun m ρ _ => Cert.EncodeIdeal.Gen.frame m ρ
theorem frame_positionsIdeal : Cert.quiescent_PositionsIdeal := fun m ρ _ =>
  (θ_run Cert.PositionsIdeal.defs _ _).mono (fun r h => ⟨fun c => (h c).2, Idealize.ShloMosaic.sem_eq_zero_of_no_sems (by decide) r.2⟩)
    (Cert.PositionsIdeal.Value.run (F := Ideal) m ρ)

theorem positions : Cert.algebraic_EncodeIdeal_PositionsIdeal := fun m ρ m' ρ' _ e =>
  ⟨fun c => Cells.both (m ((c.tc : Thread Cert.EncodeIdeal.nD Cert.EncodeIdeal.τ).loc Cert.EncodeIdeal.main_arg0)),
    (θ_run Cert.EncodeIdeal.defs _ _).mono (fun r k c => ⟨(k c).1.trans ((Cells.final m c).trans (Cells.agree _)), (k c).2⟩)
      (Cert.EncodeIdeal.Value.run_blocks (F := Ideal) m ρ),
    (θ_run Cert.PositionsIdeal.defs _ _).mono (fun r k c => ⟨(k c).1.trans ((Cells.res_eq m' c).trans (congrArg Cells.both (e c))), (k c).2⟩)
      (Cert.PositionsIdeal.Value.run (F := Ideal) m' ρ')⟩

theorem claim : Cert.Claim :=
  ⟨Cert.Kernel.Gen.facts, Cert.KernelIdeal.Gen.facts, Cert.ReferenceIdeal.Gen.facts, Cert.Reference.Gen.facts, Cert.Encode.Gen.facts, Cert.EncodeIdeal.Gen.facts, Cert.PositionsIdeal.Gen.facts, Cert.Pre_ranges.Gen.facts, Cert.Pre_permutation.Gen.facts,
    frame_kernel, frame_kernel_permutation, frame_kernelIdeal, frame_kernelIdeal_permutation, frame_referenceIdeal, frame_referenceIdeal_permutation, frame_reference,
    frame_encode, frame_encodeIdeal, frame_positionsIdeal,
    trivial, algebraic, bitexact, trivial, positions⟩

end Cert.Proof

end
